-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_finite_gain [hPre_finite_gain : Cert.Pre_finite_gain.Facts] (m : (ℓ : Loc Cert.PoolIdeal.nD Cert.PoolIdeal.τ Cert.PoolIdeal.sig) → Buf (Elt Ideal) ℓ) : Prop :=
  ∀ c : Dev Cert.PoolIdeal.nD,
    (Cert.Pre_finite_gain.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_finite_gain [hPre_finite_gain : Cert.Pre_finite_gain.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_finite_gain.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4))) = (fun _ => 1#1)

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4))
      ∧ r.2.sem = fun _ => 0)

def quiescent_PoolIdeal_pre_finite_gain [hPoolIdeal : Cert.PoolIdeal.Facts] [hPre_finite_gain : Cert.Pre_finite_gain.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_finite_gain m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4))
      ∧ r.2.sem = fun _ => 0)

def quiescent_PoolRefIdeal_pre_finite_gain [hPoolRefIdeal : Cert.PoolRefIdeal.Facts] [hPre_finite_gain : Cert.Pre_finite_gain.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_finite_gain m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v9_0)) (v1 : (c : Dev Cert.UpIdeal.nD) → Buf (Elt Ideal) ((c.tc : Thread Cert.UpIdeal.nD Cert.UpIdeal.τ).loc Cert.UpIdeal.main_v9_1)) (v2 : (c : Dev Cert.UpIdeal.nD) → Buf (Elt Ideal) ((c.tc : Thread Cert.UpIdeal.nD Cert.UpIdeal.τ).loc Cert.UpIdeal.main_v9_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v9_0) = v0 c
          ∧ r.2.mem ((c.tc : Thread Cert.UpIdeal.nD Cert.UpIdeal.τ).loc Cert.UpIdeal.main_v9_1) = v1 c
          ∧ r.2.mem ((c.tc : Thread Cert.UpIdeal.nD Cert.UpIdeal.τ).loc Cert.UpIdeal.main_v9_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v16) = v0 c
          ∧ r.2.mem ((c.tc : Thread Cert.UpRefIdeal.nD Cert.UpRefIdeal.τ).loc Cert.UpRefIdeal.main_v19) = v1 c
          ∧ r.2.mem ((c.tc : Thread Cert.UpRefIdeal.nD Cert.UpRefIdeal.τ).loc Cert.UpRefIdeal.main_v22) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v3_0)) (v1 : (c : Dev Cert.DownIdeal.nD) → Buf (Elt Ideal) ((c.tc : Thread Cert.DownIdeal.nD Cert.DownIdeal.τ).loc Cert.DownIdeal.main_v3_1)) (v2 : (c : Dev Cert.DownIdeal.nD) → Buf (Elt Ideal) ((c.tc : Thread Cert.DownIdeal.nD Cert.DownIdeal.τ).loc Cert.DownIdeal.main_v3_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3_0) = v0 c
          ∧ r.2.mem ((c.tc : Thread Cert.DownIdeal.nD Cert.DownIdeal.τ).loc Cert.DownIdeal.main_v3_1) = v1 c
          ∧ r.2.mem ((c.tc : Thread Cert.DownIdeal.nD Cert.DownIdeal.τ).loc Cert.DownIdeal.main_v3_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_v8) = v1 c
          ∧ r.2.mem ((c.tc : Thread Cert.DownRefIdeal.nD Cert.DownRefIdeal.τ).loc Cert.DownRefIdeal.main_v9) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v10_0)) (v1 : (c : Dev Cert.QkvIdeal.nD) → Buf (Elt Ideal) ((c.tc : Thread Cert.QkvIdeal.nD Cert.QkvIdeal.τ).loc Cert.QkvIdeal.main_v10_1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v10_0) = v0 c
          ∧ r.2.mem ((c.tc : Thread Cert.QkvIdeal.nD Cert.QkvIdeal.τ).loc Cert.QkvIdeal.main_v10_1) = v1 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v17) = v0 c
          ∧ r.2.mem ((c.tc : Thread Cert.QkvRefIdeal.nD Cert.QkvRefIdeal.τ).loc Cert.QkvRefIdeal.main_v20) = v1 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)) →
    ∃ (v0 : (c : Dev Cert.GateIdeal.nD) → Buf (Elt Ideal) ((c.tc : Thread Cert.GateIdeal.nD Cert.GateIdeal.τ).loc Cert.GateIdeal.main_v21)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v21) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v39) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v3_0)) (v1 : (c : Dev Cert.OutIdeal.nD) → Buf (Elt Ideal) ((c.tc : Thread Cert.OutIdeal.nD Cert.OutIdeal.τ).loc Cert.OutIdeal.main_v3_1)) (v2 : (c : Dev Cert.OutIdeal.nD) → Buf (Elt Ideal) ((c.tc : Thread Cert.OutIdeal.nD Cert.OutIdeal.τ).loc Cert.OutIdeal.main_v3_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3_0) = v0 c
          ∧ r.2.mem ((c.tc : Thread Cert.OutIdeal.nD Cert.OutIdeal.τ).loc Cert.OutIdeal.main_v3_1) = v1 c
          ∧ r.2.mem ((c.tc : Thread Cert.OutIdeal.nD Cert.OutIdeal.τ).loc Cert.OutIdeal.main_v3_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_v8) = v1 c
          ∧ r.2.mem ((c.tc : Thread Cert.OutRefIdeal.nD Cert.OutRefIdeal.τ).loc Cert.OutRefIdeal.main_v9) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Pool_PoolIdeal : Prop :=
  True

def algebraic_PoolIdeal_PoolRefIdeal_pre_finite_gain [hPoolIdeal : Cert.PoolIdeal.Facts] [hPoolRefIdeal : Cert.PoolRefIdeal.Facts] [hPre_finite_gain : Cert.Pre_finite_gain.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_finite_gain m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)
      ∧ m' ((c.tc : Thread Cert.PoolRefIdeal.nD Cert.PoolRefIdeal.τ).loc Cert.PoolRefIdeal.main_arg4) = m ((c.tc : Thread Cert.PoolIdeal.nD Cert.PoolIdeal.τ).loc Cert.PoolIdeal.main_arg4)) →
    ∃ (v0 : (c : Dev Cert.PoolIdeal.nD) → Buf (Elt Ideal) ((c.tc : Thread Cert.PoolIdeal.nD Cert.PoolIdeal.τ).loc Cert.PoolIdeal.main_v4_0)) (v1 : (c : Dev Cert.PoolIdeal.nD) → Buf (Elt Ideal) ((c.tc : Thread Cert.PoolIdeal.nD Cert.PoolIdeal.τ).loc Cert.PoolIdeal.main_v4_1)) (v2 : (c : Dev Cert.PoolIdeal.nD) → Buf (Elt Ideal) ((c.tc : Thread Cert.PoolIdeal.nD Cert.PoolIdeal.τ).loc Cert.PoolIdeal.main_v4_2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v4_0) = v0 c
          ∧ r.2.mem ((c.tc : Thread Cert.PoolIdeal.nD Cert.PoolIdeal.τ).loc Cert.PoolIdeal.main_v4_1) = v1 c
          ∧ r.2.mem ((c.tc : Thread Cert.PoolIdeal.nD Cert.PoolIdeal.τ).loc Cert.PoolIdeal.main_v4_2) = v2 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v93) = v0 c
          ∧ r.2.mem ((c.tc : Thread Cert.PoolRefIdeal.nD Cert.PoolRefIdeal.τ).loc Cert.PoolRefIdeal.main_v101) = v1 c
          ∧ r.2.mem ((c.tc : Thread Cert.PoolRefIdeal.nD Cert.PoolRefIdeal.τ).loc Cert.PoolRefIdeal.main_v102) = v2 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)) →
    ∃ (v0 : (c : Dev Cert.PleIdeal.nD) → Buf (Elt Ideal) ((c.tc : Thread Cert.PleIdeal.nD Cert.PleIdeal.τ).loc Cert.PleIdeal.main_v1)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v1) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v8) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hQkv : Cert.Qkv.Facts) (hQkvIdeal : Cert.QkvIdeal.Facts) (hQkvRefIdeal : Cert.QkvRefIdeal.Facts) (hGate : Cert.Gate.Facts) (hGateIdeal : Cert.GateIdeal.Facts) (hGateRefIdeal : Cert.GateRefIdeal.Facts) (hOut : Cert.Out.Facts) (hOutIdeal : Cert.OutIdeal.Facts) (hOutRefIdeal : Cert.OutRefIdeal.Facts) (hNorm : Cert.Norm.Facts) (hNormIdeal : Cert.NormIdeal.Facts) (hNormRefIdeal : Cert.NormRefIdeal.Facts) (hPool : Cert.Pool.Facts) (hPoolIdeal : Cert.PoolIdeal.Facts) (hPoolRefIdeal : Cert.PoolRefIdeal.Facts) (hPle : Cert.Ple.Facts) (hPleIdeal : Cert.PleIdeal.Facts) (hPleRefIdeal : Cert.PleRefIdeal.Facts) (hPre_finite : Cert.Pre_finite.Facts) (hPre_finite_gain : Cert.Pre_finite_gain.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Gate (hGate := hGate)
    ∧ quiescent_GateIdeal (hGateIdeal := hGateIdeal)
    ∧ quiescent_GateRefIdeal (hGateRefIdeal := hGateRefIdeal)
    ∧ quiescent_Out (hOut := hOut)
    ∧ quiescent_OutIdeal (hOutIdeal := hOutIdeal)
    ∧ quiescent_OutRefIdeal (hOutRefIdeal := hOutRefIdeal)
    ∧ quiescent_Norm (hNorm := hNorm)
    ∧ quiescent_NormIdeal (hNormIdeal := hNormIdeal)
    ∧ quiescent_NormRefIdeal (hNormRefIdeal := hNormRefIdeal)
    ∧ quiescent_Pool (hPool := hPool)
    ∧ quiescent_PoolIdeal (hPoolIdeal := hPoolIdeal)
    ∧ quiescent_PoolIdeal_pre_finite_gain (hPoolIdeal := hPoolIdeal) (hPre_finite_gain := hPre_finite_gain)
    ∧ quiescent_PoolRefIdeal (hPoolRefIdeal := hPoolRefIdeal)
    ∧ quiescent_PoolRefIdeal_pre_finite_gain (hPoolRefIdeal := hPoolRefIdeal) (hPre_finite_gain := hPre_finite_gain)
    ∧ quiescent_Ple (hPle := hPle)
    ∧ quiescent_PleIdeal (hPleIdeal := hPleIdeal)
    ∧ quiescent_PleRefIdeal (hPleRefIdeal := hPleRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Qkv_QkvIdeal
    ∧ algebraic_QkvIdeal_QkvRefIdeal (hQkvIdeal := hQkvIdeal) (hQkvRefIdeal := hQkvRefIdeal)
    ∧ preserves_Gate_GateIdeal
    ∧ algebraic_GateIdeal_GateRefIdeal (hGateIdeal := hGateIdeal) (hGateRefIdeal := hGateRefIdeal)
    ∧ preserves_Out_OutIdeal
    ∧ algebraic_OutIdeal_OutRefIdeal (hOutIdeal := hOutIdeal) (hOutRefIdeal := hOutRefIdeal)
    ∧ preserves_Norm_NormIdeal
    ∧ algebraic_NormIdeal_NormRefIdeal (hNormIdeal := hNormIdeal) (hNormRefIdeal := hNormRefIdeal)
    ∧ preserves_Pool_PoolIdeal
    ∧ algebraic_PoolIdeal_PoolRefIdeal_pre_finite_gain (hPoolIdeal := hPoolIdeal) (hPoolRefIdeal := hPoolRefIdeal) (hPre_finite_gain := hPre_finite_gain)
    ∧ preserves_Ple_PleIdeal
    ∧ algebraic_PleIdeal_PleRefIdeal (hPleIdeal := hPleIdeal) (hPleRefIdeal := hPleRefIdeal)
-- ==== Pre_finite.lean ====
abbrev S16384x12288 : Shape := ⟨2, ![16384, 12288]⟩
abbrev S_ : Shape := ⟨0, ![]⟩

class Facts : Prop where
  bcast_S_S16384x12288 : S_.BroadcastsInDim S16384x12288 (![] : Fin 0 → Fin S16384x12288.rank)

variable [Facts]

def fn {F : FTy → Type} [FloatOps F] (main_arg0 : FVec F S16384x12288 .f32) : IVec S16384x12288 1 :=
  let main_v0 : FVec F S16384x12288 .f32 := Host.absf main_arg0
  let main_cst : FVec F S_ .f32 := constant S_ .f32 0x7F800000#32
  let main_v1 : FVec F S16384x12288 .f32 := broadcastInDim S16384x12288 ![] bcast_S_S16384x12288 main_cst
  let main_v2 : IVec S16384x12288 1 := cmpf .olt main_v0 main_v1
  main_v2
-- ==== Pre_finite_gain.lean ====
abbrev S4x4096x4096 : Shape := ⟨3, ![4, 4096, 4096]⟩
abbrev S4096 : Shape := ⟨1, ![4096]⟩
abbrev S2x4x1024x1024 : Shape := ⟨4, ![2, 4, 1024, 1024]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : FVec F S4x4096x4096 .f32) (main_arg1 : FVec F S4096 .f32) (main_arg2 : FVec F S2x4x1024x1024 .f32) (main_arg3 : FVec F S4096 .f32) (main_arg4 : FVec F S4096 .f32) : IVec S4096 1 :=
  let main_v0 : FVec F S4096 .f32 := Host.absf main_arg1
  let main_cst : FVec F S_ .f32 := constant S_ .f32 0x7F800000#32
  let main_v1 : FVec F S4096 .f32 := broadcastInDim S4096 ![] bcast_S_S4096 main_cst
  let main_v2 : IVec S4096 1 := cmpf .olt main_v0 main_v1
  main_v2
-- ==== Kernel.lean ====
abbrev S16384x12288 : Shape := ⟨2, ![16384, 12288]⟩
abbrev S_ : Shape := ⟨0, ![]⟩
abbrev S4096 : Shape := ⟨1, ![4096]⟩
abbrev S8192 : Shape := ⟨1, ![8192]⟩
abbrev S12288 : Shape := ⟨1, ![12288]⟩
abbrev S1x12288 : Shape := ⟨2, ![1, 12288]⟩
abbrev S16384x4096 : Shape := ⟨2, ![16384, 4096]⟩
abbrev S256x1024 : Shape := ⟨2, ![256, 1024]⟩
abbrev S4096x1024 : Shape := ⟨2, ![4096, 1024]⟩
abbrev S8x256x128 : Shape := ⟨3, ![8, 256, 128]⟩
abbrev S256x256 : Shape := ⟨2, ![256, 256]⟩
abbrev S512x256 : Shape := ⟨2, ![512, 256]⟩
abbrev S256x128 : Shape := ⟨2, ![256, 128]⟩
abbrev S256x512 : Shape := ⟨2, ![256, 512]⟩
abbrev S256x1 : Shape := ⟨2, ![256, 1]⟩
abbrev S1x256x128 : Shape := ⟨3, ![1, 256, 128]⟩
abbrev S512x128 : Shape := ⟨2, ![512, 128]⟩

abbrev nBuf : Space → Nat
  | .hbm => 17
  | .vmem => 10
  | .smem => 0
  | _ => 0

abbrev bufTy : (tb : Table) → Fin (tcTables nBuf tb) → BufTy
  | .hbm, ⟨0, _⟩ => ⟨S16384x12288, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S8192, .f32⟩
  | .hbm, ⟨11, _⟩ => ⟨S12288, .f32⟩
  | .hbm, ⟨12, _⟩ => ⟨S1x12288, .f32⟩
  | .hbm, ⟨13, _⟩ => ⟨S16384x12288, .f32⟩
  | .hbm, ⟨14, _⟩ => ⟨S16384x12288, .f32⟩
  | .hbm, ⟨15, _⟩ => ⟨S16384x12288, .bf16⟩
  | .hbm, ⟨16, _⟩ => ⟨S16384x4096, .bf16⟩
  | .local _ .vmem, ⟨0, _⟩ => ⟨S256x1024, .bf16⟩
  | .local _ .vmem, ⟨1, _⟩ => ⟨S256x1024, .bf16⟩
  | .local _ .vmem, ⟨2, _⟩ => ⟨S4096x1024, .bf16⟩
  | .local _ .vmem, ⟨3, _⟩ => ⟨S4096x1024, .bf16⟩
  | .local _ .vmem, ⟨4, _⟩ => ⟨S4096x1024, .bf16⟩
  | .local _ .vmem, ⟨5, _⟩ => ⟨S4096x1024, .bf16⟩
  | .local _ .vmem, ⟨6, _⟩ => ⟨S256x1024, .bf16⟩
  | .local _ .vmem, ⟨7, _⟩ => ⟨S256x1024, .bf16⟩
  | .local _ .vmem, ⟨8, _⟩ => ⟨S8x256x128, .f32⟩
  | .local _ .vmem, ⟨9, _⟩ => ⟨S8x256x128, .f32⟩
  | _, _ => ⟨S16384x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 16], ![false, false, false]⟩

def k0_mult1 (i : grid0.Coords) : BitVec 32 :=
  let arg2 : BitVec 32 := BitVec.ofNat 32 (i 2).val
  let c256_i32 : BitVec 32 := 256#32
  let v9 : BitVec 32 := Scalar.muli arg2 c256_i32
  v9
def k0_off1 (i : grid0.Coords) : Fin 2 → Nat :=
  let arg2 : BitVec 32 := BitVec.ofNat 32 (i 2).val
  let c256_i32 : BitVec 32 := 256#32
  let v9 : BitVec 32 := Scalar.muli arg2 c256_i32
  let v10 : BitVec 32 := v9
  let v13 : Index := Scalar.indexCast v10
  let c0_2 : Index := 0#32
  ![v13.toNat, 0]
def k0_off2 (i : grid0.Coords) : Fin 2 → Nat :=
  let arg2 : BitVec 32 := BitVec.ofNat 32 (i 2).val
  let c256_i32 : BitVec 32 := 256#32
  let v9 : BitVec 32 := Scalar.muli arg2 c256_i32
  let v10 : BitVec 32 := v9
  let v19 : Index := Scalar.indexCast v10
  let c128_5 : Index := 128#32
  ![v19.toNat, 128]
def k0_off3 (i : grid0.Coords) : Fin 2 → Nat :=
  let arg2 : BitVec 32 := BitVec.ofNat 32 (i 2).val
  let c256_i32 : BitVec 32 := 256#32
  let v9 : BitVec 32 := Scalar.muli arg2 c256_i32
  let v10 : BitVec 32 := v9
  let v25 : Index := Scalar.indexCast v10
  let c256_8 : Index := 256#32
  ![v25.toNat, 256]
def k0_off4 (i : grid0.Coords) : Fin 2 → Nat :=
  let arg2 : BitVec 32 := BitVec.ofNat 32 (i 2).val
  let c256_i32 : BitVec 32 := 256#32
  let v9 : BitVec 32 := Scalar.muli arg2 c256_i32
  let v10 : BitVec 32 := v9
  let v31 : Index := Scalar.indexCast v10
  let c384_11 : Index := 384#32
  ![v31.toNat, 384]
def k0_off5 (i : grid0.Coords) : Fin 2 → Nat :=
  let arg2 : BitVec 32 := BitVec.ofNat 32 (i 2).val
  let c256_i32 : BitVec 32 := 256#32
  let v9 : BitVec 32 := Scalar.muli arg2 c256_i32
  let v10 : BitVec 32 := v9
  let v37 : Index := Scalar.indexCast v10
  let c512_14 : Index := 512#32
  ![v37.toNat, 512]
def k0_off6 (i : grid0.Coords) : Fin 2 → Nat :=
  let arg2 : BitVec 32 := BitVec.ofNat 32 (i 2).val
  let c256_i32 : BitVec 32 := 256#32
  let v9 : BitVec 32 := Scalar.muli arg2 c256_i32
  let v10 : BitVec 32 := v9
  let v43 : Index := Scalar.indexCast v10
  let c640_17 : Index := 640#32
  ![v43.toNat, 640]
def k0_off7 (i : grid0.Coords) : Fin 2 → Nat :=
  let arg2 : BitVec 32 := BitVec.ofNat 32 (i 2).val
  let c256_i32 : BitVec 32 := 256#32
  let v9 : BitVec 32 := Scalar.muli arg2 c256_i32
  let v10 : BitVec 32 := v9
  let v49 : Index := Scalar.indexCast v10
  let c768_20 : Index := 768#32
  ![v49.toNat, 768]
def k0_off8 (i : grid0.Coords) : Fin 2 → Nat :=
  let arg2 : BitVec 32 := BitVec.ofNat 32 (i 2).val
  let c256_i32 : BitVec 32 := 256#32
  let v9 : BitVec 32 := Scalar.muli arg2 c256_i32
  let v10 : BitVec 32 := v9
  let v55 : Index := Scalar.indexCast v10
  let c896_23 : Index := 896#32
  ![v55.toNat, 896]
def k0_cond1 (i : grid0.Coords) : BitVec 1 :=
  let arg2 : BitVec 32 := BitVec.ofNat 32 (i 2).val
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let c1_i32_149 : BitVec 32 := 1#32
  let v405 : BitVec 1 := Scalar.cmpi .eq v404 c1_i32_149
  let v406 : BitVec 32 := Scalar.extui v405
  let c0_i32_150 : BitVec 32 := 0#32
  let v407 : BitVec 1 := Scalar.cmpi .ne v406 c0_i32_150
  v407

def k0_mult2 (i : grid0.Coords) : BitVec 32 :=
  let arg2 : BitVec 32 := BitVec.ofNat 32 (i 2).val
  let c1_i32_203 : BitVec 32 := 1#32
  let v465 : BitVec 32 := Scalar.subi arg2 c1_i32_203
  let c256_i32_204 : BitVec 32 := 256#32
  let v466 : BitVec 32 := Scalar.muli v465 c256_i32_204
  v466
def k0_off9 (i : grid0.Coords) : Fin 2 → Nat :=
  let arg2 : BitVec 32 := BitVec.ofNat 32 (i 2).val
  let c1_i32_203 : BitVec 32 := 1#32
  let v465 : BitVec 32 := Scalar.subi arg2 c1_i32_203
  let c256_i32_204 : BitVec 32 := 256#32
  let v466 : BitVec 32 := Scalar.muli v465 c256_i32_204
  let v467 : BitVec 32 := v466
  let v470 : Index := Scalar.indexCast v467
  let c0_207 : Index := 0#32
  ![v470.toNat, 0]
def k0_off10 (i : grid0.Coords) : Fin 2 → Nat :=
  let arg2 : BitVec 32 := BitVec.ofNat 32 (i 2).val
  let c1_i32_203 : BitVec 32 := 1#32
  let v465 : BitVec 32 := Scalar.subi arg2 c1_i32_203
  let c256_i32_204 : BitVec 32 := 256#32
  let v466 : BitVec 32 := Scalar.muli v465 c256_i32_204
  let v467 : BitVec 32 := v466
  let v476 : Index := Scalar.indexCast v467
  let c128_211 : Index := 128#32
  ![v476.toNat, 128]
def k0_off11 (i : grid0.Coords) : Fin 2 → Nat :=
  let arg2 : BitVec 32 := BitVec.ofNat 32 (i 2).val
  let c1_i32_203 : BitVec 32 := 1#32
  let v465 : BitVec 32 := Scalar.subi arg2 c1_i32_203
  let c256_i32_204 : BitVec 32 := 256#32
  let v466 : BitVec 32 := Scalar.muli v465 c256_i32_204
  let v467 : BitVec 32 := v466
  let v482 : Index := Scalar.indexCast v467
  let c256_215 : Index := 256#32
  ![v482.toNat, 256]
def k0_off12 (i : grid0.Coords) : Fin 2 → Nat :=
  let arg2 : BitVec 32 := BitVec.ofNat 32 (i 2).val
  let c1_i32_203 : BitVec 32 := 1#32
  let v465 : BitVec 32 := Scalar.subi arg2 c1_i32_203
  let c256_i32_204 : BitVec 32 := 256#32
  let v466 : BitVec 32 := Scalar.muli v465 c256_i32_204
  let v467 : BitVec 32 := v466
  let v488 : Index := Scalar.indexCast v467
  let c384_219 : Index := 384#32
  ![v488.toNat, 384]
def k0_off13 (i : grid0.Coords) : Fin 2 → Nat :=
  let arg2 : BitVec 32 := BitVec.ofNat 32 (i 2).val
  let c1_i32_203 : BitVec 32 := 1#32
  let v465 : BitVec 32 := Scalar.subi arg2 c1_i32_203
  let c256_i32_204 : BitVec 32 := 256#32
  let v466 : BitVec 32 := Scalar.muli v465 c256_i32_204
  let v467 : BitVec 32 := v466
  let v494 : Index := Scalar.indexCast v467
  let c512_223 : Index := 512#32
  ![v494.toNat, 512]
def k0_off14 (i : grid0.Coords) : Fin 2 → Nat :=
  let arg2 : BitVec 32 := BitVec.ofNat 32 (i 2).val
  let c1_i32_203 : BitVec 32 := 1#32
  let v465 : BitVec 32 := Scalar.subi arg2 c1_i32_203
  let c256_i32_204 : BitVec 32 := 256#32
  let v466 : BitVec 32 := Scalar.muli v465 c256_i32_204
  let v467 : BitVec 32 := v466
  let v500 : Index := Scalar.indexCast v467
  let c640_227 : Index := 640#32
  ![v500.toNat, 640]
def k0_off15 (i : grid0.Coords) : Fin 2 → Nat :=
  let arg2 : BitVec 32 := BitVec.ofNat 32 (i 2).val
  let c1_i32_203 : BitVec 32 := 1#32
  let v465 : BitVec 32 := Scalar.subi arg2 c1_i32_203
  let c256_i32_204 : BitVec 32 := 256#32
  let v466 : BitVec 32 := Scalar.muli v465 c256_i32_204
  let v467 : BitVec 32 := v466
  let v506 : Index := Scalar.indexCast v467
  let c768_231 : Index := 768#32
  ![v506.toNat, 768]
def k0_off16 (i : grid0.Coords) : Fin 2 → Nat :=
  let arg2 : BitVec 32 := BitVec.ofNat 32 (i 2).val
  let c1_i32_203 : BitVec 32 := 1#32
  let v465 : BitVec 32 := Scalar.subi arg2 c1_i32_203
  let c256_i32_204 : BitVec 32 := 256#32
  let v466 : BitVec 32 := Scalar.muli v465 c256_i32_204
  let v467 : BitVec 32 := v466
  let v512 : Index := Scalar.indexCast v467
  let c896_235 : Index := 896#32
  ![v512.toNat, 896]
@[reducible] def k0_t1_loop (i : grid0.Coords) : Scf.Loop 32 :=
  let c0_i32_158 : BitVec 32 := 0#32
  let arg2 : BitVec 32 := BitVec.ofNat 32 (i 2).val
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v408 : BitVec 32 := Scalar.subi arg2 v404
  let c0_i32_152 : BitVec 32 := 0#32
  let v410 : BitVec 1 := Scalar.cmpi .sgt v408 c0_i32_152
  let v411 : BitVec 32 := Scalar.extui v410
  let c0_i32_153 : BitVec 32 := 0#32
  let v412 : BitVec 1 := Scalar.cmpi .slt v408 c0_i32_153
  let v413 : BitVec 32 := Scalar.extui v412
  let v414 : BitVec 32 := Scalar.subi v411 v413
  let c2_i32_151 : BitVec 32 := 2#32
  let c0_i32_154 : BitVec 32 := 0#32
  let v415 : BitVec 1 := Scalar.cmpi .sgt c2_i32_151 c0_i32_154
  let v416 : BitVec 32 := Scalar.extui v415
  let c0_i32_155 : BitVec 32 := 0#32
  let v417 : BitVec 1 := Scalar.cmpi .slt c2_i32_151 c0_i32_155
  let v418 : BitVec 32 := Scalar.extui v417
  let v419 : BitVec 32 := Scalar.subi v416 v418
  let v420 : BitVec 1 := Scalar.cmpi .ne v414 v419
  let v421 : BitVec 32 := Scalar.remsi v408 c2_i32_151
  let c0_i32_156 : BitVec 32 := 0#32
  let v422 : BitVec 1 := Scalar.cmpi .ne v421 c0_i32_156
  let v423 : BitVec 1 := Scalar.andi v420 v422
  let v409 : BitVec 32 := Scalar.divsi v408 c2_i32_151
  let c1_i32_157 : BitVec 32 := 1#32
  let v424 : BitVec 32 := Scalar.subi v409 c1_i32_157
  let v425 : BitVec 32 := Scalar.select v423 v424 v409
  let v426 : BitVec 32 := Scalar.subi v425 c0_i32_158
  let c1_i32_160 : BitVec 32 := 1#32
  let v428 : BitVec 32 := Scalar.divsi v426 c1_i32_160
  let v429 : BitVec 32 := Scalar.muli v428 c1_i32_160
  let v430 : BitVec 32 := Scalar.addi c0_i32_158 v429
  let c1_i32_161 : BitVec 32 := 1#32
  ⟨c0_i32_158, v430, c1_i32_161⟩
def k0_mult3 (i : grid0.Coords) (k0_t1 : Fin (k0_t1_loop i).trips) : BitVec 32 :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let c1_i32_161 : BitVec 32 := 1#32
  let arg9 : BitVec 32 := Scf.iv c0_i32_158 c1_i32_161 k0_t1
  let v467 : BitVec 32 := Scalar.muli c2_i32_204 arg9
  let v468 : BitVec 32 := Scalar.subi v466 v467
  let c256_i32_205 : BitVec 32 := 256#32
  let v469 : BitVec 32 := Scalar.muli v468 c256_i32_205
  v469
def k0_mult4 (i : grid0.Coords) (k0_t1 : Fin (k0_t1_loop i).trips) : BitVec 32 :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let c1_i32_161 : BitVec 32 := 1#32
  let arg9 : BitVec 32 := Scf.iv c0_i32_158 c1_i32_161 k0_t1
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  v472
def k0_off17 (i : grid0.Coords) (k0_t1 : Fin (k0_t1_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let c1_i32_161 : BitVec 32 := 1#32
  let arg9 : BitVec 32 := Scf.iv c0_i32_158 c1_i32_161 k0_t1
  let v467 : BitVec 32 := Scalar.muli c2_i32_204 arg9
  let v468 : BitVec 32 := Scalar.subi v466 v467
  let c256_i32_205 : BitVec 32 := 256#32
  let v469 : BitVec 32 := Scalar.muli v468 c256_i32_205
  let v470 : BitVec 32 := v469
  let v476 : Index := Scalar.indexCast v470
  let c0_210 : Index := 0#32
  ![v476.toNat, 0]
def k0_off18 (i : grid0.Coords) (k0_t1 : Fin (k0_t1_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let c1_i32_161 : BitVec 32 := 1#32
  let arg9 : BitVec 32 := Scf.iv c0_i32_158 c1_i32_161 k0_t1
  let v467 : BitVec 32 := Scalar.muli c2_i32_204 arg9
  let v468 : BitVec 32 := Scalar.subi v466 v467
  let c256_i32_205 : BitVec 32 := 256#32
  let v469 : BitVec 32 := Scalar.muli v468 c256_i32_205
  let v470 : BitVec 32 := v469
  let v482 : Index := Scalar.indexCast v470
  let c128_214 : Index := 128#32
  ![v482.toNat, 128]
def k0_off19 (i : grid0.Coords) (k0_t1 : Fin (k0_t1_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let c1_i32_161 : BitVec 32 := 1#32
  let arg9 : BitVec 32 := Scf.iv c0_i32_158 c1_i32_161 k0_t1
  let v467 : BitVec 32 := Scalar.muli c2_i32_204 arg9
  let v468 : BitVec 32 := Scalar.subi v466 v467
  let c256_i32_205 : BitVec 32 := 256#32
  let v469 : BitVec 32 := Scalar.muli v468 c256_i32_205
  let v470 : BitVec 32 := v469
  let v488 : Index := Scalar.indexCast v470
  let c256_218 : Index := 256#32
  ![v488.toNat, 256]
def k0_off20 (i : grid0.Coords) (k0_t1 : Fin (k0_t1_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let c1_i32_161 : BitVec 32 := 1#32
  let arg9 : BitVec 32 := Scf.iv c0_i32_158 c1_i32_161 k0_t1
  let v467 : BitVec 32 := Scalar.muli c2_i32_204 arg9
  let v468 : BitVec 32 := Scalar.subi v466 v467
  let c256_i32_205 : BitVec 32 := 256#32
  let v469 : BitVec 32 := Scalar.muli v468 c256_i32_205
  let v470 : BitVec 32 := v469
  let v494 : Index := Scalar.indexCast v470
  let c384_222 : Index := 384#32
  ![v494.toNat, 384]
def k0_off21 (i : grid0.Coords) (k0_t1 : Fin (k0_t1_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let c1_i32_161 : BitVec 32 := 1#32
  let arg9 : BitVec 32 := Scf.iv c0_i32_158 c1_i32_161 k0_t1
  let v467 : BitVec 32 := Scalar.muli c2_i32_204 arg9
  let v468 : BitVec 32 := Scalar.subi v466 v467
  let c256_i32_205 : BitVec 32 := 256#32
  let v469 : BitVec 32 := Scalar.muli v468 c256_i32_205
  let v470 : BitVec 32 := v469
  let v500 : Index := Scalar.indexCast v470
  let c512_226 : Index := 512#32
  ![v500.toNat, 512]
def k0_off22 (i : grid0.Coords) (k0_t1 : Fin (k0_t1_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let c1_i32_161 : BitVec 32 := 1#32
  let arg9 : BitVec 32 := Scf.iv c0_i32_158 c1_i32_161 k0_t1
  let v467 : BitVec 32 := Scalar.muli c2_i32_204 arg9
  let v468 : BitVec 32 := Scalar.subi v466 v467
  let c256_i32_205 : BitVec 32 := 256#32
  let v469 : BitVec 32 := Scalar.muli v468 c256_i32_205
  let v470 : BitVec 32 := v469
  let v506 : Index := Scalar.indexCast v470
  let c640_230 : Index := 640#32
  ![v506.toNat, 640]
def k0_off23 (i : grid0.Coords) (k0_t1 : Fin (k0_t1_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let c1_i32_161 : BitVec 32 := 1#32
  let arg9 : BitVec 32 := Scf.iv c0_i32_158 c1_i32_161 k0_t1
  let v467 : BitVec 32 := Scalar.muli c2_i32_204 arg9
  let v468 : BitVec 32 := Scalar.subi v466 v467
  let c256_i32_205 : BitVec 32 := 256#32
  let v469 : BitVec 32 := Scalar.muli v468 c256_i32_205
  let v470 : BitVec 32 := v469
  let v512 : Index := Scalar.indexCast v470
  let c768_234 : Index := 768#32
  ![v512.toNat, 768]
def k0_off24 (i : grid0.Coords) (k0_t1 : Fin (k0_t1_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let c1_i32_161 : BitVec 32 := 1#32
  let arg9 : BitVec 32 := Scf.iv c0_i32_158 c1_i32_161 k0_t1
  let v467 : BitVec 32 := Scalar.muli c2_i32_204 arg9
  let v468 : BitVec 32 := Scalar.subi v466 v467
  let c256_i32_205 : BitVec 32 := 256#32
  let v469 : BitVec 32 := Scalar.muli v468 c256_i32_205
  let v470 : BitVec 32 := v469
  let v518 : Index := Scalar.indexCast v470
  let c896_238 : Index := 896#32
  ![v518.toNat, 896]
def k0_off25 (i : grid0.Coords) (k0_t1 : Fin (k0_t1_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let c1_i32_161 : BitVec 32 := 1#32
  let arg9 : BitVec 32 := Scf.iv c0_i32_158 c1_i32_161 k0_t1
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  let v473 : BitVec 32 := v472
  let v524 : Index := Scalar.indexCast v473
  let c0_242 : Index := 0#32
  ![v524.toNat, 0]
def k0_off26 (i : grid0.Coords) (k0_t1 : Fin (k0_t1_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let c1_i32_161 : BitVec 32 := 1#32
  let arg9 : BitVec 32 := Scf.iv c0_i32_158 c1_i32_161 k0_t1
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  let v473 : BitVec 32 := v472
  let v530 : Index := Scalar.indexCast v473
  let c128_246 : Index := 128#32
  ![v530.toNat, 128]
def k0_off27 (i : grid0.Coords) (k0_t1 : Fin (k0_t1_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let c1_i32_161 : BitVec 32 := 1#32
  let arg9 : BitVec 32 := Scf.iv c0_i32_158 c1_i32_161 k0_t1
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  let v473 : BitVec 32 := v472
  let v536 : Index := Scalar.indexCast v473
  let c256_250 : Index := 256#32
  ![v536.toNat, 256]
def k0_off28 (i : grid0.Coords) (k0_t1 : Fin (k0_t1_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let c1_i32_161 : BitVec 32 := 1#32
  let arg9 : BitVec 32 := Scf.iv c0_i32_158 c1_i32_161 k0_t1
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  let v473 : BitVec 32 := v472
  let v542 : Index := Scalar.indexCast v473
  let c384_254 : Index := 384#32
  ![v542.toNat, 384]
def k0_off29 (i : grid0.Coords) (k0_t1 : Fin (k0_t1_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let c1_i32_161 : BitVec 32 := 1#32
  let arg9 : BitVec 32 := Scf.iv c0_i32_158 c1_i32_161 k0_t1
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  let v473 : BitVec 32 := v472
  let v548 : Index := Scalar.indexCast v473
  let c512_258 : Index := 512#32
  ![v548.toNat, 512]
def k0_off30 (i : grid0.Coords) (k0_t1 : Fin (k0_t1_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let c1_i32_161 : BitVec 32 := 1#32
  let arg9 : BitVec 32 := Scf.iv c0_i32_158 c1_i32_161 k0_t1
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  let v473 : BitVec 32 := v472
  let v554 : Index := Scalar.indexCast v473
  let c640_262 : Index := 640#32
  ![v554.toNat, 640]
def k0_off31 (i : grid0.Coords) (k0_t1 : Fin (k0_t1_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let c1_i32_161 : BitVec 32 := 1#32
  let arg9 : BitVec 32 := Scf.iv c0_i32_158 c1_i32_161 k0_t1
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  let v473 : BitVec 32 := v472
  let v560 : Index := Scalar.indexCast v473
  let c768_266 : Index := 768#32
  ![v560.toNat, 768]
def k0_off32 (i : grid0.Coords) (k0_t1 : Fin (k0_t1_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let c1_i32_161 : BitVec 32 := 1#32
  let arg9 : BitVec 32 := Scf.iv c0_i32_158 c1_i32_161 k0_t1
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  let v473 : BitVec 32 := v472
  let v566 : Index := Scalar.indexCast v473
  let c896_270 : Index := 896#32
  ![v566.toNat, 896]
def k0_off33 (i : grid0.Coords) (k0_t1 : Fin (k0_t1_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let c1_i32_161 : BitVec 32 := 1#32
  let arg9 : BitVec 32 := Scf.iv c0_i32_158 c1_i32_161 k0_t1
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  let v473 : BitVec 32 := v472
  let v882 : Index := Scalar.indexCast v473
  let c0_358 : Index := 0#32
  ![v882.toNat, 0]
def k0_off34 (i : grid0.Coords) (k0_t1 : Fin (k0_t1_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let c1_i32_161 : BitVec 32 := 1#32
  let arg9 : BitVec 32 := Scf.iv c0_i32_158 c1_i32_161 k0_t1
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  let v473 : BitVec 32 := v472
  let v916 : Index := Scalar.indexCast v473
  let c128_372 : Index := 128#32
  ![v916.toNat, 128]
def k0_off35 (i : grid0.Coords) (k0_t1 : Fin (k0_t1_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let c1_i32_161 : BitVec 32 := 1#32
  let arg9 : BitVec 32 := Scf.iv c0_i32_158 c1_i32_161 k0_t1
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  let v473 : BitVec 32 := v472
  let v950 : Index := Scalar.indexCast v473
  let c256_386 : Index := 256#32
  ![v950.toNat, 256]
def k0_off36 (i : grid0.Coords) (k0_t1 : Fin (k0_t1_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let c1_i32_161 : BitVec 32 := 1#32
  let arg9 : BitVec 32 := Scf.iv c0_i32_158 c1_i32_161 k0_t1
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  let v473 : BitVec 32 := v472
  let v984 : Index := Scalar.indexCast v473
  let c384_400 : Index := 384#32
  ![v984.toNat, 384]
def k0_off37 (i : grid0.Coords) (k0_t1 : Fin (k0_t1_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let c1_i32_161 : BitVec 32 := 1#32
  let arg9 : BitVec 32 := Scf.iv c0_i32_158 c1_i32_161 k0_t1
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  let v473 : BitVec 32 := v472
  let v1018 : Index := Scalar.indexCast v473
  let c512_414 : Index := 512#32
  ![v1018.toNat, 512]
def k0_off38 (i : grid0.Coords) (k0_t1 : Fin (k0_t1_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let c1_i32_161 : BitVec 32 := 1#32
  let arg9 : BitVec 32 := Scf.iv c0_i32_158 c1_i32_161 k0_t1
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  let v473 : BitVec 32 := v472
  let v1052 : Index := Scalar.indexCast v473
  let c640_428 : Index := 640#32
  ![v1052.toNat, 640]
def k0_off39 (i : grid0.Coords) (k0_t1 : Fin (k0_t1_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let c1_i32_161 : BitVec 32 := 1#32
  let arg9 : BitVec 32 := Scf.iv c0_i32_158 c1_i32_161 k0_t1
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  let v473 : BitVec 32 := v472
  let v1086 : Index := Scalar.indexCast v473
  let c768_442 : Index := 768#32
  ![v1086.toNat, 768]
def k0_off40 (i : grid0.Coords) (k0_t1 : Fin (k0_t1_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let c1_i32_161 : BitVec 32 := 1#32
  let arg9 : BitVec 32 := Scf.iv c0_i32_158 c1_i32_161 k0_t1
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  let v473 : BitVec 32 := v472
  let v1120 : Index := Scalar.indexCast v473
  let c896_456 : Index := 896#32
  ![v1120.toNat, 896]
@[reducible] def k0_t2_loop (i : grid0.Coords) : Scf.Loop 32 :=
  let c0_i32_158 : BitVec 32 := 0#32
  let arg2 : BitVec 32 := BitVec.ofNat 32 (i 2).val
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v408 : BitVec 32 := Scalar.subi arg2 v404
  let c0_i32_152 : BitVec 32 := 0#32
  let v410 : BitVec 1 := Scalar.cmpi .sgt v408 c0_i32_152
  let v411 : BitVec 32 := Scalar.extui v410
  let c0_i32_153 : BitVec 32 := 0#32
  let v412 : BitVec 1 := Scalar.cmpi .slt v408 c0_i32_153
  let v413 : BitVec 32 := Scalar.extui v412
  let v414 : BitVec 32 := Scalar.subi v411 v413
  let c2_i32_151 : BitVec 32 := 2#32
  let c0_i32_154 : BitVec 32 := 0#32
  let v415 : BitVec 1 := Scalar.cmpi .sgt c2_i32_151 c0_i32_154
  let v416 : BitVec 32 := Scalar.extui v415
  let c0_i32_155 : BitVec 32 := 0#32
  let v417 : BitVec 1 := Scalar.cmpi .slt c2_i32_151 c0_i32_155
  let v418 : BitVec 32 := Scalar.extui v417
  let v419 : BitVec 32 := Scalar.subi v416 v418
  let v420 : BitVec 1 := Scalar.cmpi .ne v414 v419
  let v421 : BitVec 32 := Scalar.remsi v408 c2_i32_151
  let c0_i32_156 : BitVec 32 := 0#32
  let v422 : BitVec 1 := Scalar.cmpi .ne v421 c0_i32_156
  let v423 : BitVec 1 := Scalar.andi v420 v422
  let v409 : BitVec 32 := Scalar.divsi v408 c2_i32_151
  let c1_i32_157 : BitVec 32 := 1#32
  let v424 : BitVec 32 := Scalar.subi v409 c1_i32_157
  let v425 : BitVec 32 := Scalar.select v423 v424 v409
  let v426 : BitVec 32 := Scalar.subi v425 c0_i32_158
  let c1_i32_160 : BitVec 32 := 1#32
  let v428 : BitVec 32 := Scalar.divsi v426 c1_i32_160
  let v429 : BitVec 32 := Scalar.muli v428 c1_i32_160
  let v430 : BitVec 32 := Scalar.addi c0_i32_158 v429
  let v427 : BitVec 32 := Scalar.addi c0_i32_158 v426
  let c1_i32_162 : BitVec 32 := 1#32
  ⟨v430, v427, c1_i32_162⟩
def k0_mult5 (i : grid0.Coords) (k0_t2 : Fin (k0_t2_loop i).trips) : BitVec 32 :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let v408 : BitVec 32 := Scalar.subi arg2 v404
  let c0_i32_152 : BitVec 32 := 0#32
  let v410 : BitVec 1 := Scalar.cmpi .sgt v408 c0_i32_152
  let v411 : BitVec 32 := Scalar.extui v410
  let c0_i32_153 : BitVec 32 := 0#32
  let v412 : BitVec 1 := Scalar.cmpi .slt v408 c0_i32_153
  let v413 : BitVec 32 := Scalar.extui v412
  let v414 : BitVec 32 := Scalar.subi v411 v413
  let c2_i32_151 : BitVec 32 := 2#32
  let c0_i32_154 : BitVec 32 := 0#32
  let v415 : BitVec 1 := Scalar.cmpi .sgt c2_i32_151 c0_i32_154
  let v416 : BitVec 32 := Scalar.extui v415
  let c0_i32_155 : BitVec 32 := 0#32
  let v417 : BitVec 1 := Scalar.cmpi .slt c2_i32_151 c0_i32_155
  let v418 : BitVec 32 := Scalar.extui v417
  let v419 : BitVec 32 := Scalar.subi v416 v418
  let v420 : BitVec 1 := Scalar.cmpi .ne v414 v419
  let v421 : BitVec 32 := Scalar.remsi v408 c2_i32_151
  let c0_i32_156 : BitVec 32 := 0#32
  let v422 : BitVec 1 := Scalar.cmpi .ne v421 c0_i32_156
  let v423 : BitVec 1 := Scalar.andi v420 v422
  let v409 : BitVec 32 := Scalar.divsi v408 c2_i32_151
  let c1_i32_157 : BitVec 32 := 1#32
  let v424 : BitVec 32 := Scalar.subi v409 c1_i32_157
  let v425 : BitVec 32 := Scalar.select v423 v424 v409
  let v426 : BitVec 32 := Scalar.subi v425 c0_i32_158
  let c1_i32_160 : BitVec 32 := 1#32
  let v428 : BitVec 32 := Scalar.divsi v426 c1_i32_160
  let v429 : BitVec 32 := Scalar.muli v428 c1_i32_160
  let v430 : BitVec 32 := Scalar.addi c0_i32_158 v429
  let c1_i32_162 : BitVec 32 := 1#32
  let arg9 : BitVec 32 := Scf.iv v430 c1_i32_162 k0_t2
  let v467 : BitVec 32 := Scalar.muli c2_i32_204 arg9
  let v468 : BitVec 32 := Scalar.subi v466 v467
  let c256_i32_205 : BitVec 32 := 256#32
  let v469 : BitVec 32 := Scalar.muli v468 c256_i32_205
  v469
def k0_mult6 (i : grid0.Coords) (k0_t2 : Fin (k0_t2_loop i).trips) : BitVec 32 :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let v408 : BitVec 32 := Scalar.subi arg2 v404
  let c0_i32_152 : BitVec 32 := 0#32
  let v410 : BitVec 1 := Scalar.cmpi .sgt v408 c0_i32_152
  let v411 : BitVec 32 := Scalar.extui v410
  let c0_i32_153 : BitVec 32 := 0#32
  let v412 : BitVec 1 := Scalar.cmpi .slt v408 c0_i32_153
  let v413 : BitVec 32 := Scalar.extui v412
  let v414 : BitVec 32 := Scalar.subi v411 v413
  let c2_i32_151 : BitVec 32 := 2#32
  let c0_i32_154 : BitVec 32 := 0#32
  let v415 : BitVec 1 := Scalar.cmpi .sgt c2_i32_151 c0_i32_154
  let v416 : BitVec 32 := Scalar.extui v415
  let c0_i32_155 : BitVec 32 := 0#32
  let v417 : BitVec 1 := Scalar.cmpi .slt c2_i32_151 c0_i32_155
  let v418 : BitVec 32 := Scalar.extui v417
  let v419 : BitVec 32 := Scalar.subi v416 v418
  let v420 : BitVec 1 := Scalar.cmpi .ne v414 v419
  let v421 : BitVec 32 := Scalar.remsi v408 c2_i32_151
  let c0_i32_156 : BitVec 32 := 0#32
  let v422 : BitVec 1 := Scalar.cmpi .ne v421 c0_i32_156
  let v423 : BitVec 1 := Scalar.andi v420 v422
  let v409 : BitVec 32 := Scalar.divsi v408 c2_i32_151
  let c1_i32_157 : BitVec 32 := 1#32
  let v424 : BitVec 32 := Scalar.subi v409 c1_i32_157
  let v425 : BitVec 32 := Scalar.select v423 v424 v409
  let v426 : BitVec 32 := Scalar.subi v425 c0_i32_158
  let c1_i32_160 : BitVec 32 := 1#32
  let v428 : BitVec 32 := Scalar.divsi v426 c1_i32_160
  let v429 : BitVec 32 := Scalar.muli v428 c1_i32_160
  let v430 : BitVec 32 := Scalar.addi c0_i32_158 v429
  let c1_i32_162 : BitVec 32 := 1#32
  let arg9 : BitVec 32 := Scf.iv v430 c1_i32_162 k0_t2
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  v472
def k0_off41 (i : grid0.Coords) (k0_t2 : Fin (k0_t2_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let v408 : BitVec 32 := Scalar.subi arg2 v404
  let c0_i32_152 : BitVec 32 := 0#32
  let v410 : BitVec 1 := Scalar.cmpi .sgt v408 c0_i32_152
  let v411 : BitVec 32 := Scalar.extui v410
  let c0_i32_153 : BitVec 32 := 0#32
  let v412 : BitVec 1 := Scalar.cmpi .slt v408 c0_i32_153
  let v413 : BitVec 32 := Scalar.extui v412
  let v414 : BitVec 32 := Scalar.subi v411 v413
  let c2_i32_151 : BitVec 32 := 2#32
  let c0_i32_154 : BitVec 32 := 0#32
  let v415 : BitVec 1 := Scalar.cmpi .sgt c2_i32_151 c0_i32_154
  let v416 : BitVec 32 := Scalar.extui v415
  let c0_i32_155 : BitVec 32 := 0#32
  let v417 : BitVec 1 := Scalar.cmpi .slt c2_i32_151 c0_i32_155
  let v418 : BitVec 32 := Scalar.extui v417
  let v419 : BitVec 32 := Scalar.subi v416 v418
  let v420 : BitVec 1 := Scalar.cmpi .ne v414 v419
  let v421 : BitVec 32 := Scalar.remsi v408 c2_i32_151
  let c0_i32_156 : BitVec 32 := 0#32
  let v422 : BitVec 1 := Scalar.cmpi .ne v421 c0_i32_156
  let v423 : BitVec 1 := Scalar.andi v420 v422
  let v409 : BitVec 32 := Scalar.divsi v408 c2_i32_151
  let c1_i32_157 : BitVec 32 := 1#32
  let v424 : BitVec 32 := Scalar.subi v409 c1_i32_157
  let v425 : BitVec 32 := Scalar.select v423 v424 v409
  let v426 : BitVec 32 := Scalar.subi v425 c0_i32_158
  let c1_i32_160 : BitVec 32 := 1#32
  let v428 : BitVec 32 := Scalar.divsi v426 c1_i32_160
  let v429 : BitVec 32 := Scalar.muli v428 c1_i32_160
  let v430 : BitVec 32 := Scalar.addi c0_i32_158 v429
  let c1_i32_162 : BitVec 32 := 1#32
  let arg9 : BitVec 32 := Scf.iv v430 c1_i32_162 k0_t2
  let v467 : BitVec 32 := Scalar.muli c2_i32_204 arg9
  let v468 : BitVec 32 := Scalar.subi v466 v467
  let c256_i32_205 : BitVec 32 := 256#32
  let v469 : BitVec 32 := Scalar.muli v468 c256_i32_205
  let v470 : BitVec 32 := v469
  let v476 : Index := Scalar.indexCast v470
  let c0_210 : Index := 0#32
  ![v476.toNat, 0]
def k0_off42 (i : grid0.Coords) (k0_t2 : Fin (k0_t2_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let v408 : BitVec 32 := Scalar.subi arg2 v404
  let c0_i32_152 : BitVec 32 := 0#32
  let v410 : BitVec 1 := Scalar.cmpi .sgt v408 c0_i32_152
  let v411 : BitVec 32 := Scalar.extui v410
  let c0_i32_153 : BitVec 32 := 0#32
  let v412 : BitVec 1 := Scalar.cmpi .slt v408 c0_i32_153
  let v413 : BitVec 32 := Scalar.extui v412
  let v414 : BitVec 32 := Scalar.subi v411 v413
  let c2_i32_151 : BitVec 32 := 2#32
  let c0_i32_154 : BitVec 32 := 0#32
  let v415 : BitVec 1 := Scalar.cmpi .sgt c2_i32_151 c0_i32_154
  let v416 : BitVec 32 := Scalar.extui v415
  let c0_i32_155 : BitVec 32 := 0#32
  let v417 : BitVec 1 := Scalar.cmpi .slt c2_i32_151 c0_i32_155
  let v418 : BitVec 32 := Scalar.extui v417
  let v419 : BitVec 32 := Scalar.subi v416 v418
  let v420 : BitVec 1 := Scalar.cmpi .ne v414 v419
  let v421 : BitVec 32 := Scalar.remsi v408 c2_i32_151
  let c0_i32_156 : BitVec 32 := 0#32
  let v422 : BitVec 1 := Scalar.cmpi .ne v421 c0_i32_156
  let v423 : BitVec 1 := Scalar.andi v420 v422
  let v409 : BitVec 32 := Scalar.divsi v408 c2_i32_151
  let c1_i32_157 : BitVec 32 := 1#32
  let v424 : BitVec 32 := Scalar.subi v409 c1_i32_157
  let v425 : BitVec 32 := Scalar.select v423 v424 v409
  let v426 : BitVec 32 := Scalar.subi v425 c0_i32_158
  let c1_i32_160 : BitVec 32 := 1#32
  let v428 : BitVec 32 := Scalar.divsi v426 c1_i32_160
  let v429 : BitVec 32 := Scalar.muli v428 c1_i32_160
  let v430 : BitVec 32 := Scalar.addi c0_i32_158 v429
  let c1_i32_162 : BitVec 32 := 1#32
  let arg9 : BitVec 32 := Scf.iv v430 c1_i32_162 k0_t2
  let v467 : BitVec 32 := Scalar.muli c2_i32_204 arg9
  let v468 : BitVec 32 := Scalar.subi v466 v467
  let c256_i32_205 : BitVec 32 := 256#32
  let v469 : BitVec 32 := Scalar.muli v468 c256_i32_205
  let v470 : BitVec 32 := v469
  let v482 : Index := Scalar.indexCast v470
  let c128_214 : Index := 128#32
  ![v482.toNat, 128]
def k0_off43 (i : grid0.Coords) (k0_t2 : Fin (k0_t2_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let v408 : BitVec 32 := Scalar.subi arg2 v404
  let c0_i32_152 : BitVec 32 := 0#32
  let v410 : BitVec 1 := Scalar.cmpi .sgt v408 c0_i32_152
  let v411 : BitVec 32 := Scalar.extui v410
  let c0_i32_153 : BitVec 32 := 0#32
  let v412 : BitVec 1 := Scalar.cmpi .slt v408 c0_i32_153
  let v413 : BitVec 32 := Scalar.extui v412
  let v414 : BitVec 32 := Scalar.subi v411 v413
  let c2_i32_151 : BitVec 32 := 2#32
  let c0_i32_154 : BitVec 32 := 0#32
  let v415 : BitVec 1 := Scalar.cmpi .sgt c2_i32_151 c0_i32_154
  let v416 : BitVec 32 := Scalar.extui v415
  let c0_i32_155 : BitVec 32 := 0#32
  let v417 : BitVec 1 := Scalar.cmpi .slt c2_i32_151 c0_i32_155
  let v418 : BitVec 32 := Scalar.extui v417
  let v419 : BitVec 32 := Scalar.subi v416 v418
  let v420 : BitVec 1 := Scalar.cmpi .ne v414 v419
  let v421 : BitVec 32 := Scalar.remsi v408 c2_i32_151
  let c0_i32_156 : BitVec 32 := 0#32
  let v422 : BitVec 1 := Scalar.cmpi .ne v421 c0_i32_156
  let v423 : BitVec 1 := Scalar.andi v420 v422
  let v409 : BitVec 32 := Scalar.divsi v408 c2_i32_151
  let c1_i32_157 : BitVec 32 := 1#32
  let v424 : BitVec 32 := Scalar.subi v409 c1_i32_157
  let v425 : BitVec 32 := Scalar.select v423 v424 v409
  let v426 : BitVec 32 := Scalar.subi v425 c0_i32_158
  let c1_i32_160 : BitVec 32 := 1#32
  let v428 : BitVec 32 := Scalar.divsi v426 c1_i32_160
  let v429 : BitVec 32 := Scalar.muli v428 c1_i32_160
  let v430 : BitVec 32 := Scalar.addi c0_i32_158 v429
  let c1_i32_162 : BitVec 32 := 1#32
  let arg9 : BitVec 32 := Scf.iv v430 c1_i32_162 k0_t2
  let v467 : BitVec 32 := Scalar.muli c2_i32_204 arg9
  let v468 : BitVec 32 := Scalar.subi v466 v467
  let c256_i32_205 : BitVec 32 := 256#32
  let v469 : BitVec 32 := Scalar.muli v468 c256_i32_205
  let v470 : BitVec 32 := v469
  let v488 : Index := Scalar.indexCast v470
  let c256_218 : Index := 256#32
  ![v488.toNat, 256]
def k0_off44 (i : grid0.Coords) (k0_t2 : Fin (k0_t2_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let v408 : BitVec 32 := Scalar.subi arg2 v404
  let c0_i32_152 : BitVec 32 := 0#32
  let v410 : BitVec 1 := Scalar.cmpi .sgt v408 c0_i32_152
  let v411 : BitVec 32 := Scalar.extui v410
  let c0_i32_153 : BitVec 32 := 0#32
  let v412 : BitVec 1 := Scalar.cmpi .slt v408 c0_i32_153
  let v413 : BitVec 32 := Scalar.extui v412
  let v414 : BitVec 32 := Scalar.subi v411 v413
  let c2_i32_151 : BitVec 32 := 2#32
  let c0_i32_154 : BitVec 32 := 0#32
  let v415 : BitVec 1 := Scalar.cmpi .sgt c2_i32_151 c0_i32_154
  let v416 : BitVec 32 := Scalar.extui v415
  let c0_i32_155 : BitVec 32 := 0#32
  let v417 : BitVec 1 := Scalar.cmpi .slt c2_i32_151 c0_i32_155
  let v418 : BitVec 32 := Scalar.extui v417
  let v419 : BitVec 32 := Scalar.subi v416 v418
  let v420 : BitVec 1 := Scalar.cmpi .ne v414 v419
  let v421 : BitVec 32 := Scalar.remsi v408 c2_i32_151
  let c0_i32_156 : BitVec 32 := 0#32
  let v422 : BitVec 1 := Scalar.cmpi .ne v421 c0_i32_156
  let v423 : BitVec 1 := Scalar.andi v420 v422
  let v409 : BitVec 32 := Scalar.divsi v408 c2_i32_151
  let c1_i32_157 : BitVec 32 := 1#32
  let v424 : BitVec 32 := Scalar.subi v409 c1_i32_157
  let v425 : BitVec 32 := Scalar.select v423 v424 v409
  let v426 : BitVec 32 := Scalar.subi v425 c0_i32_158
  let c1_i32_160 : BitVec 32 := 1#32
  let v428 : BitVec 32 := Scalar.divsi v426 c1_i32_160
  let v429 : BitVec 32 := Scalar.muli v428 c1_i32_160
  let v430 : BitVec 32 := Scalar.addi c0_i32_158 v429
  let c1_i32_162 : BitVec 32 := 1#32
  let arg9 : BitVec 32 := Scf.iv v430 c1_i32_162 k0_t2
  let v467 : BitVec 32 := Scalar.muli c2_i32_204 arg9
  let v468 : BitVec 32 := Scalar.subi v466 v467
  let c256_i32_205 : BitVec 32 := 256#32
  let v469 : BitVec 32 := Scalar.muli v468 c256_i32_205
  let v470 : BitVec 32 := v469
  let v494 : Index := Scalar.indexCast v470
  let c384_222 : Index := 384#32
  ![v494.toNat, 384]
def k0_off45 (i : grid0.Coords) (k0_t2 : Fin (k0_t2_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let v408 : BitVec 32 := Scalar.subi arg2 v404
  let c0_i32_152 : BitVec 32 := 0#32
  let v410 : BitVec 1 := Scalar.cmpi .sgt v408 c0_i32_152
  let v411 : BitVec 32 := Scalar.extui v410
  let c0_i32_153 : BitVec 32 := 0#32
  let v412 : BitVec 1 := Scalar.cmpi .slt v408 c0_i32_153
  let v413 : BitVec 32 := Scalar.extui v412
  let v414 : BitVec 32 := Scalar.subi v411 v413
  let c2_i32_151 : BitVec 32 := 2#32
  let c0_i32_154 : BitVec 32 := 0#32
  let v415 : BitVec 1 := Scalar.cmpi .sgt c2_i32_151 c0_i32_154
  let v416 : BitVec 32 := Scalar.extui v415
  let c0_i32_155 : BitVec 32 := 0#32
  let v417 : BitVec 1 := Scalar.cmpi .slt c2_i32_151 c0_i32_155
  let v418 : BitVec 32 := Scalar.extui v417
  let v419 : BitVec 32 := Scalar.subi v416 v418
  let v420 : BitVec 1 := Scalar.cmpi .ne v414 v419
  let v421 : BitVec 32 := Scalar.remsi v408 c2_i32_151
  let c0_i32_156 : BitVec 32 := 0#32
  let v422 : BitVec 1 := Scalar.cmpi .ne v421 c0_i32_156
  let v423 : BitVec 1 := Scalar.andi v420 v422
  let v409 : BitVec 32 := Scalar.divsi v408 c2_i32_151
  let c1_i32_157 : BitVec 32 := 1#32
  let v424 : BitVec 32 := Scalar.subi v409 c1_i32_157
  let v425 : BitVec 32 := Scalar.select v423 v424 v409
  let v426 : BitVec 32 := Scalar.subi v425 c0_i32_158
  let c1_i32_160 : BitVec 32 := 1#32
  let v428 : BitVec 32 := Scalar.divsi v426 c1_i32_160
  let v429 : BitVec 32 := Scalar.muli v428 c1_i32_160
  let v430 : BitVec 32 := Scalar.addi c0_i32_158 v429
  let c1_i32_162 : BitVec 32 := 1#32
  let arg9 : BitVec 32 := Scf.iv v430 c1_i32_162 k0_t2
  let v467 : BitVec 32 := Scalar.muli c2_i32_204 arg9
  let v468 : BitVec 32 := Scalar.subi v466 v467
  let c256_i32_205 : BitVec 32 := 256#32
  let v469 : BitVec 32 := Scalar.muli v468 c256_i32_205
  let v470 : BitVec 32 := v469
  let v500 : Index := Scalar.indexCast v470
  let c512_226 : Index := 512#32
  ![v500.toNat, 512]
def k0_off46 (i : grid0.Coords) (k0_t2 : Fin (k0_t2_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let v408 : BitVec 32 := Scalar.subi arg2 v404
  let c0_i32_152 : BitVec 32 := 0#32
  let v410 : BitVec 1 := Scalar.cmpi .sgt v408 c0_i32_152
  let v411 : BitVec 32 := Scalar.extui v410
  let c0_i32_153 : BitVec 32 := 0#32
  let v412 : BitVec 1 := Scalar.cmpi .slt v408 c0_i32_153
  let v413 : BitVec 32 := Scalar.extui v412
  let v414 : BitVec 32 := Scalar.subi v411 v413
  let c2_i32_151 : BitVec 32 := 2#32
  let c0_i32_154 : BitVec 32 := 0#32
  let v415 : BitVec 1 := Scalar.cmpi .sgt c2_i32_151 c0_i32_154
  let v416 : BitVec 32 := Scalar.extui v415
  let c0_i32_155 : BitVec 32 := 0#32
  let v417 : BitVec 1 := Scalar.cmpi .slt c2_i32_151 c0_i32_155
  let v418 : BitVec 32 := Scalar.extui v417
  let v419 : BitVec 32 := Scalar.subi v416 v418
  let v420 : BitVec 1 := Scalar.cmpi .ne v414 v419
  let v421 : BitVec 32 := Scalar.remsi v408 c2_i32_151
  let c0_i32_156 : BitVec 32 := 0#32
  let v422 : BitVec 1 := Scalar.cmpi .ne v421 c0_i32_156
  let v423 : BitVec 1 := Scalar.andi v420 v422
  let v409 : BitVec 32 := Scalar.divsi v408 c2_i32_151
  let c1_i32_157 : BitVec 32 := 1#32
  let v424 : BitVec 32 := Scalar.subi v409 c1_i32_157
  let v425 : BitVec 32 := Scalar.select v423 v424 v409
  let v426 : BitVec 32 := Scalar.subi v425 c0_i32_158
  let c1_i32_160 : BitVec 32 := 1#32
  let v428 : BitVec 32 := Scalar.divsi v426 c1_i32_160
  let v429 : BitVec 32 := Scalar.muli v428 c1_i32_160
  let v430 : BitVec 32 := Scalar.addi c0_i32_158 v429
  let c1_i32_162 : BitVec 32 := 1#32
  let arg9 : BitVec 32 := Scf.iv v430 c1_i32_162 k0_t2
  let v467 : BitVec 32 := Scalar.muli c2_i32_204 arg9
  let v468 : BitVec 32 := Scalar.subi v466 v467
  let c256_i32_205 : BitVec 32 := 256#32
  let v469 : BitVec 32 := Scalar.muli v468 c256_i32_205
  let v470 : BitVec 32 := v469
  let v506 : Index := Scalar.indexCast v470
  let c640_230 : Index := 640#32
  ![v506.toNat, 640]
def k0_off47 (i : grid0.Coords) (k0_t2 : Fin (k0_t2_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let v408 : BitVec 32 := Scalar.subi arg2 v404
  let c0_i32_152 : BitVec 32 := 0#32
  let v410 : BitVec 1 := Scalar.cmpi .sgt v408 c0_i32_152
  let v411 : BitVec 32 := Scalar.extui v410
  let c0_i32_153 : BitVec 32 := 0#32
  let v412 : BitVec 1 := Scalar.cmpi .slt v408 c0_i32_153
  let v413 : BitVec 32 := Scalar.extui v412
  let v414 : BitVec 32 := Scalar.subi v411 v413
  let c2_i32_151 : BitVec 32 := 2#32
  let c0_i32_154 : BitVec 32 := 0#32
  let v415 : BitVec 1 := Scalar.cmpi .sgt c2_i32_151 c0_i32_154
  let v416 : BitVec 32 := Scalar.extui v415
  let c0_i32_155 : BitVec 32 := 0#32
  let v417 : BitVec 1 := Scalar.cmpi .slt c2_i32_151 c0_i32_155
  let v418 : BitVec 32 := Scalar.extui v417
  let v419 : BitVec 32 := Scalar.subi v416 v418
  let v420 : BitVec 1 := Scalar.cmpi .ne v414 v419
  let v421 : BitVec 32 := Scalar.remsi v408 c2_i32_151
  let c0_i32_156 : BitVec 32 := 0#32
  let v422 : BitVec 1 := Scalar.cmpi .ne v421 c0_i32_156
  let v423 : BitVec 1 := Scalar.andi v420 v422
  let v409 : BitVec 32 := Scalar.divsi v408 c2_i32_151
  let c1_i32_157 : BitVec 32 := 1#32
  let v424 : BitVec 32 := Scalar.subi v409 c1_i32_157
  let v425 : BitVec 32 := Scalar.select v423 v424 v409
  let v426 : BitVec 32 := Scalar.subi v425 c0_i32_158
  let c1_i32_160 : BitVec 32 := 1#32
  let v428 : BitVec 32 := Scalar.divsi v426 c1_i32_160
  let v429 : BitVec 32 := Scalar.muli v428 c1_i32_160
  let v430 : BitVec 32 := Scalar.addi c0_i32_158 v429
  let c1_i32_162 : BitVec 32 := 1#32
  let arg9 : BitVec 32 := Scf.iv v430 c1_i32_162 k0_t2
  let v467 : BitVec 32 := Scalar.muli c2_i32_204 arg9
  let v468 : BitVec 32 := Scalar.subi v466 v467
  let c256_i32_205 : BitVec 32 := 256#32
  let v469 : BitVec 32 := Scalar.muli v468 c256_i32_205
  let v470 : BitVec 32 := v469
  let v512 : Index := Scalar.indexCast v470
  let c768_234 : Index := 768#32
  ![v512.toNat, 768]
def k0_off48 (i : grid0.Coords) (k0_t2 : Fin (k0_t2_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let v408 : BitVec 32 := Scalar.subi arg2 v404
  let c0_i32_152 : BitVec 32 := 0#32
  let v410 : BitVec 1 := Scalar.cmpi .sgt v408 c0_i32_152
  let v411 : BitVec 32 := Scalar.extui v410
  let c0_i32_153 : BitVec 32 := 0#32
  let v412 : BitVec 1 := Scalar.cmpi .slt v408 c0_i32_153
  let v413 : BitVec 32 := Scalar.extui v412
  let v414 : BitVec 32 := Scalar.subi v411 v413
  let c2_i32_151 : BitVec 32 := 2#32
  let c0_i32_154 : BitVec 32 := 0#32
  let v415 : BitVec 1 := Scalar.cmpi .sgt c2_i32_151 c0_i32_154
  let v416 : BitVec 32 := Scalar.extui v415
  let c0_i32_155 : BitVec 32 := 0#32
  let v417 : BitVec 1 := Scalar.cmpi .slt c2_i32_151 c0_i32_155
  let v418 : BitVec 32 := Scalar.extui v417
  let v419 : BitVec 32 := Scalar.subi v416 v418
  let v420 : BitVec 1 := Scalar.cmpi .ne v414 v419
  let v421 : BitVec 32 := Scalar.remsi v408 c2_i32_151
  let c0_i32_156 : BitVec 32 := 0#32
  let v422 : BitVec 1 := Scalar.cmpi .ne v421 c0_i32_156
  let v423 : BitVec 1 := Scalar.andi v420 v422
  let v409 : BitVec 32 := Scalar.divsi v408 c2_i32_151
  let c1_i32_157 : BitVec 32 := 1#32
  let v424 : BitVec 32 := Scalar.subi v409 c1_i32_157
  let v425 : BitVec 32 := Scalar.select v423 v424 v409
  let v426 : BitVec 32 := Scalar.subi v425 c0_i32_158
  let c1_i32_160 : BitVec 32 := 1#32
  let v428 : BitVec 32 := Scalar.divsi v426 c1_i32_160
  let v429 : BitVec 32 := Scalar.muli v428 c1_i32_160
  let v430 : BitVec 32 := Scalar.addi c0_i32_158 v429
  let c1_i32_162 : BitVec 32 := 1#32
  let arg9 : BitVec 32 := Scf.iv v430 c1_i32_162 k0_t2
  let v467 : BitVec 32 := Scalar.muli c2_i32_204 arg9
  let v468 : BitVec 32 := Scalar.subi v466 v467
  let c256_i32_205 : BitVec 32 := 256#32
  let v469 : BitVec 32 := Scalar.muli v468 c256_i32_205
  let v470 : BitVec 32 := v469
  let v518 : Index := Scalar.indexCast v470
  let c896_238 : Index := 896#32
  ![v518.toNat, 896]
def k0_off49 (i : grid0.Coords) (k0_t2 : Fin (k0_t2_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let v408 : BitVec 32 := Scalar.subi arg2 v404
  let c0_i32_152 : BitVec 32 := 0#32
  let v410 : BitVec 1 := Scalar.cmpi .sgt v408 c0_i32_152
  let v411 : BitVec 32 := Scalar.extui v410
  let c0_i32_153 : BitVec 32 := 0#32
  let v412 : BitVec 1 := Scalar.cmpi .slt v408 c0_i32_153
  let v413 : BitVec 32 := Scalar.extui v412
  let v414 : BitVec 32 := Scalar.subi v411 v413
  let c2_i32_151 : BitVec 32 := 2#32
  let c0_i32_154 : BitVec 32 := 0#32
  let v415 : BitVec 1 := Scalar.cmpi .sgt c2_i32_151 c0_i32_154
  let v416 : BitVec 32 := Scalar.extui v415
  let c0_i32_155 : BitVec 32 := 0#32
  let v417 : BitVec 1 := Scalar.cmpi .slt c2_i32_151 c0_i32_155
  let v418 : BitVec 32 := Scalar.extui v417
  let v419 : BitVec 32 := Scalar.subi v416 v418
  let v420 : BitVec 1 := Scalar.cmpi .ne v414 v419
  let v421 : BitVec 32 := Scalar.remsi v408 c2_i32_151
  let c0_i32_156 : BitVec 32 := 0#32
  let v422 : BitVec 1 := Scalar.cmpi .ne v421 c0_i32_156
  let v423 : BitVec 1 := Scalar.andi v420 v422
  let v409 : BitVec 32 := Scalar.divsi v408 c2_i32_151
  let c1_i32_157 : BitVec 32 := 1#32
  let v424 : BitVec 32 := Scalar.subi v409 c1_i32_157
  let v425 : BitVec 32 := Scalar.select v423 v424 v409
  let v426 : BitVec 32 := Scalar.subi v425 c0_i32_158
  let c1_i32_160 : BitVec 32 := 1#32
  let v428 : BitVec 32 := Scalar.divsi v426 c1_i32_160
  let v429 : BitVec 32 := Scalar.muli v428 c1_i32_160
  let v430 : BitVec 32 := Scalar.addi c0_i32_158 v429
  let c1_i32_162 : BitVec 32 := 1#32
  let arg9 : BitVec 32 := Scf.iv v430 c1_i32_162 k0_t2
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  let v473 : BitVec 32 := v472
  let v524 : Index := Scalar.indexCast v473
  let c0_242 : Index := 0#32
  ![v524.toNat, 0]
def k0_off50 (i : grid0.Coords) (k0_t2 : Fin (k0_t2_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let v408 : BitVec 32 := Scalar.subi arg2 v404
  let c0_i32_152 : BitVec 32 := 0#32
  let v410 : BitVec 1 := Scalar.cmpi .sgt v408 c0_i32_152
  let v411 : BitVec 32 := Scalar.extui v410
  let c0_i32_153 : BitVec 32 := 0#32
  let v412 : BitVec 1 := Scalar.cmpi .slt v408 c0_i32_153
  let v413 : BitVec 32 := Scalar.extui v412
  let v414 : BitVec 32 := Scalar.subi v411 v413
  let c2_i32_151 : BitVec 32 := 2#32
  let c0_i32_154 : BitVec 32 := 0#32
  let v415 : BitVec 1 := Scalar.cmpi .sgt c2_i32_151 c0_i32_154
  let v416 : BitVec 32 := Scalar.extui v415
  let c0_i32_155 : BitVec 32 := 0#32
  let v417 : BitVec 1 := Scalar.cmpi .slt c2_i32_151 c0_i32_155
  let v418 : BitVec 32 := Scalar.extui v417
  let v419 : BitVec 32 := Scalar.subi v416 v418
  let v420 : BitVec 1 := Scalar.cmpi .ne v414 v419
  let v421 : BitVec 32 := Scalar.remsi v408 c2_i32_151
  let c0_i32_156 : BitVec 32 := 0#32
  let v422 : BitVec 1 := Scalar.cmpi .ne v421 c0_i32_156
  let v423 : BitVec 1 := Scalar.andi v420 v422
  let v409 : BitVec 32 := Scalar.divsi v408 c2_i32_151
  let c1_i32_157 : BitVec 32 := 1#32
  let v424 : BitVec 32 := Scalar.subi v409 c1_i32_157
  let v425 : BitVec 32 := Scalar.select v423 v424 v409
  let v426 : BitVec 32 := Scalar.subi v425 c0_i32_158
  let c1_i32_160 : BitVec 32 := 1#32
  let v428 : BitVec 32 := Scalar.divsi v426 c1_i32_160
  let v429 : BitVec 32 := Scalar.muli v428 c1_i32_160
  let v430 : BitVec 32 := Scalar.addi c0_i32_158 v429
  let c1_i32_162 : BitVec 32 := 1#32
  let arg9 : BitVec 32 := Scf.iv v430 c1_i32_162 k0_t2
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  let v473 : BitVec 32 := v472
  let v530 : Index := Scalar.indexCast v473
  let c128_246 : Index := 128#32
  ![v530.toNat, 128]
def k0_off51 (i : grid0.Coords) (k0_t2 : Fin (k0_t2_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let v408 : BitVec 32 := Scalar.subi arg2 v404
  let c0_i32_152 : BitVec 32 := 0#32
  let v410 : BitVec 1 := Scalar.cmpi .sgt v408 c0_i32_152
  let v411 : BitVec 32 := Scalar.extui v410
  let c0_i32_153 : BitVec 32 := 0#32
  let v412 : BitVec 1 := Scalar.cmpi .slt v408 c0_i32_153
  let v413 : BitVec 32 := Scalar.extui v412
  let v414 : BitVec 32 := Scalar.subi v411 v413
  let c2_i32_151 : BitVec 32 := 2#32
  let c0_i32_154 : BitVec 32 := 0#32
  let v415 : BitVec 1 := Scalar.cmpi .sgt c2_i32_151 c0_i32_154
  let v416 : BitVec 32 := Scalar.extui v415
  let c0_i32_155 : BitVec 32 := 0#32
  let v417 : BitVec 1 := Scalar.cmpi .slt c2_i32_151 c0_i32_155
  let v418 : BitVec 32 := Scalar.extui v417
  let v419 : BitVec 32 := Scalar.subi v416 v418
  let v420 : BitVec 1 := Scalar.cmpi .ne v414 v419
  let v421 : BitVec 32 := Scalar.remsi v408 c2_i32_151
  let c0_i32_156 : BitVec 32 := 0#32
  let v422 : BitVec 1 := Scalar.cmpi .ne v421 c0_i32_156
  let v423 : BitVec 1 := Scalar.andi v420 v422
  let v409 : BitVec 32 := Scalar.divsi v408 c2_i32_151
  let c1_i32_157 : BitVec 32 := 1#32
  let v424 : BitVec 32 := Scalar.subi v409 c1_i32_157
  let v425 : BitVec 32 := Scalar.select v423 v424 v409
  let v426 : BitVec 32 := Scalar.subi v425 c0_i32_158
  let c1_i32_160 : BitVec 32 := 1#32
  let v428 : BitVec 32 := Scalar.divsi v426 c1_i32_160
  let v429 : BitVec 32 := Scalar.muli v428 c1_i32_160
  let v430 : BitVec 32 := Scalar.addi c0_i32_158 v429
  let c1_i32_162 : BitVec 32 := 1#32
  let arg9 : BitVec 32 := Scf.iv v430 c1_i32_162 k0_t2
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  let v473 : BitVec 32 := v472
  let v536 : Index := Scalar.indexCast v473
  let c256_250 : Index := 256#32
  ![v536.toNat, 256]
def k0_off52 (i : grid0.Coords) (k0_t2 : Fin (k0_t2_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let v408 : BitVec 32 := Scalar.subi arg2 v404
  let c0_i32_152 : BitVec 32 := 0#32
  let v410 : BitVec 1 := Scalar.cmpi .sgt v408 c0_i32_152
  let v411 : BitVec 32 := Scalar.extui v410
  let c0_i32_153 : BitVec 32 := 0#32
  let v412 : BitVec 1 := Scalar.cmpi .slt v408 c0_i32_153
  let v413 : BitVec 32 := Scalar.extui v412
  let v414 : BitVec 32 := Scalar.subi v411 v413
  let c2_i32_151 : BitVec 32 := 2#32
  let c0_i32_154 : BitVec 32 := 0#32
  let v415 : BitVec 1 := Scalar.cmpi .sgt c2_i32_151 c0_i32_154
  let v416 : BitVec 32 := Scalar.extui v415
  let c0_i32_155 : BitVec 32 := 0#32
  let v417 : BitVec 1 := Scalar.cmpi .slt c2_i32_151 c0_i32_155
  let v418 : BitVec 32 := Scalar.extui v417
  let v419 : BitVec 32 := Scalar.subi v416 v418
  let v420 : BitVec 1 := Scalar.cmpi .ne v414 v419
  let v421 : BitVec 32 := Scalar.remsi v408 c2_i32_151
  let c0_i32_156 : BitVec 32 := 0#32
  let v422 : BitVec 1 := Scalar.cmpi .ne v421 c0_i32_156
  let v423 : BitVec 1 := Scalar.andi v420 v422
  let v409 : BitVec 32 := Scalar.divsi v408 c2_i32_151
  let c1_i32_157 : BitVec 32 := 1#32
  let v424 : BitVec 32 := Scalar.subi v409 c1_i32_157
  let v425 : BitVec 32 := Scalar.select v423 v424 v409
  let v426 : BitVec 32 := Scalar.subi v425 c0_i32_158
  let c1_i32_160 : BitVec 32 := 1#32
  let v428 : BitVec 32 := Scalar.divsi v426 c1_i32_160
  let v429 : BitVec 32 := Scalar.muli v428 c1_i32_160
  let v430 : BitVec 32 := Scalar.addi c0_i32_158 v429
  let c1_i32_162 : BitVec 32 := 1#32
  let arg9 : BitVec 32 := Scf.iv v430 c1_i32_162 k0_t2
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  let v473 : BitVec 32 := v472
  let v542 : Index := Scalar.indexCast v473
  let c384_254 : Index := 384#32
  ![v542.toNat, 384]
def k0_off53 (i : grid0.Coords) (k0_t2 : Fin (k0_t2_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let v408 : BitVec 32 := Scalar.subi arg2 v404
  let c0_i32_152 : BitVec 32 := 0#32
  let v410 : BitVec 1 := Scalar.cmpi .sgt v408 c0_i32_152
  let v411 : BitVec 32 := Scalar.extui v410
  let c0_i32_153 : BitVec 32 := 0#32
  let v412 : BitVec 1 := Scalar.cmpi .slt v408 c0_i32_153
  let v413 : BitVec 32 := Scalar.extui v412
  let v414 : BitVec 32 := Scalar.subi v411 v413
  let c2_i32_151 : BitVec 32 := 2#32
  let c0_i32_154 : BitVec 32 := 0#32
  let v415 : BitVec 1 := Scalar.cmpi .sgt c2_i32_151 c0_i32_154
  let v416 : BitVec 32 := Scalar.extui v415
  let c0_i32_155 : BitVec 32 := 0#32
  let v417 : BitVec 1 := Scalar.cmpi .slt c2_i32_151 c0_i32_155
  let v418 : BitVec 32 := Scalar.extui v417
  let v419 : BitVec 32 := Scalar.subi v416 v418
  let v420 : BitVec 1 := Scalar.cmpi .ne v414 v419
  let v421 : BitVec 32 := Scalar.remsi v408 c2_i32_151
  let c0_i32_156 : BitVec 32 := 0#32
  let v422 : BitVec 1 := Scalar.cmpi .ne v421 c0_i32_156
  let v423 : BitVec 1 := Scalar.andi v420 v422
  let v409 : BitVec 32 := Scalar.divsi v408 c2_i32_151
  let c1_i32_157 : BitVec 32 := 1#32
  let v424 : BitVec 32 := Scalar.subi v409 c1_i32_157
  let v425 : BitVec 32 := Scalar.select v423 v424 v409
  let v426 : BitVec 32 := Scalar.subi v425 c0_i32_158
  let c1_i32_160 : BitVec 32 := 1#32
  let v428 : BitVec 32 := Scalar.divsi v426 c1_i32_160
  let v429 : BitVec 32 := Scalar.muli v428 c1_i32_160
  let v430 : BitVec 32 := Scalar.addi c0_i32_158 v429
  let c1_i32_162 : BitVec 32 := 1#32
  let arg9 : BitVec 32 := Scf.iv v430 c1_i32_162 k0_t2
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  let v473 : BitVec 32 := v472
  let v548 : Index := Scalar.indexCast v473
  let c512_258 : Index := 512#32
  ![v548.toNat, 512]
def k0_off54 (i : grid0.Coords) (k0_t2 : Fin (k0_t2_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let v408 : BitVec 32 := Scalar.subi arg2 v404
  let c0_i32_152 : BitVec 32 := 0#32
  let v410 : BitVec 1 := Scalar.cmpi .sgt v408 c0_i32_152
  let v411 : BitVec 32 := Scalar.extui v410
  let c0_i32_153 : BitVec 32 := 0#32
  let v412 : BitVec 1 := Scalar.cmpi .slt v408 c0_i32_153
  let v413 : BitVec 32 := Scalar.extui v412
  let v414 : BitVec 32 := Scalar.subi v411 v413
  let c2_i32_151 : BitVec 32 := 2#32
  let c0_i32_154 : BitVec 32 := 0#32
  let v415 : BitVec 1 := Scalar.cmpi .sgt c2_i32_151 c0_i32_154
  let v416 : BitVec 32 := Scalar.extui v415
  let c0_i32_155 : BitVec 32 := 0#32
  let v417 : BitVec 1 := Scalar.cmpi .slt c2_i32_151 c0_i32_155
  let v418 : BitVec 32 := Scalar.extui v417
  let v419 : BitVec 32 := Scalar.subi v416 v418
  let v420 : BitVec 1 := Scalar.cmpi .ne v414 v419
  let v421 : BitVec 32 := Scalar.remsi v408 c2_i32_151
  let c0_i32_156 : BitVec 32 := 0#32
  let v422 : BitVec 1 := Scalar.cmpi .ne v421 c0_i32_156
  let v423 : BitVec 1 := Scalar.andi v420 v422
  let v409 : BitVec 32 := Scalar.divsi v408 c2_i32_151
  let c1_i32_157 : BitVec 32 := 1#32
  let v424 : BitVec 32 := Scalar.subi v409 c1_i32_157
  let v425 : BitVec 32 := Scalar.select v423 v424 v409
  let v426 : BitVec 32 := Scalar.subi v425 c0_i32_158
  let c1_i32_160 : BitVec 32 := 1#32
  let v428 : BitVec 32 := Scalar.divsi v426 c1_i32_160
  let v429 : BitVec 32 := Scalar.muli v428 c1_i32_160
  let v430 : BitVec 32 := Scalar.addi c0_i32_158 v429
  let c1_i32_162 : BitVec 32 := 1#32
  let arg9 : BitVec 32 := Scf.iv v430 c1_i32_162 k0_t2
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  let v473 : BitVec 32 := v472
  let v554 : Index := Scalar.indexCast v473
  let c640_262 : Index := 640#32
  ![v554.toNat, 640]
def k0_off55 (i : grid0.Coords) (k0_t2 : Fin (k0_t2_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let v408 : BitVec 32 := Scalar.subi arg2 v404
  let c0_i32_152 : BitVec 32 := 0#32
  let v410 : BitVec 1 := Scalar.cmpi .sgt v408 c0_i32_152
  let v411 : BitVec 32 := Scalar.extui v410
  let c0_i32_153 : BitVec 32 := 0#32
  let v412 : BitVec 1 := Scalar.cmpi .slt v408 c0_i32_153
  let v413 : BitVec 32 := Scalar.extui v412
  let v414 : BitVec 32 := Scalar.subi v411 v413
  let c2_i32_151 : BitVec 32 := 2#32
  let c0_i32_154 : BitVec 32 := 0#32
  let v415 : BitVec 1 := Scalar.cmpi .sgt c2_i32_151 c0_i32_154
  let v416 : BitVec 32 := Scalar.extui v415
  let c0_i32_155 : BitVec 32 := 0#32
  let v417 : BitVec 1 := Scalar.cmpi .slt c2_i32_151 c0_i32_155
  let v418 : BitVec 32 := Scalar.extui v417
  let v419 : BitVec 32 := Scalar.subi v416 v418
  let v420 : BitVec 1 := Scalar.cmpi .ne v414 v419
  let v421 : BitVec 32 := Scalar.remsi v408 c2_i32_151
  let c0_i32_156 : BitVec 32 := 0#32
  let v422 : BitVec 1 := Scalar.cmpi .ne v421 c0_i32_156
  let v423 : BitVec 1 := Scalar.andi v420 v422
  let v409 : BitVec 32 := Scalar.divsi v408 c2_i32_151
  let c1_i32_157 : BitVec 32 := 1#32
  let v424 : BitVec 32 := Scalar.subi v409 c1_i32_157
  let v425 : BitVec 32 := Scalar.select v423 v424 v409
  let v426 : BitVec 32 := Scalar.subi v425 c0_i32_158
  let c1_i32_160 : BitVec 32 := 1#32
  let v428 : BitVec 32 := Scalar.divsi v426 c1_i32_160
  let v429 : BitVec 32 := Scalar.muli v428 c1_i32_160
  let v430 : BitVec 32 := Scalar.addi c0_i32_158 v429
  let c1_i32_162 : BitVec 32 := 1#32
  let arg9 : BitVec 32 := Scf.iv v430 c1_i32_162 k0_t2
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  let v473 : BitVec 32 := v472
  let v560 : Index := Scalar.indexCast v473
  let c768_266 : Index := 768#32
  ![v560.toNat, 768]
def k0_off56 (i : grid0.Coords) (k0_t2 : Fin (k0_t2_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let v408 : BitVec 32 := Scalar.subi arg2 v404
  let c0_i32_152 : BitVec 32 := 0#32
  let v410 : BitVec 1 := Scalar.cmpi .sgt v408 c0_i32_152
  let v411 : BitVec 32 := Scalar.extui v410
  let c0_i32_153 : BitVec 32 := 0#32
  let v412 : BitVec 1 := Scalar.cmpi .slt v408 c0_i32_153
  let v413 : BitVec 32 := Scalar.extui v412
  let v414 : BitVec 32 := Scalar.subi v411 v413
  let c2_i32_151 : BitVec 32 := 2#32
  let c0_i32_154 : BitVec 32 := 0#32
  let v415 : BitVec 1 := Scalar.cmpi .sgt c2_i32_151 c0_i32_154
  let v416 : BitVec 32 := Scalar.extui v415
  let c0_i32_155 : BitVec 32 := 0#32
  let v417 : BitVec 1 := Scalar.cmpi .slt c2_i32_151 c0_i32_155
  let v418 : BitVec 32 := Scalar.extui v417
  let v419 : BitVec 32 := Scalar.subi v416 v418
  let v420 : BitVec 1 := Scalar.cmpi .ne v414 v419
  let v421 : BitVec 32 := Scalar.remsi v408 c2_i32_151
  let c0_i32_156 : BitVec 32 := 0#32
  let v422 : BitVec 1 := Scalar.cmpi .ne v421 c0_i32_156
  let v423 : BitVec 1 := Scalar.andi v420 v422
  let v409 : BitVec 32 := Scalar.divsi v408 c2_i32_151
  let c1_i32_157 : BitVec 32 := 1#32
  let v424 : BitVec 32 := Scalar.subi v409 c1_i32_157
  let v425 : BitVec 32 := Scalar.select v423 v424 v409
  let v426 : BitVec 32 := Scalar.subi v425 c0_i32_158
  let c1_i32_160 : BitVec 32 := 1#32
  let v428 : BitVec 32 := Scalar.divsi v426 c1_i32_160
  let v429 : BitVec 32 := Scalar.muli v428 c1_i32_160
  let v430 : BitVec 32 := Scalar.addi c0_i32_158 v429
  let c1_i32_162 : BitVec 32 := 1#32
  let arg9 : BitVec 32 := Scf.iv v430 c1_i32_162 k0_t2
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  let v473 : BitVec 32 := v472
  let v566 : Index := Scalar.indexCast v473
  let c896_270 : Index := 896#32
  ![v566.toNat, 896]
def k0_off57 (i : grid0.Coords) (k0_t2 : Fin (k0_t2_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let v408 : BitVec 32 := Scalar.subi arg2 v404
  let c0_i32_152 : BitVec 32 := 0#32
  let v410 : BitVec 1 := Scalar.cmpi .sgt v408 c0_i32_152
  let v411 : BitVec 32 := Scalar.extui v410
  let c0_i32_153 : BitVec 32 := 0#32
  let v412 : BitVec 1 := Scalar.cmpi .slt v408 c0_i32_153
  let v413 : BitVec 32 := Scalar.extui v412
  let v414 : BitVec 32 := Scalar.subi v411 v413
  let c2_i32_151 : BitVec 32 := 2#32
  let c0_i32_154 : BitVec 32 := 0#32
  let v415 : BitVec 1 := Scalar.cmpi .sgt c2_i32_151 c0_i32_154
  let v416 : BitVec 32 := Scalar.extui v415
  let c0_i32_155 : BitVec 32 := 0#32
  let v417 : BitVec 1 := Scalar.cmpi .slt c2_i32_151 c0_i32_155
  let v418 : BitVec 32 := Scalar.extui v417
  let v419 : BitVec 32 := Scalar.subi v416 v418
  let v420 : BitVec 1 := Scalar.cmpi .ne v414 v419
  let v421 : BitVec 32 := Scalar.remsi v408 c2_i32_151
  let c0_i32_156 : BitVec 32 := 0#32
  let v422 : BitVec 1 := Scalar.cmpi .ne v421 c0_i32_156
  let v423 : BitVec 1 := Scalar.andi v420 v422
  let v409 : BitVec 32 := Scalar.divsi v408 c2_i32_151
  let c1_i32_157 : BitVec 32 := 1#32
  let v424 : BitVec 32 := Scalar.subi v409 c1_i32_157
  let v425 : BitVec 32 := Scalar.select v423 v424 v409
  let v426 : BitVec 32 := Scalar.subi v425 c0_i32_158
  let c1_i32_160 : BitVec 32 := 1#32
  let v428 : BitVec 32 := Scalar.divsi v426 c1_i32_160
  let v429 : BitVec 32 := Scalar.muli v428 c1_i32_160
  let v430 : BitVec 32 := Scalar.addi c0_i32_158 v429
  let c1_i32_162 : BitVec 32 := 1#32
  let arg9 : BitVec 32 := Scf.iv v430 c1_i32_162 k0_t2
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  let v473 : BitVec 32 := v472
  let v882 : Index := Scalar.indexCast v473
  let c0_358 : Index := 0#32
  ![v882.toNat, 0]
def k0_off58 (i : grid0.Coords) (k0_t2 : Fin (k0_t2_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let v408 : BitVec 32 := Scalar.subi arg2 v404
  let c0_i32_152 : BitVec 32 := 0#32
  let v410 : BitVec 1 := Scalar.cmpi .sgt v408 c0_i32_152
  let v411 : BitVec 32 := Scalar.extui v410
  let c0_i32_153 : BitVec 32 := 0#32
  let v412 : BitVec 1 := Scalar.cmpi .slt v408 c0_i32_153
  let v413 : BitVec 32 := Scalar.extui v412
  let v414 : BitVec 32 := Scalar.subi v411 v413
  let c2_i32_151 : BitVec 32 := 2#32
  let c0_i32_154 : BitVec 32 := 0#32
  let v415 : BitVec 1 := Scalar.cmpi .sgt c2_i32_151 c0_i32_154
  let v416 : BitVec 32 := Scalar.extui v415
  let c0_i32_155 : BitVec 32 := 0#32
  let v417 : BitVec 1 := Scalar.cmpi .slt c2_i32_151 c0_i32_155
  let v418 : BitVec 32 := Scalar.extui v417
  let v419 : BitVec 32 := Scalar.subi v416 v418
  let v420 : BitVec 1 := Scalar.cmpi .ne v414 v419
  let v421 : BitVec 32 := Scalar.remsi v408 c2_i32_151
  let c0_i32_156 : BitVec 32 := 0#32
  let v422 : BitVec 1 := Scalar.cmpi .ne v421 c0_i32_156
  let v423 : BitVec 1 := Scalar.andi v420 v422
  let v409 : BitVec 32 := Scalar.divsi v408 c2_i32_151
  let c1_i32_157 : BitVec 32 := 1#32
  let v424 : BitVec 32 := Scalar.subi v409 c1_i32_157
  let v425 : BitVec 32 := Scalar.select v423 v424 v409
  let v426 : BitVec 32 := Scalar.subi v425 c0_i32_158
  let c1_i32_160 : BitVec 32 := 1#32
  let v428 : BitVec 32 := Scalar.divsi v426 c1_i32_160
  let v429 : BitVec 32 := Scalar.muli v428 c1_i32_160
  let v430 : BitVec 32 := Scalar.addi c0_i32_158 v429
  let c1_i32_162 : BitVec 32 := 1#32
  let arg9 : BitVec 32 := Scf.iv v430 c1_i32_162 k0_t2
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  let v473 : BitVec 32 := v472
  let v916 : Index := Scalar.indexCast v473
  let c128_372 : Index := 128#32
  ![v916.toNat, 128]
def k0_off59 (i : grid0.Coords) (k0_t2 : Fin (k0_t2_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let v408 : BitVec 32 := Scalar.subi arg2 v404
  let c0_i32_152 : BitVec 32 := 0#32
  let v410 : BitVec 1 := Scalar.cmpi .sgt v408 c0_i32_152
  let v411 : BitVec 32 := Scalar.extui v410
  let c0_i32_153 : BitVec 32 := 0#32
  let v412 : BitVec 1 := Scalar.cmpi .slt v408 c0_i32_153
  let v413 : BitVec 32 := Scalar.extui v412
  let v414 : BitVec 32 := Scalar.subi v411 v413
  let c2_i32_151 : BitVec 32 := 2#32
  let c0_i32_154 : BitVec 32 := 0#32
  let v415 : BitVec 1 := Scalar.cmpi .sgt c2_i32_151 c0_i32_154
  let v416 : BitVec 32 := Scalar.extui v415
  let c0_i32_155 : BitVec 32 := 0#32
  let v417 : BitVec 1 := Scalar.cmpi .slt c2_i32_151 c0_i32_155
  let v418 : BitVec 32 := Scalar.extui v417
  let v419 : BitVec 32 := Scalar.subi v416 v418
  let v420 : BitVec 1 := Scalar.cmpi .ne v414 v419
  let v421 : BitVec 32 := Scalar.remsi v408 c2_i32_151
  let c0_i32_156 : BitVec 32 := 0#32
  let v422 : BitVec 1 := Scalar.cmpi .ne v421 c0_i32_156
  let v423 : BitVec 1 := Scalar.andi v420 v422
  let v409 : BitVec 32 := Scalar.divsi v408 c2_i32_151
  let c1_i32_157 : BitVec 32 := 1#32
  let v424 : BitVec 32 := Scalar.subi v409 c1_i32_157
  let v425 : BitVec 32 := Scalar.select v423 v424 v409
  let v426 : BitVec 32 := Scalar.subi v425 c0_i32_158
  let c1_i32_160 : BitVec 32 := 1#32
  let v428 : BitVec 32 := Scalar.divsi v426 c1_i32_160
  let v429 : BitVec 32 := Scalar.muli v428 c1_i32_160
  let v430 : BitVec 32 := Scalar.addi c0_i32_158 v429
  let c1_i32_162 : BitVec 32 := 1#32
  let arg9 : BitVec 32 := Scf.iv v430 c1_i32_162 k0_t2
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  let v473 : BitVec 32 := v472
  let v950 : Index := Scalar.indexCast v473
  let c256_386 : Index := 256#32
  ![v950.toNat, 256]
def k0_off60 (i : grid0.Coords) (k0_t2 : Fin (k0_t2_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let v408 : BitVec 32 := Scalar.subi arg2 v404
  let c0_i32_152 : BitVec 32 := 0#32
  let v410 : BitVec 1 := Scalar.cmpi .sgt v408 c0_i32_152
  let v411 : BitVec 32 := Scalar.extui v410
  let c0_i32_153 : BitVec 32 := 0#32
  let v412 : BitVec 1 := Scalar.cmpi .slt v408 c0_i32_153
  let v413 : BitVec 32 := Scalar.extui v412
  let v414 : BitVec 32 := Scalar.subi v411 v413
  let c2_i32_151 : BitVec 32 := 2#32
  let c0_i32_154 : BitVec 32 := 0#32
  let v415 : BitVec 1 := Scalar.cmpi .sgt c2_i32_151 c0_i32_154
  let v416 : BitVec 32 := Scalar.extui v415
  let c0_i32_155 : BitVec 32 := 0#32
  let v417 : BitVec 1 := Scalar.cmpi .slt c2_i32_151 c0_i32_155
  let v418 : BitVec 32 := Scalar.extui v417
  let v419 : BitVec 32 := Scalar.subi v416 v418
  let v420 : BitVec 1 := Scalar.cmpi .ne v414 v419
  let v421 : BitVec 32 := Scalar.remsi v408 c2_i32_151
  let c0_i32_156 : BitVec 32 := 0#32
  let v422 : BitVec 1 := Scalar.cmpi .ne v421 c0_i32_156
  let v423 : BitVec 1 := Scalar.andi v420 v422
  let v409 : BitVec 32 := Scalar.divsi v408 c2_i32_151
  let c1_i32_157 : BitVec 32 := 1#32
  let v424 : BitVec 32 := Scalar.subi v409 c1_i32_157
  let v425 : BitVec 32 := Scalar.select v423 v424 v409
  let v426 : BitVec 32 := Scalar.subi v425 c0_i32_158
  let c1_i32_160 : BitVec 32 := 1#32
  let v428 : BitVec 32 := Scalar.divsi v426 c1_i32_160
  let v429 : BitVec 32 := Scalar.muli v428 c1_i32_160
  let v430 : BitVec 32 := Scalar.addi c0_i32_158 v429
  let c1_i32_162 : BitVec 32 := 1#32
  let arg9 : BitVec 32 := Scf.iv v430 c1_i32_162 k0_t2
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  let v473 : BitVec 32 := v472
  let v984 : Index := Scalar.indexCast v473
  let c384_400 : Index := 384#32
  ![v984.toNat, 384]
def k0_off61 (i : grid0.Coords) (k0_t2 : Fin (k0_t2_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let v408 : BitVec 32 := Scalar.subi arg2 v404
  let c0_i32_152 : BitVec 32 := 0#32
  let v410 : BitVec 1 := Scalar.cmpi .sgt v408 c0_i32_152
  let v411 : BitVec 32 := Scalar.extui v410
  let c0_i32_153 : BitVec 32 := 0#32
  let v412 : BitVec 1 := Scalar.cmpi .slt v408 c0_i32_153
  let v413 : BitVec 32 := Scalar.extui v412
  let v414 : BitVec 32 := Scalar.subi v411 v413
  let c2_i32_151 : BitVec 32 := 2#32
  let c0_i32_154 : BitVec 32 := 0#32
  let v415 : BitVec 1 := Scalar.cmpi .sgt c2_i32_151 c0_i32_154
  let v416 : BitVec 32 := Scalar.extui v415
  let c0_i32_155 : BitVec 32 := 0#32
  let v417 : BitVec 1 := Scalar.cmpi .slt c2_i32_151 c0_i32_155
  let v418 : BitVec 32 := Scalar.extui v417
  let v419 : BitVec 32 := Scalar.subi v416 v418
  let v420 : BitVec 1 := Scalar.cmpi .ne v414 v419
  let v421 : BitVec 32 := Scalar.remsi v408 c2_i32_151
  let c0_i32_156 : BitVec 32 := 0#32
  let v422 : BitVec 1 := Scalar.cmpi .ne v421 c0_i32_156
  let v423 : BitVec 1 := Scalar.andi v420 v422
  let v409 : BitVec 32 := Scalar.divsi v408 c2_i32_151
  let c1_i32_157 : BitVec 32 := 1#32
  let v424 : BitVec 32 := Scalar.subi v409 c1_i32_157
  let v425 : BitVec 32 := Scalar.select v423 v424 v409
  let v426 : BitVec 32 := Scalar.subi v425 c0_i32_158
  let c1_i32_160 : BitVec 32 := 1#32
  let v428 : BitVec 32 := Scalar.divsi v426 c1_i32_160
  let v429 : BitVec 32 := Scalar.muli v428 c1_i32_160
  let v430 : BitVec 32 := Scalar.addi c0_i32_158 v429
  let c1_i32_162 : BitVec 32 := 1#32
  let arg9 : BitVec 32 := Scf.iv v430 c1_i32_162 k0_t2
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  let v473 : BitVec 32 := v472
  let v1018 : Index := Scalar.indexCast v473
  let c512_414 : Index := 512#32
  ![v1018.toNat, 512]
def k0_off62 (i : grid0.Coords) (k0_t2 : Fin (k0_t2_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let v408 : BitVec 32 := Scalar.subi arg2 v404
  let c0_i32_152 : BitVec 32 := 0#32
  let v410 : BitVec 1 := Scalar.cmpi .sgt v408 c0_i32_152
  let v411 : BitVec 32 := Scalar.extui v410
  let c0_i32_153 : BitVec 32 := 0#32
  let v412 : BitVec 1 := Scalar.cmpi .slt v408 c0_i32_153
  let v413 : BitVec 32 := Scalar.extui v412
  let v414 : BitVec 32 := Scalar.subi v411 v413
  let c2_i32_151 : BitVec 32 := 2#32
  let c0_i32_154 : BitVec 32 := 0#32
  let v415 : BitVec 1 := Scalar.cmpi .sgt c2_i32_151 c0_i32_154
  let v416 : BitVec 32 := Scalar.extui v415
  let c0_i32_155 : BitVec 32 := 0#32
  let v417 : BitVec 1 := Scalar.cmpi .slt c2_i32_151 c0_i32_155
  let v418 : BitVec 32 := Scalar.extui v417
  let v419 : BitVec 32 := Scalar.subi v416 v418
  let v420 : BitVec 1 := Scalar.cmpi .ne v414 v419
  let v421 : BitVec 32 := Scalar.remsi v408 c2_i32_151
  let c0_i32_156 : BitVec 32 := 0#32
  let v422 : BitVec 1 := Scalar.cmpi .ne v421 c0_i32_156
  let v423 : BitVec 1 := Scalar.andi v420 v422
  let v409 : BitVec 32 := Scalar.divsi v408 c2_i32_151
  let c1_i32_157 : BitVec 32 := 1#32
  let v424 : BitVec 32 := Scalar.subi v409 c1_i32_157
  let v425 : BitVec 32 := Scalar.select v423 v424 v409
  let v426 : BitVec 32 := Scalar.subi v425 c0_i32_158
  let c1_i32_160 : BitVec 32 := 1#32
  let v428 : BitVec 32 := Scalar.divsi v426 c1_i32_160
  let v429 : BitVec 32 := Scalar.muli v428 c1_i32_160
  let v430 : BitVec 32 := Scalar.addi c0_i32_158 v429
  let c1_i32_162 : BitVec 32 := 1#32
  let arg9 : BitVec 32 := Scf.iv v430 c1_i32_162 k0_t2
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  let v473 : BitVec 32 := v472
  let v1052 : Index := Scalar.indexCast v473
  let c640_428 : Index := 640#32
  ![v1052.toNat, 640]
def k0_off63 (i : grid0.Coords) (k0_t2 : Fin (k0_t2_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let v408 : BitVec 32 := Scalar.subi arg2 v404
  let c0_i32_152 : BitVec 32 := 0#32
  let v410 : BitVec 1 := Scalar.cmpi .sgt v408 c0_i32_152
  let v411 : BitVec 32 := Scalar.extui v410
  let c0_i32_153 : BitVec 32 := 0#32
  let v412 : BitVec 1 := Scalar.cmpi .slt v408 c0_i32_153
  let v413 : BitVec 32 := Scalar.extui v412
  let v414 : BitVec 32 := Scalar.subi v411 v413
  let c2_i32_151 : BitVec 32 := 2#32
  let c0_i32_154 : BitVec 32 := 0#32
  let v415 : BitVec 1 := Scalar.cmpi .sgt c2_i32_151 c0_i32_154
  let v416 : BitVec 32 := Scalar.extui v415
  let c0_i32_155 : BitVec 32 := 0#32
  let v417 : BitVec 1 := Scalar.cmpi .slt c2_i32_151 c0_i32_155
  let v418 : BitVec 32 := Scalar.extui v417
  let v419 : BitVec 32 := Scalar.subi v416 v418
  let v420 : BitVec 1 := Scalar.cmpi .ne v414 v419
  let v421 : BitVec 32 := Scalar.remsi v408 c2_i32_151
  let c0_i32_156 : BitVec 32 := 0#32
  let v422 : BitVec 1 := Scalar.cmpi .ne v421 c0_i32_156
  let v423 : BitVec 1 := Scalar.andi v420 v422
  let v409 : BitVec 32 := Scalar.divsi v408 c2_i32_151
  let c1_i32_157 : BitVec 32 := 1#32
  let v424 : BitVec 32 := Scalar.subi v409 c1_i32_157
  let v425 : BitVec 32 := Scalar.select v423 v424 v409
  let v426 : BitVec 32 := Scalar.subi v425 c0_i32_158
  let c1_i32_160 : BitVec 32 := 1#32
  let v428 : BitVec 32 := Scalar.divsi v426 c1_i32_160
  let v429 : BitVec 32 := Scalar.muli v428 c1_i32_160
  let v430 : BitVec 32 := Scalar.addi c0_i32_158 v429
  let c1_i32_162 : BitVec 32 := 1#32
  let arg9 : BitVec 32 := Scf.iv v430 c1_i32_162 k0_t2
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  let v473 : BitVec 32 := v472
  let v1086 : Index := Scalar.indexCast v473
  let c768_442 : Index := 768#32
  ![v1086.toNat, 768]
def k0_off64 (i : grid0.Coords) (k0_t2 : Fin (k0_t2_loop i).trips) : Fin 2 → Nat :=
  let arg2 : BitVec 32 := BitVec.ofNat 32 (i 2).val
  let c1_i32_203 : BitVec 32 := 1#32
  let v465 : BitVec 32 := Scalar.subi arg2 c1_i32_203
  let c2_i32 : BitVec 32 := 2#32
  let c0_i32 : BitVec 32 := 0#32
  let v395 : BitVec 1 := Scalar.cmpi .eq c2_i32 c0_i32
  let c1_i32 : BitVec 32 := 1#32
  let v396 : BitVec 32 := Scalar.select v395 c1_i32 c2_i32
  let v397 : BitVec 32 := Scalar.remsi arg2 v396
  let c0_i32_147 : BitVec 32 := 0#32
  let v399 : BitVec 1 := Scalar.cmpi .slt v397 c0_i32_147
  let c0_i32_148 : BitVec 32 := 0#32
  let v400 : BitVec 1 := Scalar.cmpi .slt v396 c0_i32_148
  let v401 : BitVec 1 := Scalar.xori v399 v400
  let c0_i32_146 : BitVec 32 := 0#32
  let v398 : BitVec 1 := Scalar.cmpi .ne v397 c0_i32_146
  let v402 : BitVec 1 := Scalar.andi v401 v398
  let v403 : BitVec 32 := Scalar.addi v397 v396
  let v404 : BitVec 32 := Scalar.select v402 v403 v397
  let v466 : BitVec 32 := Scalar.subi v465 v404
  let c2_i32_204 : BitVec 32 := 2#32
  let c0_i32_158 : BitVec 32 := 0#32
  let v408 : BitVec 32 := Scalar.subi arg2 v404
  let c0_i32_152 : BitVec 32 := 0#32
  let v410 : BitVec 1 := Scalar.cmpi .sgt v408 c0_i32_152
  let v411 : BitVec 32 := Scalar.extui v410
  let c0_i32_153 : BitVec 32 := 0#32
  let v412 : BitVec 1 := Scalar.cmpi .slt v408 c0_i32_153
  let v413 : BitVec 32 := Scalar.extui v412
  let v414 : BitVec 32 := Scalar.subi v411 v413
  let c2_i32_151 : BitVec 32 := 2#32
  let c0_i32_154 : BitVec 32 := 0#32
  let v415 : BitVec 1 := Scalar.cmpi .sgt c2_i32_151 c0_i32_154
  let v416 : BitVec 32 := Scalar.extui v415
  let c0_i32_155 : BitVec 32 := 0#32
  let v417 : BitVec 1 := Scalar.cmpi .slt c2_i32_151 c0_i32_155
  let v418 : BitVec 32 := Scalar.extui v417
  let v419 : BitVec 32 := Scalar.subi v416 v418
  let v420 : BitVec 1 := Scalar.cmpi .ne v414 v419
  let v421 : BitVec 32 := Scalar.remsi v408 c2_i32_151
  let c0_i32_156 : BitVec 32 := 0#32
  let v422 : BitVec 1 := Scalar.cmpi .ne v421 c0_i32_156
  let v423 : BitVec 1 := Scalar.andi v420 v422
  let v409 : BitVec 32 := Scalar.divsi v408 c2_i32_151
  let c1_i32_157 : BitVec 32 := 1#32
  let v424 : BitVec 32 := Scalar.subi v409 c1_i32_157
  let v425 : BitVec 32 := Scalar.select v423 v424 v409
  let v426 : BitVec 32 := Scalar.subi v425 c0_i32_158
  let c1_i32_160 : BitVec 32 := 1#32
  let v428 : BitVec 32 := Scalar.divsi v426 c1_i32_160
  let v429 : BitVec 32 := Scalar.muli v428 c1_i32_160
  let v430 : BitVec 32 := Scalar.addi c0_i32_158 v429
  let c1_i32_162 : BitVec 32 := 1#32
  let arg9 : BitVec 32 := Scf.iv v430 c1_i32_162 k0_t2
  let v467 : BitVec 32 := Scalar.muli c2_i32_204 arg9
  let v468 : BitVec 32 := Scalar.subi v466 v467
  let c1_i32_206 : BitVec 32 := 1#32
  let v471 : BitVec 32 := Scalar.subi v468 c1_i32_206
  let c256_i32_207 : BitVec 32 := 256#32
  let v472 : BitVec 32 := Scalar.muli v471 c256_i32_207
  let v473 : BitVec 32 := v472
  let v1120 : Index := Scalar.indexCast v473
  let c896_456 : Index := 896#32
  ![v1120.toNat, 896]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S16384x12288 : Shape := ⟨2, ![16384, 12288]⟩
abbrev S4x4096x12288 : Shape := ⟨3, ![4, 4096, 12288]⟩
abbrev S4x4096x4096 : Shape := ⟨3, ![4, 4096, 4096]⟩
abbrev S4x4096x32x128 : Shape := ⟨4, ![4, 4096, 32, 128]⟩
abbrev S4x32x4096x128 : Shape := ⟨4, ![4, 32, 4096, 128]⟩
abbrev S_ : Shape := ⟨0, ![]⟩
abbrev S4x32x4096x4096 : Shape := ⟨4, ![4, 32, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S16384x4096 : Shape := ⟨2, ![16384, 4096]⟩

abbrev nBuf : Space → Nat
  | .hbm => 78
  | .vmem => 0
  | .smem => 0
  | _ => 0

abbrev bufTy : (tb : Table) → Fin (tcTables nBuf tb) → BufTy
  | .hbm, ⟨0, _⟩ => ⟨S16384x12288, .f32⟩
  | .hbm, ⟨1, _⟩ => ⟨S4x4096x12288, .f32⟩
  | .hbm, ⟨2, _⟩ => ⟨S4x4096x4096, .f32⟩
  | .hbm, ⟨3, _⟩ => ⟨S4x4096x4096, .f32⟩
  | .hbm, ⟨4, _⟩ => ⟨S4x4096x4096, .f32⟩
  | .hbm, ⟨5, _⟩ => ⟨S4x4096x32x128, .f32⟩
  | .hbm, ⟨6, _⟩ => ⟨S4x32x4096x128, .f32⟩
  | .hbm, ⟨7, _⟩ => ⟨S4x4096x32x128, .f32⟩
  | .hbm, ⟨8, _⟩ => ⟨S4x32x4096x128, .f32⟩
  | .hbm, ⟨9, _⟩ => ⟨S4x4096x32x128, .f32⟩
  | .hbm, ⟨10, _⟩ => ⟨S4x32x4096x128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4x32x4096x4096, .f32⟩
  | .hbm, ⟨16, _⟩ => ⟨S4x32x4096x4096, .f32⟩
  | .hbm, ⟨17, _⟩ => ⟨S4x32x4096x4096, .f32⟩
  | .hbm, ⟨18, _⟩ => ⟨S4096, .i32⟩
  | .hbm, ⟨19, _⟩ => ⟨S4096x1, .i32⟩
  | .hbm, ⟨20, _⟩ => ⟨S4096, .i32⟩
  | .hbm, ⟨21, _⟩ => ⟨S1x4096, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S4x32x4096x4096, .f32⟩
  | .hbm, ⟨26, _⟩ => ⟨S_, .f32⟩
  | .hbm, ⟨27, _⟩ => ⟨S4x32x4096x4096, .f32⟩
  | .hbm, ⟨28, _⟩ => ⟨S4x32x4096x4096, .f32⟩
  | .hbm, ⟨29, _⟩ => ⟨S4x32x4096x4096, .f32⟩
  | .hbm, ⟨30, _⟩ => ⟨S4x32x4096x4096, .f32⟩
  | .hbm, ⟨31, _⟩ => ⟨S4x32x4096x4096, .i1⟩
  | .hbm, ⟨32, _⟩ => ⟨S4x32x4096x4096, .f32⟩
  | .hbm, ⟨33, _⟩ => ⟨S4x32x4096x4096, .f32⟩
  | .hbm, ⟨34, _⟩ => ⟨S4x32x4096x4096, .f32⟩
  | .hbm, ⟨35, _⟩ => ⟨S4x32x4096x4096, .f32⟩
  | .hbm, ⟨36, _⟩ => ⟨S4x32x4096x4096, .f32⟩
  | .hbm, ⟨37, _⟩ => ⟨S4x32x4096x4096, .f32⟩
  | .hbm, ⟨38, _⟩ => ⟨S4x32x4096x4096, .f32⟩
  | .hbm, ⟨39, _⟩ => ⟨S4x32x4096x4096, .f32⟩
  | .hbm, ⟨40, _⟩ => ⟨S4x32x4096x4096, .f32⟩
  | .hbm, ⟨41, _⟩ => ⟨S4x32x4096x4096, .f32⟩
  | .hbm, ⟨42, _⟩ => ⟨S4x32x4096x4096, .f32⟩
  | .hbm, ⟨43, _⟩ => ⟨S_, .f32⟩
  | .hbm, ⟨44, _⟩ => ⟨S4x32x4096x4096, .f32⟩
  | .hbm, ⟨45, _⟩ => ⟨S4x32x4096x4096, .f32⟩
  | .hbm, ⟨46, _⟩ => ⟨S4x32x4096x4096, .f32⟩
  | .hbm, ⟨47, _⟩ => ⟨S4x32x4096x4096, .f32⟩
  | .hbm, ⟨48, _⟩ => ⟨S4x32x4096x4096, .i1⟩
  | .hbm, ⟨49, _⟩ => ⟨S4x32x4096x4096, .f32⟩
  | .hbm, ⟨50, _⟩ => ⟨S4x32x4096x4096, .f32⟩
  | .hbm, ⟨51, _⟩ => ⟨S4x32x4096x4096, .f32⟩
  | .hbm, ⟨52, _⟩ => ⟨S4x32x4096x4096, .f32⟩
  | .hbm, ⟨53, _⟩ => ⟨S4x32x4096x4096, .f32⟩
  | .hbm, ⟨54, _⟩ => ⟨S4x32x4096x4096, .f32⟩
  | .hbm, ⟨55, _⟩ => ⟨S4x32x4096x4096, .f32⟩
  | .hbm, ⟨56, _⟩ => ⟨S4x32x4096x4096, .f32⟩
  | .hbm, ⟨57, _⟩ => ⟨S4x32x4096x4096, .f32⟩
  | .hbm, ⟨58, _⟩ => ⟨S_, .f32⟩
  | .hbm, ⟨59, _⟩ => ⟨S_, .f32⟩
  | .hbm, ⟨60, _⟩ => ⟨S4x32x4096x4096, .i1⟩
  | .hbm, ⟨61, _⟩ => ⟨S4x32x4096x4096, .f32⟩
  | .hbm, ⟨62, _⟩ => ⟨S4x32x4096x4096, .f32⟩
  | .hbm, ⟨63, _⟩ => ⟨S_, .f32⟩
  | .hbm, ⟨64, _⟩ => ⟨S_, .f32⟩
  | .hbm, ⟨65, _⟩ => ⟨S4x32x4096x4096, .f32⟩
  | .hbm, ⟨66, _⟩ => ⟨S4x32x4096x4096, .f32⟩
  | .hbm, ⟨67, _⟩ => ⟨S4x32x4096x4096, .f32⟩
  | .hbm, ⟨68, _⟩ => ⟨S4x32x4096x4096, .f32⟩
  | .hbm, ⟨69, _⟩ => ⟨S_, .f32⟩
  | .hbm, ⟨70, _⟩ => ⟨S_, .f32⟩
  | .hbm, ⟨71, _⟩ => ⟨S4x32x4096x4096, .i1⟩
  | .hbm, ⟨72, _⟩ => ⟨S4x32x4096x4096, .f32⟩
  | .hbm, ⟨73, _⟩ => ⟨S4x32x4096x4096, .f32⟩
  | .hbm, ⟨74, _⟩ => ⟨S4x32x4096x128, .f32⟩
  | .hbm, ⟨75, _⟩ => ⟨S4x4096x32x128, .f32⟩
  | .hbm, ⟨76, _⟩ => ⟨S16384x4096, .f32⟩
  | .hbm, ⟨77, _⟩ => ⟨S16384x4096, .bf16⟩
  | _, _ => ⟨S16384x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v22 : Ref sig .tc := ⟨.hbm, 40, rfl⟩
abbrev main_v23 : Ref sig .tc := ⟨.hbm, 41, rfl⟩
abbrev main_call1_v0 : Ref sig .tc := ⟨.hbm, 42, rfl⟩
abbrev main_call1_call0_cst : Ref sig .tc := ⟨.hbm, 43, rfl⟩
abbrev main_call1_call0_v0 : Ref sig .tc := ⟨.hbm, 44, rfl⟩
abbrev main_call1_call0_v1 : Ref sig .tc := ⟨.hbm, 45, rfl⟩
abbrev main_call1_call0_v2 : Ref sig .tc := ⟨.hbm, 46, rfl⟩
abbrev main_call1_call0_v3 : Ref sig .tc := ⟨.hbm, 47, rfl⟩
abbrev main_call1_call0_v4 : Ref sig .tc := ⟨.hbm, 48, rfl⟩
abbrev main_call1_call0_v5 : Ref sig .tc := ⟨.hbm, 49, rfl⟩
abbrev main_call1_call0_v6 : Ref sig .tc := ⟨.hbm, 50, rfl⟩
abbrev main_call1_call0_v7 : Ref sig .tc := ⟨.hbm, 51, rfl⟩
abbrev main_call1_call0_v8 : Ref sig .tc := ⟨.hbm, 52, rfl⟩
abbrev main_call1_call0_v9 : Ref sig .tc := ⟨.hbm, 53, rfl⟩
abbrev main_call1_call0_v10 : Ref sig .tc := ⟨.hbm, 54, rfl⟩
abbrev main_call1_call0_v11 : Ref sig .tc := ⟨.hbm, 55, rfl⟩
abbrev main_call1_v1 : Ref sig .tc := ⟨.hbm, 56, rfl⟩
abbrev main_v24 : Ref sig .tc := ⟨.hbm, 57, rfl⟩
abbrev main_cst_1 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v25 : Ref sig .tc := ⟨.hbm, 62, rfl⟩
abbrev main_call3_cst : Ref sig .tc := ⟨.hbm, 63, rfl⟩
abbrev main_call3_v0 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_cst_2 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩

abbrev nD : Nat := 1
abbrev τ : Topo := Topo.v7x

variable {F : FTy → Type} [FloatOps F]
-- ==== Up.lean ====
abbrev S16384x4096 : Shape := ⟨2, ![16384, 4096]⟩
abbrev S4096 : Shape := ⟨1, ![4096]⟩
abbrev S4096x16384 : Shape := ⟨2, ![4096, 16384]⟩
abbrev S4x16384x4096 : Shape := ⟨3, ![4, 16384, 4096]⟩
abbrev S4x4096x4096 : Shape := ⟨3, ![4, 4096, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x128 : Shape := ⟨2, ![16384, 128]⟩
abbrev S16384x16384 : Shape := ⟨2, ![16384, 16384]⟩
abbrev S4096x4096 : Shape := ⟨2, ![4096, 4096]⟩
abbrev S1024x4096 : Shape := ⟨2, ![1024, 4096]⟩
abbrev S4096x1024 : Shape := ⟨2, ![4096, 1024]⟩
abbrev S1024x128 : Shape := ⟨2, ![1024, 128]⟩
abbrev S1x64x4096 : Shape := ⟨3, ![1, 64, 4096]⟩
abbrev S1x16x4096 : Shape := ⟨3, ![1, 16, 4096]⟩
abbrev S1024x1024 : Shape := ⟨2, ![1024, 1024]⟩
abbrev S64x4096 : Shape := ⟨2, ![64, 4096]⟩
abbrev S16x4096 : Shape := ⟨2, ![16, 4096]⟩

abbrev nBuf : Space → Nat
  | .hbm => 18
  | .vmem => 16
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x16384, .f32⟩
  | .hbm, ⟨3, _⟩ => ⟨S4x16384x4096, .f32⟩
  | .hbm, ⟨4, _⟩ => ⟨S4x4096x4096, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S1x4096, .f32⟩
  | .hbm, ⟨10, _⟩ => ⟨S16384x4096, .f32⟩
  | .hbm, ⟨11, _⟩ => ⟨S16384x4096, .f32⟩
  | .hbm, ⟨12, _⟩ => ⟨S16384x4096, .bf16⟩
  | .hbm, ⟨13, _⟩ => ⟨S16384x128, .f32⟩
  | .hbm, ⟨14, _⟩ => ⟨S4096x16384, .bf16⟩
  | .hbm, ⟨15, _⟩ => ⟨S16384x16384, .bf16⟩
  | .hbm, ⟨16, _⟩ => ⟨S16384x4096, .bf16⟩
  | .hbm, ⟨17, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x128, .f32⟩
  | .local _ .vmem, ⟨5, _⟩ => ⟨S1024x128, .f32⟩
  | .local _ .vmem, ⟨6, _⟩ => ⟨S1x64x4096, .f32⟩
  | .local _ .vmem, ⟨7, _⟩ => ⟨S1x64x4096, .f32⟩
  | .local _ .vmem, ⟨8, _⟩ => ⟨S1x16x4096, .f32⟩
  | .local _ .vmem, ⟨9, _⟩ => ⟨S1x16x4096, .f32⟩
  | .local _ .vmem, ⟨10, _⟩ => ⟨S1024x1024, .bf16⟩
  | .local _ .vmem, ⟨11, _⟩ => ⟨S1024x1024, .bf16⟩
  | .local _ .vmem, ⟨12, _⟩ => ⟨S64x4096, .bf16⟩
  | .local _ .vmem, ⟨13, _⟩ => ⟨S64x4096, .bf16⟩
  | .local _ .vmem, ⟨14, _⟩ => ⟨S16x4096, .bf16⟩
  | .local _ .vmem, ⟨15, _⟩ => ⟨S16x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![16, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.muli v1 c1_i32
  let v3 : BitVec 32 := Scalar.addi v2 arg2
  let c256_i32 : BitVec 32 := 256#32
  let v4 : BitVec 32 := Scalar.muli v3 c256_i32
  let c256_i32_0 : BitVec 32 := 256#32
  let v5 : BitVec 32 := Scalar.divsi v4 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c256_i32_0 c0_i32_2
  let v12 : BitVec 32 := Scalar.extui v11
  let c0_i32_3 : BitVec 32 := 0#32
  let v13 : BitVec 1 := Scalar.cmpi .slt c256_i32_0 c0_i32_3
  let v14 : BitVec 32 := Scalar.extui v13
  let v15 : BitVec 32 := Scalar.subi v12 v14
  let v16 : BitVec 1 := Scalar.cmpi .ne v10 v15
  let v17 : BitVec 32 := Scalar.remsi v4 c256_i32_0
  let c0_i32_4 : BitVec 32 := 0#32
  let v18 : BitVec 1 := Scalar.cmpi .ne v17 c0_i32_4
  let v19 : BitVec 1 := Scalar.andi v16 v18
  let c1_i32_5 : BitVec 32 := 1#32
  let v20 : BitVec 32 := Scalar.subi v5 c1_i32_5
  let v21 : BitVec 32 := Scalar.select v19 v20 v5
  let c1_i32_6 : BitVec 32 := 1#32
  let c0_i32_7 : BitVec 32 := 0#32
  let c0_i32_8 : BitVec 32 := 0#32
  ![c1_i32_6.toNat, v21.toNat, c0_i32_7.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.muli v1 c1_i32
  let v3 : BitVec 32 := Scalar.addi v2 arg2
  let c256_i32 : BitVec 32 := 256#32
  let v4 : BitVec 32 := Scalar.muli v3 c256_i32
  let c256_i32_0 : BitVec 32 := 256#32
  let v5 : BitVec 32 := Scalar.divsi v4 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c256_i32_0 c0_i32_2
  let v12 : BitVec 32 := Scalar.extui v11
  let c0_i32_3 : BitVec 32 := 0#32
  let v13 : BitVec 1 := Scalar.cmpi .slt c256_i32_0 c0_i32_3
  let v14 : BitVec 32 := Scalar.extui v13
  let v15 : BitVec 32 := Scalar.subi v12 v14
  let v16 : BitVec 1 := Scalar.cmpi .ne v10 v15
  let v17 : BitVec 32 := Scalar.remsi v4 c256_i32_0
  let c0_i32_4 : BitVec 32 := 0#32
  let v18 : BitVec 1 := Scalar.cmpi .ne v17 c0_i32_4
  let v19 : BitVec 1 := Scalar.andi v16 v18
  let c1_i32_5 : BitVec 32 := 1#32
  let v20 : BitVec 32 := Scalar.subi v5 c1_i32_5
  let v21 : BitVec 32 := Scalar.select v19 v20 v5
  let c1_i32_6 : BitVec 32 := 1#32
  let c0_i32_7 : BitVec 32 := 0#32
  let c0_i32_8 : BitVec 32 := 0#32
  ![c1_i32_6.toNat, v21.toNat, c0_i32_7.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.muli v1 c1_i32
  let v3 : BitVec 32 := Scalar.addi v2 arg2
  let c256_i32 : BitVec 32 := 256#32
  let v4 : BitVec 32 := Scalar.muli v3 c256_i32
  let c256_i32_0 : BitVec 32 := 256#32
  let v5 : BitVec 32 := Scalar.divsi v4 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c256_i32_0 c0_i32_2
  let v12 : BitVec 32 := Scalar.extui v11
  let c0_i32_3 : BitVec 32 := 0#32
  let v13 : BitVec 1 := Scalar.cmpi .slt c256_i32_0 c0_i32_3
  let v14 : BitVec 32 := Scalar.extui v13
  let v15 : BitVec 32 := Scalar.subi v12 v14
  let v16 : BitVec 1 := Scalar.cmpi .ne v10 v15
  let v17 : BitVec 32 := Scalar.remsi v4 c256_i32_0
  let c0_i32_4 : BitVec 32 := 0#32
  let v18 : BitVec 1 := Scalar.cmpi .ne v17 c0_i32_4
  let v19 : BitVec 1 := Scalar.andi v16 v18
  let c1_i32_5 : BitVec 32 := 1#32
  let v20 : BitVec 32 := Scalar.subi v5 c1_i32_5
  let v21 : BitVec 32 := Scalar.select v19 v20 v5
  let c0_i32_6 : BitVec 32 := 0#32
  let c0_i32_7 : BitVec 32 := 0#32
  ![v21.toNat, c0_i32_6.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.muli v1 c1_i32
  let v3 : BitVec 32 := Scalar.addi v2 arg2
  let c256_i32 : BitVec 32 := 256#32
  let v4 : BitVec 32 := Scalar.muli v3 c256_i32
  let c256_i32_0 : BitVec 32 := 256#32
  let v5 : BitVec 32 := Scalar.divsi v4 c256_i32_0
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c0_i32_2 : BitVec 32 := 0#32
  let v11 : BitVec 1 := Scalar.cmpi .sgt c256_i32_0 c0_i32_2
  let v12 : BitVec 32 := Scalar.extui v11
  let c0_i32_3 : BitVec 32 := 0#32
  let v13 : BitVec 1 := Scalar.cmpi .slt c256_i32_0 c0_i32_3
  let v14 : BitVec 32 := Scalar.extui v13
  let v15 : BitVec 32 := Scalar.subi v12 v14
  let v16 : BitVec 1 := Scalar.cmpi .ne v10 v15
  let v17 : BitVec 32 := Scalar.remsi v4 c256_i32_0
  let c0_i32_4 : BitVec 32 := 0#32
  let v18 : BitVec 1 := Scalar.cmpi .ne v17 c0_i32_4
  let v19 : BitVec 1 := Scalar.andi v16 v18
  let c1_i32_5 : BitVec 32 := 1#32
  let v20 : BitVec 32 := Scalar.subi v5 c1_i32_5
  let v21 : BitVec 32 := Scalar.select v19 v20 v5
  let c0_i32_6 : BitVec 32 := 0#32
  let c0_i32_7 : BitVec 32 := 0#32
  ![v21.toNat, c0_i32_6.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x16x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S64x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S16x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== UpRefIdeal.lean ====
abbrev S16384x4096 : Shape := ⟨2, ![16384, 4096]⟩
abbrev S4096 : Shape := ⟨1, ![4096]⟩
abbrev S4096x16384 : Shape := ⟨2, ![4096, 16384]⟩
abbrev S4x16384x4096 : Shape := ⟨3, ![4, 16384, 4096]⟩
abbrev S4x4096x4096 : Shape := ⟨3, ![4, 4096, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x16384 : Shape := ⟨2, ![16384, 16384]⟩
abbrev S1x16384x4096 : Shape := ⟨3, ![1, 16384, 4096]⟩
abbrev S1x4096x4096 : Shape := ⟨3, ![1, 4096, 4096]⟩
abbrev S4096x4096 : Shape := ⟨2, ![4096, 4096]⟩

abbrev nBuf : Space → Nat
  | .hbm => 33
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x16384, .f32⟩
  | .hbm, ⟨3, _⟩ => ⟨S4x16384x4096, .f32⟩
  | .hbm, ⟨4, _⟩ => ⟨S4x4096x4096, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S1x4096, .f32⟩
  | .hbm, ⟨19, _⟩ => ⟨S16384x4096, .f32⟩
  | .hbm, ⟨20, _⟩ => ⟨S16384x4096, .f32⟩
  | .hbm, ⟨21, _⟩ => ⟨S16384x16384, .f32⟩
  | .hbm, ⟨22, _⟩ => ⟨S_, .f32⟩
  | .hbm, ⟨23, _⟩ => ⟨S16384x16384, .f32⟩
  | .hbm, ⟨24, _⟩ => ⟨S16384x16384, .f32⟩
  | .hbm, ⟨25, _⟩ => ⟨S16384x16384, .f32⟩
  | .hbm, ⟨26, _⟩ => ⟨S16384x16384, .bf16⟩
  | .hbm, ⟨27, _⟩ => ⟨S1x16384x4096, .f32⟩
  | .hbm, ⟨28, _⟩ => ⟨S16384x4096, .f32⟩
  | .hbm, ⟨29, _⟩ => ⟨S16384x4096, .bf16⟩
  | .hbm, ⟨30, _⟩ => ⟨S1x4096x4096, .f32⟩
  | .hbm, ⟨31, _⟩ => ⟨S4096x4096, .f32⟩
  | .hbm, ⟨32, _⟩ => ⟨S4096x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Down.lean ====
abbrev S16384x16384 : Shape := ⟨2, ![16384, 16384]⟩
abbrev S16384x4096 : Shape := ⟨2, ![16384, 4096]⟩
abbrev S4096 : Shape := ⟨1, ![4096]⟩
abbrev S1x4096 : Shape := ⟨2, ![1, 4096]⟩
abbrev S16384x128 : Shape := ⟨2, ![16384, 128]⟩
abbrev S1024x4096 : Shape := ⟨2, ![1024, 4096]⟩
abbrev S4096x1024 : Shape := ⟨2, ![4096, 1024]⟩
abbrev S1024x1024 : Shape := ⟨2, ![1024, 1024]⟩
abbrev S1x1024 : Shape := ⟨2, ![1, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 10
  | .vmem => 14
  | .smem => 0
  | _ => 0

abbrev bufTy : (tb : Table) → Fin (tcTables nBuf tb) → BufTy
  | .hbm, ⟨0, _⟩ => ⟨S16384x16384, .f32⟩
  | .hbm, ⟨1, _⟩ => ⟨S16384x4096, .f32⟩
  | .hbm, ⟨2, _⟩ => ⟨S16384x4096, .f32⟩
  | .hbm, ⟨3, _⟩ => ⟨S4096, .f32⟩
  | .hbm, ⟨4, _⟩ => ⟨S16384x16384, .bf16⟩
  | .hbm, ⟨5, _⟩ => ⟨S16384x4096, .bf16⟩
  | .hbm, ⟨6, _⟩ => ⟨S1x4096, .f32⟩
  | .hbm, ⟨7, _⟩ => ⟨S16384x4096, .f32⟩
  | .hbm, ⟨8, _⟩ => ⟨S16384x4096, .bf16⟩
  | .hbm, ⟨9, _⟩ => ⟨S16384x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x128, .f32⟩
  | .local _ .vmem, ⟨13, _⟩ => ⟨S1024x128, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let c3_i32 : BitVec 32 := 3#32
  let v4 : BitVec 1 := Scalar.cmpi .slt arg2 c3_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg1 : BitVec 32 := BitVec.ofNat 32 (i 1).val
  let c0_i32_17 : BitVec 32 := 0#32
  let v46 : BitVec 1 := Scalar.cmpi .eq arg1 c0_i32_17
  let v47 : BitVec 32 := Scalar.extui v46
  let c0_i32_18 : BitVec 32 := 0#32
  let v48 : BitVec 1 := Scalar.cmpi .ne v47 c0_i32_18
  v48

def k0_cond5 (i : grid0.Coords) : BitVec 1 :=
  let arg1 : BitVec 32 := BitVec.ofNat 32 (i 1).val
  let c0_i32_19 : BitVec 32 := 0#32
  let v49 : BitVec 1 := Scalar.cmpi .sgt arg1 c0_i32_19
  let v50 : BitVec 32 := Scalar.extui v49
  let c0_i32_20 : BitVec 32 := 0#32
  let v51 : BitVec 1 := Scalar.cmpi .ne v50 c0_i32_20
  v51

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== DownRefIdeal.lean ====
abbrev S16384x16384 : Shape := ⟨2, ![16384, 16384]⟩
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x128 : Shape := ⟨2, ![16384, 128]⟩

abbrev nBuf : Space → Nat
  | .hbm => 15
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x4096, .f32⟩
  | .hbm, ⟨2, _⟩ => ⟨S16384x4096, .f32⟩
  | .hbm, ⟨3, _⟩ => ⟨S4096, .f32⟩
  | .hbm, ⟨4, _⟩ => ⟨S16384x4096, .f32⟩
  | .hbm, ⟨5, _⟩ => ⟨S16384x4096, .f32⟩
  | .hbm, ⟨6, _⟩ => ⟨S16384x4096, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S1x4096, .f32⟩
  | .hbm, ⟨11, _⟩ => ⟨S16384x4096, .f32⟩
  | .hbm, ⟨12, _⟩ => ⟨S16384x4096, .f32⟩
  | .hbm, ⟨13, _⟩ => ⟨S16384x4096, .bf16⟩
  | .hbm, ⟨14, _⟩ => ⟨S16384x128, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Qkv.lean ====
abbrev S16384x4096 : Shape := ⟨2, ![16384, 4096]⟩
abbrev S4096 : Shape := ⟨1, ![4096]⟩
abbrev S4096x12288 : Shape := ⟨2, ![4096, 12288]⟩
abbrev S12288 : Shape := ⟨1, ![12288]⟩
abbrev S4x4096x16384 : Shape := ⟨3, ![4, 4096, 16384]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x128 : Shape := ⟨2, ![16384, 128]⟩
abbrev S1x12288 : Shape := ⟨2, ![1, 12288]⟩
abbrev S16384x12288 : Shape := ⟨2, ![16384, 12288]⟩
abbrev S4096x16384 : Shape := ⟨2, ![4096, 16384]⟩
abbrev S1024x4096 : Shape := ⟨2, ![1024, 4096]⟩
abbrev S4096x1024 : Shape := ⟨2, ![4096, 1024]⟩
abbrev S1024x128 : Shape := ⟨2, ![1024, 128]⟩
abbrev S1x1024 : Shape := ⟨2, ![1, 1024]⟩
abbrev S1x32x16384 : Shape := ⟨3, ![1, 32, 16384]⟩
abbrev S1024x1024 : Shape := ⟨2, ![1024, 1024]⟩
abbrev S32x16384 : Shape := ⟨2, ![32, 16384]⟩

abbrev nBuf : Space → Nat
  | .hbm => 18
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x12288, .f32⟩
  | .hbm, ⟨3, _⟩ => ⟨S12288, .f32⟩
  | .hbm, ⟨4, _⟩ => ⟨S4x4096x16384, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S1x4096, .f32⟩
  | .hbm, ⟨10, _⟩ => ⟨S16384x4096, .f32⟩
  | .hbm, ⟨11, _⟩ => ⟨S16384x4096, .f32⟩
  | .hbm, ⟨12, _⟩ => ⟨S16384x4096, .bf16⟩
  | .hbm, ⟨13, _⟩ => ⟨S16384x128, .f32⟩
  | .hbm, ⟨14, _⟩ => ⟨S4096x12288, .bf16⟩
  | .hbm, ⟨15, _⟩ => ⟨S1x12288, .f32⟩
  | .hbm, ⟨16, _⟩ => ⟨S16384x12288, .bf16⟩
  | .hbm, ⟨17, _⟩ => ⟨S4096x16384, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x128, .f32⟩
  | .local _ .vmem, ⟨5, _⟩ => ⟨S1024x128, .f32⟩
  | .local _ .vmem, ⟨6, _⟩ => ⟨S1x1024, .f32⟩
  | .local _ .vmem, ⟨7, _⟩ => ⟨S1x1024, .f32⟩
  | .local _ .vmem, ⟨8, _⟩ => ⟨S1x32x16384, .f32⟩
  | .local _ .vmem, ⟨9, _⟩ => ⟨S1x32x16384, .f32⟩
  | .local _ .vmem, ⟨10, _⟩ => ⟨S1024x1024, .bf16⟩
  | .local _ .vmem, ⟨11, _⟩ => ⟨S1024x1024, .bf16⟩
  | .local _ .vmem, ⟨12, _⟩ => ⟨S32x16384, .bf16⟩
  | .local _ .vmem, ⟨13, _⟩ => ⟨S32x16384, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.muli arg0 c12_i32
  let v1 : BitVec 32 := Scalar.addi v0 arg1
  let c1_i32 : BitVec 32 := 1#32
  let v2 : BitVec 32 := Scalar.muli v1 c1_i32
  let v3 : BitVec 32 := Scalar.addi v2 arg2
  let c128_i32 : BitVec 32 := 128#32
  let v4 : BitVec 32 := Scalar.muli v3 c128_i32
  let c192_i32 : BitVec 32 := 192#32
  let v5 : BitVec 32 := Scalar.divsi v4 c192_i32
  let c0_i32 : BitVec 32 := 0#32
  let v6 : BitVec 1 := Scalar.cmpi .sgt v4 c0_i32
  let v7 : BitVec 32 := Scalar.extui v6
  let c0_i32_0 : BitVec 32 := 0#32
  let v8 : BitVec 1 := Scalar.cmpi .slt v4 c0_i32_0
  let v9 : BitVec 32 := Scalar.extui v8
  let v10 : BitVec 32 := Scalar.subi v7 v9
  let c0_i32_1 : BitVec 32 := 0#32
  let v11 : BitVec 1 := Scalar.cmpi .sgt c192_i32 c0_i32_1
  let v12 : BitVec 32 := Scalar.extui v11
  let c0_i32_2 : BitVec 32 := 0#32
  let v13 : BitVec 1 := Scalar.cmpi .slt c192_i32 c0_i32_2
  let v14 : BitVec 32 := Scalar.extui v13
  let v15 : BitVec 32 := Scalar.subi v12 v14
  let v16 : BitVec 1 := Scalar.cmpi .ne v10 v15
  let v17 : BitVec 32 := Scalar.remsi v4 c192_i32
  let c0_i32_3 : BitVec 32 := 0#32
  let v18 : BitVec 1 := Scalar.cmpi .ne v17 c0_i32_3
  let v19 : BitVec 1 := Scalar.andi v16 v18
  let c1_i32_4 : BitVec 32 := 1#32
  let v20 : BitVec 32 := Scalar.subi v5 c1_i32_4
  let v21 : BitVec 32 := Scalar.select v19 v20 v5
  let c1_i32_5 : BitVec 32 := 1#32
  let c0_i32_6 : BitVec 32 := 0#32
  let c0_i32_7 : BitVec 32 := 0#32
  ![c1_i32_5.toNat, v21.toNat, c0_i32_6.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.muli arg0 c12_i32
  let v1 : BitVec 32 := Scalar.addi v0 arg1
  let c1_i32 : BitVec 32 := 1#32
  let v2 : BitVec 32 := Scalar.muli v1 c1_i32
  let v3 : BitVec 32 := Scalar.addi v2 arg2
  let c128_i32 : BitVec 32 := 128#32
  let v4 : BitVec 32 := Scalar.muli v3 c128_i32
  let c192_i32 : BitVec 32 := 192#32
  let v5 : BitVec 32 := Scalar.divsi v4 c192_i32
  let c0_i32 : BitVec 32 := 0#32
  let v6 : BitVec 1 := Scalar.cmpi .sgt v4 c0_i32
  let v7 : BitVec 32 := Scalar.extui v6
  let c0_i32_0 : BitVec 32 := 0#32
  let v8 : BitVec 1 := Scalar.cmpi .slt v4 c0_i32_0
  let v9 : BitVec 32 := Scalar.extui v8
  let v10 : BitVec 32 := Scalar.subi v7 v9
  let c0_i32_1 : BitVec 32 := 0#32
  let v11 : BitVec 1 := Scalar.cmpi .sgt c192_i32 c0_i32_1
  let v12 : BitVec 32 := Scalar.extui v11
  let c0_i32_2 : BitVec 32 := 0#32
  let v13 : BitVec 1 := Scalar.cmpi .slt c192_i32 c0_i32_2
  let v14 : BitVec 32 := Scalar.extui v13
  let v15 : BitVec 32 := Scalar.subi v12 v14
  let v16 : BitVec 1 := Scalar.cmpi .ne v10 v15
  let v17 : BitVec 32 := Scalar.remsi v4 c192_i32
  let c0_i32_3 : BitVec 32 := 0#32
  let v18 : BitVec 1 := Scalar.cmpi .ne v17 c0_i32_3
  let v19 : BitVec 1 := Scalar.andi v16 v18
  let c1_i32_4 : BitVec 32 := 1#32
  let v20 : BitVec 32 := Scalar.subi v5 c1_i32_4
  let v21 : BitVec 32 := Scalar.select v19 v20 v5
  let c0_i32_5 : BitVec 32 := 0#32
  let c0_i32_6 : BitVec 32 := 0#32
  ![v21.toNat, c0_i32_5.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x32x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S32x16384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== QkvRefIdeal.lean ====
abbrev S16384x4096 : Shape := ⟨2, ![16384, 4096]⟩
abbrev S4096 : Shape := ⟨1, ![4096]⟩
abbrev S4096x12288 : Shape := ⟨2, ![4096, 12288]⟩
abbrev S12288 : Shape := ⟨1, ![12288]⟩
abbrev S4x4096x16384 : Shape := ⟨3, ![4, 4096, 16384]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x12288 : Shape := ⟨2, ![16384, 12288]⟩
abbrev S1x12288 : Shape := ⟨2, ![1, 12288]⟩
abbrev S1x4096x16384 : Shape := ⟨3, ![1, 4096, 16384]⟩
abbrev S4096x16384 : Shape := ⟨2, ![4096, 16384]⟩

abbrev nBuf : Space → Nat
  | .hbm => 29
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x12288, .f32⟩
  | .hbm, ⟨3, _⟩ => ⟨S12288, .f32⟩
  | .hbm, ⟨4, _⟩ => ⟨S4x4096x16384, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S1x4096, .f32⟩
  | .hbm, ⟨19, _⟩ => ⟨S16384x4096, .f32⟩
  | .hbm, ⟨20, _⟩ => ⟨S16384x4096, .f32⟩
  | .hbm, ⟨21, _⟩ => ⟨S16384x12288, .f32⟩
  | .hbm, ⟨22, _⟩ => ⟨S1x12288, .f32⟩
  | .hbm, ⟨23, _⟩ => ⟨S16384x12288, .f32⟩
  | .hbm, ⟨24, _⟩ => ⟨S16384x12288, .f32⟩
  | .hbm, ⟨25, _⟩ => ⟨S16384x12288, .bf16⟩
  | .hbm, ⟨26, _⟩ => ⟨S1x4096x16384, .f32⟩
  | .hbm, ⟨27, _⟩ => ⟨S4096x16384, .f32⟩
  | .hbm, ⟨28, _⟩ => ⟨S4096x16384, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Gate.lean ====
abbrev S16384x4096 : Shape := ⟨2, ![16384, 4096]⟩
abbrev S4x16384x256 : Shape := ⟨3, ![4, 16384, 256]⟩
abbrev S4x256x4096 : Shape := ⟨3, ![4, 256, 4096]⟩
abbrev S4096 : Shape := ⟨1, ![4096]⟩
abbrev S4096x4096 : Shape := ⟨2, ![4096, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x128 : Shape := ⟨2, ![16384, 128]⟩
abbrev S1x16384x256 : Shape := ⟨3, ![1, 16384, 256]⟩
abbrev S16384x256 : Shape := ⟨2, ![16384, 256]⟩
abbrev S1x256x4096 : Shape := ⟨3, ![1, 256, 4096]⟩
abbrev S256x4096 : Shape := ⟨2, ![256, 4096]⟩
abbrev S1024x4096 : Shape := ⟨2, ![1024, 4096]⟩
abbrev S4096x512 : Shape := ⟨2, ![4096, 512]⟩
abbrev S1024x128 : Shape := ⟨2, ![1024, 128]⟩
abbrev S1024x512 : Shape := ⟨2, ![1024, 512]⟩
abbrev S1x1024x256 : Shape := ⟨3, ![1, 1024, 256]⟩
abbrev S1x256x512 : Shape := ⟨3, ![1, 256, 512]⟩
abbrev S1x512 : Shape := ⟨2, ![1, 512]⟩
abbrev S1024x256 : Shape := ⟨2, ![1024, 256]⟩
abbrev S256x512 : Shape := ⟨2, ![256, 512]⟩

abbrev nBuf : Space → Nat
  | .hbm => 30
  | .vmem => 18
  | .smem => 0
  | _ => 0

abbrev bufTy : (tb : Table) → Fin (tcTables nBuf tb) → BufTy
  | .hbm, ⟨0, _⟩ => ⟨S16384x4096, .f32⟩
  | .hbm, ⟨1, _⟩ => ⟨S4x16384x256, .f32⟩
  | .hbm, ⟨2, _⟩ => ⟨S4x256x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S16384x4096, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S1x4096, .f32⟩
  | .hbm, ⟨11, _⟩ => ⟨S16384x4096, .f32⟩
  | .hbm, ⟨12, _⟩ => ⟨S16384x4096, .f32⟩
  | .hbm, ⟨13, _⟩ => ⟨S16384x4096, .bf16⟩
  | .hbm, ⟨14, _⟩ => ⟨S16384x128, .f32⟩
  | .hbm, ⟨15, _⟩ => ⟨S4x256x4096, .bf16⟩
  | .hbm, ⟨16, _⟩ => ⟨S1x16384x256, .f32⟩
  | .hbm, ⟨17, _⟩ => ⟨S16384x256, .f32⟩
  | .hbm, ⟨18, _⟩ => ⟨S16384x256, .bf16⟩
  | .hbm, ⟨19, _⟩ => ⟨S1x256x4096, .bf16⟩
  | .hbm, ⟨20, _⟩ => ⟨S256x4096, .bf16⟩
  | .hbm, ⟨21, _⟩ => ⟨S16384x4096, .f32⟩
  | .hbm, ⟨22, _⟩ => ⟨S16384x4096, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S16384x128, .f32⟩
  | .hbm, ⟨27, _⟩ => ⟨S4096x4096, .bf16⟩
  | .hbm, ⟨28, _⟩ => ⟨S1x4096, .f32⟩
  | .hbm, ⟨29, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x128, .f32⟩
  | .local _ .vmem, ⟨5, _⟩ => ⟨S1024x128, .f32⟩
  | .local _ .vmem, ⟨6, _⟩ => ⟨S1024x512, .f32⟩
  | .local _ .vmem, ⟨7, _⟩ => ⟨S1024x512, .f32⟩
  | .local _ .vmem, ⟨8, _⟩ => ⟨S1x1024x256, .f32⟩
  | .local _ .vmem, ⟨9, _⟩ => ⟨S1x1024x256, .f32⟩
  | .local _ .vmem, ⟨10, _⟩ => ⟨S1x256x512, .bf16⟩
  | .local _ .vmem, ⟨11, _⟩ => ⟨S1x256x512, .bf16⟩
  | .local _ .vmem, ⟨12, _⟩ => ⟨S1x512, .f32⟩
  | .local _ .vmem, ⟨13, _⟩ => ⟨S1x512, .f32⟩
  | .local _ .vmem, ⟨14, _⟩ => ⟨S1024x128, .f32⟩
  | .local _ .vmem, ⟨15, _⟩ => ⟨S1024x128, .f32⟩
  | .local _ .vmem, ⟨16, _⟩ => ⟨S1024x512, .f32⟩
  | .local _ .vmem, ⟨17, _⟩ => ⟨S1024x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![16, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== GateRefIdeal.lean ====
abbrev S16384x4096 : Shape := ⟨2, ![16384, 4096]⟩
abbrev S4x16384x256 : Shape := ⟨3, ![4, 16384, 256]⟩
abbrev S4x256x4096 : Shape := ⟨3, ![4, 256, 4096]⟩
abbrev S4096 : Shape := ⟨1, ![4096]⟩
abbrev S4096x4096 : Shape := ⟨2, ![4096, 4096]⟩
abbrev S1x16384x256 : Shape := ⟨3, ![1, 16384, 256]⟩
abbrev S16384x256 : Shape := ⟨2, ![16384, 256]⟩
abbrev S1x256x4096 : Shape := ⟨3, ![1, 256, 4096]⟩
abbrev S256x4096 : Shape := ⟨2, ![256, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 54
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4x16384x256, .f32⟩
  | .hbm, ⟨2, _⟩ => ⟨S4x256x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S1x16384x256, .f32⟩
  | .hbm, ⟨7, _⟩ => ⟨S16384x256, .f32⟩
  | .hbm, ⟨8, _⟩ => ⟨S1x256x4096, .f32⟩
  | .hbm, ⟨9, _⟩ => ⟨S256x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x4096, .f32⟩
  | .hbm, ⟨23, _⟩ => ⟨S16384x4096, .f32⟩
  | .hbm, ⟨24, _⟩ => ⟨S1x4096, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x4096, .f32⟩
  | .hbm, ⟨39, _⟩ => ⟨S16384x4096, .f32⟩
  | .hbm, ⟨40, _⟩ => ⟨S1x4096, .f32⟩
  | .hbm, ⟨41, _⟩ => ⟨S16384x4096, .f32⟩
  | .hbm, ⟨42, _⟩ => ⟨S16384x4096, .f32⟩
  | .hbm, ⟨43, _⟩ => ⟨S16384x4096, .f32⟩
  | .hbm, ⟨44, _⟩ => ⟨S16384x4096, .f32⟩
  | .hbm, ⟨45, _⟩ => ⟨S16384x4096, .f32⟩
  | .hbm, ⟨46, _⟩ => ⟨S_, .f32⟩
  | .hbm, ⟨47, _⟩ => ⟨S16384x4096, .f32⟩
  | .hbm, ⟨48, _⟩ => ⟨S16384x4096, .f32⟩
  | .hbm, ⟨49, _⟩ => ⟨S_, .f32⟩
  | .hbm, ⟨50, _⟩ => ⟨S16384x4096, .f32⟩
  | .hbm, ⟨51, _⟩ => ⟨S16384x4096, .f32⟩
  | .hbm, ⟨52, _⟩ => ⟨S16384x4096, .f32⟩
  | .hbm, ⟨53, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Out.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩
abbrev S16384x128 : Shape := ⟨2, ![16384, 128]⟩
abbrev S1024x4096 : Shape := ⟨2, ![1024, 4096]⟩
abbrev S4096x512 : Shape := ⟨2, ![4096, 512]⟩
abbrev S1024x512 : Shape := ⟨2, ![1024, 512]⟩
abbrev S1x512 : Shape := ⟨2, ![1, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 10
  | .vmem => 14
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S16384x4096, .f32⟩
  | .hbm, ⟨3, _⟩ => ⟨S4096, .f32⟩
  | .hbm, ⟨4, _⟩ => ⟨S16384x4096, .bf16⟩
  | .hbm, ⟨5, _⟩ => ⟨S4096x4096, .bf16⟩
  | .hbm, ⟨6, _⟩ => ⟨S1x4096, .f32⟩
  | .hbm, ⟨7, _⟩ => ⟨S16384x4096, .f32⟩
  | .hbm, ⟨8, _⟩ => ⟨S16384x4096, .bf16⟩
  | .hbm, ⟨9, _⟩ => ⟨S16384x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S1024x128, .f32⟩
  | .local _ .vmem, ⟨13, _⟩ => ⟨S1024x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 8, 1], ![false, false, false]⟩

def k0_cond1 (i : grid0.Coords) : BitVec 1 :=
  let arg1 : BitVec 32 := BitVec.ofNat 32 (i 1).val
  let c0_i32 : BitVec 32 := 0#32
  let v26 : BitVec 1 := Scalar.cmpi .eq arg1 c0_i32
  let v27 : BitVec 32 := Scalar.extui v26
  let c0_i32_12 : BitVec 32 := 0#32
  let v28 : BitVec 1 := Scalar.cmpi .ne v27 c0_i32_12
  v28

def k0_cond2 (i : grid0.Coords) : BitVec 1 :=
  let arg1 : BitVec 32 := BitVec.ofNat 32 (i 1).val
  let c0_i32_13 : BitVec 32 := 0#32
  let v29 : BitVec 1 := Scalar.cmpi .sgt arg1 c0_i32_13
  let v30 : BitVec 32 := Scalar.extui v29
  let c0_i32_14 : BitVec 32 := 0#32
  let v31 : BitVec 1 := Scalar.cmpi .ne v30 c0_i32_14
  v31

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== OutRefIdeal.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x128 : Shape := ⟨2, ![16384, 128]⟩

abbrev nBuf : Space → Nat
  | .hbm => 15
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S16384x4096, .f32⟩
  | .hbm, ⟨3, _⟩ => ⟨S4096, .f32⟩
  | .hbm, ⟨4, _⟩ => ⟨S16384x4096, .f32⟩
  | .hbm, ⟨5, _⟩ => ⟨S16384x4096, .f32⟩
  | .hbm, ⟨6, _⟩ => ⟨S16384x4096, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S1x4096, .f32⟩
  | .hbm, ⟨11, _⟩ => ⟨S16384x4096, .f32⟩
  | .hbm, ⟨12, _⟩ => ⟨S16384x4096, .f32⟩
  | .hbm, ⟨13, _⟩ => ⟨S16384x4096, .bf16⟩
  | .hbm, ⟨14, _⟩ => ⟨S16384x128, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Norm.lean ====
abbrev S4x4096x4096 : Shape := ⟨3, ![4, 4096, 4096]⟩
abbrev S4096 : Shape := ⟨1, ![4096]⟩
abbrev S16384x4096 : Shape := ⟨2, ![16384, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S16384x4096, .f32⟩
  | .hbm, ⟨3, _⟩ => ⟨S1x4096, .f32⟩
  | .hbm, ⟨4, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S4x4096x4096 : Shape := ⟨3, ![4, 4096, 4096]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩
abbrev S16384x4096 : Shape := ⟨2, ![16384, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4x4096x4096, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S_, .f32⟩
  | .hbm, ⟨7, _⟩ => ⟨S4x4096x1, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S4x4096x1, .f32⟩
  | .hbm, ⟨13, _⟩ => ⟨S4x4096x4096, .f32⟩
  | .hbm, ⟨14, _⟩ => ⟨S4x4096x4096, .f32⟩
  | .hbm, ⟨15, _⟩ => ⟨S1x1x4096, .f32⟩
  | .hbm, ⟨16, _⟩ => ⟨S4x4096x4096, .f32⟩
  | .hbm, ⟨17, _⟩ => ⟨S4x4096x4096, .f32⟩
  | .hbm, ⟨18, _⟩ => ⟨S16384x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Pool.lean ====
abbrev S4x4096x4096 : Shape := ⟨3, ![4, 4096, 4096]⟩
abbrev S4096 : Shape := ⟨1, ![4096]⟩
abbrev S2x4x1024x1024 : Shape := ⟨4, ![2, 4, 1024, 1024]⟩
abbrev S1x4096 : Shape := ⟨2, ![1, 4096]⟩
abbrev S16384x4096 : Shape := ⟨2, ![16384, 4096]⟩
abbrev S16384x128 : Shape := ⟨2, ![16384, 128]⟩
abbrev S1x256x4096 : Shape := ⟨3, ![1, 256, 4096]⟩
abbrev S1x16x4096 : Shape := ⟨3, ![1, 16, 4096]⟩
abbrev S1x4x1024x1024 : Shape := ⟨4, ![1, 4, 1024, 1024]⟩
abbrev S256x4096 : Shape := ⟨2, ![256, 4096]⟩
abbrev S256x128 : Shape := ⟨2, ![256, 128]⟩
abbrev S280x4096 : Shape := ⟨2, ![280, 4096]⟩
abbrev S280x1024 : Shape := ⟨2, ![280, 1024]⟩
abbrev S8x4096 : Shape := ⟨2, ![8, 4096]⟩
abbrev S16x4096 : Shape := ⟨2, ![16, 4096]⟩
abbrev S16 : Shape := ⟨1, ![16]⟩
abbrev S16x1 : Shape := ⟨2, ![16, 1]⟩
abbrev S256 : Shape := ⟨1, ![256]⟩
abbrev S256x1 : Shape := ⟨2, ![256, 1]⟩
abbrev S8x1024 : Shape := ⟨2, ![8, 1024]⟩
abbrev S256x1024 : Shape := ⟨2, ![256, 1024]⟩
abbrev S1x1x1024x1024 : Shape := ⟨4, ![1, 1, 1024, 1024]⟩
abbrev S1024x1024 : Shape := ⟨2, ![1024, 1024]⟩
abbrev S1x1024 : Shape := ⟨2, ![1, 1024]⟩
abbrev S1x256x1024 : Shape := ⟨3, ![1, 256, 1024]⟩
abbrev S272x1024 : Shape := ⟨2, ![272, 1024]⟩

abbrev nBuf : Space → Nat
  | .hbm => 12
  | .vmem => 17
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S2x4x1024x1024, .f32⟩
  | .hbm, ⟨3, _⟩ => ⟨S4096, .f32⟩
  | .hbm, ⟨4, _⟩ => ⟨S4096, .f32⟩
  | .hbm, ⟨5, _⟩ => ⟨S2x4x1024x1024, .bf16⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S4x4096x4096, .f32⟩
  | .hbm, ⟨10, _⟩ => ⟨S16384x4096, .bf16⟩
  | .hbm, ⟨11, _⟩ => ⟨S16384x128, .f32⟩
  | .local _ .vmem, ⟨0, _⟩ => ⟨S1x256x4096, .f32⟩
  | .local _ .vmem, ⟨1, _⟩ => ⟨S1x256x4096, .f32⟩
  | .local _ .vmem, ⟨2, _⟩ => ⟨S1x16x4096, .f32⟩
  | .local _ .vmem, ⟨3, _⟩ => ⟨S1x16x4096, .f32⟩
  | .local _ .vmem, ⟨4, _⟩ => ⟨S1x4096, .f32⟩
  | .local _ .vmem, ⟨5, _⟩ => ⟨S1x4x1024x1024, .bf16⟩
  | .local _ .vmem, ⟨6, _⟩ => ⟨S1x4096, .f32⟩
  | .local _ .vmem, ⟨7, _⟩ => ⟨S1x4096, .f32⟩
  | .local _ .vmem, ⟨8, _⟩ => ⟨S1x256x4096, .f32⟩
  | .local _ .vmem, ⟨9, _⟩ => ⟨S1x256x4096, .f32⟩
  | .local _ .vmem, ⟨10, _⟩ => ⟨S256x4096, .bf16⟩
  | .local _ .vmem, ⟨11, _⟩ => ⟨S256x4096, .bf16⟩
  | .local _ .vmem, ⟨12, _⟩ => ⟨S256x128, .f32⟩
  | .local _ .vmem, ⟨13, _⟩ => ⟨S256x128, .f32⟩
  | .local _ .vmem, ⟨14, _⟩ => ⟨S280x4096, .f32⟩
  | .local _ .vmem, ⟨15, _⟩ => ⟨S280x1024, .f32⟩
  | .local _ .vmem, ⟨16, _⟩ => ⟨S280x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== PoolRefIdeal.lean ====
abbrev S4x4096x4096 : Shape := ⟨3, ![4, 4096, 4096]⟩
abbrev S4096 : Shape := ⟨1, ![4096]⟩
abbrev S2x4x1024x1024 : Shape := ⟨4, ![2, 4, 1024, 1024]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩
abbrev S1x4x1024x1024 : Shape := ⟨4, ![1, 4, 1024, 1024]⟩
abbrev S4x1024x1024 : Shape := ⟨3, ![4, 1024, 1024]⟩
abbrev S4x4096x4x1024 : Shape := ⟨4, ![4, 4096, 4, 1024]⟩
abbrev S4x4096x1x1024 : Shape := ⟨4, ![4, 4096, 1, 1024]⟩
abbrev S4x4096x1024 : Shape := ⟨3, ![4, 4096, 1024]⟩
abbrev S4x4094x1024 : Shape := ⟨3, ![4, 4094, 1024]⟩
abbrev S1x4096x1 : Shape := ⟨3, ![1, 4096, 1]⟩
abbrev S1x1024x1024 : Shape := ⟨3, ![1, 1024, 1024]⟩
abbrev S1024x1024 : Shape := ⟨2, ![1024, 1024]⟩
abbrev S4x4092x1024 : Shape := ⟨3, ![4, 4092, 1024]⟩
abbrev S4x4088x1024 : Shape := ⟨3, ![4, 4088, 1024]⟩
abbrev S4x4080x1024 : Shape := ⟨3, ![4, 4080, 1024]⟩
abbrev S16384x4096 : Shape := ⟨2, ![16384, 4096]⟩
abbrev S16384 : Shape := ⟨1, ![16384]⟩
abbrev S16384x1 : Shape := ⟨2, ![16384, 1]⟩
abbrev S1x4096 : Shape := ⟨2, ![1, 4096]⟩
abbrev S16384x128 : Shape := ⟨2, ![16384, 128]⟩

abbrev nBuf : Space → Nat
  | .hbm => 136
  | .vmem => 0
  | .smem => 0
  | _ => 0

abbrev hbmTy0_0 (i : Nat) : BufTy := match i % 128 with
  | 0 => ⟨S4x4096x4096, .f32⟩
  | 1 => ⟨S4096, .f32⟩
  | 2 => ⟨S2x4x1024x1024, .f32⟩
  | 3 => ⟨S4096, .f32⟩
  | 4 => ⟨S4096, .f32⟩
  | 5 => ⟨S4x4096x4096, .f32⟩
  | 6 => ⟨S_, .f32⟩
  | 7 => ⟨S4x4096, .f32⟩
  | 8 => ⟨S4x4096x1, .f32⟩
  | 9 => ⟨S_, .f32⟩
  | 10 => ⟨S4x4096x1, .f32⟩
  | 11 => ⟨S4x4096x1, .f32⟩
  | 12 => ⟨S_, .f32⟩
  | 13 => ⟨S4x4096x1, .f32⟩
  | 14 => ⟨S4x4096x1, .f32⟩
  | 15 => ⟨S4x4096x1, .f32⟩
  | 16 => ⟨S4x4096x4096, .f32⟩
  | 17 => ⟨S4x4096x4096, .f32⟩
  | 18 => ⟨S1x1x4096, .f32⟩
  | 19 => ⟨S4x4096x4096, .f32⟩
  | 20 => ⟨S4x4096x4096, .f32⟩
  | 21 => ⟨S1x4x1024x1024, .f32⟩
  | 22 => ⟨S4x1024x1024, .f32⟩
  | 23 => ⟨S4x4096x4x1024, .f32⟩
  | 24 => ⟨S4096, .i32⟩
  | 25 => ⟨S4x4096x1x1024, .f32⟩
  | 26 => ⟨S4x4096x1024, .f32⟩
  | 27 => ⟨S_, .f32⟩
  | 28 => ⟨S_, .f32⟩
  | 29 => ⟨S4x4096x1024, .f32⟩
  | 30 => ⟨S4x4094x1024, .f32⟩
  | 31 => ⟨S_, .i32⟩
  | 32 => ⟨S_, .f32⟩
  | 33 => ⟨S4x4096x1024, .f32⟩
  | 34 => ⟨S_, .i32⟩
  | 35 => ⟨S4096, .i32⟩
  | 36 => ⟨S4096, .i32⟩
  | 37 => ⟨S_, .i32⟩
  | 38 => ⟨S4096, .i32⟩
  | 39 => ⟨S4096, .i32⟩
  | 40 => ⟨S4096, .f32⟩
  | 41 => ⟨S1x4096x1, .f32⟩
  | 42 => ⟨S4x4096x1024, .f32⟩
  | 43 => ⟨S4x4096x1024, .f32⟩
  | 44 => ⟨S4x4096x1024, .f32⟩
  | 45 => ⟨S4x4096x1024, .f32⟩
  | 46 => ⟨S1x1024x1024, .f32⟩
  | 47 => ⟨S1024x1024, .f32⟩
  | 48 => ⟨S4x4096x1024, .f32⟩
  | 49 => ⟨S4x4096x1x1024, .f32⟩
  | 50 => ⟨S4x4096x1024, .f32⟩
  | 51 => ⟨S_, .f32⟩
  | 52 => ⟨S_, .f32⟩
  | 53 => ⟨S4x4096x1024, .f32⟩
  | 54 => ⟨S4x4092x1024, .f32⟩
  | 55 => ⟨S_, .i32⟩
  | 56 => ⟨S_, .f32⟩
  | 57 => ⟨S4x4096x1024, .f32⟩
  | 58 => ⟨S_, .i32⟩
  | 59 => ⟨S4096, .i32⟩
  | 60 => ⟨S4096, .i32⟩
  | 61 => ⟨S_, .i32⟩
  | 62 => ⟨S4096, .i32⟩
  | 63 => ⟨S4096, .i32⟩
  | 64 => ⟨S4096, .f32⟩
  | 65 => ⟨S1x4096x1, .f32⟩
  | 66 => ⟨S4x4096x1024, .f32⟩
  | 67 => ⟨S4x4096x1024, .f32⟩
  | 68 => ⟨S4x4096x1024, .f32⟩
  | 69 => ⟨S4x4096x1024, .f32⟩
  | 70 => ⟨S1x1024x1024, .f32⟩
  | 71 => ⟨S1024x1024, .f32⟩
  | 72 => ⟨S4x4096x1024, .f32⟩
  | 73 => ⟨S4x4096x1x1024, .f32⟩
  | 74 => ⟨S4x4096x1024, .f32⟩
  | 75 => ⟨S_, .f32⟩
  | 76 => ⟨S_, .f32⟩
  | 77 => ⟨S4x4096x1024, .f32⟩
  | 78 => ⟨S4x4088x1024, .f32⟩
  | 79 => ⟨S_, .i32⟩
  | 80 => ⟨S_, .f32⟩
  | 81 => ⟨S4x4096x1024, .f32⟩
  | 82 => ⟨S_, .i32⟩
  | 83 => ⟨S4096, .i32⟩
  | 84 => ⟨S4096, .i32⟩
  | 85 => ⟨S_, .i32⟩
  | 86 => ⟨S4096, .i32⟩
  | 87 => ⟨S4096, .i32⟩
  | 88 => ⟨S4096, .f32⟩
  | 89 => ⟨S1x4096x1, .f32⟩
  | 90 => ⟨S4x4096x1024, .f32⟩
  | 91 => ⟨S4x4096x1024, .f32⟩
  | 92 => ⟨S4x4096x1024, .f32⟩
  | 93 => ⟨S4x4096x1024, .f32⟩
  | 94 => ⟨S1x1024x1024, .f32⟩
  | 95 => ⟨S1024x1024, .f32⟩
  | 96 => ⟨S4x4096x1024, .f32⟩
  | 97 => ⟨S4x4096x1x1024, .f32⟩
  | 98 => ⟨S4x4096x1024, .f32⟩
  | 99 => ⟨S_, .f32⟩
  | 100 => ⟨S_, .f32⟩
  | 101 => ⟨S4x4096x1024, .f32⟩
  | 102 => ⟨S4x4080x1024, .f32⟩
  | 103 => ⟨S_, .i32⟩
  | 104 => ⟨S_, .f32⟩
  | 105 => ⟨S4x4096x1024, .f32⟩
  | 106 => ⟨S_, .i32⟩
  | 107 => ⟨S4096, .i32⟩
  | 108 => ⟨S4096, .i32⟩
  | 109 => ⟨S_, .i32⟩
  | 110 => ⟨S4096, .i32⟩
  | 111 => ⟨S4096, .i32⟩
  | 112 => ⟨S4096, .f32⟩
  | 113 => ⟨S1x4096x1, .f32⟩
  | 114 => ⟨S4x4096x1024, .f32⟩
  | 115 => ⟨S4x4096x1024, .f32⟩
  | 116 => ⟨S4x4096x1024, .f32⟩
  | 117 => ⟨S4x4096x1024, .f32⟩
  | 118 => ⟨S1x1024x1024, .f32⟩
  | 119 => ⟨S1024x1024, .f32⟩
  | 120 => ⟨S4x4096x1024, .f32⟩
  | 121 => ⟨S4x4096x4096, .f32⟩
  | 122 => ⟨S1x1x4096, .f32⟩
  | 123 => ⟨S4x4096x4096, .f32⟩
  | 124 => ⟨S4x4096x4096, .f32⟩
  | 125 => ⟨S4x4096x4096, .f32⟩
  | 126 => ⟨S16384x4096, .f32⟩
  | 127 => ⟨S16384x4096, .f32⟩
  | _ => ⟨S4x4096x4096, .f32⟩

abbrev hbmTy0_1 (i : Nat) : BufTy := match i % 128 with
  | 0 => ⟨S_, .f32⟩
  | 1 => ⟨S16384, .f32⟩
  | 2 => ⟨S16384x1, .f32⟩
  | 3 => ⟨S1x4096, .f32⟩
  | 4 => ⟨S16384x4096, .f32⟩
  | 5 => ⟨S16384x4096, .f32⟩
  | 6 => ⟨S16384x4096, .bf16⟩
  | 7 => ⟨S16384x128, .f32⟩
  | _ => ⟨S4x4096x4096, .f32⟩

abbrev hbmTy (i : Nat) : BufTy := match i / 128 with
  | 0 => hbmTy0_0 i
  | 1 => hbmTy0_1 i
  | _ => ⟨S4x4096x4096, .f32⟩

abbrev bufTy : (tb : Table) → Fin (tcTables nBuf tb) → BufTy
  | .hbm, ⟨i, _⟩ => hbmTy i
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_call0_cst : Ref sig .tc := ⟨.hbm, 27, rfl⟩
abbrev main_call0_call0_v0 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_call1_v0 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call2_call0_cst : Ref sig .tc := ⟨.hbm, 51, rfl⟩
abbrev main_call2_call0_v0 : Ref sig .tc := ⟨.hbm, 52, rfl⟩
abbrev main_v37 : Ref sig .tc := ⟨.hbm, 53, rfl⟩
abbrev main_v38 : Ref sig .tc := ⟨.hbm, 54, rfl⟩
abbrev main_c_4 : Ref sig .tc := ⟨.hbm, 55, rfl⟩
abbrev main_call3_v0 : Ref sig .tc := ⟨.hbm, 56, rfl⟩
abbrev main_v39 : Ref sig .tc := ⟨.hbm, 57, rfl⟩
abbrev main_c_5 : Ref sig .tc := ⟨.hbm, 58, rfl⟩
abbrev main_v40 : Ref sig .tc := ⟨.hbm, 59, rfl⟩
abbrev main_v41 : Ref sig .tc := ⟨.hbm, 60, rfl⟩
abbrev main_c_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_call4_call0_cst : Ref sig .tc := ⟨.hbm, 75, rfl⟩
abbrev main_call4_call0_v0 : Ref sig .tc := ⟨.hbm, 76, rfl⟩
abbrev main_v55 : Ref sig .tc := ⟨.hbm, 77, rfl⟩
abbrev main_v56 : Ref sig .tc := ⟨.hbm, 78, rfl⟩
abbrev main_c_7 : Ref sig .tc := ⟨.hbm, 79, rfl⟩
abbrev main_call5_v0 : Ref sig .tc := ⟨.hbm, 80, rfl⟩
abbrev main_v57 : Ref sig .tc := ⟨.hbm, 81, rfl⟩
abbrev main_c_8 : Ref sig .tc := ⟨.hbm, 82, rfl⟩
abbrev main_v58 : Ref sig .tc := ⟨.hbm, 83, rfl⟩
abbrev main_v59 : Ref sig .tc := ⟨.hbm, 84, rfl⟩
abbrev main_c_9 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_call6_call0_cst : Ref sig .tc := ⟨.hbm, 99, rfl⟩
abbrev main_call6_call0_v0 : Ref sig .tc := ⟨.hbm, 100, rfl⟩
abbrev main_v73 : Ref sig .tc := ⟨.hbm, 101, rfl⟩
abbrev main_v74 : Ref sig .tc := ⟨.hbm, 102, rfl⟩
abbrev main_c_10 : Ref sig .tc := ⟨.hbm, 103, rfl⟩
abbrev main_call7_v0 : Ref sig .tc := ⟨.hbm, 104, rfl⟩
abbrev main_v75 : Ref sig .tc := ⟨.hbm, 105, rfl⟩
abbrev main_c_11 : Ref sig .tc := ⟨.hbm, 106, rfl⟩
abbrev main_v76 : Ref sig .tc := ⟨.hbm, 107, rfl⟩
abbrev main_v77 : Ref sig .tc := ⟨.hbm, 108, rfl⟩
abbrev main_c_12 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_13 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩

abbrev nD : Nat := 1
abbrev τ : Topo := Topo.v7x

variable {F : FTy → Type} [FloatOps F]
-- ==== Ple.lean ====
abbrev S4x16384x256 : Shape := ⟨3, ![4, 16384, 256]⟩
abbrev S4x256x4096 : Shape := ⟨3, ![4, 256, 4096]⟩
abbrev S16384x128 : Shape := ⟨2, ![16384, 128]⟩
abbrev S1x512x256 : Shape := ⟨3, ![1, 512, 256]⟩
abbrev S1x256x4096 : Shape := ⟨3, ![1, 256, 4096]⟩
abbrev S512x128 : Shape := ⟨2, ![512, 128]⟩
abbrev S512x256 : Shape := ⟨2, ![512, 256]⟩
abbrev S256x4096 : Shape := ⟨2, ![256, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4x16384x256, .f32⟩
  | .hbm, ⟨1, _⟩ => ⟨S4x256x4096, .f32⟩
  | .hbm, ⟨2, _⟩ => ⟨S4x256x4096, .bf16⟩
  | .hbm, ⟨3, _⟩ => ⟨S16384x128, .f32⟩
  | .local _ .vmem, ⟨0, _⟩ => ⟨S1x512x256, .f32⟩
  | .local _ .vmem, ⟨1, _⟩ => ⟨S1x512x256, .f32⟩
  | .local _ .vmem, ⟨2, _⟩ => ⟨S1x256x4096, .bf16⟩
  | .local _ .vmem, ⟨3, _⟩ => ⟨S512x128, .f32⟩
  | .local _ .vmem, ⟨4, _⟩ => ⟨S512x128, .f32⟩
  | _, _ => ⟨S4x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PleRefIdeal.lean ====
abbrev S4x16384x256 : Shape := ⟨3, ![4, 16384, 256]⟩
abbrev S4x256x4096 : Shape := ⟨3, ![4, 256, 4096]⟩
abbrev S1x16384x256 : Shape := ⟨3, ![1, 16384, 256]⟩
abbrev S16384x256 : Shape := ⟨2, ![16384, 256]⟩
abbrev S1x256x4096 : Shape := ⟨3, ![1, 256, 4096]⟩
abbrev S256x4096 : Shape := ⟨2, ![256, 4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S16384x128 : Shape := ⟨2, ![16384, 128]⟩

abbrev nBuf : Space → Nat
  | .hbm => 12
  | .vmem => 0
  | .smem => 0
  | _ => 0

abbrev bufTy : (tb : Table) → Fin (tcTables nBuf tb) → BufTy
  | .hbm, ⟨0, _⟩ => ⟨S4x16384x256, .f32⟩
  | .hbm, ⟨1, _⟩ => ⟨S4x256x4096, .f32⟩
  | .hbm, ⟨2, _⟩ => ⟨S1x16384x256, .f32⟩
  | .hbm, ⟨3, _⟩ => ⟨S16384x256, .f32⟩
  | .hbm, ⟨4, _⟩ => ⟨S1x256x4096, .f32⟩
  | .hbm, ⟨5, _⟩ => ⟨S256x4096, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S16384x128, .f32⟩
  | _, _ => ⟨S4x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.Head.lean ====
/-
  THE BLOCK OF ONE HEAD: what the kernel computes, for one head, from a block of queries and a block of keys and
  values. The scores, what is broken off at each key, its sums from a key to the end of the block, the weights, and the
  two things a head carries from block to block: how much was broken off (the carry) and the sum of weighted values.
-/
module

public import proofs.«01_k».proof.Proof.Gen.KernelIdeal.Frame

@[expose] public section

set_option maxRecDepth 16384

noncomputable section

namespace Cert.KernelIdeal.Head

open Idealize.ShloMosaic Idealize.ShloMosaic.TcCoe
open Cert.KernelIdeal Cert.KernelIdeal.Gen

variable {F : FTy → Type} [FloatOps F] [Named F]

/-- The scores of a block, in units of `log 2`. -/
def logits (q k : Vec F S256x128 .bf16) : FVec F S256x256 .f32 :=
  matmul dot_S256x128_S256x128_S256x256_1_1_0_0_n_n none (shapeCast S256x128 q shapeCasts_S256x128_S256x128)
    (shapeCast S256x128 k shapeCasts_S256x128_S256x128) (constant S256x256 .f32 0x00000000#32)

/-- The logarithm, base 2, of one more than `2` to the score. -/
def soft (z : FVec F S256x256 .f32) : FVec F S256x256 .f32 :=
  addf (maximumf z (broadcast S256x256 (Scalar.ofBits .f32 0x00000000#32)))
    (mulf (log (addf (broadcast S256x256 (Scalar.ofBits .f32 0x3F800000#32))
      (exp2 (subf (broadcast S256x256 (Scalar.ofBits .f32 0x00000000#32)) (absf z)))))
      (broadcast S256x256 (Named.named κ "log2_e" 0x3FB8AA3B#32)))

/-- Which keys of the diagonal block come before the query. -/
def causal : IVec S256x256 1 :=
  cmpi .slt (iota .tc S256x256 32 [1] iota_S256x256_d1_w32) (iota .tc S256x256 32 [0] iota_S256x256_d0_w32)

/-- The kernel's mask at the diagonal block. -/
def keep (x : FVec F S256x256 .f32) : FVec F S256x256 .f32 :=
  select causal x (broadcast S256x256 (Scalar.ofBits .f32 0x00000000#32))

/-- One where a key comes at or after the column, twice one above the other. -/
def fromKey2 : FVec F S512x256 .bf16 :=
  let one : FVec F S256x256 .bf16 := truncf .bf16
    (select (cmpi .sge (iota .tc S256x256 32 [0] iota_S256x256_d0_w32) (iota .tc S256x256 32 [1] iota_S256x256_d1_w32))
      (broadcast S256x256 (Scalar.ofBits .f32 0x3F800000#32)) (broadcast S256x256 (Scalar.ofBits .f32 0x00000000#32))) bitsLt_bf16_f32
  concatenate S512x256 0 [⟨S256x256, one⟩, ⟨S256x256, one⟩] concatenates_S256x256_S256x256_S512x256_d0

/-- Sums from a key to the end of the block, of a number written as two halves. -/
def tail (w : FVec F S512x256 .bf16) (s : FVec F S256x256 .f32) : FVec F S256x256 .f32 :=
  matmul dot_S256x512_S512x256_S256x256_1_0_0_1_n_n none
    (concatenate S256x512 1 [⟨S256x256, truncf .bf16 s bitsLt_bf16_f32⟩,
      ⟨S256x256, truncf .bf16 (subf s (extf .f32 (truncf .bf16 s bitsLt_bf16_f32) bitsLt_bf16_f32)) bitsLt_bf16_f32⟩]
      concatenates_S256x256_S256x256_S256x512_d1) w (constant S256x256 .f32 0x00000000#32)

/-- `2` to the score less what later keys broke off. -/
def power (z : FVec F S256x256 .f32) (c : FVec F S256x128 .f32) (t : FVec F S256x256 .f32) : FVec F S256x256 .f32 :=
  exp2 (subf (subf z (concatenate S256x256 1 [⟨S256x128, c⟩, ⟨S256x128, c⟩] concatenates_S256x128_S256x128_S256x256_d1)) t)

/-- The carry after a block. -/
def carried (c : FVec F S256x128 .f32) (t : FVec F S256x256 .f32) : FVec F S256x128 .f32 :=
  addf c (broadcastTo S256x128 (shapeCast S256x1 (extractStridedSlice S256x1 ![0, 0] t slices_S256x256_o0_0_S256x1)
    shapeCasts_S256x1_S256x1) broadcasts_S256x1_S256x128)

/-- Nothing broken off yet. -/
def fresh : FVec F S256x128 .f32 := broadcast S256x128 (Scalar.ofBits .f32 0x00000000#32)

/-- The weighted values of one block. -/
def gather (p : FVec F S256x256 .f32) (v : Vec F S256x128 .bf16) : FVec F S256x128 .f32 :=
  matmul dot_S256x256_S256x128_S256x128_1_0_0_1_n_n none (truncf .bf16 p bitsLt_bf16_f32)
    (shapeCast S256x128 v shapeCasts_S256x128_S256x128) (constant S256x128 .f32 0x00000000#32)

/-- The weighted values of two blocks, the earlier first. -/
def gather2 (p1 p2 : FVec F S256x256 .f32) (v : Vec F S512x128 .bf16) : FVec F S256x128 .f32 :=
  matmul dot_S256x512_S512x128_S256x128_1_0_0_1_n_n none
    (concatenate S256x512 1 [⟨S256x256, truncf .bf16 p2 bitsLt_bf16_f32⟩, ⟨S256x256, truncf .bf16 p1 bitsLt_bf16_f32⟩]
      concatenates_S256x256_S256x256_S256x512_d1)
    (shapeCast S512x128 v shapeCasts_S512x128_S512x128) (constant S256x128 .f32 0x00000000#32)

/-- A head's slab as a matrix, and a matrix as a head's slab. -/
def flat (c : Vec F S1x256x128 .f32) : FVec F S256x128 .f32 := shapeCast S256x128 c shapeCasts_S1x256x128_S256x128
def slab (c : FVec F S256x128 .f32) : FVec F S1x256x128 .f32 := shapeCast S1x256x128 c shapeCasts_S256x128_S1x256x128

/-- The diagonal block: the carry and the sum it leaves. -/
def diagCarry (w : FVec F S512x256 .bf16) (q k : Vec F S256x128 .bf16) : FVec F S1x256x128 .f32 :=
  slab (carried fresh (tail w (keep (soft (logits q k)))))
def diagAcc (w : FVec F S512x256 .bf16) (q k v : Vec F S256x128 .bf16) : FVec F S1x256x128 .f32 :=
  slab (gather (keep (power (logits q k) fresh (tail w (keep (soft (logits q k)))))) v)

/-- One further block. -/
def oneCarry (w : FVec F S512x256 .bf16) (q k : Vec F S256x128 .bf16) (c : Vec F S1x256x128 .f32) : FVec F S1x256x128 .f32 :=
  slab (carried (flat c) (tail w (soft (logits q k))))
def oneAcc (w : FVec F S512x256 .bf16) (q k v : Vec F S256x128 .bf16) (c a : Vec F S1x256x128 .f32) : FVec F S1x256x128 .f32 :=
  slab (addf (flat a) (gather (power (logits q k) (flat c) (tail w (soft (logits q k)))) v))

/-- Two further blocks, the later `k1` first. -/
def twoCarry (w : FVec F S512x256 .bf16) (q k1 k2 : Vec F S256x128 .bf16) (c : Vec F S1x256x128 .f32) : FVec F S1x256x128 .f32 :=
  slab (carried (carried (flat c) (tail w (soft (logits q k1)))) (tail w (soft (logits q k2))))
def twoAcc (w : FVec F S512x256 .bf16) (q k1 k2 : Vec F S256x128 .bf16) (v : Vec F S512x128 .bf16) (c a : Vec F S1x256x128 .f32) :
    FVec F S1x256x128 .f32 :=
  slab (addf (flat a) (gather2 (power (logits q k1) (flat c) (tail w (soft (logits q k1))))
    (power (logits q k2) (carried (flat c) (tail w (soft (logits q k1)))) (tail w (soft (logits q k2)))) v))

end Cert.KernelIdeal.Head

end
-- ==== Proof.TripPieces.lean ====
/-
  THE STORES OF A TRIP: what one trip of the loop over pairs of blocks stores, head by head, as the block functions of
  `Head` at what it reads.
-/
module

public import proofs.«01_k».proof.Proof.Head

@[expose] public section

set_option maxRecDepth 16384

noncomputable section

namespace Cert.KernelIdeal.Head

open Idealize.ShloMosaic Idealize.ShloMosaic.TcCoe
open Cert.KernelIdeal Cert.KernelIdeal.Gen

variable {F : FTy → Type} [FloatOps F] [Named F]

/-- A box of a buffer, as the body loads it. -/
abbrev box {sp : Space} {S : Shape} {e : EltTy} (a : Memref sig .tc sp S e) (X : BufTy.Contents (Elt F) a.view.ty)
    (off : Fin S.rank → ℕ) (size : Fin S.rank → ℕ) (inb : ∀ i, off i + size i ≤ S.size i) :=
  View.readAt (Elt F) a.view (Rect.unit off size inb).toLoadRect X

/-- The trip's stores into the carries. -/
def two7 (i : grid0.Coords) (arg3 : Memref sig .tc .vmem S256x1024 .bf16) (arg4 : Memref sig .tc .vmem S4096x1024 .bf16) (arg7 : Memref sig .tc .vmem S8x256x128 .f32)
    (v7 : FVec F S512x256 .bf16) (X3 : BufTy.Contents (Elt F) arg3.view.ty) (X4 : BufTy.Contents (Elt F) arg4.view.ty)
    (k : Fin (k0_t1_loop i).trips) (f7 : BufTy.Contents (Elt F) arg7.view.ty) : List (View.Piece (Elt F) S8x256x128 .f32) :=
    [⟨Rect.unit ![7, 0, 0] S1x256x128.size inb_S8x256x128_S1x256x128_7_0_0, twoCarry v7 (box arg3 X3 ![0, 896] S256x128.size inb_S256x1024_S256x128_0_896) (box arg4 X4 (k0_off24 i k) S256x128.size (k0_off24_inb i k)) (box arg4 X4 (k0_off32 i k) S256x128.size (k0_off32_inb i k)) (box arg7 f7 ![7, 0, 0] S1x256x128.size inb_S8x256x128_S1x256x128_7_0_0)⟩,
     ⟨Rect.unit ![6, 0, 0] S1x256x128.size inb_S8x256x128_S1x256x128_6_0_0, twoCarry v7 (box arg3 X3 ![0, 768] S256x128.size inb_S256x1024_S256x128_0_768) (box arg4 X4 (k0_off23 i k) S256x128.size (k0_off23_inb i k)) (box arg4 X4 (k0_off31 i k) S256x128.size (k0_off31_inb i k)) (box arg7 f7 ![6, 0, 0] S1x256x128.size inb_S8x256x128_S1x256x128_6_0_0)⟩,
     ⟨Rect.unit ![5, 0, 0] S1x256x128.size inb_S8x256x128_S1x256x128_5_0_0, twoCarry v7 (box arg3 X3 ![0, 640] S256x128.size inb_S256x1024_S256x128_0_640) (box arg4 X4 (k0_off22 i k) S256x128.size (k0_off22_inb i k)) (box arg4 X4 (k0_off30 i k) S256x128.size (k0_off30_inb i k)) (box arg7 f7 ![5, 0, 0] S1x256x128.size inb_S8x256x128_S1x256x128_5_0_0)⟩,
     ⟨Rect.unit ![4, 0, 0] S1x256x128.size inb_S8x256x128_S1x256x128_4_0_0, twoCarry v7 (box arg3 X3 ![0, 512] S256x128.size inb_S256x1024_S256x128_0_512) (box arg4 X4 (k0_off21 i k) S256x128.size (k0_off21_inb i k)) (box arg4 X4 (k0_off29 i k) S256x128.size (k0_off29_inb i k)) (box arg7 f7 ![4, 0, 0] S1x256x128.size inb_S8x256x128_S1x256x128_4_0_0)⟩,
     ⟨Rect.unit ![3, 0, 0] S1x256x128.size inb_S8x256x128_S1x256x128_3_0_0, twoCarry v7 (box arg3 X3 ![0, 384] S256x128.size inb_S256x1024_S256x128_0_384) (box arg4 X4 (k0_off20 i k) S256x128.size (k0_off20_inb i k)) (box arg4 X4 (k0_off28 i k) S256x128.size (k0_off28_inb i k)) (box arg7 f7 ![3, 0, 0] S1x256x128.size inb_S8x256x128_S1x256x128_3_0_0)⟩,
     ⟨Rect.unit ![2, 0, 0] S1x256x128.size inb_S8x256x128_S1x256x128_2_0_0, twoCarry v7 (box arg3 X3 ![0, 256] S256x128.size inb_S256x1024_S256x128_0_256) (box arg4 X4 (k0_off19 i k) S256x128.size (k0_off19_inb i k)) (box arg4 X4 (k0_off27 i k) S256x128.size (k0_off27_inb i k)) (box arg7 f7 ![2, 0, 0] S1x256x128.size inb_S8x256x128_S1x256x128_2_0_0)⟩,
     ⟨Rect.unit ![1, 0, 0] S1x256x128.size inb_S8x256x128_S1x256x128_1_0_0, twoCarry v7 (box arg3 X3 ![0, 128] S256x128.size inb_S256x1024_S256x128_0_128) (box arg4 X4 (k0_off18 i k) S256x128.size (k0_off18_inb i k)) (box arg4 X4 (k0_off26 i k) S256x128.size (k0_off26_inb i k)) (box arg7 f7 ![1, 0, 0] S1x256x128.size inb_S8x256x128_S1x256x128_1_0_0)⟩,
     ⟨Rect.unit ![0, 0, 0] S1x256x128.size inb_S8x256x128_S1x256x128_0_0_0, twoCarry v7 (box arg3 X3 ![0, 0] S256x128.size inb_S256x1024_S256x128_0_0) (box arg4 X4 (k0_off17 i k) S256x128.size (k0_off17_inb i k)) (box arg4 X4 (k0_off25 i k) S256x128.size (k0_off25_inb i k)) (box arg7 f7 ![0, 0, 0] S1x256x128.size inb_S8x256x128_S1x256x128_0_0_0)⟩]

/-- The trip's stores into the sums. -/
def two8 (i : grid0.Coords) (arg3 : Memref sig .tc .vmem S256x1024 .bf16) (arg4 : Memref sig .tc .vmem S4096x1024 .bf16)
    (arg5 : Memref sig .tc .vmem S4096x1024 .bf16) (arg7 arg8 : Memref sig .tc .vmem S8x256x128 .f32)
    (v7 : FVec F S512x256 .bf16) (X3 : BufTy.Contents (Elt F) arg3.view.ty) (X4 : BufTy.Contents (Elt F) arg4.view.ty)
    (X5 : BufTy.Contents (Elt F) arg5.view.ty) (k : Fin (k0_t1_loop i).trips)
    (f7 : BufTy.Contents (Elt F) arg7.view.ty) (f8 : BufTy.Contents (Elt F) arg8.view.ty) : List (View.Piece (Elt F) S8x256x128 .f32) :=
    [⟨Rect.unit ![7, 0, 0] S1x256x128.size inb_S8x256x128_S1x256x128_7_0_0, twoAcc v7 (box arg3 X3 ![0, 896] S256x128.size inb_S256x1024_S256x128_0_896) (box arg4 X4 (k0_off24 i k) S256x128.size (k0_off24_inb i k)) (box arg4 X4 (k0_off32 i k) S256x128.size (k0_off32_inb i k)) (box arg5 X5 (k0_off40 i k) S512x128.size (k0_off40_inb i k)) (box arg7 f7 ![7, 0, 0] S1x256x128.size inb_S8x256x128_S1x256x128_7_0_0) (box arg8 f8 ![7, 0, 0] S1x256x128.size inb_S8x256x128_S1x256x128_7_0_0)⟩,
     ⟨Rect.unit ![6, 0, 0] S1x256x128.size inb_S8x256x128_S1x256x128_6_0_0, twoAcc v7 (box arg3 X3 ![0, 768] S256x128.size inb_S256x1024_S256x128_0_768) (box arg4 X4 (k0_off23 i k) S256x128.size (k0_off23_inb i k)) (box arg4 X4 (k0_off31 i k) S256x128.size (k0_off31_inb i k)) (box arg5 X5 (k0_off39 i k) S512x128.size (k0_off39_inb i k)) (box arg7 f7 ![6, 0, 0] S1x256x128.size inb_S8x256x128_S1x256x128_6_0_0) (box arg8 f8 ![6, 0, 0] S1x256x128.size inb_S8x256x128_S1x256x128_6_0_0)⟩,
     ⟨Rect.unit ![5, 0, 0] S1x256x128.size inb_S8x256x128_S1x256x128_5_0_0, twoAcc v7 (box arg3 X3 ![0, 640] S256x128.size inb_S256x1024_S256x128_0_640) (box arg4 X4 (k0_off22 i k) S256x128.size (k0_off22_inb i k)) (box arg4 X4 (k0_off30 i k) S256x128.size (k0_off30_inb i k)) (box arg5 X5 (k0_off38 i k) S512x128.size (k0_off38_inb i k)) (box arg7 f7 ![5, 0, 0] S1x256x128.size inb_S8x256x128_S1x256x128_5_0_0) (box arg8 f8 ![5, 0, 0] S1x256x128.size inb_S8x256x128_S1x256x128_5_0_0)⟩,
     ⟨Rect.unit ![4, 0, 0] S1x256x128.size inb_S8x256x128_S1x256x128_4_0_0, twoAcc v7 (box arg3 X3 ![0, 512] S256x128.size inb_S256x1024_S256x128_0_512) (box arg4 X4 (k0_off21 i k) S256x128.size (k0_off21_inb i k)) (box arg4 X4 (k0_off29 i k) S256x128.size (k0_off29_inb i k)) (box arg5 X5 (k0_off37 i k) S512x128.size (k0_off37_inb i k)) (box arg7 f7 ![4, 0, 0] S1x256x128.size inb_S8x256x128_S1x256x128_4_0_0) (box arg8 f8 ![4, 0, 0] S1x256x128.size inb_S8x256x128_S1x256x128_4_0_0)⟩,
     ⟨Rect.unit ![3, 0, 0] S1x256x128.size inb_S8x256x128_S1x256x128_3_0_0, twoAcc v7 (box arg3 X3 ![0, 384] S256x128.size inb_S256x1024_S256x128_0_384) (box arg4 X4 (k0_off20 i k) S256x128.size (k0_off20_inb i k)) (box arg4 X4 (k0_off28 i k) S256x128.size (k0_off28_inb i k)) (box arg5 X5 (k0_off36 i k) S512x128.size (k0_off36_inb i k)) (box arg7 f7 ![3, 0, 0] S1x256x128.size inb_S8x256x128_S1x256x128_3_0_0) (box arg8 f8 ![3, 0, 0] S1x256x128.size inb_S8x256x128_S1x256x128_3_0_0)⟩,
     ⟨Rect.unit ![2, 0, 0] S1x256x128.size inb_S8x256x128_S1x256x128_2_0_0, twoAcc v7 (box arg3 X3 ![0, 256] S256x128.size inb_S256x1024_S256x128_0_256) (box arg4 X4 (k0_off19 i k) S256x128.size (k0_off19_inb i k)) (box arg4 X4 (k0_off27 i k) S256x128.size (k0_off27_inb i k)) (box arg5 X5 (k0_off35 i k) S512x128.size (k0_off35_inb i k)) (box arg7 f7 ![2, 0, 0] S1x256x128.size inb_S8x256x128_S1x256x128_2_0_0) (box arg8 f8 ![2, 0, 0] S1x256x128.size inb_S8x256x128_S1x256x128_2_0_0)⟩,
     ⟨Rect.unit ![1, 0, 0] S1x256x128.size inb_S8x256x128_S1x256x128_1_0_0, twoAcc v7 (box arg3 X3 ![0, 128] S256x128.size inb_S256x1024_S256x128_0_128) (box arg4 X4 (k0_off18 i k) S256x128.size (k0_off18_inb i k)) (box arg4 X4 (k0_off26 i k) S256x128.size (k0_off26_inb i k)) (box arg5 X5 (k0_off34 i k) S512x128.size (k0_off34_inb i k)) (box arg7 f7 ![1, 0, 0] S1x256x128.size inb_S8x256x128_S1x256x128_1_0_0) (box arg8 f8 ![1, 0, 0] S1x256x128.size inb_S8x256x128_S1x256x128_1_0_0)⟩,
     ⟨Rect.unit ![0, 0, 0] S1x256x128.size inb_S8x256x128_S1x256x128_0_0_0, twoAcc v7 (box arg3 X3 ![0, 0] S256x128.size inb_S256x1024_S256x128_0_0) (box arg4 X4 (k0_off17 i k) S256x128.size (k0_off17_inb i k)) (box arg4 X4 (k0_off25 i k) S256x128.size (k0_off25_inb i k)) (box arg5 X5 (k0_off33 i k) S512x128.size (k0_off33_inb i k)) (box arg7 f7 ![0, 0, 0] S1x256x128.size inb_S8x256x128_S1x256x128_0_0_0) (box arg8 f8 ![0, 0, 0] S1x256x128.size inb_S8x256x128_S1x256x128_0_0_0)⟩]

variable (𝒱 : Variants) (c : Dev nD) (i : grid0.Coords) (arg3 : Memref sig .tc .vmem S256x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S256x1024 .bf16) (harg6 : arg6.IsWhole) (arg7 : Memref sig .tc .vmem S8x256x128 .f32) (harg7 : arg7.IsWhole) (arg8 : Memref sig .tc .vmem S8x256x128 .f32) (harg8 : arg8.IsWhole) (bd : Option 𝒱.V)
  (arg2 : BitVec 32) (v7 : FVec F S512x256 .bf16) (v404 v408 : BitVec 32)
  (X3 : BufTy.Contents (Elt F) arg3.view.ty) (X4 : BufTy.Contents (Elt F) arg4.view.ty) (X5 : BufTy.Contents (Elt F) arg5.view.ty)
  (k : Fin (k0_t1_loop i).trips) (acc : BitVec 32) (f7 : BufTy.Contents (Elt F) arg7.view.ty) (f8 : BufTy.Contents (Elt F) arg8.view.ty)

theorem trip7 : (tripL_k0_t1 (F := F) 𝒱 c bd i arg3 harg3 arg4 harg4 arg5 harg5 arg6 harg6 arg7 harg7 arg8 harg8 arg2 v7 v404 v408 X3 X4 X5 k acc f7 f8).1 = two7 i arg3 arg4 arg7 v7 X3 X4 k f7 := by
  unfold tripL_k0_t1 trip_k0_t1 two7
  rfl

theorem trip8 : (tripL_k0_t1 (F := F) 𝒱 c bd i arg3 harg3 arg4 harg4 arg5 harg5 arg6 harg6 arg7 harg7 arg8 harg8 arg2 v7 v404 v408 X3 X4 X5 k acc f7 f8).2 = two8 i arg3 arg4 arg5 arg7 arg8 v7 X3 X4 X5 k f7 f8 := by
  unfold tripL_k0_t1 trip_k0_t1 two8
  rfl

end Cert.KernelIdeal.Head

end
-- ==== Proof.BlockPieces.lean ====
/-
  THE STORES BEFORE THE LOOP: what the diagonal block stores, head by head, and, at an odd block of queries, what the
  block before it stores then, as the block functions of `Head` at what they read.
-/
module

public import proofs.«01_k».proof.Proof.TripPieces
public import Idealize.ShloMosaic.Lib.Pipeline.ReadBack

@[expose] public section

set_option maxRecDepth 16384

noncomputable section

namespace Cert.KernelIdeal.Head

open Idealize.ShloMosaic Idealize.ShloMosaic.TcCoe Idealize.ShloMosaic.Tactic
open Cert.KernelIdeal Cert.KernelIdeal.Gen

variable {F : FTy → Type} [FloatOps F] [Named F]

section
variable (i : grid0.Coords) (arg3 : Memref sig .tc .vmem S256x1024 .bf16) (arg4 : Memref sig .tc .vmem S4096x1024 .bf16)
  (arg5 : Memref sig .tc .vmem S4096x1024 .bf16) (arg7 arg8 : Memref sig .tc .vmem S8x256x128 .f32)
  (v7 : FVec F S512x256 .bf16) (X3 : BufTy.Contents (Elt F) arg3.view.ty) (X4 : BufTy.Contents (Elt F) arg4.view.ty)
  (X5 : BufTy.Contents (Elt F) arg5.view.ty)

/-- The diagonal block's stores. -/
def diag7 : List (View.Piece (Elt F) S8x256x128 .f32) :=
    [⟨Rect.unit ![7, 0, 0] S1x256x128.size inb_S8x256x128_S1x256x128_7_0_0, (diagCarry v7 (box arg3 X3 ![0, 896] S256x128.size inb_S256x1024_S256x128_0_896) (box arg4 X4 (k0_off8 i) S256x128.size (k0_off8_inb i)))⟩,
     ⟨Rect.unit ![6, 0, 0] S1x256x128.size inb_S8x256x128_S1x256x128_6_0_0, (diagCarry v7 (box arg3 X3 ![0, 768] S256x128.size inb_S256x1024_S256x128_0_768) (box arg4 X4 (k0_off7 i) S256x128.size (k0_off7_inb i)))⟩,
     ⟨Rect.unit ![5, 0, 0] S1x256x128.size inb_S8x256x128_S1x256x128_5_0_0, (diagCarry v7 (box arg3 X3 ![0, 640] S256x128.size inb_S256x1024_S256x128_0_640) (box arg4 X4 (k0_off6 i) S256x128.size (k0_off6_inb i)))⟩,
     ⟨Rect.unit ![4, 0, 0] S1x256x128.size inb_S8x256x128_S1x256x128_4_0_0, (diagCarry v7 (box arg3 X3 ![0, 512] S256x128.size inb_S256x1024_S256x128_0_512) (box arg4 X4 (k0_off5 i) S256x128.size (k0_off5_inb i)))⟩,
     ⟨Rect.unit ![3, 0, 0] S1x256x128.size inb_S8x256x128_S1x256x128_3_0_0, (diagCarry v7 (box arg3 X3 ![0, 384] S256x128.size inb_S256x1024_S256x128_0_384) (box arg4 X4 (k0_off4 i) S256x128.size (k0_off4_inb i)))⟩,
     ⟨Rect.unit ![2, 0, 0] S1x256x128.size inb_S8x256x128_S1x256x128_2_0_0, (diagCarry v7 (box arg3 X3 ![0, 256] S256x128.size inb_S256x1024_S256x128_0_256) (box arg4 X4 (k0_off3 i) S256x128.size (k0_off3_inb i)))⟩,
     ⟨Rect.unit ![1, 0, 0] S1x256x128.size inb_S8x256x128_S1x256x128_1_0_0, (diagCarry v7 (box arg3 X3 ![0, 128] S256x128.size inb_S256x1024_S256x128_0_128) (box arg4 X4 (k0_off2 i) S256x128.size (k0_off2_inb i)))⟩,
     ⟨Rect.unit ![0, 0, 0] S1x256x128.size inb_S8x256x128_S1x256x128_0_0_0, (diagCarry v7 (box arg3 X3 ![0, 0] S256x128.size inb_S256x1024_S256x128_0_0) (box arg4 X4 (k0_off1 i) S256x128.size (k0_off1_inb i)))⟩]
def diag8 : List (View.Piece (Elt F) S8x256x128 .f32) :=
    [⟨Rect.unit ![7, 0, 0] S1x256x128.size inb_S8x256x128_S1x256x128_7_0_0, (diagAcc v7 (box arg3 X3 ![0, 896] S256x128.size inb_S256x1024_S256x128_0_896) (box arg4 X4 (k0_off8 i) S256x128.size (k0_off8_inb i)) (box arg5 X5 (k0_off8 i) S256x128.size (k0_off8_inb i)))⟩,
     ⟨Rect.unit ![6, 0, 0] S1x256x128.size inb_S8x256x128_S1x256x128_6_0_0, (diagAcc v7 (box arg3 X3 ![0, 768] S256x128.size inb_S256x1024_S256x128_0_768) (box arg4 X4 (k0_off7 i) S256x128.size (k0_off7_inb i)) (box arg5 X5 (k0_off7 i) S256x128.size (k0_off7_inb i)))⟩,
     ⟨Rect.unit ![5, 0, 0] S1x256x128.size inb_S8x256x128_S1x256x128_5_0_0, (diagAcc v7 (box arg3 X3 ![0, 640] S256x128.size inb_S256x1024_S256x128_0_640) (box arg4 X4 (k0_off6 i) S256x128.size (k0_off6_inb i)) (box arg5 X5 (k0_off6 i) S256x128.size (k0_off6_inb i)))⟩,
     ⟨Rect.unit ![4, 0, 0] S1x256x128.size inb_S8x256x128_S1x256x128_4_0_0, (diagAcc v7 (box arg3 X3 ![0, 512] S256x128.size inb_S256x1024_S256x128_0_512) (box arg4 X4 (k0_off5 i) S256x128.size (k0_off5_inb i)) (box arg5 X5 (k0_off5 i) S256x128.size (k0_off5_inb i)))⟩,
     ⟨Rect.unit ![3, 0, 0] S1x256x128.size inb_S8x256x128_S1x256x128_3_0_0, (diagAcc v7 (box arg3 X3 ![0, 384] S256x128.size inb_S256x1024_S256x128_0_384) (box arg4 X4 (k0_off4 i) S256x128.size (k0_off4_inb i)) (box arg5 X5 (k0_off4 i) S256x128.size (k0_off4_inb i)))⟩,
     ⟨Rect.unit ![2, 0, 0] S1x256x128.size inb_S8x256x128_S1x256x128_2_0_0, (diagAcc v7 (box arg3 X3 ![0, 256] S256x128.size inb_S256x1024_S256x128_0_256) (box arg4 X4 (k0_off3 i) S256x128.size (k0_off3_inb i)) (box arg5 X5 (k0_off3 i) S256x128.size (k0_off3_inb i)))⟩,
     ⟨Rect.unit ![1, 0, 0] S1x256x128.size inb_S8x256x128_S1x256x128_1_0_0, (diagAcc v7 (box arg3 X3 ![0, 128] S256x128.size inb_S256x1024_S256x128_0_128) (box arg4 X4 (k0_off2 i) S256x128.size (k0_off2_inb i)) (box arg5 X5 (k0_off2 i) S256x128.size (k0_off2_inb i)))⟩,
     ⟨Rect.unit ![0, 0, 0] S1x256x128.size inb_S8x256x128_S1x256x128_0_0_0, (diagAcc v7 (box arg3 X3 ![0, 0] S256x128.size inb_S256x1024_S256x128_0_0) (box arg4 X4 (k0_off1 i) S256x128.size (k0_off1_inb i)) (box arg5 X5 (k0_off1 i) S256x128.size (k0_off1_inb i)))⟩]

variable (hc : k0_cond1 i = 1#1)

/-- The stores up to head 0 of the block before. -/
def odd7_1 : List (View.Piece (Elt F) S8x256x128 .f32) :=
  ⟨Rect.unit ![0, 0, 0] S1x256x128.size inb_S8x256x128_S1x256x128_0_0_0, oneCarry v7 (box arg3 X3 ![0, 0] S256x128.size inb_S256x1024_S256x128_0_0) (box arg4 X4 (k0_off9 i) S256x128.size (k0_off9_inb i hc)) (arg7.view.readCov (diag7 i arg3 arg4 v7 X3 X4) (Rect.unit (s := S8x256x128) ![0, 0, 0] S1x256x128.size inb_S8x256x128_S1x256x128_0_0_0).toLoadRect)⟩ :: (diag7 i arg3 arg4 v7 X3 X4)
def odd8_1 : List (View.Piece (Elt F) S8x256x128 .f32) :=
  ⟨Rect.unit ![0, 0, 0] S1x256x128.size inb_S8x256x128_S1x256x128_0_0_0, oneAcc v7 (box arg3 X3 ![0, 0] S256x128.size inb_S256x1024_S256x128_0_0) (box arg4 X4 (k0_off9 i) S256x128.size (k0_off9_inb i hc)) (box arg5 X5 (k0_off9 i) S256x128.size (k0_off9_inb i hc)) (arg7.view.readCov (diag7 i arg3 arg4 v7 X3 X4) (Rect.unit (s := S8x256x128) ![0, 0, 0] S1x256x128.size inb_S8x256x128_S1x256x128_0_0_0).toLoadRect) (arg8.view.readCov (diag8 i arg3 arg4 arg5 v7 X3 X4 X5) (Rect.unit (s := S8x256x128) ![0, 0, 0] S1x256x128.size inb_S8x256x128_S1x256x128_0_0_0).toLoadRect)⟩ :: (diag8 i arg3 arg4 arg5 v7 X3 X4 X5)
/-- The stores up to head 1 of the block before. -/
def odd7_2 : List (View.Piece (Elt F) S8x256x128 .f32) :=
  ⟨Rect.unit ![1, 0, 0] S1x256x128.size inb_S8x256x128_S1x256x128_1_0_0, oneCarry v7 (box arg3 X3 ![0, 128] S256x128.size inb_S256x1024_S256x128_0_128) (box arg4 X4 (k0_off10 i) S256x128.size (k0_off10_inb i hc)) (arg7.view.readCov (odd7_1 i arg3 arg4 arg7 v7 X3 X4 hc) (Rect.unit (s := S8x256x128) ![1, 0, 0] S1x256x128.size inb_S8x256x128_S1x256x128_1_0_0).toLoadRect)⟩ :: (odd7_1 i arg3 arg4 arg7 v7 X3 X4 hc)
def odd8_2 : List (View.Piece (Elt F) S8x256x128 .f32) :=
  ⟨Rect.unit ![1, 0, 0] S1x256x128.size inb_S8x256x128_S1x256x128_1_0_0, oneAcc v7 (box arg3 X3 ![0, 128] S256x128.size inb_S256x1024_S256x128_0_128) (box arg4 X4 (k0_off10 i) S256x128.size (k0_off10_inb i hc)) (box arg5 X5 (k0_off10 i) S256x128.size (k0_off10_inb i hc)) (arg7.view.readCov (odd7_1 i arg3 arg4 arg7 v7 X3 X4 hc) (Rect.unit (s := S8x256x128) ![1, 0, 0] S1x256x128.size inb_S8x256x128_S1x256x128_1_0_0).toLoadRect) (arg8.view.readCov (odd8_1 i arg3 arg4 arg5 arg7 arg8 v7 X3 X4 X5 hc) (Rect.unit (s := S8x256x128) ![1, 0, 0] S1x256x128.size inb_S8x256x128_S1x256x128_1_0_0).toLoadRect)⟩ :: (odd8_1 i arg3 arg4 arg5 arg7 arg8 v7 X3 X4 X5 hc)
/-- The stores up to head 2 of the block before. -/
def odd7_3 : List (View.Piece (Elt F) S8x256x128 .f32) :=
  ⟨Rect.unit ![2, 0, 0] S1x256x128.size inb_S8x256x128_S1x256x128_2_0_0, oneCarry v7 (box arg3 X3 ![0, 256] S256x128.size inb_S256x1024_S256x128_0_256) (box arg4 X4 (k0_off11 i) S256x128.size (k0_off11_inb i hc)) (arg7.view.readCov (odd7_2 i arg3 arg4 arg7 v7 X3 X4 hc) (Rect.unit (s := S8x256x128) ![2, 0, 0] S1x256x128.size inb_S8x256x128_S1x256x128_2_0_0).toLoadRect)⟩ :: (odd7_2 i arg3 arg4 arg7 v7 X3 X4 hc)
def odd8_3 : List (View.Piece (Elt F) S8x256x128 .f32) :=
  ⟨Rect.unit ![2, 0, 0] S1x256x128.size inb_S8x256x128_S1x256x128_2_0_0, oneAcc v7 (box arg3 X3 ![0, 256] S256x128.size inb_S256x1024_S256x128_0_256) (box arg4 X4 (k0_off11 i) S256x128.size (k0_off11_inb i hc)) (box arg5 X5 (k0_off11 i) S256x128.size (k0_off11_inb i hc)) (arg7.view.readCov (odd7_2 i arg3 arg4 arg7 v7 X3 X4 hc) (Rect.unit (s := S8x256x128) ![2, 0, 0] S1x256x128.size inb_S8x256x128_S1x256x128_2_0_0).toLoadRect) (arg8.view.readCov (odd8_2 i arg3 arg4 arg5 arg7 arg8 v7 X3 X4 X5 hc) (Rect.unit (s := S8x256x128) ![2, 0, 0] S1x256x128.size inb_S8x256x128_S1x256x128_2_0_0).toLoadRect)⟩ :: (odd8_2 i arg3 arg4 arg5 arg7 arg8 v7 X3 X4 X5 hc)
/-- The stores up to head 3 of the block before. -/
def odd7_4 : List (View.Piece (Elt F) S8x256x128 .f32) :=
  ⟨Rect.unit ![3, 0, 0] S1x256x128.size inb_S8x256x128_S1x256x128_3_0_0, oneCarry v7 (box arg3 X3 ![0, 384] S256x128.size inb_S256x1024_S256x128_0_384) (box arg4 X4 (k0_off12 i) S256x128.size (k0_off12_inb i hc)) (arg7.view.readCov (odd7_3 i arg3 arg4 arg7 v7 X3 X4 hc) (Rect.unit (s := S8x256x128) ![3, 0, 0] S1x256x128.size inb_S8x256x128_S1x256x128_3_0_0).toLoadRect)⟩ :: (odd7_3 i arg3 arg4 arg7 v7 X3 X4 hc)
def odd8_4 : List (View.Piece (Elt F) S8x256x128 .f32) :=
  ⟨Rect.unit ![3, 0, 0] S1x256x128.size inb_S8x256x128_S1x256x128_3_0_0, oneAcc v7 (box arg3 X3 ![0, 384] S256x128.size inb_S256x1024_S256x128_0_384) (box arg4 X4 (k0_off12 i) S256x128.size (k0_off12_inb i hc)) (box arg5 X5 (k0_off12 i) S256x128.size (k0_off12_inb i hc)) (arg7.view.readCov (odd7_3 i arg3 arg4 arg7 v7 X3 X4 hc) (Rect.unit (s := S8x256x128) ![3, 0, 0] S1x256x128.size inb_S8x256x128_S1x256x128_3_0_0).toLoadRect) (arg8.view.readCov (odd8_3 i arg3 arg4 arg5 arg7 arg8 v7 X3 X4 X5 hc) (Rect.unit (s := S8x256x128) ![3, 0, 0] S1x256x128.size inb_S8x256x128_S1x256x128_3_0_0).toLoadRect)⟩ :: (odd8_3 i arg3 arg4 arg5 arg7 arg8 v7 X3 X4 X5 hc)
/-- The stores up to head 4 of the block before. -/
def odd7_5 : List (View.Piece (Elt F) S8x256x128 .f32) :=
  ⟨Rect.unit ![4, 0, 0] S1x256x128.size inb_S8x256x128_S1x256x128_4_0_0, oneCarry v7 (box arg3 X3 ![0, 512] S256x128.size inb_S256x1024_S256x128_0_512) (box arg4 X4 (k0_off13 i) S256x128.size (k0_off13_inb i hc)) (arg7.view.readCov (odd7_4 i arg3 arg4 arg7 v7 X3 X4 hc) (Rect.unit (s := S8x256x128) ![4, 0, 0] S1x256x128.size inb_S8x256x128_S1x256x128_4_0_0).toLoadRect)⟩ :: (odd7_4 i arg3 arg4 arg7 v7 X3 X4 hc)
def odd8_5 : List (View.Piece (Elt F) S8x256x128 .f32) :=
  ⟨Rect.unit ![4, 0, 0] S1x256x128.size inb_S8x256x128_S1x256x128_4_0_0, oneAcc v7 (box arg3 X3 ![0, 512] S256x128.size inb_S256x1024_S256x128_0_512) (box arg4 X4 (k0_off13 i) S256x128.size (k0_off13_inb i hc)) (box arg5 X5 (k0_off13 i) S256x128.size (k0_off13_inb i hc)) (arg7.view.readCov (odd7_4 i arg3 arg4 arg7 v7 X3 X4 hc) (Rect.unit (s := S8x256x128) ![4, 0, 0] S1x256x128.size inb_S8x256x128_S1x256x128_4_0_0).toLoadRect) (arg8.view.readCov (odd8_4 i arg3 arg4 arg5 arg7 arg8 v7 X3 X4 X5 hc) (Rect.unit (s := S8x256x128) ![4, 0, 0] S1x256x128.size inb_S8x256x128_S1x256x128_4_0_0).toLoadRect)⟩ :: (odd8_4 i arg3 arg4 arg5 arg7 arg8 v7 X3 X4 X5 hc)
/-- The stores up to head 5 of the block before. -/
def odd7_6 : List (View.Piece (Elt F) S8x256x128 .f32) :=
  ⟨Rect.unit ![5, 0, 0] S1x256x128.size inb_S8x256x128_S1x256x128_5_0_0, oneCarry v7 (box arg3 X3 ![0, 640] S256x128.size inb_S256x1024_S256x128_0_640) (box arg4 X4 (k0_off14 i) S256x128.size (k0_off14_inb i hc)) (arg7.view.readCov (odd7_5 i arg3 arg4 arg7 v7 X3 X4 hc) (Rect.unit (s := S8x256x128) ![5, 0, 0] S1x256x128.size inb_S8x256x128_S1x256x128_5_0_0).toLoadRect)⟩ :: (odd7_5 i arg3 arg4 arg7 v7 X3 X4 hc)
def odd8_6 : List (View.Piece (Elt F) S8x256x128 .f32) :=
  ⟨Rect.unit ![5, 0, 0] S1x256x128.size inb_S8x256x128_S1x256x128_5_0_0, oneAcc v7 (box arg3 X3 ![0, 640] S256x128.size inb_S256x1024_S256x128_0_640) (box arg4 X4 (k0_off14 i) S256x128.size (k0_off14_inb i hc)) (box arg5 X5 (k0_off14 i) S256x128.size (k0_off14_inb i hc)) (arg7.view.readCov (odd7_5 i arg3 arg4 arg7 v7 X3 X4 hc) (Rect.unit (s := S8x256x128) ![5, 0, 0] S1x256x128.size inb_S8x256x128_S1x256x128_5_0_0).toLoadRect) (arg8.view.readCov (odd8_5 i arg3 arg4 arg5 arg7 arg8 v7 X3 X4 X5 hc) (Rect.unit (s := S8x256x128) ![5, 0, 0] S1x256x128.size inb_S8x256x128_S1x256x128_5_0_0).toLoadRect)⟩ :: (odd8_5 i arg3 arg4 arg5 arg7 arg8 v7 X3 X4 X5 hc)
/-- The stores up to head 6 of the block before. -/
def odd7_7 : List (View.Piece (Elt F) S8x256x128 .f32) :=
  ⟨Rect.unit ![6, 0, 0] S1x256x128.size inb_S8x256x128_S1x256x128_6_0_0, oneCarry v7 (box arg3 X3 ![0, 768] S256x128.size inb_S256x1024_S256x128_0_768) (box arg4 X4 (k0_off15 i) S256x128.size (k0_off15_inb i hc)) (arg7.view.readCov (odd7_6 i arg3 arg4 arg7 v7 X3 X4 hc) (Rect.unit (s := S8x256x128) ![6, 0, 0] S1x256x128.size inb_S8x256x128_S1x256x128_6_0_0).toLoadRect)⟩ :: (odd7_6 i arg3 arg4 arg7 v7 X3 X4 hc)
def odd8_7 : List (View.Piece (Elt F) S8x256x128 .f32) :=
  ⟨Rect.unit ![6, 0, 0] S1x256x128.size inb_S8x256x128_S1x256x128_6_0_0, oneAcc v7 (box arg3 X3 ![0, 768] S256x128.size inb_S256x1024_S256x128_0_768) (box arg4 X4 (k0_off15 i) S256x128.size (k0_off15_inb i hc)) (box arg5 X5 (k0_off15 i) S256x128.size (k0_off15_inb i hc)) (arg7.view.readCov (odd7_6 i arg3 arg4 arg7 v7 X3 X4 hc) (Rect.unit (s := S8x256x128) ![6, 0, 0] S1x256x128.size inb_S8x256x128_S1x256x128_6_0_0).toLoadRect) (arg8.view.readCov (odd8_6 i arg3 arg4 arg5 arg7 arg8 v7 X3 X4 X5 hc) (Rect.unit (s := S8x256x128) ![6, 0, 0] S1x256x128.size inb_S8x256x128_S1x256x128_6_0_0).toLoadRect)⟩ :: (odd8_6 i arg3 arg4 arg5 arg7 arg8 v7 X3 X4 X5 hc)
/-- The stores up to head 7 of the block before. -/
def odd7_8 : List (View.Piece (Elt F) S8x256x128 .f32) :=
  ⟨Rect.unit ![7, 0, 0] S1x256x128.size inb_S8x256x128_S1x256x128_7_0_0, oneCarry v7 (box arg3 X3 ![0, 896] S256x128.size inb_S256x1024_S256x128_0_896) (box arg4 X4 (k0_off16 i) S256x128.size (k0_off16_inb i hc)) (arg7.view.readCov (odd7_7 i arg3 arg4 arg7 v7 X3 X4 hc) (Rect.unit (s := S8x256x128) ![7, 0, 0] S1x256x128.size inb_S8x256x128_S1x256x128_7_0_0).toLoadRect)⟩ :: (odd7_7 i arg3 arg4 arg7 v7 X3 X4 hc)
def odd8_8 : List (View.Piece (Elt F) S8x256x128 .f32) :=
  ⟨Rect.unit ![7, 0, 0] S1x256x128.size inb_S8x256x128_S1x256x128_7_0_0, oneAcc v7 (box arg3 X3 ![0, 896] S256x128.size inb_S256x1024_S256x128_0_896) (box arg4 X4 (k0_off16 i) S256x128.size (k0_off16_inb i hc)) (box arg5 X5 (k0_off16 i) S256x128.size (k0_off16_inb i hc)) (arg7.view.readCov (odd7_7 i arg3 arg4 arg7 v7 X3 X4 hc) (Rect.unit (s := S8x256x128) ![7, 0, 0] S1x256x128.size inb_S8x256x128_S1x256x128_7_0_0).toLoadRect) (arg8.view.readCov (odd8_7 i arg3 arg4 arg5 arg7 arg8 v7 X3 X4 X5 hc) (Rect.unit (s := S8x256x128) ![7, 0, 0] S1x256x128.size inb_S8x256x128_S1x256x128_7_0_0).toLoadRect)⟩ :: (odd8_7 i arg3 arg4 arg5 arg7 arg8 v7 X3 X4 X5 hc)

/-- What the block before reads of a head's carry and sum is what the diagonal block stored there. -/
theorem load7_0 : arg7.view.readCov (diag7 i arg3 arg4 v7 X3 X4) (Rect.unit (s := S8x256x128) ![0, 0, 0] S1x256x128.size inb_S8x256x128_S1x256x128_0_0_0).toLoadRect = (diagCarry v7 (box arg3 X3 ![0, 0] S256x128.size inb_S256x1024_S256x128_0_0) (box arg4 X4 (k0_off1 i) S256x128.size (k0_off1_inb i))) := by
  unfold  diag7
  simp (disch := decide) only [↓ View.readCov_skip, ↓ View.readCov_cons_toLoadRect]
theorem load8_0 : arg8.view.readCov (diag8 i arg3 arg4 arg5 v7 X3 X4 X5) (Rect.unit (s := S8x256x128) ![0, 0, 0] S1x256x128.size inb_S8x256x128_S1x256x128_0_0_0).toLoadRect = (diagAcc v7 (box arg3 X3 ![0, 0] S256x128.size inb_S256x1024_S256x128_0_0) (box arg4 X4 (k0_off1 i) S256x128.size (k0_off1_inb i)) (box arg5 X5 (k0_off1 i) S256x128.size (k0_off1_inb i))) := by
  unfold  diag8
  simp (disch := decide) only [↓ View.readCov_skip, ↓ View.readCov_cons_toLoadRect]
theorem load7_1 : arg7.view.readCov (odd7_1 i arg3 arg4 arg7 v7 X3 X4 hc) (Rect.unit (s := S8x256x128) ![1, 0, 0] S1x256x128.size inb_S8x256x128_S1x256x128_1_0_0).toLoadRect = (diagCarry v7 (box arg3 X3 ![0, 128] S256x128.size inb_S256x1024_S256x128_0_128) (box arg4 X4 (k0_off2 i) S256x128.size (k0_off2_inb i))) := by
  unfold odd7_1 diag7
  simp (disch := decide) only [↓ View.readCov_skip, ↓ View.readCov_cons_toLoadRect]
theorem load8_1 : arg8.view.readCov (odd8_1 i arg3 arg4 arg5 arg7 arg8 v7 X3 X4 X5 hc) (Rect.unit (s := S8x256x128) ![1, 0, 0] S1x256x128.size inb_S8x256x128_S1x256x128_1_0_0).toLoadRect = (diagAcc v7 (box arg3 X3 ![0, 128] S256x128.size inb_S256x1024_S256x128_0_128) (box arg4 X4 (k0_off2 i) S256x128.size (k0_off2_inb i)) (box arg5 X5 (k0_off2 i) S256x128.size (k0_off2_inb i))) := by
  unfold odd8_1 diag8
  simp (disch := decide) only [↓ View.readCov_skip, ↓ View.readCov_cons_toLoadRect]
theorem load7_2 : arg7.view.readCov (odd7_2 i arg3 arg4 arg7 v7 X3 X4 hc) (Rect.unit (s := S8x256x128) ![2, 0, 0] S1x256x128.size inb_S8x256x128_S1x256x128_2_0_0).toLoadRect = (diagCarry v7 (box arg3 X3 ![0, 256] S256x128.size inb_S256x1024_S256x128_0_256) (box arg4 X4 (k0_off3 i) S256x128.size (k0_off3_inb i))) := by
  unfold odd7_2 odd7_1 diag7
  simp (disch := decide) only [↓ View.readCov_skip, ↓ View.readCov_cons_toLoadRect]
theorem load8_2 : arg8.view.readCov (odd8_2 i arg3 arg4 arg5 arg7 arg8 v7 X3 X4 X5 hc) (Rect.unit (s := S8x256x128) ![2, 0, 0] S1x256x128.size inb_S8x256x128_S1x256x128_2_0_0).toLoadRect = (diagAcc v7 (box arg3 X3 ![0, 256] S256x128.size inb_S256x1024_S256x128_0_256) (box arg4 X4 (k0_off3 i) S256x128.size (k0_off3_inb i)) (box arg5 X5 (k0_off3 i) S256x128.size (k0_off3_inb i))) := by
  unfold odd8_2 odd8_1 diag8
  simp (disch := decide) only [↓ View.readCov_skip, ↓ View.readCov_cons_toLoadRect]
theorem load7_3 : arg7.view.readCov (odd7_3 i arg3 arg4 arg7 v7 X3 X4 hc) (Rect.unit (s := S8x256x128) ![3, 0, 0] S1x256x128.size inb_S8x256x128_S1x256x128_3_0_0).toLoadRect = (diagCarry v7 (box arg3 X3 ![0, 384] S256x128.size inb_S256x1024_S256x128_0_384) (box arg4 X4 (k0_off4 i) S256x128.size (k0_off4_inb i))) := by
  unfold odd7_3 odd7_2 odd7_1 diag7
  simp (disch := decide) only [↓ View.readCov_skip, ↓ View.readCov_cons_toLoadRect]
theorem load8_3 : arg8.view.readCov (odd8_3 i arg3 arg4 arg5 arg7 arg8 v7 X3 X4 X5 hc) (Rect.unit (s := S8x256x128) ![3, 0, 0] S1x256x128.size inb_S8x256x128_S1x256x128_3_0_0).toLoadRect = (diagAcc v7 (box arg3 X3 ![0, 384] S256x128.size inb_S256x1024_S256x128_0_384) (box arg4 X4 (k0_off4 i) S256x128.size (k0_off4_inb i)) (box arg5 X5 (k0_off4 i) S256x128.size (k0_off4_inb i))) := by
  unfold odd8_3 odd8_2 odd8_1 diag8
  simp (disch := decide) only [↓ View.readCov_skip, ↓ View.readCov_cons_toLoadRect]
theorem load7_4 : arg7.view.readCov (odd7_4 i arg3 arg4 arg7 v7 X3 X4 hc) (Rect.unit (s := S8x256x128) ![4, 0, 0] S1x256x128.size inb_S8x256x128_S1x256x128_4_0_0).toLoadRect = (diagCarry v7 (box arg3 X3 ![0, 512] S256x128.size inb_S256x1024_S256x128_0_512) (box arg4 X4 (k0_off5 i) S256x128.size (k0_off5_inb i))) := by
  unfold odd7_4 odd7_3 odd7_2 odd7_1 diag7
  simp (disch := decide) only [↓ View.readCov_skip, ↓ View.readCov_cons_toLoadRect]
theorem load8_4 : arg8.view.readCov (odd8_4 i arg3 arg4 arg5 arg7 arg8 v7 X3 X4 X5 hc) (Rect.unit (s := S8x256x128) ![4, 0, 0] S1x256x128.size inb_S8x256x128_S1x256x128_4_0_0).toLoadRect = (diagAcc v7 (box arg3 X3 ![0, 512] S256x128.size inb_S256x1024_S256x128_0_512) (box arg4 X4 (k0_off5 i) S256x128.size (k0_off5_inb i)) (box arg5 X5 (k0_off5 i) S256x128.size (k0_off5_inb i))) := by
  unfold odd8_4 odd8_3 odd8_2 odd8_1 diag8
  simp (disch := decide) only [↓ View.readCov_skip, ↓ View.readCov_cons_toLoadRect]
theorem load7_5 : arg7.view.readCov (odd7_5 i arg3 arg4 arg7 v7 X3 X4 hc) (Rect.unit (s := S8x256x128) ![5, 0, 0] S1x256x128.size inb_S8x256x128_S1x256x128_5_0_0).toLoadRect = (diagCarry v7 (box arg3 X3 ![0, 640] S256x128.size inb_S256x1024_S256x128_0_640) (box arg4 X4 (k0_off6 i) S256x128.size (k0_off6_inb i))) := by
  unfold odd7_5 odd7_4 odd7_3 odd7_2 odd7_1 diag7
  simp (disch := decide) only [↓ View.readCov_skip, ↓ View.readCov_cons_toLoadRect]
theorem load8_5 : arg8.view.readCov (odd8_5 i arg3 arg4 arg5 arg7 arg8 v7 X3 X4 X5 hc) (Rect.unit (s := S8x256x128) ![5, 0, 0] S1x256x128.size inb_S8x256x128_S1x256x128_5_0_0).toLoadRect = (diagAcc v7 (box arg3 X3 ![0, 640] S256x128.size inb_S256x1024_S256x128_0_640) (box arg4 X4 (k0_off6 i) S256x128.size (k0_off6_inb i)) (box arg5 X5 (k0_off6 i) S256x128.size (k0_off6_inb i))) := by
  unfold odd8_5 odd8_4 odd8_3 odd8_2 odd8_1 diag8
  simp (disch := decide) only [↓ View.readCov_skip, ↓ View.readCov_cons_toLoadRect]
theorem load7_6 : arg7.view.readCov (odd7_6 i arg3 arg4 arg7 v7 X3 X4 hc) (Rect.unit (s := S8x256x128) ![6, 0, 0] S1x256x128.size inb_S8x256x128_S1x256x128_6_0_0).toLoadRect = (diagCarry v7 (box arg3 X3 ![0, 768] S256x128.size inb_S256x1024_S256x128_0_768) (box arg4 X4 (k0_off7 i) S256x128.size (k0_off7_inb i))) := by
  unfold odd7_6 odd7_5 odd7_4 odd7_3 odd7_2 odd7_1 diag7
  simp (disch := decide) only [↓ View.readCov_skip, ↓ View.readCov_cons_toLoadRect]
theorem load8_6 : arg8.view.readCov (odd8_6 i arg3 arg4 arg5 arg7 arg8 v7 X3 X4 X5 hc) (Rect.unit (s := S8x256x128) ![6, 0, 0] S1x256x128.size inb_S8x256x128_S1x256x128_6_0_0).toLoadRect = (diagAcc v7 (box arg3 X3 ![0, 768] S256x128.size inb_S256x1024_S256x128_0_768) (box arg4 X4 (k0_off7 i) S256x128.size (k0_off7_inb i)) (box arg5 X5 (k0_off7 i) S256x128.size (k0_off7_inb i))) := by
  unfold odd8_6 odd8_5 odd8_4 odd8_3 odd8_2 odd8_1 diag8
  simp (disch := decide) only [↓ View.readCov_skip, ↓ View.readCov_cons_toLoadRect]
theorem load7_7 : arg7.view.readCov (odd7_7 i arg3 arg4 arg7 v7 X3 X4 hc) (Rect.unit (s := S8x256x128) ![7, 0, 0] S1x256x128.size inb_S8x256x128_S1x256x128_7_0_0).toLoadRect = (diagCarry v7 (box arg3 X3 ![0, 896] S256x128.size inb_S256x1024_S256x128_0_896) (box arg4 X4 (k0_off8 i) S256x128.size (k0_off8_inb i))) := by
  unfold odd7_7 odd7_6 odd7_5 odd7_4 odd7_3 odd7_2 odd7_1 diag7
  simp (disch := decide) only [↓ View.readCov_skip, ↓ View.readCov_cons_toLoadRect]
theorem load8_7 : arg8.view.readCov (odd8_7 i arg3 arg4 arg5 arg7 arg8 v7 X3 X4 X5 hc) (Rect.unit (s := S8x256x128) ![7, 0, 0] S1x256x128.size inb_S8x256x128_S1x256x128_7_0_0).toLoadRect = (diagAcc v7 (box arg3 X3 ![0, 896] S256x128.size inb_S256x1024_S256x128_0_896) (box arg4 X4 (k0_off8 i) S256x128.size (k0_off8_inb i)) (box arg5 X5 (k0_off8 i) S256x128.size (k0_off8_inb i))) := by
  unfold odd8_7 odd8_6 odd8_5 odd8_4 odd8_3 odd8_2 odd8_1 diag8
  simp (disch := decide) only [↓ View.readCov_skip, ↓ View.readCov_cons_toLoadRect]

/-- The stores of the block before. -/
def one7 : List (View.Piece (Elt F) S8x256x128 .f32) :=
    [⟨Rect.unit ![7, 0, 0] S1x256x128.size inb_S8x256x128_S1x256x128_7_0_0, oneCarry v7 (box arg3 X3 ![0, 896] S256x128.size inb_S256x1024_S256x128_0_896) (box arg4 X4 (k0_off16 i) S256x128.size (k0_off16_inb i hc)) (diagCarry v7 (box arg3 X3 ![0, 896] S256x128.size inb_S256x1024_S256x128_0_896) (box arg4 X4 (k0_off8 i) S256x128.size (k0_off8_inb i)))⟩,
     ⟨Rect.unit ![6, 0, 0] S1x256x128.size inb_S8x256x128_S1x256x128_6_0_0, oneCarry v7 (box arg3 X3 ![0, 768] S256x128.size inb_S256x1024_S256x128_0_768) (box arg4 X4 (k0_off15 i) S256x128.size (k0_off15_inb i hc)) (diagCarry v7 (box arg3 X3 ![0, 768] S256x128.size inb_S256x1024_S256x128_0_768) (box arg4 X4 (k0_off7 i) S256x128.size (k0_off7_inb i)))⟩,
     ⟨Rect.unit ![5, 0, 0] S1x256x128.size inb_S8x256x128_S1x256x128_5_0_0, oneCarry v7 (box arg3 X3 ![0, 640] S256x128.size inb_S256x1024_S256x128_0_640) (box arg4 X4 (k0_off14 i) S256x128.size (k0_off14_inb i hc)) (diagCarry v7 (box arg3 X3 ![0, 640] S256x128.size inb_S256x1024_S256x128_0_640) (box arg4 X4 (k0_off6 i) S256x128.size (k0_off6_inb i)))⟩,
     ⟨Rect.unit ![4, 0, 0] S1x256x128.size inb_S8x256x128_S1x256x128_4_0_0, oneCarry v7 (box arg3 X3 ![0, 512] S256x128.size inb_S256x1024_S256x128_0_512) (box arg4 X4 (k0_off13 i) S256x128.size (k0_off13_inb i hc)) (diagCarry v7 (box arg3 X3 ![0, 512] S256x128.size inb_S256x1024_S256x128_0_512) (box arg4 X4 (k0_off5 i) S256x128.size (k0_off5_inb i)))⟩,
     ⟨Rect.unit ![3, 0, 0] S1x256x128.size inb_S8x256x128_S1x256x128_3_0_0, oneCarry v7 (box arg3 X3 ![0, 384] S256x128.size inb_S256x1024_S256x128_0_384) (box arg4 X4 (k0_off12 i) S256x128.size (k0_off12_inb i hc)) (diagCarry v7 (box arg3 X3 ![0, 384] S256x128.size inb_S256x1024_S256x128_0_384) (box arg4 X4 (k0_off4 i) S256x128.size (k0_off4_inb i)))⟩,
     ⟨Rect.unit ![2, 0, 0] S1x256x128.size inb_S8x256x128_S1x256x128_2_0_0, oneCarry v7 (box arg3 X3 ![0, 256] S256x128.size inb_S256x1024_S256x128_0_256) (box arg4 X4 (k0_off11 i) S256x128.size (k0_off11_inb i hc)) (diagCarry v7 (box arg3 X3 ![0, 256] S256x128.size inb_S256x1024_S256x128_0_256) (box arg4 X4 (k0_off3 i) S256x128.size (k0_off3_inb i)))⟩,
     ⟨Rect.unit ![1, 0, 0] S1x256x128.size inb_S8x256x128_S1x256x128_1_0_0, oneCarry v7 (box arg3 X3 ![0, 128] S256x128.size inb_S256x1024_S256x128_0_128) (box arg4 X4 (k0_off10 i) S256x128.size (k0_off10_inb i hc)) (diagCarry v7 (box arg3 X3 ![0, 128] S256x128.size inb_S256x1024_S256x128_0_128) (box arg4 X4 (k0_off2 i) S256x128.size (k0_off2_inb i)))⟩,
     ⟨Rect.unit ![0, 0, 0] S1x256x128.size inb_S8x256x128_S1x256x128_0_0_0, oneCarry v7 (box arg3 X3 ![0, 0] S256x128.size inb_S256x1024_S256x128_0_0) (box arg4 X4 (k0_off9 i) S256x128.size (k0_off9_inb i hc)) (diagCarry v7 (box arg3 X3 ![0, 0] S256x128.size inb_S256x1024_S256x128_0_0) (box arg4 X4 (k0_off1 i) S256x128.size (k0_off1_inb i)))⟩]
def one8 : List (View.Piece (Elt F) S8x256x128 .f32) :=
    [⟨Rect.unit ![7, 0, 0] S1x256x128.size inb_S8x256x128_S1x256x128_7_0_0, oneAcc v7 (box arg3 X3 ![0, 896] S256x128.size inb_S256x1024_S256x128_0_896) (box arg4 X4 (k0_off16 i) S256x128.size (k0_off16_inb i hc)) (box arg5 X5 (k0_off16 i) S256x128.size (k0_off16_inb i hc)) (diagCarry v7 (box arg3 X3 ![0, 896] S256x128.size inb_S256x1024_S256x128_0_896) (box arg4 X4 (k0_off8 i) S256x128.size (k0_off8_inb i))) (diagAcc v7 (box arg3 X3 ![0, 896] S256x128.size inb_S256x1024_S256x128_0_896) (box arg4 X4 (k0_off8 i) S256x128.size (k0_off8_inb i)) (box arg5 X5 (k0_off8 i) S256x128.size (k0_off8_inb i)))⟩,
     ⟨Rect.unit ![6, 0, 0] S1x256x128.size inb_S8x256x128_S1x256x128_6_0_0, oneAcc v7 (box arg3 X3 ![0, 768] S256x128.size inb_S256x1024_S256x128_0_768) (box arg4 X4 (k0_off15 i) S256x128.size (k0_off15_inb i hc)) (box arg5 X5 (k0_off15 i) S256x128.size (k0_off15_inb i hc)) (diagCarry v7 (box arg3 X3 ![0, 768] S256x128.size inb_S256x1024_S256x128_0_768) (box arg4 X4 (k0_off7 i) S256x128.size (k0_off7_inb i))) (diagAcc v7 (box arg3 X3 ![0, 768] S256x128.size inb_S256x1024_S256x128_0_768) (box arg4 X4 (k0_off7 i) S256x128.size (k0_off7_inb i)) (box arg5 X5 (k0_off7 i) S256x128.size (k0_off7_inb i)))⟩,
     ⟨Rect.unit ![5, 0, 0] S1x256x128.size inb_S8x256x128_S1x256x128_5_0_0, oneAcc v7 (box arg3 X3 ![0, 640] S256x128.size inb_S256x1024_S256x128_0_640) (box arg4 X4 (k0_off14 i) S256x128.size (k0_off14_inb i hc)) (box arg5 X5 (k0_off14 i) S256x128.size (k0_off14_inb i hc)) (diagCarry v7 (box arg3 X3 ![0, 640] S256x128.size inb_S256x1024_S256x128_0_640) (box arg4 X4 (k0_off6 i) S256x128.size (k0_off6_inb i))) (diagAcc v7 (box arg3 X3 ![0, 640] S256x128.size inb_S256x1024_S256x128_0_640) (box arg4 X4 (k0_off6 i) S256x128.size (k0_off6_inb i)) (box arg5 X5 (k0_off6 i) S256x128.size (k0_off6_inb i)))⟩,
     ⟨Rect.unit ![4, 0, 0] S1x256x128.size inb_S8x256x128_S1x256x128_4_0_0, oneAcc v7 (box arg3 X3 ![0, 512] S256x128.size inb_S256x1024_S256x128_0_512) (box arg4 X4 (k0_off13 i) S256x128.size (k0_off13_inb i hc)) (box arg5 X5 (k0_off13 i) S256x128.size (k0_off13_inb i hc)) (diagCarry v7 (box arg3 X3 ![0, 512] S256x128.size inb_S256x1024_S256x128_0_512) (box arg4 X4 (k0_off5 i) S256x128.size (k0_off5_inb i))) (diagAcc v7 (box arg3 X3 ![0, 512] S256x128.size inb_S256x1024_S256x128_0_512) (box arg4 X4 (k0_off5 i) S256x128.size (k0_off5_inb i)) (box arg5 X5 (k0_off5 i) S256x128.size (k0_off5_inb i)))⟩,
     ⟨Rect.unit ![3, 0, 0] S1x256x128.size inb_S8x256x128_S1x256x128_3_0_0, oneAcc v7 (box arg3 X3 ![0, 384] S256x128.size inb_S256x1024_S256x128_0_384) (box arg4 X4 (k0_off12 i) S256x128.size (k0_off12_inb i hc)) (box arg5 X5 (k0_off12 i) S256x128.size (k0_off12_inb i hc)) (diagCarry v7 (box arg3 X3 ![0, 384] S256x128.size inb_S256x1024_S256x128_0_384) (box arg4 X4 (k0_off4 i) S256x128.size (k0_off4_inb i))) (diagAcc v7 (box arg3 X3 ![0, 384] S256x128.size inb_S256x1024_S256x128_0_384) (box arg4 X4 (k0_off4 i) S256x128.size (k0_off4_inb i)) (box arg5 X5 (k0_off4 i) S256x128.size (k0_off4_inb i)))⟩,
     ⟨Rect.unit ![2, 0, 0] S1x256x128.size inb_S8x256x128_S1x256x128_2_0_0, oneAcc v7 (box arg3 X3 ![0, 256] S256x128.size inb_S256x1024_S256x128_0_256) (box arg4 X4 (k0_off11 i) S256x128.size (k0_off11_inb i hc)) (box arg5 X5 (k0_off11 i) S256x128.size (k0_off11_inb i hc)) (diagCarry v7 (box arg3 X3 ![0, 256] S256x128.size inb_S256x1024_S256x128_0_256) (box arg4 X4 (k0_off3 i) S256x128.size (k0_off3_inb i))) (diagAcc v7 (box arg3 X3 ![0, 256] S256x128.size inb_S256x1024_S256x128_0_256) (box arg4 X4 (k0_off3 i) S256x128.size (k0_off3_inb i)) (box arg5 X5 (k0_off3 i) S256x128.size (k0_off3_inb i)))⟩,
     ⟨Rect.unit ![1, 0, 0] S1x256x128.size inb_S8x256x128_S1x256x128_1_0_0, oneAcc v7 (box arg3 X3 ![0, 128] S256x128.size inb_S256x1024_S256x128_0_128) (box arg4 X4 (k0_off10 i) S256x128.size (k0_off10_inb i hc)) (box arg5 X5 (k0_off10 i) S256x128.size (k0_off10_inb i hc)) (diagCarry v7 (box arg3 X3 ![0, 128] S256x128.size inb_S256x1024_S256x128_0_128) (box arg4 X4 (k0_off2 i) S256x128.size (k0_off2_inb i))) (diagAcc v7 (box arg3 X3 ![0, 128] S256x128.size inb_S256x1024_S256x128_0_128) (box arg4 X4 (k0_off2 i) S256x128.size (k0_off2_inb i)) (box arg5 X5 (k0_off2 i) S256x128.size (k0_off2_inb i)))⟩,
     ⟨Rect.unit ![0, 0, 0] S1x256x128.size inb_S8x256x128_S1x256x128_0_0_0, oneAcc v7 (box arg3 X3 ![0, 0] S256x128.size inb_S256x1024_S256x128_0_0) (box arg4 X4 (k0_off9 i) S256x128.size (k0_off9_inb i hc)) (box arg5 X5 (k0_off9 i) S256x128.size (k0_off9_inb i hc)) (diagCarry v7 (box arg3 X3 ![0, 0] S256x128.size inb_S256x1024_S256x128_0_0) (box arg4 X4 (k0_off1 i) S256x128.size (k0_off1_inb i))) (diagAcc v7 (box arg3 X3 ![0, 0] S256x128.size inb_S256x1024_S256x128_0_0) (box arg4 X4 (k0_off1 i) S256x128.size (k0_off1_inb i)) (box arg5 X5 (k0_off1 i) S256x128.size (k0_off1_inb i)))⟩]

theorem odd7_eq : odd7_8 i arg3 arg4 arg7 v7 X3 X4 hc = one7 i arg3 arg4 v7 X3 X4 hc ++ diag7 i arg3 arg4 v7 X3 X4 := by
  unfold odd7_8; rw [load7_7]
  unfold odd7_7; rw [load7_6]
  unfold odd7_6; rw [load7_5]
  unfold odd7_5; rw [load7_4]
  unfold odd7_4; rw [load7_3]
  unfold odd7_3; rw [load7_2]
  unfold odd7_2; rw [load7_1]
  unfold odd7_1; rw [load7_0]
  rfl
theorem odd8_eq : odd8_8 i arg3 arg4 arg5 arg7 arg8 v7 X3 X4 X5 hc = one8 i arg3 arg4 arg5 v7 X3 X4 X5 hc ++ diag8 i arg3 arg4 arg5 v7 X3 X4 X5 := by
  unfold odd8_8; rw [load7_7, load8_7]
  unfold odd8_7; rw [load7_6, load8_6]
  unfold odd8_6; rw [load7_5, load8_5]
  unfold odd8_5; rw [load7_4, load8_4]
  unfold odd8_4; rw [load7_3, load8_3]
  unfold odd8_3; rw [load7_2, load8_2]
  unfold odd8_2; rw [load7_1, load8_1]
  unfold odd8_1; rw [load7_0, load8_0]
  rfl
end

variable (c : Dev nD) (i : grid0.Coords) (arg3 : Memref sig .tc .vmem S256x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S256x1024 .bf16) (harg6 : arg6.IsWhole) (arg7 : Memref sig .tc .vmem S8x256x128 .f32) (harg7 : arg7.IsWhole) (arg8 : Memref sig .tc .vmem S8x256x128 .f32) (harg8 : arg8.IsWhole)
   (x0 : Vec F S256x1024 .bf16) (x1 : Vec F S4096x1024 .bf16) (x2 : Vec F S4096x1024 .bf16)

theorem diag7_A : kernelRun0_A.sl.HS0_8 c i arg3 harg3 arg4 harg4 x0 x1 = diag7 i arg3 arg4 fromKey2 (harg3.unread x0) (harg4.unread x1) := rfl
theorem diag8_A : kernelRun0_A.sl.HS1_8 c i arg3 harg3 arg4 harg4 arg5 harg5 x0 x1 x2 = diag8 i arg3 arg4 arg5 fromKey2 (harg3.unread x0) (harg4.unread x1) (harg5.unread x2) := rfl
theorem odd7_B (hc : cond0_0 i) : kernelRun0_B.sl.HS0_16 c i arg3 harg3 arg4 harg4 arg7 hc x0 x1 = odd7_8 i arg3 arg4 arg7 fromKey2 (harg3.unread x0) (harg4.unread x1) hc := rfl
theorem odd8_B (hc : cond0_0 i) : kernelRun0_B.sl.HS1_16 c i arg3 harg3 arg4 harg4 arg5 harg5 arg7 arg8 hc x0 x1 x2 = odd8_8 i arg3 arg4 arg5 arg7 arg8 fromKey2 (harg3.unread x0) (harg4.unread x1) (harg5.unread x2) hc := rfl

end Cert.KernelIdeal.Head

end
-- ==== Proof.Stick.lean ====
/-
  STICK-BREAKING ATTENTION OVER THE REALS: one query's output from its logits `x 0, x 1, …` and one column
  `v 0, v 1, …` of the values, the keys before position `T` taking part. Key `s` has the weight
  `exp (x s - ∑ of softplus (x j) over s ≤ j < T)`: the stick's piece it breaks off, `sigmoid (x s)`, times what the later
  keys left of the stick. Here are the two ways the weight is written (natural logarithms; logarithms to base 2, the
  logits divided by `log 2`), and how the sums over the keys split where a block of keys is added in front.
-/
module

public import Mathlib.Analysis.SpecialFunctions.Log.Basic
public import Mathlib.Analysis.SpecialFunctions.Pow.Real
public import Mathlib.Algebra.BigOperators.Intervals

@[expose] public section

noncomputable section

namespace Cert.Stick

open Finset

/-- The softplus `log (1 + e^x)`, in the form that does not overflow. -/
def softplus (x : ℝ) : ℝ := max x 0 + Real.log (1 + Real.exp (-|x|))

/-- The softplus in units of `log 2`, of a logit in units of `log 2`. -/
def softplus2 (z : ℝ) : ℝ := max z 0 + Real.log (1 + Real.rpow 2 (-|z|)) * (Real.log 2)⁻¹

/-- Key `s`'s weight among the keys before `T`. -/
def weight (x : ℕ → ℝ) (T s : ℕ) : ℝ := Real.exp (x s - ∑ j ∈ Ico s T, softplus (x j))

/-- The attention's output: the weighted sum of the values of the keys before `T`. -/
def out (x v : ℕ → ℝ) (T : ℕ) : ℝ := ∑ s ∈ Ico 0 T, weight x T s * v s

/-- Key `s`'s weight, the logits in units of `log 2`. -/
def weight2 (z : ℕ → ℝ) (T s : ℕ) : ℝ := Real.rpow 2 (z s - ∑ j ∈ Ico s T, softplus2 (z j))

/-- What the keys from `a` on have broken off of the stick, as a logarithm to base 2. -/
def broken (z : ℕ → ℝ) (T a : ℕ) : ℝ := ∑ j ∈ Ico a T, softplus2 (z j)

/-- The weighted sum of the values of the keys from `a` on. -/
def outFrom (z v : ℕ → ℝ) (T a : ℕ) : ℝ := ∑ s ∈ Ico a T, weight2 z T s * v s

theorem rpow_two (x : ℝ) : Real.rpow 2 x = Real.exp (Real.log 2 * x) :=
  Real.rpow_def_of_pos (by norm_num) x

theorem log_two_pos : 0 < Real.log 2 := Real.log_pos (by norm_num)

/-- The two softplus functions are one, up to the unit. -/
theorem softplus2_eq (x : ℝ) : softplus2 (x * (Real.log 2)⁻¹) = softplus x * (Real.log 2)⁻¹ := by
  have h2 := log_two_pos
  have hi : 0 < (Real.log 2)⁻¹ := inv_pos.mpr h2
  unfold softplus2 softplus
  rw [rpow_two, abs_mul, abs_of_pos hi, add_mul, max_mul_of_nonneg _ _ hi.le, zero_mul]
  congr 4
  congr 1
  field_simp

/-- The two weights are one. -/
theorem weight2_eq (x : ℕ → ℝ) (T s : ℕ) : weight2 (fun j => x j * (Real.log 2)⁻¹) T s = weight x T s := by
  have h2 := log_two_pos
  unfold weight2 weight
  rw [rpow_two]
  congr 1
  simp only [softplus2_eq, ← Finset.sum_mul]
  field_simp

/-- So the outputs are. -/
theorem outFrom_zero (x v : ℕ → ℝ) (T : ℕ) : outFrom (fun j => x j * (Real.log 2)⁻¹) v T 0 = out x v T := by
  unfold outFrom out
  simp only [weight2_eq]

/-- A block of `n` keys in front of the keys from `a + n` on, the stick's logarithm. -/
theorem broken_split (z : ℕ → ℝ) (T a n : ℕ) (h : a + n ≤ T) :
    broken z T a = broken z T (a + n) + ∑ c : Fin n, softplus2 (z (a + c.val)) := by
  unfold broken
  rw [← Finset.sum_Ico_consecutive _ (Nat.le_add_right a n) h, add_comm,
    Finset.sum_Ico_eq_sum_range _ a (a + n), Nat.add_sub_cancel_left, Finset.sum_range]

/-- A block of `n` keys in front, the weighted sum. -/
theorem outFrom_split (z v : ℕ → ℝ) (T a n : ℕ) (h : a + n ≤ T) :
    outFrom z v T a = outFrom z v T (a + n) + ∑ c : Fin n, weight2 z T (a + c.val) * v (a + c.val) := by
  unfold outFrom
  rw [← Finset.sum_Ico_consecutive _ (Nat.le_add_right a n) h, add_comm,
    Finset.sum_Ico_eq_sum_range _ a (a + n), Nat.add_sub_cancel_left, Finset.sum_range]

/-- The keys of a block from the `c`-th on, as a sum over the whole block with the earlier ones counted as zero. -/
theorem sum_tail {n : ℕ} (f : ℕ → ℝ) (a : ℕ) (c : Fin n) :
    ∑ k : Fin n, (if c.val ≤ k.val then f (a + k.val) else 0) = ∑ j ∈ Ico (a + c.val) (a + n), f j := by
  have hc := c.isLt
  rw [Finset.sum_Ico_eq_sum_range, show a + n - (a + c.val) = n - c.val by omega,
    ← Finset.sum_range (fun k => if c.val ≤ k then f (a + k) else 0)]
  rw [← Finset.sum_range_add_sum_Ico _ hc.le]
  rw [Finset.sum_eq_zero (s := range c.val) (fun k hk => if_neg (by have := mem_range.1 hk; omega)), zero_add,
    Finset.sum_Ico_eq_sum_range]
  refine Finset.sum_congr rfl fun k _ => ?_
  rw [if_pos (Nat.le_add_right _ _), add_assoc]

/-- A block that lies wholly before `T`: key `c` of it, the stick's state behind the block known. -/
theorem weight2_block (z : ℕ → ℝ) (T a n : ℕ) (h : a + n ≤ T) (c : Fin n) :
    weight2 z T (a + c.val)
      = Real.rpow 2 (z (a + c.val) - broken z T (a + n)
          - ∑ k : Fin n, (if c.val ≤ k.val then softplus2 (z (a + k.val)) else 0)) := by
  have hc := c.isLt
  unfold weight2 broken
  rw [sum_tail (fun j => softplus2 (z j)) a c,
    ← Finset.sum_Ico_consecutive _ (show a + c.val ≤ a + n by omega) h]
  congr 1
  ring

/-- The diagonal block: the keys from `T = a + r` on do not take part. -/
theorem broken_diag (z : ℕ → ℝ) (a n : ℕ) (r : Fin n) (c : ℕ) (hc : c ≤ n) :
    broken z (a + r.val) (a + c)
      = ∑ k : Fin n, (if c ≤ k.val then (if k.val < r.val then softplus2 (z (a + k.val)) else 0) else 0) := by
  have hr := r.isLt
  unfold broken
  rw [Finset.sum_Ico_eq_sum_range, show a + r.val - (a + c) = r.val - c by omega,
    ← Finset.sum_range (fun k => if c ≤ k then (if k < r.val then softplus2 (z (a + k)) else 0) else 0)]
  rw [← Finset.sum_filter, ← Finset.sum_filter]
  refine Finset.sum_bij' (fun k _ => c + k) (fun k _ => k - c) ?_ ?_ ?_ ?_ ?_
  · intro k hk; simp only [mem_filter, mem_range] at hk ⊢; omega
  · intro k hk; simp only [mem_filter, mem_range] at hk ⊢; omega
  · intro k hk; simp
  · intro k hk; simp only [mem_filter, mem_range] at hk; omega
  · intro k hk; rw [add_assoc]

theorem weight2_diag (z : ℕ → ℝ) (a n : ℕ) (r c : Fin n) :
    weight2 z (a + r.val) (a + c.val)
      = Real.rpow 2 (z (a + c.val)
          - ∑ k : Fin n, (if c.val ≤ k.val then (if k.val < r.val then softplus2 (z (a + k.val)) else 0) else 0)) := by
  rw [← broken_diag z a n r c.val c.isLt.le]
  rfl

theorem outFrom_diag (z v : ℕ → ℝ) (a n : ℕ) (r : Fin n) :
    outFrom z v (a + r.val) a
      = ∑ c : Fin n, (if c.val < r.val then weight2 z (a + r.val) (a + c.val) else 0) * v (a + c.val) := by
  have hr := r.isLt
  unfold outFrom
  rw [Finset.sum_Ico_eq_sum_range, Nat.add_sub_cancel_left,
    ← Finset.sum_range (fun c => (if c < r.val then weight2 z (a + r.val) (a + c) else 0) * v (a + c))]
  rw [← Finset.sum_range_add_sum_Ico _ hr.le]
  rw [Finset.sum_eq_zero (s := Ico r.val n) (fun k hk => by
    rw [if_neg (by have := mem_Ico.1 hk; omega), zero_mul]), add_zero]
  exact Finset.sum_congr rfl fun k hk => by rw [if_pos (mem_range.1 hk)]

/-- The logarithm of the sigmoid, from the softplus. -/
theorem neg_softplus_neg (x : ℝ) : -softplus (-x) = x - softplus x := by
  unfold softplus
  rw [abs_neg]
  rcases le_total 0 x with h | h
  · rw [max_eq_right (by linarith : -x ≤ 0), max_eq_left h]; ring
  · rw [max_eq_left (by linarith : (0 : ℝ) ≤ -x), max_eq_right h]; ring

end Cert.Stick

end
-- ==== Proof.Entry.lean ====
/-
  THE ENTRIES OF AN ARRAY OF FINITE NUMBERS, as real numbers named by two naturals: `entry X r c` is row `r`, column `c`
  (zero outside the array), and every entry of `X` is that real where all are finite. With them: a finite sum of reals
  is the real sum, and the scores of the attention are written once.
-/
module

public import proofs.«01_k».proof.Proof.Stick
public import proofs.«01_k».proof.ReferenceIdeal
public import Idealize.ShloMosaic.Lib.Pointwise

@[expose] public section

noncomputable section

namespace Cert.Attn

open Idealize.ShloMosaic

/-- A matrix's entry as a real number, by its row and column. -/
def entry {n0 n1 : ℕ} (X : (⟨2, ![n0, n1]⟩ : Shape).Idx → EReal) (r c : ℕ) : ℝ :=
  if h : r < n0 ∧ c < n1 then (X (ix2 ⟨r, h.1⟩ ⟨c, h.2⟩)).toReal else 0

/-- Every entry of the matrix is a finite number. -/
def Finite {n0 n1 : ℕ} (X : (⟨2, ![n0, n1]⟩ : Shape).Idx → EReal) : Prop := ∀ i, X i ≠ ⊤ ∧ X i ≠ ⊥

theorem entry_eq {n0 n1 : ℕ} {X : (⟨2, ![n0, n1]⟩ : Shape).Idx → EReal} (hX : Finite X) (r : Fin n0) (c : Fin n1) :
    X (ix2 r c) = ((entry X r.val c.val : ℝ) : EReal) := by
  unfold entry
  rw [dif_pos ⟨r.isLt, c.isLt⟩]
  exact (EReal.coe_toReal (hX _).1 (hX _).2).symm

/-- The real sum of reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The score of key `s` for query `t` in head `h` of sequence `b`: rows of `X` are the positions of the sequences one
    after another, 4096 each; columns the queries' 32 heads of 128, then the keys', then the values'. -/
def score (x : ℕ → ℕ → ℝ) (b h t s : ℕ) : ℝ :=
  (∑ d : Fin 128, x (4096 * b + t) (128 * h + d.val) * x (4096 * b + s) (4096 + 128 * h + d.val)) * (Real.sqrt 128)⁻¹

/-- Column `d` of the values of head `h` of sequence `b`, by position. -/
def value (x : ℕ → ℕ → ℝ) (b h d s : ℕ) : ℝ := x (4096 * b + s) (8192 + 128 * h + d)

/-- What the attention holds at query `t`, column `d`, of head `h` of sequence `b`. -/
def attn (x : ℕ → ℕ → ℝ) (b h t d : ℕ) : ℝ := Stick.out (score x b h t) (value x b h d) t

end Cert.Attn

end
-- ==== Proof.HeadReal.lean ====
/-
  THE BLOCK OF ONE HEAD AT REAL NUMBERS: the block functions of `Head` at entries that are real numbers.
-/
module

public import proofs.«01_k».proof.Proof.Head
public import proofs.«01_k».proof.Proof.Entry
public import Idealize.ShloMosaic.Lib.WordCmp
public import Idealize.ShloMosaic.Lib.Pointwise

@[expose] public section

set_option maxRecDepth 16384

noncomputable section

namespace Cert.KernelIdeal.Head

open Idealize.ShloMosaic Idealize.ShloMosaic.TcCoe
open Cert.KernelIdeal Cert.KernelIdeal.Gen Cert.Attn

/-- Every entry of a matrix is the real number given. -/
def Is {n0 n1 : ℕ} (X : (⟨2, ![n0, n1]⟩ : Shape).Idx → EReal) (x : Fin n0 → Fin n1 → ℝ) : Prop :=
  ∀ r c, X (ix2 r c) = ((x r c : ℝ) : EReal)

theorem ofBits_one : Ideal.ofBits .f32 0x3F800000#32 = ((1 : ℝ) : EReal) := by
  simp [Ideal.ofBits, Ideal.ieee, -EReal.coe_mul]; norm_num

theorem coe_max (a b : ℝ) : max (a : EReal) (b : EReal) = ((max a b : ℝ) : EReal) :=
  (EReal.coe_strictMono.monotone.map_max).symm

theorem logits_is {q k : Vec Ideal S256x128 .bf16} {Q K : Fin 256 → Fin 128 → ℝ} (hq : Is q Q) (hk : Is k K) :
    Is (logits q k) (fun r c => ∑ d, Q r d * K c d) := by
  intro r c
  unfold logits
  pointwise
  simp only [hq _ _, hk _ _, ← EReal.coe_mul, coe_sum]

theorem soft_is {z : FVec Ideal S256x256 .f32} {Z : Fin 256 → Fin 256 → ℝ} (hz : Is z Z) :
    Is (soft z) (fun r c => Stick.softplus2 (Z r c)) := by
  intro r c
  unfold soft
  pointwise
  rw [hz]
  unfold Stick.softplus2
  have hn : FloatOps.absf (F := Ideal) (φ := .f32) ((Z r c : ℝ) : EReal) = ((|Z r c| : ℝ) : EReal) := by
    rw [Ideal.absf_def, ← EReal.coe_neg, coe_max]; rfl
  have he : FloatOps.exp2 (F := Ideal) (φ := .f32) (((-|Z r c| : ℝ)) : EReal) = ((Real.rpow 2 (-|Z r c|) : ℝ) : EReal) := rfl
  have hp : (0 : ℝ) < Real.rpow 2 (-|Z r c|) := Real.rpow_pos_of_pos (by norm_num) _
  have hk : Named.named (F := Ideal) (φ := .f32) κ "log2_e" 1069066811#32 = (((Real.log 2)⁻¹ : ℝ) : EReal) :=
    IdealRules.named_const.ideal_named_scalar _ _ _ _ rfl
  rw [hn, zero_sub, ← EReal.coe_neg, he, hk, ← EReal.coe_one, ← EReal.coe_add, Ideal.log_coe,
    if_neg (not_le.mpr (by positivity)), ← EReal.coe_zero, coe_max, ← EReal.coe_mul, ← EReal.coe_add]

theorem causal_apply (r c : Fin 256) : causal (ix2 r c) = if c.val < r.val then 1#1 else 0#1 := by
  unfold causal
  pointwise
  rw [WordCmp.cmpi_slt_ofNat (by omega) (by omega), WordCmp.ofBool_decide_eq_ite]

theorem keep_is {z : FVec Ideal S256x256 .f32} {Z : Fin 256 → Fin 256 → ℝ} (hz : Is z Z) :
    Is (keep z) (fun r c => if c.val < r.val then Z r c else 0) := by
  intro r c
  unfold keep
  pointwise [causal_apply]
  rw [hz]
  split
  · rfl
  · rfl

theorem fromKey2_apply (k : Fin 512) (c : Fin 256) :
    (fromKey2 : FVec Ideal S512x256 .bf16) (ix2 k c) = if c.val ≤ k.val % 256 then ((1 : ℝ) : EReal) else ((0 : ℝ) : EReal) := by
  unfold fromKey2
  pointwise
  have key : ∀ n : ℕ, n < 256 → (Scalar.select (IntOp.cmpi CmpIPredicate.sge (BitVec.ofNat 32 n) (BitVec.ofNat 32 c.val)) 1 0 : EReal)
      = if c.val ≤ n then ((1 : ℝ) : EReal) else ((0 : ℝ) : EReal) := by
    intro n hn
    rw [WordCmp.cmpi_sge_ofNat (by omega) (by omega), WordCmp.ofBool_decide_eq_ite]
    split <;> rfl
  split
  · rename_i h; rw [key _ h, Nat.mod_eq_of_lt h]
  · rename_i h
    rw [key _ (by omega), show k.val % 256 = k.val - 256 by omega]

theorem tail_is {s : FVec Ideal S256x256 .f32} {Z : Fin 256 → Fin 256 → ℝ} (hs : Is s Z) :
    Is (tail fromKey2 s) (fun r c => ∑ k : Fin 256, if c.val ≤ k.val then Z r k else 0) := by
  intro r c
  unfold tail
  pointwise
  simp only [fromKey2_apply, hs _ _]
  rw [Finset.sum_eq_zero (s := Finset.univ) (f := fun x : Fin 256 => (((Z r x : ℝ) : EReal) - ((Z r x : ℝ) : EReal)) * _) (fun x _ => by
    rw [← EReal.coe_sub, sub_self, EReal.coe_zero, zero_mul]), add_zero, ← coe_sum]
  refine Finset.sum_congr rfl fun x _ => ?_
  rw [Nat.mod_eq_of_lt x.isLt]
  split <;> rw [← EReal.coe_mul] <;> simp

theorem power_is {z t : FVec Ideal S256x256 .f32} {c : FVec Ideal S256x128 .f32} {Z T : Fin 256 → Fin 256 → ℝ} {C : Fin 256 → ℝ}
    (hz : Is z Z) (hc : Is c (fun r _ => C r)) (ht : Is t T) :
    Is (power z c t) (fun r s => Real.rpow 2 (Z r s - C r - T r s)) := by
  intro r s
  unfold power
  pointwise
  have h : (if h : s.val < 128 then c (ix2 r ⟨s.val, h⟩) else c (ix2 r ⟨s.val - 128, by omega⟩)) = ((C r : ℝ) : EReal) := by
    split <;> exact hc _ _
  rw [h, hz, ht, ← EReal.coe_sub, ← EReal.coe_sub]
  rfl

theorem carried_is {t : FVec Ideal S256x256 .f32} {c : FVec Ideal S256x128 .f32} {T : Fin 256 → Fin 256 → ℝ} {C : Fin 256 → ℝ}
    (hc : Is c (fun r _ => C r)) (ht : Is t T) : Is (carried c t) (fun r _ => C r + T r 0) := by
  intro r s
  unfold carried
  pointwise
  rw [hc, ht, ← EReal.coe_add]

theorem fresh_is : Is (fresh : FVec Ideal S256x128 .f32) (fun _ _ => 0) := by
  intro r s
  show Ideal.ofBits .f32 0x00000000#32 = _
  rw [Ideal.ofBits_zero_f32]; rfl

theorem gather_is {p : FVec Ideal S256x256 .f32} {v : Vec Ideal S256x128 .bf16} {P : Fin 256 → Fin 256 → ℝ} {V : Fin 256 → Fin 128 → ℝ}
    (hp : Is p P) (hv : Is v V) : Is (gather p v) (fun r d => ∑ s, P r s * V s d) := by
  intro r d
  unfold gather
  pointwise
  simp only [hp _ _, hv _ _, ← EReal.coe_mul, coe_sum]

theorem gather2_is {p1 p2 : FVec Ideal S256x256 .f32} {v : Vec Ideal S512x128 .bf16} {P1 P2 : Fin 256 → Fin 256 → ℝ} {V : Fin 512 → Fin 128 → ℝ}
    (h1 : Is p1 P1) (h2 : Is p2 P2) (hv : Is v V) :
    Is (gather2 p1 p2 v) (fun r d => (∑ s : Fin 256, P2 r s * V ⟨s.val, by omega⟩ d) + ∑ s : Fin 256, P1 r s * V ⟨256 + s.val, by omega⟩ d) := by
  intro r d
  unfold gather2
  pointwise
  simp only [h1 _ _, h2 _ _, hv _ _, ← EReal.coe_mul, coe_sum, ← EReal.coe_add]

theorem flat_apply (c : Vec Ideal S1x256x128 .f32) (r : Fin 256) (d : Fin 128) : flat c (ix2 r d) = c (ix3 0 r d) := by
  unfold flat
  pointwise
theorem slab_apply (c : FVec Ideal S256x128 .f32) (r : Fin 256) (d : Fin 128) : slab c (ix3 0 r d) = c (ix2 r d) := by
  unfold slab
  pointwise
/-- Every entry of a head's slab is the real number given. -/
def SlabIs (X : S1x256x128.Idx → EReal) (x : Fin 256 → Fin 128 → ℝ) : Prop :=
  ∀ r d, X (ix3 0 r d) = ((x r d : ℝ) : EReal)

theorem SlabIs.flat {c : Vec Ideal S1x256x128 .f32} {x : Fin 256 → Fin 128 → ℝ} (h : SlabIs c x) : Is (flat c) x :=
  fun r d => (flat_apply c r d).trans (h r d)
theorem Is.slab {c : FVec Ideal S256x128 .f32} {x : Fin 256 → Fin 128 → ℝ} (h : Is c x) : SlabIs (slab c) x :=
  fun r d => (slab_apply c r d).trans (h r d)

theorem Is.congr {n0 n1 : ℕ} {X : (⟨2, ![n0, n1]⟩ : Shape).Idx → EReal} {x y : Fin n0 → Fin n1 → ℝ} (h : Is X x) (e : ∀ r c, x r c = y r c) : Is X y :=
  fun r c => (h r c).trans (congrArg _ (e r c))

section
variable {q k k1 k2 v : Vec Ideal S256x128 .bf16} {w : Vec Ideal S512x128 .bf16} {Q : Fin 256 → Fin 128 → ℝ} {K : ℕ → Fin 128 → ℝ} {V : ℕ → Fin 128 → ℝ}

/-- A query's scores, by key. -/
def rowZ (Q : Fin 256 → Fin 128 → ℝ) (K : ℕ → Fin 128 → ℝ) (r : Fin 256) (j : ℕ) : ℝ := ∑ d, Q r d * K j d

theorem diagCarry_is (a : ℕ) (hq : Is q Q) (hk : Is k (fun c => K (a + c.val))) :
    SlabIs (diagCarry fromKey2 q k) (fun r _ => Stick.broken (rowZ Q K r) (a + r.val) a) := by
  refine ((carried_is fresh_is (tail_is (keep_is (soft_is (logits_is hq hk))))).congr ?_).slab
  intro r d
  rw [zero_add]
  exact (Stick.broken_diag (rowZ Q K r) a 256 r 0 (by omega)).symm

theorem diagAcc_is (a : ℕ) (hq : Is q Q) (hk : Is k (fun c => K (a + c.val))) (hv : Is v (fun c => V (a + c.val))) :
    SlabIs (diagAcc fromKey2 q k v) (fun r d => Stick.outFrom (rowZ Q K r) (fun j => V j d) (a + r.val) a) := by
  refine ((gather_is (keep_is (power_is (logits_is hq hk) fresh_is (tail_is (keep_is (soft_is (logits_is hq hk)))))) hv).congr ?_).slab
  intro r d
  rw [Stick.outFrom_diag _ _ _ 256 r]
  refine Finset.sum_congr rfl fun c _ => ?_
  rw [Stick.weight2_diag]
  simp only [sub_zero]
  rfl

/-- The sums of a block of keys before `T`, from the start of it. -/
theorem block_carry (T : Fin 256 → ℕ) (a : ℕ) (hT : ∀ r, a + 256 ≤ T r) (r : Fin 256) :
    Stick.broken (rowZ Q K r) (T r) (a + 256) + (∑ k : Fin 256, if (0 : Fin 256).val ≤ k.val then Stick.softplus2 (∑ d, Q r d * K (a + k.val) d) else 0)
      = Stick.broken (rowZ Q K r) (T r) a := by
  rw [Stick.broken_split _ _ a 256 (hT r)]
  rfl

theorem oneCarry_is (T : Fin 256 → ℕ) (a : ℕ) (hT : ∀ r, a + 256 ≤ T r) {c : Vec Ideal S1x256x128 .f32} (hq : Is q Q)
    (hk : Is k (fun c => K (a + c.val))) (hc : SlabIs c (fun r _ => Stick.broken (rowZ Q K r) (T r) (a + 256))) :
    SlabIs (oneCarry fromKey2 q k c) (fun r _ => Stick.broken (rowZ Q K r) (T r) a) :=
  ((carried_is hc.flat (tail_is (soft_is (logits_is hq hk)))).congr fun r _ => block_carry T a hT r).slab

theorem block_weight (T : Fin 256 → ℕ) (a : ℕ) (hT : ∀ r, a + 256 ≤ T r) {c : FVec Ideal S256x128 .f32} (hq : Is q Q)
    (hk : Is k (fun c => K (a + c.val))) (hc : Is c (fun r _ => Stick.broken (rowZ Q K r) (T r) (a + 256))) :
    Is (power (logits q k) c (tail fromKey2 (soft (logits q k)))) (fun r s => Stick.weight2 (rowZ Q K r) (T r) (a + s.val)) :=
  (power_is (logits_is hq hk) hc (tail_is (soft_is (logits_is hq hk)))).congr fun r s => by
    rw [Stick.weight2_block _ _ a 256 (hT r) s]; rfl

theorem oneAcc_is (T : Fin 256 → ℕ) (a : ℕ) (hT : ∀ r, a + 256 ≤ T r) {c b : Vec Ideal S1x256x128 .f32} (hq : Is q Q)
    (hk : Is k (fun c => K (a + c.val))) (hv : Is v (fun c => V (a + c.val)))
    (hc : SlabIs c (fun r _ => Stick.broken (rowZ Q K r) (T r) (a + 256)))
    (hb : SlabIs b (fun r d => Stick.outFrom (rowZ Q K r) (fun j => V j d) (T r) (a + 256))) :
    SlabIs (oneAcc fromKey2 q k v c b) (fun r d => Stick.outFrom (rowZ Q K r) (fun j => V j d) (T r) a) := by
  refine Is.slab fun r d => ?_
  show flat b (ix2 r d) + gather _ _ (ix2 r d) = _
  rw [hb.flat r d, gather_is (block_weight T a hT hq hk hc.flat) hv r d, ← EReal.coe_add, Stick.outFrom_split _ _ _ a 256 (hT r)]

theorem twoCarry_is (T : Fin 256 → ℕ) (a : ℕ) (hT : ∀ r, a + 512 ≤ T r) {c : Vec Ideal S1x256x128 .f32} (hq : Is q Q)
    (h1 : Is k1 (fun c => K (a + 256 + c.val))) (h2 : Is k2 (fun c => K (a + c.val)))
    (hc : SlabIs c (fun r _ => Stick.broken (rowZ Q K r) (T r) (a + 512))) :
    SlabIs (twoCarry fromKey2 q k1 k2 c) (fun r _ => Stick.broken (rowZ Q K r) (T r) a) :=
  ((carried_is ((carried_is hc.flat (tail_is (soft_is (logits_is hq h1)))).congr fun r _ =>
      block_carry T (a + 256) hT r) (tail_is (soft_is (logits_is hq h2)))).congr fun r _ =>
    block_carry T a (fun r => (by have := hT r; omega)) r).slab

theorem twoAcc_is (T : Fin 256 → ℕ) (a : ℕ) (hT : ∀ r, a + 512 ≤ T r) {c b : Vec Ideal S1x256x128 .f32} (hq : Is q Q)
    (h1 : Is k1 (fun c => K (a + 256 + c.val))) (h2 : Is k2 (fun c => K (a + c.val))) (hv : Is w (fun c => V (a + c.val)))
    (hc : SlabIs c (fun r _ => Stick.broken (rowZ Q K r) (T r) (a + 512)))
    (hb : SlabIs b (fun r d => Stick.outFrom (rowZ Q K r) (fun j => V j d) (T r) (a + 512))) :
    SlabIs (twoAcc fromKey2 q k1 k2 w c b) (fun r d => Stick.outFrom (rowZ Q K r) (fun j => V j d) (T r) a) := by
  have hT' : ∀ r, a + 256 ≤ T r := fun r => by have := hT r; omega
  have w1 := block_weight T (a + 256) hT hq h1 hc.flat
  have w2 := block_weight T a hT' hq h2 ((carried_is hc.flat (tail_is (soft_is (logits_is hq h1)))).congr fun r _ =>
      block_carry T (a + 256) hT r)
  refine Is.slab fun r d => ?_
  show flat b (ix2 r d) + gather2 _ _ _ (ix2 r d) = _
  rw [hb.flat r d, gather2_is w1 w2 hv r d, ← EReal.coe_add, Stick.outFrom_split _ _ _ a 256 (hT' r),
    Stick.outFrom_split _ _ _ (a + 256) 256 (hT r)]
  simp only [Nat.add_assoc, Nat.reduceAdd]
  rw [add_assoc, add_comm (∑ s : Fin 256, _) (∑ s : Fin 256, _)]

end

end Cert.KernelIdeal.Head

end
-- ==== Proof.Offsets.lean ====
/-
  WHERE THE BLOCKS START: the offsets the body computes, in closed form by the block of queries `i 2`, and the number of
  trips of its loops.
-/
module

public import proofs.«01_k».proof.Proof.Head

@[expose] public section

set_option maxRecDepth 16384

noncomputable section

namespace Cert.KernelIdeal.Head

open Idealize.ShloMosaic Idealize.ShloMosaic.TcCoe
open Cert.KernelIdeal Cert.KernelIdeal.Gen

/-- A point of the grid with the block of queries `q`. -/
def pt (q : Fin 16) : grid0.Coords := fun a => match a with
  | ⟨0, _⟩ => (0 : Fin 4)
  | ⟨1, _⟩ => (0 : Fin 4)
  | ⟨2, _⟩ => q

theorem trips_pt : ∀ q : Fin 16, (k0_t1_loop (pt q)).trips = q.val / 2 := by decide +kernel
theorem trips2_pt : ∀ q : Fin 16, (k0_t2_loop (pt q)).trips = 0 := by decide +kernel
theorem off1_pt : ∀ q : Fin 16, k0_off1 (pt q) 0 = 256 * q.val := by decide +kernel
theorem off9_pt : ∀ q : Fin 16, k0_cond1 (pt q) = 1#1 → k0_off9 (pt q) 0 = 256 * (q.val - 1) ∧ q.val % 2 = 1 := by decide +kernel
theorem even_pt : ∀ q : Fin 16, ¬ k0_cond1 (pt q) = 1#1 → q.val % 2 = 0 := by decide +kernel
theorem off17_pt : ∀ q : Fin 16, ∀ k : Fin (k0_t1_loop (pt q)).trips, k0_off17 (pt q) k 0 = 256 * (q.val / 2 * 2 - 1 - 2 * k.val) := by decide +kernel
theorem off25_pt : ∀ q : Fin 16, ∀ k : Fin (k0_t1_loop (pt q)).trips, k0_off25 (pt q) k 0 = 256 * (q.val / 2 * 2 - 2 - 2 * k.val) := by decide +kernel
theorem off33_pt : ∀ q : Fin 16, ∀ k : Fin (k0_t1_loop (pt q)).trips, k0_off33 (pt q) k 0 = 256 * (q.val / 2 * 2 - 2 - 2 * k.val) := by decide +kernel

variable (i : grid0.Coords)

theorem trips : (k0_t1_loop i).trips = (i 2).val / 2 := trips_pt (i 2)
theorem trips2 : (k0_t2_loop i).trips = 0 := trips2_pt (i 2)
theorem odd_of (hc : k0_cond1 i = 1#1) : (i 2).val % 2 = 1 := (off9_pt (i 2) hc).2
theorem even_of (hc : ¬ k0_cond1 i = 1#1) : (i 2).val % 2 = 0 := even_pt (i 2) hc

theorem off1 : k0_off1 i = ![256 * (i 2).val, 0] := by
  rw [← show k0_off1 i 0 = 256 * (i 2).val from off1_pt (i 2)]; rfl
theorem off9 (hc : k0_cond1 i = 1#1) : k0_off9 i = ![256 * ((i 2).val - 1), 0] := by
  rw [← show k0_off9 i 0 = 256 * ((i 2).val - 1) from (off9_pt (i 2) hc).1]; rfl
theorem off17 (k : Fin (k0_t1_loop i).trips) : k0_off17 i k = ![256 * ((i 2).val / 2 * 2 - 1 - 2 * k.val), 0] := by
  rw [← show k0_off17 i k 0 = 256 * ((i 2).val / 2 * 2 - 1 - 2 * k.val) from off17_pt (i 2) k]; rfl
theorem off25 (k : Fin (k0_t1_loop i).trips) : k0_off25 i k = ![256 * ((i 2).val / 2 * 2 - 2 - 2 * k.val), 0] := by
  rw [← show k0_off25 i k 0 = 256 * ((i 2).val / 2 * 2 - 2 - 2 * k.val) from off25_pt (i 2) k]; rfl
theorem off33 (k : Fin (k0_t1_loop i).trips) : k0_off33 i k = ![256 * ((i 2).val / 2 * 2 - 2 - 2 * k.val), 0] := by
  rw [← show k0_off33 i k 0 = 256 * ((i 2).val / 2 * 2 - 2 - 2 * k.val) from off33_pt (i 2) k]; rfl
theorem off2 : k0_off2 i = ![256 * (i 2).val, 128] := by
  rw [← show k0_off1 i 0 = 256 * (i 2).val from off1_pt (i 2)]; rfl
theorem off10 (hc : k0_cond1 i = 1#1) : k0_off10 i = ![256 * ((i 2).val - 1), 128] := by
  rw [← show k0_off9 i 0 = 256 * ((i 2).val - 1) from (off9_pt (i 2) hc).1]; rfl
theorem off18 (k : Fin (k0_t1_loop i).trips) : k0_off18 i k = ![256 * ((i 2).val / 2 * 2 - 1 - 2 * k.val), 128] := by
  rw [← show k0_off17 i k 0 = 256 * ((i 2).val / 2 * 2 - 1 - 2 * k.val) from off17_pt (i 2) k]; rfl
theorem off26 (k : Fin (k0_t1_loop i).trips) : k0_off26 i k = ![256 * ((i 2).val / 2 * 2 - 2 - 2 * k.val), 128] := by
  rw [← show k0_off25 i k 0 = 256 * ((i 2).val / 2 * 2 - 2 - 2 * k.val) from off25_pt (i 2) k]; rfl
theorem off34 (k : Fin (k0_t1_loop i).trips) : k0_off34 i k = ![256 * ((i 2).val / 2 * 2 - 2 - 2 * k.val), 128] := by
  rw [← show k0_off33 i k 0 = 256 * ((i 2).val / 2 * 2 - 2 - 2 * k.val) from off33_pt (i 2) k]; rfl
theorem off3 : k0_off3 i = ![256 * (i 2).val, 256] := by
  rw [← show k0_off1 i 0 = 256 * (i 2).val from off1_pt (i 2)]; rfl
theorem off11 (hc : k0_cond1 i = 1#1) : k0_off11 i = ![256 * ((i 2).val - 1), 256] := by
  rw [← show k0_off9 i 0 = 256 * ((i 2).val - 1) from (off9_pt (i 2) hc).1]; rfl
theorem off19 (k : Fin (k0_t1_loop i).trips) : k0_off19 i k = ![256 * ((i 2).val / 2 * 2 - 1 - 2 * k.val), 256] := by
  rw [← show k0_off17 i k 0 = 256 * ((i 2).val / 2 * 2 - 1 - 2 * k.val) from off17_pt (i 2) k]; rfl
theorem off27 (k : Fin (k0_t1_loop i).trips) : k0_off27 i k = ![256 * ((i 2).val / 2 * 2 - 2 - 2 * k.val), 256] := by
  rw [← show k0_off25 i k 0 = 256 * ((i 2).val / 2 * 2 - 2 - 2 * k.val) from off25_pt (i 2) k]; rfl
theorem off35 (k : Fin (k0_t1_loop i).trips) : k0_off35 i k = ![256 * ((i 2).val / 2 * 2 - 2 - 2 * k.val), 256] := by
  rw [← show k0_off33 i k 0 = 256 * ((i 2).val / 2 * 2 - 2 - 2 * k.val) from off33_pt (i 2) k]; rfl
theorem off4 : k0_off4 i = ![256 * (i 2).val, 384] := by
  rw [← show k0_off1 i 0 = 256 * (i 2).val from off1_pt (i 2)]; rfl
theorem off12 (hc : k0_cond1 i = 1#1) : k0_off12 i = ![256 * ((i 2).val - 1), 384] := by
  rw [← show k0_off9 i 0 = 256 * ((i 2).val - 1) from (off9_pt (i 2) hc).1]; rfl
theorem off20 (k : Fin (k0_t1_loop i).trips) : k0_off20 i k = ![256 * ((i 2).val / 2 * 2 - 1 - 2 * k.val), 384] := by
  rw [← show k0_off17 i k 0 = 256 * ((i 2).val / 2 * 2 - 1 - 2 * k.val) from off17_pt (i 2) k]; rfl
theorem off28 (k : Fin (k0_t1_loop i).trips) : k0_off28 i k = ![256 * ((i 2).val / 2 * 2 - 2 - 2 * k.val), 384] := by
  rw [← show k0_off25 i k 0 = 256 * ((i 2).val / 2 * 2 - 2 - 2 * k.val) from off25_pt (i 2) k]; rfl
theorem off36 (k : Fin (k0_t1_loop i).trips) : k0_off36 i k = ![256 * ((i 2).val / 2 * 2 - 2 - 2 * k.val), 384] := by
  rw [← show k0_off33 i k 0 = 256 * ((i 2).val / 2 * 2 - 2 - 2 * k.val) from off33_pt (i 2) k]; rfl
theorem off5 : k0_off5 i = ![256 * (i 2).val, 512] := by
  rw [← show k0_off1 i 0 = 256 * (i 2).val from off1_pt (i 2)]; rfl
theorem off13 (hc : k0_cond1 i = 1#1) : k0_off13 i = ![256 * ((i 2).val - 1), 512] := by
  rw [← show k0_off9 i 0 = 256 * ((i 2).val - 1) from (off9_pt (i 2) hc).1]; rfl
theorem off21 (k : Fin (k0_t1_loop i).trips) : k0_off21 i k = ![256 * ((i 2).val / 2 * 2 - 1 - 2 * k.val), 512] := by
  rw [← show k0_off17 i k 0 = 256 * ((i 2).val / 2 * 2 - 1 - 2 * k.val) from off17_pt (i 2) k]; rfl
theorem off29 (k : Fin (k0_t1_loop i).trips) : k0_off29 i k = ![256 * ((i 2).val / 2 * 2 - 2 - 2 * k.val), 512] := by
  rw [← show k0_off25 i k 0 = 256 * ((i 2).val / 2 * 2 - 2 - 2 * k.val) from off25_pt (i 2) k]; rfl
theorem off37 (k : Fin (k0_t1_loop i).trips) : k0_off37 i k = ![256 * ((i 2).val / 2 * 2 - 2 - 2 * k.val), 512] := by
  rw [← show k0_off33 i k 0 = 256 * ((i 2).val / 2 * 2 - 2 - 2 * k.val) from off33_pt (i 2) k]; rfl
theorem off6 : k0_off6 i = ![256 * (i 2).val, 640] := by
  rw [← show k0_off1 i 0 = 256 * (i 2).val from off1_pt (i 2)]; rfl
theorem off14 (hc : k0_cond1 i = 1#1) : k0_off14 i = ![256 * ((i 2).val - 1), 640] := by
  rw [← show k0_off9 i 0 = 256 * ((i 2).val - 1) from (off9_pt (i 2) hc).1]; rfl
theorem off22 (k : Fin (k0_t1_loop i).trips) : k0_off22 i k = ![256 * ((i 2).val / 2 * 2 - 1 - 2 * k.val), 640] := by
  rw [← show k0_off17 i k 0 = 256 * ((i 2).val / 2 * 2 - 1 - 2 * k.val) from off17_pt (i 2) k]; rfl
theorem off30 (k : Fin (k0_t1_loop i).trips) : k0_off30 i k = ![256 * ((i 2).val / 2 * 2 - 2 - 2 * k.val), 640] := by
  rw [← show k0_off25 i k 0 = 256 * ((i 2).val / 2 * 2 - 2 - 2 * k.val) from off25_pt (i 2) k]; rfl
theorem off38 (k : Fin (k0_t1_loop i).trips) : k0_off38 i k = ![256 * ((i 2).val / 2 * 2 - 2 - 2 * k.val), 640] := by
  rw [← show k0_off33 i k 0 = 256 * ((i 2).val / 2 * 2 - 2 - 2 * k.val) from off33_pt (i 2) k]; rfl
theorem off7 : k0_off7 i = ![256 * (i 2).val, 768] := by
  rw [← show k0_off1 i 0 = 256 * (i 2).val from off1_pt (i 2)]; rfl
theorem off15 (hc : k0_cond1 i = 1#1) : k0_off15 i = ![256 * ((i 2).val - 1), 768] := by
  rw [← show k0_off9 i 0 = 256 * ((i 2).val - 1) from (off9_pt (i 2) hc).1]; rfl
theorem off23 (k : Fin (k0_t1_loop i).trips) : k0_off23 i k = ![256 * ((i 2).val / 2 * 2 - 1 - 2 * k.val), 768] := by
  rw [← show k0_off17 i k 0 = 256 * ((i 2).val / 2 * 2 - 1 - 2 * k.val) from off17_pt (i 2) k]; rfl
theorem off31 (k : Fin (k0_t1_loop i).trips) : k0_off31 i k = ![256 * ((i 2).val / 2 * 2 - 2 - 2 * k.val), 768] := by
  rw [← show k0_off25 i k 0 = 256 * ((i 2).val / 2 * 2 - 2 - 2 * k.val) from off25_pt (i 2) k]; rfl
theorem off39 (k : Fin (k0_t1_loop i).trips) : k0_off39 i k = ![256 * ((i 2).val / 2 * 2 - 2 - 2 * k.val), 768] := by
  rw [← show k0_off33 i k 0 = 256 * ((i 2).val / 2 * 2 - 2 - 2 * k.val) from off33_pt (i 2) k]; rfl
theorem off8 : k0_off8 i = ![256 * (i 2).val, 896] := by
  rw [← show k0_off1 i 0 = 256 * (i 2).val from off1_pt (i 2)]; rfl
theorem off16 (hc : k0_cond1 i = 1#1) : k0_off16 i = ![256 * ((i 2).val - 1), 896] := by
  rw [← show k0_off9 i 0 = 256 * ((i 2).val - 1) from (off9_pt (i 2) hc).1]; rfl
theorem off24 (k : Fin (k0_t1_loop i).trips) : k0_off24 i k = ![256 * ((i 2).val / 2 * 2 - 1 - 2 * k.val), 896] := by
  rw [← show k0_off17 i k 0 = 256 * ((i 2).val / 2 * 2 - 1 - 2 * k.val) from off17_pt (i 2) k]; rfl
theorem off32 (k : Fin (k0_t1_loop i).trips) : k0_off32 i k = ![256 * ((i 2).val / 2 * 2 - 2 - 2 * k.val), 896] := by
  rw [← show k0_off25 i k 0 = 256 * ((i 2).val / 2 * 2 - 2 - 2 * k.val) from off25_pt (i 2) k]; rfl
theorem off40 (k : Fin (k0_t1_loop i).trips) : k0_off40 i k = ![256 * ((i 2).val / 2 * 2 - 2 - 2 * k.val), 896] := by
  rw [← show k0_off33 i k 0 = 256 * ((i 2).val / 2 * 2 - 2 - 2 * k.val) from off33_pt (i 2) k]; rfl

end Cert.KernelIdeal.Head

end
-- ==== Proof.Stack.lean ====
/-
  THE HEADS' SLABS: the carries and the sums of eight heads held one above the other, each written whole by a store and
  read whole by a load, and what a load of the queries, keys or values reads.
-/
module

public import proofs.«01_k».proof.Proof.BlockPieces
public import proofs.«01_k».proof.Proof.HeadReal
public import proofs.«01_k».proof.Proof.Offsets
public import Idealize.ShloMosaic.Lib.WritesUnit

@[expose] public section

set_option maxRecDepth 16384

noncomputable section

namespace Cert.KernelIdeal.Head

open Idealize.ShloMosaic Idealize.ShloMosaic.TcCoe
open Cert.KernelIdeal Cert.KernelIdeal.Gen Cert.Attn

/-- Every entry of every head's slab is the real number given. -/
def StackIs (X : S8x256x128.Idx → EReal) (x : Fin 8 → Fin 256 → Fin 128 → ℝ) : Prop :=
  ∀ h r d, X (ix3 h r d) = ((x h r d : ℝ) : EReal)

/-- A head's slab, loaded. -/
theorem box_slab (a : Memref sig .tc .vmem S8x256x128 .f32) (f : BufTy.Contents (Elt Ideal) a.view.ty)
    {x : Fin 8 → Fin 256 → Fin 128 → ℝ} (hx : StackIs (a.view.read (Elt Ideal) f) x) (h : Fin 8)
    (inb : ∀ i, (![h.val, 0, 0] : Fin 3 → ℕ) i + S1x256x128.size i ≤ S8x256x128.size i) :
    SlabIs (box a f ![h.val, 0, 0] S1x256x128.size inb) (x h) := by
  intro r d
  rw [← hx h r d]
  show a.view.read (Elt Ideal) f _ = _
  congr 1
  funext ax
  apply Fin.ext
  fin_cases ax <;> simp [LoadRect.idx, Rect.unit]

/-- A box of a matrix of finite numbers, loaded. -/
theorem box_is {n0 n1 m0 m1 : ℕ} (a : Memref sig .tc .vmem ⟨2, ![n0, n1]⟩ .bf16) (ha : a.IsWhole) (X : Vec Ideal ⟨2, ![n0, n1]⟩ .bf16)
    (hX : Finite X) (off : Fin 2 → ℕ) (o c : ℕ) (hoff : off = ![o, c])
    (inb : ∀ i, off i + (![m0, m1] : Fin 2 → ℕ) i ≤ (![n0, n1] : Fin 2 → ℕ) i) :
    Is (box a (ha.unread X) off ![m0, m1] inb) (fun r d => entry X (o + r.val) (c + d.val)) := by
  subst hoff
  intro r d
  have h0 : o + m0 ≤ n0 := inb 0
  have h1 : c + m1 ≤ n1 := inb 1
  rw [← entry_eq hX ⟨o + r.val, by omega⟩ ⟨c + d.val, by omega⟩]
  show a.view.read (Elt Ideal) (ha.unread X) _ = _
  rw [ha.read_unread]
  congr 1
  funext ax
  apply Fin.ext
  fin_cases ax <;> simp [LoadRect.idx, Rect.unit]

/-- A slab stored, read at another head and at its own. -/
theorem slab_index (h : Fin 8) (r : Fin 256) (d : Fin 128) (ax : Fin 3) : ((ix3 h r d : S8x256x128.Idx) ax).val = (![h.val, 0, 0] : Fin 3 → ℕ) ax + ((ix3 (0 : Fin 1) r d : S1x256x128.Idx) ax).val := by
  match ax with
  | ⟨0, _⟩ => exact (Nat.add_zero _).symm
  | ⟨1, _⟩ => exact (Nat.zero_add _).symm
  | ⟨2, _⟩ => exact (Nat.zero_add _).symm
theorem read_skip (a : Memref sig .tc .vmem S8x256x128 .f32) (f : BufTy.Contents (Elt Ideal) a.view.ty) (j : ℕ) (h : Fin 8) (hj : j ≠ h.val)
    (inb : ∀ i, (![j, 0, 0] : Fin 3 → ℕ) i + S1x256x128.size i ≤ S8x256x128.size i) (p : Vec Ideal S1x256x128 .f32)
    (L : List (View.Piece (Elt Ideal) S8x256x128 .f32)) (r : Fin 256) (d : Fin 128) :
    a.view.read (Elt Ideal) (a.view.writes (Elt Ideal) f (⟨Rect.unit (s := S8x256x128) ![j, 0, 0] S1x256x128.size inb, p⟩ :: L)) (ix3 h r d)
      = a.view.read (Elt Ideal) (a.view.writes (Elt Ideal) f L) (ix3 h r d) := by
  have hs : h.val < j ∨ j + 1 ≤ h.val := by omega
  exact View.read_writes_cons_unit_of_not_mem a.view f inb p L (ix3 h r d) rfl (0 : Fin 3) hs
theorem read_hit (a : Memref sig .tc .vmem S8x256x128 .f32) (f : BufTy.Contents (Elt Ideal) a.view.ty) (h : Fin 8)
    (inb : ∀ i, (![h.val, 0, 0] : Fin 3 → ℕ) i + S1x256x128.size i ≤ S8x256x128.size i) (p : Vec Ideal S1x256x128 .f32)
    (L : List (View.Piece (Elt Ideal) S8x256x128 .f32)) (r : Fin 256) (d : Fin 128) :
    a.view.read (Elt Ideal) (a.view.writes (Elt Ideal) f (⟨Rect.unit (s := S8x256x128) ![h.val, 0, 0] S1x256x128.size inb, p⟩ :: L)) (ix3 h r d)
      = p (ix3 0 r d) :=
  View.read_writes_cons_unit_of_mem a.view f inb p L (ix3 h r d) (ix3 (0 : Fin 1) r d) rfl (slab_index h r d)

/-- Eight slabs stored, whatever was stored before. -/
theorem stack_writes (a : Memref sig .tc .vmem S8x256x128 .f32) (f : BufTy.Contents (Elt Ideal) a.view.ty)
    {x : Fin 8 → Fin 256 → Fin 128 → ℝ} {p0 p1 p2 p3 p4 p5 p6 p7 : Vec Ideal S1x256x128 .f32}
    (h0 : SlabIs p0 (x 0)) (h1 : SlabIs p1 (x 1)) (h2 : SlabIs p2 (x 2)) (h3 : SlabIs p3 (x 3)) (h4 : SlabIs p4 (x 4)) (h5 : SlabIs p5 (x 5)) (h6 : SlabIs p6 (x 6)) (h7 : SlabIs p7 (x 7)) (L : List (View.Piece (Elt Ideal) S8x256x128 .f32)) :
    StackIs (a.view.read (Elt Ideal) (a.view.writes (Elt Ideal) f ([⟨Rect.unit ![7, 0, 0] S1x256x128.size inb_S8x256x128_S1x256x128_7_0_0, p7⟩, ⟨Rect.unit ![6, 0, 0] S1x256x128.size inb_S8x256x128_S1x256x128_6_0_0, p6⟩, ⟨Rect.unit ![5, 0, 0] S1x256x128.size inb_S8x256x128_S1x256x128_5_0_0, p5⟩, ⟨Rect.unit ![4, 0, 0] S1x256x128.size inb_S8x256x128_S1x256x128_4_0_0, p4⟩, ⟨Rect.unit ![3, 0, 0] S1x256x128.size inb_S8x256x128_S1x256x128_3_0_0, p3⟩, ⟨Rect.unit ![2, 0, 0] S1x256x128.size inb_S8x256x128_S1x256x128_2_0_0, p2⟩, ⟨Rect.unit ![1, 0, 0] S1x256x128.size inb_S8x256x128_S1x256x128_1_0_0, p1⟩, ⟨Rect.unit ![0, 0, 0] S1x256x128.size inb_S8x256x128_S1x256x128_0_0_0, p0⟩] ++ L))) x := by
  intro h r d
  rw [List.cons_append, List.cons_append, List.cons_append, List.cons_append, List.cons_append, List.cons_append, List.cons_append, List.cons_append, List.nil_append]
  fin_cases h
  · exact (read_skip a f 7 0 (by decide) _ p7 _ r d).trans <| (read_skip a f 6 0 (by decide) _ p6 _ r d).trans <| (read_skip a f 5 0 (by decide) _ p5 _ r d).trans <| (read_skip a f 4 0 (by decide) _ p4 _ r d).trans <| (read_skip a f 3 0 (by decide) _ p3 _ r d).trans <| (read_skip a f 2 0 (by decide) _ p2 _ r d).trans <| (read_skip a f 1 0 (by decide) _ p1 _ r d).trans <| (read_hit a f 0 _ p0 _ r d).trans (h0 r d)
  · exact (read_skip a f 7 1 (by decide) _ p7 _ r d).trans <| (read_skip a f 6 1 (by decide) _ p6 _ r d).trans <| (read_skip a f 5 1 (by decide) _ p5 _ r d).trans <| (read_skip a f 4 1 (by decide) _ p4 _ r d).trans <| (read_skip a f 3 1 (by decide) _ p3 _ r d).trans <| (read_skip a f 2 1 (by decide) _ p2 _ r d).trans <| (read_hit a f 1 _ p1 _ r d).trans (h1 r d)
  · exact (read_skip a f 7 2 (by decide) _ p7 _ r d).trans <| (read_skip a f 6 2 (by decide) _ p6 _ r d).trans <| (read_skip a f 5 2 (by decide) _ p5 _ r d).trans <| (read_skip a f 4 2 (by decide) _ p4 _ r d).trans <| (read_skip a f 3 2 (by decide) _ p3 _ r d).trans <| (read_hit a f 2 _ p2 _ r d).trans (h2 r d)
  · exact (read_skip a f 7 3 (by decide) _ p7 _ r d).trans <| (read_skip a f 6 3 (by decide) _ p6 _ r d).trans <| (read_skip a f 5 3 (by decide) _ p5 _ r d).trans <| (read_skip a f 4 3 (by decide) _ p4 _ r d).trans <| (read_hit a f 3 _ p3 _ r d).trans (h3 r d)
  · exact (read_skip a f 7 4 (by decide) _ p7 _ r d).trans <| (read_skip a f 6 4 (by decide) _ p6 _ r d).trans <| (read_skip a f 5 4 (by decide) _ p5 _ r d).trans <| (read_hit a f 4 _ p4 _ r d).trans (h4 r d)
  · exact (read_skip a f 7 5 (by decide) _ p7 _ r d).trans <| (read_skip a f 6 5 (by decide) _ p6 _ r d).trans <| (read_hit a f 5 _ p5 _ r d).trans (h5 r d)
  · exact (read_skip a f 7 6 (by decide) _ p7 _ r d).trans <| (read_hit a f 6 _ p6 _ r d).trans (h6 r d)
  · exact (read_hit a f 7 _ p7 _ r d).trans (h7 r d)

end Cert.KernelIdeal.Head

end
-- ==== Proof.States.lean ====
/-
  THE STATE OF THE BODY: after the keys from position `a` on, every head's carry holds what they have broken off of the
  stick and its sum holds what they add, row by row; the diagonal block starts it, the block before and the trips over
  pairs of blocks keep it, and after the last trip no key is left.
-/
module

public import proofs.«01_k».proof.Proof.Stack

@[expose] public section

set_option maxRecDepth 16384

noncomputable section

namespace Cert.KernelIdeal.Head

open Idealize.ShloMosaic Idealize.ShloMosaic.TcCoe
open Cert.KernelIdeal Cert.KernelIdeal.Gen Cert.Attn

/-- Row `j`, column `d` of head `h` of a block of eight heads. -/
def heads {n : ℕ} (X : (⟨2, ![n, 1024]⟩ : Shape).Idx → EReal) (h : Fin 8) (j : ℕ) (d : Fin 128) : ℝ := entry X j (128 * h.val + d.val)

/-- The carries after the keys from `a` on, the block of queries starting at position `p`. -/
def carryAt (x0 : Vec Ideal S256x1024 .bf16) (x1 : Vec Ideal S4096x1024 .bf16) (p a : ℕ) : Fin 8 → Fin 256 → Fin 128 → ℝ :=
  fun h r _ => Stick.broken (rowZ (fun r d => heads x0 h (0 + r.val) d) (heads x1 h) r) (p + r.val) a
/-- The sums after the keys from `a` on. -/
def sumAt (x0 : Vec Ideal S256x1024 .bf16) (x1 x2 : Vec Ideal S4096x1024 .bf16) (p a : ℕ) : Fin 8 → Fin 256 → Fin 128 → ℝ :=
  fun h r d => Stick.outFrom (rowZ (fun r d => heads x0 h (0 + r.val) d) (heads x1 h) r) (fun j => heads x2 h j d) (p + r.val) a

section
variable {q k v : Vec Ideal S256x128 .bf16} {Q : Fin 256 → Fin 128 → ℝ} {K V : ℕ → Fin 128 → ℝ}
theorem diagCarry_at (p a : ℕ) (e : a = p) (hq : Is q Q) (hk : Is k (fun c => K (p + c.val))) :
    SlabIs (diagCarry fromKey2 q k) (fun r _ => Stick.broken (rowZ Q K r) (p + r.val) a) := by
  subst e; exact diagCarry_is a hq hk
theorem diagAcc_at (p a : ℕ) (e : a = p) (hq : Is q Q) (hk : Is k (fun c => K (p + c.val))) (hv : Is v (fun c => V (p + c.val))) :
    SlabIs (diagAcc fromKey2 q k v) (fun r d => Stick.outFrom (rowZ Q K r) (fun j => V j d) (p + r.val) a) := by
  subst e; exact diagAcc_is a hq hk hv
end

variable (i : grid0.Coords) (arg3 : Memref sig .tc .vmem S256x1024 .bf16) (harg3 : arg3.IsWhole)
  (arg4 : Memref sig .tc .vmem S4096x1024 .bf16) (harg4 : arg4.IsWhole) (arg5 : Memref sig .tc .vmem S4096x1024 .bf16) (harg5 : arg5.IsWhole)
  (arg7 arg8 : Memref sig .tc .vmem S8x256x128 .f32)
  (x0 : Vec Ideal S256x1024 .bf16) (x1 x2 : Vec Ideal S4096x1024 .bf16) (hx0 : Finite x0) (hx1 : Finite x1) (hx2 : Finite x2)
  (g7 f7 : BufTy.Contents (Elt Ideal) arg7.view.ty) (g8 f8 : BufTy.Contents (Elt Ideal) arg8.view.ty)
  (L : List (View.Piece (Elt Ideal) S8x256x128 .f32))
include hx0 hx1

/-- The diagonal block. -/
theorem diag7_state : StackIs (arg7.view.read (Elt Ideal) (arg7.view.writes (Elt Ideal) g7
    (diag7 i arg3 arg4 fromKey2 (harg3.unread x0) (harg4.unread x1) ++ L))) (carryAt x0 x1 (256 * (i 2).val) (256 * (i 2).val)) :=
  stack_writes arg7 g7
    (diagCarry_at (Q := fun r d => heads x0 0 (0 + r.val) d) (K := heads x1 0) (256 * (i 2).val) (256 * (i 2).val) rfl (box_is arg3 harg3 x0 hx0 _ 0 0 rfl _) (box_is arg4 harg4 x1 hx1 _ (256 * (i 2).val) 0 (off1 i) _))
    (diagCarry_at (Q := fun r d => heads x0 1 (0 + r.val) d) (K := heads x1 1) (256 * (i 2).val) (256 * (i 2).val) rfl (box_is arg3 harg3 x0 hx0 _ 0 128 rfl _) (box_is arg4 harg4 x1 hx1 _ (256 * (i 2).val) 128 (off2 i) _))
    (diagCarry_at (Q := fun r d => heads x0 2 (0 + r.val) d) (K := heads x1 2) (256 * (i 2).val) (256 * (i 2).val) rfl (box_is arg3 harg3 x0 hx0 _ 0 256 rfl _) (box_is arg4 harg4 x1 hx1 _ (256 * (i 2).val) 256 (off3 i) _))
    (diagCarry_at (Q := fun r d => heads x0 3 (0 + r.val) d) (K := heads x1 3) (256 * (i 2).val) (256 * (i 2).val) rfl (box_is arg3 harg3 x0 hx0 _ 0 384 rfl _) (box_is arg4 harg4 x1 hx1 _ (256 * (i 2).val) 384 (off4 i) _))
    (diagCarry_at (Q := fun r d => heads x0 4 (0 + r.val) d) (K := heads x1 4) (256 * (i 2).val) (256 * (i 2).val) rfl (box_is arg3 harg3 x0 hx0 _ 0 512 rfl _) (box_is arg4 harg4 x1 hx1 _ (256 * (i 2).val) 512 (off5 i) _))
    (diagCarry_at (Q := fun r d => heads x0 5 (0 + r.val) d) (K := heads x1 5) (256 * (i 2).val) (256 * (i 2).val) rfl (box_is arg3 harg3 x0 hx0 _ 0 640 rfl _) (box_is arg4 harg4 x1 hx1 _ (256 * (i 2).val) 640 (off6 i) _))
    (diagCarry_at (Q := fun r d => heads x0 6 (0 + r.val) d) (K := heads x1 6) (256 * (i 2).val) (256 * (i 2).val) rfl (box_is arg3 harg3 x0 hx0 _ 0 768 rfl _) (box_is arg4 harg4 x1 hx1 _ (256 * (i 2).val) 768 (off7 i) _))
    (diagCarry_at (Q := fun r d => heads x0 7 (0 + r.val) d) (K := heads x1 7) (256 * (i 2).val) (256 * (i 2).val) rfl (box_is arg3 harg3 x0 hx0 _ 0 896 rfl _) (box_is arg4 harg4 x1 hx1 _ (256 * (i 2).val) 896 (off8 i) _)) L
include hx2 in
theorem diag8_state : StackIs (arg8.view.read (Elt Ideal) (arg8.view.writes (Elt Ideal) g8
    (diag8 i arg3 arg4 arg5 fromKey2 (harg3.unread x0) (harg4.unread x1) (harg5.unread x2) ++ L))) (sumAt x0 x1 x2 (256 * (i 2).val) (256 * (i 2).val)) :=
  stack_writes arg8 g8
    (diagAcc_at (Q := fun r d => heads x0 0 (0 + r.val) d) (K := heads x1 0) (V := heads x2 0) (256 * (i 2).val) (256 * (i 2).val) rfl (box_is arg3 harg3 x0 hx0 _ 0 0 rfl _) (box_is arg4 harg4 x1 hx1 _ (256 * (i 2).val) 0 (off1 i) _) (box_is arg5 harg5 x2 hx2 _ (256 * (i 2).val) 0 (off1 i) _))
    (diagAcc_at (Q := fun r d => heads x0 1 (0 + r.val) d) (K := heads x1 1) (V := heads x2 1) (256 * (i 2).val) (256 * (i 2).val) rfl (box_is arg3 harg3 x0 hx0 _ 0 128 rfl _) (box_is arg4 harg4 x1 hx1 _ (256 * (i 2).val) 128 (off2 i) _) (box_is arg5 harg5 x2 hx2 _ (256 * (i 2).val) 128 (off2 i) _))
    (diagAcc_at (Q := fun r d => heads x0 2 (0 + r.val) d) (K := heads x1 2) (V := heads x2 2) (256 * (i 2).val) (256 * (i 2).val) rfl (box_is arg3 harg3 x0 hx0 _ 0 256 rfl _) (box_is arg4 harg4 x1 hx1 _ (256 * (i 2).val) 256 (off3 i) _) (box_is arg5 harg5 x2 hx2 _ (256 * (i 2).val) 256 (off3 i) _))
    (diagAcc_at (Q := fun r d => heads x0 3 (0 + r.val) d) (K := heads x1 3) (V := heads x2 3) (256 * (i 2).val) (256 * (i 2).val) rfl (box_is arg3 harg3 x0 hx0 _ 0 384 rfl _) (box_is arg4 harg4 x1 hx1 _ (256 * (i 2).val) 384 (off4 i) _) (box_is arg5 harg5 x2 hx2 _ (256 * (i 2).val) 384 (off4 i) _))
    (diagAcc_at (Q := fun r d => heads x0 4 (0 + r.val) d) (K := heads x1 4) (V := heads x2 4) (256 * (i 2).val) (256 * (i 2).val) rfl (box_is arg3 harg3 x0 hx0 _ 0 512 rfl _) (box_is arg4 harg4 x1 hx1 _ (256 * (i 2).val) 512 (off5 i) _) (box_is arg5 harg5 x2 hx2 _ (256 * (i 2).val) 512 (off5 i) _))
    (diagAcc_at (Q := fun r d => heads x0 5 (0 + r.val) d) (K := heads x1 5) (V := heads x2 5) (256 * (i 2).val) (256 * (i 2).val) rfl (box_is arg3 harg3 x0 hx0 _ 0 640 rfl _) (box_is arg4 harg4 x1 hx1 _ (256 * (i 2).val) 640 (off6 i) _) (box_is arg5 harg5 x2 hx2 _ (256 * (i 2).val) 640 (off6 i) _))
    (diagAcc_at (Q := fun r d => heads x0 6 (0 + r.val) d) (K := heads x1 6) (V := heads x2 6) (256 * (i 2).val) (256 * (i 2).val) rfl (box_is arg3 harg3 x0 hx0 _ 0 768 rfl _) (box_is arg4 harg4 x1 hx1 _ (256 * (i 2).val) 768 (off7 i) _) (box_is arg5 harg5 x2 hx2 _ (256 * (i 2).val) 768 (off7 i) _))
    (diagAcc_at (Q := fun r d => heads x0 7 (0 + r.val) d) (K := heads x1 7) (V := heads x2 7) (256 * (i 2).val) (256 * (i 2).val) rfl (box_is arg3 harg3 x0 hx0 _ 0 896 rfl _) (box_is arg4 harg4 x1 hx1 _ (256 * (i 2).val) 896 (off8 i) _) (box_is arg5 harg5 x2 hx2 _ (256 * (i 2).val) 896 (off8 i) _)) L

omit hx0 hx1 in
theorem odd_at (hc : k0_cond1 i = 1#1) : 256 * ((i 2).val - 1) + 256 = 256 * (i 2).val := by have := odd_of i hc; omega
omit hx0 hx1 in
theorem odd_before (hc : k0_cond1 i = 1#1) (r : Fin 256) : 256 * ((i 2).val - 1) + 256 ≤ 256 * (i 2).val + r.val := by have := odd_of i hc; omega
/-- The block before, at an odd block of queries. -/
theorem one7_state (hc : k0_cond1 i = 1#1) : StackIs (arg7.view.read (Elt Ideal) (arg7.view.writes (Elt Ideal) g7
    (one7 i arg3 arg4 fromKey2 (harg3.unread x0) (harg4.unread x1) hc ++ L))) (carryAt x0 x1 (256 * (i 2).val) (256 * ((i 2).val - 1))) :=
  stack_writes arg7 g7
    (oneCarry_is (Q := fun r d => heads x0 0 (0 + r.val) d) (K := heads x1 0) (fun r => 256 * (i 2).val + r.val) (256 * ((i 2).val - 1)) (odd_before i hc) (box_is arg3 harg3 x0 hx0 _ 0 0 rfl _) (box_is arg4 harg4 x1 hx1 _ (256 * ((i 2).val - 1)) 0 (off9 i hc) _) (diagCarry_at (Q := fun r d => heads x0 0 (0 + r.val) d) (K := heads x1 0) (256 * (i 2).val) _ (odd_at i hc) (box_is arg3 harg3 x0 hx0 _ 0 0 rfl _) (box_is arg4 harg4 x1 hx1 _ (256 * (i 2).val) 0 (off1 i) _)))
    (oneCarry_is (Q := fun r d => heads x0 1 (0 + r.val) d) (K := heads x1 1) (fun r => 256 * (i 2).val + r.val) (256 * ((i 2).val - 1)) (odd_before i hc) (box_is arg3 harg3 x0 hx0 _ 0 128 rfl _) (box_is arg4 harg4 x1 hx1 _ (256 * ((i 2).val - 1)) 128 (off10 i hc) _) (diagCarry_at (Q := fun r d => heads x0 1 (0 + r.val) d) (K := heads x1 1) (256 * (i 2).val) _ (odd_at i hc) (box_is arg3 harg3 x0 hx0 _ 0 128 rfl _) (box_is arg4 harg4 x1 hx1 _ (256 * (i 2).val) 128 (off2 i) _)))
    (oneCarry_is (Q := fun r d => heads x0 2 (0 + r.val) d) (K := heads x1 2) (fun r => 256 * (i 2).val + r.val) (256 * ((i 2).val - 1)) (odd_before i hc) (box_is arg3 harg3 x0 hx0 _ 0 256 rfl _) (box_is arg4 harg4 x1 hx1 _ (256 * ((i 2).val - 1)) 256 (off11 i hc) _) (diagCarry_at (Q := fun r d => heads x0 2 (0 + r.val) d) (K := heads x1 2) (256 * (i 2).val) _ (odd_at i hc) (box_is arg3 harg3 x0 hx0 _ 0 256 rfl _) (box_is arg4 harg4 x1 hx1 _ (256 * (i 2).val) 256 (off3 i) _)))
    (oneCarry_is (Q := fun r d => heads x0 3 (0 + r.val) d) (K := heads x1 3) (fun r => 256 * (i 2).val + r.val) (256 * ((i 2).val - 1)) (odd_before i hc) (box_is arg3 harg3 x0 hx0 _ 0 384 rfl _) (box_is arg4 harg4 x1 hx1 _ (256 * ((i 2).val - 1)) 384 (off12 i hc) _) (diagCarry_at (Q := fun r d => heads x0 3 (0 + r.val) d) (K := heads x1 3) (256 * (i 2).val) _ (odd_at i hc) (box_is arg3 harg3 x0 hx0 _ 0 384 rfl _) (box_is arg4 harg4 x1 hx1 _ (256 * (i 2).val) 384 (off4 i) _)))
    (oneCarry_is (Q := fun r d => heads x0 4 (0 + r.val) d) (K := heads x1 4) (fun r => 256 * (i 2).val + r.val) (256 * ((i 2).val - 1)) (odd_before i hc) (box_is arg3 harg3 x0 hx0 _ 0 512 rfl _) (box_is arg4 harg4 x1 hx1 _ (256 * ((i 2).val - 1)) 512 (off13 i hc) _) (diagCarry_at (Q := fun r d => heads x0 4 (0 + r.val) d) (K := heads x1 4) (256 * (i 2).val) _ (odd_at i hc) (box_is arg3 harg3 x0 hx0 _ 0 512 rfl _) (box_is arg4 harg4 x1 hx1 _ (256 * (i 2).val) 512 (off5 i) _)))
    (oneCarry_is (Q := fun r d => heads x0 5 (0 + r.val) d) (K := heads x1 5) (fun r => 256 * (i 2).val + r.val) (256 * ((i 2).val - 1)) (odd_before i hc) (box_is arg3 harg3 x0 hx0 _ 0 640 rfl _) (box_is arg4 harg4 x1 hx1 _ (256 * ((i 2).val - 1)) 640 (off14 i hc) _) (diagCarry_at (Q := fun r d => heads x0 5 (0 + r.val) d) (K := heads x1 5) (256 * (i 2).val) _ (odd_at i hc) (box_is arg3 harg3 x0 hx0 _ 0 640 rfl _) (box_is arg4 harg4 x1 hx1 _ (256 * (i 2).val) 640 (off6 i) _)))
    (oneCarry_is (Q := fun r d => heads x0 6 (0 + r.val) d) (K := heads x1 6) (fun r => 256 * (i 2).val + r.val) (256 * ((i 2).val - 1)) (odd_before i hc) (box_is arg3 harg3 x0 hx0 _ 0 768 rfl _) (box_is arg4 harg4 x1 hx1 _ (256 * ((i 2).val - 1)) 768 (off15 i hc) _) (diagCarry_at (Q := fun r d => heads x0 6 (0 + r.val) d) (K := heads x1 6) (256 * (i 2).val) _ (odd_at i hc) (box_is arg3 harg3 x0 hx0 _ 0 768 rfl _) (box_is arg4 harg4 x1 hx1 _ (256 * (i 2).val) 768 (off7 i) _)))
    (oneCarry_is (Q := fun r d => heads x0 7 (0 + r.val) d) (K := heads x1 7) (fun r => 256 * (i 2).val + r.val) (256 * ((i 2).val - 1)) (odd_before i hc) (box_is arg3 harg3 x0 hx0 _ 0 896 rfl _) (box_is arg4 harg4 x1 hx1 _ (256 * ((i 2).val - 1)) 896 (off16 i hc) _) (diagCarry_at (Q := fun r d => heads x0 7 (0 + r.val) d) (K := heads x1 7) (256 * (i 2).val) _ (odd_at i hc) (box_is arg3 harg3 x0 hx0 _ 0 896 rfl _) (box_is arg4 harg4 x1 hx1 _ (256 * (i 2).val) 896 (off8 i) _))) L
set_option maxHeartbeats 1600000 in
include hx2 in
theorem one8_state (hc : k0_cond1 i = 1#1) : StackIs (arg8.view.read (Elt Ideal) (arg8.view.writes (Elt Ideal) g8
    (one8 i arg3 arg4 arg5 fromKey2 (harg3.unread x0) (harg4.unread x1) (harg5.unread x2) hc ++ L))) (sumAt x0 x1 x2 (256 * (i 2).val) (256 * ((i 2).val - 1))) :=
  stack_writes arg8 g8
    (oneAcc_is (Q := fun r d => heads x0 0 (0 + r.val) d) (K := heads x1 0) (V := heads x2 0) (fun r => 256 * (i 2).val + r.val) (256 * ((i 2).val - 1)) (odd_before i hc) (box_is arg3 harg3 x0 hx0 _ 0 0 rfl _) (box_is arg4 harg4 x1 hx1 _ (256 * ((i 2).val - 1)) 0 (off9 i hc) _) (box_is arg5 harg5 x2 hx2 _ (256 * ((i 2).val - 1)) 0 (off9 i hc) _) (diagCarry_at (Q := fun r d => heads x0 0 (0 + r.val) d) (K := heads x1 0) (256 * (i 2).val) _ (odd_at i hc) (box_is arg3 harg3 x0 hx0 _ 0 0 rfl _) (box_is arg4 harg4 x1 hx1 _ (256 * (i 2).val) 0 (off1 i) _)) (diagAcc_at (Q := fun r d => heads x0 0 (0 + r.val) d) (K := heads x1 0) (V := heads x2 0) (256 * (i 2).val) _ (odd_at i hc) (box_is arg3 harg3 x0 hx0 _ 0 0 rfl _) (box_is arg4 harg4 x1 hx1 _ (256 * (i 2).val) 0 (off1 i) _) (box_is arg5 harg5 x2 hx2 _ (256 * (i 2).val) 0 (off1 i) _)))
    (oneAcc_is (Q := fun r d => heads x0 1 (0 + r.val) d) (K := heads x1 1) (V := heads x2 1) (fun r => 256 * (i 2).val + r.val) (256 * ((i 2).val - 1)) (odd_before i hc) (box_is arg3 harg3 x0 hx0 _ 0 128 rfl _) (box_is arg4 harg4 x1 hx1 _ (256 * ((i 2).val - 1)) 128 (off10 i hc) _) (box_is arg5 harg5 x2 hx2 _ (256 * ((i 2).val - 1)) 128 (off10 i hc) _) (diagCarry_at (Q := fun r d => heads x0 1 (0 + r.val) d) (K := heads x1 1) (256 * (i 2).val) _ (odd_at i hc) (box_is arg3 harg3 x0 hx0 _ 0 128 rfl _) (box_is arg4 harg4 x1 hx1 _ (256 * (i 2).val) 128 (off2 i) _)) (diagAcc_at (Q := fun r d => heads x0 1 (0 + r.val) d) (K := heads x1 1) (V := heads x2 1) (256 * (i 2).val) _ (odd_at i hc) (box_is arg3 harg3 x0 hx0 _ 0 128 rfl _) (box_is arg4 harg4 x1 hx1 _ (256 * (i 2).val) 128 (off2 i) _) (box_is arg5 harg5 x2 hx2 _ (256 * (i 2).val) 128 (off2 i) _)))
    (oneAcc_is (Q := fun r d => heads x0 2 (0 + r.val) d) (K := heads x1 2) (V := heads x2 2) (fun r => 256 * (i 2).val + r.val) (256 * ((i 2).val - 1)) (odd_before i hc) (box_is arg3 harg3 x0 hx0 _ 0 256 rfl _) (box_is arg4 harg4 x1 hx1 _ (256 * ((i 2).val - 1)) 256 (off11 i hc) _) (box_is arg5 harg5 x2 hx2 _ (256 * ((i 2).val - 1)) 256 (off11 i hc) _) (diagCarry_at (Q := fun r d => heads x0 2 (0 + r.val) d) (K := heads x1 2) (256 * (i 2).val) _ (odd_at i hc) (box_is arg3 harg3 x0 hx0 _ 0 256 rfl _) (box_is arg4 harg4 x1 hx1 _ (256 * (i 2).val) 256 (off3 i) _)) (diagAcc_at (Q := fun r d => heads x0 2 (0 + r.val) d) (K := heads x1 2) (V := heads x2 2) (256 * (i 2).val) _ (odd_at i hc) (box_is arg3 harg3 x0 hx0 _ 0 256 rfl _) (box_is arg4 harg4 x1 hx1 _ (256 * (i 2).val) 256 (off3 i) _) (box_is arg5 harg5 x2 hx2 _ (256 * (i 2).val) 256 (off3 i) _)))
    (oneAcc_is (Q := fun r d => heads x0 3 (0 + r.val) d) (K := heads x1 3) (V := heads x2 3) (fun r => 256 * (i 2).val + r.val) (256 * ((i 2).val - 1)) (odd_before i hc) (box_is arg3 harg3 x0 hx0 _ 0 384 rfl _) (box_is arg4 harg4 x1 hx1 _ (256 * ((i 2).val - 1)) 384 (off12 i hc) _) (box_is arg5 harg5 x2 hx2 _ (256 * ((i 2).val - 1)) 384 (off12 i hc) _) (diagCarry_at (Q := fun r d => heads x0 3 (0 + r.val) d) (K := heads x1 3) (256 * (i 2).val) _ (odd_at i hc) (box_is arg3 harg3 x0 hx0 _ 0 384 rfl _) (box_is arg4 harg4 x1 hx1 _ (256 * (i 2).val) 384 (off4 i) _)) (diagAcc_at (Q := fun r d => heads x0 3 (0 + r.val) d) (K := heads x1 3) (V := heads x2 3) (256 * (i 2).val) _ (odd_at i hc) (box_is arg3 harg3 x0 hx0 _ 0 384 rfl _) (box_is arg4 harg4 x1 hx1 _ (256 * (i 2).val) 384 (off4 i) _) (box_is arg5 harg5 x2 hx2 _ (256 * (i 2).val) 384 (off4 i) _)))
    (oneAcc_is (Q := fun r d => heads x0 4 (0 + r.val) d) (K := heads x1 4) (V := heads x2 4) (fun r => 256 * (i 2).val + r.val) (256 * ((i 2).val - 1)) (odd_before i hc) (box_is arg3 harg3 x0 hx0 _ 0 512 rfl _) (box_is arg4 harg4 x1 hx1 _ (256 * ((i 2).val - 1)) 512 (off13 i hc) _) (box_is arg5 harg5 x2 hx2 _ (256 * ((i 2).val - 1)) 512 (off13 i hc) _) (diagCarry_at (Q := fun r d => heads x0 4 (0 + r.val) d) (K := heads x1 4) (256 * (i 2).val) _ (odd_at i hc) (box_is arg3 harg3 x0 hx0 _ 0 512 rfl _) (box_is arg4 harg4 x1 hx1 _ (256 * (i 2).val) 512 (off5 i) _)) (diagAcc_at (Q := fun r d => heads x0 4 (0 + r.val) d) (K := heads x1 4) (V := heads x2 4) (256 * (i 2).val) _ (odd_at i hc) (box_is arg3 harg3 x0 hx0 _ 0 512 rfl _) (box_is arg4 harg4 x1 hx1 _ (256 * (i 2).val) 512 (off5 i) _) (box_is arg5 harg5 x2 hx2 _ (256 * (i 2).val) 512 (off5 i) _)))
    (oneAcc_is (Q := fun r d => heads x0 5 (0 + r.val) d) (K := heads x1 5) (V := heads x2 5) (fun r => 256 * (i 2).val + r.val) (256 * ((i 2).val - 1)) (odd_before i hc) (box_is arg3 harg3 x0 hx0 _ 0 640 rfl _) (box_is arg4 harg4 x1 hx1 _ (256 * ((i 2).val - 1)) 640 (off14 i hc) _) (box_is arg5 harg5 x2 hx2 _ (256 * ((i 2).val - 1)) 640 (off14 i hc) _) (diagCarry_at (Q := fun r d => heads x0 5 (0 + r.val) d) (K := heads x1 5) (256 * (i 2).val) _ (odd_at i hc) (box_is arg3 harg3 x0 hx0 _ 0 640 rfl _) (box_is arg4 harg4 x1 hx1 _ (256 * (i 2).val) 640 (off6 i) _)) (diagAcc_at (Q := fun r d => heads x0 5 (0 + r.val) d) (K := heads x1 5) (V := heads x2 5) (256 * (i 2).val) _ (odd_at i hc) (box_is arg3 harg3 x0 hx0 _ 0 640 rfl _) (box_is arg4 harg4 x1 hx1 _ (256 * (i 2).val) 640 (off6 i) _) (box_is arg5 harg5 x2 hx2 _ (256 * (i 2).val) 640 (off6 i) _)))
    (oneAcc_is (Q := fun r d => heads x0 6 (0 + r.val) d) (K := heads x1 6) (V := heads x2 6) (fun r => 256 * (i 2).val + r.val) (256 * ((i 2).val - 1)) (odd_before i hc) (box_is arg3 harg3 x0 hx0 _ 0 768 rfl _) (box_is arg4 harg4 x1 hx1 _ (256 * ((i 2).val - 1)) 768 (off15 i hc) _) (box_is arg5 harg5 x2 hx2 _ (256 * ((i 2).val - 1)) 768 (off15 i hc) _) (diagCarry_at (Q := fun r d => heads x0 6 (0 + r.val) d) (K := heads x1 6) (256 * (i 2).val) _ (odd_at i hc) (box_is arg3 harg3 x0 hx0 _ 0 768 rfl _) (box_is arg4 harg4 x1 hx1 _ (256 * (i 2).val) 768 (off7 i) _)) (diagAcc_at (Q := fun r d => heads x0 6 (0 + r.val) d) (K := heads x1 6) (V := heads x2 6) (256 * (i 2).val) _ (odd_at i hc) (box_is arg3 harg3 x0 hx0 _ 0 768 rfl _) (box_is arg4 harg4 x1 hx1 _ (256 * (i 2).val) 768 (off7 i) _) (box_is arg5 harg5 x2 hx2 _ (256 * (i 2).val) 768 (off7 i) _)))
    (oneAcc_is (Q := fun r d => heads x0 7 (0 + r.val) d) (K := heads x1 7) (V := heads x2 7) (fun r => 256 * (i 2).val + r.val) (256 * ((i 2).val - 1)) (odd_before i hc) (box_is arg3 harg3 x0 hx0 _ 0 896 rfl _) (box_is arg4 harg4 x1 hx1 _ (256 * ((i 2).val - 1)) 896 (off16 i hc) _) (box_is arg5 harg5 x2 hx2 _ (256 * ((i 2).val - 1)) 896 (off16 i hc) _) (diagCarry_at (Q := fun r d => heads x0 7 (0 + r.val) d) (K := heads x1 7) (256 * (i 2).val) _ (odd_at i hc) (box_is arg3 harg3 x0 hx0 _ 0 896 rfl _) (box_is arg4 harg4 x1 hx1 _ (256 * (i 2).val) 896 (off8 i) _)) (diagAcc_at (Q := fun r d => heads x0 7 (0 + r.val) d) (K := heads x1 7) (V := heads x2 7) (256 * (i 2).val) _ (odd_at i hc) (box_is arg3 harg3 x0 hx0 _ 0 896 rfl _) (box_is arg4 harg4 x1 hx1 _ (256 * (i 2).val) 896 (off8 i) _) (box_is arg5 harg5 x2 hx2 _ (256 * (i 2).val) 896 (off8 i) _))) L

omit hx0 hx1 in
theorem two_off (k : Fin (k0_t1_loop i).trips) (c : ℕ) :
    (![256 * ((i 2).val / 2 * 2 - 1 - 2 * k.val), c] : Fin 2 → ℕ) = ![256 * ((i 2).val / 2 * 2 - 2 - 2 * k.val) + 256, c] := by
  have h := k.isLt
  have e := trips i
  rw [show 256 * ((i 2).val / 2 * 2 - 1 - 2 * k.val) = 256 * ((i 2).val / 2 * 2 - 2 - 2 * k.val) + 256 by omega]
omit hx0 hx1 in
theorem two_before (k : Fin (k0_t1_loop i).trips) (r : Fin 256) :
    256 * ((i 2).val / 2 * 2 - 2 - 2 * k.val) + 512 ≤ 256 * (i 2).val + r.val := by
  have h := k.isLt
  have e := trips i
  omega
/-- A trip of the loop. -/
theorem two7_state (k : Fin (k0_t1_loop i).trips) (h7 : StackIs (arg7.view.read (Elt Ideal) f7) (carryAt x0 x1 (256 * (i 2).val) ((256 * ((i 2).val / 2 * 2 - 2 - 2 * k.val)) + 512))) :
    StackIs (arg7.view.read (Elt Ideal) (arg7.view.writes (Elt Ideal) g7
      (two7 i arg3 arg4 arg7 fromKey2 (harg3.unread x0) (harg4.unread x1) k f7 ++ L))) (carryAt x0 x1 (256 * (i 2).val) (256 * ((i 2).val / 2 * 2 - 2 - 2 * k.val))) :=
  stack_writes arg7 g7
    (twoCarry_is (Q := fun r d => heads x0 0 (0 + r.val) d) (K := heads x1 0) (fun r => 256 * (i 2).val + r.val) (256 * ((i 2).val / 2 * 2 - 2 - 2 * k.val)) (two_before i k) (box_is arg3 harg3 x0 hx0 _ 0 0 rfl _) (box_is arg4 harg4 x1 hx1 _ ((256 * ((i 2).val / 2 * 2 - 2 - 2 * k.val)) + 256) 0 ((off17 i k).trans (two_off i k 0)) _) (box_is arg4 harg4 x1 hx1 _ (256 * ((i 2).val / 2 * 2 - 2 - 2 * k.val)) 0 (off25 i k) _) (box_slab arg7 f7 h7 0 _))
    (twoCarry_is (Q := fun r d => heads x0 1 (0 + r.val) d) (K := heads x1 1) (fun r => 256 * (i 2).val + r.val) (256 * ((i 2).val / 2 * 2 - 2 - 2 * k.val)) (two_before i k) (box_is arg3 harg3 x0 hx0 _ 0 128 rfl _) (box_is arg4 harg4 x1 hx1 _ ((256 * ((i 2).val / 2 * 2 - 2 - 2 * k.val)) + 256) 128 ((off18 i k).trans (two_off i k 128)) _) (box_is arg4 harg4 x1 hx1 _ (256 * ((i 2).val / 2 * 2 - 2 - 2 * k.val)) 128 (off26 i k) _) (box_slab arg7 f7 h7 1 _))
    (twoCarry_is (Q := fun r d => heads x0 2 (0 + r.val) d) (K := heads x1 2) (fun r => 256 * (i 2).val + r.val) (256 * ((i 2).val / 2 * 2 - 2 - 2 * k.val)) (two_before i k) (box_is arg3 harg3 x0 hx0 _ 0 256 rfl _) (box_is arg4 harg4 x1 hx1 _ ((256 * ((i 2).val / 2 * 2 - 2 - 2 * k.val)) + 256) 256 ((off19 i k).trans (two_off i k 256)) _) (box_is arg4 harg4 x1 hx1 _ (256 * ((i 2).val / 2 * 2 - 2 - 2 * k.val)) 256 (off27 i k) _) (box_slab arg7 f7 h7 2 _))
    (twoCarry_is (Q := fun r d => heads x0 3 (0 + r.val) d) (K := heads x1 3) (fun r => 256 * (i 2).val + r.val) (256 * ((i 2).val / 2 * 2 - 2 - 2 * k.val)) (two_before i k) (box_is arg3 harg3 x0 hx0 _ 0 384 rfl _) (box_is arg4 harg4 x1 hx1 _ ((256 * ((i 2).val / 2 * 2 - 2 - 2 * k.val)) + 256) 384 ((off20 i k).trans (two_off i k 384)) _) (box_is arg4 harg4 x1 hx1 _ (256 * ((i 2).val / 2 * 2 - 2 - 2 * k.val)) 384 (off28 i k) _) (box_slab arg7 f7 h7 3 _))
    (twoCarry_is (Q := fun r d => heads x0 4 (0 + r.val) d) (K := heads x1 4) (fun r => 256 * (i 2).val + r.val) (256 * ((i 2).val / 2 * 2 - 2 - 2 * k.val)) (two_before i k) (box_is arg3 harg3 x0 hx0 _ 0 512 rfl _) (box_is arg4 harg4 x1 hx1 _ ((256 * ((i 2).val / 2 * 2 - 2 - 2 * k.val)) + 256) 512 ((off21 i k).trans (two_off i k 512)) _) (box_is arg4 harg4 x1 hx1 _ (256 * ((i 2).val / 2 * 2 - 2 - 2 * k.val)) 512 (off29 i k) _) (box_slab arg7 f7 h7 4 _))
    (twoCarry_is (Q := fun r d => heads x0 5 (0 + r.val) d) (K := heads x1 5) (fun r => 256 * (i 2).val + r.val) (256 * ((i 2).val / 2 * 2 - 2 - 2 * k.val)) (two_before i k) (box_is arg3 harg3 x0 hx0 _ 0 640 rfl _) (box_is arg4 harg4 x1 hx1 _ ((256 * ((i 2).val / 2 * 2 - 2 - 2 * k.val)) + 256) 640 ((off22 i k).trans (two_off i k 640)) _) (box_is arg4 harg4 x1 hx1 _ (256 * ((i 2).val / 2 * 2 - 2 - 2 * k.val)) 640 (off30 i k) _) (box_slab arg7 f7 h7 5 _))
    (twoCarry_is (Q := fun r d => heads x0 6 (0 + r.val) d) (K := heads x1 6) (fun r => 256 * (i 2).val + r.val) (256 * ((i 2).val / 2 * 2 - 2 - 2 * k.val)) (two_before i k) (box_is arg3 harg3 x0 hx0 _ 0 768 rfl _) (box_is arg4 harg4 x1 hx1 _ ((256 * ((i 2).val / 2 * 2 - 2 - 2 * k.val)) + 256) 768 ((off23 i k).trans (two_off i k 768)) _) (box_is arg4 harg4 x1 hx1 _ (256 * ((i 2).val / 2 * 2 - 2 - 2 * k.val)) 768 (off31 i k) _) (box_slab arg7 f7 h7 6 _))
    (twoCarry_is (Q := fun r d => heads x0 7 (0 + r.val) d) (K := heads x1 7) (fun r => 256 * (i 2).val + r.val) (256 * ((i 2).val / 2 * 2 - 2 - 2 * k.val)) (two_before i k) (box_is arg3 harg3 x0 hx0 _ 0 896 rfl _) (box_is arg4 harg4 x1 hx1 _ ((256 * ((i 2).val / 2 * 2 - 2 - 2 * k.val)) + 256) 896 ((off24 i k).trans (two_off i k 896)) _) (box_is arg4 harg4 x1 hx1 _ (256 * ((i 2).val / 2 * 2 - 2 - 2 * k.val)) 896 (off32 i k) _) (box_slab arg7 f7 h7 7 _)) L
set_option maxHeartbeats 1600000 in
include hx2 in
theorem two8_state (k : Fin (k0_t1_loop i).trips) (h7 : StackIs (arg7.view.read (Elt Ideal) f7) (carryAt x0 x1 (256 * (i 2).val) ((256 * ((i 2).val / 2 * 2 - 2 - 2 * k.val)) + 512)))
    (h8 : StackIs (arg8.view.read (Elt Ideal) f8) (sumAt x0 x1 x2 (256 * (i 2).val) ((256 * ((i 2).val / 2 * 2 - 2 - 2 * k.val)) + 512))) :
    StackIs (arg8.view.read (Elt Ideal) (arg8.view.writes (Elt Ideal) g8
      (two8 i arg3 arg4 arg5 arg7 arg8 fromKey2 (harg3.unread x0) (harg4.unread x1) (harg5.unread x2) k f7 f8 ++ L))) (sumAt x0 x1 x2 (256 * (i 2).val) (256 * ((i 2).val / 2 * 2 - 2 - 2 * k.val))) :=
  stack_writes arg8 g8
    (twoAcc_is (Q := fun r d => heads x0 0 (0 + r.val) d) (K := heads x1 0) (V := heads x2 0) (fun r => 256 * (i 2).val + r.val) (256 * ((i 2).val / 2 * 2 - 2 - 2 * k.val)) (two_before i k) (box_is arg3 harg3 x0 hx0 _ 0 0 rfl _) (box_is arg4 harg4 x1 hx1 _ ((256 * ((i 2).val / 2 * 2 - 2 - 2 * k.val)) + 256) 0 ((off17 i k).trans (two_off i k 0)) _) (box_is arg4 harg4 x1 hx1 _ (256 * ((i 2).val / 2 * 2 - 2 - 2 * k.val)) 0 (off25 i k) _) (box_is arg5 harg5 x2 hx2 _ (256 * ((i 2).val / 2 * 2 - 2 - 2 * k.val)) 0 (off33 i k) _) (box_slab arg7 f7 h7 0 _) (box_slab arg8 f8 h8 0 _))
    (twoAcc_is (Q := fun r d => heads x0 1 (0 + r.val) d) (K := heads x1 1) (V := heads x2 1) (fun r => 256 * (i 2).val + r.val) (256 * ((i 2).val / 2 * 2 - 2 - 2 * k.val)) (two_before i k) (box_is arg3 harg3 x0 hx0 _ 0 128 rfl _) (box_is arg4 harg4 x1 hx1 _ ((256 * ((i 2).val / 2 * 2 - 2 - 2 * k.val)) + 256) 128 ((off18 i k).trans (two_off i k 128)) _) (box_is arg4 harg4 x1 hx1 _ (256 * ((i 2).val / 2 * 2 - 2 - 2 * k.val)) 128 (off26 i k) _) (box_is arg5 harg5 x2 hx2 _ (256 * ((i 2).val / 2 * 2 - 2 - 2 * k.val)) 128 (off34 i k) _) (box_slab arg7 f7 h7 1 _) (box_slab arg8 f8 h8 1 _))
    (twoAcc_is (Q := fun r d => heads x0 2 (0 + r.val) d) (K := heads x1 2) (V := heads x2 2) (fun r => 256 * (i 2).val + r.val) (256 * ((i 2).val / 2 * 2 - 2 - 2 * k.val)) (two_before i k) (box_is arg3 harg3 x0 hx0 _ 0 256 rfl _) (box_is arg4 harg4 x1 hx1 _ ((256 * ((i 2).val / 2 * 2 - 2 - 2 * k.val)) + 256) 256 ((off19 i k).trans (two_off i k 256)) _) (box_is arg4 harg4 x1 hx1 _ (256 * ((i 2).val / 2 * 2 - 2 - 2 * k.val)) 256 (off27 i k) _) (box_is arg5 harg5 x2 hx2 _ (256 * ((i 2).val / 2 * 2 - 2 - 2 * k.val)) 256 (off35 i k) _) (box_slab arg7 f7 h7 2 _) (box_slab arg8 f8 h8 2 _))
    (twoAcc_is (Q := fun r d => heads x0 3 (0 + r.val) d) (K := heads x1 3) (V := heads x2 3) (fun r => 256 * (i 2).val + r.val) (256 * ((i 2).val / 2 * 2 - 2 - 2 * k.val)) (two_before i k) (box_is arg3 harg3 x0 hx0 _ 0 384 rfl _) (box_is arg4 harg4 x1 hx1 _ ((256 * ((i 2).val / 2 * 2 - 2 - 2 * k.val)) + 256) 384 ((off20 i k).trans (two_off i k 384)) _) (box_is arg4 harg4 x1 hx1 _ (256 * ((i 2).val / 2 * 2 - 2 - 2 * k.val)) 384 (off28 i k) _) (box_is arg5 harg5 x2 hx2 _ (256 * ((i 2).val / 2 * 2 - 2 - 2 * k.val)) 384 (off36 i k) _) (box_slab arg7 f7 h7 3 _) (box_slab arg8 f8 h8 3 _))
    (twoAcc_is (Q := fun r d => heads x0 4 (0 + r.val) d) (K := heads x1 4) (V := heads x2 4) (fun r => 256 * (i 2).val + r.val) (256 * ((i 2).val / 2 * 2 - 2 - 2 * k.val)) (two_before i k) (box_is arg3 harg3 x0 hx0 _ 0 512 rfl _) (box_is arg4 harg4 x1 hx1 _ ((256 * ((i 2).val / 2 * 2 - 2 - 2 * k.val)) + 256) 512 ((off21 i k).trans (two_off i k 512)) _) (box_is arg4 harg4 x1 hx1 _ (256 * ((i 2).val / 2 * 2 - 2 - 2 * k.val)) 512 (off29 i k) _) (box_is arg5 harg5 x2 hx2 _ (256 * ((i 2).val / 2 * 2 - 2 - 2 * k.val)) 512 (off37 i k) _) (box_slab arg7 f7 h7 4 _) (box_slab arg8 f8 h8 4 _))
    (twoAcc_is (Q := fun r d => heads x0 5 (0 + r.val) d) (K := heads x1 5) (V := heads x2 5) (fun r => 256 * (i 2).val + r.val) (256 * ((i 2).val / 2 * 2 - 2 - 2 * k.val)) (two_before i k) (box_is arg3 harg3 x0 hx0 _ 0 640 rfl _) (box_is arg4 harg4 x1 hx1 _ ((256 * ((i 2).val / 2 * 2 - 2 - 2 * k.val)) + 256) 640 ((off22 i k).trans (two_off i k 640)) _) (box_is arg4 harg4 x1 hx1 _ (256 * ((i 2).val / 2 * 2 - 2 - 2 * k.val)) 640 (off30 i k) _) (box_is arg5 harg5 x2 hx2 _ (256 * ((i 2).val / 2 * 2 - 2 - 2 * k.val)) 640 (off38 i k) _) (box_slab arg7 f7 h7 5 _) (box_slab arg8 f8 h8 5 _))
    (twoAcc_is (Q := fun r d => heads x0 6 (0 + r.val) d) (K := heads x1 6) (V := heads x2 6) (fun r => 256 * (i 2).val + r.val) (256 * ((i 2).val / 2 * 2 - 2 - 2 * k.val)) (two_before i k) (box_is arg3 harg3 x0 hx0 _ 0 768 rfl _) (box_is arg4 harg4 x1 hx1 _ ((256 * ((i 2).val / 2 * 2 - 2 - 2 * k.val)) + 256) 768 ((off23 i k).trans (two_off i k 768)) _) (box_is arg4 harg4 x1 hx1 _ (256 * ((i 2).val / 2 * 2 - 2 - 2 * k.val)) 768 (off31 i k) _) (box_is arg5 harg5 x2 hx2 _ (256 * ((i 2).val / 2 * 2 - 2 - 2 * k.val)) 768 (off39 i k) _) (box_slab arg7 f7 h7 6 _) (box_slab arg8 f8 h8 6 _))
    (twoAcc_is (Q := fun r d => heads x0 7 (0 + r.val) d) (K := heads x1 7) (V := heads x2 7) (fun r => 256 * (i 2).val + r.val) (256 * ((i 2).val / 2 * 2 - 2 - 2 * k.val)) (two_before i k) (box_is arg3 harg3 x0 hx0 _ 0 896 rfl _) (box_is arg4 harg4 x1 hx1 _ ((256 * ((i 2).val / 2 * 2 - 2 - 2 * k.val)) + 256) 896 ((off24 i k).trans (two_off i k 896)) _) (box_is arg4 harg4 x1 hx1 _ (256 * ((i 2).val / 2 * 2 - 2 - 2 * k.val)) 896 (off32 i k) _) (box_is arg5 harg5 x2 hx2 _ (256 * ((i 2).val / 2 * 2 - 2 - 2 * k.val)) 896 (off40 i k) _) (box_slab arg7 f7 h7 7 _) (box_slab arg8 f8 h8 7 _)) L

end Cert.KernelIdeal.Head

end
-- ==== Proof.Body.lean ====
/-
  WHAT THE BODY STORES: after the loops every head's sum is the whole weighted sum over the keys before the query, and the
  body's output block holds the eight heads side by side.
-/
module

public import proofs.«01_k».proof.Proof.States

@[expose] public section

set_option maxRecDepth 16384

noncomputable section

namespace Cert.KernelIdeal.Head

open Idealize.ShloMosaic Idealize.ShloMosaic.TcCoe
open Cert.KernelIdeal Cert.KernelIdeal.Gen Cert.Attn

section
variable (c : Dev nD) (i : grid0.Coords) (arg3 : Memref sig .tc .vmem S256x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S256x1024 .bf16) (harg6 : arg6.IsWhole) (arg7 : Memref sig .tc .vmem S8x256x128 .f32) (harg7 : arg7.IsWhole) (arg8 : Memref sig .tc .vmem S8x256x128 .f32) (harg8 : arg8.IsWhole)
  (x0 : Vec Ideal S256x1024 .bf16) (x1 x2 : Vec Ideal S4096x1024 .bf16)
  (a2 v404 v408 v430 a0 : BitVec 32) (HS0 HS1 : List (View.Piece (Elt Ideal) S8x256x128 .f32))

/-- The first loop's state before trip `n`. -/
def pairs (g7 : BufTy.Contents (Elt Ideal) arg7.view.ty) (g8 : BufTy.Contents (Elt Ideal) arg8.view.ty) (n : ℕ) :=
  st_k0_t1 (F := Ideal) Variants.none c none i arg3 harg3 arg4 harg4 arg5 harg5 arg6 harg6 arg7 harg7 arg8 harg8 a2 fromKey2 v404 v408 (harg3.unread x0) (harg4.unread x1) (harg5.unread x2) g7 g8 a0 n

/-- Every trip keeps the state. -/
theorem pairs_state (hx0 : Finite x0) (hx1 : Finite x1) (hx2 : Finite x2)
    (g7 : BufTy.Contents (Elt Ideal) arg7.view.ty) (g8 : BufTy.Contents (Elt Ideal) arg8.view.ty)
    (h7 : StackIs (arg7.view.read (Elt Ideal) g7) (carryAt x0 x1 (256 * (i 2).val) (256 * ((i 2).val / 2 * 2))))
    (h8 : StackIs (arg8.view.read (Elt Ideal) g8) (sumAt x0 x1 x2 (256 * (i 2).val) (256 * ((i 2).val / 2 * 2)))) (n : ℕ)
    (hn : n ≤ (k0_t1_loop i).trips) :
    StackIs (arg7.view.read (Elt Ideal) (arg7.view.writes (Elt Ideal) g7 (pairs c i arg3 harg3 arg4 harg4 arg5 harg5 arg6 harg6 arg7 harg7 arg8 harg8 x0 x1 x2 a2 v404 v408 a0 g7 g8 n).2.1))
        (carryAt x0 x1 (256 * (i 2).val) (256 * ((i 2).val / 2 * 2 - 2 * n)))
      ∧ StackIs (arg8.view.read (Elt Ideal) (arg8.view.writes (Elt Ideal) g8 (pairs c i arg3 harg3 arg4 harg4 arg5 harg5 arg6 harg6 arg7 harg7 arg8 harg8 x0 x1 x2 a2 v404 v408 a0 g7 g8 n).2.2))
        (sumAt x0 x1 x2 (256 * (i 2).val) (256 * ((i 2).val / 2 * 2 - 2 * n))) := by
  induction n with
  | zero => exact ⟨h7, h8⟩
  | succ n ih =>
    have k : n < (k0_t1_loop i).trips := hn
    have ih := ih k.le
    have e := trips i
    have e1 : 256 * ((i 2).val / 2 * 2 - 2 * n) = 256 * ((i 2).val / 2 * 2 - 2 - 2 * (⟨n, k⟩ : Fin (k0_t1_loop i).trips).val) + 512 := by
      show _ = 256 * ((i 2).val / 2 * 2 - 2 - 2 * n) + 512
      omega
    have e2 : (i 2).val / 2 * 2 - 2 * (n + 1) = (i 2).val / 2 * 2 - 2 - 2 * (⟨n, k⟩ : Fin (k0_t1_loop i).trips).val := by
      show _ = (i 2).val / 2 * 2 - 2 - 2 * n
      omega
    rw [e1] at ih
    rw [e2]
    unfold pairs at ih ⊢
    rw [st_k0_t1_succ (F := Ideal) Variants.none c none i arg3 harg3 arg4 harg4 arg5 harg5 arg6 harg6 arg7 harg7 arg8 harg8 a2 fromKey2 v404 v408 (harg3.unread x0) (harg4.unread x1) (harg5.unread x2) g7 g8 a0 ⟨n, k⟩]
    rw [trip7, trip8]
    exact ⟨two7_state i arg3 harg3 arg4 harg4 arg7 x0 x1 hx0 hx1 g7 _ _ ⟨n, k⟩ ih.1,
      two8_state i arg3 harg3 arg4 harg4 arg5 harg5 arg7 arg8 x0 x1 x2 hx0 hx1 hx2 _ g8 _ _ ⟨n, k⟩ ih.1 ih.2⟩

/-- Everything stored into the sums. -/
def stored : List (View.Piece (Elt Ideal) S8x256x128 .f32) :=
  let s := pairs c i arg3 harg3 arg4 harg4 arg5 harg5 arg6 harg6 arg7 harg7 arg8 harg8 x0 x1 x2 a2 v404 v408 a0 (arg7.view.writes (Elt Ideal) arg7.view.junk HS0) (arg8.view.writes (Elt Ideal) arg8.view.junk HS1) (k0_t1_loop i).trips
  (st_k0_t2 (F := Ideal) Variants.none c none i arg3 harg3 arg4 harg4 arg5 harg5 arg6 harg6 arg7 harg7 arg8 harg8 a2 fromKey2 v404 v408 v430 (harg3.unread x0) (harg4.unread x1) (harg5.unread x2)
    (arg7.view.writes (Elt Ideal) arg7.view.junk (s.2.1 ++ HS0)) (arg8.view.writes (Elt Ideal) arg8.view.junk (s.2.2 ++ HS1)) s.1 (k0_t2_loop i).trips).2.2 ++ (s.2.2 ++ HS1)

/-- The sums after the loops. -/
theorem stored_state (hx0 : Finite x0) (hx1 : Finite x1) (hx2 : Finite x2)
    (h7 : StackIs (arg7.view.read (Elt Ideal) (arg7.view.writes (Elt Ideal) arg7.view.junk HS0)) (carryAt x0 x1 (256 * (i 2).val) (256 * ((i 2).val / 2 * 2))))
    (h8 : StackIs (arg8.view.read (Elt Ideal) (arg8.view.writes (Elt Ideal) arg8.view.junk HS1)) (sumAt x0 x1 x2 (256 * (i 2).val) (256 * ((i 2).val / 2 * 2)))) :
    StackIs (arg8.view.read (Elt Ideal) (arg8.view.writes (Elt Ideal) arg8.view.junk
      (stored c i arg3 harg3 arg4 harg4 arg5 harg5 arg6 harg6 arg7 harg7 arg8 harg8 x0 x1 x2 a2 v404 v408 v430 a0 HS0 HS1))) (sumAt x0 x1 x2 (256 * (i 2).val) 0) := by
  have h := (pairs_state c i arg3 harg3 arg4 harg4 arg5 harg5 arg6 harg6 arg7 harg7 arg8 harg8 x0 x1 x2 a2 v404 v408 a0 hx0 hx1 hx2 _ _ h7 h8 (k0_t1_loop i).trips le_rfl).2
  unfold stored
  dsimp only
  rw [trips2 i]
  show StackIs (arg8.view.read (Elt Ideal) (arg8.view.writes (Elt Ideal) arg8.view.junk (_ ++ HS1))) _
  rw [View.writes_append]
  have e : 256 * ((i 2).val / 2 * 2 - 2 * (k0_t1_loop i).trips) = 0 := by rw [trips i]; omega
  rw [e] at h
  exact h
end

/-- Eight heads stored side by side. -/
def side (w0 w1 w2 w3 w4 w5 w6 w7 : Vec Ideal S1x256x128 .f32) : List (View.Piece (Elt Ideal) S256x1024 .bf16) :=
  [⟨Rect.unit ![0, 896] S256x128.size inb_S256x1024_S256x128_0_896, k0_pay1 w7⟩,
   ⟨Rect.unit ![0, 768] S256x128.size inb_S256x1024_S256x128_0_768, k0_pay298 w6⟩,
   ⟨Rect.unit ![0, 640] S256x128.size inb_S256x1024_S256x128_0_640, k0_pay297 w5⟩,
   ⟨Rect.unit ![0, 512] S256x128.size inb_S256x1024_S256x128_0_512, k0_pay296 w4⟩,
   ⟨Rect.unit ![0, 384] S256x128.size inb_S256x1024_S256x128_0_384, k0_pay295 w3⟩,
   ⟨Rect.unit ![0, 256] S256x128.size inb_S256x1024_S256x128_0_256, k0_pay294 w2⟩,
   ⟨Rect.unit ![0, 128] S256x128.size inb_S256x1024_S256x128_0_128, k0_pay293 w1⟩,
   ⟨Rect.unit ![0, 0] S256x128.size inb_S256x1024_S256x128_0_0, k0_pay292 w0⟩]

theorem col_index (h : Fin 8) (r : Fin 256) (d : Fin 128) (ax : Fin 2) :
    ((ix2 r (⟨128 * h.val + d.val, by omega⟩ : Fin 1024) : S256x1024.Idx) ax).val
      = (![0, 128 * h.val] : Fin 2 → ℕ) ax + ((ix2 r d : S256x128.Idx) ax).val := by
  match ax with
  | ⟨0, _⟩ => exact (Nat.zero_add _).symm
  | ⟨1, _⟩ => rfl

theorem col_skip (v : View sig .tc .vmem S256x1024 .bf16) (f : BufTy.Contents (Elt Ideal) v.ty) (j : ℕ) (h : Fin 8)
    (hj : h.val < j) (inb : ∀ i, (![0, 128 * j] : Fin 2 → ℕ) i + S256x128.size i ≤ S256x1024.size i) (p : FVec Ideal S256x128 .bf16)
    (L : List (View.Piece (Elt Ideal) S256x1024 .bf16)) (r : Fin 256) (d : Fin 128) :
    v.read (Elt Ideal) (v.writes (Elt Ideal) f (⟨Rect.unit (s := S256x1024) ![0, 128 * j] S256x128.size inb, p⟩ :: L)) (ix2 r ⟨128 * h.val + d.val, by omega⟩)
      = v.read (Elt Ideal) (v.writes (Elt Ideal) f L) (ix2 r ⟨128 * h.val + d.val, by omega⟩) := by
  have hs : 128 * h.val + d.val < 128 * j ∨ 128 * j + 128 ≤ 128 * h.val + d.val := by omega
  exact View.read_writes_cons_unit_of_not_mem v f inb p L (ix2 r ⟨128 * h.val + d.val, by omega⟩) rfl (1 : Fin 2) hs

theorem col_hit (v : View sig .tc .vmem S256x1024 .bf16) (f : BufTy.Contents (Elt Ideal) v.ty) (h : Fin 8)
    (inb : ∀ i, (![0, 128 * h.val] : Fin 2 → ℕ) i + S256x128.size i ≤ S256x1024.size i) (p : FVec Ideal S256x128 .bf16)
    (L : List (View.Piece (Elt Ideal) S256x1024 .bf16)) (r : Fin 256) (d : Fin 128) :
    v.read (Elt Ideal) (v.writes (Elt Ideal) f (⟨Rect.unit (s := S256x1024) ![0, 128 * h.val] S256x128.size inb, p⟩ :: L)) (ix2 r ⟨128 * h.val + d.val, by omega⟩)
      = p (ix2 r d) :=
  View.read_writes_cons_unit_of_mem v f inb p L (ix2 r ⟨128 * h.val + d.val, by omega⟩) (ix2 r d) rfl (col_index h r d)

/-- The block of eight heads, read. -/
theorem side_read (v : View sig .tc .vmem S256x1024 .bf16) (f : BufTy.Contents (Elt Ideal) v.ty) {x : Fin 8 → Fin 256 → Fin 128 → ℝ}
    {w0 w1 w2 w3 w4 w5 w6 w7 : Vec Ideal S1x256x128 .f32} (h0 : SlabIs w0 (x 0)) (h1 : SlabIs w1 (x 1)) (h2 : SlabIs w2 (x 2)) (h3 : SlabIs w3 (x 3)) (h4 : SlabIs w4 (x 4)) (h5 : SlabIs w5 (x 5)) (h6 : SlabIs w6 (x 6)) (h7 : SlabIs w7 (x 7)) (h : Fin 8) (r : Fin 256) (d : Fin 128) :
    v.read (Elt Ideal) (v.writes (Elt Ideal) f (side w0 w1 w2 w3 w4 w5 w6 w7)) (ix2 r ⟨128 * h.val + d.val, by omega⟩) = ((x h r d : ℝ) : EReal) := by
  unfold side
  fin_cases h
  · exact (col_skip v f 7 0 (by decide) _ (k0_pay1 w7) _ r d).trans <| (col_skip v f 6 0 (by decide) _ (k0_pay298 w6) _ r d).trans <| (col_skip v f 5 0 (by decide) _ (k0_pay297 w5) _ r d).trans <| (col_skip v f 4 0 (by decide) _ (k0_pay296 w4) _ r d).trans <| (col_skip v f 3 0 (by decide) _ (k0_pay295 w3) _ r d).trans <| (col_skip v f 2 0 (by decide) _ (k0_pay294 w2) _ r d).trans <| (col_skip v f 1 0 (by decide) _ (k0_pay293 w1) _ r d).trans <| (col_hit v f 0 _ (k0_pay292 w0) _ r d).trans (h0.flat r d)
  · exact (col_skip v f 7 1 (by decide) _ (k0_pay1 w7) _ r d).trans <| (col_skip v f 6 1 (by decide) _ (k0_pay298 w6) _ r d).trans <| (col_skip v f 5 1 (by decide) _ (k0_pay297 w5) _ r d).trans <| (col_skip v f 4 1 (by decide) _ (k0_pay296 w4) _ r d).trans <| (col_skip v f 3 1 (by decide) _ (k0_pay295 w3) _ r d).trans <| (col_skip v f 2 1 (by decide) _ (k0_pay294 w2) _ r d).trans <| (col_hit v f 1 _ (k0_pay293 w1) _ r d).trans (h1.flat r d)
  · exact (col_skip v f 7 2 (by decide) _ (k0_pay1 w7) _ r d).trans <| (col_skip v f 6 2 (by decide) _ (k0_pay298 w6) _ r d).trans <| (col_skip v f 5 2 (by decide) _ (k0_pay297 w5) _ r d).trans <| (col_skip v f 4 2 (by decide) _ (k0_pay296 w4) _ r d).trans <| (col_skip v f 3 2 (by decide) _ (k0_pay295 w3) _ r d).trans <| (col_hit v f 2 _ (k0_pay294 w2) _ r d).trans (h2.flat r d)
  · exact (col_skip v f 7 3 (by decide) _ (k0_pay1 w7) _ r d).trans <| (col_skip v f 6 3 (by decide) _ (k0_pay298 w6) _ r d).trans <| (col_skip v f 5 3 (by decide) _ (k0_pay297 w5) _ r d).trans <| (col_skip v f 4 3 (by decide) _ (k0_pay296 w4) _ r d).trans <| (col_hit v f 3 _ (k0_pay295 w3) _ r d).trans (h3.flat r d)
  · exact (col_skip v f 7 4 (by decide) _ (k0_pay1 w7) _ r d).trans <| (col_skip v f 6 4 (by decide) _ (k0_pay298 w6) _ r d).trans <| (col_skip v f 5 4 (by decide) _ (k0_pay297 w5) _ r d).trans <| (col_hit v f 4 _ (k0_pay296 w4) _ r d).trans (h4.flat r d)
  · exact (col_skip v f 7 5 (by decide) _ (k0_pay1 w7) _ r d).trans <| (col_skip v f 6 5 (by decide) _ (k0_pay298 w6) _ r d).trans <| (col_hit v f 5 _ (k0_pay297 w5) _ r d).trans (h5.flat r d)
  · exact (col_skip v f 7 6 (by decide) _ (k0_pay1 w7) _ r d).trans <| (col_hit v f 6 _ (k0_pay298 w6) _ r d).trans (h6.flat r d)
  · exact (col_hit v f 7 _ (k0_pay1 w7) _ r d).trans (h7.flat r d)

/-- The sums, loaded head by head and stored side by side. -/
def sideOf (arg8 : Memref sig .tc .vmem S8x256x128 .f32) (L : List (View.Piece (Elt Ideal) S8x256x128 .f32)) : List (View.Piece (Elt Ideal) S256x1024 .bf16) :=
  side (arg8.view.readCov L (Rect.unit (s := S8x256x128) ![0, 0, 0] S1x256x128.size inb_S8x256x128_S1x256x128_0_0_0).toLoadRect) (arg8.view.readCov L (Rect.unit (s := S8x256x128) ![1, 0, 0] S1x256x128.size inb_S8x256x128_S1x256x128_1_0_0).toLoadRect) (arg8.view.readCov L (Rect.unit (s := S8x256x128) ![2, 0, 0] S1x256x128.size inb_S8x256x128_S1x256x128_2_0_0).toLoadRect) (arg8.view.readCov L (Rect.unit (s := S8x256x128) ![3, 0, 0] S1x256x128.size inb_S8x256x128_S1x256x128_3_0_0).toLoadRect) (arg8.view.readCov L (Rect.unit (s := S8x256x128) ![4, 0, 0] S1x256x128.size inb_S8x256x128_S1x256x128_4_0_0).toLoadRect) (arg8.view.readCov L (Rect.unit (s := S8x256x128) ![5, 0, 0] S1x256x128.size inb_S8x256x128_S1x256x128_5_0_0).toLoadRect) (arg8.view.readCov L (Rect.unit (s := S8x256x128) ![6, 0, 0] S1x256x128.size inb_S8x256x128_S1x256x128_6_0_0).toLoadRect) (arg8.view.readCov L (Rect.unit (s := S8x256x128) ![7, 0, 0] S1x256x128.size inb_S8x256x128_S1x256x128_7_0_0).toLoadRect)

theorem sideOf_read (arg8 : Memref sig .tc .vmem S8x256x128 .f32) (L : List (View.Piece (Elt Ideal) S8x256x128 .f32))
    (v : View sig .tc .vmem S256x1024 .bf16) (f : BufTy.Contents (Elt Ideal) v.ty) {x : Fin 8 → Fin 256 → Fin 128 → ℝ}
    (hx : StackIs (arg8.view.read (Elt Ideal) (arg8.view.writes (Elt Ideal) arg8.view.junk L)) x) (h : Fin 8) (r : Fin 256) (d : Fin 128) :
    v.read (Elt Ideal) (v.writes (Elt Ideal) f (sideOf arg8 L)) (ix2 r ⟨128 * h.val + d.val, by omega⟩) = ((x h r d : ℝ) : EReal) :=
  side_read v f (box_slab arg8 _ hx 0 _) (box_slab arg8 _ hx 1 _) (box_slab arg8 _ hx 2 _) (box_slab arg8 _ hx 3 _) (box_slab arg8 _ hx 4 _) (box_slab arg8 _ hx 5 _) (box_slab arg8 _ hx 6 _) (box_slab arg8 _ hx 7 _) h r d

end Cert.KernelIdeal.Head

end
-- ==== Proof.BodyRun.lean ====
/-
  THE BODY'S BLOCK: at either kind of point of the grid, entry by entry, what the body leaves in the output block.
-/
module

public import proofs.«01_k».proof.Proof.Body

@[expose] public section

set_option maxRecDepth 16384

noncomputable section

namespace Cert.KernelIdeal.Head

open Idealize.ShloMosaic Idealize.ShloMosaic.TcCoe
open Cert.KernelIdeal Cert.KernelIdeal.Gen Cert.Attn

variable (c : Dev nD) (i : grid0.Coords) (arg3 : Memref sig .tc .vmem S256x1024 .bf16) (harg3 : arg3.IsWhole) (arg4 : Memref sig .tc .vmem S4096x1024 .bf16) (harg4 : arg4.IsWhole) (arg5 : Memref sig .tc .vmem S4096x1024 .bf16) (harg5 : arg5.IsWhole) (arg6 : Memref sig .tc .vmem S256x1024 .bf16) (harg6 : arg6.IsWhole) (arg7 : Memref sig .tc .vmem S8x256x128 .f32) (harg7 : arg7.IsWhole) (arg8 : Memref sig .tc .vmem S8x256x128 .f32) (harg8 : arg8.IsWhole)
  (x0 : Vec Ideal S256x1024 .bf16) (x1 x2 : Vec Ideal S4096x1024 .bf16)

theorem runA (hc : ¬cond0_0 i) : (kernelRun0_A (F := Ideal) c i arg3 harg3 arg4 harg4 arg5 harg5 arg6 harg6 arg7 harg7 arg8 harg8 hc x0 x1 x2).1
    = sideOf arg8 (stored c i arg3 harg3 arg4 harg4 arg5 harg5 arg6 harg6 arg7 harg7 arg8 harg8 x0 x1 x2 (BitVec.ofNat 32 (i 2).val)
        (kernelRun0_A.sl.v404 i) (kernelRun0_A.sl.v408 i) (kernelRun0_A.sl.v430 i) 0#32
        (kernelRun0_A.sl.HS0_8 c i arg3 harg3 arg4 harg4 x0 x1) (kernelRun0_A.sl.HS1_8 c i arg3 harg3 arg4 harg4 arg5 harg5 x0 x1 x2)) := by
  unfold kernelRun0_A
  dsimp only
  rfl

theorem runB (hc : cond0_0 i) : (kernelRun0_B (F := Ideal) c i arg3 harg3 arg4 harg4 arg5 harg5 arg6 harg6 arg7 harg7 arg8 harg8 hc x0 x1 x2).1
    = sideOf arg8 (stored c i arg3 harg3 arg4 harg4 arg5 harg5 arg6 harg6 arg7 harg7 arg8 harg8 x0 x1 x2 (BitVec.ofNat 32 (i 2).val)
        (kernelRun0_B.sl.v404 i) (kernelRun0_B.sl.v408 i) (kernelRun0_B.sl.v430 i) 0#32
        (kernelRun0_B.sl.HS0_16 c i arg3 harg3 arg4 harg4 arg7 hc x0 x1) (kernelRun0_B.sl.HS1_16 c i arg3 harg3 arg4 harg4 arg5 harg5 arg7 arg8 hc x0 x1 x2)) := by
  unfold kernelRun0_B
  dsimp only
  rfl

variable (hx0 : Finite x0) (hx1 : Finite x1) (hx2 : Finite x2) (h : Fin 8) (r : Fin 256) (d : Fin 128)
include hx0 hx1 hx2

/-- An even block of queries. -/
theorem outA (hc : ¬cond0_0 i) : out0_A_3 (F := Ideal) c i arg3 harg3 arg4 harg4 arg5 harg5 arg6 harg6 arg7 harg7 arg8 harg8 hc x0 x1 x2 (ix2 r ⟨128 * h.val + d.val, by omega⟩)
    = ((sumAt x0 x1 x2 (256 * (i 2).val) 0 h r d : ℝ) : EReal) := by
  unfold out0_A_3
  rw [runA, diag7_A, diag8_A]
  have e : 256 * ((i 2).val / 2 * 2) = 256 * (i 2).val := by have := even_of i hc; omega
  have h7 := diag7_state i arg3 harg3 arg4 harg4 arg7 x0 x1 hx0 hx1 arg7.view.junk []
  have h8 := diag8_state i arg3 harg3 arg4 harg4 arg5 harg5 arg8 x0 x1 x2 hx0 hx1 hx2 arg8.view.junk []
  rw [List.append_nil] at h7 h8
  exact sideOf_read arg8 _ _ _ (stored_state c i arg3 harg3 arg4 harg4 arg5 harg5 arg6 harg6 arg7 harg7 arg8 harg8 x0 x1 x2 _ _ _ _ _ _ _ hx0 hx1 hx2
    (by rw [e]; exact h7) (by rw [e]; exact h8)) h r d

/-- An odd block of queries. -/
theorem outB (hc : cond0_0 i) : out0_B_3 (F := Ideal) c i arg3 harg3 arg4 harg4 arg5 harg5 arg6 harg6 arg7 harg7 arg8 harg8 hc x0 x1 x2 (ix2 r ⟨128 * h.val + d.val, by omega⟩)
    = ((sumAt x0 x1 x2 (256 * (i 2).val) 0 h r d : ℝ) : EReal) := by
  unfold out0_B_3
  rw [runB, odd7_B, odd8_B, odd7_eq, odd8_eq]
  have e : 256 * ((i 2).val / 2 * 2) = 256 * ((i 2).val - 1) := by have := odd_of i hc; omega
  have h7 := one7_state i arg3 harg3 arg4 harg4 arg7 x0 x1 hx0 hx1 arg7.view.junk (diag7 i arg3 arg4 fromKey2 (harg3.unread x0) (harg4.unread x1)) hc
  have h8 := one8_state i arg3 harg3 arg4 harg4 arg5 harg5 arg8 x0 x1 x2 hx0 hx1 hx2 arg8.view.junk (diag8 i arg3 arg4 arg5 fromKey2 (harg3.unread x0) (harg4.unread x1) (harg5.unread x2)) hc
  exact sideOf_read arg8 _ _ _ (stored_state c i arg3 harg3 arg4 harg4 arg5 harg5 arg6 harg6 arg7 harg7 arg8 harg8 x0 x1 x2 _ _ _ _ _ _ _ hx0 hx1 hx2
    (by rw [e]; exact h7) (by rw [e]; exact h8)) h r d

end Cert.KernelIdeal.Head

end
-- ==== Proof.WindowLast.lean ====
/-
  A REVERSED RUNNING SUM ALONG THE LAST AXIS, as a host program prints it: a window of the whole axis, padded high by one
  less, over an array of four axes. At position `s` it is the sum of the entries from `s` on.
-/
module

public import Idealize.ShloMosaic.PureOps.Ideal
public import Idealize.ShloMosaic.Lib.Pointwise

@[expose] public section

noncomputable section

namespace Cert.Attn

open Idealize.ShloMosaic

/-- A left fold of sums is the first value plus the sum of the addends. -/
theorem foldl_add_finRange {n : ℕ} (g : Fin n → EReal) (v : EReal) :
    (List.finRange n).foldl (fun r k => r + g k) v = v + ∑ k : Fin n, g k := by
  rw [← List.sum_ofFn, List.ofFn_eq_map]
  generalize List.finRange n = l
  induction l generalizing v with
  | nil => simp
  | cons a l ih => rw [List.foldl_cons, ih, List.map_cons, List.sum_cons, add_assoc]

theorem windowLast {A B C N : ℕ} (M : ℕ) (x : (⟨4, ![A, B, C, N]⟩ : Shape).Idx → EReal)
    (h : (⟨4, ![A, B, C, N]⟩ : Shape).ReduceWindows ![1, 1, 1, N] ![1, 1, 1, 1] ![0, 0, 0, 0] ![0, 0, 0, M] ⟨4, ![A, B, C, N]⟩)
    (a : Fin A) (b : Fin B) (c : Fin C) (s : Fin N) :
    Ideal.hostReduceWindowAdd ![1, 1, 1, N] ![1, 1, 1, 1] ![0, 0, 0, 0] ![0, 0, 0, M] h x 0 (ix4 a b c s)
      = ∑ n : Fin N, (if hn : s.val + n.val < N then x (ix4 a b c ⟨s.val + n.val, hn⟩) else 0) := by
  unfold Ideal.hostReduceWindowAdd Host.reduceWindow
  dsimp only
  refine (foldl_add_finRange _ _).trans ?_
  rw [zero_add]
  have hterm : ∀ i : (⟨4, ![1, 1, 1, N]⟩ : Shape).Idx,
      (if hin : ∀ e : Fin 4, ![0, 0, 0, 0] e ≤ (ix4 a b c s (e.cast h.1.symm)).val * ![1, 1, 1, 1] e + (i e).val
          ∧ (ix4 a b c s (e.cast h.1.symm)).val * ![1, 1, 1, 1] e + (i e).val - ![0, 0, 0, 0] e < ![A, B, C, N] e then
        x (fun e => ⟨(ix4 a b c s (e.cast h.1.symm)).val * ![1, 1, 1, 1] e + (i e).val - ![0, 0, 0, 0] e, (hin e).2⟩)
      else 0) = (if hn : s.val + (i 3).val < N then x (ix4 a b c ⟨s.val + (i 3).val, hn⟩) else 0) := by
    intro i
    have h0 : (i 0).val = 0 := Nat.lt_one_iff.mp (i 0).isLt
    have h1 : (i 1).val = 0 := Nat.lt_one_iff.mp (i 1).isLt
    have h2 : (i 2).val = 0 := Nat.lt_one_iff.mp (i 2).isLt
    by_cases hn : s.val + (i 3).val < N
    · rw [dif_pos hn, dif_pos]
      · refine congrArg x (funext fun e => Fin.ext ?_)
        match e with
        | ⟨0, _⟩ => show a.val * 1 + (i 0).val - 0 = a.val; omega
        | ⟨1, _⟩ => show b.val * 1 + (i 1).val - 0 = b.val; omega
        | ⟨2, _⟩ => show c.val * 1 + (i 2).val - 0 = c.val; omega
        | ⟨3, _⟩ => show s.val * 1 + (i 3).val - 0 = s.val + (i 3).val; omega
      · intro e
        match e with
        | ⟨0, _⟩ => show 0 ≤ a.val * 1 + (i 0).val ∧ a.val * 1 + (i 0).val - 0 < A; have := a.isLt; omega
        | ⟨1, _⟩ => show 0 ≤ b.val * 1 + (i 1).val ∧ b.val * 1 + (i 1).val - 0 < B; have := b.isLt; omega
        | ⟨2, _⟩ => show 0 ≤ c.val * 1 + (i 2).val ∧ c.val * 1 + (i 2).val - 0 < C; have := c.isLt; omega
        | ⟨3, _⟩ => show 0 ≤ s.val * 1 + (i 3).val ∧ s.val * 1 + (i 3).val - 0 < N; omega
    · rw [dif_neg hn, dif_neg]
      intro hin
      have h3 : s.val * 1 + (i 3).val - 0 < N := (hin 3).2
      omega
  refine (Finset.sum_congr rfl fun k _ => (Eq.trans (by congr 1) (hterm ((Shape.rowMajor ⟨4, ![1, 1, 1, N]⟩).symm k)))).trans ?_
  refine (Equiv.sum_comp (Shape.rowMajor ⟨4, ![1, 1, 1, N]⟩).symm (fun i : (⟨4, ![1, 1, 1, N]⟩ : Shape).Idx =>
    (if hn : s.val + (i 3).val < N then x (ix4 a b c ⟨s.val + (i 3).val, hn⟩) else 0))).trans ?_
  rw [sum_idx4]
  simp only [Finset.univ_unique, Finset.sum_singleton]
  rfl

end Cert.Attn

end
-- ==== Proof.RefAttn.lean ====
/-
  THE REFERENCE at real numbers: where every entry of the projections is finite, its result at row `4096 b + t`,
  column `128 h + d` is `Cert.Attn.attn` of those entries.
-/
module

public import proofs.«01_k».proof.Proof.Entry
public import proofs.«01_k».proof.Proof.Gen.ReferenceIdeal.Run
public import proofs.«01_k».proof.Proof.WindowLast
public import Idealize.ShloMosaic.Lib.WordCmp
public import Idealize.ShloMosaic.Lib.Pointwise

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.ReferenceIdeal.Value Cert.Attn

abbrev Scores := FVec Ideal S4x32x4096x4096 .f32

/-- The queries (columns from `0`), the keys (from `4096`) or the values (from `8192`), head by head. -/
def headsQ (X : FVec Ideal S16384x12288 .f32) : FVec Ideal S4x32x4096x128 .f32 :=
  transpose S4x32x4096x128 [0, 2, 1, 3] (shapeCast _ (extractStridedSlice S4x4096x4096 ![0, 0, 0] (shapeCast _ X shapeCasts_S16384x12288_S4x4096x12288) slices_S4x4096x12288_S4x4096x4096_0_0_0) shapeCasts_S4x4096x4096_S4x4096x32x128) transposes_S4x4096x32x128_S4x32x4096x128_0_2_1_3
def headsK (X : FVec Ideal S16384x12288 .f32) : FVec Ideal S4x32x4096x128 .f32 :=
  transpose S4x32x4096x128 [0, 2, 1, 3] (shapeCast _ (extractStridedSlice S4x4096x4096 ![0, 0, 4096] (shapeCast _ X shapeCasts_S16384x12288_S4x4096x12288) slices_S4x4096x12288_S4x4096x4096_0_0_4096) shapeCasts_S4x4096x4096_S4x4096x32x128) transposes_S4x4096x32x128_S4x32x4096x128_0_2_1_3
def headsV (X : FVec Ideal S16384x12288 .f32) : FVec Ideal S4x32x4096x128 .f32 :=
  transpose S4x32x4096x128 [0, 2, 1, 3] (shapeCast _ (extractStridedSlice S4x4096x4096 ![0, 0, 8192] (shapeCast _ X shapeCasts_S16384x12288_S4x4096x12288) slices_S4x4096x12288_S4x4096x4096_0_0_8192) shapeCasts_S4x4096x4096_S4x4096x32x128) transposes_S4x4096x32x128_S4x32x4096x128_0_2_1_3

/-- The scores. -/
def scores (X : FVec Ideal S16384x12288 .f32) : Scores :=
  mulf (Host.dotGeneral dot_S4x32x4096x128_S4x32x4096x128_S4x32x4096x4096_3_3_2_2_01_01 none (headsQ X) (headsK X))
    (broadcastInDim S4x32x4096x4096 ![] bcast_S_S4x32x4096x4096 (Host.divf (constant S_ .f32 0x3F800000#32) (Host.sqrt (constant S_ .f32 0x43000000#32))))

/-- A zero at every position. -/
def zeros : Scores := broadcastInDim S4x32x4096x4096 ![] bcast_S_S4x32x4096x4096 (constant S_ .f32 0x00000000#32)

/-- The logarithm of the sigmoid, element by element. -/
def logSigmoid (z : Scores) : Scores :=
  Host.negf (select (cmpf .une (subf (Host.negf z) zeros) (subf (Host.negf z) zeros)) (addf (Host.negf z) zeros)
    (addf (maximumf (Host.negf z) zeros) (Host.log1p (Host.exp (Host.negf (Host.absf (subf (Host.negf z) zeros)))))))

/-- The keys before the query. -/
def before : IVec S4x32x4096x4096 1 :=
  broadcastInDim S4x32x4096x4096 ![2, 3] bcast_S4096x4096_S4x32x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- What each key before the query leaves of the stick, as a logarithm. -/
def left (z : Scores) : Scores := select before (logSigmoid (Host.negf z)) zeros

/-- What the keys between `s` and the query leave of the stick, key `s` included. -/
def leftFrom (z : Scores) : Scores :=
  Host.reduceWindowAdd ![1, 1, 1, 4096] ![1, 1, 1, 1] ![0, 0, 0, 0] ![0, 0, 0, 4095] (left z)
    (broadcastInDim S_ ![] bcast_S_S_ (constant S_ .f32 0x00000000#32)) reduceWindows_S4x32x4096x4096_S4x32x4096x4096_w1s1p0_0_w1s1p0_0_w1s1p0_0_w4096s1p0_4095 h_S_

/-- The weights. -/
def weights (z : Scores) : Scores :=
  select before (Host.exp (addf (logSigmoid z) (subf (leftFrom z) (left z)))) zeros

/-- The reference's result from the projections. -/
def result (X : FVec Ideal S16384x12288 .f32) : FVec Ideal S16384x4096 .bf16 :=
  truncf .bf16 (shapeCast _ (transpose S4x4096x32x128 [0, 2, 1, 3] (Host.dotGeneral dot_S4x32x4096x4096_S4x32x4096x128_S4x32x4096x128_3_2_2_3_01_01 none
    (weights (scores X)) (headsV X)) transposes_S4x32x4096x128_S4x4096x32x128_0_2_1_3) shapeCasts_S4x4096x32x128_S16384x4096) bitsLt_bf16_f32

theorem res_eq (m : (ℓ : Loc nD τ sig) → Buf (Elt Ideal) ℓ) (c : Dev nD) :
    res_main_v34 m c = result (m ((c.tc : Thread nD τ).loc main_arg0)) := rfl

theorem ofBits_one : Ideal.ofBits .f32 0x3F800000#32 = ((1 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num

theorem headsQ_apply (X : FVec Ideal S16384x12288 .f32) (b : Fin 4) (h : Fin 32) (t : Fin 4096) (d : Fin 128) :
    headsQ X (ix4 b h t d) = X (ix2 ⟨4096 * b.val + t.val, by omega⟩ ⟨128 * h.val + d.val, by omega⟩) := by
  unfold headsQ
  pointwise
  congr 2 <;> apply Fin.ext <;> simp <;> omega
theorem headsK_apply (X : FVec Ideal S16384x12288 .f32) (b : Fin 4) (h : Fin 32) (t : Fin 4096) (d : Fin 128) :
    headsK X (ix4 b h t d) = X (ix2 ⟨4096 * b.val + t.val, by omega⟩ ⟨4096 + 128 * h.val + d.val, by omega⟩) := by
  unfold headsK
  pointwise
  congr 2 <;> apply Fin.ext <;> simp <;> omega
theorem headsV_apply (X : FVec Ideal S16384x12288 .f32) (b : Fin 4) (h : Fin 32) (t : Fin 4096) (d : Fin 128) :
    headsV X (ix4 b h t d) = X (ix2 ⟨4096 * b.val + t.val, by omega⟩ ⟨8192 + 128 * h.val + d.val, by omega⟩) := by
  unfold headsV
  pointwise
  congr 2 <;> apply Fin.ext <;> simp <;> omega

theorem zeros_apply (i : S4x32x4096x4096.Idx) : zeros i = ((0 : ℝ) : EReal) := by
  show Ideal.ofBits .f32 0x00000000#32 = _
  rw [Ideal.ofBits_zero_f32]; rfl

theorem scores_apply (X : FVec Ideal S16384x12288 .f32) (hX : Finite X) (b : Fin 4) (h : Fin 32) (t s : Fin 4096) :
    scores X (ix4 b h t s) = ((score (entry X) b h t s : ℝ) : EReal) := by
  have hroot : Host.divf (constant (F := Ideal) S_ .f32 0x3F800000#32) (Host.sqrt (constant S_ .f32 0x43000000#32)) ix0
      = (((Real.sqrt 128)⁻¹ : ℝ) : EReal) := by
    simp only [Host.divf, Host.sqrt, constant, Ideal.hostDivf_def, Ideal.hostUnary_sqrt_def, Ideal.ofBits_def, ofBits_128, ofBits_one,
      Ideal.sqrt_coe, show ¬(128 : ℝ) < 0 from by norm_num, ↓reduceIte,
      Ideal.div_coe (show Real.sqrt 128 ≠ 0 from (Real.sqrt_pos.mpr (by norm_num)).ne'), one_div]
    rw [← EReal.coe_mul, one_mul]
  unfold scores
  pointwise [hroot]
  simp only [headsQ_apply, headsK_apply, entry_eq hX, ← EReal.coe_mul, coe_sum]
  rfl

/-- The logarithm of the sigmoid of a real. -/
theorem logSigmoid_apply (z : Scores) (i : S4x32x4096x4096.Idx) (x : ℝ) (hx : z i = (x : EReal)) :
    logSigmoid z i = ((-Stick.softplus (-x) : ℝ) : EReal) := by
  unfold logSigmoid
  pointwise [zeros_apply, hx]
  rw [if_neg (by simp), Ideal.absf_def]
  rw [EReal.coe_zero, sub_zero]
  unfold Ideal.log1p Stick.softplus
  have hm : ∀ a b : ℝ, max (a : EReal) (b : EReal) = ((max a b : ℝ) : EReal) := fun a b =>
    (EReal.coe_strictMono.monotone.map_max).symm
  have h1 : max (-(x : EReal)) (- -(x : EReal)) = ((|-x| : ℝ) : EReal) := by
    rw [← EReal.coe_neg, ← EReal.coe_neg, hm]; rfl
  have h2 : Ideal.log (1 + Ideal.exp (-((|-x| : ℝ) : EReal))) = ((Real.log (1 + Real.exp (-|-x|)) : ℝ) : EReal) := by
    rw [← EReal.coe_neg, Ideal.exp_coe, ← EReal.coe_one, ← EReal.coe_add, Ideal.log_coe,
      if_neg (not_le.mpr (by positivity))]
  rw [h1, h2, ← EReal.coe_neg, ← EReal.coe_zero, hm, ← EReal.coe_add, ← EReal.coe_neg]

theorem before_apply (b : Fin 4) (h : Fin 32) (t s : Fin 4096) :
    before (ix4 b h t s) = if s.val < t.val then 1#1 else 0#1 := by
  unfold before
  pointwise
  rw [WordCmp.cmpi_slt_ofNat (by omega) (by omega), WordCmp.ofBool_decide_eq_ite]

/-- A key's part of the stick's logarithm. -/
def leftR (x : ℕ → ℝ) (t s : ℕ) : ℝ := if s < t then -Stick.softplus (x s) else 0

theorem left_apply (z : Scores) (b : Fin 4) (h : Fin 32) (t : Fin 4096) (x : ℕ → ℝ)
    (hx : ∀ s : Fin 4096, z (ix4 b h t s) = ((x s.val : ℝ) : EReal)) (s : Fin 4096) :
    left z (ix4 b h t s) = ((leftR x t.val s.val : ℝ) : EReal) := by
  unfold left leftR
  pointwise [before_apply]
  rw [zeros_apply, logSigmoid_apply (Host.negf z) _ (-x s.val) (by pointwise [hx]; rw [EReal.coe_neg]), neg_neg]
  split
  · exact rfl
  · exact rfl

theorem leftFrom_apply (z : Scores) (b : Fin 4) (h : Fin 32) (t : Fin 4096) (x : ℕ → ℝ)
    (hx : ∀ s : Fin 4096, z (ix4 b h t s) = ((x s.val : ℝ) : EReal)) (s : Fin 4096) :
    leftFrom z (ix4 b h t s) = ((-∑ j ∈ Finset.Ico s.val t.val, Stick.softplus (x j) : ℝ) : EReal) := by
  have hs := s.isLt
  have ht := t.isLt
  have hw : leftFrom z (ix4 b h t s) = ∑ n : Fin 4096, (if hn : s.val + n.val < 4096 then left z (ix4 b h t ⟨s.val + n.val, hn⟩) else 0) := by
    refine Eq.trans ?_ (windowLast 4095 (left z) reduceWindows_S4x32x4096x4096_S4x32x4096x4096_w1s1p0_0_w1s1p0_0_w1s1p0_0_w4096s1p0_4095 b h t s)
    unfold leftFrom Host.reduceWindowAdd
    rw [Ideal.hostReduceWindowAdd_def]
    congr 1
    exact Ideal.ofBits_zero_f32
  rw [hw]
  simp only [left_apply z b h t x hx]
  have : ∀ n : Fin 4096, (if hn : s.val + n.val < 4096 then ((leftR x t.val (s.val + n.val) : ℝ) : EReal) else 0)
      = ((if s.val + n.val < t.val then -Stick.softplus (x (s.val + n.val)) else 0 : ℝ) : EReal) := by
    intro n
    unfold leftR
    split
    · rfl
    · rw [if_neg (by omega)]; rfl
  simp only [this, coe_sum]
  refine congrArg (fun r : ℝ => (r : EReal)) ?_
  rw [Finset.sum_Ico_eq_sum_range, ← Finset.sum_neg_distrib,
    ← Finset.sum_range (fun n => if s.val + n < t.val then -Stick.softplus (x (s.val + n)) else 0), ← Finset.sum_filter]
  refine Finset.sum_congr ?_ fun _ _ => rfl
  ext k
  simp only [Finset.mem_filter, Finset.mem_range]
  omega

theorem weights_apply (z : Scores) (b : Fin 4) (h : Fin 32) (t : Fin 4096) (x : ℕ → ℝ)
    (hx : ∀ s : Fin 4096, z (ix4 b h t s) = ((x s.val : ℝ) : EReal)) (s : Fin 4096) :
    weights z (ix4 b h t s) = ((if s.val < t.val then Stick.weight x t.val s.val else 0 : ℝ) : EReal) := by
  unfold weights
  pointwise [before_apply]
  rw [zeros_apply, logSigmoid_apply z _ _ (hx s), left_apply z b h t x hx, leftFrom_apply z b h t x hx]
  by_cases hst : s.val < t.val
  · rw [if_pos hst, if_pos hst, ← EReal.coe_sub, ← EReal.coe_add, Ideal.exp_coe]
    unfold Stick.weight leftR
    rw [if_pos hst, Stick.neg_softplus_neg]
    refine Eq.trans (if_pos rfl) ?_
    congr 2
    ring
  · rw [if_neg hst, if_neg hst]
    exact if_neg (by decide)

/-- THE REFERENCE at real numbers. -/
theorem result_apply (X : FVec Ideal S16384x12288 .f32) (hX : Finite X) (b : Fin 4) (h : Fin 32) (t : Fin 4096) (d : Fin 128) :
    result X (ix2 ⟨4096 * b.val + t.val, by omega⟩ ⟨128 * h.val + d.val, by omega⟩)
      = ((attn (entry X) b h t d : ℝ) : EReal) := by
  have hb := b.isLt
  have hh := h.isLt
  have ht := t.isLt
  have hd := d.isLt
  unfold result
  pointwise
  simp only [weights_apply (scores X) b h t _ (scores_apply X hX b h t), headsV_apply, entry_eq hX, ← EReal.coe_mul, coe_sum]
  unfold attn Stick.out value
  congr 1
  rw [Nat.Ico_zero_eq_range, ← Finset.sum_range (fun s => (if s < t.val then Stick.weight (score (entry X) b.val h.val t.val) t.val s else 0)
    * entry X (4096 * b.val + s) (8192 + 128 * h.val + d.val)), ← Finset.sum_range_add_sum_Ico _ ht.le]
  rw [Finset.sum_eq_zero (s := Finset.Ico t.val 4096) (fun k hk => by
    rw [if_neg (by have := Finset.mem_Ico.1 hk; omega), zero_mul]), add_zero]
  exact Finset.sum_congr rfl fun k hk => by rw [if_pos (Finset.mem_range.1 hk)]

end Cert.ReferenceIdeal.Attn

end
-- ==== Proof.AttnRun.lean ====
/-
  THE KERNEL'S RUN: the scaled projections that the windows read, block by block, and the result array, which is the
  reference's function of the projections.
-/
module

public import proofs.«01_k».proof.Proof.BodyRun
public import proofs.«01_k».proof.Proof.RefAttn
public import proofs.«01_k».proof.Proof.Gen.KernelIdeal.Value
public import Idealize.ShloMosaic.Lib.Claim

@[expose] public section

set_option maxRecDepth 16384

noncomputable section

namespace Cert.KernelIdeal.Run

open Idealize.ShloMosaic Idealize.ShloMosaic.TcCoe Idealize.SL.Sem
open Cert.KernelIdeal Cert.KernelIdeal.Gen Cert.KernelIdeal.Value Cert.KernelIdeal.Head Cert.Attn

/-- The scale of the queries. -/
def root : FVec Ideal S_ .f32 :=
  Host.divf (constant S_ .f32 0x3F800000#32) (mulf (Host.log (constant S_ .f32 0x40000000#32)) (Host.sqrt (constant S_ .f32 0x43000000#32)))

/-- The projections with the queries scaled. -/
def scaled (X : FVec Ideal S16384x12288 .f32) : FVec Ideal S16384x12288 .bf16 :=
  truncf .bf16 (mulf X (broadcastInDim S16384x12288 ![0, 1] bcast_S1x12288_S16384x12288_0_1 (broadcastInDim S1x12288 ![1] bcast_S12288_S1x12288_1
    (concatenate S12288 0 [⟨S4096, broadcastInDim S4096 ![] bcast_S_S4096 root⟩, ⟨S8192, broadcastInDim S8192 ![] bcast_S_S8192 (constant S_ .f32 0x3F800000#32)⟩] concatenates_S4096_S8192_S12288_d0)))) bitsLt_bf16_f32

variable (m : (ℓ : Loc nD τ sig) → Buf (Elt Ideal) ℓ) (ρ : Dev nD → PrngReg)

theorem V_v10 (c : Dev nD) : V m c main_v10 = scaled (m ((c : Thread nD τ).loc main_arg0)) := by
  unfold_abbrev_sides
  after_results
  rfl

theorem ofBits_two : Ideal.ofBits .f32 0x40000000#32 = ((2 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num

theorem root_apply : root ix0 = (((Real.log 2 * Real.sqrt 128)⁻¹ : ℝ) : EReal) := by
  have h2 : Real.log 2 * Real.sqrt 128 ≠ 0 := (mul_pos Stick.log_two_pos (Real.sqrt_pos.mpr (by norm_num))).ne'
  unfold root
  simp only [Host.divf, Host.sqrt, Host.log, mulf, constant, Ideal.hostDivf_def, Ideal.hostUnary_sqrt_def, Ideal.hostUnary_log_def, Ideal.ofBits_def, Ideal.mulf_def, ofBits_128, ofBits_one, ofBits_two,
    Ideal.sqrt_coe, Ideal.log_coe, show ¬(128 : ℝ) < 0 from by norm_num, show ¬(2 : ℝ) ≤ 0 from by norm_num, ↓reduceIte, ← EReal.coe_mul,
    Ideal.div_coe h2, one_div]
  rw [one_mul]

/-- The scale of a column. -/
def scale (c : ℕ) : ℝ := if c < 4096 then (Real.log 2 * Real.sqrt 128)⁻¹ else 1

theorem scaled_apply (X : FVec Ideal S16384x12288 .f32) (hX : Finite X) (r : Fin 16384) (c : Fin 12288) :
    scaled X (ix2 r c) = ((entry X r.val c.val * scale c.val : ℝ) : EReal) := by
  unfold scaled scale
  pointwise [root_apply]
  rw [entry_eq hX]
  split
  · rw [← EReal.coe_mul]
  · rw [mul_one, mul_one]

/-- A rank-2 index is the pair of its coordinates. -/
theorem pair {a b : ℕ} (i : (Shape.mk 2 ![a, b]).Idx) : ∃ (r : Fin a) (c : Fin b), i = ix2 r c := ⟨i 0, i 1, (ix2_eta i).symm⟩

theorem scaled_finite {X : FVec Ideal S16384x12288 .f32} (hX : Finite X) : Finite (scaled X) := by
  intro i
  obtain ⟨r, k, rfl⟩ := pair i
  rw [scaled_apply X hX]
  exact ⟨EReal.coe_ne_top _, EReal.coe_ne_bot _⟩

theorem entry_scaled {X : FVec Ideal S16384x12288 .f32} (hX : Finite X) (r c : ℕ) (hr : r < 16384) (hc : c < 12288) :
    entry (scaled X) r c = entry X r c * scale c := by
  have h := (entry_eq (scaled_finite hX) ⟨r, hr⟩ ⟨c, hc⟩).symm.trans (scaled_apply X hX ⟨r, hr⟩ ⟨c, hc⟩)
  exact EReal.coe_injective h

/-! ## The windows -/

theorem index0 : ∀ t : Fin cfg0.N, win0_0.index t (0 : Fin 2) = t.val / 64 * 16 + t.val % 16 ∧ win0_0.index t (1 : Fin 2) = t.val / 16 % 4 :=
  (by decide +kernel : ∀ t : Fin grid0.N, _)
theorem index1 : ∀ t : Fin cfg0.N, win0_1.index t (0 : Fin 2) = t.val / 64 ∧ win0_1.index t (1 : Fin 2) = 4 + t.val / 16 % 4 :=
  (by decide +kernel : ∀ t : Fin grid0.N, _)
theorem index2 : ∀ t : Fin cfg0.N, win0_2.index t (0 : Fin 2) = t.val / 64 ∧ win0_2.index t (1 : Fin 2) = 8 + t.val / 16 % 4 :=
  (by decide +kernel : ∀ t : Fin grid0.N, _)
theorem index3 : ∀ t : Fin cfg0.N, win0_3.index t (0 : Fin 2) = t.val / 64 * 16 + t.val % 16 ∧ win0_3.index t (1 : Fin 2) = t.val / 16 % 4 :=
  (by decide +kernel : ∀ t : Fin grid0.N, _)
theorem query : ∀ t : Fin cfg0.N, (grid0.coords t 2).val = t.val % 16 := (by decide +kernel : ∀ t : Fin grid0.N, _)
theorem points (t : Fin cfg0.N) : t.val < 256 := t.isLt.trans_eq N_0

variable (c : Dev nD) (t : Fin cfg0.N)

theorem block0 (r : Fin 256) (d : Fin 1024) : iblk m c 0 t (ix2 r d)
    = V m c main_v10 (ix2 ⟨4096 * (t.val / 64) + (256 * (t.val % 16) + r.val), by have := points t; omega⟩ ⟨1024 * (t.val / 16 % 4) + d.val, by omega⟩) := by
  obtain ⟨e0, e1⟩ := index0 t
  show V m c main_v10 (((cfg0.win 0).blk t).view.emb (ix2 r d)) = _
  congr 1
  funext a; apply Fin.ext
  match a with
  | ⟨0, _⟩ => show win0_0.index t (0 : Fin 2) * 256 + 1 * r.val = 4096 * (t.val / 64) + (256 * (t.val % 16) + r.val); omega
  | ⟨1, _⟩ => show win0_0.index t (1 : Fin 2) * 1024 + 1 * d.val = 1024 * (t.val / 16 % 4) + d.val; omega
theorem block1 (r : Fin 4096) (d : Fin 1024) : iblk m c 1 t (ix2 r d)
    = V m c main_v10 (ix2 ⟨4096 * (t.val / 64) + r.val, by have := points t; omega⟩ ⟨4096 + 1024 * (t.val / 16 % 4) + d.val, by omega⟩) := by
  obtain ⟨e0, e1⟩ := index1 t
  show V m c main_v10 (((cfg0.win 1).blk t).view.emb (ix2 r d)) = _
  congr 1
  funext a; apply Fin.ext
  match a with
  | ⟨0, _⟩ => show win0_1.index t (0 : Fin 2) * 4096 + 1 * r.val = 4096 * (t.val / 64) + r.val; omega
  | ⟨1, _⟩ => show win0_1.index t (1 : Fin 2) * 1024 + 1 * d.val = 4096 + 1024 * (t.val / 16 % 4) + d.val; omega
theorem block2 (r : Fin 4096) (d : Fin 1024) : iblk m c 2 t (ix2 r d)
    = V m c main_v10 (ix2 ⟨4096 * (t.val / 64) + r.val, by have := points t; omega⟩ ⟨8192 + 1024 * (t.val / 16 % 4) + d.val, by omega⟩) := by
  obtain ⟨e0, e1⟩ := index2 t
  show V m c main_v10 (((cfg0.win 2).blk t).view.emb (ix2 r d)) = _
  congr 1
  funext a; apply Fin.ext
  match a with
  | ⟨0, _⟩ => show win0_2.index t (0 : Fin 2) * 4096 + 1 * r.val = 4096 * (t.val / 64) + r.val; omega
  | ⟨1, _⟩ => show win0_2.index t (1 : Fin 2) * 1024 + 1 * d.val = 8192 + 1024 * (t.val / 16 % 4) + d.val; omega
theorem emb3 (r : Fin 256) (d : Fin 1024) : ((cfg0.win 3).blk t).view.emb (ix2 r d)
    = ix2 ⟨4096 * (t.val / 64) + (256 * (t.val % 16) + r.val), by have := points t; omega⟩ ⟨1024 * (t.val / 16 % 4) + d.val, by omega⟩ := by
  obtain ⟨e0, e1⟩ := index3 t
  funext a; apply Fin.ext
  match a with
  | ⟨0, _⟩ => show win0_3.index t (0 : Fin 2) * 256 + 1 * r.val = 4096 * (t.val / 64) + (256 * (t.val % 16) + r.val); omega
  | ⟨1, _⟩ => show win0_3.index t (1 : Fin 2) * 1024 + 1 * d.val = 1024 * (t.val / 16 % 4) + d.val; omega

section
variable (X : FVec Ideal S16384x12288 .f32) (hX : Finite X) (hV : V m c main_v10 = scaled X)
include hX hV

theorem finite_block0 : Finite (iblk m c 0 t) := fun i => by
  obtain ⟨r, k, rfl⟩ := pair i
  rw [block0, hV]; exact scaled_finite hX _
theorem finite_block1 : Finite (iblk m c 1 t) := fun i => by
  obtain ⟨r, k, rfl⟩ := pair i
  rw [block1, hV]; exact scaled_finite hX _
theorem finite_block2 : Finite (iblk m c 2 t) := fun i => by
  obtain ⟨r, k, rfl⟩ := pair i
  rw [block2, hV]; exact scaled_finite hX _

theorem heads0 (h : Fin 8) (r : Fin 256) (d : Fin 128) : heads (iblk m c 0 t) h r.val d
    = entry X (4096 * (t.val / 64) + (256 * (t.val % 16) + r.val)) (128 * (8 * (t.val / 16 % 4) + h.val) + d.val) * (Real.log 2 * Real.sqrt 128)⁻¹ := by
  have ht := points t
  have e := (entry_eq (finite_block0 m c t X hX hV) r ⟨128 * h.val + d.val, by omega⟩).symm.trans (block0 m c t r ⟨128 * h.val + d.val, by omega⟩)
  rw [hV, entry_eq (scaled_finite hX), entry_scaled hX _ _ (by dsimp only; omega) (by dsimp only; omega)] at e
  refine (EReal.coe_injective e).trans ?_
  dsimp only
  rw [show 1024 * (t.val / 16 % 4) + (128 * h.val + d.val) = 128 * (8 * (t.val / 16 % 4) + h.val) + d.val by ring]
  unfold scale
  rw [if_pos (by omega)]

theorem heads1 (h : Fin 8) (r : Fin 4096) (d : Fin 128) : heads (iblk m c 1 t) h r.val d
    = entry X (4096 * (t.val / 64) + r.val) (4096 + 128 * (8 * (t.val / 16 % 4) + h.val) + d.val) := by
  have ht := points t
  have e := (entry_eq (finite_block1 m c t X hX hV) r ⟨128 * h.val + d.val, by omega⟩).symm.trans (block1 m c t r ⟨128 * h.val + d.val, by omega⟩)
  rw [hV, entry_eq (scaled_finite hX), entry_scaled hX _ _ (by dsimp only; omega) (by dsimp only; omega)] at e
  refine (EReal.coe_injective e).trans ?_
  dsimp only
  rw [show 4096 + 1024 * (t.val / 16 % 4) + (128 * h.val + d.val) = 4096 + 128 * (8 * (t.val / 16 % 4) + h.val) + d.val by ring]
  unfold scale
  rw [if_neg (by omega), mul_one]

theorem heads2 (h : Fin 8) (r : Fin 4096) (d : Fin 128) : heads (iblk m c 2 t) h r.val d
    = entry X (4096 * (t.val / 64) + r.val) (8192 + 128 * (8 * (t.val / 16 % 4) + h.val) + d.val) := by
  have ht := points t
  have e := (entry_eq (finite_block2 m c t X hX hV) r ⟨128 * h.val + d.val, by omega⟩).symm.trans (block2 m c t r ⟨128 * h.val + d.val, by omega⟩)
  rw [hV, entry_eq (scaled_finite hX), entry_scaled hX _ _ (by dsimp only; omega) (by dsimp only; omega)] at e
  refine (EReal.coe_injective e).trans ?_
  dsimp only
  rw [show 8192 + 1024 * (t.val / 16 % 4) + (128 * h.val + d.val) = 8192 + 128 * (8 * (t.val / 16 % 4) + h.val) + d.val by ring]
  unfold scale
  rw [if_neg (by omega), mul_one]
end

/-- The weighted sum reads the logits and values of the keys before the query alone. -/
theorem outFrom_congr {z z' v v' : ℕ → ℝ} {T : ℕ} (hz : ∀ j < T, z j = z' j) (hv : ∀ j < T, v j = v' j) :
    Stick.outFrom z v T 0 = Stick.outFrom z' v' T 0 := by
  unfold Stick.outFrom Stick.weight2
  refine Finset.sum_congr rfl fun s hs => ?_
  have hs := (Finset.mem_Ico.1 hs).2
  rw [hz s hs, hv s hs, Finset.sum_congr rfl fun j hj => by rw [hz j (Finset.mem_Ico.1 hj).2]]

theorem sum_eq (X : FVec Ideal S16384x12288 .f32) (hX : Finite X) (hV : V m c main_v10 = scaled X) (h : Fin 8) (r : Fin 256) (d : Fin 128) :
    sumAt (iblk m c 0 t) (iblk m c 1 t) (iblk m c 2 t) (256 * (grid0.coords t 2).val) 0 h r d
      = attn (entry X) (t.val / 64) (8 * (t.val / 16 % 4) + h.val) (256 * (t.val % 16) + r.val) d.val := by
  have ht := points t
  unfold sumAt attn
  rw [query t, ← Stick.outFrom_zero]
  refine outFrom_congr (fun j hj => ?_) (fun j hj => ?_)
  · have hj : j < 4096 := by omega
    unfold rowZ score
    rw [Finset.sum_mul, Finset.sum_mul]
    refine Finset.sum_congr rfl fun k _ => ?_
    dsimp only
    rw [Nat.zero_add, heads0 m c t X hX hV h r k, heads1 m c t X hX hV h ⟨j, hj⟩ k, mul_inv]
    ring
  · exact heads2 m c t X hX hV h ⟨j, by omega⟩ d

/-- What a point writes back is its block of the reference's function of the projections. -/
theorem flushed_eq (X : FVec Ideal S16384x12288 .f32) (hX : Finite X) (hV : V m c main_v10 = scaled X) :
    (dats m 0 c).flushed 3 t = ((cfg0.win 3).blk t).view.read (Elt Ideal) (Cert.ReferenceIdeal.Attn.result X) := by
  have ht := points t
  have f0 := finite_block0 m c t X hX hV
  have f1 := finite_block1 m c t X hX hV
  have f2 := finite_block2 m c t X hX hV
  have key : ∀ (h : Fin 8) (r : Fin 256) (d : Fin 128),
      (dats m 0 c).flushed 3 t (ix2 r (⟨128 * h.val + d.val, by omega⟩ : Fin 1024))
        = ((attn (entry X) (t.val / 64) (8 * (t.val / 16 % 4) + h.val) (256 * (t.val % 16) + r.val) d.val : ℝ) : EReal) := by
    intro h r d
    rw [← sum_eq m c t X hX hV]
    by_cases h0 : t.val % 2 = 1
    · rw [flushed3_B m c t h0]
      exact outB c (grid0.coords t) _ _ _ _ _ _ _ _ _ _ _ _ _ _ _ f0 f1 f2 h r d _
    · rw [flushed3_A m c t h0]
      exact outA c (grid0.coords t) _ _ _ _ _ _ _ _ _ _ _ _ _ _ _ f0 f1 f2 h r d _
  funext j
  obtain ⟨r, e, rfl⟩ : ∃ (r : Fin 256) (e : Fin 1024), j = ix2 r e := ⟨j 0, j 1, (ix2_eta j).symm⟩
  obtain ⟨h, d, rfl⟩ : ∃ (h : Fin 8) (d : Fin 128), e = ⟨128 * h.val + d.val, by omega⟩ :=
    ⟨⟨e.val / 128, by omega⟩, ⟨e.val % 128, by omega⟩, Fin.ext (Nat.div_add_mod e.val 128).symm⟩
  rw [key h r d]
  show _ = Cert.ReferenceIdeal.Attn.result X (((cfg0.win 3).blk t).view.emb (ix2 r ⟨128 * h.val + d.val, by omega⟩))
  rw [emb3]
  refine Eq.trans ?_ ((Cert.ReferenceIdeal.Attn.result_apply X hX ⟨t.val / 64, by omega⟩ ⟨8 * (t.val / 16 % 4) + h.val, by omega⟩
    ⟨256 * (t.val % 16) + r.val, by omega⟩ d).symm.trans ?_)
  · rfl
  · congr 2
    apply Fin.ext
    show 128 * (8 * (t.val / 16 % 4) + h.val) + d.val = 1024 * (t.val / 16 % 4) + (128 * h.val + d.val)
    ring

/-- Every place of the result array is in the block of some point. -/
theorem covered (j : S16384x4096.Idx) : ∃ t : Fin cfg0.N, (cfg0.win 3).flush t = true ∧ j ∈ ((cfg0.win 3).blk t).view.set := by
  obtain ⟨r, e, rfl⟩ : ∃ (r : Fin 16384) (e : Fin 4096), j = ix2 r e := ⟨j 0, j 1, (ix2_eta j).symm⟩
  have hr := r.isLt
  have he := e.isLt
  have hN : r.val / 4096 * 64 + e.val / 1024 * 16 + r.val % 4096 / 256 < cfg0.N := by rw [show cfg0.N = 256 from N_0]; omega
  have hm := ((cfg0.win 3).blk ⟨_, hN⟩).view.emb_mem_set (ix2 (⟨r.val % 256, by omega⟩ : Fin 256) (⟨e.val % 1024, by omega⟩ : Fin 1024))
  rw [emb3] at hm
  have e0 : (⟨4096 * ((r.val / 4096 * 64 + e.val / 1024 * 16 + r.val % 4096 / 256) / 64)
      + (256 * ((r.val / 4096 * 64 + e.val / 1024 * 16 + r.val % 4096 / 256) % 16) + r.val % 256), by omega⟩ : Fin 16384) = r := Fin.ext (by dsimp only; omega)
  have e1 : (⟨1024 * ((r.val / 4096 * 64 + e.val / 1024 * 16 + r.val % 4096 / 256) / 16 % 4) + e.val % 1024, by omega⟩ : Fin 4096) = e :=
    Fin.ext (by dsimp only; omega)
  have hi := congrArg₂ (fun a b => (ix2 a b : S16384x4096.Idx)) e0 e1
  exact ⟨⟨_, hN⟩, flush0_3 _, Eq.mp (congrArg (fun i => i ∈ ((cfg0.win 3).blk ⟨_, hN⟩).view.set) hi) hm⟩

/-- The result array after the run. -/
theorem final (X : FVec Ideal S16384x12288 .f32) (hX : Finite X) (e : m ((c : Thread nD τ).loc main_arg0) = X) :
    (dats m 0 c).arrAt 3 cfg0.N = Cert.ReferenceIdeal.Attn.result X :=
  (dats m 0 c).arrAt_eq_of_cover 3 _ (fun t _ => flushed_eq m c t X hX ((V_v10 m c).trans (congrArg scaled e))) covered

end Cert.KernelIdeal.Run

end
-- ==== Proof.AttnClaims.lean ====
/- The claims about the attention: the frames, the named constant, and that the kernel and the reference end with the same
   result whenever the projections are finite. -/
module

public import proofs.«01_k».proof.Defs
public import proofs.«01_k».proof.Proof.AttnRun
public import proofs.«01_k».proof.Proof.Gen.Kernel.Frame
public import Idealize.ShloMosaic.Lib.Quiescent

@[expose] public section

noncomputable section

namespace Cert.Attn.Claims

open Idealize.ShloMosaic Idealize.ShloMosaic.TcCoe Idealize.SL.Sem Cert.Attn

theorem ofBits_inf : Ideal.ofBits .f32 0x7F800000#32 = (⊤ : EReal) := by
  simp [Ideal.ofBits, Ideal.ieee]

/-- A value whose absolute value is below infinity is a real number. -/
theorem finite_of_lt {x : EReal} (h : Ideal.cmp .olt (max x (-x)) (Ideal.ofBits .f32 0x7F800000#32) = 1#1) : x ≠ ⊤ ∧ x ≠ ⊥ := by
  rw [ofBits_inf] at h
  constructor <;> rintro rfl <;> simp [Ideal.cmp] at h

/-- Where the precondition holds, every entry of the projections is a real number. -/
theorem finite_of_pre [Cert.Pre_finite.Facts] {X : FVec Ideal Cert.KernelIdeal.S16384x12288 .f32}
    (h : Cert.Pre_finite.fn (F := Ideal) X = fun _ => 1#1) : Finite X := fun i => finite_of_lt (congrFun h i)

theorem facts : Cert.Pre_finite.Facts := ⟨by decide⟩

theorem frame_kernel : Cert.quiescent_Kernel := fun m ρ _ => Cert.Kernel.Gen.frame m ρ
theorem frame_ideal : Cert.quiescent_KernelIdeal := fun m ρ _ => Cert.KernelIdeal.Gen.frame m ρ
theorem frame_ideal_finite [Cert.Pre_finite.Facts] : Cert.quiescent_KernelIdeal_pre_finite := fun m ρ _ => Cert.KernelIdeal.Gen.frame m ρ
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
theorem frame_reference_finite [Cert.Pre_finite.Facts] : Cert.quiescent_ReferenceIdeal_pre_finite := fun m ρ _ => frame_reference m ρ trivial

/-- The constant the kernel multiplies its logits by is named `1 / log 2`. -/
theorem preserves : Cert.preserves_Kernel_KernelIdeal :=
  IdealRules.named_const.statement Cert.KernelIdeal.κ "log2_e" .f32 0x3FB8AA3B#32 (((Real.log 2)⁻¹ : ℝ) : EReal) rfl

/-- The kernel and the reference end with the same result. -/
theorem algebraic [Cert.Pre_finite.Facts] : Cert.algebraic_KernelIdeal_ReferenceIdeal_pre_finite := by
  intro m ρ m' ρ' hpre hagree
  refine ⟨fun c => Cert.ReferenceIdeal.Attn.result (m ((c.tc : Thread Cert.KernelIdeal.nD Cert.KernelIdeal.τ).loc Cert.KernelIdeal.main_arg0)),
    (θ_run Cert.KernelIdeal.defs _ _).mono (fun _ h c => ⟨(h c).1.trans (Cert.KernelIdeal.Run.final m c _ (finite_of_pre (hpre c)) rfl), (h c).2⟩)
      (Cert.KernelIdeal.Value.run_blocks (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Attn.res_eq, hagree c]

end Cert.Attn.Claims

end
-- ==== Proof.Rows.lean ====
/-
  THE NORM OF A ROW over the extended reals: the factor `rms s` that a row with sum of squares `s` is multiplied by is a
  real number that is not negative, so it may be taken out of a sum over the row, whatever the row holds.
-/
module

public import Idealize.ShloMosaic.PureOps.Ideal

@[expose] public section

noncomputable section

namespace Cert.Rows

open Idealize.ShloMosaic

theorem ofBits_zero : Ideal.ofBits .f32 0x00000000#32 = (0 : EReal) := by simp [Ideal.ofBits, Ideal.ieee]
theorem ofBits_one : Ideal.ofBits .f32 0x3F800000#32 = (1 : EReal) := by
  simp [Ideal.ofBits, Ideal.ieee, -EReal.coe_mul]; norm_num
theorem ofBits_width : Ideal.ofBits .f32 0x45800000#32 = ((4096 : ℝ) : EReal) := by
  simp [Ideal.ofBits, Ideal.ieee, -EReal.coe_mul]; norm_num
theorem ofBits_inv_width : Ideal.ofBits .f32 0x39800000#32 = ((1 / 4096 : ℝ) : EReal) := by
  simp [Ideal.ofBits, Ideal.ieee, -EReal.coe_mul]; norm_num

/-- The small number added to a mean of squares. -/
def small : EReal := Ideal.ofBits .f32 0x358637BD#32

theorem small_eq : small = ((8796093 / 8796093022208 : ℝ) : EReal) := by
  unfold small
  simp [Ideal.ofBits, Ideal.ieee, -EReal.coe_mul]; norm_num

theorem small_pos : ∃ e : ℝ, 0 < e ∧ small = (e : EReal) := ⟨_, by norm_num, small_eq⟩

/-- The factor of a row of 4096 numbers whose squares sum to `s`. -/
def rms (s : EReal) : EReal := Ideal.rsqrt (s * ((1 / 4096 : ℝ) : EReal) + small)

theorem rms_real {s : EReal} (hs : 0 ≤ s) : ∃ r : ℝ, 0 ≤ r ∧ rms s = (r : EReal) := by
  obtain ⟨e, he, hsmall⟩ := small_pos
  unfold rms
  rw [hsmall]
  induction s with
  | bot => simp at hs
  | top =>
    refine ⟨0, le_rfl, ?_⟩
    rw [EReal.top_mul_coe_of_pos (by norm_num), EReal.top_add_coe, Ideal.rsqrt_top, EReal.coe_zero]
  | coe s =>
    have hs : 0 ≤ s := by exact_mod_cast hs
    have hp : 0 < s * (1 / 4096) + e := by positivity
    rw [← EReal.coe_mul, ← EReal.coe_add, Ideal.rsqrt_coe, if_neg hp.not_gt, if_neg hp.ne']
    exact ⟨_, inv_nonneg.mpr (Real.sqrt_nonneg _), rfl⟩

theorem square_nonneg (x : EReal) : 0 ≤ x * x := by
  induction x with
  | bot => simp
  | top => simp
  | coe x => exact_mod_cast mul_self_nonneg x

/-- A sum of squares is not negative. -/
theorem squares_nonneg {n : ℕ} (f : Fin n → EReal) : 0 ≤ ∑ k, f k * f k := Finset.sum_nonneg fun _ _ => square_nonneg _

/-- A real factor that is not negative goes into a sum. -/
theorem sum_mul_real {n : ℕ} (f : Fin n → EReal) {r : ℝ} (hr : 0 ≤ r) : (∑ k, f k) * (r : EReal) = ∑ k, f k * (r : EReal) := by
  classical
  induction (Finset.univ : Finset (Fin n)) using Finset.induction_on with
  | empty => simp
  | insert a s ha ih =>
    rw [Finset.sum_insert ha, Finset.sum_insert ha, EReal.right_distrib_of_nonneg_of_ne_top (by exact_mod_cast hr) (EReal.coe_ne_top r), ih]

/-- The product of a normed row with a column: the row's factor may be left to the end. -/
theorem normed_product {n : ℕ} (h g w : Fin n → EReal) {s : EReal} (hs : 0 ≤ s) :
    (∑ k, h k * g k * w k) * rms s = ∑ k, h k * rms s * g k * w k := by
  obtain ⟨r, hr, e⟩ := rms_real hs
  rw [e, sum_mul_real _ hr]
  exact Finset.sum_congr rfl fun k _ => by ac_rfl

/-- A sum taken block by block. -/
theorem sum_blocks (n b N : ℕ) (h : n * b = N) (f : Fin N → EReal) :
    ∑ k, f k = ∑ g : Fin n, ∑ x : Fin b, f ⟨b * g.val + x.val, by
      have hg := g.isLt; have hx := x.isLt
      calc b * g.val + x.val < b * g.val + b := by omega
        _ = b * (g.val + 1) := by ring
        _ ≤ b * n := Nat.mul_le_mul_left _ hg
        _ = N := by rw [mul_comm, h]⟩ := by
  subst h
  rw [← Fintype.sum_prod_type', ← finProdFinEquiv.sum_comp]
  refine Finset.sum_congr rfl fun p _ => congrArg f (Fin.ext ?_)
  simp [finProdFinEquiv, add_comm]

/-- Eight groups of 128 lanes added lane by lane, then along the lanes. -/
theorem lanes8 (f : Fin 1024 → EReal) :
    ∑ x : Fin 128, (f ⟨x.val, by omega⟩ + f ⟨128 + x.val, by omega⟩ + f ⟨256 + x.val, by omega⟩ + f ⟨384 + x.val, by omega⟩
      + f ⟨512 + x.val, by omega⟩ + f ⟨640 + x.val, by omega⟩ + f ⟨768 + x.val, by omega⟩ + f ⟨896 + x.val, by omega⟩) = ∑ k, f k := by
  rw [sum_blocks 8 128 1024 rfl f]
  simp [Fin.sum_univ_eight, Finset.sum_add_distrib]

/-- Four groups of 128 lanes added lane by lane, then along the lanes. -/
theorem lanes4 (f : Fin 512 → EReal) :
    ∑ x : Fin 128, (f ⟨x.val, by omega⟩ + f ⟨128 + x.val, by omega⟩ + f ⟨256 + x.val, by omega⟩ + f ⟨384 + x.val, by omega⟩) = ∑ k, f k := by
  rw [sum_blocks 4 128 512 rfl f]
  simp [Fin.sum_univ_four, Finset.sum_add_distrib]

/-- Eight copies of 128 lanes side by side: the column reads its lane. -/
theorem pick8 (f : Fin 128 → EReal) (c : Fin 1024) :
    (if h : c.val < 128 then f ⟨c.val, h⟩ else (if h : c.val - 128 < 128 then f ⟨c.val - 128, h⟩ else (if h : c.val - 128 - 128 < 128 then f ⟨c.val - 128 - 128, h⟩ else (if h : c.val - 128 - 128 - 128 < 128 then f ⟨c.val - 128 - 128 - 128, h⟩ else (if h : c.val - 128 - 128 - 128 - 128 < 128 then f ⟨c.val - 128 - 128 - 128 - 128, h⟩ else (if h : c.val - 128 - 128 - 128 - 128 - 128 < 128 then f ⟨c.val - 128 - 128 - 128 - 128 - 128, h⟩ else (if h : c.val - 128 - 128 - 128 - 128 - 128 - 128 < 128 then f ⟨c.val - 128 - 128 - 128 - 128 - 128 - 128, h⟩ else f ⟨c.val - 128 - 128 - 128 - 128 - 128 - 128 - 128, by omega⟩)))))))
      = f ⟨c.val % 128, by omega⟩ := by
  have hc := c.isLt
  split_ifs <;> exact congrArg f (Fin.ext (by show _ = c.val % 128; dsimp only; omega))

/-- Four copies of 128 lanes side by side: the column reads its lane. -/
theorem pick4 (f : Fin 128 → EReal) (c : Fin 512) :
    (if h : c.val < 128 then f ⟨c.val, h⟩ else (if h : c.val - 128 < 128 then f ⟨c.val - 128, h⟩ else (if h : c.val - 128 - 128 < 128 then f ⟨c.val - 128 - 128, h⟩ else f ⟨c.val - 128 - 128 - 128, by omega⟩)))
      = f ⟨c.val % 128, by omega⟩ := by
  have hc := c.isLt
  split_ifs <;> exact congrArg f (Fin.ext (by show _ = c.val % 128; dsimp only; omega))

/-- The factor of a row from its mean square. -/
theorem rms_def (s : EReal) : Ideal.rsqrt (s * Ideal.ofBits .f32 0x39800000#32 + Ideal.ofBits .f32 0x358637BD#32) = rms s := by
  rw [ofBits_inv_width]; rfl

/-- The factor of a row from the sum of squares over the width. -/
theorem rms_div (s : EReal) : Ideal.rsqrt (Ideal.div s (Ideal.ofBits .f32 0x45800000#32) + Ideal.ofBits .f32 0x358637BD#32) = rms s := by
  rw [ofBits_width, Ideal.div_coe (by norm_num)]; rfl

end Cert.Rows

end
-- ==== Proof.UpPay.lean ====
/-
  THE CHANNEL MIXER, UP: the values the body stores, entry by entry.
-/
module

public import proofs.«01_k».proof.Proof.Gen.UpIdeal.Skeleton
public import proofs.«01_k».proof.Proof.Rows
public import Idealize.ShloMosaic.Lib.Pointwise

@[expose] public section

set_option maxRecDepth 16384

noncomputable section

namespace Cert.UpIdeal.Run

open Idealize.ShloMosaic Idealize.ShloMosaic.TcCoe Idealize.SL.Sem
open Cert.UpIdeal Cert.UpIdeal.Gen Cert.Rows

theorem pay3_apply (x0 : Vec Ideal S1024x4096 .bf16) (x1 : Vec Ideal S4096x1024 .bf16) (x2 : Vec Ideal S1024x128 .f32) (r c : Fin 1024) :
    k0_pay3 x0 x1 x2 (ix2 r c) = max ((∑ k : Fin 4096, x0 (ix2 r k) * x1 (ix2 k c)) * rms (x2 (ix2 r ⟨c.val % 128, by omega⟩))) 0
      * max ((∑ k : Fin 4096, x0 (ix2 r k) * x1 (ix2 k c)) * rms (x2 (ix2 r ⟨c.val % 128, by omega⟩))) 0 := by
  unfold k0_pay3
  pointwise
  have e := pick8 (fun l => Ideal.rsqrt (x2 (ix2 r l) * Ideal.ofBits .f32 0x39800000#32 + Ideal.ofBits .f32 0x358637BD#32)) c
  rw [e, rms_def]

end Cert.UpIdeal.Run

end
-- ==== Proof.UpRef.lean ====
/-
  THE CHANNEL MIXER, UP: the reference, entry by entry.
-/
module

public import proofs.«01_k».proof.Proof.Gen.UpRefIdeal.Run
public import proofs.«01_k».proof.Proof.Rows
public import Idealize.ShloMosaic.Lib.Pointwise

@[expose] public section

set_option maxRecDepth 16384

noncomputable section

namespace Cert.UpRefIdeal.Run

open Idealize.ShloMosaic Idealize.ShloMosaic.TcCoe Idealize.SL.Sem
open Cert.UpRefIdeal Cert.UpRefIdeal.Gen Cert.Rows

/-- The normed rows times the weights. -/
def product (h : FVec Ideal S16384x4096 .f32) (g : FVec Ideal S4096 .f32) (w : FVec Ideal S4096x16384 .f32) : FVec Ideal S16384x16384 .f32 :=
  Host.dotGeneral (F := Ideal) dot_S16384x4096_S4096x16384_S16384x16384_1_0_0_1_n_n none
    (mulf (mulf h (broadcastInDim S16384x4096 ![0, 1] bcast_S16384x1_S16384x4096_0_1 (Host.rsqrt (addf (Host.divf (broadcastInDim S16384x1 ![0] bcast_S16384_S16384x1_0
      (Host.reduceAdd (mulf h h) (constant S_ .f32 0x00000000#32) reducesTo_S16384x4096_S16384_d1 h_S_)) (broadcastInDim S16384x1 ![] bcast_S_S16384x1 (constant S_ .f32 0x45800000#32)))
      (broadcastInDim S16384x1 ![] bcast_S_S16384x1 (constant S_ .f32 0x358637BD#32))))))
      (broadcastInDim S16384x4096 ![0, 1] bcast_S1x4096_S16384x4096_0_1 (broadcastInDim S1x4096 ![1] bcast_S4096_S1x4096_1 g))) w

/-- The first result: the product's positive part, squared. -/
def result (h : FVec Ideal S16384x4096 .f32) (g : FVec Ideal S4096 .f32) (w : FVec Ideal S4096x16384 .f32) : FVec Ideal S16384x16384 .bf16 :=
  truncf .bf16 (mulf (maximumf (product h g w) (broadcastInDim S16384x16384 ![] bcast_S_S16384x16384 (constant S_ .f32 0x00000000#32)))
    (maximumf (product h g w) (broadcastInDim S16384x16384 ![] bcast_S_S16384x16384 (constant S_ .f32 0x00000000#32)))) bitsLt_bf16_f32

/-- The second: a layer of the weights down. -/
def down (x : FVec Ideal S4x16384x4096 .f32) : FVec Ideal S16384x4096 .bf16 :=
  truncf .bf16 (shapeCast S16384x4096 (extractStridedSlice S1x16384x4096 ![1, 0, 0] x slices_S4x16384x4096_S1x16384x4096_1_0_0) shapeCasts_S1x16384x4096_S16384x4096) bitsLt_bf16_f32

/-- The third: a layer of the gate's weights. -/
def gate (x : FVec Ideal S4x4096x4096 .f32) : FVec Ideal S4096x4096 .bf16 :=
  truncf .bf16 (shapeCast S4096x4096 (extractStridedSlice S1x4096x4096 ![1, 0, 0] x slices_S4x4096x4096_S1x4096x4096_1_0_0) shapeCasts_S1x4096x4096_S4096x4096) bitsLt_bf16_f32

variable (h : FVec Ideal S16384x4096 .f32) (g : FVec Ideal S4096 .f32) (w : FVec Ideal S4096x16384 .f32)

theorem product_apply (r c : Fin 16384) : product h g w (ix2 r c)
    = ∑ k : Fin 4096, h (ix2 r k) * rms (∑ k : Fin 4096, h (ix2 r k) * h (ix2 r k)) * g (ix1 k) * w (ix2 k c) := by
  unfold product
  pointwise
  simp only [rms_div]

theorem result_apply (r c : Fin 16384) : result h g w (ix2 r c) = max (product h g w (ix2 r c)) 0 * max (product h g w (ix2 r c)) 0 := by
  unfold result
  generalize product h g w = p
  pointwise

theorem down_apply (x : FVec Ideal S4x16384x4096 .f32) (r : Fin 16384) (k : Fin 4096) : down x (ix2 r k) = x (ix3 1 r k) := by
  unfold down
  pointwise

theorem gate_apply (x : FVec Ideal S4x4096x4096 .f32) (r : Fin 4096) (k : Fin 4096) : gate x (ix2 r k) = x (ix3 1 r k) := by
  unfold gate
  pointwise

end Cert.UpRefIdeal.Run

end
-- ==== Proof.UpRun.lean ====
/-
  THE CHANNEL MIXER, UP: the run, block by block.
-/
module

public import proofs.«01_k».proof.Proof.UpPay
public import proofs.«01_k».proof.Proof.UpRef
public import proofs.«01_k».proof.Proof.Gen.UpIdeal.Value
public import Idealize.ShloMosaic.Lib.Claim

@[expose] public section

set_option maxRecDepth 16384

noncomputable section

namespace Cert.UpIdeal.Run

open Idealize.ShloMosaic Idealize.ShloMosaic.TcCoe Idealize.SL.Sem
open Cert.UpIdeal Cert.UpIdeal.Gen Cert.UpIdeal.Value Cert.Rows

/-- A rank-2 index is the pair of its coordinates. -/
theorem pair {a b : ℕ} (i : (Shape.mk 2 ![a, b]).Idx) : ∃ (r : Fin a) (c : Fin b), i = ix2 r c := ⟨i 0, i 1, (ix2_eta i).symm⟩

/-- The corner of a block. -/
theorem corner : (![0, 0] : Fin 2 → ℕ) = fun _ => 0 := by decide
theorem corner3 : (![0, 0, 0] : Fin 3 → ℕ) = fun _ => 0 := by decide

variable (m : (ℓ : Loc nD τ sig) → Buf (Elt Ideal) ℓ)

/-- The rows times the gains. -/
def gained (h : FVec Ideal S16384x4096 .f32) (g : FVec Ideal S4096 .f32) : FVec Ideal S16384x4096 .bf16 :=
  truncf .bf16 (mulf h (broadcastInDim S16384x4096 ![0, 1] bcast_S1x4096_S16384x4096_0_1 (broadcastInDim S1x4096 ![1] bcast_S4096_S1x4096_1 g))) bitsLt_bf16_f32

/-- The rows' sums of squares, on every lane. -/
def squares (h : FVec Ideal S16384x4096 .f32) : FVec Ideal S16384x128 .f32 :=
  broadcastInDim S16384x128 ![0, 1] bcast_S16384x1_S16384x128_0_1 (broadcastInDim S16384x1 ![0] bcast_S16384_S16384x1_0
    (Host.reduceAdd (mulf h h) (constant S_ .f32 0x00000000#32) reducesTo_S16384x4096_S16384_d1 h_S_))

theorem gained_apply (h : FVec Ideal S16384x4096 .f32) (g : FVec Ideal S4096 .f32) (r : Fin 16384) (k : Fin 4096) :
    gained h g (ix2 r k) = h (ix2 r k) * g (ix1 k) := by
  unfold gained
  pointwise

theorem squares_apply (h : FVec Ideal S16384x4096 .f32) (r : Fin 16384) (l : Fin 128) :
    squares h (ix2 r l) = ∑ k : Fin 4096, h (ix2 r k) * h (ix2 r k) := by
  unfold squares
  pointwise

/-- The weights, cast. -/
def narrow (w : FVec Ideal S4096x16384 .f32) : FVec Ideal S4096x16384 .bf16 := truncf .bf16 w bitsLt_bf16_f32

theorem V_v6 (c : Dev nD) : V m c main_v6 = gained (m ((c : Thread nD τ).loc main_arg0)) (m ((c : Thread nD τ).loc main_arg1)) := by
  unfold_abbrev_sides
  after_results
  rfl
theorem V_v7 (c : Dev nD) : V m c main_v7 = squares (m ((c : Thread nD τ).loc main_arg0)) := by
  unfold_abbrev_sides
  after_results
  rfl
theorem V_v8 (c : Dev nD) : V m c main_v8 = narrow (m ((c : Thread nD τ).loc main_arg2)) := by
  unfold_abbrev_sides
  after_results
  rfl

/-! ## The windows -/

theorem points (t : Fin cfg0.N) : t.val < 256 := t.isLt.trans_eq N_0

theorem index0 : ∀ t : Fin cfg0.N, win0_0.index t (0 : Fin 2) = t.val / 16 ∧ win0_0.index t (1 : Fin 2) = 0 :=
  (by decide +kernel : ∀ t : Fin grid0.N, _)

theorem block0 (c : Dev nD) (t : Fin cfg0.N) (r : Fin 1024) (k : Fin 4096) : iblk m c 0 t (ix2 r k)
    = V m c main_v6 (ix2 ⟨1024 * (t.val / 16) + r.val, by have := points t; omega⟩ ⟨k.val, by have := points t; omega⟩) := by
  obtain ⟨e0, e1⟩ := index0 t
  show V m c main_v6 (((cfg0.win 0).blk t).view.emb (ix2 r k)) = _
  congr 1
  funext a; apply Fin.ext
  match a with
  | ⟨0, _⟩ => show win0_0.index t (0 : Fin 2) * 1024 + 1 * r.val = 1024 * (t.val / 16) + r.val; omega
  | ⟨1, _⟩ => show win0_0.index t (1 : Fin 2) * 4096 + 1 * k.val = k.val; omega

theorem index1 : ∀ t : Fin cfg0.N, win0_1.index t (0 : Fin 2) = 0 ∧ win0_1.index t (1 : Fin 2) = t.val % 16 :=
  (by decide +kernel : ∀ t : Fin grid0.N, _)

theorem block1 (c : Dev nD) (t : Fin cfg0.N) (r : Fin 4096) (k : Fin 1024) : iblk m c 1 t (ix2 r k)
    = V m c main_v8 (ix2 ⟨r.val, by have := points t; omega⟩ ⟨1024 * (t.val % 16) + k.val, by have := points t; omega⟩) := by
  obtain ⟨e0, e1⟩ := index1 t
  show V m c main_v8 (((cfg0.win 1).blk t).view.emb (ix2 r k)) = _
  congr 1
  funext a; apply Fin.ext
  match a with
  | ⟨0, _⟩ => show win0_1.index t (0 : Fin 2) * 4096 + 1 * r.val = r.val; omega
  | ⟨1, _⟩ => show win0_1.index t (1 : Fin 2) * 1024 + 1 * k.val = 1024 * (t.val % 16) + k.val; omega

theorem index2 : ∀ t : Fin cfg0.N, win0_2.index t (0 : Fin 2) = t.val / 16 ∧ win0_2.index t (1 : Fin 2) = 0 :=
  (by decide +kernel : ∀ t : Fin grid0.N, _)

theorem block2 (c : Dev nD) (t : Fin cfg0.N) (r : Fin 1024) (k : Fin 128) : iblk m c 2 t (ix2 r k)
    = V m c main_v7 (ix2 ⟨1024 * (t.val / 16) + r.val, by have := points t; omega⟩ ⟨k.val, by have := points t; omega⟩) := by
  obtain ⟨e0, e1⟩ := index2 t
  show V m c main_v7 (((cfg0.win 2).blk t).view.emb (ix2 r k)) = _
  congr 1
  funext a; apply Fin.ext
  match a with
  | ⟨0, _⟩ => show win0_2.index t (0 : Fin 2) * 1024 + 1 * r.val = 1024 * (t.val / 16) + r.val; omega
  | ⟨1, _⟩ => show win0_2.index t (1 : Fin 2) * 128 + 1 * k.val = k.val; omega

theorem index3 : ∀ t : Fin cfg0.N, win0_3.index t (0 : Fin 3) = 1 ∧ win0_3.index t (1 : Fin 3) = t.val ∧ win0_3.index t (2 : Fin 3) = 0 :=
  (by decide +kernel : ∀ t : Fin grid0.N, _)

theorem block3 (c : Dev nD) (t : Fin cfg0.N) (r : Fin 1) (k : Fin 64) (l : Fin 4096) : iblk m c 3 t (ix3 r k l)
    = V m c main_arg3 (ix3 1 ⟨64 * (t.val) + k.val, by have := points t; omega⟩ ⟨l.val, by have := points t; omega⟩) := by
  obtain ⟨e0, e1, e2⟩ := index3 t
  show V m c main_arg3 (((cfg0.win 3).blk t).view.emb (ix3 r k l)) = _
  congr 1
  funext a; apply Fin.ext
  match a with
  | ⟨0, _⟩ => show win0_3.index t (0 : Fin 3) * 1 + 1 * r.val = 1; omega
  | ⟨1, _⟩ => show win0_3.index t (1 : Fin 3) * 64 + 1 * k.val = 64 * (t.val) + k.val; omega
  | ⟨2, _⟩ => show win0_3.index t (2 : Fin 3) * 4096 + 1 * l.val = l.val; omega

theorem index4 : ∀ t : Fin cfg0.N, win0_4.index t (0 : Fin 3) = 1 ∧ win0_4.index t (1 : Fin 3) = t.val ∧ win0_4.index t (2 : Fin 3) = 0 :=
  (by decide +kernel : ∀ t : Fin grid0.N, _)

theorem block4 (c : Dev nD) (t : Fin cfg0.N) (r : Fin 1) (k : Fin 16) (l : Fin 4096) : iblk m c 4 t (ix3 r k l)
    = V m c main_arg4 (ix3 1 ⟨16 * (t.val) + k.val, by have := points t; omega⟩ ⟨l.val, by have := points t; omega⟩) := by
  obtain ⟨e0, e1, e2⟩ := index4 t
  show V m c main_arg4 (((cfg0.win 4).blk t).view.emb (ix3 r k l)) = _
  congr 1
  funext a; apply Fin.ext
  match a with
  | ⟨0, _⟩ => show win0_4.index t (0 : Fin 3) * 1 + 1 * r.val = 1; omega
  | ⟨1, _⟩ => show win0_4.index t (1 : Fin 3) * 16 + 1 * k.val = 16 * (t.val) + k.val; omega
  | ⟨2, _⟩ => show win0_4.index t (2 : Fin 3) * 4096 + 1 * l.val = l.val; omega

theorem index5 : ∀ t : Fin cfg0.N, win0_5.index t (0 : Fin 2) = t.val / 16 ∧ win0_5.index t (1 : Fin 2) = t.val % 16 :=
  (by decide +kernel : ∀ t : Fin grid0.N, _)

theorem emb5 (t : Fin cfg0.N) (r : Fin 1024) (k : Fin 1024) : ((cfg0.win 5).blk t).view.emb (ix2 r k)
    = ix2 ⟨1024 * (t.val / 16) + r.val, by have := points t; omega⟩ ⟨1024 * (t.val % 16) + k.val, by have := points t; omega⟩ := by
  obtain ⟨e0, e1⟩ := index5 t
  funext a; apply Fin.ext
  match a with
  | ⟨0, _⟩ => show win0_5.index t (0 : Fin 2) * 1024 + 1 * r.val = 1024 * (t.val / 16) + r.val; omega
  | ⟨1, _⟩ => show win0_5.index t (1 : Fin 2) * 1024 + 1 * k.val = 1024 * (t.val % 16) + k.val; omega

theorem index6 : ∀ t : Fin cfg0.N, win0_6.index t (0 : Fin 2) = t.val ∧ win0_6.index t (1 : Fin 2) = 0 :=
  (by decide +kernel : ∀ t : Fin grid0.N, _)

theorem emb6 (t : Fin cfg0.N) (r : Fin 64) (k : Fin 4096) : ((cfg0.win 6).blk t).view.emb (ix2 r k)
    = ix2 ⟨64 * (t.val) + r.val, by have := points t; omega⟩ ⟨k.val, by have := points t; omega⟩ := by
  obtain ⟨e0, e1⟩ := index6 t
  funext a; apply Fin.ext
  match a with
  | ⟨0, _⟩ => show win0_6.index t (0 : Fin 2) * 64 + 1 * r.val = 64 * (t.val) + r.val; omega
  | ⟨1, _⟩ => show win0_6.index t (1 : Fin 2) * 4096 + 1 * k.val = k.val; omega

theorem index7 : ∀ t : Fin cfg0.N, win0_7.index t (0 : Fin 2) = t.val ∧ win0_7.index t (1 : Fin 2) = 0 :=
  (by decide +kernel : ∀ t : Fin grid0.N, _)

theorem emb7 (t : Fin cfg0.N) (r : Fin 16) (k : Fin 4096) : ((cfg0.win 7).blk t).view.emb (ix2 r k)
    = ix2 ⟨16 * (t.val) + r.val, by have := points t; omega⟩ ⟨k.val, by have := points t; omega⟩ := by
  obtain ⟨e0, e1⟩ := index7 t
  funext a; apply Fin.ext
  match a with
  | ⟨0, _⟩ => show win0_7.index t (0 : Fin 2) * 16 + 1 * r.val = 16 * (t.val) + r.val; omega
  | ⟨1, _⟩ => show win0_7.index t (1 : Fin 2) * 4096 + 1 * k.val = k.val; omega

variable (c : Dev nD) (t : Fin cfg0.N)

/-- What a point writes back of the first result is its block of the reference's. -/
theorem flushed5_eq (h : FVec Ideal S16384x4096 .f32) (g : FVec Ideal S4096 .f32) (w : FVec Ideal S4096x16384 .f32)
    (eh : m ((c : Thread nD τ).loc main_arg0) = h) (eg : m ((c : Thread nD τ).loc main_arg1) = g) (ew : m ((c : Thread nD τ).loc main_arg2) = w) :
    (dats m 0 c).flushed 5 t = ((cfg0.win 5).blk t).view.read (Elt Ideal) (Cert.UpRefIdeal.Run.result h g w) := by
  rw [flushed5]
  funext j
  obtain ⟨r, e, rfl⟩ : ∃ (r : Fin 1024) (e : Fin 1024), j = ix2 r e := pair j
  show out0_5 (iblk m c 0 t) (iblk m c 1 t) (iblk m c 2 t) (iblk m c 3 t) (iblk m c 4 t) (ix2 r e)
    = Cert.UpRefIdeal.Run.result h g w (((cfg0.win 5).blk t).view.emb (ix2 r e))
  unfold out0_5
  rw [View.canon_unit_zero corner, View.ld_unit_zero corner, View.ld_unit_zero corner, View.ld_unit_zero corner, pay3_apply]
  have e0 : ∀ k : Fin 4096, iblk m c 0 t (ix2 r k) = h (ix2 ⟨1024 * (t.val / 16) + r.val, by have := points t; omega⟩ k) * g (ix1 k) := fun k => by
    rw [block0, V_v6, eh, eg]; exact gained_apply h g _ k
  have e1 : ∀ k : Fin 4096, iblk m c 1 t (ix2 k e) = w (ix2 k ⟨1024 * (t.val % 16) + e.val, by omega⟩) := fun k => by
    rw [block1, V_v8, ew]; rfl
  have e2 : iblk m c 2 t (ix2 r (⟨e.val % 128, by omega⟩ : Fin 128)) = ∑ k : Fin 4096, h (ix2 ⟨1024 * (t.val / 16) + r.val, by have := points t; omega⟩ k)
      * h (ix2 ⟨1024 * (t.val / 16) + r.val, by have := points t; omega⟩ k) := by
    rw [block2, V_v7, eh]; exact squares_apply h _ _
  rw [emb5, Cert.UpRefIdeal.Run.result_apply, Cert.UpRefIdeal.Run.product_apply, e2]
  simp only [e0, e1]
  rw [normed_product _ _ _ (squares_nonneg _)]

theorem flushed6_eq (x : FVec Ideal S4x16384x4096 .f32) (ex : m ((c : Thread nD τ).loc main_arg3) = x) :
    (dats m 0 c).flushed 6 t = ((cfg0.win 6).blk t).view.read (Elt Ideal) (Cert.UpRefIdeal.Run.down x) := by
  rw [flushed6]
  funext j
  obtain ⟨r, e, rfl⟩ : ∃ (r : Fin 64) (e : Fin 4096), j = ix2 r e := pair j
  show out0_6 (iblk m c 0 t) (iblk m c 1 t) (iblk m c 2 t) (iblk m c 3 t) (iblk m c 4 t) (ix2 r e)
    = Cert.UpRefIdeal.Run.down x (((cfg0.win 6).blk t).view.emb (ix2 r e))
  unfold out0_6
  rw [View.ld_unit_zero corner3, canon6_eq, emb6, Cert.UpRefIdeal.Run.down_apply]
  show iblk m c 3 t (ix6_0 (ix2 r e)) = _
  rw [← ex, ← V_main_arg3 m c]
  refine Eq.trans (congrArg (iblk m c 3 t) (?_ : _ = ix3 (0 : Fin 1) r e)) (block3 m c t 0 r e)
  funext a
  match a with
  | ⟨0, _⟩ => rfl
  | ⟨1, _⟩ => rfl
  | ⟨2, _⟩ => rfl

theorem flushed7_eq (x : FVec Ideal S4x4096x4096 .f32) (ex : m ((c : Thread nD τ).loc main_arg4) = x) :
    (dats m 0 c).flushed 7 t = ((cfg0.win 7).blk t).view.read (Elt Ideal) (Cert.UpRefIdeal.Run.gate x) := by
  rw [flushed7]
  funext j
  obtain ⟨r, e, rfl⟩ : ∃ (r : Fin 16) (e : Fin 4096), j = ix2 r e := pair j
  show out0_7 (iblk m c 0 t) (iblk m c 1 t) (iblk m c 2 t) (iblk m c 3 t) (iblk m c 4 t) (ix2 r e)
    = Cert.UpRefIdeal.Run.gate x (((cfg0.win 7).blk t).view.emb (ix2 r e))
  unfold out0_7
  rw [View.ld_unit_zero corner3, canon7_eq, emb7, Cert.UpRefIdeal.Run.gate_apply]
  show iblk m c 4 t (ix7_0 (ix2 r e)) = _
  rw [← ex, ← V_main_arg4 m c]
  refine Eq.trans (congrArg (iblk m c 4 t) (?_ : _ = ix3 (0 : Fin 1) r e)) (block4 m c t 0 r e)
  funext a
  match a with
  | ⟨0, _⟩ => rfl
  | ⟨1, _⟩ => rfl
  | ⟨2, _⟩ => rfl

/-- Every place of the array is in the block of some point. -/
theorem covered5 (j : S16384x16384.Idx) : ∃ t : Fin cfg0.N, (cfg0.win 5).flush t = true ∧ j ∈ ((cfg0.win 5).blk t).view.set := by
  obtain ⟨r, e, rfl⟩ := pair j
  have hr := r.isLt
  have he := e.isLt
  have hN : r.val / 1024 * 16 + e.val / 1024 < cfg0.N := by rw [show cfg0.N = _ from N_0]; omega
  have hm := ((cfg0.win 5).blk ⟨_, hN⟩).view.emb_mem_set (ix2 (⟨r.val % 1024, by omega⟩ : Fin 1024) (⟨e.val % 1024, by omega⟩ : Fin 1024))
  rw [emb5] at hm
  have e0 : (⟨1024 * ((r.val / 1024 * 16 + e.val / 1024) / 16) + r.val % 1024, by omega⟩ : Fin 16384) = r := Fin.ext (by dsimp only; omega)
  have e1 : (⟨1024 * ((r.val / 1024 * 16 + e.val / 1024) % 16) + e.val % 1024, by omega⟩ : Fin 16384) = e := Fin.ext (by dsimp only; omega)
  have hi := congrArg₂ (fun a b => (ix2 a b : S16384x16384.Idx)) e0 e1
  exact ⟨⟨_, hN⟩, flush0_5 _, Eq.mp (congrArg (fun i => i ∈ ((cfg0.win 5).blk ⟨_, hN⟩).view.set) hi) hm⟩

/-- Every place of the array is in the block of some point. -/
theorem covered6 (j : S16384x4096.Idx) : ∃ t : Fin cfg0.N, (cfg0.win 6).flush t = true ∧ j ∈ ((cfg0.win 6).blk t).view.set := by
  obtain ⟨r, e, rfl⟩ := pair j
  have hr := r.isLt
  have he := e.isLt
  have hN : r.val / 64 < cfg0.N := by rw [show cfg0.N = _ from N_0]; omega
  have hm := ((cfg0.win 6).blk ⟨_, hN⟩).view.emb_mem_set (ix2 (⟨r.val % 64, by omega⟩ : Fin 64) (⟨e.val % 4096, by omega⟩ : Fin 4096))
  rw [emb6] at hm
  have e0 : (⟨64 * ((r.val / 64)) + r.val % 64, by omega⟩ : Fin 16384) = r := Fin.ext (by dsimp only; omega)
  have e1 : (⟨e.val % 4096, by omega⟩ : Fin 4096) = e := Fin.ext (by dsimp only; omega)
  have hi := congrArg₂ (fun a b => (ix2 a b : S16384x4096.Idx)) e0 e1
  exact ⟨⟨_, hN⟩, flush0_6 _, Eq.mp (congrArg (fun i => i ∈ ((cfg0.win 6).blk ⟨_, hN⟩).view.set) hi) hm⟩

/-- Every place of the array is in the block of some point. -/
theorem covered7 (j : S4096x4096.Idx) : ∃ t : Fin cfg0.N, (cfg0.win 7).flush t = true ∧ j ∈ ((cfg0.win 7).blk t).view.set := by
  obtain ⟨r, e, rfl⟩ := pair j
  have hr := r.isLt
  have he := e.isLt
  have hN : r.val / 16 < cfg0.N := by rw [show cfg0.N = _ from N_0]; omega
  have hm := ((cfg0.win 7).blk ⟨_, hN⟩).view.emb_mem_set (ix2 (⟨r.val % 16, by omega⟩ : Fin 16) (⟨e.val % 4096, by omega⟩ : Fin 4096))
  rw [emb7] at hm
  have e0 : (⟨16 * ((r.val / 16)) + r.val % 16, by omega⟩ : Fin 4096) = r := Fin.ext (by dsimp only; omega)
  have e1 : (⟨e.val % 4096, by omega⟩ : Fin 4096) = e := Fin.ext (by dsimp only; omega)
  have hi := congrArg₂ (fun a b => (ix2 a b : S4096x4096.Idx)) e0 e1
  exact ⟨⟨_, hN⟩, flush0_7 _, Eq.mp (congrArg (fun i => i ∈ ((cfg0.win 7).blk ⟨_, hN⟩).view.set) hi) hm⟩

theorem final5 : (dats m 0 c).arrAt 5 cfg0.N = Cert.UpRefIdeal.Run.result (m ((c : Thread nD τ).loc main_arg0)) (m ((c : Thread nD τ).loc main_arg1)) (m ((c : Thread nD τ).loc main_arg2)) :=
  (dats m 0 c).arrAt_eq_of_cover 5 _ (fun t _ => flushed5_eq m c t _ _ _ rfl rfl rfl) covered5
theorem final6 : (dats m 0 c).arrAt 6 cfg0.N = Cert.UpRefIdeal.Run.down (m ((c : Thread nD τ).loc main_arg3)) :=
  (dats m 0 c).arrAt_eq_of_cover 6 _ (fun t _ => flushed6_eq m c t _ rfl) covered6
theorem final7 : (dats m 0 c).arrAt 7 cfg0.N = Cert.UpRefIdeal.Run.gate (m ((c : Thread nD τ).loc main_arg4)) :=
  (dats m 0 c).arrAt_eq_of_cover 7 _ (fun t _ => flushed7_eq m c t _ rfl) covered7

end Cert.UpIdeal.Run

end
-- ==== Proof.UpClaims.lean ====
/-
  The claims about the channel mixer, up.
-/
module

public import proofs.«01_k».proof.Defs
public import proofs.«01_k».proof.Proof.UpRun
public import proofs.«01_k».proof.Proof.Gen.Up.Frame
public import Idealize.ShloMosaic.Lib.Quiescent

@[expose] public section

set_option maxRecDepth 16384

noncomputable section

namespace Cert.Up.Claims

open Idealize.ShloMosaic Idealize.ShloMosaic.TcCoe Idealize.SL.Sem
open Cert.Rows

theorem frame_kernel : Cert.quiescent_Up := fun m ρ _ => Cert.Up.Gen.frame m ρ
theorem frame_ideal : Cert.quiescent_UpIdeal := fun m ρ _ => Cert.UpIdeal.Gen.frame m ρ
theorem frame_reference : Cert.quiescent_UpRefIdeal := fun m ρ _ =>
  (θ_run Cert.UpRefIdeal.defs _ _).mono (fun r h => ⟨fun c => (h c).2.2.2, Idealize.ShloMosaic.sem_eq_zero_of_no_sems (by decide) r.2⟩)
    (Cert.UpRefIdeal.Value.run (F := Ideal) m ρ)

theorem preserves : Cert.preserves_Up_UpIdeal := trivial

/-- The kernel and the reference end with the same results. -/
theorem algebraic : Cert.algebraic_UpIdeal_UpRefIdeal := by
  intro m ρ m' ρ' _ hagree
  refine ⟨fun c => Cert.UpRefIdeal.Run.result (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)), fun c => Cert.UpRefIdeal.Run.down (m ((c.tc : Thread Cert.UpIdeal.nD Cert.UpIdeal.τ).loc Cert.UpIdeal.main_arg3)), fun c => Cert.UpRefIdeal.Run.gate (m ((c.tc : Thread Cert.UpIdeal.nD Cert.UpIdeal.τ).loc Cert.UpIdeal.main_arg4)),
    (θ_run Cert.UpIdeal.defs _ _).mono (fun _ h c => ⟨(h c).1.trans (Cert.UpIdeal.Run.final5 m c), (h c).2.1.trans (Cert.UpIdeal.Run.final6 m c), (h c).2.2.1.trans (Cert.UpIdeal.Run.final7 m c), (h c).2.2.2⟩)
      (Cert.UpIdeal.Value.run_blocks (F := Ideal) m ρ), ?_⟩
  refine (θ_run Cert.UpRefIdeal.defs _ _).mono (fun _ h c => ⟨(h c).1.trans ?_, (h c).2.1.trans ?_, (h c).2.2.1.trans ?_, (h c).2.2.2⟩)
    (Cert.UpRefIdeal.Value.run (F := Ideal) m' ρ')
  · show Cert.UpRefIdeal.Run.result (m' ((c.tc : Thread Cert.UpRefIdeal.nD Cert.UpRefIdeal.τ).loc Cert.UpRefIdeal.main_arg0)) (m' ((c.tc : Thread Cert.UpRefIdeal.nD Cert.UpRefIdeal.τ).loc Cert.UpRefIdeal.main_arg1)) (m' ((c.tc : Thread Cert.UpRefIdeal.nD Cert.UpRefIdeal.τ).loc Cert.UpRefIdeal.main_arg2)) = _
    rw [(hagree c).1, (hagree c).2.1, (hagree c).2.2.1]
  · show Cert.UpRefIdeal.Run.down (m' ((c.tc : Thread Cert.UpRefIdeal.nD Cert.UpRefIdeal.τ).loc Cert.UpRefIdeal.main_arg3)) = _
    rw [(hagree c).2.2.2.1]
  · show Cert.UpRefIdeal.Run.gate (m' ((c.tc : Thread Cert.UpRefIdeal.nD Cert.UpRefIdeal.τ).loc Cert.UpRefIdeal.main_arg4)) = _
    rw [(hagree c).2.2.2.2]

end Cert.Up.Claims

end
-- ==== Proof.DownPay.lean ====
/-
  THE CHANNEL MIXER, DOWN: the values the body stores, entry by entry.
-/
module

public import proofs.«01_k».proof.Proof.Gen.DownIdeal.Skeleton
public import proofs.«01_k».proof.Proof.Rows
public import Idealize.ShloMosaic.Lib.Pointwise

@[expose] public section

set_option maxRecDepth 16384

noncomputable section

namespace Cert.DownIdeal.Run

open Idealize.ShloMosaic Idealize.ShloMosaic.TcCoe Idealize.SL.Sem
open Cert.DownIdeal Cert.DownIdeal.Gen

variable (v11 : Vec Ideal S1024x1024 .f32) (v12 : Vec Ideal S1024x4096 .bf16) (v14 : Vec Ideal S4096x1024 .bf16)

theorem pay1_apply (r c : Fin 1024) :
    k0_pay1 v11 v12 v14 (ix2 r c) = v11 (ix2 r c) + ∑ k : Fin 4096, v12 (ix2 r k) * v14 (ix2 k c) := by
  unfold k0_pay1
  pointwise

theorem pay2_apply (r c : Fin 1024) :
    k0_pay2 v11 v12 v14 (ix2 r c) = v11 (ix2 r c) + ∑ k : Fin 4096, v12 (ix2 r k) * v14 (ix2 k c) := by
  unfold k0_pay2
  pointwise

theorem pay4_apply (r c : Fin 1024) :
    k0_pay4 v11 v12 v14 (ix2 r c) = v11 (ix2 r c) + ∑ k : Fin 4096, v12 (ix2 r k) * v14 (ix2 k c) := by
  unfold k0_pay4
  pointwise

theorem pay3_apply (v45 v52 : Vec Ideal S1024x128 .f32) (r : Fin 1024) (l : Fin 128) :
    k0_pay3 v45 v52 (ix2 r l) = v52 (ix2 r l) + v45 (ix2 r l) := by
  unfold k0_pay3
  pointwise

theorem pay5_apply (v20 : Vec Ideal S1x1024 .f32) (r c : Fin 1024) :
    k0_pay5 v11 v12 v14 v20 (ix2 r c) = k0_pay4 v11 v12 v14 (ix2 r c) * v20 (ix2 0 c) := by
  unfold k0_pay5
  pointwise

theorem pay6_apply (r : Fin 1024) (l : Fin 128) :
    k0_pay6 v11 v12 v14 (ix2 r l) = ∑ k : Fin 1024, k0_pay4 v11 v12 v14 (ix2 r k) * k0_pay4 v11 v12 v14 (ix2 r k) := by
  unfold k0_pay6
  generalize k0_pay4 v11 v12 v14 = o
  pointwise
  exact Cert.Rows.lanes8 fun k => o (ix2 r k) * o (ix2 r k)

end Cert.DownIdeal.Run

end
-- ==== Proof.DownBody.lean ====
/-
  THE CHANNEL MIXER, DOWN: what each case of the body leaves in its outputs.
-/
module

public import proofs.«01_k».proof.Proof.DownPay
public import proofs.«01_k».proof.Proof.Gen.DownIdeal.Value
public import Idealize.ShloMosaic.Lib.VecWindow

@[expose] public section

set_option maxRecDepth 16384

noncomputable section

namespace Cert.DownIdeal.Run

open Idealize.ShloMosaic Idealize.ShloMosaic.TcCoe Idealize.SL.Sem
open Cert.DownIdeal Cert.DownIdeal.Gen

/-- The corner of a block. -/
theorem corner : (![0, 0] : Fin 2 → ℕ) = fun _ => 0 := by decide

/-- A load of a whole memref, held at what reads `x`, is `x`. -/
theorem load {sp : Space} {s : Shape} {e : EltTy} {a : Memref sig .tc sp s e} (h : a.IsWhole) (x : Vec Ideal s e) {off : Fin s.rank → ℕ} (inb : ∀ a, off a + s.size a ≤ s.size a) :
    View.readAt (Elt Ideal) a.view (Rect.unit off s.size inb).toLoadRect (h.unread x) = x := by
  rw [View.readAt_full]
  exact h.read_unread x

variable (c : Dev nD) (i : grid0.Coords) (arg3 : Memref sig .tc .vmem S1024x4096 .bf16) (harg3 : arg3.IsWhole) (arg4 : Memref sig .tc .vmem S4096x1024 .bf16) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x128 .f32) (harg9 : arg9.IsWhole)
  (x0 : Vec Ideal S1024x4096 .bf16) (x1 : Vec Ideal S4096x1024 .bf16) (x2 : Vec Ideal S1024x1024 .f32) (x3 : Vec Ideal S1x1024 .f32) (xo4 : Vec Ideal S1024x1024 .f32) (xo6 : Vec Ideal S1024x128 .f32)

theorem outA4 (hc0 : cond0_0 i) (hc1 : ¬cond0_1 i) (hc2 : ¬cond0_2 i) :
    out0_A_4 (F := Ideal) c i arg3 harg3 arg4 harg4 arg5 harg5 arg6 harg6 arg7 harg7 arg8 harg8 arg9 harg9 hc0 hc1 hc2 x0 x1 x2 x3 = k0_pay1 x2 x0 x1 := by
  unfold out0_A_4 kernelRun0_A
  refine (View.read_writes_full _ _ _ _ _).trans ?_
  exact congr (congr (congrArg _ (load _ _ _)) (load _ _ _)) (load _ _ _)

theorem outB4 (hc0 : ¬cond0_0 i) (hc1 : cond0_1 i) (hc2 : ¬cond0_2 i) :
    out0_B_4 (F := Ideal) c i arg3 harg3 arg4 harg4 arg5 harg5 arg6 harg6 arg7 harg7 arg8 harg8 arg9 harg9 hc0 hc1 hc2 x0 x1 x2 x3 xo4 = k0_pay2 xo4 x0 x1 := by
  unfold out0_B_4 kernelRun0_B
  refine (View.read_writes_full _ _ _ _ _).trans ?_
  exact congr (congr (congrArg _ (load _ _ _)) (load _ _ _)) (load _ _ _)

theorem outC4 (hc0 : ¬cond0_0 i) (hc1 : ¬cond0_1 i) (hc2 : cond0_2 i) (hc3 : cond0_3 i) (hc4 : ¬cond0_4 i) :
    out0_C_4 (F := Ideal) c i arg3 harg3 arg4 harg4 arg5 harg5 arg6 harg6 arg7 harg7 arg8 harg8 arg9 harg9 hc0 hc1 hc2 hc3 hc4 x0 x1 x2 x3 xo4 = k0_pay4 xo4 x0 x1 := by
  unfold out0_C_4 kernelRun0_C
  refine (View.read_writes_full _ _ _ _ _).trans ?_
  exact congr (congr (congrArg _ (load _ _ _)) (load _ _ _)) (load _ _ _)

theorem outC5 (hc0 : ¬cond0_0 i) (hc1 : ¬cond0_1 i) (hc2 : cond0_2 i) (hc3 : cond0_3 i) (hc4 : ¬cond0_4 i) :
    out0_C_5 (F := Ideal) c i arg3 harg3 arg4 harg4 arg5 harg5 arg6 harg6 arg7 harg7 arg8 harg8 arg9 harg9 hc0 hc1 hc2 hc3 hc4 x0 x1 x2 x3 xo4 = k0_pay5 xo4 x0 x1 x3 := by
  unfold out0_C_5 kernelRun0_C
  refine (View.read_writes_full _ _ _ _ _).trans ?_
  exact congr (congr (congr (congrArg _ (load _ _ _)) (load _ _ _)) (load _ _ _)) (load _ _ _)

theorem outC6 (hc0 : ¬cond0_0 i) (hc1 : ¬cond0_1 i) (hc2 : cond0_2 i) (hc3 : cond0_3 i) (hc4 : ¬cond0_4 i) :
    out0_C_6 (F := Ideal) c i arg3 harg3 arg4 harg4 arg5 harg5 arg6 harg6 arg7 harg7 arg8 harg8 arg9 harg9 hc0 hc1 hc2 hc3 hc4 x0 x1 x2 x3 xo4 = k0_pay6 xo4 x0 x1 := by
  unfold out0_C_6 kernelRun0_C
  refine (View.read_writes_full _ _ _ _ _).trans ?_
  exact congr (congr (congrArg _ (load _ _ _)) (load _ _ _)) (load _ _ _)

theorem outD4 (hc0 : ¬cond0_0 i) (hc1 : ¬cond0_1 i) (hc2 : cond0_2 i) (hc3 : ¬cond0_3 i) (hc4 : cond0_4 i) :
    out0_D_4 (F := Ideal) c i arg3 harg3 arg4 harg4 arg5 harg5 arg6 harg6 arg7 harg7 arg8 harg8 arg9 harg9 hc0 hc1 hc2 hc3 hc4 x0 x1 x2 x3 xo4 xo6 = k0_pay4 xo4 x0 x1 := by
  unfold out0_D_4 kernelRun0_D
  refine (View.read_writes_full _ _ _ _ _).trans ?_
  exact congr (congr (congrArg _ (load _ _ _)) (load _ _ _)) (load _ _ _)

theorem outD5 (hc0 : ¬cond0_0 i) (hc1 : ¬cond0_1 i) (hc2 : cond0_2 i) (hc3 : ¬cond0_3 i) (hc4 : cond0_4 i) :
    out0_D_5 (F := Ideal) c i arg3 harg3 arg4 harg4 arg5 harg5 arg6 harg6 arg7 harg7 arg8 harg8 arg9 harg9 hc0 hc1 hc2 hc3 hc4 x0 x1 x2 x3 xo4 xo6 = k0_pay5 xo4 x0 x1 x3 := by
  unfold out0_D_5 kernelRun0_D
  refine (View.read_writes_full _ _ _ _ _).trans ?_
  exact congr (congr (congr (congrArg _ (load _ _ _)) (load _ _ _)) (load _ _ _)) (load _ _ _)

theorem outD6 (hc0 : ¬cond0_0 i) (hc1 : ¬cond0_1 i) (hc2 : cond0_2 i) (hc3 : ¬cond0_3 i) (hc4 : cond0_4 i) :
    out0_D_6 (F := Ideal) c i arg3 harg3 arg4 harg4 arg5 harg5 arg6 harg6 arg7 harg7 arg8 harg8 arg9 harg9 hc0 hc1 hc2 hc3 hc4 x0 x1 x2 x3 xo4 xo6 = k0_pay3 (k0_pay6 xo4 x0 x1) xo6 := by
  unfold out0_D_6 kernelRun0_D
  refine (View.read_writes_full _ _ _ _ _).trans ?_
  exact congr (congrArg _ (congr (congr (congrArg k0_pay6 (load _ _ _)) (load _ _ _)) (load _ _ _))) (load _ _ _)

end Cert.DownIdeal.Run

end
-- ==== Proof.DownRef.lean ====
/-
  THE CHANNEL MIXER, DOWN: the reference, entry by entry.
-/
module

public import proofs.«01_k».proof.Proof.Gen.DownRefIdeal.Run
public import proofs.«01_k».proof.Proof.Rows
public import Idealize.ShloMosaic.Lib.Pointwise

@[expose] public section

set_option maxRecDepth 16384

noncomputable section

namespace Cert.DownRefIdeal.Run

open Idealize.ShloMosaic Idealize.ShloMosaic.TcCoe Idealize.SL.Sem
open Cert.DownRefIdeal Cert.DownRefIdeal.Gen Cert.Rows

/-- The first result: the residual and the product. -/
def result (a : FVec Ideal S16384x16384 .f32) (w : FVec Ideal S16384x4096 .f32) (h : FVec Ideal S16384x4096 .f32) : FVec Ideal S16384x4096 .f32 :=
  addf h (Host.dotGeneral (F := Ideal) dot_S16384x16384_S16384x4096_S16384x4096_1_0_0_1_n_n none a w)

/-- The second: the first times the next norm's gain. -/
def gained (a : FVec Ideal S16384x16384 .f32) (w : FVec Ideal S16384x4096 .f32) (h : FVec Ideal S16384x4096 .f32) (g : FVec Ideal S4096 .f32) : FVec Ideal S16384x4096 .bf16 :=
  truncf .bf16 (mulf (result a w h) (broadcastInDim S16384x4096 ![0, 1] bcast_S1x4096_S16384x4096_0_1 (broadcastInDim S1x4096 ![1] bcast_S4096_S1x4096_1 g))) bitsLt_bf16_f32

/-- The third: the first's sums of squares, on every lane. -/
def squares (a : FVec Ideal S16384x16384 .f32) (w : FVec Ideal S16384x4096 .f32) (h : FVec Ideal S16384x4096 .f32) : FVec Ideal S16384x128 .f32 :=
  broadcastInDim S16384x128 ![0, 1] bcast_S16384x1_S16384x128_0_1 (broadcastInDim S16384x1 ![0] bcast_S16384_S16384x1_0
    (Host.reduceAdd (mulf (result a w h) (result a w h)) (constant S_ .f32 0x00000000#32) reducesTo_S16384x4096_S16384_d1 h_S_))

variable (a : FVec Ideal S16384x16384 .f32) (w : FVec Ideal S16384x4096 .f32) (h : FVec Ideal S16384x4096 .f32)

theorem result_apply (r : Fin 16384) (c : Fin 4096) : result a w h (ix2 r c) = h (ix2 r c) + ∑ k : Fin 16384, a (ix2 r k) * w (ix2 k c) := by
  unfold result
  pointwise

theorem gained_apply (g : FVec Ideal S4096 .f32) (r : Fin 16384) (c : Fin 4096) : gained a w h g (ix2 r c) = result a w h (ix2 r c) * g (ix1 c) := by
  unfold gained
  generalize result a w h = o
  pointwise

theorem squares_apply (r : Fin 16384) (l : Fin 128) : squares a w h (ix2 r l) = ∑ k : Fin 4096, result a w h (ix2 r k) * result a w h (ix2 r k) := by
  unfold squares
  generalize result a w h = o
  pointwise

end Cert.DownRefIdeal.Run

end
-- ==== Proof.DownRun.lean ====
/-
  THE CHANNEL MIXER, DOWN: the run, block by block.
-/
module

public import proofs.«01_k».proof.Proof.DownBody
public import proofs.«01_k».proof.Proof.DownRef
public import Idealize.ShloMosaic.Lib.Claim

@[expose] public section

set_option maxRecDepth 16384

noncomputable section

namespace Cert.DownIdeal.Run

open Idealize.ShloMosaic Idealize.ShloMosaic.TcCoe Idealize.SL.Sem
open Cert.DownIdeal Cert.DownIdeal.Gen Cert.DownIdeal.Value Cert.Rows

/-- A rank-2 index is the pair of its coordinates. -/
theorem pair {a b : ℕ} (i : (Shape.mk 2 ![a, b]).Idx) : ∃ (r : Fin a) (c : Fin b), i = ix2 r c := ⟨i 0, i 1, (ix2_eta i).symm⟩

variable (m : (ℓ : Loc nD τ sig) → Buf (Elt Ideal) ℓ)

/-- The left factor, cast. -/
def narrowA (a : FVec Ideal S16384x16384 .f32) : FVec Ideal S16384x16384 .bf16 := truncf .bf16 a bitsLt_bf16_f32
/-- The weights, cast. -/
def narrowW (w : FVec Ideal S16384x4096 .f32) : FVec Ideal S16384x4096 .bf16 := truncf .bf16 w bitsLt_bf16_f32
/-- The gains, as a row. -/
def gains (g : FVec Ideal S4096 .f32) : FVec Ideal S1x4096 .f32 := shapeCast S1x4096 g shapeCasts_S4096_S1x4096

theorem gains_apply (g : FVec Ideal S4096 .f32) (k : Fin 4096) : gains g (ix2 0 k) = g (ix1 k) := by
  unfold gains
  pointwise

theorem V_v0 (c : Dev nD) : V m c main_v0 = narrowA (m ((c : Thread nD τ).loc main_arg0)) := by
  unfold_abbrev_sides
  after_results
  rfl
theorem V_v1 (c : Dev nD) : V m c main_v1 = narrowW (m ((c : Thread nD τ).loc main_arg1)) := by
  unfold_abbrev_sides
  after_results
  rfl
theorem V_v2 (c : Dev nD) : V m c main_v2 = gains (m ((c : Thread nD τ).loc main_arg3)) := by
  unfold_abbrev_sides
  after_results
  rfl

/-! ## The windows -/

theorem points (t : Fin cfg0.N) : t.val < 256 := t.isLt.trans_eq N_0

theorem index0 : ∀ t : Fin cfg0.N, win0_0.index t (0 : Fin 2) = t.val / 16 ∧ win0_0.index t (1 : Fin 2) = t.val % 4 :=
  (by decide +kernel : ∀ t : Fin grid0.N, _)

theorem block0 (c : Dev nD) (t : Fin cfg0.N) (r : Fin 1024) (k : Fin 4096) : iblk m c 0 t (ix2 r k)
    = V m c main_v0 (ix2 ⟨1024 * (t.val / 16) + r.val, by have := points t; omega⟩ ⟨4096 * (t.val % 4) + k.val, by have := points t; omega⟩) := by
  obtain ⟨e0, e1⟩ := index0 t
  show V m c main_v0 (((cfg0.win 0).blk t).view.emb (ix2 r k)) = _
  congr 1
  funext a; apply Fin.ext
  match a with
  | ⟨0, _⟩ => show win0_0.index t (0 : Fin 2) * 1024 + 1 * r.val = 1024 * (t.val / 16) + r.val; omega
  | ⟨1, _⟩ => show win0_0.index t (1 : Fin 2) * 4096 + 1 * k.val = 4096 * (t.val % 4) + k.val; omega

theorem index1 : ∀ t : Fin cfg0.N, win0_1.index t (0 : Fin 2) = t.val % 4 ∧ win0_1.index t (1 : Fin 2) = t.val / 4 % 4 :=
  (by decide +kernel : ∀ t : Fin grid0.N, _)

theorem block1 (c : Dev nD) (t : Fin cfg0.N) (r : Fin 4096) (k : Fin 1024) : iblk m c 1 t (ix2 r k)
    = V m c main_v1 (ix2 ⟨4096 * (t.val % 4) + r.val, by have := points t; omega⟩ ⟨1024 * (t.val / 4 % 4) + k.val, by have := points t; omega⟩) := by
  obtain ⟨e0, e1⟩ := index1 t
  show V m c main_v1 (((cfg0.win 1).blk t).view.emb (ix2 r k)) = _
  congr 1
  funext a; apply Fin.ext
  match a with
  | ⟨0, _⟩ => show win0_1.index t (0 : Fin 2) * 4096 + 1 * r.val = 4096 * (t.val % 4) + r.val; omega
  | ⟨1, _⟩ => show win0_1.index t (1 : Fin 2) * 1024 + 1 * k.val = 1024 * (t.val / 4 % 4) + k.val; omega

theorem index2 : ∀ t : Fin cfg0.N, win0_2.index t (0 : Fin 2) = t.val / 16 ∧ win0_2.index t (1 : Fin 2) = t.val / 4 % 4 :=
  (by decide +kernel : ∀ t : Fin grid0.N, _)

theorem block2 (c : Dev nD) (t : Fin cfg0.N) (r : Fin 1024) (k : Fin 1024) : iblk m c 2 t (ix2 r k)
    = V m c main_arg2 (ix2 ⟨1024 * (t.val / 16) + r.val, by have := points t; omega⟩ ⟨1024 * (t.val / 4 % 4) + k.val, by have := points t; omega⟩) := by
  obtain ⟨e0, e1⟩ := index2 t
  show V m c main_arg2 (((cfg0.win 2).blk t).view.emb (ix2 r k)) = _
  congr 1
  funext a; apply Fin.ext
  match a with
  | ⟨0, _⟩ => show win0_2.index t (0 : Fin 2) * 1024 + 1 * r.val = 1024 * (t.val / 16) + r.val; omega
  | ⟨1, _⟩ => show win0_2.index t (1 : Fin 2) * 1024 + 1 * k.val = 1024 * (t.val / 4 % 4) + k.val; omega

theorem index3 : ∀ t : Fin cfg0.N, win0_3.index t (0 : Fin 2) = 0 ∧ win0_3.index t (1 : Fin 2) = t.val / 4 % 4 :=
  (by decide +kernel : ∀ t : Fin grid0.N, _)

theorem block3 (c : Dev nD) (t : Fin cfg0.N) (r : Fin 1) (k : Fin 1024) : iblk m c 3 t (ix2 r k)
    = V m c main_v2 (ix2 0 ⟨1024 * (t.val / 4 % 4) + k.val, by have := points t; omega⟩) := by
  obtain ⟨e0, e1⟩ := index3 t
  show V m c main_v2 (((cfg0.win 3).blk t).view.emb (ix2 r k)) = _
  congr 1
  funext a; apply Fin.ext
  match a with
  | ⟨0, _⟩ => show win0_3.index t (0 : Fin 2) * 1 + 1 * r.val = 0; omega
  | ⟨1, _⟩ => show win0_3.index t (1 : Fin 2) * 1024 + 1 * k.val = 1024 * (t.val / 4 % 4) + k.val; omega

theorem index4 : ∀ t : Fin cfg0.N, win0_4.index t (0 : Fin 2) = t.val / 16 ∧ win0_4.index t (1 : Fin 2) = t.val / 4 % 4 :=
  (by decide +kernel : ∀ t : Fin grid0.N, _)

theorem emb4 (t : Fin cfg0.N) (r : Fin 1024) (k : Fin 1024) : ((cfg0.win 4).blk t).view.emb (ix2 r k)
    = ix2 ⟨1024 * (t.val / 16) + r.val, by have := points t; omega⟩ ⟨1024 * (t.val / 4 % 4) + k.val, by have := points t; omega⟩ := by
  obtain ⟨e0, e1⟩ := index4 t
  funext a; apply Fin.ext
  match a with
  | ⟨0, _⟩ => show win0_4.index t (0 : Fin 2) * 1024 + 1 * r.val = 1024 * (t.val / 16) + r.val; omega
  | ⟨1, _⟩ => show win0_4.index t (1 : Fin 2) * 1024 + 1 * k.val = 1024 * (t.val / 4 % 4) + k.val; omega

theorem index5 : ∀ t : Fin cfg0.N, win0_5.index t (0 : Fin 2) = t.val / 16 ∧ win0_5.index t (1 : Fin 2) = t.val / 4 % 4 :=
  (by decide +kernel : ∀ t : Fin grid0.N, _)

theorem emb5 (t : Fin cfg0.N) (r : Fin 1024) (k : Fin 1024) : ((cfg0.win 5).blk t).view.emb (ix2 r k)
    = ix2 ⟨1024 * (t.val / 16) + r.val, by have := points t; omega⟩ ⟨1024 * (t.val / 4 % 4) + k.val, by have := points t; omega⟩ := by
  obtain ⟨e0, e1⟩ := index5 t
  funext a; apply Fin.ext
  match a with
  | ⟨0, _⟩ => show win0_5.index t (0 : Fin 2) * 1024 + 1 * r.val = 1024 * (t.val / 16) + r.val; omega
  | ⟨1, _⟩ => show win0_5.index t (1 : Fin 2) * 1024 + 1 * k.val = 1024 * (t.val / 4 % 4) + k.val; omega

theorem index6 : ∀ t : Fin cfg0.N, win0_6.index t (0 : Fin 2) = t.val / 16 ∧ win0_6.index t (1 : Fin 2) = 0 :=
  (by decide +kernel : ∀ t : Fin grid0.N, _)

theorem emb6 (t : Fin cfg0.N) (r : Fin 1024) (k : Fin 128) : ((cfg0.win 6).blk t).view.emb (ix2 r k)
    = ix2 ⟨1024 * (t.val / 16) + r.val, by have := points t; omega⟩ ⟨k.val, by have := points t; omega⟩ := by
  obtain ⟨e0, e1⟩ := index6 t
  funext a; apply Fin.ext
  match a with
  | ⟨0, _⟩ => show win0_6.index t (0 : Fin 2) * 1024 + 1 * r.val = 1024 * (t.val / 16) + r.val; omega
  | ⟨1, _⟩ => show win0_6.index t (1 : Fin 2) * 128 + 1 * k.val = k.val; omega

variable (c : Dev nD)

/-! ## What the body leaves, point by point -/

/-- The first of four: the residual's block and the first block of the product. -/
theorem first (n : ℕ) (hn : n < cfg0.N) (h : n % 4 = 0) :
    (outsAt0 m c n hn).1 = k0_pay1 (iblk m c 2 ⟨n, hn⟩) (iblk m c 0 ⟨n, hn⟩) (iblk m c 1 ⟨n, hn⟩) := by
  have e := congrArg Prod.fst (outsAt0_A m c ⟨n, hn⟩ h (by dsimp only; omega) (by dsimp only; omega))
  dsimp only at e
  rw [outA4] at e
  exact e

/-- The next two: one block more. -/
theorem next (n : ℕ) (hn : n + 1 < cfg0.N) (h : 1 ≤ (n + 1) % 4 ∧ (n + 1) % 4 ≤ 2) :
    (outsAt0 m c (n + 1) hn).1 = k0_pay2 (outsAt0 m c n (by omega)).1 (iblk m c 0 ⟨n + 1, hn⟩) (iblk m c 1 ⟨n + 1, hn⟩) := by
  have e := congrArg Prod.fst (outsAt0_B m c ⟨n + 1, hn⟩ (by dsimp only; omega) h (by dsimp only; omega))
  dsimp only at e
  rw [outB4] at e
  exact e

/-- The last: one block more … -/
theorem last (n : ℕ) (hn : n + 1 < cfg0.N) (h : (n + 1) % 4 = 3) :
    (outsAt0 m c (n + 1) hn).1 = k0_pay4 (outsAt0 m c n (by omega)).1 (iblk m c 0 ⟨n + 1, hn⟩) (iblk m c 1 ⟨n + 1, hn⟩) := by
  by_cases h3 : (n + 1) / 4 % 4 = 0
  · have e := congrArg Prod.fst (outsAt0_C m c ⟨n + 1, hn⟩ (by dsimp only; omega) (by dsimp only; omega) h h3 (by dsimp only; omega))
    dsimp only at e
    rw [outC4] at e
    exact e
  · have e := congrArg Prod.fst (outsAt0_D m c ⟨n + 1, hn⟩ (by dsimp only; omega) (by dsimp only; omega) h h3 (by dsimp only; omega))
    dsimp only at e
    rw [outD4] at e
    exact e

/-- … and the whole times the gains … -/
theorem last_gained (n : ℕ) (hn : n + 1 < cfg0.N) (h : (n + 1) % 4 = 3) :
    (outsAt0 m c (n + 1) hn).2.1 = k0_pay5 (outsAt0 m c n (by omega)).1 (iblk m c 0 ⟨n + 1, hn⟩) (iblk m c 1 ⟨n + 1, hn⟩) (iblk m c 3 ⟨n + 1, hn⟩) := by
  by_cases h3 : (n + 1) / 4 % 4 = 0
  · have e := congrArg (fun p => p.2.1) (outsAt0_C m c ⟨n + 1, hn⟩ (by dsimp only; omega) (by dsimp only; omega) h h3 (by dsimp only; omega))
    dsimp only at e
    rw [outC5] at e
    exact e
  · have e := congrArg (fun p => p.2.1) (outsAt0_D m c ⟨n + 1, hn⟩ (by dsimp only; omega) (by dsimp only; omega) h h3 (by dsimp only; omega))
    dsimp only at e
    rw [outD5] at e
    exact e

/-- … and its squares' sums, at a row's first block … -/
theorem last_squares (n : ℕ) (hn : n + 1 < cfg0.N) (h : (n + 1) % 4 = 3) (h3 : (n + 1) / 4 % 4 = 0) :
    (outsAt0 m c (n + 1) hn).2.2 = k0_pay6 (outsAt0 m c n (by omega)).1 (iblk m c 0 ⟨n + 1, hn⟩) (iblk m c 1 ⟨n + 1, hn⟩) := by
  have e := congrArg (fun p => p.2.2) (outsAt0_C m c ⟨n + 1, hn⟩ (by dsimp only; omega) (by dsimp only; omega) h h3 (by dsimp only; omega))
  dsimp only at e
  rw [outC6] at e
  exact e

/-- … which a later block adds to. -/
theorem last_add (n : ℕ) (hn : n + 1 < cfg0.N) (h : (n + 1) % 4 = 3) (h3 : ¬(n + 1) / 4 % 4 = 0) :
    (outsAt0 m c (n + 1) hn).2.2 = k0_pay3 (k0_pay6 (outsAt0 m c n (by omega)).1 (iblk m c 0 ⟨n + 1, hn⟩) (iblk m c 1 ⟨n + 1, hn⟩)) (outsAt0 m c n (by omega)).2.2 := by
  have e := congrArg (fun p => p.2.2) (outsAt0_D m c ⟨n + 1, hn⟩ (by dsimp only; omega) (by dsimp only; omega) h h3 (by dsimp only; omega))
  dsimp only at e
  rw [outD6] at e
  exact e

/-- In between the sums stay. -/
theorem keep (n n' : ℕ) (en : n' = n + 1) (hn : n' < cfg0.N) (h : ¬n' % 4 = 3) : (outsAt0 m c n' hn).2.2 = (outsAt0 m c n (by omega)).2.2 := by
  subst en
  by_cases h0 : (n + 1) % 4 = 0
  · exact congrArg (fun p => p.2.2) (outsAt0_A m c ⟨n + 1, hn⟩ h0 (by dsimp only; omega) h)
  · exact congrArg (fun p => p.2.2) (outsAt0_B m c ⟨n + 1, hn⟩ h0 (by dsimp only; omega) h)

/-! ## Four blocks make the product -/

section Arrays

variable {a : FVec Ideal S16384x16384 .f32} {w : FVec Ideal S16384x4096 .f32} {h : FVec Ideal S16384x4096 .f32} {g : FVec Ideal S4096 .f32}
  (ea : m ((c : Thread nD τ).loc main_arg0) = a) (ew : m ((c : Thread nD τ).loc main_arg1) = w) (eh : m ((c : Thread nD τ).loc main_arg2) = h) (eg : m ((c : Thread nD τ).loc main_arg3) = g)

/-- A block of the product. -/
def part (a : FVec Ideal S16384x16384 .f32) (w : FVec Ideal S16384x4096 .f32) (r : Fin 16384) (e : Fin 4096) (k : Fin 4) : EReal :=
  ∑ x : Fin 4096, a (ix2 r ⟨4096 * k.val + x.val, by omega⟩) * w (ix2 ⟨4096 * k.val + x.val, by omega⟩ e)

/-- The entry's row and column in the whole array. -/
def row (q : ℕ) (hq : q < 64) (r : Fin 1024) : Fin 16384 := ⟨1024 * (q / 4) + r.val, by omega⟩
def col (q : ℕ) (e : Fin 1024) : Fin 4096 := ⟨1024 * (q % 4) + e.val, by omega⟩

include ea ew in
theorem part_eq (q : ℕ) (hq : q < 64) (k : Fin 4) (n : ℕ) (hn : n < cfg0.N) (en : n = 4 * q + k.val) (r e : Fin 1024)
    (x0 : Vec Ideal S1024x4096 .bf16) (x1 : Vec Ideal S4096x1024 .bf16) (h0 : x0 = iblk m c 0 ⟨n, hn⟩) (h1 : x1 = iblk m c 1 ⟨n, hn⟩) :
    ∑ x : Fin 4096, x0 (ix2 r x) * x1 (ix2 x e) = part a w (row q hq r) (col q e) k := by
  refine Finset.sum_congr rfl fun x _ => ?_
  have hk := k.isLt
  have e1 : n / 16 = q / 4 := by omega
  have e2 : n % 4 = k.val := by omega
  have e3 : n / 4 % 4 = q % 4 := by omega
  rw [h0, h1, block0, block1, V_v0, V_v1, ea, ew]
  show a _ * w _ = a _ * w _
  simp only [row, col, e1, e2, e3]

theorem bound (q : ℕ) (hq : q < 64) (k : ℕ) (hk : k < 4) : 4 * q + k < cfg0.N := by rw [show cfg0.N = _ from N_0]; omega

include ea ew eh in
/-- What the last of the four leaves is the reference's block. -/
theorem whole (q : ℕ) (hq : q < 64) (r e : Fin 1024) :
    (outsAt0 m c (4 * q + 3) (bound q hq 3 (by omega))).1 (ix2 r e) = Cert.DownRefIdeal.Run.result a w h (ix2 (row q hq r) (col q e)) := by
  rw [last m c (4 * q + 2) _ (by omega), pay4_apply, next m c (4 * q + 1) _ (by omega), pay2_apply, next m c (4 * q) _ (by omega), pay2_apply,
    first m c (4 * q) _ (by omega), pay1_apply,
    part_eq m c ea ew q hq 3 (4 * q + 2 + 1) _ rfl r e _ _ rfl rfl, part_eq m c ea ew q hq 2 (4 * q + 1 + 1) _ rfl r e _ _ rfl rfl,
    part_eq m c ea ew q hq 1 (4 * q + 1) _ rfl r e _ _ rfl rfl, part_eq m c ea ew q hq 0 (4 * q) _ rfl r e _ _ rfl rfl,
    Cert.DownRefIdeal.Run.result_apply, sum_blocks 4 4096 16384 rfl, Fin.sum_univ_four]
  have e2 : iblk m c 2 ⟨4 * q, bound q hq 0 (by omega)⟩ (ix2 r e) = h (ix2 (row q hq r) (col q e)) := by
    have h1 : 4 * q / 16 = q / 4 := by omega
    have h3 : 4 * q / 4 % 4 = q % 4 := by omega
    rw [block2, V_main_arg2, eh]
    simp only [row, col, h1, h3]
  rw [e2]
  simp only [add_assoc]
  rfl

include ea ew eh eg in
theorem whole_gained (q : ℕ) (hq : q < 64) (r e : Fin 1024) :
    (outsAt0 m c (4 * q + 3) (bound q hq 3 (by omega))).2.1 (ix2 r e) = Cert.DownRefIdeal.Run.gained a w h g (ix2 (row q hq r) (col q e)) := by
  rw [last_gained m c (4 * q + 2) _ (by omega), pay5_apply, ← last m c (4 * q + 2) _ (by omega), whole m c ea ew eh q hq r e, Cert.DownRefIdeal.Run.gained_apply]
  congr 1
  have h3 : (4 * q + 2 + 1) / 4 % 4 = q % 4 := by omega
  rw [block3, V_v2, eg, gains_apply]
  simp only [col, h3]

/-- A block's sum of squares. -/
def squared (a : FVec Ideal S16384x16384 .f32) (w : FVec Ideal S16384x4096 .f32) (h : FVec Ideal S16384x4096 .f32) (r : Fin 16384) (j : Fin 4) : EReal :=
  ∑ x : Fin 1024, Cert.DownRefIdeal.Run.result a w h (ix2 r ⟨1024 * j.val + x.val, by omega⟩) * Cert.DownRefIdeal.Run.result a w h (ix2 r ⟨1024 * j.val + x.val, by omega⟩)

include ea ew eh in
theorem squared_eq (q : ℕ) (hq : q < 64) (j : Fin 4) (hj : q % 4 = j.val) (r : Fin 1024) (l : Fin 128) :
    k0_pay6 (outsAt0 m c (4 * q + 2) (bound q hq 2 (by omega))).1 (iblk m c 0 ⟨4 * q + 2 + 1, bound q hq 3 (by omega)⟩) (iblk m c 1 ⟨4 * q + 2 + 1, bound q hq 3 (by omega)⟩) (ix2 r l)
      = squared a w h (row q hq r) j := by
  rw [pay6_apply]
  refine Finset.sum_congr rfl fun x _ => ?_
  rw [← last m c (4 * q + 2) _ (by omega), whole m c ea ew eh q hq r x]
  simp only [col, hj]

include ea ew eh in
theorem sums0 (p : ℕ) (hp : p < 16) (r : Fin 1024) (l : Fin 128) :
    (outsAt0 m c (4 * (4 * p) + 3) (bound _ (by omega) 3 (by omega))).2.2 (ix2 r l) = squared a w h (row (4 * p) (by omega) r) 0 := by
  rw [last_squares m c (4 * (4 * p) + 2) _ (by omega) (by omega)]
  exact squared_eq m c ea ew eh (4 * p) (by omega) 0 (by show _ = 0; omega) r l

include ea ew eh in
theorem sums_next (q : ℕ) (hq : q + 1 < 64) (j : Fin 4) (hj : (q + 1) % 4 = j.val) (h0 : j.val ≠ 0) (r : Fin 1024) (l : Fin 128) :
    (outsAt0 m c (4 * (q + 1) + 3) (bound _ hq 3 (by omega))).2.2 (ix2 r l)
      = (outsAt0 m c (4 * q + 3) (bound q (by omega) 3 (by omega))).2.2 (ix2 r l) + squared a w h (row (q + 1) hq r) j := by
  rw [last_add m c (4 * (q + 1) + 2) _ (by omega) (by omega), pay3_apply]
  refine congr (congrArg _ ?_) (squared_eq m c ea ew eh (q + 1) hq j hj r l)
  rw [keep m c (4 * q + 5) (4 * (q + 1) + 2) (by omega) _ (by omega), keep m c (4 * q + 4) (4 * q + 5) rfl _ (by omega),
    keep m c (4 * q + 3) (4 * q + 4) rfl _ (by omega)]

include ea ew eh in
theorem sums (p : ℕ) (hp : p < 16) (r : Fin 1024) (l : Fin 128) :
    (outsAt0 m c (16 * p + 15) (by rw [show cfg0.N = _ from N_0]; omega)).2.2 (ix2 r l) = Cert.DownRefIdeal.Run.squares a w h (ix2 ⟨1024 * p + r.val, by omega⟩ l) := by
  have e3 := sums_next m c ea ew eh (4 * p + 2) (by omega) 3 (by show _ = 3; omega) (by decide) r l
  have e2 := sums_next m c ea ew eh (4 * p + 1) (by omega) 2 (by show _ = 2; omega) (by decide) r l
  have e1 := sums_next m c ea ew eh (4 * p) (by omega) 1 (by show _ = 1; omega) (by decide) r l
  have hr : ∀ (j : ℕ) (hj : j < 4), row (4 * p + j) (by omega) r = (⟨1024 * p + r.val, by omega⟩ : Fin 16384) := fun j hj => Fin.ext (by unfold row; dsimp only; omega)
  rw [show _ = _ from hr 3 (by omega)] at e3
  rw [show _ = _ from hr 2 (by omega)] at e2
  rw [show _ = _ from hr 1 (by omega), sums0 m c ea ew eh p hp r l, show row (4 * p) (by omega) r = _ from hr 0 (by omega)] at e1
  have hn : 16 * p + 15 = 4 * (4 * p + 2 + 1) + 3 := by omega
  have same : ∀ (n n' : ℕ) (_ : n = n') (h1 : n < cfg0.N) (h2 : n' < cfg0.N), outsAt0 m c n h1 = outsAt0 m c n' h2 := fun n n' en _ _ => by subst en; rfl
  rw [same _ _ hn _ (bound _ (by omega) 3 (by omega)), e3, e2, e1, Cert.DownRefIdeal.Run.squares_apply, sum_blocks 4 1024 4096 rfl, Fin.sum_univ_four]
  rfl

end Arrays

/-! ## What each point writes back -/

variable (t : Fin cfg0.N)

theorem flushed4_eq (ht : t.val % 4 = 3) : (dats m 0 c).flushed 4 t = ((cfg0.win 4).blk t).view.read (Elt Ideal) (Cert.DownRefIdeal.Run.result (m ((c : Thread nD τ).loc main_arg0)) (m ((c : Thread nD τ).loc main_arg1)) (m ((c : Thread nD τ).loc main_arg2))) := by
  rw [flushed4]
  funext j
  obtain ⟨r, e, rfl⟩ : ∃ (r : Fin 1024) (e : Fin 1024), j = ix2 r e := pair j
  show (outsAt0 m c t.val t.isLt).1 (ix2 r e) = Cert.DownRefIdeal.Run.result _ _ _ (((cfg0.win 4).blk t).view.emb (ix2 r e))
  obtain ⟨n, hn⟩ := t
  obtain ⟨q, rfl⟩ : ∃ q, n = 4 * q + 3 := ⟨n / 4, by dsimp only at ht; omega⟩
  have hq : q < 64 := by have := points ⟨_, hn⟩; dsimp only at this; omega
  rw [emb4]
  refine (whole m c rfl rfl rfl q hq r e).trans (congrArg _ ?_)
  have h1 : (4 * q + 3) / 16 = q / 4 := by omega
  have h3 : (4 * q + 3) / 4 % 4 = q % 4 := by omega
  simp only [row, col, h1, h3]

theorem flushed5_eq (ht : t.val % 4 = 3) : (dats m 0 c).flushed 5 t = ((cfg0.win 5).blk t).view.read (Elt Ideal) (Cert.DownRefIdeal.Run.gained (m ((c : Thread nD τ).loc main_arg0)) (m ((c : Thread nD τ).loc main_arg1)) (m ((c : Thread nD τ).loc main_arg2)) (m ((c : Thread nD τ).loc main_arg3))) := by
  rw [flushed5]
  funext j
  obtain ⟨r, e, rfl⟩ : ∃ (r : Fin 1024) (e : Fin 1024), j = ix2 r e := pair j
  show (outsAt0 m c t.val t.isLt).2.1 (ix2 r e) = Cert.DownRefIdeal.Run.gained _ _ _ _ (((cfg0.win 5).blk t).view.emb (ix2 r e))
  obtain ⟨n, hn⟩ := t
  obtain ⟨q, rfl⟩ : ∃ q, n = 4 * q + 3 := ⟨n / 4, by dsimp only at ht; omega⟩
  have hq : q < 64 := by have := points ⟨_, hn⟩; dsimp only at this; omega
  rw [emb5]
  refine (whole_gained m c rfl rfl rfl rfl q hq r e).trans (congrArg _ ?_)
  have h1 : (4 * q + 3) / 16 = q / 4 := by omega
  have h3 : (4 * q + 3) / 4 % 4 = q % 4 := by omega
  simp only [row, col, h1, h3]

theorem flushed6_eq (ht : t.val % 16 = 15) : (dats m 0 c).flushed 6 t = ((cfg0.win 6).blk t).view.read (Elt Ideal) (Cert.DownRefIdeal.Run.squares (m ((c : Thread nD τ).loc main_arg0)) (m ((c : Thread nD τ).loc main_arg1)) (m ((c : Thread nD τ).loc main_arg2))) := by
  rw [flushed6]
  funext j
  obtain ⟨r, e, rfl⟩ : ∃ (r : Fin 1024) (e : Fin 128), j = ix2 r e := pair j
  show (outsAt0 m c t.val t.isLt).2.2 (ix2 r e) = Cert.DownRefIdeal.Run.squares _ _ _ (((cfg0.win 6).blk t).view.emb (ix2 r e))
  obtain ⟨n, hn⟩ := t
  obtain ⟨p, rfl⟩ : ∃ p, n = 16 * p + 15 := ⟨n / 16, by dsimp only at ht; omega⟩
  have hp : p < 16 := by have := points ⟨_, hn⟩; dsimp only at this; omega
  rw [emb6]
  refine (sums m c rfl rfl rfl p hp r e).trans (congrArg _ ?_)
  have h1 : (16 * p + 15) / 16 = p := by omega
  simp only [h1]

/-- Every place of the array is in the block of some point. -/
theorem covered4 (j : S16384x4096.Idx) : ∃ t : Fin cfg0.N, (cfg0.win 4).flush t = true ∧ j ∈ ((cfg0.win 4).blk t).view.set := by
  obtain ⟨r, e, rfl⟩ := pair j
  have hr := r.isLt
  have he := e.isLt
  have hN : r.val / 1024 * 16 + e.val / 1024 * 4 + 3 < cfg0.N := by rw [show cfg0.N = _ from N_0]; omega
  have hm := ((cfg0.win 4).blk ⟨_, hN⟩).view.emb_mem_set (ix2 (⟨r.val % 1024, by omega⟩ : Fin 1024) (⟨e.val % 1024, by omega⟩ : Fin 1024))
  rw [emb4] at hm
  have e0 : (⟨1024 * ((r.val / 1024 * 16 + e.val / 1024 * 4 + 3) / 16) + r.val % 1024, by omega⟩ : Fin 16384) = r := Fin.ext (by dsimp only; omega)
  have e1 : (⟨1024 * ((r.val / 1024 * 16 + e.val / 1024 * 4 + 3) / 4 % 4) + e.val % 1024, by omega⟩ : Fin 4096) = e := Fin.ext (by dsimp only; omega)
  have hi := congrArg₂ (fun a b => (ix2 a b : S16384x4096.Idx)) e0 e1
  exact ⟨⟨_, hN⟩, (flush0_4 _).mpr (by dsimp only; omega), Eq.mp (congrArg (fun i => i ∈ ((cfg0.win 4).blk ⟨_, hN⟩).view.set) hi) hm⟩

/-- Every place of the array is in the block of some point. -/
theorem covered5 (j : S16384x4096.Idx) : ∃ t : Fin cfg0.N, (cfg0.win 5).flush t = true ∧ j ∈ ((cfg0.win 5).blk t).view.set := by
  obtain ⟨r, e, rfl⟩ := pair j
  have hr := r.isLt
  have he := e.isLt
  have hN : r.val / 1024 * 16 + e.val / 1024 * 4 + 3 < cfg0.N := by rw [show cfg0.N = _ from N_0]; omega
  have hm := ((cfg0.win 5).blk ⟨_, hN⟩).view.emb_mem_set (ix2 (⟨r.val % 1024, by omega⟩ : Fin 1024) (⟨e.val % 1024, by omega⟩ : Fin 1024))
  rw [emb5] at hm
  have e0 : (⟨1024 * ((r.val / 1024 * 16 + e.val / 1024 * 4 + 3) / 16) + r.val % 1024, by omega⟩ : Fin 16384) = r := Fin.ext (by dsimp only; omega)
  have e1 : (⟨1024 * ((r.val / 1024 * 16 + e.val / 1024 * 4 + 3) / 4 % 4) + e.val % 1024, by omega⟩ : Fin 4096) = e := Fin.ext (by dsimp only; omega)
  have hi := congrArg₂ (fun a b => (ix2 a b : S16384x4096.Idx)) e0 e1
  exact ⟨⟨_, hN⟩, (flush0_5 _).mpr (by dsimp only; omega), Eq.mp (congrArg (fun i => i ∈ ((cfg0.win 5).blk ⟨_, hN⟩).view.set) hi) hm⟩

/-- Every place of the array is in the block of some point. -/
theorem covered6 (j : S16384x128.Idx) : ∃ t : Fin cfg0.N, (cfg0.win 6).flush t = true ∧ j ∈ ((cfg0.win 6).blk t).view.set := by
  obtain ⟨r, e, rfl⟩ := pair j
  have hr := r.isLt
  have he := e.isLt
  have hN : r.val / 1024 * 16 + 15 < cfg0.N := by rw [show cfg0.N = _ from N_0]; omega
  have hm := ((cfg0.win 6).blk ⟨_, hN⟩).view.emb_mem_set (ix2 (⟨r.val % 1024, by omega⟩ : Fin 1024) (⟨e.val % 128, by omega⟩ : Fin 128))
  rw [emb6] at hm
  have e0 : (⟨1024 * ((r.val / 1024 * 16 + 15) / 16) + r.val % 1024, by omega⟩ : Fin 16384) = r := Fin.ext (by dsimp only; omega)
  have e1 : (⟨e.val % 128, by omega⟩ : Fin 128) = e := Fin.ext (by dsimp only; omega)
  have hi := congrArg₂ (fun a b => (ix2 a b : S16384x128.Idx)) e0 e1
  exact ⟨⟨_, hN⟩, (flush0_6 _).mpr (by dsimp only; omega), Eq.mp (congrArg (fun i => i ∈ ((cfg0.win 6).blk ⟨_, hN⟩).view.set) hi) hm⟩

theorem final4 : (dats m 0 c).arrAt 4 cfg0.N = Cert.DownRefIdeal.Run.result (m ((c : Thread nD τ).loc main_arg0)) (m ((c : Thread nD τ).loc main_arg1)) (m ((c : Thread nD τ).loc main_arg2)) :=
  (dats m 0 c).arrAt_eq_of_cover 4 _ (fun t hf => flushed4_eq m c t ((flush0_4 t).mp hf)) covered4
theorem final5 : (dats m 0 c).arrAt 5 cfg0.N = Cert.DownRefIdeal.Run.gained (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t hf => flushed5_eq m c t ((flush0_5 t).mp hf)) covered5
theorem final6 : (dats m 0 c).arrAt 6 cfg0.N = Cert.DownRefIdeal.Run.squares (m ((c : Thread nD τ).loc main_arg0)) (m ((c : Thread nD τ).loc main_arg1)) (m ((c : Thread nD τ).loc main_arg2)) :=
  (dats m 0 c).arrAt_eq_of_cover 6 _ (fun t hf => flushed6_eq m c t ((flush0_6 t).mp hf)) covered6

end Cert.DownIdeal.Run

end
-- ==== Proof.DownClaims.lean ====
/-
  The claims about the channel mixer, down.
-/
module

public import proofs.«01_k».proof.Defs
public import proofs.«01_k».proof.Proof.DownRun
public import proofs.«01_k».proof.Proof.Gen.Down.Frame
public import Idealize.ShloMosaic.Lib.Quiescent

@[expose] public section

set_option maxRecDepth 16384

noncomputable section

namespace Cert.Down.Claims

open Idealize.ShloMosaic Idealize.ShloMosaic.TcCoe Idealize.SL.Sem
open Cert.Rows

theorem frame_kernel : Cert.quiescent_Down := fun m ρ _ => Cert.Down.Gen.frame m ρ
theorem frame_ideal : Cert.quiescent_DownIdeal := fun m ρ _ => Cert.DownIdeal.Gen.frame m ρ
theorem frame_reference : Cert.quiescent_DownRefIdeal := fun m ρ _ =>
  (θ_run Cert.DownRefIdeal.defs _ _).mono (fun r h => ⟨fun c => (h c).2.2.2, Idealize.ShloMosaic.sem_eq_zero_of_no_sems (by decide) r.2⟩)
    (Cert.DownRefIdeal.Value.run (F := Ideal) m ρ)

theorem preserves : Cert.preserves_Down_DownIdeal := trivial

/-- The kernel and the reference end with the same results. -/
theorem algebraic : Cert.algebraic_DownIdeal_DownRefIdeal := by
  intro m ρ m' ρ' _ hagree
  refine ⟨fun c => Cert.DownRefIdeal.Run.result (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)), fun c => Cert.DownRefIdeal.Run.gained (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)), fun c => Cert.DownRefIdeal.Run.squares (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)),
    (θ_run Cert.DownIdeal.defs _ _).mono (fun _ h c => ⟨(h c).1.trans (Cert.DownIdeal.Run.final4 m c), (h c).2.1.trans (Cert.DownIdeal.Run.final5 m c), (h c).2.2.1.trans (Cert.DownIdeal.Run.final6 m c), (h c).2.2.2⟩)
      (Cert.DownIdeal.Value.run_blocks (F := Ideal) m ρ), ?_⟩
  refine (θ_run Cert.DownRefIdeal.defs _ _).mono (fun _ h c => ⟨(h c).1.trans ?_, (h c).2.1.trans ?_, (h c).2.2.1.trans ?_, (h c).2.2.2⟩)
    (Cert.DownRefIdeal.Value.run (F := Ideal) m' ρ')
  · show Cert.DownRefIdeal.Run.result (m' ((c.tc : Thread Cert.DownRefIdeal.nD Cert.DownRefIdeal.τ).loc Cert.DownRefIdeal.main_arg0)) (m' ((c.tc : Thread Cert.DownRefIdeal.nD Cert.DownRefIdeal.τ).loc Cert.DownRefIdeal.main_arg1)) (m' ((c.tc : Thread Cert.DownRefIdeal.nD Cert.DownRefIdeal.τ).loc Cert.DownRefIdeal.main_arg2)) = _
    rw [(hagree c).1, (hagree c).2.1, (hagree c).2.2.1]
  · show Cert.DownRefIdeal.Run.gained (m' ((c.tc : Thread Cert.DownRefIdeal.nD Cert.DownRefIdeal.τ).loc Cert.DownRefIdeal.main_arg0)) (m' ((c.tc : Thread Cert.DownRefIdeal.nD Cert.DownRefIdeal.τ).loc Cert.DownRefIdeal.main_arg1)) (m' ((c.tc : Thread Cert.DownRefIdeal.nD Cert.DownRefIdeal.τ).loc Cert.DownRefIdeal.main_arg2)) (m' ((c.tc : Thread Cert.DownRefIdeal.nD Cert.DownRefIdeal.τ).loc Cert.DownRefIdeal.main_arg3)) = _
    rw [(hagree c).1, (hagree c).2.1, (hagree c).2.2.1, (hagree c).2.2.2]
  · show Cert.DownRefIdeal.Run.squares (m' ((c.tc : Thread Cert.DownRefIdeal.nD Cert.DownRefIdeal.τ).loc Cert.DownRefIdeal.main_arg0)) (m' ((c.tc : Thread Cert.DownRefIdeal.nD Cert.DownRefIdeal.τ).loc Cert.DownRefIdeal.main_arg1)) (m' ((c.tc : Thread Cert.DownRefIdeal.nD Cert.DownRefIdeal.τ).loc Cert.DownRefIdeal.main_arg2)) = _
    rw [(hagree c).1, (hagree c).2.1, (hagree c).2.2.1]

end Cert.Down.Claims

end
-- ==== Proof.QkvPay.lean ====
/-
  THE PROJECTION BEFORE ATTENTION: the values the body stores, entry by entry.
-/
module

public import proofs.«01_k».proof.Proof.Gen.QkvIdeal.Skeleton
public import proofs.«01_k».proof.Proof.Rows
public import Idealize.ShloMosaic.Lib.Pointwise

@[expose] public section

set_option maxRecDepth 16384

noncomputable section

namespace Cert.QkvIdeal.Run

open Idealize.ShloMosaic Idealize.ShloMosaic.TcCoe Idealize.SL.Sem
open Cert.QkvIdeal Cert.QkvIdeal.Gen Cert.Rows

theorem pay2_apply (v4 : Vec Ideal S1024x4096 .bf16) (v6 : Vec Ideal S4096x1024 .bf16) (v9 : Vec Ideal S1024x128 .f32) (v18 : Vec Ideal S1x1024 .f32) (r c : Fin 1024) :
    k0_pay2 v4 v6 v9 v18 (ix2 r c) = (∑ k : Fin 4096, v4 (ix2 r k) * v6 (ix2 k c)) * rms (v9 (ix2 r ⟨c.val % 128, by omega⟩)) * v18 (ix2 0 c) := by
  unfold k0_pay2
  pointwise
  have e := pick8 (fun l => Ideal.rsqrt (v9 (ix2 r l) * Ideal.ofBits .f32 0x39800000#32 + Ideal.ofBits .f32 0x358637BD#32)) c
  rw [e, rms_def]

end Cert.QkvIdeal.Run

end
-- ==== Proof.QkvRef.lean ====
/-
  THE ATTENTION'S PROJECTIONS: the reference, entry by entry.
-/
module

public import proofs.«01_k».proof.Proof.Gen.QkvRefIdeal.Run
public import proofs.«01_k».proof.Proof.Rows
public import Idealize.ShloMosaic.Lib.Pointwise

@[expose] public section

set_option maxRecDepth 16384

noncomputable section

namespace Cert.QkvRefIdeal.Run

open Idealize.ShloMosaic Idealize.ShloMosaic.TcCoe Idealize.SL.Sem
open Cert.QkvRefIdeal Cert.QkvRefIdeal.Gen Cert.Rows

/-- The normed rows times the weights. -/
def product (h : FVec Ideal S16384x4096 .f32) (g : FVec Ideal S4096 .f32) (w : FVec Ideal S4096x12288 .f32) : FVec Ideal S16384x12288 .f32 :=
  Host.dotGeneral (F := Ideal) dot_S16384x4096_S4096x12288_S16384x12288_1_0_0_1_n_n none
    (mulf (mulf h (broadcastInDim S16384x4096 ![0, 1] bcast_S16384x1_S16384x4096_0_1 (Host.rsqrt (addf (Host.divf (broadcastInDim S16384x1 ![0] bcast_S16384_S16384x1_0
      (Host.reduceAdd (mulf h h) (constant S_ .f32 0x00000000#32) reducesTo_S16384x4096_S16384_d1 h_S_)) (broadcastInDim S16384x1 ![] bcast_S_S16384x1 (constant S_ .f32 0x45800000#32)))
      (broadcastInDim S16384x1 ![] bcast_S_S16384x1 (constant S_ .f32 0x358637BD#32))))))
      (broadcastInDim S16384x4096 ![0, 1] bcast_S1x4096_S16384x4096_0_1 (broadcastInDim S1x4096 ![1] bcast_S4096_S1x4096_1 g))) w

/-- The first result: the product's columns, each times its factor. -/
def result (h : FVec Ideal S16384x4096 .f32) (g : FVec Ideal S4096 .f32) (w : FVec Ideal S4096x12288 .f32) (q : FVec Ideal S12288 .f32) : FVec Ideal S16384x12288 .bf16 :=
  truncf .bf16 (mulf (product h g w) (broadcastInDim S16384x12288 ![0, 1] bcast_S1x12288_S16384x12288_0_1 (broadcastInDim S1x12288 ![1] bcast_S12288_S1x12288_1 q))) bitsLt_bf16_f32

/-- The second: a layer of the weights up. -/
def up (x : FVec Ideal S4x4096x16384 .f32) : FVec Ideal S4096x16384 .bf16 :=
  truncf .bf16 (shapeCast S4096x16384 (extractStridedSlice S1x4096x16384 ![1, 0, 0] x slices_S4x4096x16384_S1x4096x16384_1_0_0) shapeCasts_S1x4096x16384_S4096x16384) bitsLt_bf16_f32

variable (h : FVec Ideal S16384x4096 .f32) (g : FVec Ideal S4096 .f32) (w : FVec Ideal S4096x12288 .f32)

theorem product_apply (r : Fin 16384) (c : Fin 12288) : product h g w (ix2 r c)
    = ∑ k : Fin 4096, h (ix2 r k) * rms (∑ k : Fin 4096, h (ix2 r k) * h (ix2 r k)) * g (ix1 k) * w (ix2 k c) := by
  unfold product
  pointwise
  simp only [rms_div]

theorem result_apply (q : FVec Ideal S12288 .f32) (r : Fin 16384) (c : Fin 12288) : result h g w q (ix2 r c) = product h g w (ix2 r c) * q (ix1 c) := by
  unfold result
  generalize product h g w = p
  pointwise

theorem up_apply (x : FVec Ideal S4x4096x16384 .f32) (r : Fin 4096) (k : Fin 16384) : up x (ix2 r k) = x (ix3 1 r k) := by
  unfold up
  pointwise

end Cert.QkvRefIdeal.Run

end
-- ==== Proof.QkvRun.lean ====
/-
  THE ATTENTION'S PROJECTIONS: the run, block by block.
-/
module

public import proofs.«01_k».proof.Proof.QkvPay
public import proofs.«01_k».proof.Proof.QkvRef
public import proofs.«01_k».proof.Proof.Gen.QkvIdeal.Value
public import Idealize.ShloMosaic.Lib.Claim

@[expose] public section

set_option maxRecDepth 16384

noncomputable section

namespace Cert.QkvIdeal.Run

open Idealize.ShloMosaic Idealize.ShloMosaic.TcCoe Idealize.SL.Sem
open Cert.QkvIdeal Cert.QkvIdeal.Gen Cert.QkvIdeal.Value Cert.Rows

/-- A rank-2 index is the pair of its coordinates. -/
theorem pair {a b : ℕ} (i : (Shape.mk 2 ![a, b]).Idx) : ∃ (r : Fin a) (c : Fin b), i = ix2 r c := ⟨i 0, i 1, (ix2_eta i).symm⟩

/-- The corner of a block. -/
theorem corner : (![0, 0] : Fin 2 → ℕ) = fun _ => 0 := by decide
theorem corner3 : (![0, 0, 0] : Fin 3 → ℕ) = fun _ => 0 := by decide

variable (m : (ℓ : Loc nD τ sig) → Buf (Elt Ideal) ℓ)

/-- The rows times the gains. -/
def gained (h : FVec Ideal S16384x4096 .f32) (g : FVec Ideal S4096 .f32) : FVec Ideal S16384x4096 .bf16 :=
  truncf .bf16 (mulf h (broadcastInDim S16384x4096 ![0, 1] bcast_S1x4096_S16384x4096_0_1 (broadcastInDim S1x4096 ![1] bcast_S4096_S1x4096_1 g))) bitsLt_bf16_f32

/-- The rows' sums of squares, on every lane. -/
def squares (h : FVec Ideal S16384x4096 .f32) : FVec Ideal S16384x128 .f32 :=
  broadcastInDim S16384x128 ![0, 1] bcast_S16384x1_S16384x128_0_1 (broadcastInDim S16384x1 ![0] bcast_S16384_S16384x1_0
    (Host.reduceAdd (mulf h h) (constant S_ .f32 0x00000000#32) reducesTo_S16384x4096_S16384_d1 h_S_))

theorem gained_apply (h : FVec Ideal S16384x4096 .f32) (g : FVec Ideal S4096 .f32) (r : Fin 16384) (k : Fin 4096) :
    gained h g (ix2 r k) = h (ix2 r k) * g (ix1 k) := by
  unfold gained
  pointwise

theorem squares_apply (h : FVec Ideal S16384x4096 .f32) (r : Fin 16384) (l : Fin 128) :
    squares h (ix2 r l) = ∑ k : Fin 4096, h (ix2 r k) * h (ix2 r k) := by
  unfold squares
  pointwise

/-- The weights, cast. -/
def narrow (w : FVec Ideal S4096x12288 .f32) : FVec Ideal S4096x12288 .bf16 := truncf .bf16 w bitsLt_bf16_f32

theorem V_v6 (c : Dev nD) : V m c main_v6 = gained (m ((c : Thread nD τ).loc main_arg0)) (m ((c : Thread nD τ).loc main_arg1)) := by
  unfold_abbrev_sides
  after_results
  rfl
theorem V_v7 (c : Dev nD) : V m c main_v7 = squares (m ((c : Thread nD τ).loc main_arg0)) := by
  unfold_abbrev_sides
  after_results
  rfl
theorem V_v8 (c : Dev nD) : V m c main_v8 = narrow (m ((c : Thread nD τ).loc main_arg2)) := by
  unfold_abbrev_sides
  after_results
  rfl

/-- The factors, as a row. -/
def factors (q : FVec Ideal S12288 .f32) : FVec Ideal S1x12288 .f32 := shapeCast S1x12288 q shapeCasts_S12288_S1x12288

theorem factors_apply (q : FVec Ideal S12288 .f32) (k : Fin 12288) : factors q (ix2 0 k) = q (ix1 k) := by
  unfold factors
  pointwise

theorem V_v9 (c : Dev nD) : V m c main_v9 = factors (m ((c : Thread nD τ).loc main_arg3)) := by
  unfold_abbrev_sides
  after_results
  rfl

/-! ## The windows -/

theorem points (t : Fin cfg0.N) : t.val < 192 := t.isLt.trans_eq N_0

/-- Two points in three write a block of the weights. -/
theorem flush6_eq : ∀ t : Fin cfg0.N, t.val % 3 ≠ 0 → (cfg0.win 6).flush t = true :=
  (by decide +kernel : ∀ t : Fin grid0.N, _)

theorem index0 : ∀ t : Fin cfg0.N, win0_0.index t (0 : Fin 2) = t.val / 12 ∧ win0_0.index t (1 : Fin 2) = 0 :=
  (by decide +kernel : ∀ t : Fin grid0.N, _)

theorem block0 (c : Dev nD) (t : Fin cfg0.N) (r : Fin 1024) (k : Fin 4096) : iblk m c 0 t (ix2 r k)
    = V m c main_v6 (ix2 ⟨1024 * (t.val / 12) + r.val, by have := points t; omega⟩ ⟨k.val, by have := points t; omega⟩) := by
  obtain ⟨e0, e1⟩ := index0 t
  show V m c main_v6 (((cfg0.win 0).blk t).view.emb (ix2 r k)) = _
  congr 1
  funext a; apply Fin.ext
  match a with
  | ⟨0, _⟩ => show win0_0.index t (0 : Fin 2) * 1024 + 1 * r.val = 1024 * (t.val / 12) + r.val; omega
  | ⟨1, _⟩ => show win0_0.index t (1 : Fin 2) * 4096 + 1 * k.val = k.val; omega

theorem index1 : ∀ t : Fin cfg0.N, win0_1.index t (0 : Fin 2) = 0 ∧ win0_1.index t (1 : Fin 2) = t.val % 12 :=
  (by decide +kernel : ∀ t : Fin grid0.N, _)

theorem block1 (c : Dev nD) (t : Fin cfg0.N) (r : Fin 4096) (k : Fin 1024) : iblk m c 1 t (ix2 r k)
    = V m c main_v8 (ix2 ⟨r.val, by have := points t; omega⟩ ⟨1024 * (t.val % 12) + k.val, by have := points t; omega⟩) := by
  obtain ⟨e0, e1⟩ := index1 t
  show V m c main_v8 (((cfg0.win 1).blk t).view.emb (ix2 r k)) = _
  congr 1
  funext a; apply Fin.ext
  match a with
  | ⟨0, _⟩ => show win0_1.index t (0 : Fin 2) * 4096 + 1 * r.val = r.val; omega
  | ⟨1, _⟩ => show win0_1.index t (1 : Fin 2) * 1024 + 1 * k.val = 1024 * (t.val % 12) + k.val; omega

theorem index2 : ∀ t : Fin cfg0.N, win0_2.index t (0 : Fin 2) = t.val / 12 ∧ win0_2.index t (1 : Fin 2) = 0 :=
  (by decide +kernel : ∀ t : Fin grid0.N, _)

theorem block2 (c : Dev nD) (t : Fin cfg0.N) (r : Fin 1024) (k : Fin 128) : iblk m c 2 t (ix2 r k)
    = V m c main_v7 (ix2 ⟨1024 * (t.val / 12) + r.val, by have := points t; omega⟩ ⟨k.val, by have := points t; omega⟩) := by
  obtain ⟨e0, e1⟩ := index2 t
  show V m c main_v7 (((cfg0.win 2).blk t).view.emb (ix2 r k)) = _
  congr 1
  funext a; apply Fin.ext
  match a with
  | ⟨0, _⟩ => show win0_2.index t (0 : Fin 2) * 1024 + 1 * r.val = 1024 * (t.val / 12) + r.val; omega
  | ⟨1, _⟩ => show win0_2.index t (1 : Fin 2) * 128 + 1 * k.val = k.val; omega

theorem index3 : ∀ t : Fin cfg0.N, win0_3.index t (0 : Fin 2) = 0 ∧ win0_3.index t (1 : Fin 2) = t.val % 12 :=
  (by decide +kernel : ∀ t : Fin grid0.N, _)

theorem block3 (c : Dev nD) (t : Fin cfg0.N) (r : Fin 1) (k : Fin 1024) : iblk m c 3 t (ix2 r k)
    = V m c main_v9 (ix2 0 ⟨1024 * (t.val % 12) + k.val, by have := points t; omega⟩) := by
  obtain ⟨e0, e1⟩ := index3 t
  show V m c main_v9 (((cfg0.win 3).blk t).view.emb (ix2 r k)) = _
  congr 1
  funext a; apply Fin.ext
  match a with
  | ⟨0, _⟩ => show win0_3.index t (0 : Fin 2) * 1 + 1 * r.val = 0; omega
  | ⟨1, _⟩ => show win0_3.index t (1 : Fin 2) * 1024 + 1 * k.val = 1024 * (t.val % 12) + k.val; omega

theorem index4 : ∀ t : Fin cfg0.N, win0_4.index t (0 : Fin 3) = 1 ∧ win0_4.index t (1 : Fin 3) = t.val * 2 / 3 ∧ win0_4.index t (2 : Fin 3) = 0 :=
  (by decide +kernel : ∀ t : Fin grid0.N, _)

theorem block4 (c : Dev nD) (t : Fin cfg0.N) (r : Fin 1) (k : Fin 32) (l : Fin 16384) : iblk m c 4 t (ix3 r k l)
    = V m c main_arg4 (ix3 1 ⟨32 * (t.val * 2 / 3) + k.val, by have := points t; omega⟩ ⟨l.val, by have := points t; omega⟩) := by
  obtain ⟨e0, e1, e2⟩ := index4 t
  show V m c main_arg4 (((cfg0.win 4).blk t).view.emb (ix3 r k l)) = _
  congr 1
  funext a; apply Fin.ext
  match a with
  | ⟨0, _⟩ => show win0_4.index t (0 : Fin 3) * 1 + 1 * r.val = 1; omega
  | ⟨1, _⟩ => show win0_4.index t (1 : Fin 3) * 32 + 1 * k.val = 32 * (t.val * 2 / 3) + k.val; omega
  | ⟨2, _⟩ => show win0_4.index t (2 : Fin 3) * 16384 + 1 * l.val = l.val; omega

theorem index5 : ∀ t : Fin cfg0.N, win0_5.index t (0 : Fin 2) = t.val / 12 ∧ win0_5.index t (1 : Fin 2) = t.val % 12 :=
  (by decide +kernel : ∀ t : Fin grid0.N, _)

theorem emb5 (t : Fin cfg0.N) (r : Fin 1024) (k : Fin 1024) : ((cfg0.win 5).blk t).view.emb (ix2 r k)
    = ix2 ⟨1024 * (t.val / 12) + r.val, by have := points t; omega⟩ ⟨1024 * (t.val % 12) + k.val, by have := points t; omega⟩ := by
  obtain ⟨e0, e1⟩ := index5 t
  funext a; apply Fin.ext
  match a with
  | ⟨0, _⟩ => show win0_5.index t (0 : Fin 2) * 1024 + 1 * r.val = 1024 * (t.val / 12) + r.val; omega
  | ⟨1, _⟩ => show win0_5.index t (1 : Fin 2) * 1024 + 1 * k.val = 1024 * (t.val % 12) + k.val; omega

theorem index6 : ∀ t : Fin cfg0.N, win0_6.index t (0 : Fin 2) = t.val * 2 / 3 ∧ win0_6.index t (1 : Fin 2) = 0 :=
  (by decide +kernel : ∀ t : Fin grid0.N, _)

theorem emb6 (t : Fin cfg0.N) (r : Fin 32) (k : Fin 16384) : ((cfg0.win 6).blk t).view.emb (ix2 r k)
    = ix2 ⟨32 * (t.val * 2 / 3) + r.val, by have := points t; omega⟩ ⟨k.val, by have := points t; omega⟩ := by
  obtain ⟨e0, e1⟩ := index6 t
  funext a; apply Fin.ext
  match a with
  | ⟨0, _⟩ => show win0_6.index t (0 : Fin 2) * 32 + 1 * r.val = 32 * (t.val * 2 / 3) + r.val; omega
  | ⟨1, _⟩ => show win0_6.index t (1 : Fin 2) * 16384 + 1 * k.val = k.val; omega

variable (c : Dev nD) (t : Fin cfg0.N)

/-- What a point writes back of the first result is its block of the reference's. -/
theorem flushed5_eq (h : FVec Ideal S16384x4096 .f32) (g : FVec Ideal S4096 .f32) (w : FVec Ideal S4096x12288 .f32) (q : FVec Ideal S12288 .f32)
    (eh : m ((c : Thread nD τ).loc main_arg0) = h) (eg : m ((c : Thread nD τ).loc main_arg1) = g) (ew : m ((c : Thread nD τ).loc main_arg2) = w) (eq : m ((c : Thread nD τ).loc main_arg3) = q) :
    (dats m 0 c).flushed 5 t = ((cfg0.win 5).blk t).view.read (Elt Ideal) (Cert.QkvRefIdeal.Run.result h g w q) := by
  rw [flushed5]
  funext j
  obtain ⟨r, e, rfl⟩ : ∃ (r : Fin 1024) (e : Fin 1024), j = ix2 r e := pair j
  show out0_5 (iblk m c 0 t) (iblk m c 1 t) (iblk m c 2 t) (iblk m c 3 t) (iblk m c 4 t) (ix2 r e)
    = Cert.QkvRefIdeal.Run.result h g w q (((cfg0.win 5).blk t).view.emb (ix2 r e))
  unfold out0_5
  rw [View.canon_unit_zero corner, View.ld_unit_zero corner, View.ld_unit_zero corner, View.ld_unit_zero corner, View.ld_unit_zero corner, pay2_apply]
  have e0 : ∀ k : Fin 4096, iblk m c 0 t (ix2 r k) = h (ix2 ⟨1024 * (t.val / 12) + r.val, by have := points t; omega⟩ k) * g (ix1 k) := fun k => by
    rw [block0, V_v6, eh, eg]; exact gained_apply h g _ k
  have e1 : ∀ k : Fin 4096, iblk m c 1 t (ix2 k e) = w (ix2 k ⟨1024 * (t.val % 12) + e.val, by omega⟩) := fun k => by
    rw [block1, V_v8, ew]; rfl
  have e2 : iblk m c 2 t (ix2 r (⟨e.val % 128, by omega⟩ : Fin 128)) = ∑ k : Fin 4096, h (ix2 ⟨1024 * (t.val / 12) + r.val, by have := points t; omega⟩ k)
      * h (ix2 ⟨1024 * (t.val / 12) + r.val, by have := points t; omega⟩ k) := by
    rw [block2, V_v7, eh]; exact squares_apply h _ _
  have e3 : iblk m c 3 t (ix2 0 e) = q (ix1 ⟨1024 * (t.val % 12) + e.val, by omega⟩) := by
    rw [block3, V_v9, eq]; exact factors_apply q _
  rw [emb5, Cert.QkvRefIdeal.Run.result_apply, Cert.QkvRefIdeal.Run.product_apply, e2, e3]
  simp only [e0, e1]
  rw [normed_product _ _ _ (squares_nonneg _)]

theorem flushed6_eq (x : FVec Ideal S4x4096x16384 .f32) (ex : m ((c : Thread nD τ).loc main_arg4) = x) :
    (dats m 0 c).flushed 6 t = ((cfg0.win 6).blk t).view.read (Elt Ideal) (Cert.QkvRefIdeal.Run.up x) := by
  rw [flushed6]
  funext j
  obtain ⟨r, e, rfl⟩ : ∃ (r : Fin 32) (e : Fin 16384), j = ix2 r e := pair j
  show out0_6 (iblk m c 0 t) (iblk m c 1 t) (iblk m c 2 t) (iblk m c 3 t) (iblk m c 4 t) (ix2 r e)
    = Cert.QkvRefIdeal.Run.up x (((cfg0.win 6).blk t).view.emb (ix2 r e))
  unfold out0_6
  rw [View.ld_unit_zero corner3, canon6_eq, emb6, Cert.QkvRefIdeal.Run.up_apply]
  show iblk m c 4 t (ix6_0 (ix2 r e)) = _
  rw [← ex, ← V_main_arg4 m c]
  refine Eq.trans (congrArg (iblk m c 4 t) (?_ : _ = ix3 (0 : Fin 1) r e)) (block4 m c t 0 r e)
  funext a
  match a with
  | ⟨0, _⟩ => rfl
  | ⟨1, _⟩ => rfl
  | ⟨2, _⟩ => rfl

/-- Every place of the array is in the block of some point. -/
theorem covered5 (j : S16384x12288.Idx) : ∃ t : Fin cfg0.N, (cfg0.win 5).flush t = true ∧ j ∈ ((cfg0.win 5).blk t).view.set := by
  obtain ⟨r, e, rfl⟩ := pair j
  have hr := r.isLt
  have he := e.isLt
  have hN : r.val / 1024 * 12 + e.val / 1024 < cfg0.N := by rw [show cfg0.N = _ from N_0]; omega
  have hm := ((cfg0.win 5).blk ⟨_, hN⟩).view.emb_mem_set (ix2 (⟨r.val % 1024, by omega⟩ : Fin 1024) (⟨e.val % 1024, by omega⟩ : Fin 1024))
  rw [emb5] at hm
  have e0 : (⟨1024 * ((r.val / 1024 * 12 + e.val / 1024) / 12) + r.val % 1024, by omega⟩ : Fin 16384) = r := Fin.ext (by dsimp only; omega)
  have e1 : (⟨1024 * ((r.val / 1024 * 12 + e.val / 1024) % 12) + e.val % 1024, by omega⟩ : Fin 12288) = e := Fin.ext (by dsimp only; omega)
  have hi := congrArg₂ (fun a b => (ix2 a b : S16384x12288.Idx)) e0 e1
  exact ⟨⟨_, hN⟩, flush0_5 _, Eq.mp (congrArg (fun i => i ∈ ((cfg0.win 5).blk ⟨_, hN⟩).view.set) hi) hm⟩

/-- Every place of the array is in the block of some point. -/
theorem covered6 (j : S4096x16384.Idx) : ∃ t : Fin cfg0.N, (cfg0.win 6).flush t = true ∧ j ∈ ((cfg0.win 6).blk t).view.set := by
  obtain ⟨r, e, rfl⟩ := pair j
  have hr := r.isLt
  have he := e.isLt
  have hN : r.val / 32 / 2 * 3 + 1 + r.val / 32 % 2 < cfg0.N := by rw [show cfg0.N = _ from N_0]; omega
  have hm := ((cfg0.win 6).blk ⟨_, hN⟩).view.emb_mem_set (ix2 (⟨r.val % 32, by omega⟩ : Fin 32) (⟨e.val % 16384, by omega⟩ : Fin 16384))
  rw [emb6] at hm
  have e0 : (⟨32 * ((r.val / 32 / 2 * 3 + 1 + r.val / 32 % 2) * 2 / 3) + r.val % 32, by omega⟩ : Fin 4096) = r := Fin.ext (by dsimp only; omega)
  have e1 : (⟨e.val % 16384, by omega⟩ : Fin 16384) = e := Fin.ext (by dsimp only; omega)
  have hi := congrArg₂ (fun a b => (ix2 a b : S4096x16384.Idx)) e0 e1
  exact ⟨⟨_, hN⟩, flush6_eq _ (by dsimp only; omega), Eq.mp (congrArg (fun i => i ∈ ((cfg0.win 6).blk ⟨_, hN⟩).view.set) hi) hm⟩

theorem final5 : (dats m 0 c).arrAt 5 cfg0.N = Cert.QkvRefIdeal.Run.result (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t _ => flushed5_eq m c t _ _ _ _ rfl rfl rfl rfl) covered5
theorem final6 : (dats m 0 c).arrAt 6 cfg0.N = Cert.QkvRefIdeal.Run.up (m ((c : Thread nD τ).loc main_arg4)) :=
  (dats m 0 c).arrAt_eq_of_cover 6 _ (fun t _ => flushed6_eq m c t _ rfl) covered6

end Cert.QkvIdeal.Run

end
-- ==== Proof.QkvClaims.lean ====
/-
  The claims about the attention's projections.
-/
module

public import proofs.«01_k».proof.Defs
public import proofs.«01_k».proof.Proof.QkvRun
public import proofs.«01_k».proof.Proof.Gen.Qkv.Frame
public import Idealize.ShloMosaic.Lib.Quiescent

@[expose] public section

set_option maxRecDepth 16384

noncomputable section

namespace Cert.Qkv.Claims

open Idealize.ShloMosaic Idealize.ShloMosaic.TcCoe Idealize.SL.Sem
open Cert.Rows

theorem frame_kernel : Cert.quiescent_Qkv := fun m ρ _ => Cert.Qkv.Gen.frame m ρ
theorem frame_ideal : Cert.quiescent_QkvIdeal := fun m ρ _ => Cert.QkvIdeal.Gen.frame m ρ
theorem frame_reference : Cert.quiescent_QkvRefIdeal := fun m ρ _ =>
  (θ_run Cert.QkvRefIdeal.defs _ _).mono (fun r h => ⟨fun c => (h c).2.2, Idealize.ShloMosaic.sem_eq_zero_of_no_sems (by decide) r.2⟩)
    (Cert.QkvRefIdeal.Value.run (F := Ideal) m ρ)

theorem preserves : Cert.preserves_Qkv_QkvIdeal := trivial

/-- The kernel and the reference end with the same results. -/
theorem algebraic : Cert.algebraic_QkvIdeal_QkvRefIdeal := by
  intro m ρ m' ρ' _ hagree
  refine ⟨fun c => Cert.QkvRefIdeal.Run.result (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)), fun c => Cert.QkvRefIdeal.Run.up (m ((c.tc : Thread Cert.QkvIdeal.nD Cert.QkvIdeal.τ).loc Cert.QkvIdeal.main_arg4)),
    (θ_run Cert.QkvIdeal.defs _ _).mono (fun _ h c => ⟨(h c).1.trans (Cert.QkvIdeal.Run.final5 m c), (h c).2.1.trans (Cert.QkvIdeal.Run.final6 m c), (h c).2.2⟩)
      (Cert.QkvIdeal.Value.run_blocks (F := Ideal) m ρ), ?_⟩
  refine (θ_run Cert.QkvRefIdeal.defs _ _).mono (fun _ h c => ⟨(h c).1.trans ?_, (h c).2.1.trans ?_, (h c).2.2⟩)
    (Cert.QkvRefIdeal.Value.run (F := Ideal) m' ρ')
  · show Cert.QkvRefIdeal.Run.result (m' ((c.tc : Thread Cert.QkvRefIdeal.nD Cert.QkvRefIdeal.τ).loc Cert.QkvRefIdeal.main_arg0)) (m' ((c.tc : Thread Cert.QkvRefIdeal.nD Cert.QkvRefIdeal.τ).loc Cert.QkvRefIdeal.main_arg1)) (m' ((c.tc : Thread Cert.QkvRefIdeal.nD Cert.QkvRefIdeal.τ).loc Cert.QkvRefIdeal.main_arg2)) (m' ((c.tc : Thread Cert.QkvRefIdeal.nD Cert.QkvRefIdeal.τ).loc Cert.QkvRefIdeal.main_arg3)) = _
    rw [(hagree c).1, (hagree c).2.1, (hagree c).2.2.1, (hagree c).2.2.2.1]
  · show Cert.QkvRefIdeal.Run.up (m' ((c.tc : Thread Cert.QkvRefIdeal.nD Cert.QkvRefIdeal.τ).loc Cert.QkvRefIdeal.main_arg4)) = _
    rw [(hagree c).2.2.2.2]

end Cert.Qkv.Claims

end
-- ==== Proof.GatePay.lean ====
/-
  THE GATED EMBEDDING: the values the body stores, entry by entry.
-/
module

public import proofs.«01_k».proof.Proof.Gen.GateIdeal.Skeleton
public import proofs.«01_k».proof.Proof.Rows
public import Idealize.ShloMosaic.Lib.Pointwise

@[expose] public section

set_option maxRecDepth 16384

noncomputable section

namespace Cert.GateIdeal.Run

open Idealize.ShloMosaic Idealize.ShloMosaic.TcCoe Idealize.SL.Sem
open Cert.GateIdeal Cert.GateIdeal.Gen Cert.Rows

theorem pay2_apply (v0 : Vec Ideal S1x1024x256 .f32) (v3 : Vec Ideal S1x256x512 .bf16) (v6 : Vec Ideal S1024x128 .f32) (v15 : Vec Ideal S1x512 .f32) (r : Fin 1024) (c : Fin 512) :
    k0_pay2 v0 v3 v6 v15 (ix2 r c) = (∑ k : Fin 256, v0 (ix3 0 r k) * v3 (ix3 0 k c)) * rms (v6 (ix2 r ⟨c.val % 128, by omega⟩)) * v15 (ix2 0 c) := by
  unfold k0_pay2
  pointwise
  have e := pick4 (fun l => Ideal.rsqrt (v6 (ix2 r l) * Ideal.ofBits .f32 0x39800000#32 + Ideal.ofBits .f32 0x358637BD#32)) c
  rw [e, rms_def]

theorem pay3_apply (v19 : Vec Ideal S1024x4096 .bf16) (v21 : Vec Ideal S4096x512 .bf16) (v24 : Vec Ideal S1024x128 .f32) (r : Fin 1024) (c : Fin 512) :
    k0_pay3 v19 v21 v24 (ix2 r c) = (∑ k : Fin 4096, v19 (ix2 r k) * v21 (ix2 k c)) * rms (v24 (ix2 r ⟨c.val % 128, by omega⟩)) := by
  unfold k0_pay3
  pointwise
  have e := pick4 (fun l => Ideal.rsqrt (v24 (ix2 r l) * Ideal.ofBits .f32 0x39800000#32 + Ideal.ofBits .f32 0x358637BD#32)) c
  rw [e, rms_def]

theorem pay1_apply (v18 v32 : FVec Ideal S1024x512 .f32) (v33 : Vec Ideal S1024x512 .f32) (r : Fin 1024) (c : Fin 512) :
    k0_pay1 v18 v32 v33 (ix2 r c) = v33 (ix2 r c) + Ideal.logistic (v32 (ix2 r c)) * v18 (ix2 r c) := by
  unfold k0_pay1
  pointwise

end Cert.GateIdeal.Run

end
-- ==== Proof.GateRef.lean ====
/-
  THE GATED EMBEDDING: the reference, entry by entry.
-/
module

public import proofs.«01_k».proof.Proof.Gen.GateRefIdeal.Run
public import proofs.«01_k».proof.Proof.Rows
public import Idealize.ShloMosaic.Lib.Pointwise

@[expose] public section

set_option maxRecDepth 16384

noncomputable section

namespace Cert.GateRefIdeal.Run

open Idealize.ShloMosaic Idealize.ShloMosaic.TcCoe Idealize.SL.Sem
open Cert.GateRefIdeal Cert.GateRefIdeal.Gen Cert.Rows

/-- The normed rows times the weights. -/
def product (h : FVec Ideal S16384x4096 .f32) (g : FVec Ideal S4096 .f32) (w : FVec Ideal S4096x4096 .f32) : FVec Ideal S16384x4096 .f32 :=
  Host.dotGeneral (F := Ideal) dot_S16384x4096_S4096x4096_S16384x4096_1_0_0_1_n_n none
    (mulf (mulf h (broadcastInDim S16384x4096 ![0, 1] bcast_S16384x1_S16384x4096_0_1 (Host.rsqrt (addf (Host.divf (broadcastInDim S16384x1 ![0] bcast_S16384_S16384x1_0
      (Host.reduceAdd (mulf h h) (constant S_ .f32 0x00000000#32) reducesTo_S16384x4096_S16384_d1 h_S_)) (broadcastInDim S16384x1 ![] bcast_S_S16384x1 (constant S_ .f32 0x45800000#32)))
      (broadcastInDim S16384x1 ![] bcast_S_S16384x1 (constant S_ .f32 0x358637BD#32))))))
      (broadcastInDim S16384x4096 ![0, 1] bcast_S1x4096_S16384x4096_0_1 (broadcastInDim S1x4096 ![1] bcast_S4096_S1x4096_1 g))) w

/-- The embedding's rows times its weights, of one layer. -/
def embedded (p : FVec Ideal S4x16384x256 .f32) (v : FVec Ideal S4x256x4096 .f32) : FVec Ideal S16384x4096 .f32 :=
  Host.dotGeneral (F := Ideal) dot_S16384x256_S256x4096_S16384x4096_1_0_0_1_n_n none
    (shapeCast S16384x256 (extractStridedSlice S1x16384x256 ![3, 0, 0] p slices_S4x16384x256_S1x16384x256_3_0_0) shapeCasts_S1x16384x256_S16384x256)
    (shapeCast S256x4096 (extractStridedSlice S1x256x4096 ![3, 0, 0] v slices_S4x256x4096_S1x256x4096_3_0_0) shapeCasts_S1x256x4096_S256x4096)

/-- The rows normed. -/
def normed (h : FVec Ideal S16384x4096 .f32) (g : FVec Ideal S4096 .f32) : FVec Ideal S16384x4096 .f32 :=
  mulf (mulf h (broadcastInDim S16384x4096 ![0, 1] bcast_S16384x1_S16384x4096_0_1 (Host.rsqrt (addf (Host.divf (broadcastInDim S16384x1 ![0] bcast_S16384_S16384x1_0
      (Host.reduceAdd (mulf h h) (constant S_ .f32 0x00000000#32) reducesTo_S16384x4096_S16384_d1 h_S_)) (broadcastInDim S16384x1 ![] bcast_S_S16384x1 (constant S_ .f32 0x45800000#32)))
      (broadcastInDim S16384x1 ![] bcast_S_S16384x1 (constant S_ .f32 0x358637BD#32))))))
      (broadcastInDim S16384x4096 ![0, 1] bcast_S1x4096_S16384x4096_0_1 (broadcastInDim S1x4096 ![1] bcast_S4096_S1x4096_1 g))

/-- The result: the residual and the gated embedding. -/
def result (h : FVec Ideal S16384x4096 .f32) (p : FVec Ideal S4x16384x256 .f32) (v : FVec Ideal S4x256x4096 .f32) (b : FVec Ideal S4096 .f32) (g : FVec Ideal S4096 .f32) (w : FVec Ideal S4096x4096 .f32) : FVec Ideal S16384x4096 .f32 :=
  addf h (mulf (Host.divf (broadcastInDim S16384x4096 ![] bcast_S_S16384x4096 (constant S_ .f32 0x3F800000#32)) (addf (broadcastInDim S16384x4096 ![] bcast_S_S16384x4096 (constant S_ .f32 0x3F800000#32))
    (Host.exp (Host.negf (product h g w))))) (normed (embedded p v) b))

variable (h : FVec Ideal S16384x4096 .f32) (g : FVec Ideal S4096 .f32) (w : FVec Ideal S4096x4096 .f32)

theorem product_apply (r : Fin 16384) (c : Fin 4096) : product h g w (ix2 r c)
    = ∑ k : Fin 4096, h (ix2 r k) * rms (∑ k : Fin 4096, h (ix2 r k) * h (ix2 r k)) * g (ix1 k) * w (ix2 k c) := by
  unfold product
  pointwise
  simp only [rms_div]

theorem embedded_apply (p : FVec Ideal S4x16384x256 .f32) (v : FVec Ideal S4x256x4096 .f32) (r : Fin 16384) (c : Fin 4096) :
    embedded p v (ix2 r c) = ∑ k : Fin 256, p (ix3 3 r k) * v (ix3 3 k c) := by
  unfold embedded
  pointwise

theorem normed_apply (r : Fin 16384) (c : Fin 4096) : normed h g (ix2 r c)
    = h (ix2 r c) * rms (∑ k : Fin 4096, h (ix2 r k) * h (ix2 r k)) * g (ix1 c) := by
  unfold normed
  pointwise
  simp only [rms_div]

theorem result_apply (p : FVec Ideal S4x16384x256 .f32) (v : FVec Ideal S4x256x4096 .f32) (b : FVec Ideal S4096 .f32) (r : Fin 16384) (c : Fin 4096) :
    result h p v b g w (ix2 r c) = h (ix2 r c) + Ideal.logistic (product h g w (ix2 r c)) * normed (embedded p v) b (ix2 r c) := by
  unfold result
  generalize product h g w = o
  generalize normed (embedded p v) b = n
  pointwise
  rfl

end Cert.GateRefIdeal.Run

end
-- ==== Proof.GateRun.lean ====
/-
  THE GATED EMBEDDING: the run, block by block.
-/
module

public import proofs.«01_k».proof.Proof.GatePay
public import proofs.«01_k».proof.Proof.GateRef
public import proofs.«01_k».proof.Proof.Gen.GateIdeal.Value
public import Idealize.ShloMosaic.Lib.Claim

@[expose] public section

set_option maxRecDepth 16384

noncomputable section

namespace Cert.GateIdeal.Run

open Idealize.ShloMosaic Idealize.ShloMosaic.TcCoe Idealize.SL.Sem
open Cert.GateIdeal Cert.GateIdeal.Gen Cert.GateIdeal.Value Cert.Rows

/-- A rank-2 index is the pair of its coordinates. -/
theorem pair {a b : ℕ} (i : (Shape.mk 2 ![a, b]).Idx) : ∃ (r : Fin a) (c : Fin b), i = ix2 r c := ⟨i 0, i 1, (ix2_eta i).symm⟩

/-- The corner of a block. -/
theorem corner : (![0, 0] : Fin 2 → ℕ) = fun _ => 0 := by decide
theorem corner3 : (![0, 0, 0] : Fin 3 → ℕ) = fun _ => 0 := by decide

variable (m : (ℓ : Loc nD τ sig) → Buf (Elt Ideal) ℓ)

/-- The rows times the gains. -/
def gained (h : FVec Ideal S16384x4096 .f32) (g : FVec Ideal S4096 .f32) : FVec Ideal S16384x4096 .bf16 :=
  truncf .bf16 (mulf h (broadcastInDim S16384x4096 ![0, 1] bcast_S1x4096_S16384x4096_0_1 (broadcastInDim S1x4096 ![1] bcast_S4096_S1x4096_1 g))) bitsLt_bf16_f32

/-- The rows' sums of squares, on every lane. -/
def squares (h : FVec Ideal S16384x4096 .f32) : FVec Ideal S16384x128 .f32 :=
  broadcastInDim S16384x128 ![0, 1] bcast_S16384x1_S16384x128_0_1 (broadcastInDim S16384x1 ![0] bcast_S16384_S16384x1_0
    (Host.reduceAdd (mulf h h) (constant S_ .f32 0x00000000#32) reducesTo_S16384x4096_S16384_d1 h_S_))

theorem gained_apply (h : FVec Ideal S16384x4096 .f32) (g : FVec Ideal S4096 .f32) (r : Fin 16384) (k : Fin 4096) :
    gained h g (ix2 r k) = h (ix2 r k) * g (ix1 k) := by
  unfold gained
  pointwise

theorem squares_apply (h : FVec Ideal S16384x4096 .f32) (r : Fin 16384) (l : Fin 128) :
    squares h (ix2 r l) = ∑ k : Fin 4096, h (ix2 r k) * h (ix2 r k) := by
  unfold squares
  pointwise

/-- The weights, cast. -/
def narrow (w : FVec Ideal S4096x4096 .f32) : FVec Ideal S4096x4096 .bf16 := truncf .bf16 w bitsLt_bf16_f32

theorem V_v6 (c : Dev nD) : V m c main_v6 = gained (m ((c : Thread nD τ).loc main_arg0)) (m ((c : Thread nD τ).loc main_arg4)) := by
  unfold_abbrev_sides
  after_results
  rfl
theorem V_v7 (c : Dev nD) : V m c main_v7 = squares (m ((c : Thread nD τ).loc main_arg0)) := by
  unfold_abbrev_sides
  after_results
  rfl
theorem V_v19 (c : Dev nD) : V m c main_v19 = narrow (m ((c : Thread nD τ).loc main_arg5)) := by
  unfold_abbrev_sides
  after_results
  rfl

/-- The embedding's weights, cast. -/
def narrowE (v : FVec Ideal S4x256x4096 .f32) : FVec Ideal S4x256x4096 .bf16 := truncf .bf16 v bitsLt_bf16_f32

/-- The embedding's gains, as a row. -/
def gains (b : FVec Ideal S4096 .f32) : FVec Ideal S1x4096 .f32 := shapeCast S1x4096 b shapeCasts_S4096_S1x4096

/-- The embedding of the layer. -/
def embedded (p : FVec Ideal S4x16384x256 .f32) (v : FVec Ideal S4x256x4096 .f32) : FVec Ideal S16384x4096 .f32 :=
  Host.dotGeneral (F := Ideal) dot_S16384x256_S256x4096_S16384x4096_1_0_0_1_n_n none
    (truncf .bf16 (shapeCast S16384x256 (extractStridedSlice S1x16384x256 ![3, 0, 0] p slices_S4x16384x256_S1x16384x256_3_0_0) shapeCasts_S1x16384x256_S16384x256) bitsLt_bf16_f32)
    (shapeCast S256x4096 (extractStridedSlice S1x256x4096 ![3, 0, 0] (narrowE v) slices_S4x256x4096_S1x256x4096_3_0_0) shapeCasts_S1x256x4096_S256x4096)

theorem gains_apply (b : FVec Ideal S4096 .f32) (k : Fin 4096) : gains b (ix2 0 k) = b (ix1 k) := by
  unfold gains
  pointwise

theorem embedded_apply (p : FVec Ideal S4x16384x256 .f32) (v : FVec Ideal S4x256x4096 .f32) (r : Fin 16384) (c : Fin 4096) :
    embedded p v (ix2 r c) = ∑ k : Fin 256, p (ix3 3 r k) * v (ix3 3 k c) := by
  unfold embedded narrowE
  pointwise

theorem V_v8 (c : Dev nD) : V m c main_v8 = narrowE (m ((c : Thread nD τ).loc main_arg2)) := by
  unfold_abbrev_sides
  after_results
  rfl
theorem V_v20 (c : Dev nD) : V m c main_v20 = gains (m ((c : Thread nD τ).loc main_arg3)) := by
  unfold_abbrev_sides
  after_results
  rfl
theorem V_v18 (c : Dev nD) : V m c main_v18 = squares (embedded (m ((c : Thread nD τ).loc main_arg1)) (m ((c : Thread nD τ).loc main_arg2))) := by
  unfold_abbrev_sides
  after_results
  rfl

/-! ## The windows -/

theorem points (t : Fin cfg0.N) : t.val < 128 := t.isLt.trans_eq N_0

theorem index0 : ∀ t : Fin cfg0.N, win0_0.index t (0 : Fin 2) = t.val / 8 ∧ win0_0.index t (1 : Fin 2) = 0 :=
  (by decide +kernel : ∀ t : Fin grid0.N, _)

theorem block0 (c : Dev nD) (t : Fin cfg0.N) (r : Fin 1024) (k : Fin 4096) : iblk m c 0 t (ix2 r k)
    = V m c main_v6 (ix2 ⟨1024 * (t.val / 8) + r.val, by have := points t; omega⟩ ⟨k.val, by have := points t; omega⟩) := by
  obtain ⟨e0, e1⟩ := index0 t
  show V m c main_v6 (((cfg0.win 0).blk t).view.emb (ix2 r k)) = _
  congr 1
  funext a; apply Fin.ext
  match a with
  | ⟨0, _⟩ => show win0_0.index t (0 : Fin 2) * 1024 + 1 * r.val = 1024 * (t.val / 8) + r.val; omega
  | ⟨1, _⟩ => show win0_0.index t (1 : Fin 2) * 4096 + 1 * k.val = k.val; omega

theorem index1 : ∀ t : Fin cfg0.N, win0_1.index t (0 : Fin 2) = 0 ∧ win0_1.index t (1 : Fin 2) = t.val % 8 :=
  (by decide +kernel : ∀ t : Fin grid0.N, _)

theorem block1 (c : Dev nD) (t : Fin cfg0.N) (r : Fin 4096) (k : Fin 512) : iblk m c 1 t (ix2 r k)
    = V m c main_v19 (ix2 ⟨r.val, by have := points t; omega⟩ ⟨512 * (t.val % 8) + k.val, by have := points t; omega⟩) := by
  obtain ⟨e0, e1⟩ := index1 t
  show V m c main_v19 (((cfg0.win 1).blk t).view.emb (ix2 r k)) = _
  congr 1
  funext a; apply Fin.ext
  match a with
  | ⟨0, _⟩ => show win0_1.index t (0 : Fin 2) * 4096 + 1 * r.val = r.val; omega
  | ⟨1, _⟩ => show win0_1.index t (1 : Fin 2) * 512 + 1 * k.val = 512 * (t.val % 8) + k.val; omega

theorem index2 : ∀ t : Fin cfg0.N, win0_2.index t (0 : Fin 2) = t.val / 8 ∧ win0_2.index t (1 : Fin 2) = 0 :=
  (by decide +kernel : ∀ t : Fin grid0.N, _)

theorem block2 (c : Dev nD) (t : Fin cfg0.N) (r : Fin 1024) (k : Fin 128) : iblk m c 2 t (ix2 r k)
    = V m c main_v7 (ix2 ⟨1024 * (t.val / 8) + r.val, by have := points t; omega⟩ ⟨k.val, by have := points t; omega⟩) := by
  obtain ⟨e0, e1⟩ := index2 t
  show V m c main_v7 (((cfg0.win 2).blk t).view.emb (ix2 r k)) = _
  congr 1
  funext a; apply Fin.ext
  match a with
  | ⟨0, _⟩ => show win0_2.index t (0 : Fin 2) * 1024 + 1 * r.val = 1024 * (t.val / 8) + r.val; omega
  | ⟨1, _⟩ => show win0_2.index t (1 : Fin 2) * 128 + 1 * k.val = k.val; omega

theorem index3 : ∀ t : Fin cfg0.N, win0_3.index t (0 : Fin 2) = t.val / 8 ∧ win0_3.index t (1 : Fin 2) = t.val % 8 :=
  (by decide +kernel : ∀ t : Fin grid0.N, _)

theorem block3 (c : Dev nD) (t : Fin cfg0.N) (r : Fin 1024) (k : Fin 512) : iblk m c 3 t (ix2 r k)
    = V m c main_arg0 (ix2 ⟨1024 * (t.val / 8) + r.val, by have := points t; omega⟩ ⟨512 * (t.val % 8) + k.val, by have := points t; omega⟩) := by
  obtain ⟨e0, e1⟩ := index3 t
  show V m c main_arg0 (((cfg0.win 3).blk t).view.emb (ix2 r k)) = _
  congr 1
  funext a; apply Fin.ext
  match a with
  | ⟨0, _⟩ => show win0_3.index t (0 : Fin 2) * 1024 + 1 * r.val = 1024 * (t.val / 8) + r.val; omega
  | ⟨1, _⟩ => show win0_3.index t (1 : Fin 2) * 512 + 1 * k.val = 512 * (t.val % 8) + k.val; omega

theorem index4 : ∀ t : Fin cfg0.N, win0_4.index t (0 : Fin 3) = 3 ∧ win0_4.index t (1 : Fin 3) = t.val / 8 ∧ win0_4.index t (2 : Fin 3) = 0 :=
  (by decide +kernel : ∀ t : Fin grid0.N, _)

theorem block4 (c : Dev nD) (t : Fin cfg0.N) (r : Fin 1) (k : Fin 1024) (l : Fin 256) : iblk m c 4 t (ix3 r k l)
    = V m c main_arg1 (ix3 3 ⟨1024 * (t.val / 8) + k.val, by have := points t; omega⟩ ⟨l.val, by have := points t; omega⟩) := by
  obtain ⟨e0, e1, e2⟩ := index4 t
  show V m c main_arg1 (((cfg0.win 4).blk t).view.emb (ix3 r k l)) = _
  congr 1
  funext a; apply Fin.ext
  match a with
  | ⟨0, _⟩ => show win0_4.index t (0 : Fin 3) * 1 + 1 * r.val = 3; omega
  | ⟨1, _⟩ => show win0_4.index t (1 : Fin 3) * 1024 + 1 * k.val = 1024 * (t.val / 8) + k.val; omega
  | ⟨2, _⟩ => show win0_4.index t (2 : Fin 3) * 256 + 1 * l.val = l.val; omega

theorem index5 : ∀ t : Fin cfg0.N, win0_5.index t (0 : Fin 3) = 3 ∧ win0_5.index t (1 : Fin 3) = 0 ∧ win0_5.index t (2 : Fin 3) = t.val % 8 :=
  (by decide +kernel : ∀ t : Fin grid0.N, _)

theorem block5 (c : Dev nD) (t : Fin cfg0.N) (r : Fin 1) (k : Fin 256) (l : Fin 512) : iblk m c 5 t (ix3 r k l)
    = V m c main_v8 (ix3 3 ⟨k.val, by have := points t; omega⟩ ⟨512 * (t.val % 8) + l.val, by have := points t; omega⟩) := by
  obtain ⟨e0, e1, e2⟩ := index5 t
  show V m c main_v8 (((cfg0.win 5).blk t).view.emb (ix3 r k l)) = _
  congr 1
  funext a; apply Fin.ext
  match a with
  | ⟨0, _⟩ => show win0_5.index t (0 : Fin 3) * 1 + 1 * r.val = 3; omega
  | ⟨1, _⟩ => show win0_5.index t (1 : Fin 3) * 256 + 1 * k.val = k.val; omega
  | ⟨2, _⟩ => show win0_5.index t (2 : Fin 3) * 512 + 1 * l.val = 512 * (t.val % 8) + l.val; omega

theorem index6 : ∀ t : Fin cfg0.N, win0_6.index t (0 : Fin 2) = 0 ∧ win0_6.index t (1 : Fin 2) = t.val % 8 :=
  (by decide +kernel : ∀ t : Fin grid0.N, _)

theorem block6 (c : Dev nD) (t : Fin cfg0.N) (r : Fin 1) (k : Fin 512) : iblk m c 6 t (ix2 r k)
    = V m c main_v20 (ix2 0 ⟨512 * (t.val % 8) + k.val, by have := points t; omega⟩) := by
  obtain ⟨e0, e1⟩ := index6 t
  show V m c main_v20 (((cfg0.win 6).blk t).view.emb (ix2 r k)) = _
  congr 1
  funext a; apply Fin.ext
  match a with
  | ⟨0, _⟩ => show win0_6.index t (0 : Fin 2) * 1 + 1 * r.val = 0; omega
  | ⟨1, _⟩ => show win0_6.index t (1 : Fin 2) * 512 + 1 * k.val = 512 * (t.val % 8) + k.val; omega

theorem index7 : ∀ t : Fin cfg0.N, win0_7.index t (0 : Fin 2) = t.val / 8 ∧ win0_7.index t (1 : Fin 2) = 0 :=
  (by decide +kernel : ∀ t : Fin grid0.N, _)

theorem block7 (c : Dev nD) (t : Fin cfg0.N) (r : Fin 1024) (k : Fin 128) : iblk m c 7 t (ix2 r k)
    = V m c main_v18 (ix2 ⟨1024 * (t.val / 8) + r.val, by have := points t; omega⟩ ⟨k.val, by have := points t; omega⟩) := by
  obtain ⟨e0, e1⟩ := index7 t
  show V m c main_v18 (((cfg0.win 7).blk t).view.emb (ix2 r k)) = _
  congr 1
  funext a; apply Fin.ext
  match a with
  | ⟨0, _⟩ => show win0_7.index t (0 : Fin 2) * 1024 + 1 * r.val = 1024 * (t.val / 8) + r.val; omega
  | ⟨1, _⟩ => show win0_7.index t (1 : Fin 2) * 128 + 1 * k.val = k.val; omega

theorem index8 : ∀ t : Fin cfg0.N, win0_8.index t (0 : Fin 2) = t.val / 8 ∧ win0_8.index t (1 : Fin 2) = t.val % 8 :=
  (by decide +kernel : ∀ t : Fin grid0.N, _)

theorem emb8 (t : Fin cfg0.N) (r : Fin 1024) (k : Fin 512) : ((cfg0.win 8).blk t).view.emb (ix2 r k)
    = ix2 ⟨1024 * (t.val / 8) + r.val, by have := points t; omega⟩ ⟨512 * (t.val % 8) + k.val, by have := points t; omega⟩ := by
  obtain ⟨e0, e1⟩ := index8 t
  funext a; apply Fin.ext
  match a with
  | ⟨0, _⟩ => show win0_8.index t (0 : Fin 2) * 1024 + 1 * r.val = 1024 * (t.val / 8) + r.val; omega
  | ⟨1, _⟩ => show win0_8.index t (1 : Fin 2) * 512 + 1 * k.val = 512 * (t.val % 8) + k.val; omega

variable (c : Dev nD) (t : Fin cfg0.N)

/-- What a point writes back is its block of the reference's result. -/
theorem flushed8_eq (h : FVec Ideal S16384x4096 .f32) (p : FVec Ideal S4x16384x256 .f32) (v : FVec Ideal S4x256x4096 .f32) (b : FVec Ideal S4096 .f32) (g : FVec Ideal S4096 .f32) (w : FVec Ideal S4096x4096 .f32)
    (eh : m ((c : Thread nD τ).loc main_arg0) = h) (ep : m ((c : Thread nD τ).loc main_arg1) = p) (ev : m ((c : Thread nD τ).loc main_arg2) = v)
    (eb : m ((c : Thread nD τ).loc main_arg3) = b) (eg : m ((c : Thread nD τ).loc main_arg4) = g) (ew : m ((c : Thread nD τ).loc main_arg5) = w) :
    (dats m 0 c).flushed 8 t = ((cfg0.win 8).blk t).view.read (Elt Ideal) (Cert.GateRefIdeal.Run.result h p v b g w) := by
  rw [flushed8]
  funext j
  obtain ⟨r, e, rfl⟩ : ∃ (r : Fin 1024) (e : Fin 512), j = ix2 r e := pair j
  show out0_8 (iblk m c 0 t) (iblk m c 1 t) (iblk m c 2 t) (iblk m c 3 t) (iblk m c 4 t) (iblk m c 5 t) (iblk m c 6 t) (iblk m c 7 t) (ix2 r e)
    = Cert.GateRefIdeal.Run.result h p v b g w (((cfg0.win 8).blk t).view.emb (ix2 r e))
  unfold out0_8
  rw [View.canon_unit_zero corner, View.ld_unit_zero corner3, View.ld_unit_zero corner3, View.ld_unit_zero corner, View.ld_unit_zero corner, View.ld_unit_zero corner,
    View.ld_unit_zero corner, View.ld_unit_zero corner, View.ld_unit_zero corner, pay1_apply, pay2_apply, pay3_apply]
  have e0 : ∀ k : Fin 4096, iblk m c 0 t (ix2 r k) = h (ix2 ⟨1024 * (t.val / 8) + r.val, by have := points t; omega⟩ k) * g (ix1 k) := fun k => by
    rw [block0, V_v6, eh, eg]; exact gained_apply h g _ k
  have e1 : ∀ k : Fin 4096, iblk m c 1 t (ix2 k e) = w (ix2 k ⟨512 * (t.val % 8) + e.val, by omega⟩) := fun k => by
    rw [block1, V_v19, ew]; rfl
  have e2 : iblk m c 2 t (ix2 r (⟨e.val % 128, by omega⟩ : Fin 128)) = ∑ k : Fin 4096, h (ix2 ⟨1024 * (t.val / 8) + r.val, by have := points t; omega⟩ k) * h (ix2 ⟨1024 * (t.val / 8) + r.val, by have := points t; omega⟩ k) := by
    rw [block2, V_v7, eh]; exact squares_apply h _ _
  have e3 : iblk m c 3 t (ix2 r e) = h (ix2 ⟨1024 * (t.val / 8) + r.val, by have := points t; omega⟩ ⟨512 * (t.val % 8) + e.val, by omega⟩) := by
    rw [block3, V_main_arg0, eh]
  have e4 : ∀ k : Fin 256, iblk m c 4 t (ix3 0 r k) = p (ix3 3 ⟨1024 * (t.val / 8) + r.val, by have := points t; omega⟩ k) := fun k => by
    rw [block4, V_main_arg1, ep]
  have e5 : ∀ k : Fin 256, iblk m c 5 t (ix3 0 k e) = v (ix3 3 k ⟨512 * (t.val % 8) + e.val, by omega⟩) := fun k => by
    rw [block5, V_v8, ev]; rfl
  have e6 : iblk m c 6 t (ix2 0 e) = b (ix1 ⟨512 * (t.val % 8) + e.val, by omega⟩) := by
    rw [block6, V_v20, eb]; exact gains_apply b _
  have e7 : iblk m c 7 t (ix2 r (⟨e.val % 128, by omega⟩ : Fin 128)) = ∑ k : Fin 4096, Cert.GateRefIdeal.Run.embedded p v (ix2 ⟨1024 * (t.val / 8) + r.val, by have := points t; omega⟩ k) * Cert.GateRefIdeal.Run.embedded p v (ix2 ⟨1024 * (t.val / 8) + r.val, by have := points t; omega⟩ k) := by
    rw [block7, V_v18, ep, ev]
    refine (squares_apply _ _ _).trans (Finset.sum_congr rfl fun k _ => ?_)
    rw [embedded_apply, Cert.GateRefIdeal.Run.embedded_apply]
  rw [emb8, Cert.GateRefIdeal.Run.result_apply, Cert.GateRefIdeal.Run.product_apply, Cert.GateRefIdeal.Run.normed_apply, e2, e3, e6, e7,
    Cert.GateRefIdeal.Run.embedded_apply p v ⟨1024 * (t.val / 8) + r.val, by have := points t; omega⟩ ⟨512 * (t.val % 8) + e.val, by omega⟩]
  simp only [e0, e1, e4, e5]
  rw [normed_product _ _ _ (squares_nonneg _)]

/-- Every place of the array is in the block of some point. -/
theorem covered8 (j : S16384x4096.Idx) : ∃ t : Fin cfg0.N, (cfg0.win 8).flush t = true ∧ j ∈ ((cfg0.win 8).blk t).view.set := by
  obtain ⟨r, e, rfl⟩ := pair j
  have hr := r.isLt
  have he := e.isLt
  have hN : r.val / 1024 * 8 + e.val / 512 < cfg0.N := by rw [show cfg0.N = _ from N_0]; omega
  have hm := ((cfg0.win 8).blk ⟨_, hN⟩).view.emb_mem_set (ix2 (⟨r.val % 1024, by omega⟩ : Fin 1024) (⟨e.val % 512, by omega⟩ : Fin 512))
  rw [emb8] at hm
  have e0 : (⟨1024 * ((r.val / 1024 * 8 + e.val / 512) / 8) + r.val % 1024, by omega⟩ : Fin 16384) = r := Fin.ext (by dsimp only; omega)
  have e1 : (⟨512 * ((r.val / 1024 * 8 + e.val / 512) % 8) + e.val % 512, by omega⟩ : Fin 4096) = e := Fin.ext (by dsimp only; omega)
  have hi := congrArg₂ (fun a b => (ix2 a b : S16384x4096.Idx)) e0 e1
  exact ⟨⟨_, hN⟩, flush0_8 _, Eq.mp (congrArg (fun i => i ∈ ((cfg0.win 8).blk ⟨_, hN⟩).view.set) hi) hm⟩

theorem final8 : (dats m 0 c).arrAt 8 cfg0.N = Cert.GateRefIdeal.Run.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 8 _ (fun t _ => flushed8_eq m c t _ _ _ _ _ _ rfl rfl rfl rfl rfl rfl) covered8

end Cert.GateIdeal.Run

end
-- ==== Proof.GateClaims.lean ====
/-
  The claims about the gated embedding.
-/
module

public import proofs.«01_k».proof.Defs
public import proofs.«01_k».proof.Proof.GateRun
public import proofs.«01_k».proof.Proof.Gen.Gate.Frame
public import Idealize.ShloMosaic.Lib.Quiescent

@[expose] public section

set_option maxRecDepth 16384

noncomputable section

namespace Cert.Gate.Claims

open Idealize.ShloMosaic Idealize.ShloMosaic.TcCoe Idealize.SL.Sem
open Cert.Rows

theorem frame_kernel : Cert.quiescent_Gate := fun m ρ _ => Cert.Gate.Gen.frame m ρ
theorem frame_ideal : Cert.quiescent_GateIdeal := fun m ρ _ => Cert.GateIdeal.Gen.frame m ρ
theorem frame_reference : Cert.quiescent_GateRefIdeal := fun m ρ _ =>
  (θ_run Cert.GateRefIdeal.defs _ _).mono (fun r h => ⟨fun c => (h c).2, Idealize.ShloMosaic.sem_eq_zero_of_no_sems (by decide) r.2⟩)
    (Cert.GateRefIdeal.Value.run (F := Ideal) m ρ)

theorem preserves : Cert.preserves_Gate_GateIdeal := trivial

/-- The kernel and the reference end with the same results. -/
theorem algebraic : Cert.algebraic_GateIdeal_GateRefIdeal := by
  intro m ρ m' ρ' _ hagree
  refine ⟨fun c => Cert.GateRefIdeal.Run.result (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5)),
    (θ_run Cert.GateIdeal.defs _ _).mono (fun _ h c => ⟨(h c).1.trans (Cert.GateIdeal.Run.final8 m c), (h c).2⟩)
      (Cert.GateIdeal.Value.run_blocks (F := Ideal) m ρ), ?_⟩
  refine (θ_run Cert.GateRefIdeal.defs _ _).mono (fun _ h c => ⟨(h c).1.trans ?_, (h c).2⟩)
    (Cert.GateRefIdeal.Value.run (F := Ideal) m' ρ')
  · show Cert.GateRefIdeal.Run.result (m' ((c.tc : Thread Cert.GateRefIdeal.nD Cert.GateRefIdeal.τ).loc Cert.GateRefIdeal.main_arg0)) (m' ((c.tc : Thread Cert.GateRefIdeal.nD Cert.GateRefIdeal.τ).loc Cert.GateRefIdeal.main_arg1)) (m' ((c.tc : Thread Cert.GateRefIdeal.nD Cert.GateRefIdeal.τ).loc Cert.GateRefIdeal.main_arg2)) (m' ((c.tc : Thread Cert.GateRefIdeal.nD Cert.GateRefIdeal.τ).loc Cert.GateRefIdeal.main_arg3)) (m' ((c.tc : Thread Cert.GateRefIdeal.nD Cert.GateRefIdeal.τ).loc Cert.GateRefIdeal.main_arg4)) (m' ((c.tc : Thread Cert.GateRefIdeal.nD Cert.GateRefIdeal.τ).loc Cert.GateRefIdeal.main_arg5)) = _
    rw [(hagree c).1, (hagree c).2.1, (hagree c).2.2.1, (hagree c).2.2.2.1, (hagree c).2.2.2.2.1, (hagree c).2.2.2.2.2]

end Cert.Gate.Claims

end
-- ==== Proof.OutPay.lean ====
/-
  THE PROJECTION AFTER ATTENTION: the values the body stores, entry by entry.
-/
module

public import proofs.«01_k».proof.Proof.Gen.OutIdeal.Skeleton
public import proofs.«01_k».proof.Proof.Rows
public import Idealize.ShloMosaic.Lib.Pointwise

@[expose] public section

set_option maxRecDepth 16384

noncomputable section

namespace Cert.OutIdeal.Run

open Idealize.ShloMosaic Idealize.ShloMosaic.TcCoe Idealize.SL.Sem
open Cert.OutIdeal Cert.OutIdeal.Gen Cert.Rows

variable (v0 : Vec Ideal S1024x4096 .bf16) (v2 : Vec Ideal S4096x512 .bf16) (v5 : Vec Ideal S1024x512 .f32)

theorem pay1_apply (r : Fin 1024) (c : Fin 512) :
    k0_pay1 v0 v2 v5 (ix2 r c) = v5 (ix2 r c) + ∑ k : Fin 4096, v0 (ix2 r k) * v2 (ix2 k c) := by
  unfold k0_pay1
  pointwise

theorem pay2_apply (v8 : Vec Ideal S1x512 .f32) (r : Fin 1024) (c : Fin 512) :
    k0_pay2 v0 v2 v5 v8 (ix2 r c) = k0_pay1 v0 v2 v5 (ix2 r c) * v8 (ix2 0 c) := by
  unfold k0_pay2
  pointwise

theorem pay3_apply (r : Fin 1024) (l : Fin 128) :
    k0_pay3 v0 v2 v5 (ix2 r l) = ∑ k : Fin 512, k0_pay1 v0 v2 v5 (ix2 r k) * k0_pay1 v0 v2 v5 (ix2 r k) := by
  unfold k0_pay3
  generalize k0_pay1 v0 v2 v5 = o
  pointwise
  exact Cert.Rows.lanes4 fun k => o (ix2 r k) * o (ix2 r k)

theorem pay4_apply (v32 : Vec Ideal S1024x128 .f32) (r : Fin 1024) (l : Fin 128) :
    k0_pay4 v0 v2 v5 v32 (ix2 r l) = v32 (ix2 r l) + k0_pay3 v0 v2 v5 (ix2 r l) := by
  unfold k0_pay4
  pointwise

end Cert.OutIdeal.Run

end
-- ==== Proof.OutBody.lean ====
/-
  THE OUTPUT PROJECTION: what each case of the body leaves in its outputs.
-/
module

public import proofs.«01_k».proof.Proof.OutPay
public import proofs.«01_k».proof.Proof.Gen.OutIdeal.Value
public import Idealize.ShloMosaic.Lib.VecWindow

@[expose] public section

set_option maxRecDepth 16384

noncomputable section

namespace Cert.OutIdeal.Run

open Idealize.ShloMosaic Idealize.ShloMosaic.TcCoe Idealize.SL.Sem
open Cert.OutIdeal Cert.OutIdeal.Gen

/-- The corner of a block. -/
theorem corner : (![0, 0] : Fin 2 → ℕ) = fun _ => 0 := by decide

/-- A load of a whole memref, held at what reads `x`, is `x`. -/
theorem load {sp : Space} {s : Shape} {e : EltTy} {a : Memref sig .tc sp s e} (h : a.IsWhole) (x : Vec Ideal s e) {off : Fin s.rank → ℕ} (inb : ∀ a, off a + s.size a ≤ s.size a) :
    View.readAt (Elt Ideal) a.view (Rect.unit off s.size inb).toLoadRect (h.unread x) = x := by
  rw [View.readAt_full]
  exact h.read_unread x

variable (c : Dev nD) (i : grid0.Coords) (arg3 : Memref sig .tc .vmem S1024x4096 .bf16) (harg3 : arg3.IsWhole) (arg4 : Memref sig .tc .vmem S4096x512 .bf16) (harg4 : arg4.IsWhole) (arg5 : Memref sig .tc .vmem S1024x512 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S1024x128 .f32) (harg9 : arg9.IsWhole)
  (x0 : Vec Ideal S1024x4096 .bf16) (x1 : Vec Ideal S4096x512 .bf16) (x2 : Vec Ideal S1024x512 .f32) (x3 : Vec Ideal S1x512 .f32) (xo6 : Vec Ideal S1024x128 .f32)

theorem outA4 (hc0 : cond0_0 i) (hc1 : ¬cond0_1 i) :
    out0_A_4 (F := Ideal) c i arg3 harg3 arg4 harg4 arg5 harg5 arg6 harg6 arg7 harg7 arg8 harg8 arg9 harg9 hc0 hc1 x0 x1 x2 x3 = k0_pay1 x0 x1 x2 := by
  unfold out0_A_4 kernelRun0_A
  refine (View.read_writes_full _ _ _ _ _).trans ?_
  exact congr (congr (congrArg _ (load _ _ _)) (load _ _ _)) (load _ _ _)

theorem outA5 (hc0 : cond0_0 i) (hc1 : ¬cond0_1 i) :
    out0_A_5 (F := Ideal) c i arg3 harg3 arg4 harg4 arg5 harg5 arg6 harg6 arg7 harg7 arg8 harg8 arg9 harg9 hc0 hc1 x0 x1 x2 x3 = k0_pay2 x0 x1 x2 x3 := by
  unfold out0_A_5 kernelRun0_A
  refine (View.read_writes_full _ _ _ _ _).trans ?_
  exact congr (congr (congr (congrArg _ (load _ _ _)) (load _ _ _)) (load _ _ _)) (load _ _ _)

theorem outA6 (hc0 : cond0_0 i) (hc1 : ¬cond0_1 i) :
    out0_A_6 (F := Ideal) c i arg3 harg3 arg4 harg4 arg5 harg5 arg6 harg6 arg7 harg7 arg8 harg8 arg9 harg9 hc0 hc1 x0 x1 x2 x3 = k0_pay3 x0 x1 x2 := by
  unfold out0_A_6 kernelRun0_A
  refine (View.read_writes_full _ _ _ _ _).trans ?_
  exact congr (congr (congrArg _ (load _ _ _)) (load _ _ _)) (load _ _ _)

theorem outB4 (hc0 : ¬cond0_0 i) (hc1 : cond0_1 i) :
    out0_B_4 (F := Ideal) c i arg3 harg3 arg4 harg4 arg5 harg5 arg6 harg6 arg7 harg7 arg8 harg8 arg9 harg9 hc0 hc1 x0 x1 x2 x3 xo6 = k0_pay1 x0 x1 x2 := by
  unfold out0_B_4 kernelRun0_B
  refine (View.read_writes_full _ _ _ _ _).trans ?_
  exact congr (congr (congrArg _ (load _ _ _)) (load _ _ _)) (load _ _ _)

theorem outB5 (hc0 : ¬cond0_0 i) (hc1 : cond0_1 i) :
    out0_B_5 (F := Ideal) c i arg3 harg3 arg4 harg4 arg5 harg5 arg6 harg6 arg7 harg7 arg8 harg8 arg9 harg9 hc0 hc1 x0 x1 x2 x3 xo6 = k0_pay2 x0 x1 x2 x3 := by
  unfold out0_B_5 kernelRun0_B
  refine (View.read_writes_full _ _ _ _ _).trans ?_
  exact congr (congr (congr (congrArg _ (load _ _ _)) (load _ _ _)) (load _ _ _)) (load _ _ _)

theorem outB6 (hc0 : ¬cond0_0 i) (hc1 : cond0_1 i) :
    out0_B_6 (F := Ideal) c i arg3 harg3 arg4 harg4 arg5 harg5 arg6 harg6 arg7 harg7 arg8 harg8 arg9 harg9 hc0 hc1 x0 x1 x2 x3 xo6 = k0_pay4 x0 x1 x2 xo6 := by
  unfold out0_B_6 kernelRun0_B
  refine (View.read_writes_full _ _ _ _ _).trans ?_
  exact congr (congr (congr (congrArg _ (load _ _ _)) (load _ _ _)) (load _ _ _)) (load _ _ _)

end Cert.OutIdeal.Run

end
-- ==== Proof.OutRef.lean ====
/-
  THE OUTPUT PROJECTION: the reference, entry by entry.
-/
module

public import proofs.«01_k».proof.Proof.Gen.OutRefIdeal.Run
public import proofs.«01_k».proof.Proof.Rows
public import Idealize.ShloMosaic.Lib.Pointwise

@[expose] public section

set_option maxRecDepth 16384

noncomputable section

namespace Cert.OutRefIdeal.Run

open Idealize.ShloMosaic Idealize.ShloMosaic.TcCoe Idealize.SL.Sem
open Cert.OutRefIdeal Cert.OutRefIdeal.Gen Cert.Rows

/-- The first result: the residual and the product. -/
def result (a : FVec Ideal S16384x4096 .f32) (w : FVec Ideal S4096x4096 .f32) (h : FVec Ideal S16384x4096 .f32) : FVec Ideal S16384x4096 .f32 :=
  addf h (Host.dotGeneral (F := Ideal) dot_S16384x4096_S4096x4096_S16384x4096_1_0_0_1_n_n none a w)

/-- The second: the first times the next norm's gain. -/
def gained (a : FVec Ideal S16384x4096 .f32) (w : FVec Ideal S4096x4096 .f32) (h : FVec Ideal S16384x4096 .f32) (g : FVec Ideal S4096 .f32) : FVec Ideal S16384x4096 .bf16 :=
  truncf .bf16 (mulf (result a w h) (broadcastInDim S16384x4096 ![0, 1] bcast_S1x4096_S16384x4096_0_1 (broadcastInDim S1x4096 ![1] bcast_S4096_S1x4096_1 g))) bitsLt_bf16_f32

/-- The third: the first's sums of squares, on every lane. -/
def squares (a : FVec Ideal S16384x4096 .f32) (w : FVec Ideal S4096x4096 .f32) (h : FVec Ideal S16384x4096 .f32) : FVec Ideal S16384x128 .f32 :=
  broadcastInDim S16384x128 ![0, 1] bcast_S16384x1_S16384x128_0_1 (broadcastInDim S16384x1 ![0] bcast_S16384_S16384x1_0
    (Host.reduceAdd (mulf (result a w h) (result a w h)) (constant S_ .f32 0x00000000#32) reducesTo_S16384x4096_S16384_d1 h_S_))

variable (a : FVec Ideal S16384x4096 .f32) (w : FVec Ideal S4096x4096 .f32) (h : FVec Ideal S16384x4096 .f32)

theorem result_apply (r : Fin 16384) (c : Fin 4096) : result a w h (ix2 r c) = h (ix2 r c) + ∑ k : Fin 4096, a (ix2 r k) * w (ix2 k c) := by
  unfold result
  pointwise

theorem gained_apply (g : FVec Ideal S4096 .f32) (r : Fin 16384) (c : Fin 4096) : gained a w h g (ix2 r c) = result a w h (ix2 r c) * g (ix1 c) := by
  unfold gained
  generalize result a w h = o
  pointwise

theorem squares_apply (r : Fin 16384) (l : Fin 128) : squares a w h (ix2 r l) = ∑ k : Fin 4096, result a w h (ix2 r k) * result a w h (ix2 r k) := by
  unfold squares
  generalize result a w h = o
  pointwise

end Cert.OutRefIdeal.Run

end
-- ==== Proof.OutRun.lean ====
/-
  THE OUTPUT PROJECTION: the run, block by block.
-/
module

public import proofs.«01_k».proof.Proof.OutBody
public import proofs.«01_k».proof.Proof.OutRef
public import Idealize.ShloMosaic.Lib.Claim

@[expose] public section

set_option maxRecDepth 16384

noncomputable section

namespace Cert.OutIdeal.Run

open Idealize.ShloMosaic Idealize.ShloMosaic.TcCoe Idealize.SL.Sem
open Cert.OutIdeal Cert.OutIdeal.Gen Cert.OutIdeal.Value Cert.Rows

/-- A rank-2 index is the pair of its coordinates. -/
theorem pair {a b : ℕ} (i : (Shape.mk 2 ![a, b]).Idx) : ∃ (r : Fin a) (c : Fin b), i = ix2 r c := ⟨i 0, i 1, (ix2_eta i).symm⟩

variable (m : (ℓ : Loc nD τ sig) → Buf (Elt Ideal) ℓ)

/-- The left factor, cast. -/
def narrowA (a : FVec Ideal S16384x4096 .f32) : FVec Ideal S16384x4096 .bf16 := truncf .bf16 a bitsLt_bf16_f32
/-- The weights, cast. -/
def narrowW (w : FVec Ideal S4096x4096 .f32) : FVec Ideal S4096x4096 .bf16 := truncf .bf16 w bitsLt_bf16_f32
/-- The gains, as a row. -/
def gains (g : FVec Ideal S4096 .f32) : FVec Ideal S1x4096 .f32 := shapeCast S1x4096 g shapeCasts_S4096_S1x4096

theorem gains_apply (g : FVec Ideal S4096 .f32) (k : Fin 4096) : gains g (ix2 0 k) = g (ix1 k) := by
  unfold gains
  pointwise

theorem V_v0 (c : Dev nD) : V m c main_v0 = narrowA (m ((c : Thread nD τ).loc main_arg0)) := by
  unfold_abbrev_sides
  after_results
  rfl
theorem V_v1 (c : Dev nD) : V m c main_v1 = narrowW (m ((c : Thread nD τ).loc main_arg1)) := by
  unfold_abbrev_sides
  after_results
  rfl
theorem V_v2 (c : Dev nD) : V m c main_v2 = gains (m ((c : Thread nD τ).loc main_arg3)) := by
  unfold_abbrev_sides
  after_results
  rfl

/-! ## The windows -/

theorem points (t : Fin cfg0.N) : t.val < 128 := t.isLt.trans_eq N_0

theorem index0 : ∀ t : Fin cfg0.N, win0_0.index t (0 : Fin 2) = t.val / 8 ∧ win0_0.index t (1 : Fin 2) = 0 :=
  (by decide +kernel : ∀ t : Fin grid0.N, _)

theorem block0 (c : Dev nD) (t : Fin cfg0.N) (r : Fin 1024) (k : Fin 4096) : iblk m c 0 t (ix2 r k)
    = V m c main_v0 (ix2 ⟨1024 * (t.val / 8) + r.val, by have := points t; omega⟩ ⟨k.val, by have := points t; omega⟩) := by
  obtain ⟨e0, e1⟩ := index0 t
  show V m c main_v0 (((cfg0.win 0).blk t).view.emb (ix2 r k)) = _
  congr 1
  funext a; apply Fin.ext
  match a with
  | ⟨0, _⟩ => show win0_0.index t (0 : Fin 2) * 1024 + 1 * r.val = 1024 * (t.val / 8) + r.val; omega
  | ⟨1, _⟩ => show win0_0.index t (1 : Fin 2) * 4096 + 1 * k.val = k.val; omega

theorem index1 : ∀ t : Fin cfg0.N, win0_1.index t (0 : Fin 2) = 0 ∧ win0_1.index t (1 : Fin 2) = t.val % 8 :=
  (by decide +kernel : ∀ t : Fin grid0.N, _)

theorem block1 (c : Dev nD) (t : Fin cfg0.N) (r : Fin 4096) (k : Fin 512) : iblk m c 1 t (ix2 r k)
    = V m c main_v1 (ix2 ⟨r.val, by have := points t; omega⟩ ⟨512 * (t.val % 8) + k.val, by have := points t; omega⟩) := by
  obtain ⟨e0, e1⟩ := index1 t
  show V m c main_v1 (((cfg0.win 1).blk t).view.emb (ix2 r k)) = _
  congr 1
  funext a; apply Fin.ext
  match a with
  | ⟨0, _⟩ => show win0_1.index t (0 : Fin 2) * 4096 + 1 * r.val = r.val; omega
  | ⟨1, _⟩ => show win0_1.index t (1 : Fin 2) * 512 + 1 * k.val = 512 * (t.val % 8) + k.val; omega

theorem index2 : ∀ t : Fin cfg0.N, win0_2.index t (0 : Fin 2) = t.val / 8 ∧ win0_2.index t (1 : Fin 2) = t.val % 8 :=
  (by decide +kernel : ∀ t : Fin grid0.N, _)

theorem block2 (c : Dev nD) (t : Fin cfg0.N) (r : Fin 1024) (k : Fin 512) : iblk m c 2 t (ix2 r k)
    = V m c main_arg2 (ix2 ⟨1024 * (t.val / 8) + r.val, by have := points t; omega⟩ ⟨512 * (t.val % 8) + k.val, by have := points t; omega⟩) := by
  obtain ⟨e0, e1⟩ := index2 t
  show V m c main_arg2 (((cfg0.win 2).blk t).view.emb (ix2 r k)) = _
  congr 1
  funext a; apply Fin.ext
  match a with
  | ⟨0, _⟩ => show win0_2.index t (0 : Fin 2) * 1024 + 1 * r.val = 1024 * (t.val / 8) + r.val; omega
  | ⟨1, _⟩ => show win0_2.index t (1 : Fin 2) * 512 + 1 * k.val = 512 * (t.val % 8) + k.val; omega

theorem index3 : ∀ t : Fin cfg0.N, win0_3.index t (0 : Fin 2) = 0 ∧ win0_3.index t (1 : Fin 2) = t.val % 8 :=
  (by decide +kernel : ∀ t : Fin grid0.N, _)

theorem block3 (c : Dev nD) (t : Fin cfg0.N) (r : Fin 1) (k : Fin 512) : iblk m c 3 t (ix2 r k)
    = V m c main_v2 (ix2 0 ⟨512 * (t.val % 8) + k.val, by have := points t; omega⟩) := by
  obtain ⟨e0, e1⟩ := index3 t
  show V m c main_v2 (((cfg0.win 3).blk t).view.emb (ix2 r k)) = _
  congr 1
  funext a; apply Fin.ext
  match a with
  | ⟨0, _⟩ => show win0_3.index t (0 : Fin 2) * 1 + 1 * r.val = 0; omega
  | ⟨1, _⟩ => show win0_3.index t (1 : Fin 2) * 512 + 1 * k.val = 512 * (t.val % 8) + k.val; omega

theorem index4 : ∀ t : Fin cfg0.N, win0_4.index t (0 : Fin 2) = t.val / 8 ∧ win0_4.index t (1 : Fin 2) = t.val % 8 :=
  (by decide +kernel : ∀ t : Fin grid0.N, _)

theorem emb4 (t : Fin cfg0.N) (r : Fin 1024) (k : Fin 512) : ((cfg0.win 4).blk t).view.emb (ix2 r k)
    = ix2 ⟨1024 * (t.val / 8) + r.val, by have := points t; omega⟩ ⟨512 * (t.val % 8) + k.val, by have := points t; omega⟩ := by
  obtain ⟨e0, e1⟩ := index4 t
  funext a; apply Fin.ext
  match a with
  | ⟨0, _⟩ => show win0_4.index t (0 : Fin 2) * 1024 + 1 * r.val = 1024 * (t.val / 8) + r.val; omega
  | ⟨1, _⟩ => show win0_4.index t (1 : Fin 2) * 512 + 1 * k.val = 512 * (t.val % 8) + k.val; omega

theorem index5 : ∀ t : Fin cfg0.N, win0_5.index t (0 : Fin 2) = t.val / 8 ∧ win0_5.index t (1 : Fin 2) = t.val % 8 :=
  (by decide +kernel : ∀ t : Fin grid0.N, _)

theorem emb5 (t : Fin cfg0.N) (r : Fin 1024) (k : Fin 512) : ((cfg0.win 5).blk t).view.emb (ix2 r k)
    = ix2 ⟨1024 * (t.val / 8) + r.val, by have := points t; omega⟩ ⟨512 * (t.val % 8) + k.val, by have := points t; omega⟩ := by
  obtain ⟨e0, e1⟩ := index5 t
  funext a; apply Fin.ext
  match a with
  | ⟨0, _⟩ => show win0_5.index t (0 : Fin 2) * 1024 + 1 * r.val = 1024 * (t.val / 8) + r.val; omega
  | ⟨1, _⟩ => show win0_5.index t (1 : Fin 2) * 512 + 1 * k.val = 512 * (t.val % 8) + k.val; omega

theorem index6 : ∀ t : Fin cfg0.N, win0_6.index t (0 : Fin 2) = t.val / 8 ∧ win0_6.index t (1 : Fin 2) = 0 :=
  (by decide +kernel : ∀ t : Fin grid0.N, _)

theorem emb6 (t : Fin cfg0.N) (r : Fin 1024) (k : Fin 128) : ((cfg0.win 6).blk t).view.emb (ix2 r k)
    = ix2 ⟨1024 * (t.val / 8) + r.val, by have := points t; omega⟩ ⟨k.val, by have := points t; omega⟩ := by
  obtain ⟨e0, e1⟩ := index6 t
  funext a; apply Fin.ext
  match a with
  | ⟨0, _⟩ => show win0_6.index t (0 : Fin 2) * 1024 + 1 * r.val = 1024 * (t.val / 8) + r.val; omega
  | ⟨1, _⟩ => show win0_6.index t (1 : Fin 2) * 128 + 1 * k.val = k.val; omega

variable (c : Dev nD)

/-! ## What the body leaves, point by point -/

theorem left (n : ℕ) (hn : n < cfg0.N) : (outsAt0 m c n hn).1 = k0_pay1 (iblk m c 0 ⟨n, hn⟩) (iblk m c 1 ⟨n, hn⟩) (iblk m c 2 ⟨n, hn⟩) := by
  by_cases h : n % 8 = 0
  · have e := congrArg Prod.fst (outsAt0_A m c ⟨n, hn⟩ h (by dsimp only; omega))
    dsimp only at e
    rw [outA4] at e
    exact e
  · have e := congrArg Prod.fst (outsAt0_B m c ⟨n, hn⟩ h (by dsimp only; omega))
    dsimp only at e
    rw [outB4] at e
    exact e

theorem left_gained (n : ℕ) (hn : n < cfg0.N) :
    (outsAt0 m c n hn).2.1 = k0_pay2 (iblk m c 0 ⟨n, hn⟩) (iblk m c 1 ⟨n, hn⟩) (iblk m c 2 ⟨n, hn⟩) (iblk m c 3 ⟨n, hn⟩) := by
  by_cases h : n % 8 = 0
  · have e := congrArg (fun p => p.2.1) (outsAt0_A m c ⟨n, hn⟩ h (by dsimp only; omega))
    dsimp only at e
    rw [outA5] at e
    exact e
  · have e := congrArg (fun p => p.2.1) (outsAt0_B m c ⟨n, hn⟩ h (by dsimp only; omega))
    dsimp only at e
    rw [outB5] at e
    exact e

/-- The squares' sums at a row's first block … -/
theorem left_squares (n : ℕ) (hn : n < cfg0.N) (h : n % 8 = 0) :
    (outsAt0 m c n hn).2.2 = k0_pay3 (iblk m c 0 ⟨n, hn⟩) (iblk m c 1 ⟨n, hn⟩) (iblk m c 2 ⟨n, hn⟩) := by
  have e := congrArg (fun p => p.2.2) (outsAt0_A m c ⟨n, hn⟩ h (by dsimp only; omega))
  dsimp only at e
  rw [outA6] at e
  exact e

/-- … which a later block adds to. -/
theorem left_add (n : ℕ) (hn : n + 1 < cfg0.N) (h : ¬(n + 1) % 8 = 0) :
    (outsAt0 m c (n + 1) hn).2.2 = k0_pay4 (iblk m c 0 ⟨n + 1, hn⟩) (iblk m c 1 ⟨n + 1, hn⟩) (iblk m c 2 ⟨n + 1, hn⟩) (outsAt0 m c n (by omega)).2.2 := by
  have e := congrArg (fun p => p.2.2) (outsAt0_B m c ⟨n + 1, hn⟩ h (by dsimp only; omega))
  dsimp only at e
  rw [outB6] at e
  exact e

section Arrays

variable {a : FVec Ideal S16384x4096 .f32} {w : FVec Ideal S4096x4096 .f32} {h : FVec Ideal S16384x4096 .f32} {g : FVec Ideal S4096 .f32}
  (ea : m ((c : Thread nD τ).loc main_arg0) = a) (ew : m ((c : Thread nD τ).loc main_arg1) = w) (eh : m ((c : Thread nD τ).loc main_arg2) = h) (eg : m ((c : Thread nD τ).loc main_arg3) = g)

/-- The entry's row and column in the whole array. -/
def row (n : ℕ) (hn : n < 128) (r : Fin 1024) : Fin 16384 := ⟨1024 * (n / 8) + r.val, by omega⟩
def col (n : ℕ) (e : Fin 512) : Fin 4096 := ⟨512 * (n % 8) + e.val, by omega⟩

theorem bound (n : ℕ) (hn : n < 128) : n < cfg0.N := by rw [show cfg0.N = _ from N_0]; exact hn

include ea ew eh in
/-- What a point leaves is the reference's block. -/
theorem pay_eq (n : ℕ) (hn : n < 128) (r : Fin 1024) (e : Fin 512) :
    k0_pay1 (iblk m c 0 ⟨n, bound n hn⟩) (iblk m c 1 ⟨n, bound n hn⟩) (iblk m c 2 ⟨n, bound n hn⟩) (ix2 r e) = Cert.OutRefIdeal.Run.result a w h (ix2 (row n hn r) (col n e)) := by
  rw [pay1_apply, Cert.OutRefIdeal.Run.result_apply, block2, V_main_arg2, eh]
  refine congr (congrArg _ rfl) (Finset.sum_congr rfl fun x _ => ?_)
  rw [block0, block1, V_v0, V_v1, ea, ew]
  rfl

include ea ew eh eg in
theorem pay_gained (n : ℕ) (hn : n < 128) (r : Fin 1024) (e : Fin 512) :
    (outsAt0 m c n (bound n hn)).2.1 (ix2 r e) = Cert.OutRefIdeal.Run.gained a w h g (ix2 (row n hn r) (col n e)) := by
  rw [left_gained, pay2_apply, pay_eq m c ea ew eh n hn r e, Cert.OutRefIdeal.Run.gained_apply]
  congr 1
  rw [block3, V_v2, eg, gains_apply]
  rfl

/-- A block's sum of squares. -/
def squared (a : FVec Ideal S16384x4096 .f32) (w : FVec Ideal S4096x4096 .f32) (h : FVec Ideal S16384x4096 .f32) (r : Fin 16384) (j : Fin 8) : EReal :=
  ∑ x : Fin 512, Cert.OutRefIdeal.Run.result a w h (ix2 r ⟨512 * j.val + x.val, by omega⟩) * Cert.OutRefIdeal.Run.result a w h (ix2 r ⟨512 * j.val + x.val, by omega⟩)

include ea ew eh in
theorem squared_eq (n : ℕ) (hn : n < 128) (j : Fin 8) (hj : n % 8 = j.val) (r : Fin 1024) (l : Fin 128) :
    k0_pay3 (iblk m c 0 ⟨n, bound n hn⟩) (iblk m c 1 ⟨n, bound n hn⟩) (iblk m c 2 ⟨n, bound n hn⟩) (ix2 r l) = squared a w h (row n hn r) j := by
  rw [pay3_apply]
  refine Finset.sum_congr rfl fun x _ => ?_
  rw [pay_eq m c ea ew eh n hn r x]
  simp only [col, hj]

include ea ew eh in
theorem sums0 (p : ℕ) (hp : p < 16) (r : Fin 1024) (l : Fin 128) :
    (outsAt0 m c (8 * p) (bound _ (by omega))).2.2 (ix2 r l) = squared a w h ⟨1024 * p + r.val, by omega⟩ 0 := by
  rw [left_squares m c (8 * p) _ (by omega), squared_eq m c ea ew eh (8 * p) (by omega) 0 (by show _ = 0; omega) r l]
  congr 1
  exact Fin.ext (by unfold row; dsimp only; omega)

include ea ew eh in
theorem sums_next (p : ℕ) (hp : p < 16) (n : ℕ) (j : Fin 8) (hj : n + 1 = 8 * p + j.val) (h0 : j.val ≠ 0) (r : Fin 1024) (l : Fin 128) :
    (outsAt0 m c (n + 1) (bound _ (by omega))).2.2 (ix2 r l)
      = (outsAt0 m c n (bound n (by omega))).2.2 (ix2 r l) + squared a w h ⟨1024 * p + r.val, by omega⟩ j := by
  rw [left_add m c n _ (by omega), pay4_apply, squared_eq m c ea ew eh (n + 1) (by omega) j (by omega) r l]
  congr 2
  exact Fin.ext (by unfold row; dsimp only; omega)

include ea ew eh in
theorem sums (p : ℕ) (hp : p < 16) (r : Fin 1024) (l : Fin 128) :
    (outsAt0 m c (8 * p + 7) (bound _ (by omega))).2.2 (ix2 r l) = Cert.OutRefIdeal.Run.squares a w h (ix2 ⟨1024 * p + r.val, by omega⟩ l) := by
  rw [sums_next m c ea ew eh p hp (8 * p + 6) 7 rfl (by decide) r l, sums_next m c ea ew eh p hp (8 * p + 5) 6 rfl (by decide) r l,
    sums_next m c ea ew eh p hp (8 * p + 4) 5 rfl (by decide) r l, sums_next m c ea ew eh p hp (8 * p + 3) 4 rfl (by decide) r l,
    sums_next m c ea ew eh p hp (8 * p + 2) 3 rfl (by decide) r l, sums_next m c ea ew eh p hp (8 * p + 1) 2 rfl (by decide) r l,
    sums_next m c ea ew eh p hp (8 * p) 1 rfl (by decide) r l, sums0 m c ea ew eh p hp r l,
    Cert.OutRefIdeal.Run.squares_apply, sum_blocks 8 512 4096 rfl, Fin.sum_univ_eight]
  rfl

end Arrays

/-! ## What each point writes back -/

variable (t : Fin cfg0.N)

theorem flushed4_eq : (dats m 0 c).flushed 4 t = ((cfg0.win 4).blk t).view.read (Elt Ideal) (Cert.OutRefIdeal.Run.result (m ((c : Thread nD τ).loc main_arg0)) (m ((c : Thread nD τ).loc main_arg1)) (m ((c : Thread nD τ).loc main_arg2))) := by
  rw [flushed4]
  funext j
  obtain ⟨r, e, rfl⟩ : ∃ (r : Fin 1024) (e : Fin 512), j = ix2 r e := pair j
  show (outsAt0 m c t.val t.isLt).1 (ix2 r e) = Cert.OutRefIdeal.Run.result _ _ _ (((cfg0.win 4).blk t).view.emb (ix2 r e))
  rw [emb4, left]
  exact pay_eq m c rfl rfl rfl t.val (points t) r e

theorem flushed5_eq : (dats m 0 c).flushed 5 t = ((cfg0.win 5).blk t).view.read (Elt Ideal) (Cert.OutRefIdeal.Run.gained (m ((c : Thread nD τ).loc main_arg0)) (m ((c : Thread nD τ).loc main_arg1)) (m ((c : Thread nD τ).loc main_arg2)) (m ((c : Thread nD τ).loc main_arg3))) := by
  rw [flushed5]
  funext j
  obtain ⟨r, e, rfl⟩ : ∃ (r : Fin 1024) (e : Fin 512), j = ix2 r e := pair j
  show (outsAt0 m c t.val t.isLt).2.1 (ix2 r e) = Cert.OutRefIdeal.Run.gained _ _ _ _ (((cfg0.win 5).blk t).view.emb (ix2 r e))
  rw [emb5]
  exact pay_gained m c rfl rfl rfl rfl t.val (points t) r e

theorem flushed6_eq (ht : t.val % 8 = 7) : (dats m 0 c).flushed 6 t = ((cfg0.win 6).blk t).view.read (Elt Ideal) (Cert.OutRefIdeal.Run.squares (m ((c : Thread nD τ).loc main_arg0)) (m ((c : Thread nD τ).loc main_arg1)) (m ((c : Thread nD τ).loc main_arg2))) := by
  rw [flushed6]
  funext j
  obtain ⟨r, e, rfl⟩ : ∃ (r : Fin 1024) (e : Fin 128), j = ix2 r e := pair j
  show (outsAt0 m c t.val t.isLt).2.2 (ix2 r e) = Cert.OutRefIdeal.Run.squares _ _ _ (((cfg0.win 6).blk t).view.emb (ix2 r e))
  obtain ⟨n, hn⟩ := t
  obtain ⟨p, rfl⟩ : ∃ p, n = 8 * p + 7 := ⟨n / 8, by dsimp only at ht; omega⟩
  have hp : p < 16 := by have := points ⟨_, hn⟩; dsimp only at this; omega
  rw [emb6]
  refine (sums m c rfl rfl rfl p hp r e).trans (congrArg _ ?_)
  have h1 : (8 * p + 7) / 8 = p := by omega
  simp only [h1]

/-- Every place of the array is in the block of some point. -/
theorem covered4 (j : S16384x4096.Idx) : ∃ t : Fin cfg0.N, (cfg0.win 4).flush t = true ∧ j ∈ ((cfg0.win 4).blk t).view.set := by
  obtain ⟨r, e, rfl⟩ := pair j
  have hr := r.isLt
  have he := e.isLt
  have hN : r.val / 1024 * 8 + e.val / 512 < cfg0.N := by rw [show cfg0.N = _ from N_0]; omega
  have hm := ((cfg0.win 4).blk ⟨_, hN⟩).view.emb_mem_set (ix2 (⟨r.val % 1024, by omega⟩ : Fin 1024) (⟨e.val % 512, by omega⟩ : Fin 512))
  rw [emb4] at hm
  have e0 : (⟨1024 * ((r.val / 1024 * 8 + e.val / 512) / 8) + r.val % 1024, by omega⟩ : Fin 16384) = r := Fin.ext (by dsimp only; omega)
  have e1 : (⟨512 * ((r.val / 1024 * 8 + e.val / 512) % 8) + e.val % 512, by omega⟩ : Fin 4096) = e := Fin.ext (by dsimp only; omega)
  have hi := congrArg₂ (fun a b => (ix2 a b : S16384x4096.Idx)) e0 e1
  exact ⟨⟨_, hN⟩, flush0_4 _, Eq.mp (congrArg (fun i => i ∈ ((cfg0.win 4).blk ⟨_, hN⟩).view.set) hi) hm⟩

/-- Every place of the array is in the block of some point. -/
theorem covered5 (j : S16384x4096.Idx) : ∃ t : Fin cfg0.N, (cfg0.win 5).flush t = true ∧ j ∈ ((cfg0.win 5).blk t).view.set := by
  obtain ⟨r, e, rfl⟩ := pair j
  have hr := r.isLt
  have he := e.isLt
  have hN : r.val / 1024 * 8 + e.val / 512 < cfg0.N := by rw [show cfg0.N = _ from N_0]; omega
  have hm := ((cfg0.win 5).blk ⟨_, hN⟩).view.emb_mem_set (ix2 (⟨r.val % 1024, by omega⟩ : Fin 1024) (⟨e.val % 512, by omega⟩ : Fin 512))
  rw [emb5] at hm
  have e0 : (⟨1024 * ((r.val / 1024 * 8 + e.val / 512) / 8) + r.val % 1024, by omega⟩ : Fin 16384) = r := Fin.ext (by dsimp only; omega)
  have e1 : (⟨512 * ((r.val / 1024 * 8 + e.val / 512) % 8) + e.val % 512, by omega⟩ : Fin 4096) = e := Fin.ext (by dsimp only; omega)
  have hi := congrArg₂ (fun a b => (ix2 a b : S16384x4096.Idx)) e0 e1
  exact ⟨⟨_, hN⟩, flush0_5 _, Eq.mp (congrArg (fun i => i ∈ ((cfg0.win 5).blk ⟨_, hN⟩).view.set) hi) hm⟩

/-- Every place of the array is in the block of some point. -/
theorem covered6 (j : S16384x128.Idx) : ∃ t : Fin cfg0.N, (cfg0.win 6).flush t = true ∧ j ∈ ((cfg0.win 6).blk t).view.set := by
  obtain ⟨r, e, rfl⟩ := pair j
  have hr := r.isLt
  have he := e.isLt
  have hN : r.val / 1024 * 8 + 7 < cfg0.N := by rw [show cfg0.N = _ from N_0]; omega
  have hm := ((cfg0.win 6).blk ⟨_, hN⟩).view.emb_mem_set (ix2 (⟨r.val % 1024, by omega⟩ : Fin 1024) (⟨e.val % 128, by omega⟩ : Fin 128))
  rw [emb6] at hm
  have e0 : (⟨1024 * ((r.val / 1024 * 8 + 7) / 8) + r.val % 1024, by omega⟩ : Fin 16384) = r := Fin.ext (by dsimp only; omega)
  have e1 : (⟨e.val % 128, by omega⟩ : Fin 128) = e := Fin.ext (by dsimp only; omega)
  have hi := congrArg₂ (fun a b => (ix2 a b : S16384x128.Idx)) e0 e1
  exact ⟨⟨_, hN⟩, (flush0_6 _).mpr (by dsimp only; omega), Eq.mp (congrArg (fun i => i ∈ ((cfg0.win 6).blk ⟨_, hN⟩).view.set) hi) hm⟩

theorem final4 : (dats m 0 c).arrAt 4 cfg0.N = Cert.OutRefIdeal.Run.result (m ((c : Thread nD τ).loc main_arg0)) (m ((c : Thread nD τ).loc main_arg1)) (m ((c : Thread nD τ).loc main_arg2)) :=
  (dats m 0 c).arrAt_eq_of_cover 4 _ (fun t _ => flushed4_eq m c t) covered4
theorem final5 : (dats m 0 c).arrAt 5 cfg0.N = Cert.OutRefIdeal.Run.gained (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t _ => flushed5_eq m c t) covered5
theorem final6 : (dats m 0 c).arrAt 6 cfg0.N = Cert.OutRefIdeal.Run.squares (m ((c : Thread nD τ).loc main_arg0)) (m ((c : Thread nD τ).loc main_arg1)) (m ((c : Thread nD τ).loc main_arg2)) :=
  (dats m 0 c).arrAt_eq_of_cover 6 _ (fun t hf => flushed6_eq m c t ((flush0_6 t).mp hf)) covered6

end Cert.OutIdeal.Run

end
-- ==== Proof.OutClaims.lean ====
/-
  The claims about the output projection.
-/
module

public import proofs.«01_k».proof.Defs
public import proofs.«01_k».proof.Proof.OutRun
public import proofs.«01_k».proof.Proof.Gen.Out.Frame
public import Idealize.ShloMosaic.Lib.Quiescent

@[expose] public section

set_option maxRecDepth 16384

noncomputable section

namespace Cert.Out.Claims

open Idealize.ShloMosaic Idealize.ShloMosaic.TcCoe Idealize.SL.Sem
open Cert.Rows

theorem frame_kernel : Cert.quiescent_Out := fun m ρ _ => Cert.Out.Gen.frame m ρ
theorem frame_ideal : Cert.quiescent_OutIdeal := fun m ρ _ => Cert.OutIdeal.Gen.frame m ρ
theorem frame_reference : Cert.quiescent_OutRefIdeal := fun m ρ _ =>
  (θ_run Cert.OutRefIdeal.defs _ _).mono (fun r h => ⟨fun c => (h c).2.2.2, Idealize.ShloMosaic.sem_eq_zero_of_no_sems (by decide) r.2⟩)
    (Cert.OutRefIdeal.Value.run (F := Ideal) m ρ)

theorem preserves : Cert.preserves_Out_OutIdeal := trivial

/-- The kernel and the reference end with the same results. -/
theorem algebraic : Cert.algebraic_OutIdeal_OutRefIdeal := by
  intro m ρ m' ρ' _ hagree
  refine ⟨fun c => Cert.OutRefIdeal.Run.result (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)), fun c => Cert.OutRefIdeal.Run.gained (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)), fun c => Cert.OutRefIdeal.Run.squares (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)),
    (θ_run Cert.OutIdeal.defs _ _).mono (fun _ h c => ⟨(h c).1.trans (Cert.OutIdeal.Run.final4 m c), (h c).2.1.trans (Cert.OutIdeal.Run.final5 m c), (h c).2.2.1.trans (Cert.OutIdeal.Run.final6 m c), (h c).2.2.2⟩)
      (Cert.OutIdeal.Value.run_blocks (F := Ideal) m ρ), ?_⟩
  refine (θ_run Cert.OutRefIdeal.defs _ _).mono (fun _ h c => ⟨(h c).1.trans ?_, (h c).2.1.trans ?_, (h c).2.2.1.trans ?_, (h c).2.2.2⟩)
    (Cert.OutRefIdeal.Value.run (F := Ideal) m' ρ')
  · show Cert.OutRefIdeal.Run.result (m' ((c.tc : Thread Cert.OutRefIdeal.nD Cert.OutRefIdeal.τ).loc Cert.OutRefIdeal.main_arg0)) (m' ((c.tc : Thread Cert.OutRefIdeal.nD Cert.OutRefIdeal.τ).loc Cert.OutRefIdeal.main_arg1)) (m' ((c.tc : Thread Cert.OutRefIdeal.nD Cert.OutRefIdeal.τ).loc Cert.OutRefIdeal.main_arg2)) = _
    rw [(hagree c).1, (hagree c).2.1, (hagree c).2.2.1]
  · show Cert.OutRefIdeal.Run.gained (m' ((c.tc : Thread Cert.OutRefIdeal.nD Cert.OutRefIdeal.τ).loc Cert.OutRefIdeal.main_arg0)) (m' ((c.tc : Thread Cert.OutRefIdeal.nD Cert.OutRefIdeal.τ).loc Cert.OutRefIdeal.main_arg1)) (m' ((c.tc : Thread Cert.OutRefIdeal.nD Cert.OutRefIdeal.τ).loc Cert.OutRefIdeal.main_arg2)) (m' ((c.tc : Thread Cert.OutRefIdeal.nD Cert.OutRefIdeal.τ).loc Cert.OutRefIdeal.main_arg3)) = _
    rw [(hagree c).1, (hagree c).2.1, (hagree c).2.2.1, (hagree c).2.2.2]
  · show Cert.OutRefIdeal.Run.squares (m' ((c.tc : Thread Cert.OutRefIdeal.nD Cert.OutRefIdeal.τ).loc Cert.OutRefIdeal.main_arg0)) (m' ((c.tc : Thread Cert.OutRefIdeal.nD Cert.OutRefIdeal.τ).loc Cert.OutRefIdeal.main_arg1)) (m' ((c.tc : Thread Cert.OutRefIdeal.nD Cert.OutRefIdeal.τ).loc Cert.OutRefIdeal.main_arg2)) = _
    rw [(hagree c).1, (hagree c).2.1, (hagree c).2.2.1]

end Cert.Out.Claims

end
-- ==== Proof.NormPay.lean ====
/-
  THE LAST NORM: the values the body stores, entry by entry.
-/
module

public import proofs.«01_k».proof.Proof.Gen.NormIdeal.Skeleton
public import proofs.«01_k».proof.Proof.Rows
public import Idealize.ShloMosaic.Lib.Pointwise

@[expose] public section

set_option maxRecDepth 16384

noncomputable section

namespace Cert.NormIdeal.Run

open Idealize.ShloMosaic Idealize.ShloMosaic.TcCoe Idealize.SL.Sem
open Cert.NormIdeal Cert.NormIdeal.Gen Cert.Rows

theorem pay1_apply (v0 : Vec Ideal S256x4096 .f32) (v2 : Vec Ideal S1x4096 .f32) (r : Fin 256) (c : Fin 4096) :
    k0_pay1 v0 v2 (ix2 r c) = v0 (ix2 r c) * rms (∑ k : Fin 4096, v0 (ix2 r k) * v0 (ix2 r k)) * v2 (ix2 0 c) := by
  unfold k0_pay1
  pointwise
  rw [rms_div]

end Cert.NormIdeal.Run

end
-- ==== Proof.NormRef.lean ====
/-
  THE LAST NORM: the reference, entry by entry.
-/
module

public import proofs.«01_k».proof.Proof.Gen.NormRefIdeal.Run
public import proofs.«01_k».proof.Proof.Rows
public import Idealize.ShloMosaic.Lib.Pointwise

@[expose] public section

set_option maxRecDepth 16384

noncomputable section

namespace Cert.NormRefIdeal.Run

open Idealize.ShloMosaic Idealize.ShloMosaic.TcCoe Idealize.SL.Sem
open Cert.NormRefIdeal Cert.NormRefIdeal.Gen Cert.Rows

/-- The reference's result. -/
def result (h : FVec Ideal S4x4096x4096 .f32) (g : FVec Ideal S4096 .f32) : FVec Ideal S16384x4096 .f32 :=
  shapeCast S16384x4096 (mulf (mulf h (broadcastInDim S4x4096x4096 ![0, 1, 2] bcast_S4x4096x1_S4x4096x4096_0_1_2 (Host.rsqrt (addf (Host.divf
    (broadcastInDim S4x4096x1 ![0, 1] bcast_S4x4096_S4x4096x1_0_1 (Host.reduceAdd (mulf h h) (constant S_ .f32 0x00000000#32) reducesTo_S4x4096x4096_S4x4096_d2 h_S_))
    (broadcastInDim S4x4096x1 ![] bcast_S_S4x4096x1 (constant S_ .f32 0x45800000#32))) (broadcastInDim S4x4096x1 ![] bcast_S_S4x4096x1 (constant S_ .f32 0x358637BD#32))))))
    (broadcastInDim S4x4096x4096 ![0, 1, 2] bcast_S1x1x4096_S4x4096x4096_0_1_2 (broadcastInDim S1x1x4096 ![2] bcast_S4096_S1x1x4096_2 g))) shapeCasts_S4x4096x4096_S16384x4096

theorem result_apply (h : FVec Ideal S4x4096x4096 .f32) (g : FVec Ideal S4096 .f32) (b : Fin 4) (r c : Fin 4096) :
    result h g (ix2 ⟨4096 * b.val + r.val, by omega⟩ c)
      = h (ix3 b r c) * rms (∑ k : Fin 4096, h (ix3 b r k) * h (ix3 b r k)) * g (ix1 c) := by
  unfold result
  rw [shapeCast_apply _ _ (ix2 ⟨4096 * b.val + r.val, by omega⟩ c) (ix3 b r c) (by rw [Shape.rowMajor_val_three, Shape.rowMajor_val_two]; show (b.val * 4096 + r.val) * 4096 + c.val = (4096 * b.val + r.val) * 4096 + c.val; ring)]
  pointwise
  simp only [rms_div]

end Cert.NormRefIdeal.Run

end
-- ==== Proof.NormRun.lean ====
/-
  THE LAST NORM: the run, block by block.
-/
module

public import proofs.«01_k».proof.Proof.NormPay
public import proofs.«01_k».proof.Proof.NormRef
public import proofs.«01_k».proof.Proof.Gen.NormIdeal.Value
public import Idealize.ShloMosaic.Lib.Claim

@[expose] public section

set_option maxRecDepth 16384

noncomputable section

namespace Cert.NormIdeal.Run

open Idealize.ShloMosaic Idealize.ShloMosaic.TcCoe Idealize.SL.Sem
open Cert.NormIdeal Cert.NormIdeal.Gen Cert.NormIdeal.Value Cert.Rows

/-- A rank-2 index is the pair of its coordinates. -/
theorem pair {a b : ℕ} (i : (Shape.mk 2 ![a, b]).Idx) : ∃ (r : Fin a) (c : Fin b), i = ix2 r c := ⟨i 0, i 1, (ix2_eta i).symm⟩

/-- The corner of a block. -/
theorem corner : (![0, 0] : Fin 2 → ℕ) = fun _ => 0 := by decide
theorem corner3 : (![0, 0, 0] : Fin 3 → ℕ) = fun _ => 0 := by decide

variable (m : (ℓ : Loc nD τ sig) → Buf (Elt Ideal) ℓ)

/-- The rows of all sequences. -/
def rows (h : FVec Ideal S4x4096x4096 .f32) : FVec Ideal S16384x4096 .f32 := shapeCast S16384x4096 h shapeCasts_S4x4096x4096_S16384x4096
/-- The gains as a row. -/
def gains (g : FVec Ideal S4096 .f32) : FVec Ideal S1x4096 .f32 := shapeCast S1x4096 g shapeCasts_S4096_S1x4096

theorem rows_apply (h : FVec Ideal S4x4096x4096 .f32) (b : Fin 4) (r c : Fin 4096) : rows h (ix2 ⟨4096 * b.val + r.val, by omega⟩ c) = h (ix3 b r c) := by
  unfold rows
  exact shapeCast_apply _ _ (ix2 ⟨4096 * b.val + r.val, by omega⟩ c) (ix3 b r c) (by rw [Shape.rowMajor_val_three, Shape.rowMajor_val_two]; show (b.val * 4096 + r.val) * 4096 + c.val = (4096 * b.val + r.val) * 4096 + c.val; ring)
theorem gains_apply (g : FVec Ideal S4096 .f32) (c : Fin 4096) : gains g (ix2 0 c) = g (ix1 c) := by
  unfold gains
  pointwise

theorem V_v0 (c : Dev nD) : V m c main_v0 = rows (m ((c : Thread nD τ).loc main_arg0)) := by
  unfold_abbrev_sides
  after_results
  rfl
theorem V_v1 (c : Dev nD) : V m c main_v1 = gains (m ((c : Thread nD τ).loc main_arg1)) := by
  unfold_abbrev_sides
  after_results
  rfl

/-! ## The windows -/

theorem points (t : Fin cfg0.N) : t.val < 64 := t.isLt.trans_eq N_0

theorem index0 : ∀ t : Fin cfg0.N, win0_0.index t (0 : Fin 2) = t.val ∧ win0_0.index t (1 : Fin 2) = 0 :=
  (by decide +kernel : ∀ t : Fin grid0.N, _)

theorem block0 (c : Dev nD) (t : Fin cfg0.N) (r : Fin 256) (k : Fin 4096) : iblk m c 0 t (ix2 r k)
    = V m c main_v0 (ix2 ⟨256 * (t.val) + r.val, by have := points t; omega⟩ ⟨k.val, by have := points t; omega⟩) := by
  obtain ⟨e0, e1⟩ := index0 t
  show V m c main_v0 (((cfg0.win 0).blk t).view.emb (ix2 r k)) = _
  congr 1
  funext a; apply Fin.ext
  match a with
  | ⟨0, _⟩ => show win0_0.index t (0 : Fin 2) * 256 + 1 * r.val = 256 * (t.val) + r.val; omega
  | ⟨1, _⟩ => show win0_0.index t (1 : Fin 2) * 4096 + 1 * k.val = k.val; omega

theorem index1 : ∀ t : Fin cfg0.N, win0_1.index t (0 : Fin 2) = 0 ∧ win0_1.index t (1 : Fin 2) = 0 :=
  (by decide +kernel : ∀ t : Fin grid0.N, _)

theorem block1 (c : Dev nD) (t : Fin cfg0.N) (r : Fin 1) (k : Fin 4096) : iblk m c 1 t (ix2 r k)
    = V m c main_v1 (ix2 ⟨r.val, by have := points t; omega⟩ ⟨k.val, by have := points t; omega⟩) := by
  obtain ⟨e0, e1⟩ := index1 t
  show V m c main_v1 (((cfg0.win 1).blk t).view.emb (ix2 r k)) = _
  congr 1
  funext a; apply Fin.ext
  match a with
  | ⟨0, _⟩ => show win0_1.index t (0 : Fin 2) * 1 + 1 * r.val = r.val; omega
  | ⟨1, _⟩ => show win0_1.index t (1 : Fin 2) * 4096 + 1 * k.val = k.val; omega

theorem index2 : ∀ t : Fin cfg0.N, win0_2.index t (0 : Fin 2) = t.val ∧ win0_2.index t (1 : Fin 2) = 0 :=
  (by decide +kernel : ∀ t : Fin grid0.N, _)

theorem emb2 (t : Fin cfg0.N) (r : Fin 256) (k : Fin 4096) : ((cfg0.win 2).blk t).view.emb (ix2 r k)
    = ix2 ⟨256 * (t.val) + r.val, by have := points t; omega⟩ ⟨k.val, by have := points t; omega⟩ := by
  obtain ⟨e0, e1⟩ := index2 t
  funext a; apply Fin.ext
  match a with
  | ⟨0, _⟩ => show win0_2.index t (0 : Fin 2) * 256 + 1 * r.val = 256 * (t.val) + r.val; omega
  | ⟨1, _⟩ => show win0_2.index t (1 : Fin 2) * 4096 + 1 * k.val = k.val; omega

variable (c : Dev nD) (t : Fin cfg0.N)

/-- What a point writes back is its block of the reference's result. -/
theorem flushed2_eq (h : FVec Ideal S4x4096x4096 .f32) (g : FVec Ideal S4096 .f32)
    (eh : m ((c : Thread nD τ).loc main_arg0) = h) (eg : m ((c : Thread nD τ).loc main_arg1) = g) :
    (dats m 0 c).flushed 2 t = ((cfg0.win 2).blk t).view.read (Elt Ideal) (Cert.NormRefIdeal.Run.result h g) := by
  have ht := points t
  rw [flushed2]
  funext j
  obtain ⟨r, e, rfl⟩ : ∃ (r : Fin 256) (e : Fin 4096), j = ix2 r e := pair j
  show out0_2 (iblk m c 0 t) (iblk m c 1 t) (ix2 r e)
    = Cert.NormRefIdeal.Run.result h g (((cfg0.win 2).blk t).view.emb (ix2 r e))
  unfold out0_2
  rw [View.canon_unit_zero corner, View.ld_unit_zero corner, View.ld_unit_zero corner, pay1_apply]
  have er : (⟨256 * t.val + r.val, by omega⟩ : Fin 16384) = ⟨4096 * (t.val / 16) + (256 * (t.val % 16) + r.val), by omega⟩ := Fin.ext (by dsimp only; omega)
  have e0 : ∀ k : Fin 4096, iblk m c 0 t (ix2 r k) = h (ix3 ⟨t.val / 16, by omega⟩ ⟨256 * (t.val % 16) + r.val, by omega⟩ k) := fun k => by
    rw [block0, V_v0, eh, er]; exact rows_apply h ⟨t.val / 16, by omega⟩ ⟨256 * (t.val % 16) + r.val, by omega⟩ k
  have e1 : iblk m c 1 t (ix2 0 e) = g (ix1 e) := by
    rw [block1, V_v1, eg]; exact gains_apply g e
  rw [emb2, er]
  refine Eq.trans ?_ (Cert.NormRefIdeal.Run.result_apply h g ⟨t.val / 16, by omega⟩ ⟨256 * (t.val % 16) + r.val, by omega⟩ e).symm
  simp only [e0, e1]

/-- Every place of the array is in the block of some point. -/
theorem covered2 (j : S16384x4096.Idx) : ∃ t : Fin cfg0.N, (cfg0.win 2).flush t = true ∧ j ∈ ((cfg0.win 2).blk t).view.set := by
  obtain ⟨r, e, rfl⟩ := pair j
  have hr := r.isLt
  have he := e.isLt
  have hN : r.val / 256 < cfg0.N := by rw [show cfg0.N = _ from N_0]; omega
  have hm := ((cfg0.win 2).blk ⟨_, hN⟩).view.emb_mem_set (ix2 (⟨r.val % 256, by omega⟩ : Fin 256) (⟨e.val % 4096, by omega⟩ : Fin 4096))
  rw [emb2] at hm
  have e0 : (⟨256 * ((r.val / 256)) + r.val % 256, by omega⟩ : Fin 16384) = r := Fin.ext (by dsimp only; omega)
  have e1 : (⟨e.val % 4096, by omega⟩ : Fin 4096) = e := Fin.ext (by dsimp only; omega)
  have hi := congrArg₂ (fun a b => (ix2 a b : S16384x4096.Idx)) e0 e1
  exact ⟨⟨_, hN⟩, flush0_2 _, Eq.mp (congrArg (fun i => i ∈ ((cfg0.win 2).blk ⟨_, hN⟩).view.set) hi) hm⟩

theorem final2 : (dats m 0 c).arrAt 2 cfg0.N = Cert.NormRefIdeal.Run.result (m ((c : Thread nD τ).loc main_arg0)) (m ((c : Thread nD τ).loc main_arg1)) :=
  (dats m 0 c).arrAt_eq_of_cover 2 _ (fun t _ => flushed2_eq m c t _ _ rfl rfl) covered2

end Cert.NormIdeal.Run

end
-- ==== Proof.NormClaims.lean ====
/-
  The claims about the last norm.
-/
module

public import proofs.«01_k».proof.Defs
public import proofs.«01_k».proof.Proof.NormRun
public import proofs.«01_k».proof.Proof.Gen.Norm.Frame
public import Idealize.ShloMosaic.Lib.Quiescent

@[expose] public section

set_option maxRecDepth 16384

noncomputable section

namespace Cert.Norm.Claims

open Idealize.ShloMosaic Idealize.ShloMosaic.TcCoe Idealize.SL.Sem
open Cert.Rows

theorem frame_kernel : Cert.quiescent_Norm := fun m ρ _ => Cert.Norm.Gen.frame m ρ
theorem frame_ideal : Cert.quiescent_NormIdeal := fun m ρ _ => Cert.NormIdeal.Gen.frame m ρ
theorem frame_reference : Cert.quiescent_NormRefIdeal := fun m ρ _ =>
  (θ_run Cert.NormRefIdeal.defs _ _).mono (fun r h => ⟨fun c => (h c).2, Idealize.ShloMosaic.sem_eq_zero_of_no_sems (by decide) r.2⟩)
    (Cert.NormRefIdeal.Value.run (F := Ideal) m ρ)

theorem preserves : Cert.preserves_Norm_NormIdeal := trivial

/-- The kernel and the reference end with the same results. -/
theorem algebraic : Cert.algebraic_NormIdeal_NormRefIdeal := by
  intro m ρ m' ρ' _ hagree
  refine ⟨fun c => Cert.NormRefIdeal.Run.result (m ((c.tc : Thread Cert.NormIdeal.nD Cert.NormIdeal.τ).loc Cert.NormIdeal.main_arg0)) (m ((c.tc : Thread Cert.NormIdeal.nD Cert.NormIdeal.τ).loc Cert.NormIdeal.main_arg1)),
    (θ_run Cert.NormIdeal.defs _ _).mono (fun _ h c => ⟨(h c).1.trans (Cert.NormIdeal.Run.final2 m c), (h c).2⟩)
      (Cert.NormIdeal.Value.run_blocks (F := Ideal) m ρ), ?_⟩
  refine (θ_run Cert.NormRefIdeal.defs _ _).mono (fun _ h c => ⟨(h c).1.trans ?_, (h c).2⟩)
    (Cert.NormRefIdeal.Value.run (F := Ideal) m' ρ')
  · show Cert.NormRefIdeal.Run.result (m' ((c.tc : Thread Cert.NormRefIdeal.nD Cert.NormRefIdeal.τ).loc Cert.NormRefIdeal.main_arg0)) (m' ((c.tc : Thread Cert.NormRefIdeal.nD Cert.NormRefIdeal.τ).loc Cert.NormRefIdeal.main_arg1)) = _
    rw [(hagree c).1, (hagree c).2]

end Cert.Norm.Claims

end
-- ==== Proof.PoolSum.lean ====
/-
  THE POOLING MIXER: sums over trailing windows, and the numbers both programs compute from them.
-/
module

public import proofs.«01_k».proof.Proof.Rows
public import proofs.«01_k».proof.Proof.Entry
public import Idealize.ShloMosaic.Lib.Pointwise

@[expose] public section

set_option maxRecDepth 16384

noncomputable section

namespace Cert.Pool

open Idealize.ShloMosaic Idealize.ShloMosaic.TcCoe Idealize.SL.Sem
open Cert.Rows

/-- The count of tokens in the window of width `w` that ends at position `t`. -/
def inWindow (w : BitVec 32) (t : ℕ) : EReal :=
  FloatOps.sitofp (F := Ideal) .f32 (Scalar.minsi (Scalar.addi (BitVec.ofNat 32 t) 1#32) w)

/-- A row's mixed value: the window's mean minus the token, times the group's weights, scaled, on the residual. -/
def mixed (h : EReal) (tot tok : Fin 1024 → EReal) (n : EReal) (w : Fin 1024 → EReal) (s : EReal) : EReal :=
  h + (∑ k, (Ideal.div (tot k) n - tok k) * w k) * s

/-- An entry of a row, normed. -/
def normed {n : ℕ} (h : Fin n → EReal) (k : Fin n) (g : EReal) : EReal := h k * rms (∑ j, h j * h j) * g

/-- Under a finite gain a normed entry is a real number, whatever the row: an infinite entry has factor zero. -/
theorem normed_real {n : ℕ} (h : Fin n → EReal) (k : Fin n) (g : EReal) (hg : ∃ r : ℝ, g = (r : EReal)) :
    ∃ r : ℝ, normed h k g = (r : EReal) := by
  obtain ⟨g, rfl⟩ := hg
  have hinf : h k * h k = ⊤ → normed h k (g : EReal) = ((0 : ℝ) : EReal) := by
    intro hk
    have hs : ∑ j, h j * h j = ⊤ := top_le_iff.mp (hk ▸ Finset.single_le_sum (f := fun j => h j * h j) (fun j _ => square_nonneg (h j)) (Finset.mem_univ k))
    unfold normed
    rw [hs]
    unfold rms
    rw [EReal.top_mul_coe_of_pos (by norm_num), small_eq, EReal.top_add_coe, Ideal.rsqrt_top, mul_zero, zero_mul, EReal.coe_zero]
  obtain ⟨r, -, hr⟩ := rms_real (squares_nonneg h)
  rcases hk : h k with _ | _ | x
  · exact ⟨0, hinf (by rw [hk]; rfl)⟩
  · exact ⟨0, hinf (by rw [hk]; rfl)⟩
  · refine ⟨x * r * g, ?_⟩
    unfold normed
    rw [hk, hr]
    push_cast
    rfl

/-! ## Trailing windows -/

/-- The sum of the last `w` numbers up to position `t`. -/
def trail (x : ℕ → ℝ) (w t : ℕ) : ℝ := ∑ j ∈ Finset.Ico (t + 1 - w) (t + 1), x j

theorem trail_eq (x : ℕ → ℝ) (w t : ℕ) : ∑ k ∈ Finset.range w, (if k ≤ t then x (t - k) else 0) = trail x w t := by
  induction w with
  | zero => simp [trail]
  | succ w ih =>
    rw [Finset.sum_range_succ, ih]
    unfold trail
    by_cases hw : w ≤ t
    · rw [if_pos hw, show t + 1 - (w + 1) = t - w by omega, Finset.sum_eq_sum_Ico_succ_bot (show t - w < t + 1 by omega),
        show t - w + 1 = t + 1 - w by omega, add_comm]
    · rw [if_neg hw, add_zero, show t + 1 - (w + 1) = t + 1 - w by omega]

/-- The difference of two prefix sums. -/
theorem trail_prefix (x : ℕ → ℝ) (w t : ℕ) :
    ∑ j ∈ Finset.range (t + 1), x j - ∑ j ∈ Finset.range (t + 1 - w), x j = trail x w t := by
  unfold trail
  rw [Finset.sum_Ico_eq_sub _ (by omega)]

/-- Two sums of `n` rows, `n` rows apart, are one sum of twice as many. -/
theorem double (X A : ℕ → EReal) (n r : ℕ) (h : A r = ∑ k ∈ Finset.range n, X (r - k))
    (h' : A (r - n) = ∑ k ∈ Finset.range n, X (r - n - k)) :
    A r + A (r - n) = ∑ k ∈ Finset.range (n + n), X (r - k) := by
  rw [Finset.sum_range_add, h, h']
  simp only [Nat.sub_sub]

/-- The rows of a block, normed, with sixteen rows before it: zero before the sequence starts. -/
def IsRows (X : ℕ → EReal) (b : ℕ) (x : ℕ → ℝ) : Prop :=
  ∀ r, 8 ≤ r → r < 280 → X r = ((if 24 ≤ 256 * b + r then x (256 * b + r - 24) else 0 : ℝ) : EReal)

/-- A sum of up to sixteen rows is the trailing sum at the row's position. -/
theorem rows_trail {X : ℕ → EReal} {b : ℕ} {x : ℕ → ℝ} (hX : IsRows X b x) (w r : ℕ) (hw : w ≤ 16) (hr : r < 256) :
    ∑ k ∈ Finset.range w, X (24 + r - k) = ((trail x w (256 * b + r) : ℝ) : EReal) := by
  rw [← trail_eq, ← Cert.Attn.coe_sum]
  refine Finset.sum_congr rfl fun k hk => ?_
  have hk := Finset.mem_range.mp hk
  rw [hX _ (by omega) (by omega)]
  congr 1
  by_cases h : k ≤ 256 * b + r
  · rw [if_pos h, if_pos (by omega)]
    congr 1
    omega
  · rw [if_neg h, if_neg (by omega)]

/-! ## The prefix sum of a host program -/

/-- A left fold of sums is the first value plus the sum of the addends. -/
theorem foldl_add_finRange {n : ℕ} (g : Fin n → EReal) (v : EReal) :
    (List.finRange n).foldl (fun r k => r + g k) v = v + ∑ k : Fin n, g k := by
  rw [← List.sum_ofFn, List.ofFn_eq_map]
  generalize List.finRange n = l
  induction l generalizing v with
  | nil => simp
  | cons a l ih => rw [List.foldl_cons, ih, List.map_cons, List.sum_cons, add_assoc]

/-- A window of the whole middle axis, padded low. -/
theorem windowMiddle {A N C : ℕ} (M : ℕ) (x : (⟨3, ![A, N, C]⟩ : Shape).Idx → EReal)
    (h : (⟨3, ![A, N, C]⟩ : Shape).ReduceWindows ![1, N, 1] ![1, 1, 1] ![0, M, 0] ![0, 0, 0] ⟨3, ![A, N, C]⟩)
    (a : Fin A) (t : Fin N) (c : Fin C) :
    Ideal.hostReduceWindowAdd ![1, N, 1] ![1, 1, 1] ![0, M, 0] ![0, 0, 0] h x 0 (ix3 a t c)
      = ∑ n : Fin N, (if hn : M ≤ t.val + n.val ∧ t.val + n.val - M < N then x (ix3 a ⟨t.val + n.val - M, hn.2⟩ c) else 0) := by
  unfold Ideal.hostReduceWindowAdd Host.reduceWindow
  dsimp only
  refine (foldl_add_finRange _ _).trans ?_
  rw [zero_add]
  have hterm : ∀ i : (⟨3, ![1, N, 1]⟩ : Shape).Idx,
      (if hin : ∀ e : Fin 3, ![0, M, 0] e ≤ (ix3 a t c (e.cast h.1.symm)).val * ![1, 1, 1] e + (i e).val
          ∧ (ix3 a t c (e.cast h.1.symm)).val * ![1, 1, 1] e + (i e).val - ![0, M, 0] e < ![A, N, C] e then
        x (fun e => ⟨(ix3 a t c (e.cast h.1.symm)).val * ![1, 1, 1] e + (i e).val - ![0, M, 0] e, (hin e).2⟩)
      else 0) = (if hn : M ≤ t.val + (i 1).val ∧ t.val + (i 1).val - M < N then x (ix3 a ⟨t.val + (i 1).val - M, hn.2⟩ c) else 0) := by
    intro i
    have h0 : (i 0).val = 0 := Nat.lt_one_iff.mp (i 0).isLt
    have h2 : (i 2).val = 0 := Nat.lt_one_iff.mp (i 2).isLt
    by_cases hn : M ≤ t.val + (i 1).val ∧ t.val + (i 1).val - M < N
    · rw [dif_pos hn, dif_pos]
      · refine congrArg x (funext fun e => Fin.ext ?_)
        match e with
        | ⟨0, _⟩ => show a.val * 1 + (i 0).val - 0 = a.val; omega
        | ⟨1, _⟩ => show t.val * 1 + (i 1).val - M = t.val + (i 1).val - M; omega
        | ⟨2, _⟩ => show c.val * 1 + (i 2).val - 0 = c.val; omega
      · intro e
        match e with
        | ⟨0, _⟩ => show 0 ≤ a.val * 1 + (i 0).val ∧ a.val * 1 + (i 0).val - 0 < A; have := a.isLt; omega
        | ⟨1, _⟩ => show M ≤ t.val * 1 + (i 1).val ∧ t.val * 1 + (i 1).val - M < N; omega
        | ⟨2, _⟩ => show 0 ≤ c.val * 1 + (i 2).val ∧ c.val * 1 + (i 2).val - 0 < C; have := c.isLt; omega
    · rw [dif_neg hn, dif_neg]
      intro hin
      have h1 : M ≤ t.val * 1 + (i 1).val ∧ t.val * 1 + (i 1).val - M < N := hin 1
      omega
  refine (Finset.sum_congr rfl fun k _ => (Eq.trans (by congr 1) (hterm ((Shape.rowMajor ⟨3, ![1, N, 1]⟩).symm k)))).trans ?_
  refine (Equiv.sum_comp (Shape.rowMajor ⟨3, ![1, N, 1]⟩).symm (fun i : (⟨3, ![1, N, 1]⟩ : Shape).Idx =>
    (if hn : M ≤ t.val + (i 1).val ∧ t.val + (i 1).val - M < N then x (ix3 a ⟨t.val + (i 1).val - M, hn.2⟩ c) else 0))).trans ?_
  rw [sum_idx3]
  simp only [Finset.univ_unique, Finset.sum_singleton]
  rfl

/-- The prefix sum of real numbers. -/
theorem prefix_real (N M : ℕ) (hN : N = M + 1) (X : ℕ → ℝ) (t : ℕ) (ht : t < N) :
    (∑ n : Fin N, (if M ≤ t + n.val then X (t + n.val - M) else 0)) = ∑ j ∈ Finset.range (t + 1), X j := by
  rw [← Finset.sum_range (fun n => if M ≤ t + n then X (t + n - M) else 0), ← Finset.sum_filter]
  have e : Finset.filter (fun n => M ≤ t + n) (Finset.range N) = Finset.Ico (M - t) N := by
    ext n
    simp only [Finset.mem_filter, Finset.mem_range, Finset.mem_Ico]
    omega
  rw [e, Finset.sum_Ico_eq_sum_range, show N - (M - t) = t + 1 by omega]
  refine Finset.sum_congr rfl fun j _ => ?_
  congr 1
  omega

end Cert.Pool

end
-- ==== Proof.PoolPay.lean ====
/-
  THE POOLING MIXER: the values the body computes, entry by entry.
-/
module

public import proofs.«01_k».proof.Proof.Gen.PoolIdeal.Skeleton
public import proofs.«01_k».proof.Proof.PoolSum
public import Idealize.ShloMosaic.Lib.Pointwise

@[expose] public section

set_option maxRecDepth 16384

noncomputable section

namespace Cert.PoolIdeal.Run

open Idealize.ShloMosaic Idealize.ShloMosaic.TcCoe Idealize.SL.Sem
open Cert.PoolIdeal Cert.PoolIdeal.Gen Cert.Rows Cert.Pool

/-- The position of a row of a block, as a word. -/
theorem position (i : grid0.Coords) (r : Fin 256) :
    Scalar.addi (Scalar.muli (BitVec.ofNat 32 (i 1).val) 256#32) (BitVec.ofNat 32 r.val) = BitVec.ofNat 32 (256 * (i 1).val + r.val) := by
  apply BitVec.eq_of_toNat_eq
  have hi : (i 1).val < 16 := (i 1).isLt
  have hr := r.isLt
  simp [Scalar.addi, Scalar.muli, IntOp.addi, IntOp.muli]
  omega

theorem pay6_apply (v2 : Vec Ideal S1x256x4096 .f32) (r : Fin 256) (c : Fin 4096) : k0_pay6 v2 (ix2 r c) = v2 (ix3 0 r c) := by
  unfold k0_pay6
  pointwise

theorem pay10_apply (v0 : Vec Ideal S1x4096 .f32) (v2 : Vec Ideal S1x256x4096 .f32) (r : Fin 256) (c : Fin 4096) :
    k0_pay10 (k0_pay5 v0) (k0_pay6 v2) (k0_pay9 v2) (ix2 r c)
      = normed (fun k => v2 (ix3 0 r k)) c (v0 (ix2 0 c)) := by
  unfold k0_pay10 k0_pay5 k0_pay9 k0_pay6 normed
  pointwise [rms_div]

theorem pay8_apply (i : grid0.Coords) (v0 : Vec Ideal S1x4096 .f32) (v9 : Vec Ideal S1x16x4096 .f32) (r : Fin 16) (c : Fin 4096) :
    k0_pay8 i v0 v9 (ix2 r c) = if (i 1).val = 0 then 0 else normed (fun k => v9 (ix3 0 r k)) c (v0 (ix2 0 c)) := by
  have e : Scalar.cmpi .sgt (BitVec.ofNat 32 (i 1).val) 0#32 = if (i 1).val = 0 then 0#1 else 1#1 :=
    (by decide +kernel : ∀ n : Fin 16, Scalar.cmpi .sgt (BitVec.ofNat 32 n.val) 0#32 = if n.val = 0 then 0#1 else 1#1) (i 1)
  unfold k0_pay8 k0_pay5
  rw [e]
  by_cases h : (i 1).val = 0
  · rw [if_pos h, if_pos h]
    exact ofBits_zero
  · rw [if_neg h, if_neg h]
    show shapeCast S16x4096 (mulf _ _) _ (ix2 r c) = _
    unfold normed
    pointwise [rms_div]

theorem mix0 (i : grid0.Coords) (v2 : Vec Ideal S1x256x4096 .f32) (v55 v56 v57 : Vec Ideal S256x1024 .f32) (w : Vec Ideal S1x1x1024x1024 .bf16)
    (s : Vec Ideal S1x1024 .f32) (r : Fin 256) (c : Fin 1024) :
    k0_pay16 (k0_pay6 v2) (k0_pay14 (BitVec.ofNat 32 (i 1).val) v55 v56 v57) (k0_pay15 w) (constant S256x1024 .f32 0x00000000#32) s (ix2 r c)
      = mixed (v2 (ix3 0 r ⟨c.val, by omega⟩)) (fun k => v56 (ix2 r k) + v57 (ix2 r k)) (fun k => v55 (ix2 r k)) (inWindow 2#32 (256 * (i 1).val + r.val))
          (fun k => w (ix4 0 0 k c)) (s (ix2 0 c)) := by
  unfold k0_pay16 k0_pay14 k0_pay15 k0_pay13 k0_pay6 mixed inWindow
  rw [← position]
  pointwise
  rfl

theorem mix1 (i : grid0.Coords) (v2 : Vec Ideal S1x256x4096 .f32) (v55 v56 v57 : Vec Ideal S256x1024 .f32) (w : Vec Ideal S1x1x1024x1024 .bf16)
    (s : Vec Ideal S1x1024 .f32) (r : Fin 256) (c : Fin 1024) :
    k0_pay21 (k0_pay6 v2) (k0_pay13 (BitVec.ofNat 32 (i 1).val)) v55 v56 v57 w s (ix2 r c)
      = mixed (v2 (ix3 0 r ⟨1024 + c.val, by omega⟩)) (fun k => v56 (ix2 r k) + v57 (ix2 r k)) (fun k => v55 (ix2 r k)) (inWindow 4#32 (256 * (i 1).val + r.val))
          (fun k => w (ix4 0 0 k c)) (s (ix2 0 c)) := by
  unfold k0_pay21 k0_pay13 k0_pay6 mixed inWindow
  rw [← position]
  pointwise
  rfl

theorem mix2 (i : grid0.Coords) (v2 : Vec Ideal S1x256x4096 .f32) (v55 v56 v57 : Vec Ideal S256x1024 .f32) (w : Vec Ideal S1x1x1024x1024 .bf16)
    (s : Vec Ideal S1x1024 .f32) (r : Fin 256) (c : Fin 1024) :
    k0_pay31 (k0_pay6 v2) (k0_pay30 (k0_pay13 (BitVec.ofNat 32 (i 1).val)) v55 v56 v57) w s (ix2 r c)
      = mixed (v2 (ix3 0 r ⟨2048 + c.val, by omega⟩)) (fun k => v56 (ix2 r k) + v57 (ix2 r k)) (fun k => v55 (ix2 r k)) (inWindow 8#32 (256 * (i 1).val + r.val))
          (fun k => w (ix4 0 0 k c)) (s (ix2 0 c)) := by
  unfold k0_pay31 k0_pay30 k0_pay13 k0_pay6 mixed inWindow
  rw [← position]
  pointwise
  rfl

theorem mix3 (i : grid0.Coords) (v2 : Vec Ideal S1x256x4096 .f32) (v55 v56 v57 : Vec Ideal S256x1024 .f32) (w : Vec Ideal S1x1x1024x1024 .bf16)
    (s : Vec Ideal S1x1024 .f32) (r : Fin 256) (c : Fin 1024) :
    k0_pay1 (k0_pay39 (k0_pay13 (BitVec.ofNat 32 (i 1).val)) v55 v56 v57 w) (k0_pay40 (k0_pay6 v2)) (k0_pay41 s) (ix2 r c)
      = mixed (v2 (ix3 0 r ⟨3072 + c.val, by omega⟩)) (fun k => v56 (ix2 r k) + v57 (ix2 r k)) (fun k => v55 (ix2 r k)) (inWindow 16#32 (256 * (i 1).val + r.val))
          (fun k => w (ix4 0 0 k c)) (s (ix2 0 c)) := by
  unfold k0_pay1 k0_pay39 k0_pay40 k0_pay41 k0_pay13 k0_pay6 mixed inWindow
  rw [← position]
  pointwise
  rfl

/-- The result of a group, as the body stores it. -/
theorem cast_apply (y : FVec Ideal S256x1024 .f32) (r : Fin 256) (c : Fin 1024) :
    shapeCast S1x256x1024 y shapeCasts_S256x1024_S1x256x1024 (ix3 0 r c) = y (ix2 r c) := by
  pointwise

/-- The result of a group times its gains. -/
def gained (y : FVec Ideal S256x1024 .f32) (g : Vec Ideal S1x1024 .f32) : FVec Ideal S256x1024 .bf16 :=
  truncf .bf16 (mulf y (broadcastTo S256x1024 (shapeCast S1x1024 g shapeCasts_S1x1024_S1x1024) broadcasts_S1x1024_S256x1024)) bitsLt_bf16_f32

theorem gained_apply (y : FVec Ideal S256x1024 .f32) (g : Vec Ideal S1x1024 .f32) (r : Fin 256) (c : Fin 1024) :
    gained y g (ix2 r c) = y (ix2 r c) * g (ix2 0 c) := by
  unfold gained
  pointwise

/-- The squares of a group added over its eight groups of lanes. -/
def lanes (y : FVec Ideal S256x1024 .f32) : FVec Ideal S256x128 .f32 :=
  let q := mulf y y
  addf (addf (addf (addf (addf (addf (addf (extractStridedSlice S256x128 ![0, 0] q slices_S256x1024_o0_0_S256x128)
    (extractStridedSlice S256x128 ![0, 128] q slices_S256x1024_o0_128_S256x128)) (extractStridedSlice S256x128 ![0, 256] q slices_S256x1024_o0_256_S256x128))
    (extractStridedSlice S256x128 ![0, 384] q slices_S256x1024_o0_384_S256x128)) (extractStridedSlice S256x128 ![0, 512] q slices_S256x1024_o0_512_S256x128))
    (extractStridedSlice S256x128 ![0, 640] q slices_S256x1024_o0_640_S256x128)) (extractStridedSlice S256x128 ![0, 768] q slices_S256x1024_o0_768_S256x128))
    (extractStridedSlice S256x128 ![0, 896] q slices_S256x1024_o0_896_S256x128)

theorem lanes_sum (y : FVec Ideal S256x1024 .f32) (r : Fin 256) :
    ∑ l : Fin 128, lanes y (ix2 r l) = ∑ c : Fin 1024, y (ix2 r c) * y (ix2 r c) := by
  refine Eq.trans ?_ (lanes8 fun c => y (ix2 r c) * y (ix2 r c))
  refine Finset.sum_congr rfl fun l _ => ?_
  unfold lanes
  pointwise

/-- The sums of squares of the four groups, added lane by lane and then along the lanes. -/
def squares (y0 y1 y2 y3 : FVec Ideal S256x1024 .f32) : FVec Ideal S256x128 .f32 :=
  broadcastTo S256x128 (shapeCast S256x1 (shapeCast S256x1 (multiReduction .add [1] S256 (addf (addf (addf (lanes y0) (lanes y1)) (lanes y2)) (lanes y3))
    0x00000000#32 reduces_S256x128_S256 (.inl rfl) rfl) shapeCasts_S256_S256x1) shapeCasts_S256x1_S256x1) broadcasts_S256x1_S256x128

theorem squares_apply (y0 y1 y2 y3 : FVec Ideal S256x1024 .f32) (r : Fin 256) (l : Fin 128) :
    squares y0 y1 y2 y3 (ix2 r l) = (∑ c, y0 (ix2 r c) * y0 (ix2 r c)) + (∑ c, y1 (ix2 r c) * y1 (ix2 r c))
      + (∑ c, y2 (ix2 r c) * y2 (ix2 r c)) + (∑ c, y3 (ix2 r c) * y3 (ix2 r c)) := by
  rw [← lanes_sum, ← lanes_sum, ← lanes_sum, ← lanes_sum, ← Finset.sum_add_distrib, ← Finset.sum_add_distrib, ← Finset.sum_add_distrib]
  unfold squares
  generalize lanes y0 = a0
  generalize lanes y1 = a1
  generalize lanes y2 = a2
  generalize lanes y3 = a3
  pointwise

end Cert.PoolIdeal.Run

end
-- ==== Proof.PoolTerms.lean ====
/-
  THE POOLING MIXER: what the body stores, with its loads from the scratch named.
-/
module

public import proofs.«01_k».proof.Proof.Gen.PoolIdeal.Frame
public import proofs.«01_k».proof.Proof.PoolPay

@[expose] public section

set_option maxRecDepth 16384

noncomputable section

namespace Cert.PoolIdeal.Run

open Idealize.ShloMosaic Idealize.ShloMosaic.TcCoe Idealize.SL.Sem
open Cert.PoolIdeal Cert.PoolIdeal.Gen Cert.Rows

/-! ## The scratch -/

section

variable (arg11 : Memref sig .tc .vmem S280x4096 .f32) (arg12 arg13 : Memref sig .tc .vmem S280x1024 .f32)
variable (i : grid0.Coords) (v0 : Vec Ideal S1x4096 .f32) (v2 : Vec Ideal S1x256x4096 .f32) (v9 : Vec Ideal S1x16x4096 .f32)

/-- The normed rows: eight rows of zeros, the sixteen rows before the block, the block. -/
def xs : List (View.Piece (Elt Ideal) S280x4096 .f32) :=
  [⟨Rect.unit (s := S280x4096) ![24, 0] S256x4096.size inb_S280x4096_S256x4096_24_0, k0_pay10 (k0_pay5 v0) (k0_pay6 v2) (k0_pay9 v2)⟩,
   ⟨Rect.unit (s := S280x4096) ![8, 0] S16x4096.size inb_S280x4096_S16x4096_8_0, k0_pay8 i v0 v9⟩,
   ⟨Rect.unit (s := S280x4096) ![0, 0] S8x4096.size inb_S280x4096_S8x4096_0_0, k0_pay7 (F := Ideal)⟩]

/-! Loads of the normed rows: a block of rows and the block one row up. -/

def x24_0 : Vec Ideal S256x1024 .f32 :=
  arg11.view.readCov (xs i v0 v2 v9) (Rect.unit (s := S280x4096) ![24, 0] S256x1024.size inb_S280x4096_S256x1024_24_0).toLoadRect
def x24_1 : Vec Ideal S256x1024 .f32 :=
  arg11.view.readCov (xs i v0 v2 v9) (Rect.unit (s := S280x4096) ![24, 1024] S256x1024.size inb_S280x4096_S256x1024_24_1024).toLoadRect
def x24_2 : Vec Ideal S256x1024 .f32 :=
  arg11.view.readCov (xs i v0 v2 v9) (Rect.unit (s := S280x4096) ![24, 2048] S256x1024.size inb_S280x4096_S256x1024_24_2048).toLoadRect
def x24_3 : Vec Ideal S256x1024 .f32 :=
  arg11.view.readCov (xs i v0 v2 v9) (Rect.unit (s := S280x4096) ![24, 3072] S256x1024.size inb_S280x4096_S256x1024_24_3072).toLoadRect
def x23_0 : Vec Ideal S256x1024 .f32 :=
  arg11.view.readCov (xs i v0 v2 v9) (Rect.unit (s := S280x4096) ![23, 0] S256x1024.size inb_S280x4096_S256x1024_23_0).toLoadRect
def x8_1 : Vec Ideal S272x1024 .f32 :=
  arg11.view.readCov (xs i v0 v2 v9) (Rect.unit (s := S280x4096) ![8, 1024] S272x1024.size inb_S280x4096_S272x1024_8_1024).toLoadRect
def x7_1 : Vec Ideal S272x1024 .f32 :=
  arg11.view.readCov (xs i v0 v2 v9) (Rect.unit (s := S280x4096) ![7, 1024] S272x1024.size inb_S280x4096_S272x1024_7_1024).toLoadRect
def x8_2 : Vec Ideal S272x1024 .f32 :=
  arg11.view.readCov (xs i v0 v2 v9) (Rect.unit (s := S280x4096) ![8, 2048] S272x1024.size inb_S280x4096_S272x1024_8_2048).toLoadRect
def x7_2 : Vec Ideal S272x1024 .f32 :=
  arg11.view.readCov (xs i v0 v2 v9) (Rect.unit (s := S280x4096) ![7, 2048] S272x1024.size inb_S280x4096_S272x1024_7_2048).toLoadRect
def x8_3 : Vec Ideal S272x1024 .f32 :=
  arg11.view.readCov (xs i v0 v2 v9) (Rect.unit (s := S280x4096) ![8, 3072] S272x1024.size inb_S280x4096_S272x1024_8_3072).toLoadRect
def x7_3 : Vec Ideal S272x1024 .f32 :=
  arg11.view.readCov (xs i v0 v2 v9) (Rect.unit (s := S280x4096) ![7, 3072] S272x1024.size inb_S280x4096_S272x1024_7_3072).toLoadRect

/-! The level sums of each group, and the loads of them. -/

/-- Group one: sums of two rows. -/
def p1 : List (View.Piece (Elt Ideal) S280x1024 .f32) :=
  ⟨Rect.unit (s := S280x1024) ![8, 0] S272x1024.size inb_S280x1024_S272x1024_8_0, k0_pay20 (x8_1 arg11 i v0 v2 v9) (x7_1 arg11 i v0 v2 v9)⟩ :: [⟨Rect.unit (s := S280x1024) ![0, 0] S8x1024.size inb_S280x1024_S8x1024_0_0, k0_pay11 (F := Ideal)⟩]
def l1_24 : Vec Ideal S256x1024 .f32 :=
  arg12.view.readCov (p1 arg11 i v0 v2 v9) (Rect.unit (s := S280x1024) ![24, 0] S256x1024.size inb_S280x1024_S256x1024_24_0).toLoadRect
def l1_22 : Vec Ideal S256x1024 .f32 :=
  arg12.view.readCov (p1 arg11 i v0 v2 v9) (Rect.unit (s := S280x1024) ![22, 0] S256x1024.size inb_S280x1024_S256x1024_22_0).toLoadRect
/-- Group two: sums of two rows. -/
def p2 : List (View.Piece (Elt Ideal) S280x1024 .f32) :=
  ⟨Rect.unit (s := S280x1024) ![8, 0] S272x1024.size inb_S280x1024_S272x1024_8_0, k0_pay28 (x8_2 arg11 i v0 v2 v9) (x7_2 arg11 i v0 v2 v9)⟩ :: p1 arg11 i v0 v2 v9
def m2_8 : Vec Ideal S272x1024 .f32 :=
  arg12.view.readCov (p2 arg11 i v0 v2 v9) (Rect.unit (s := S280x1024) ![8, 0] S272x1024.size inb_S280x1024_S272x1024_8_0).toLoadRect
def m2_6 : Vec Ideal S272x1024 .f32 :=
  arg12.view.readCov (p2 arg11 i v0 v2 v9) (Rect.unit (s := S280x1024) ![6, 0] S272x1024.size inb_S280x1024_S272x1024_6_0).toLoadRect
/-- Group two: sums of four rows. -/
def q2 : List (View.Piece (Elt Ideal) S280x1024 .f32) :=
  ⟨Rect.unit (s := S280x1024) ![8, 0] S272x1024.size inb_S280x1024_S272x1024_8_0, k0_pay29 (m2_8 arg11 arg12 i v0 v2 v9) (m2_6 arg11 arg12 i v0 v2 v9)⟩ :: [⟨Rect.unit (s := S280x1024) ![0, 0] S8x1024.size inb_S280x1024_S8x1024_0_0, k0_pay12 (F := Ideal)⟩]
def l2_24 : Vec Ideal S256x1024 .f32 :=
  arg13.view.readCov (q2 arg11 arg12 i v0 v2 v9) (Rect.unit (s := S280x1024) ![24, 0] S256x1024.size inb_S280x1024_S256x1024_24_0).toLoadRect
def l2_20 : Vec Ideal S256x1024 .f32 :=
  arg13.view.readCov (q2 arg11 arg12 i v0 v2 v9) (Rect.unit (s := S280x1024) ![20, 0] S256x1024.size inb_S280x1024_S256x1024_20_0).toLoadRect
/-- Group three: sums of two rows. -/
def p3 : List (View.Piece (Elt Ideal) S280x1024 .f32) :=
  ⟨Rect.unit (s := S280x1024) ![8, 0] S272x1024.size inb_S280x1024_S272x1024_8_0, k0_pay36 (k0_pay35 (x8_3 arg11 i v0 v2 v9) (x7_3 arg11 i v0 v2 v9))⟩ :: p2 arg11 i v0 v2 v9
def m3_8 : Vec Ideal S272x1024 .f32 :=
  arg12.view.readCov (p3 arg11 i v0 v2 v9) (Rect.unit (s := S280x1024) ![8, 0] S272x1024.size inb_S280x1024_S272x1024_8_0).toLoadRect
def m3_6 : Vec Ideal S272x1024 .f32 :=
  arg12.view.readCov (p3 arg11 i v0 v2 v9) (Rect.unit (s := S280x1024) ![6, 0] S272x1024.size inb_S280x1024_S272x1024_6_0).toLoadRect
/-- Group three: sums of four rows. -/
def q3 : List (View.Piece (Elt Ideal) S280x1024 .f32) :=
  ⟨Rect.unit (s := S280x1024) ![8, 0] S272x1024.size inb_S280x1024_S272x1024_8_0, k0_pay37 (m3_8 arg11 arg12 i v0 v2 v9) (m3_6 arg11 arg12 i v0 v2 v9)⟩ :: q2 arg11 arg12 i v0 v2 v9
def n3_8 : Vec Ideal S272x1024 .f32 :=
  arg13.view.readCov (q3 arg11 arg12 i v0 v2 v9) (Rect.unit (s := S280x1024) ![8, 0] S272x1024.size inb_S280x1024_S272x1024_8_0).toLoadRect
def n3_4 : Vec Ideal S272x1024 .f32 :=
  arg13.view.readCov (q3 arg11 arg12 i v0 v2 v9) (Rect.unit (s := S280x1024) ![4, 0] S272x1024.size inb_S280x1024_S272x1024_4_0).toLoadRect
/-- Group three: sums of eight rows. -/
def r3 : List (View.Piece (Elt Ideal) S280x1024 .f32) :=
  ⟨Rect.unit (s := S280x1024) ![8, 0] S272x1024.size inb_S280x1024_S272x1024_8_0, k0_pay38 (n3_8 arg11 arg12 arg13 i v0 v2 v9) (n3_4 arg11 arg12 arg13 i v0 v2 v9)⟩ :: p3 arg11 i v0 v2 v9
def l3_24 : Vec Ideal S256x1024 .f32 :=
  arg12.view.readCov (r3 arg11 arg12 arg13 i v0 v2 v9) (Rect.unit (s := S280x1024) ![24, 0] S256x1024.size inb_S280x1024_S256x1024_24_0).toLoadRect
def l3_16 : Vec Ideal S256x1024 .f32 :=
  arg12.view.readCov (r3 arg11 arg12 arg13 i v0 v2 v9) (Rect.unit (s := S280x1024) ![16, 0] S256x1024.size inb_S280x1024_S256x1024_16_0).toLoadRect

/-! ## The groups' results -/

variable (w : Vec Ideal S1x1x1024x1024 .bf16) (s : Vec Ideal S1x1024 .f32)

def y0 : FVec Ideal S256x1024 .f32 :=
  k0_pay16 (k0_pay6 v2) (k0_pay14 (BitVec.ofNat 32 (i 1).val) (x24_0 arg11 i v0 v2 v9) (x24_0 arg11 i v0 v2 v9) (x23_0 arg11 i v0 v2 v9)) (k0_pay15 w) (constant S256x1024 .f32 0x00000000#32) s
def y1 : FVec Ideal S256x1024 .f32 :=
  k0_pay21 (k0_pay6 v2) (k0_pay13 (BitVec.ofNat 32 (i 1).val)) (x24_1 arg11 i v0 v2 v9) (l1_24 arg11 arg12 i v0 v2 v9) (l1_22 arg11 arg12 i v0 v2 v9) w s
def y2 : FVec Ideal S256x1024 .f32 :=
  k0_pay31 (k0_pay6 v2) (k0_pay30 (k0_pay13 (BitVec.ofNat 32 (i 1).val)) (x24_2 arg11 i v0 v2 v9) (l2_24 arg11 arg12 arg13 i v0 v2 v9) (l2_20 arg11 arg12 arg13 i v0 v2 v9)) w s
def y3 : FVec Ideal S256x1024 .f32 :=
  k0_pay1 (k0_pay39 (k0_pay13 (BitVec.ofNat 32 (i 1).val)) (x24_3 arg11 i v0 v2 v9) (l3_24 arg11 arg12 arg13 i v0 v2 v9) (l3_16 arg11 arg12 arg13 i v0 v2 v9) w) (k0_pay40 (k0_pay6 v2)) (k0_pay41 s)

end

/-! ## What the body stores -/

variable (c : Dev nD) (i : grid0.Coords) (arg2 : Memref sig .tc .vmem S1x256x4096 .f32) (harg2 : arg2.IsWhole) (arg3 : Memref sig .tc .vmem S1x16x4096 .f32) (harg3 : arg3.IsWhole) (arg4 : Memref sig .tc .vmem S1x4096 .f32) (harg4 : arg4.IsWhole) (arg5 : Memref sig .tc .vmem S1x4x1024x1024 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x256x4096 .f32) (harg8 : arg8.IsWhole) (arg9 : Memref sig .tc .vmem S256x4096 .bf16) (harg9 : arg9.IsWhole) (arg10 : Memref sig .tc .vmem S256x128 .f32) (harg10 : arg10.IsWhole) (arg11 : Memref sig .tc .vmem S280x4096 .f32) (harg11 : arg11.IsWhole) (arg12 : Memref sig .tc .vmem S280x1024 .f32) (harg12 : arg12.IsWhole) (arg13 : Memref sig .tc .vmem S280x1024 .f32) (harg13 : arg13.IsWhole)
  (x0 : Vec Ideal S1x256x4096 .f32) (x1 : Vec Ideal S1x16x4096 .f32) (x2 : Vec Ideal S1x4096 .f32) (x3 : Vec Ideal S1x4x1024x1024 .bf16) (x4 : Vec Ideal S1x4096 .f32) (x5 : Vec Ideal S1x4096 .f32)

/-- The result of group 0 with the loads of the blocks in it. -/
abbrev Y0 : FVec Ideal S256x1024 .f32 :=
  y0 arg11 i (arg4.view.readAt (Elt Ideal) (Rect.unit (s := S1x4096) ![0, 0] S1x4096.size inb_S1x4096_S1x4096_0_0).toLoadRect (harg4.unread x2)) (arg2.view.readAt (Elt Ideal) (Rect.unit (s := S1x256x4096) ![0, 0, 0] S1x256x4096.size inb_S1x256x4096_S1x256x4096_0_0_0).toLoadRect (harg2.unread x0)) (arg3.view.readAt (Elt Ideal) (Rect.unit (s := S1x16x4096) ![0, 0, 0] S1x16x4096.size inb_S1x16x4096_S1x16x4096_0_0_0).toLoadRect (harg3.unread x1))
    (arg5.view.readAt (Elt Ideal) (Rect.unit (s := S1x4x1024x1024) ![0, 0, 0, 0] S1x1x1024x1024.size inb_S1x4x1024x1024_S1x1x1024x1024_0_0_0_0).toLoadRect (harg5.unread x3)) (arg6.view.readAt (Elt Ideal) (Rect.unit (s := S1x4096) ![0, 0] S1x1024.size inb_S1x4096_S1x1024_0_0).toLoadRect (harg6.unread x4))
/-- The result of group 1 with the loads of the blocks in it. -/
abbrev Y1 : FVec Ideal S256x1024 .f32 :=
  y1 arg11 arg12 i (arg4.view.readAt (Elt Ideal) (Rect.unit (s := S1x4096) ![0, 0] S1x4096.size inb_S1x4096_S1x4096_0_0).toLoadRect (harg4.unread x2)) (arg2.view.readAt (Elt Ideal) (Rect.unit (s := S1x256x4096) ![0, 0, 0] S1x256x4096.size inb_S1x256x4096_S1x256x4096_0_0_0).toLoadRect (harg2.unread x0)) (arg3.view.readAt (Elt Ideal) (Rect.unit (s := S1x16x4096) ![0, 0, 0] S1x16x4096.size inb_S1x16x4096_S1x16x4096_0_0_0).toLoadRect (harg3.unread x1))
    (arg5.view.readAt (Elt Ideal) (Rect.unit (s := S1x4x1024x1024) ![0, 1, 0, 0] S1x1x1024x1024.size inb_S1x4x1024x1024_S1x1x1024x1024_0_1_0_0).toLoadRect (harg5.unread x3)) (arg6.view.readAt (Elt Ideal) (Rect.unit (s := S1x4096) ![0, 1024] S1x1024.size inb_S1x4096_S1x1024_0_1024).toLoadRect (harg6.unread x4))
/-- The result of group 2 with the loads of the blocks in it. -/
abbrev Y2 : FVec Ideal S256x1024 .f32 :=
  y2 arg11 arg12 arg13 i (arg4.view.readAt (Elt Ideal) (Rect.unit (s := S1x4096) ![0, 0] S1x4096.size inb_S1x4096_S1x4096_0_0).toLoadRect (harg4.unread x2)) (arg2.view.readAt (Elt Ideal) (Rect.unit (s := S1x256x4096) ![0, 0, 0] S1x256x4096.size inb_S1x256x4096_S1x256x4096_0_0_0).toLoadRect (harg2.unread x0)) (arg3.view.readAt (Elt Ideal) (Rect.unit (s := S1x16x4096) ![0, 0, 0] S1x16x4096.size inb_S1x16x4096_S1x16x4096_0_0_0).toLoadRect (harg3.unread x1))
    (arg5.view.readAt (Elt Ideal) (Rect.unit (s := S1x4x1024x1024) ![0, 2, 0, 0] S1x1x1024x1024.size inb_S1x4x1024x1024_S1x1x1024x1024_0_2_0_0).toLoadRect (harg5.unread x3)) (arg6.view.readAt (Elt Ideal) (Rect.unit (s := S1x4096) ![0, 2048] S1x1024.size inb_S1x4096_S1x1024_0_2048).toLoadRect (harg6.unread x4))
/-- The result of group 3 with the loads of the blocks in it. -/
abbrev Y3 : FVec Ideal S256x1024 .f32 :=
  y3 arg11 arg12 arg13 i (arg4.view.readAt (Elt Ideal) (Rect.unit (s := S1x4096) ![0, 0] S1x4096.size inb_S1x4096_S1x4096_0_0).toLoadRect (harg4.unread x2)) (arg2.view.readAt (Elt Ideal) (Rect.unit (s := S1x256x4096) ![0, 0, 0] S1x256x4096.size inb_S1x256x4096_S1x256x4096_0_0_0).toLoadRect (harg2.unread x0)) (arg3.view.readAt (Elt Ideal) (Rect.unit (s := S1x16x4096) ![0, 0, 0] S1x16x4096.size inb_S1x16x4096_S1x16x4096_0_0_0).toLoadRect (harg3.unread x1))
    (arg5.view.readAt (Elt Ideal) (Rect.unit (s := S1x4x1024x1024) ![0, 3, 0, 0] S1x1x1024x1024.size inb_S1x4x1024x1024_S1x1x1024x1024_0_3_0_0).toLoadRect (harg5.unread x3)) (arg6.view.readAt (Elt Ideal) (Rect.unit (s := S1x4096) ![0, 3072] S1x1024.size inb_S1x4096_S1x1024_0_3072).toLoadRect (harg6.unread x4))

theorem pieces6 : (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5).1 = [⟨Rect.unit (s := S1x256x4096) ![0, 0, 3072] S1x256x1024.size inb_S1x256x4096_S1x256x1024_0_0_3072, shapeCast S1x256x1024 (Y3 i arg2 harg2 arg3 harg3 arg4 harg4 arg5 harg5 arg6 harg6 arg11 arg12 arg13 x0 x1 x2 x3 x4) shapeCasts_S256x1024_S1x256x1024⟩, ⟨Rect.unit (s := S1x256x4096) ![0, 0, 2048] S1x256x1024.size inb_S1x256x4096_S1x256x1024_0_0_2048, shapeCast S1x256x1024 (Y2 i arg2 harg2 arg3 harg3 arg4 harg4 arg5 harg5 arg6 harg6 arg11 arg12 arg13 x0 x1 x2 x3 x4) shapeCasts_S256x1024_S1x256x1024⟩, ⟨Rect.unit (s := S1x256x4096) ![0, 0, 1024] S1x256x1024.size inb_S1x256x4096_S1x256x1024_0_0_1024, shapeCast S1x256x1024 (Y1 i arg2 harg2 arg3 harg3 arg4 harg4 arg5 harg5 arg6 harg6 arg11 arg12 x0 x1 x2 x3 x4) shapeCasts_S256x1024_S1x256x1024⟩, ⟨Rect.unit (s := S1x256x4096) ![0, 0, 0] S1x256x1024.size inb_S1x256x4096_S1x256x1024_0_0_0, shapeCast S1x256x1024 (Y0 i arg2 harg2 arg3 harg3 arg4 harg4 arg5 harg5 arg6 harg6 arg11 x0 x1 x2 x3 x4) shapeCasts_S256x1024_S1x256x1024⟩] := rfl

theorem pieces7 : (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5).2.1 = [⟨Rect.unit (s := S256x4096) ![0, 3072] S256x1024.size inb_S256x4096_S256x1024_0_3072, gained (Y3 i arg2 harg2 arg3 harg3 arg4 harg4 arg5 harg5 arg6 harg6 arg11 arg12 arg13 x0 x1 x2 x3 x4) (arg7.view.readAt (Elt Ideal) (Rect.unit (s := S1x4096) ![0, 3072] S1x1024.size inb_S1x4096_S1x1024_0_3072).toLoadRect (harg7.unread x5))⟩, ⟨Rect.unit (s := S256x4096) ![0, 2048] S256x1024.size inb_S256x4096_S256x1024_0_2048, gained (Y2 i arg2 harg2 arg3 harg3 arg4 harg4 arg5 harg5 arg6 harg6 arg11 arg12 arg13 x0 x1 x2 x3 x4) (arg7.view.readAt (Elt Ideal) (Rect.unit (s := S1x4096) ![0, 2048] S1x1024.size inb_S1x4096_S1x1024_0_2048).toLoadRect (harg7.unread x5))⟩, ⟨Rect.unit (s := S256x4096) ![0, 1024] S256x1024.size inb_S256x4096_S256x1024_0_1024, gained (Y1 i arg2 harg2 arg3 harg3 arg4 harg4 arg5 harg5 arg6 harg6 arg11 arg12 x0 x1 x2 x3 x4) (arg7.view.readAt (Elt Ideal) (Rect.unit (s := S1x4096) ![0, 1024] S1x1024.size inb_S1x4096_S1x1024_0_1024).toLoadRect (harg7.unread x5))⟩, ⟨Rect.unit (s := S256x4096) ![0, 0] S256x1024.size inb_S256x4096_S256x1024_0_0, gained (Y0 i arg2 harg2 arg3 harg3 arg4 harg4 arg5 harg5 arg6 harg6 arg11 x0 x1 x2 x3 x4) (arg7.view.readAt (Elt Ideal) (Rect.unit (s := S1x4096) ![0, 0] S1x1024.size inb_S1x4096_S1x1024_0_0).toLoadRect (harg7.unread x5))⟩] := rfl

theorem pieces8 : (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5).2.2.1 = [⟨Rect.unit (s := S256x128) ![0, 0] S256x128.size inb_S256x128_S256x128_0_0,
    squares (Y0 i arg2 harg2 arg3 harg3 arg4 harg4 arg5 harg5 arg6 harg6 arg11 x0 x1 x2 x3 x4) (Y1 i arg2 harg2 arg3 harg3 arg4 harg4 arg5 harg5 arg6 harg6 arg11 arg12 x0 x1 x2 x3 x4) (Y2 i arg2 harg2 arg3 harg3 arg4 harg4 arg5 harg5 arg6 harg6 arg11 arg12 arg13 x0 x1 x2 x3 x4) (Y3 i arg2 harg2 arg3 harg3 arg4 harg4 arg5 harg5 arg6 harg6 arg11 arg12 arg13 x0 x1 x2 x3 x4)⟩] := rfl

end Cert.PoolIdeal.Run

end
-- ==== Proof.PoolBody.lean ====
/-
  THE POOLING MIXER: the rows in the scratch, the sums of two, four, eight and sixteen rows, and the groups' results.
-/
module

public import proofs.«01_k».proof.Proof.PoolTerms

@[expose] public section

set_option maxRecDepth 16384

noncomputable section

namespace Cert.PoolIdeal.Run

open Idealize.ShloMosaic Idealize.ShloMosaic.TcCoe Idealize.SL.Sem
open Cert.PoolIdeal Cert.PoolIdeal.Gen Cert.Rows Cert.Pool

/-! ## Loads of the scratch -/

/-- A load below the first eight rows reads the last store. -/
theorem level (m : Memref sig .tc .vmem S280x1024 .f32) (w : Vec Ideal S272x1024 .f32) (L : List (View.Piece (Elt Ideal) S280x1024 .f32))
    (Lv : ℕ → EReal) (lo : ℕ) (c : Fin 1024) (hw : ∀ j : Fin 272, lo ≤ 8 + j.val → w (ix2 j c) = Lv (8 + j.val))
    (o n : ℕ) (inb : ∀ a, (![o, 0] : Fin 2 → ℕ) a + (![n, 1024] : Fin 2 → ℕ) a ≤ S280x1024.size a) (r : Fin n) (h8 : 8 ≤ o + r.val) (h : lo ≤ o + r.val) :
    m.view.readCov (⟨Rect.unit (s := S280x1024) ![8, 0] S272x1024.size inb_S280x1024_S272x1024_8_0, w⟩ :: L)
      (Rect.unit (s := S280x1024) ![o, 0] ![n, 1024] inb).toLoadRect (ix2 r c) = Lv (o + r.val) := by
  have hn : o + n ≤ 280 := inb 0
  have hr := r.isLt
  have e : (Rect.unit (s := S280x1024) ![o, 0] ![n, 1024] inb).toLoadRect.idx (ix2 r c)
      = (Rect.unit (s := S280x1024) ![8, 0] S272x1024.size inb_S280x1024_S272x1024_8_0).emb (ix2 (⟨o + r.val - 8, by omega⟩ : Fin 272) c) := by
    funext a; apply Fin.ext
    match a with
    | ⟨0, _⟩ => show o + 1 * r.val = 8 + 1 * (o + r.val - 8); omega
    | ⟨1, _⟩ => show 0 + 1 * c.val = 0 + 1 * c.val; omega
  rw [View.readCov_eq_canon']
  show View.canon _ _ = _
  rw [e, View.canon_cons_emb, hw _ (by dsimp only; omega)]
  congr 1
  dsimp only
  omega

section

variable (arg11 : Memref sig .tc .vmem S280x4096 .f32) (arg12 arg13 : Memref sig .tc .vmem S280x1024 .f32)
variable (i : grid0.Coords) (v0 : Vec Ideal S1x4096 .f32) (v2 : Vec Ideal S1x256x4096 .f32) (v9 : Vec Ideal S1x16x4096 .f32)

/-- The row `r` of the scratch's normed rows, at column `c`. -/
def X (c : Fin 4096) (r : ℕ) : EReal := if h : r < 280 then View.canon (xs i v0 v2 v9) (ix2 (⟨r, h⟩ : Fin 280) c) else 0

/-- A load of the normed rows. -/
theorem rows_load (o n c0 : ℕ) (inb : ∀ a, (![o, c0] : Fin 2 → ℕ) a + (![n, 1024] : Fin 2 → ℕ) a ≤ S280x4096.size a) (r : Fin n) (k : Fin 1024) (hc : c0 + k.val < 4096) :
    arg11.view.readCov (xs i v0 v2 v9) (Rect.unit (s := S280x4096) ![o, c0] ![n, 1024] inb).toLoadRect (ix2 r k) = X i v0 v2 v9 ⟨c0 + k.val, hc⟩ (o + r.val) := by
  have hn : o + n ≤ 280 := inb 0
  have hr := r.isLt
  have e : (Rect.unit (s := S280x4096) ![o, c0] ![n, 1024] inb).toLoadRect.idx (ix2 r k)
      = ix2 (⟨o + r.val, by omega⟩ : Fin 280) (⟨c0 + k.val, hc⟩ : Fin 4096) := by
    funext a; apply Fin.ext
    match a with
    | ⟨0, _⟩ => show o + 1 * r.val = o + r.val; omega
    | ⟨1, _⟩ => show c0 + 1 * k.val = c0 + k.val; omega
  rw [View.readCov_eq_canon']
  show View.canon _ _ = _
  rw [e]
  unfold X
  rw [dif_pos (by omega)]

/-- The rows in the scratch, from the rows of the block and the rows before it. -/
theorem rows_are (x : Fin 4096 → ℕ → ℝ)
    (hv2 : ∀ (r : Fin 256) (c : Fin 4096), normed (fun k => v2 (ix3 0 r k)) c (v0 (ix2 0 c)) = ((x c (256 * (i 1).val + r.val) : ℝ) : EReal))
    (hv9 : (i 1).val ≠ 0 → ∀ (r : Fin 16) (c : Fin 4096), normed (fun k => v9 (ix3 0 r k)) c (v0 (ix2 0 c)) = ((x c (256 * (i 1).val + r.val - 16) : ℝ) : EReal))
    (c : Fin 4096) : IsRows (X i v0 v2 v9 c) (i 1).val (x c) := by
  intro r h8 h280
  unfold X
  rw [dif_pos h280]
  unfold xs
  by_cases h24 : 24 ≤ r
  · have e : (ix2 (⟨r, h280⟩ : Fin 280) c : S280x4096.Idx)
        = (Rect.unit (s := S280x4096) ![24, 0] S256x4096.size inb_S280x4096_S256x4096_24_0).emb (ix2 (⟨r - 24, by omega⟩ : Fin 256) c) := by
      funext a; apply Fin.ext
      match a with
      | ⟨0, _⟩ => show r = 24 + 1 * (r - 24); omega
      | ⟨1, _⟩ => show c.val = 0 + 1 * c.val; omega
    rw [e, View.canon_cons_emb, pay10_apply, hv2, if_pos (by omega)]
    congr 2
    dsimp only
    omega
  · have hm : (ix2 (⟨r, h280⟩ : Fin 280) c : S280x4096.Idx) ∉ (Rect.unit (s := S280x4096) ![24, 0] S256x4096.size inb_S280x4096_S256x4096_24_0).set := by
      rw [Rect.mem_set_unit]
      intro h
      have h0 : 24 ≤ r := (h 0).1
      omega
    have e : (ix2 (⟨r, h280⟩ : Fin 280) c : S280x4096.Idx)
        = (Rect.unit (s := S280x4096) ![8, 0] S16x4096.size inb_S280x4096_S16x4096_8_0).emb (ix2 (⟨r - 8, by omega⟩ : Fin 16) c) := by
      funext a; apply Fin.ext
      match a with
      | ⟨0, _⟩ => show r = 8 + 1 * (r - 8); omega
      | ⟨1, _⟩ => show c.val = 0 + 1 * c.val; omega
    refine (View.canon_cons_of_not_mem _ _ ?_).trans ?_
    · exact hm
    rw [e, View.canon_cons_emb, pay8_apply]
    by_cases hi : (i 1).val = 0
    · rw [if_pos hi, if_neg (by omega), EReal.coe_zero]
    · rw [if_neg hi, hv9 hi, if_pos (by omega)]
      congr 2
      dsimp only
      omega

/-! ## The level sums -/

/-- Sums of two, four and eight rows, each from the one before. -/
def A1 (X : ℕ → EReal) (s : ℕ) : EReal := X s + X (s - 1)
def A2 (X : ℕ → EReal) (s : ℕ) : EReal := A1 X s + A1 X (s - 2)
def A3 (X : ℕ → EReal) (s : ℕ) : EReal := A2 X s + A2 X (s - 4)

theorem A1_eq (X : ℕ → EReal) (s : ℕ) : A1 X s = ∑ k ∈ Finset.range 2, X (s - k) := by
  simp [A1, Finset.sum_range_succ]
theorem A2_eq (X : ℕ → EReal) (s : ℕ) : A2 X s = ∑ k ∈ Finset.range 4, X (s - k) :=
  double X (A1 X) 2 s (A1_eq X s) (A1_eq X (s - 2))
theorem A3_eq (X : ℕ → EReal) (s : ℕ) : A3 X s = ∑ k ∈ Finset.range 8, X (s - k) :=
  double X (A2 X) 4 s (A2_eq X s) (A2_eq X (s - 4))
theorem A4_eq (X : ℕ → EReal) (s : ℕ) : A3 X s + A3 X (s - 8) = ∑ k ∈ Finset.range 16, X (s - k) :=
  double X (A3 X) 8 s (A3_eq X s) (A3_eq X (s - 8))

theorem pay20_apply (a b : Vec Ideal S272x1024 .f32) (r : Fin 272) (c : Fin 1024) : k0_pay20 a b (ix2 r c) = a (ix2 r c) + b (ix2 r c) := by
  unfold k0_pay20
  pointwise
theorem pay28_apply (a b : Vec Ideal S272x1024 .f32) (r : Fin 272) (c : Fin 1024) : k0_pay28 a b (ix2 r c) = a (ix2 r c) + b (ix2 r c) := by
  unfold k0_pay28
  pointwise
theorem pay29_apply (a b : Vec Ideal S272x1024 .f32) (r : Fin 272) (c : Fin 1024) : k0_pay29 a b (ix2 r c) = a (ix2 r c) + b (ix2 r c) := by
  unfold k0_pay29
  pointwise
theorem pay36_apply (a b : Vec Ideal S272x1024 .f32) (r : Fin 272) (c : Fin 1024) : k0_pay36 (k0_pay35 a b) (ix2 r c) = a (ix2 r c) + b (ix2 r c) := by
  unfold k0_pay36 k0_pay35
  pointwise
theorem pay37_apply (a b : Vec Ideal S272x1024 .f32) (r : Fin 272) (c : Fin 1024) : k0_pay37 a b (ix2 r c) = a (ix2 r c) + b (ix2 r c) := by
  unfold k0_pay37
  pointwise
theorem pay38_apply (a b : Vec Ideal S272x1024 .f32) (r : Fin 272) (c : Fin 1024) : k0_pay38 a b (ix2 r c) = a (ix2 r c) + b (ix2 r c) := by
  unfold k0_pay38
  pointwise

/-- The column `k` of group `g`. -/
def col (g : Fin 4) (k : Fin 1024) : Fin 4096 := ⟨1024 * g.val + k.val, by omega⟩

theorem x24_0_apply (r : Fin 256) (k : Fin 1024) : x24_0 arg11 i v0 v2 v9 (ix2 r k) = X i v0 v2 v9 (col 0 k) (24 + r.val) :=
  rows_load arg11 i v0 v2 v9 24 256 0 inb_S280x4096_S256x1024_24_0 r k (by omega)
theorem x24_1_apply (r : Fin 256) (k : Fin 1024) : x24_1 arg11 i v0 v2 v9 (ix2 r k) = X i v0 v2 v9 (col 1 k) (24 + r.val) :=
  rows_load arg11 i v0 v2 v9 24 256 1024 inb_S280x4096_S256x1024_24_1024 r k (by omega)
theorem x24_2_apply (r : Fin 256) (k : Fin 1024) : x24_2 arg11 i v0 v2 v9 (ix2 r k) = X i v0 v2 v9 (col 2 k) (24 + r.val) :=
  rows_load arg11 i v0 v2 v9 24 256 2048 inb_S280x4096_S256x1024_24_2048 r k (by omega)
theorem x24_3_apply (r : Fin 256) (k : Fin 1024) : x24_3 arg11 i v0 v2 v9 (ix2 r k) = X i v0 v2 v9 (col 3 k) (24 + r.val) :=
  rows_load arg11 i v0 v2 v9 24 256 3072 inb_S280x4096_S256x1024_24_3072 r k (by omega)
theorem x23_0_apply (r : Fin 256) (k : Fin 1024) : x23_0 arg11 i v0 v2 v9 (ix2 r k) = X i v0 v2 v9 (col 0 k) (23 + r.val) :=
  rows_load arg11 i v0 v2 v9 23 256 0 inb_S280x4096_S256x1024_23_0 r k (by omega)
theorem x8_1_apply (r : Fin 272) (k : Fin 1024) : x8_1 arg11 i v0 v2 v9 (ix2 r k) = X i v0 v2 v9 (col 1 k) (8 + r.val) :=
  rows_load arg11 i v0 v2 v9 8 272 1024 inb_S280x4096_S272x1024_8_1024 r k (by omega)
theorem x7_1_apply (r : Fin 272) (k : Fin 1024) : x7_1 arg11 i v0 v2 v9 (ix2 r k) = X i v0 v2 v9 (col 1 k) (7 + r.val) :=
  rows_load arg11 i v0 v2 v9 7 272 1024 inb_S280x4096_S272x1024_7_1024 r k (by omega)
theorem x8_2_apply (r : Fin 272) (k : Fin 1024) : x8_2 arg11 i v0 v2 v9 (ix2 r k) = X i v0 v2 v9 (col 2 k) (8 + r.val) :=
  rows_load arg11 i v0 v2 v9 8 272 2048 inb_S280x4096_S272x1024_8_2048 r k (by omega)
theorem x7_2_apply (r : Fin 272) (k : Fin 1024) : x7_2 arg11 i v0 v2 v9 (ix2 r k) = X i v0 v2 v9 (col 2 k) (7 + r.val) :=
  rows_load arg11 i v0 v2 v9 7 272 2048 inb_S280x4096_S272x1024_7_2048 r k (by omega)
theorem x8_3_apply (r : Fin 272) (k : Fin 1024) : x8_3 arg11 i v0 v2 v9 (ix2 r k) = X i v0 v2 v9 (col 3 k) (8 + r.val) :=
  rows_load arg11 i v0 v2 v9 8 272 3072 inb_S280x4096_S272x1024_8_3072 r k (by omega)
theorem x7_3_apply (r : Fin 272) (k : Fin 1024) : x7_3 arg11 i v0 v2 v9 (ix2 r k) = X i v0 v2 v9 (col 3 k) (7 + r.val) :=
  rows_load arg11 i v0 v2 v9 7 272 3072 inb_S280x4096_S272x1024_7_3072 r k (by omega)

theorem two_1 (k : Fin 1024) (j : Fin 272) (_ : 8 ≤ 8 + j.val) : (k0_pay20 (x8_1 arg11 i v0 v2 v9) (x7_1 arg11 i v0 v2 v9)) (ix2 j k) = A1 (X i v0 v2 v9 (col 1 k)) (8 + j.val) := by
  rw [pay20_apply, x8_1_apply, x7_1_apply]
  unfold A1
  rw [show 8 + j.val - 1 = 7 + j.val by omega]
theorem two_2 (k : Fin 1024) (j : Fin 272) (_ : 8 ≤ 8 + j.val) : (k0_pay28 (x8_2 arg11 i v0 v2 v9) (x7_2 arg11 i v0 v2 v9)) (ix2 j k) = A1 (X i v0 v2 v9 (col 2 k)) (8 + j.val) := by
  rw [pay28_apply, x8_2_apply, x7_2_apply]
  unfold A1
  rw [show 8 + j.val - 1 = 7 + j.val by omega]
theorem two_3 (k : Fin 1024) (j : Fin 272) (_ : 8 ≤ 8 + j.val) : (k0_pay36 (k0_pay35 (x8_3 arg11 i v0 v2 v9) (x7_3 arg11 i v0 v2 v9))) (ix2 j k) = A1 (X i v0 v2 v9 (col 3 k)) (8 + j.val) := by
  rw [pay36_apply, x8_3_apply, x7_3_apply]
  unfold A1
  rw [show 8 + j.val - 1 = 7 + j.val by omega]
theorem l1_24_apply (r : Fin 256) (k : Fin 1024) : l1_24 arg11 arg12 i v0 v2 v9 (ix2 r k) = A1 (X i v0 v2 v9 (col 1 k)) (24 + r.val) :=
  level arg12 _ _ (A1 (X i v0 v2 v9 (col 1 k))) 8 k (two_1 arg11 i v0 v2 v9 k) 24 256 inb_S280x1024_S256x1024_24_0 r (by omega) (by omega)
theorem l1_22_apply (r : Fin 256) (k : Fin 1024) : l1_22 arg11 arg12 i v0 v2 v9 (ix2 r k) = A1 (X i v0 v2 v9 (col 1 k)) (22 + r.val) :=
  level arg12 _ _ (A1 (X i v0 v2 v9 (col 1 k))) 8 k (two_1 arg11 i v0 v2 v9 k) 22 256 inb_S280x1024_S256x1024_22_0 r (by omega) (by omega)
theorem m2_8_apply (r : Fin 272) (k : Fin 1024) : m2_8 arg11 arg12 i v0 v2 v9 (ix2 r k) = A1 (X i v0 v2 v9 (col 2 k)) (8 + r.val) :=
  level arg12 _ _ (A1 (X i v0 v2 v9 (col 2 k))) 8 k (two_2 arg11 i v0 v2 v9 k) 8 272 inb_S280x1024_S272x1024_8_0 r (by omega) (by omega)
theorem m2_6_apply (r : Fin 272) (k : Fin 1024) (h : 2 ≤ r.val) : m2_6 arg11 arg12 i v0 v2 v9 (ix2 r k) = A1 (X i v0 v2 v9 (col 2 k)) (6 + r.val) :=
  level arg12 _ _ (A1 (X i v0 v2 v9 (col 2 k))) 8 k (two_2 arg11 i v0 v2 v9 k) 6 272 inb_S280x1024_S272x1024_6_0 r (by omega) (by omega)
theorem m3_8_apply (r : Fin 272) (k : Fin 1024) : m3_8 arg11 arg12 i v0 v2 v9 (ix2 r k) = A1 (X i v0 v2 v9 (col 3 k)) (8 + r.val) :=
  level arg12 _ _ (A1 (X i v0 v2 v9 (col 3 k))) 8 k (two_3 arg11 i v0 v2 v9 k) 8 272 inb_S280x1024_S272x1024_8_0 r (by omega) (by omega)
theorem m3_6_apply (r : Fin 272) (k : Fin 1024) (h : 2 ≤ r.val) : m3_6 arg11 arg12 i v0 v2 v9 (ix2 r k) = A1 (X i v0 v2 v9 (col 3 k)) (6 + r.val) :=
  level arg12 _ _ (A1 (X i v0 v2 v9 (col 3 k))) 8 k (two_3 arg11 i v0 v2 v9 k) 6 272 inb_S280x1024_S272x1024_6_0 r (by omega) (by omega)
theorem four_2 (k : Fin 1024) (j : Fin 272) (h : 10 ≤ 8 + j.val) : k0_pay29 (m2_8 arg11 arg12 i v0 v2 v9) (m2_6 arg11 arg12 i v0 v2 v9) (ix2 j k) = A2 (X i v0 v2 v9 (col 2 k)) (8 + j.val) := by
  rw [pay29_apply, m2_8_apply, m2_6_apply _ _ _ _ _ _ _ _ (by omega)]
  unfold A2
  rw [show 8 + j.val - 2 = 6 + j.val by omega]
theorem four_3 (k : Fin 1024) (j : Fin 272) (h : 10 ≤ 8 + j.val) : k0_pay37 (m3_8 arg11 arg12 i v0 v2 v9) (m3_6 arg11 arg12 i v0 v2 v9) (ix2 j k) = A2 (X i v0 v2 v9 (col 3 k)) (8 + j.val) := by
  rw [pay37_apply, m3_8_apply, m3_6_apply _ _ _ _ _ _ _ _ (by omega)]
  unfold A2
  rw [show 8 + j.val - 2 = 6 + j.val by omega]
theorem l2_24_apply (r : Fin 256) (k : Fin 1024) : l2_24 arg11 arg12 arg13 i v0 v2 v9 (ix2 r k) = A2 (X i v0 v2 v9 (col 2 k)) (24 + r.val) :=
  level arg13 _ _ (A2 (X i v0 v2 v9 (col 2 k))) 10 k (four_2 arg11 arg12 i v0 v2 v9 k) 24 256 inb_S280x1024_S256x1024_24_0 r (by omega) (by omega)
theorem l2_20_apply (r : Fin 256) (k : Fin 1024) : l2_20 arg11 arg12 arg13 i v0 v2 v9 (ix2 r k) = A2 (X i v0 v2 v9 (col 2 k)) (20 + r.val) :=
  level arg13 _ _ (A2 (X i v0 v2 v9 (col 2 k))) 10 k (four_2 arg11 arg12 i v0 v2 v9 k) 20 256 inb_S280x1024_S256x1024_20_0 r (by omega) (by omega)
theorem n3_8_apply (r : Fin 272) (k : Fin 1024) (h : 2 ≤ r.val) : n3_8 arg11 arg12 arg13 i v0 v2 v9 (ix2 r k) = A2 (X i v0 v2 v9 (col 3 k)) (8 + r.val) :=
  level arg13 _ _ (A2 (X i v0 v2 v9 (col 3 k))) 10 k (four_3 arg11 arg12 i v0 v2 v9 k) 8 272 inb_S280x1024_S272x1024_8_0 r (by omega) (by omega)
theorem n3_4_apply (r : Fin 272) (k : Fin 1024) (h : 6 ≤ r.val) : n3_4 arg11 arg12 arg13 i v0 v2 v9 (ix2 r k) = A2 (X i v0 v2 v9 (col 3 k)) (4 + r.val) :=
  level arg13 _ _ (A2 (X i v0 v2 v9 (col 3 k))) 10 k (four_3 arg11 arg12 i v0 v2 v9 k) 4 272 inb_S280x1024_S272x1024_4_0 r (by omega) (by omega)
theorem eight_3 (k : Fin 1024) (j : Fin 272) (h : 14 ≤ 8 + j.val) : k0_pay38 (n3_8 arg11 arg12 arg13 i v0 v2 v9) (n3_4 arg11 arg12 arg13 i v0 v2 v9) (ix2 j k) = A3 (X i v0 v2 v9 (col 3 k)) (8 + j.val) := by
  rw [pay38_apply, n3_8_apply _ _ _ _ _ _ _ _ _ (by omega), n3_4_apply _ _ _ _ _ _ _ _ _ (by omega)]
  unfold A3
  rw [show 8 + j.val - 4 = 4 + j.val by omega]
theorem l3_24_apply (r : Fin 256) (k : Fin 1024) : l3_24 arg11 arg12 arg13 i v0 v2 v9 (ix2 r k) = A3 (X i v0 v2 v9 (col 3 k)) (24 + r.val) :=
  level arg12 _ _ (A3 (X i v0 v2 v9 (col 3 k))) 14 k (eight_3 arg11 arg12 arg13 i v0 v2 v9 k) 24 256 inb_S280x1024_S256x1024_24_0 r (by omega) (by omega)
theorem l3_16_apply (r : Fin 256) (k : Fin 1024) : l3_16 arg11 arg12 arg13 i v0 v2 v9 (ix2 r k) = A3 (X i v0 v2 v9 (col 3 k)) (16 + r.val) :=
  level arg12 _ _ (A3 (X i v0 v2 v9 (col 3 k))) 14 k (eight_3 arg11 arg12 arg13 i v0 v2 v9 k) 16 256 inb_S280x1024_S256x1024_16_0 r (by omega) (by omega)

/-! ## The groups' results -/

variable (x : Fin 4096 → ℕ → ℝ) (hX : ∀ c, IsRows (X i v0 v2 v9 c) (i 1).val (x c))
variable (w : Vec Ideal S1x1x1024x1024 .bf16) (s : Vec Ideal S1x1024 .f32)

include hX

theorem token (c : Fin 4096) (r : Fin 256) : X i v0 v2 v9 c (24 + r.val) = ((x c (256 * (i 1).val + r.val) : ℝ) : EReal) := by
  rw [hX c _ (by omega) (by omega), if_pos (by omega), show 256 * (i 1).val + (24 + r.val) - 24 = 256 * (i 1).val + r.val by omega]

theorem y0_apply (r : Fin 256) (c : Fin 1024) : y0 arg11 i v0 v2 v9 w s (ix2 r c)
    = mixed (v2 (ix3 0 r (col 0 c))) (fun k => ((trail (x (col 0 k)) 2 (256 * (i 1).val + r.val) : ℝ) : EReal)) (fun k => ((x (col 0 k) (256 * (i 1).val + r.val) : ℝ) : EReal))
        (inWindow 2#32 (256 * (i 1).val + r.val)) (fun k => w (ix4 0 0 k c)) (s (ix2 0 c)) := by
  have ht : ∀ k, x24_0 arg11 i v0 v2 v9 (ix2 r k) + x23_0 arg11 i v0 v2 v9 (ix2 r k) = ((trail (x (col 0 k)) 2 (256 * (i 1).val + r.val) : ℝ) : EReal) := fun k => by
    rw [x24_0_apply, x23_0_apply, show 23 + r.val = 24 + r.val - 1 by omega]
    exact (A1_eq _ _).trans (rows_trail (hX _) 2 r.val (by omega) r.isLt)
  have hk : ∀ k, x24_0 arg11 i v0 v2 v9 (ix2 r k) = ((x (col 0 k) (256 * (i 1).val + r.val) : ℝ) : EReal) := fun k => by
    rw [x24_0_apply, token i v0 v2 v9 x hX]
  unfold y0
  refine (mix0 i _ _ _ _ _ _ r c).trans ?_
  simp only [ht]
  simp only [hk]
  exact congrArg (fun q => mixed (v2 (ix3 0 r q)) _ _ _ _ _) (Fin.ext (by simp [col]))

theorem y1_apply (r : Fin 256) (c : Fin 1024) : y1 arg11 arg12 i v0 v2 v9 w s (ix2 r c)
    = mixed (v2 (ix3 0 r (col 1 c))) (fun k => ((trail (x (col 1 k)) 4 (256 * (i 1).val + r.val) : ℝ) : EReal)) (fun k => ((x (col 1 k) (256 * (i 1).val + r.val) : ℝ) : EReal))
        (inWindow 4#32 (256 * (i 1).val + r.val)) (fun k => w (ix4 0 0 k c)) (s (ix2 0 c)) := by
  have ht : ∀ k, l1_24 arg11 arg12 i v0 v2 v9 (ix2 r k) + l1_22 arg11 arg12 i v0 v2 v9 (ix2 r k) = ((trail (x (col 1 k)) 4 (256 * (i 1).val + r.val) : ℝ) : EReal) := fun k => by
    rw [l1_24_apply, l1_22_apply, show 22 + r.val = 24 + r.val - 2 by omega]
    exact (A2_eq _ _).trans (rows_trail (hX _) 4 r.val (by omega) r.isLt)
  have hk : ∀ k, x24_1 arg11 i v0 v2 v9 (ix2 r k) = ((x (col 1 k) (256 * (i 1).val + r.val) : ℝ) : EReal) := fun k => by
    rw [x24_1_apply, token i v0 v2 v9 x hX]
  unfold y1
  refine (mix1 i _ _ _ _ _ _ r c).trans ?_
  simp only [ht]
  simp only [hk]
  exact congrArg (fun q => mixed (v2 (ix3 0 r q)) _ _ _ _ _) (Fin.ext (by simp [col]))

theorem y2_apply (r : Fin 256) (c : Fin 1024) : y2 arg11 arg12 arg13 i v0 v2 v9 w s (ix2 r c)
    = mixed (v2 (ix3 0 r (col 2 c))) (fun k => ((trail (x (col 2 k)) 8 (256 * (i 1).val + r.val) : ℝ) : EReal)) (fun k => ((x (col 2 k) (256 * (i 1).val + r.val) : ℝ) : EReal))
        (inWindow 8#32 (256 * (i 1).val + r.val)) (fun k => w (ix4 0 0 k c)) (s (ix2 0 c)) := by
  have ht : ∀ k, l2_24 arg11 arg12 arg13 i v0 v2 v9 (ix2 r k) + l2_20 arg11 arg12 arg13 i v0 v2 v9 (ix2 r k) = ((trail (x (col 2 k)) 8 (256 * (i 1).val + r.val) : ℝ) : EReal) := fun k => by
    rw [l2_24_apply, l2_20_apply, show 20 + r.val = 24 + r.val - 4 by omega]
    exact (A3_eq _ _).trans (rows_trail (hX _) 8 r.val (by omega) r.isLt)
  have hk : ∀ k, x24_2 arg11 i v0 v2 v9 (ix2 r k) = ((x (col 2 k) (256 * (i 1).val + r.val) : ℝ) : EReal) := fun k => by
    rw [x24_2_apply, token i v0 v2 v9 x hX]
  unfold y2
  refine (mix2 i _ _ _ _ _ _ r c).trans ?_
  simp only [ht]
  simp only [hk]
  exact congrArg (fun q => mixed (v2 (ix3 0 r q)) _ _ _ _ _) (Fin.ext (by simp [col]))

theorem y3_apply (r : Fin 256) (c : Fin 1024) : y3 arg11 arg12 arg13 i v0 v2 v9 w s (ix2 r c)
    = mixed (v2 (ix3 0 r (col 3 c))) (fun k => ((trail (x (col 3 k)) 16 (256 * (i 1).val + r.val) : ℝ) : EReal)) (fun k => ((x (col 3 k) (256 * (i 1).val + r.val) : ℝ) : EReal))
        (inWindow 16#32 (256 * (i 1).val + r.val)) (fun k => w (ix4 0 0 k c)) (s (ix2 0 c)) := by
  have ht : ∀ k, l3_24 arg11 arg12 arg13 i v0 v2 v9 (ix2 r k) + l3_16 arg11 arg12 arg13 i v0 v2 v9 (ix2 r k) = ((trail (x (col 3 k)) 16 (256 * (i 1).val + r.val) : ℝ) : EReal) := fun k => by
    rw [l3_24_apply, l3_16_apply, show 16 + r.val = 24 + r.val - 8 by omega]
    exact (A4_eq _ _).trans (rows_trail (hX _) 16 r.val (by omega) r.isLt)
  have hk : ∀ k, x24_3 arg11 i v0 v2 v9 (ix2 r k) = ((x (col 3 k) (256 * (i 1).val + r.val) : ℝ) : EReal) := fun k => by
    rw [x24_3_apply, token i v0 v2 v9 x hX]
  unfold y3
  refine (mix3 i _ _ _ _ _ _ r c).trans ?_
  simp only [ht]
  simp only [hk]
  exact congrArg (fun q => mixed (v2 (ix3 0 r q)) _ _ _ _ _) (Fin.ext (by simp [col]))

end

end Cert.PoolIdeal.Run

end
-- ==== Proof.PoolRef.lean ====
/-
  THE POOLING MIXER: the reference, entry by entry, where the norm's gain is finite.
-/
module

public import proofs.«01_k».proof.Proof.Gen.PoolRefIdeal.Run
public import proofs.«01_k».proof.Proof.Entry
public import proofs.«01_k».proof.Proof.PoolSum
public import Idealize.ShloMosaic.Lib.Pointwise

@[expose] public section

set_option maxRecDepth 16384

noncomputable section

namespace Cert.PoolRefIdeal.Run

open Idealize.ShloMosaic Idealize.ShloMosaic.TcCoe Idealize.SL.Sem
open Cert.PoolRefIdeal Cert.PoolRefIdeal.Gen Cert.PoolRefIdeal.Value Cert.Rows Cert.Pool

abbrev Group := FVec Ideal S4x4096x1024 .f32

/-- The normed rows. -/
def normedRows (h : FVec Ideal S4x4096x4096 .f32) (g : FVec Ideal S4096 .f32) : FVec Ideal S4x4096x4096 .f32 :=
  mulf (mulf h (broadcastInDim S4x4096x4096 ![0, 1, 2] bcast_S4x4096x1_S4x4096x4096_0_1_2 (Host.rsqrt (addf (Host.divf (broadcastInDim S4x4096x1 ![0, 1] bcast_S4x4096_S4x4096x1_0_1
    (Host.reduceAdd (mulf h h) (constant S_ .f32 0x00000000#32) reducesTo_S4x4096x4096_S4x4096_d2 h_S_)) (broadcastInDim S4x4096x1 ![] bcast_S_S4x4096x1 (constant S_ .f32 0x45800000#32)))
    (broadcastInDim S4x4096x1 ![] bcast_S_S4x4096x1 (constant S_ .f32 0x358637BD#32))))))
    (broadcastInDim S4x4096x4096 ![0, 1, 2] bcast_S1x1x4096_S4x4096x4096_0_1_2 (broadcastInDim S1x1x4096 ![2] bcast_S4096_S1x1x4096_2 g))

/-- The prefix sums down the tokens. -/
def prefixes (x : Group) : Group :=
  Host.reduceWindowAdd ![1, 4096, 1] ![1, 1, 1] ![0, 4095, 0] ![0, 0, 0] x (broadcastInDim S_ ![] bcast_S_S_ (constant S_ .f32 0x00000000#32))
    reduceWindows_S4x4096x1024_S4x4096x1024_w1s1p0_0_w4096s1p4095_0_w1s1p0_0 h_S_

/-- The tokens' numbers, from one. -/
def counts : IVec S4096 32 := addi (iotaInDim S4096 32 0) (broadcastInDim S4096 ![] bcast_S_S4096 (constantI S_ 32 1#32))

/-- Group 0: its columns, its window's mean less the token, its weights, and their product. -/
def group0 (xn : FVec Ideal S4x4096x4096 .f32) : Group :=
  shapeCast _ (extractStridedSlice S4x4096x1x1024 ![0, 0, 0, 0] (shapeCast _ xn shapeCasts_S4x4096x4096_S4x4096x4x1024) slices_S4x4096x4x1024_S4x4096x1x1024_0_0_0_0) shapeCasts_S4x4096x1x1024_S4x4096x1024
def pooled0 (x : Group) : Group :=
  subf (Host.divf (subf (prefixes x) (pad S4x4096x1024 ![0, 2, 0] ![0, 0, 0] ![0, 0, 0] (extractStridedSlice S4x4094x1024 ![0, 0, 0] (prefixes x) slices_S4x4096x1024_S4x4094x1024_0_0_0)
      (sitofp .f32 (constantI S_ 32 0#32)) pads_S4x4094x1024_S4x4096x1024_000_200_000 h_S_))
    (broadcastInDim S4x4096x1024 ![0, 1, 2] bcast_S1x4096x1_S4x4096x1024_0_1_2 (broadcastInDim S1x4096x1 ![1] bcast_S4096_S1x4096x1_1 (sitofp .f32 (minsi counts (broadcastInDim S4096 ![] bcast_S_S4096 (constantI S_ 32 2#32))))))) x
def weights0 (w : FVec Ideal S2x4x1024x1024 .f32) : FVec Ideal S1024x1024 .f32 :=
  shapeCast _ (extractStridedSlice S1x1024x1024 ![0, 0, 0] (shapeCast _ (extractStridedSlice S1x4x1024x1024 ![0, 0, 0, 0] w slices_S2x4x1024x1024_S1x4x1024x1024_0_0_0_0) shapeCasts_S1x4x1024x1024_S4x1024x1024) slices_S4x1024x1024_S1x1024x1024_0_0_0) shapeCasts_S1x1024x1024_S1024x1024
def product0 (xn : FVec Ideal S4x4096x4096 .f32) (w : FVec Ideal S2x4x1024x1024 .f32) : Group :=
  Host.dotGeneral dot_S4x4096x1024_S1024x1024_S4x4096x1024_2_0_01_1_n_n none (pooled0 (group0 xn)) (weights0 w)

/-- Group 1: its columns, its window's mean less the token, its weights, and their product. -/
def group1 (xn : FVec Ideal S4x4096x4096 .f32) : Group :=
  shapeCast _ (extractStridedSlice S4x4096x1x1024 ![0, 0, 1, 0] (shapeCast _ xn shapeCasts_S4x4096x4096_S4x4096x4x1024) slices_S4x4096x4x1024_S4x4096x1x1024_0_0_1_0) shapeCasts_S4x4096x1x1024_S4x4096x1024
def pooled1 (x : Group) : Group :=
  subf (Host.divf (subf (prefixes x) (pad S4x4096x1024 ![0, 4, 0] ![0, 0, 0] ![0, 0, 0] (extractStridedSlice S4x4092x1024 ![0, 0, 0] (prefixes x) slices_S4x4096x1024_S4x4092x1024_0_0_0)
      (sitofp .f32 (constantI S_ 32 0#32)) pads_S4x4092x1024_S4x4096x1024_000_400_000 h_S_))
    (broadcastInDim S4x4096x1024 ![0, 1, 2] bcast_S1x4096x1_S4x4096x1024_0_1_2 (broadcastInDim S1x4096x1 ![1] bcast_S4096_S1x4096x1_1 (sitofp .f32 (minsi counts (broadcastInDim S4096 ![] bcast_S_S4096 (constantI S_ 32 4#32))))))) x
def weights1 (w : FVec Ideal S2x4x1024x1024 .f32) : FVec Ideal S1024x1024 .f32 :=
  shapeCast _ (extractStridedSlice S1x1024x1024 ![1, 0, 0] (shapeCast _ (extractStridedSlice S1x4x1024x1024 ![0, 0, 0, 0] w slices_S2x4x1024x1024_S1x4x1024x1024_0_0_0_0) shapeCasts_S1x4x1024x1024_S4x1024x1024) slices_S4x1024x1024_S1x1024x1024_1_0_0) shapeCasts_S1x1024x1024_S1024x1024
def product1 (xn : FVec Ideal S4x4096x4096 .f32) (w : FVec Ideal S2x4x1024x1024 .f32) : Group :=
  Host.dotGeneral dot_S4x4096x1024_S1024x1024_S4x4096x1024_2_0_01_1_n_n none (pooled1 (group1 xn)) (weights1 w)

/-- Group 2: its columns, its window's mean less the token, its weights, and their product. -/
def group2 (xn : FVec Ideal S4x4096x4096 .f32) : Group :=
  shapeCast _ (extractStridedSlice S4x4096x1x1024 ![0, 0, 2, 0] (shapeCast _ xn shapeCasts_S4x4096x4096_S4x4096x4x1024) slices_S4x4096x4x1024_S4x4096x1x1024_0_0_2_0) shapeCasts_S4x4096x1x1024_S4x4096x1024
def pooled2 (x : Group) : Group :=
  subf (Host.divf (subf (prefixes x) (pad S4x4096x1024 ![0, 8, 0] ![0, 0, 0] ![0, 0, 0] (extractStridedSlice S4x4088x1024 ![0, 0, 0] (prefixes x) slices_S4x4096x1024_S4x4088x1024_0_0_0)
      (sitofp .f32 (constantI S_ 32 0#32)) pads_S4x4088x1024_S4x4096x1024_000_800_000 h_S_))
    (broadcastInDim S4x4096x1024 ![0, 1, 2] bcast_S1x4096x1_S4x4096x1024_0_1_2 (broadcastInDim S1x4096x1 ![1] bcast_S4096_S1x4096x1_1 (sitofp .f32 (minsi counts (broadcastInDim S4096 ![] bcast_S_S4096 (constantI S_ 32 8#32))))))) x
def weights2 (w : FVec Ideal S2x4x1024x1024 .f32) : FVec Ideal S1024x1024 .f32 :=
  shapeCast _ (extractStridedSlice S1x1024x1024 ![2, 0, 0] (shapeCast _ (extractStridedSlice S1x4x1024x1024 ![0, 0, 0, 0] w slices_S2x4x1024x1024_S1x4x1024x1024_0_0_0_0) shapeCasts_S1x4x1024x1024_S4x1024x1024) slices_S4x1024x1024_S1x1024x1024_2_0_0) shapeCasts_S1x1024x1024_S1024x1024
def product2 (xn : FVec Ideal S4x4096x4096 .f32) (w : FVec Ideal S2x4x1024x1024 .f32) : Group :=
  Host.dotGeneral dot_S4x4096x1024_S1024x1024_S4x4096x1024_2_0_01_1_n_n none (pooled2 (group2 xn)) (weights2 w)

/-- Group 3: its columns, its window's mean less the token, its weights, and their product. -/
def group3 (xn : FVec Ideal S4x4096x4096 .f32) : Group :=
  shapeCast _ (extractStridedSlice S4x4096x1x1024 ![0, 0, 3, 0] (shapeCast _ xn shapeCasts_S4x4096x4096_S4x4096x4x1024) slices_S4x4096x4x1024_S4x4096x1x1024_0_0_3_0) shapeCasts_S4x4096x1x1024_S4x4096x1024
def pooled3 (x : Group) : Group :=
  subf (Host.divf (subf (prefixes x) (pad S4x4096x1024 ![0, 16, 0] ![0, 0, 0] ![0, 0, 0] (extractStridedSlice S4x4080x1024 ![0, 0, 0] (prefixes x) slices_S4x4096x1024_S4x4080x1024_0_0_0)
      (sitofp .f32 (constantI S_ 32 0#32)) pads_S4x4080x1024_S4x4096x1024_000_1600_000 h_S_))
    (broadcastInDim S4x4096x1024 ![0, 1, 2] bcast_S1x4096x1_S4x4096x1024_0_1_2 (broadcastInDim S1x4096x1 ![1] bcast_S4096_S1x4096x1_1 (sitofp .f32 (minsi counts (broadcastInDim S4096 ![] bcast_S_S4096 (constantI S_ 32 16#32))))))) x
def weights3 (w : FVec Ideal S2x4x1024x1024 .f32) : FVec Ideal S1024x1024 .f32 :=
  shapeCast _ (extractStridedSlice S1x1024x1024 ![3, 0, 0] (shapeCast _ (extractStridedSlice S1x4x1024x1024 ![0, 0, 0, 0] w slices_S2x4x1024x1024_S1x4x1024x1024_0_0_0_0) shapeCasts_S1x4x1024x1024_S4x1024x1024) slices_S4x1024x1024_S1x1024x1024_3_0_0) shapeCasts_S1x1024x1024_S1024x1024
def product3 (xn : FVec Ideal S4x4096x4096 .f32) (w : FVec Ideal S2x4x1024x1024 .f32) : Group :=
  Host.dotGeneral dot_S4x4096x1024_S1024x1024_S4x4096x1024_2_0_01_1_n_n none (pooled3 (group3 xn)) (weights3 w)

/-- The groups side by side. -/
def joined (a b c d : Group) : FVec Ideal S4x4096x4096 .f32 :=
  concatenate S4x4096x4096 2 [⟨S4x4096x1024, a⟩, ⟨S4x4096x1024, b⟩, ⟨S4x4096x1024, c⟩, ⟨S4x4096x1024, d⟩] concatenates_S4x4096x1024_S4x4096x1024_S4x4096x1024_S4x4096x1024_S4x4096x4096_d2

/-- The first result: the residual and the mixed rows. -/
def result (h : FVec Ideal S4x4096x4096 .f32) (g : FVec Ideal S4096 .f32) (w : FVec Ideal S2x4x1024x1024 .f32) (s : FVec Ideal S4096 .f32) : FVec Ideal S4x4096x4096 .f32 :=
  addf h (mulf (joined (product0 (normedRows h g) w) (product1 (normedRows h g) w) (product2 (normedRows h g) w) (product3 (normedRows h g) w))
    (broadcastInDim S4x4096x4096 ![0, 1, 2] bcast_S1x1x4096_S4x4096x4096_0_1_2 (broadcastInDim S1x1x4096 ![2] bcast_S4096_S1x1x4096_2 s)))

/-- The second: the first's rows times the next norm's gain. -/
def gainedRows (o : FVec Ideal S4x4096x4096 .f32) (q : FVec Ideal S4096 .f32) : FVec Ideal S16384x4096 .bf16 :=
  truncf .bf16 (mulf (shapeCast _ o shapeCasts_S4x4096x4096_S16384x4096) (broadcastInDim S16384x4096 ![0, 1] bcast_S1x4096_S16384x4096_0_1 (broadcastInDim S1x4096 ![1] bcast_S4096_S1x4096_1 q))) bitsLt_bf16_f32

/-- The third: the first's sums of squares, on every lane. -/
def squareSums (o : FVec Ideal S4x4096x4096 .f32) : FVec Ideal S16384x128 .f32 :=
  broadcastInDim S16384x128 ![0, 1] bcast_S16384x1_S16384x128_0_1 (broadcastInDim S16384x1 ![0] bcast_S16384_S16384x1_0
    (Host.reduceAdd (mulf (shapeCast S16384x4096 o shapeCasts_S4x4096x4096_S16384x4096) (shapeCast S16384x4096 o shapeCasts_S4x4096x4096_S16384x4096)) (constant S_ .f32 0x00000000#32) reducesTo_S16384x4096_S16384_d1 h_S_))

section

variable (m : (ℓ : Loc nD τ sig) → Buf (Elt Ideal) ℓ) (c : Dev nD)

theorem out0_eq : res_out0 m c = result (m ((c.tc : Thread nD τ).loc main_arg0)) (m ((c.tc : Thread nD τ).loc main_arg1)) (m ((c.tc : Thread nD τ).loc main_arg2)) (m ((c.tc : Thread nD τ).loc main_arg3)) := rfl
theorem out1_eq : res_out1 m c = gainedRows (result (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) := rfl
theorem out2_eq : res_out2 m c = squareSums (result (m ((c.tc : Thread nD τ).loc main_arg0)) (m ((c.tc : Thread nD τ).loc main_arg1)) (m ((c.tc : Thread nD τ).loc main_arg2)) (m ((c.tc : Thread nD τ).loc main_arg3))) := rfl

end

/-! ## Entry by entry -/

theorem normedRows_apply (h : FVec Ideal S4x4096x4096 .f32) (g : FVec Ideal S4096 .f32) (b : Fin 4) (t c : Fin 4096) :
    normedRows h g (ix3 b t c) = normed (fun k => h (ix3 b t k)) c (g (ix1 c)) := by
  unfold normedRows normed
  pointwise
  rw [rms_div]

theorem zero_word : FloatOps.sitofp (F := Ideal) FTy.f32 0#32 = ((0 : ℝ) : EReal) := by
  show ((((0#32 : BitVec 32).toInt : ℤ) : ℝ) : EReal) = _
  simp

theorem prefix_sum {A N C : ℕ} (M : ℕ) (x : (⟨3, ![A, N, C]⟩ : Shape).Idx → EReal)
    (h : (⟨3, ![A, N, C]⟩ : Shape).ReduceWindows ![1, N, 1] ![1, 1, 1] ![0, M, 0] ![0, 0, 0] ⟨3, ![A, N, C]⟩) (z : EReal) (hz : z = 0)
    (a : Fin A) (t : Fin N) (c : Fin C) :
    Ideal.hostReduceWindowAdd ![1, N, 1] ![1, 1, 1] ![0, M, 0] ![0, 0, 0] h x z (ix3 a t c)
      = ∑ n : Fin N, (if hn : M ≤ t.val + n.val ∧ t.val + n.val - M < N then x (ix3 a ⟨t.val + n.val - M, hn.2⟩ c) else 0) := by
  subst hz
  exact windowMiddle M x h a t c

theorem prefixes_sum (X : Group) (b : Fin 4) (k : Fin 1024) (t : Fin 4096) : prefixes X (ix3 b t k)
    = ∑ n : Fin 4096, (if hn : 4095 ≤ t.val + n.val ∧ t.val + n.val - 4095 < 4096 then X (ix3 b ⟨t.val + n.val - 4095, hn.2⟩ k) else 0) := by
  unfold prefixes Host.reduceWindowAdd
  rw [Ideal.hostReduceWindowAdd_def]
  exact prefix_sum (A := 4) (N := 4096) (C := 1024) 4095 X _ _ Ideal.ofBits_zero_f32 b t k

theorem prefixes_apply (X : Group) (b : Fin 4) (k : Fin 1024) (x : ℕ → ℝ) (hx : ∀ t : Fin 4096, X (ix3 b t k) = ((x t.val : ℝ) : EReal)) (t : Fin 4096) :
    prefixes X (ix3 b t k) = ((∑ j ∈ Finset.range (t.val + 1), x j : ℝ) : EReal) := by
  rw [prefixes_sum, ← prefix_real 4096 4095 rfl x t.val t.isLt, ← Cert.Attn.coe_sum]
  refine Finset.sum_congr rfl fun n _ => ?_
  by_cases hn : 4095 ≤ t.val + n.val
  · have ht := t.isLt
    have hn' := n.isLt
    rw [dif_pos ⟨hn, by omega⟩, if_pos hn, hx]
  · rw [dif_neg (fun q => hn q.1), if_neg hn]; rfl

theorem group0_apply (x : FVec Ideal S4x4096x4096 .f32) (b : Fin 4) (t : Fin 4096) (k : Fin 1024) : group0 x (ix3 b t k) = x (ix3 b t ⟨1024 * 0 + k.val, by omega⟩) := by
  unfold group0
  pointwise
theorem weights0_apply (w : FVec Ideal S2x4x1024x1024 .f32) (k c : Fin 1024) : weights0 w (ix2 k c) = w (ix4 0 0 k c) := by
  unfold weights0
  pointwise
theorem pooled0_apply (X : Group) (b : Fin 4) (k : Fin 1024) (x : ℕ → ℝ) (hx : ∀ t : Fin 4096, X (ix3 b t k) = ((x t.val : ℝ) : EReal)) (t : Fin 4096) :
    pooled0 X (ix3 b t k) = Ideal.div ((trail x 2 t.val : ℝ) : EReal) (inWindow 2#32 t.val) - ((x t.val : ℝ) : EReal) := by
  unfold pooled0 counts inWindow
  pointwise [hx]
  have e : (if h : 2 ≤ t.val ∧ t.val - 2 < 4094 then prefixes X (ix3 b ⟨t.val - 2, by omega⟩ k) else FloatOps.sitofp FTy.f32 0#32)
      = ((∑ j ∈ Finset.range (t.val + 1 - 2), x j : ℝ) : EReal) := by
    have ht := t.isLt
    by_cases h : 2 ≤ t.val
    · rw [dif_pos ⟨h, by omega⟩, prefixes_apply X b k x hx, show t.val - 2 + 1 = t.val + 1 - 2 by omega]
    · rw [dif_neg (fun q => h q.1), show t.val + 1 - 2 = 0 by omega, Finset.range_zero, Finset.sum_empty]
      exact zero_word
  rw [e, prefixes_apply X b k x hx, ← EReal.coe_sub, trail_prefix]
  rfl
theorem product0_apply (xn : FVec Ideal S4x4096x4096 .f32) (w : FVec Ideal S2x4x1024x1024 .f32) (b : Fin 4) (x : Fin 4096 → ℕ → ℝ)
    (hx : ∀ (c t : Fin 4096), xn (ix3 b t c) = ((x c t.val : ℝ) : EReal)) (t : Fin 4096) (c : Fin 1024) :
    product0 xn w (ix3 b t c) = ∑ k : Fin 1024, (Ideal.div ((trail (x ⟨1024 * 0 + k.val, by omega⟩) 2 t.val : ℝ) : EReal) (inWindow 2#32 t.val)
      - ((x ⟨1024 * 0 + k.val, by omega⟩ t.val : ℝ) : EReal)) * w (ix4 0 0 k c) := by
  have e : product0 xn w (ix3 b t c) = ∑ k : Fin 1024, pooled0 (group0 xn) (ix3 b t k) * weights0 w (ix2 k c) := by
    unfold product0
    generalize pooled0 (group0 xn) = y
    generalize weights0 w = v
    pointwise
  rw [e]
  refine Finset.sum_congr rfl fun k _ => ?_
  rw [weights0_apply, pooled0_apply (group0 xn) b k (x ⟨1024 * 0 + k.val, by omega⟩) (fun s => by rw [group0_apply, hx])]

theorem group1_apply (x : FVec Ideal S4x4096x4096 .f32) (b : Fin 4) (t : Fin 4096) (k : Fin 1024) : group1 x (ix3 b t k) = x (ix3 b t ⟨1024 * 1 + k.val, by omega⟩) := by
  unfold group1
  pointwise
theorem weights1_apply (w : FVec Ideal S2x4x1024x1024 .f32) (k c : Fin 1024) : weights1 w (ix2 k c) = w (ix4 0 1 k c) := by
  unfold weights1
  pointwise
theorem pooled1_apply (X : Group) (b : Fin 4) (k : Fin 1024) (x : ℕ → ℝ) (hx : ∀ t : Fin 4096, X (ix3 b t k) = ((x t.val : ℝ) : EReal)) (t : Fin 4096) :
    pooled1 X (ix3 b t k) = Ideal.div ((trail x 4 t.val : ℝ) : EReal) (inWindow 4#32 t.val) - ((x t.val : ℝ) : EReal) := by
  unfold pooled1 counts inWindow
  pointwise [hx]
  have e : (if h : 4 ≤ t.val ∧ t.val - 4 < 4092 then prefixes X (ix3 b ⟨t.val - 4, by omega⟩ k) else FloatOps.sitofp FTy.f32 0#32)
      = ((∑ j ∈ Finset.range (t.val + 1 - 4), x j : ℝ) : EReal) := by
    have ht := t.isLt
    by_cases h : 4 ≤ t.val
    · rw [dif_pos ⟨h, by omega⟩, prefixes_apply X b k x hx, show t.val - 4 + 1 = t.val + 1 - 4 by omega]
    · rw [dif_neg (fun q => h q.1), show t.val + 1 - 4 = 0 by omega, Finset.range_zero, Finset.sum_empty]
      exact zero_word
  rw [e, prefixes_apply X b k x hx, ← EReal.coe_sub, trail_prefix]
  rfl
theorem product1_apply (xn : FVec Ideal S4x4096x4096 .f32) (w : FVec Ideal S2x4x1024x1024 .f32) (b : Fin 4) (x : Fin 4096 → ℕ → ℝ)
    (hx : ∀ (c t : Fin 4096), xn (ix3 b t c) = ((x c t.val : ℝ) : EReal)) (t : Fin 4096) (c : Fin 1024) :
    product1 xn w (ix3 b t c) = ∑ k : Fin 1024, (Ideal.div ((trail (x ⟨1024 * 1 + k.val, by omega⟩) 4 t.val : ℝ) : EReal) (inWindow 4#32 t.val)
      - ((x ⟨1024 * 1 + k.val, by omega⟩ t.val : ℝ) : EReal)) * w (ix4 0 1 k c) := by
  have e : product1 xn w (ix3 b t c) = ∑ k : Fin 1024, pooled1 (group1 xn) (ix3 b t k) * weights1 w (ix2 k c) := by
    unfold product1
    generalize pooled1 (group1 xn) = y
    generalize weights1 w = v
    pointwise
  rw [e]
  refine Finset.sum_congr rfl fun k _ => ?_
  rw [weights1_apply, pooled1_apply (group1 xn) b k (x ⟨1024 * 1 + k.val, by omega⟩) (fun s => by rw [group1_apply, hx])]

theorem group2_apply (x : FVec Ideal S4x4096x4096 .f32) (b : Fin 4) (t : Fin 4096) (k : Fin 1024) : group2 x (ix3 b t k) = x (ix3 b t ⟨1024 * 2 + k.val, by omega⟩) := by
  unfold group2
  pointwise
theorem weights2_apply (w : FVec Ideal S2x4x1024x1024 .f32) (k c : Fin 1024) : weights2 w (ix2 k c) = w (ix4 0 2 k c) := by
  unfold weights2
  pointwise
theorem pooled2_apply (X : Group) (b : Fin 4) (k : Fin 1024) (x : ℕ → ℝ) (hx : ∀ t : Fin 4096, X (ix3 b t k) = ((x t.val : ℝ) : EReal)) (t : Fin 4096) :
    pooled2 X (ix3 b t k) = Ideal.div ((trail x 8 t.val : ℝ) : EReal) (inWindow 8#32 t.val) - ((x t.val : ℝ) : EReal) := by
  unfold pooled2 counts inWindow
  pointwise [hx]
  have e : (if h : 8 ≤ t.val ∧ t.val - 8 < 4088 then prefixes X (ix3 b ⟨t.val - 8, by omega⟩ k) else FloatOps.sitofp FTy.f32 0#32)
      = ((∑ j ∈ Finset.range (t.val + 1 - 8), x j : ℝ) : EReal) := by
    have ht := t.isLt
    by_cases h : 8 ≤ t.val
    · rw [dif_pos ⟨h, by omega⟩, prefixes_apply X b k x hx, show t.val - 8 + 1 = t.val + 1 - 8 by omega]
    · rw [dif_neg (fun q => h q.1), show t.val + 1 - 8 = 0 by omega, Finset.range_zero, Finset.sum_empty]
      exact zero_word
  rw [e, prefixes_apply X b k x hx, ← EReal.coe_sub, trail_prefix]
  rfl
theorem product2_apply (xn : FVec Ideal S4x4096x4096 .f32) (w : FVec Ideal S2x4x1024x1024 .f32) (b : Fin 4) (x : Fin 4096 → ℕ → ℝ)
    (hx : ∀ (c t : Fin 4096), xn (ix3 b t c) = ((x c t.val : ℝ) : EReal)) (t : Fin 4096) (c : Fin 1024) :
    product2 xn w (ix3 b t c) = ∑ k : Fin 1024, (Ideal.div ((trail (x ⟨1024 * 2 + k.val, by omega⟩) 8 t.val : ℝ) : EReal) (inWindow 8#32 t.val)
      - ((x ⟨1024 * 2 + k.val, by omega⟩ t.val : ℝ) : EReal)) * w (ix4 0 2 k c) := by
  have e : product2 xn w (ix3 b t c) = ∑ k : Fin 1024, pooled2 (group2 xn) (ix3 b t k) * weights2 w (ix2 k c) := by
    unfold product2
    generalize pooled2 (group2 xn) = y
    generalize weights2 w = v
    pointwise
  rw [e]
  refine Finset.sum_congr rfl fun k _ => ?_
  rw [weights2_apply, pooled2_apply (group2 xn) b k (x ⟨1024 * 2 + k.val, by omega⟩) (fun s => by rw [group2_apply, hx])]

theorem group3_apply (x : FVec Ideal S4x4096x4096 .f32) (b : Fin 4) (t : Fin 4096) (k : Fin 1024) : group3 x (ix3 b t k) = x (ix3 b t ⟨1024 * 3 + k.val, by omega⟩) := by
  unfold group3
  pointwise
theorem weights3_apply (w : FVec Ideal S2x4x1024x1024 .f32) (k c : Fin 1024) : weights3 w (ix2 k c) = w (ix4 0 3 k c) := by
  unfold weights3
  pointwise
theorem pooled3_apply (X : Group) (b : Fin 4) (k : Fin 1024) (x : ℕ → ℝ) (hx : ∀ t : Fin 4096, X (ix3 b t k) = ((x t.val : ℝ) : EReal)) (t : Fin 4096) :
    pooled3 X (ix3 b t k) = Ideal.div ((trail x 16 t.val : ℝ) : EReal) (inWindow 16#32 t.val) - ((x t.val : ℝ) : EReal) := by
  unfold pooled3 counts inWindow
  pointwise [hx]
  have e : (if h : 16 ≤ t.val ∧ t.val - 16 < 4080 then prefixes X (ix3 b ⟨t.val - 16, by omega⟩ k) else FloatOps.sitofp FTy.f32 0#32)
      = ((∑ j ∈ Finset.range (t.val + 1 - 16), x j : ℝ) : EReal) := by
    have ht := t.isLt
    by_cases h : 16 ≤ t.val
    · rw [dif_pos ⟨h, by omega⟩, prefixes_apply X b k x hx, show t.val - 16 + 1 = t.val + 1 - 16 by omega]
    · rw [dif_neg (fun q => h q.1), show t.val + 1 - 16 = 0 by omega, Finset.range_zero, Finset.sum_empty]
      exact zero_word
  rw [e, prefixes_apply X b k x hx, ← EReal.coe_sub, trail_prefix]
  rfl
theorem product3_apply (xn : FVec Ideal S4x4096x4096 .f32) (w : FVec Ideal S2x4x1024x1024 .f32) (b : Fin 4) (x : Fin 4096 → ℕ → ℝ)
    (hx : ∀ (c t : Fin 4096), xn (ix3 b t c) = ((x c t.val : ℝ) : EReal)) (t : Fin 4096) (c : Fin 1024) :
    product3 xn w (ix3 b t c) = ∑ k : Fin 1024, (Ideal.div ((trail (x ⟨1024 * 3 + k.val, by omega⟩) 16 t.val : ℝ) : EReal) (inWindow 16#32 t.val)
      - ((x ⟨1024 * 3 + k.val, by omega⟩ t.val : ℝ) : EReal)) * w (ix4 0 3 k c) := by
  have e : product3 xn w (ix3 b t c) = ∑ k : Fin 1024, pooled3 (group3 xn) (ix3 b t k) * weights3 w (ix2 k c) := by
    unfold product3
    generalize pooled3 (group3 xn) = y
    generalize weights3 w = v
    pointwise
  rw [e]
  refine Finset.sum_congr rfl fun k _ => ?_
  rw [weights3_apply, pooled3_apply (group3 xn) b k (x ⟨1024 * 3 + k.val, by omega⟩) (fun s => by rw [group3_apply, hx])]

/-- The normed entries of a batch, as real numbers by column and token. -/
def reals (h : FVec Ideal S4x4096x4096 .f32) (g : FVec Ideal S4096 .f32) (b : Fin 4) (c : Fin 4096) (t : ℕ) : ℝ :=
  if ht : t < 4096 then (normedRows h g (ix3 b ⟨t, ht⟩ c)).toReal else 0

theorem reals_eq (h : FVec Ideal S4x4096x4096 .f32) (g : FVec Ideal S4096 .f32) (hg : ∀ c, ∃ r : ℝ, g c = (r : EReal)) (b : Fin 4) (c t : Fin 4096) :
    normedRows h g (ix3 b t c) = ((reals h g b c t.val : ℝ) : EReal) := by
  unfold reals
  rw [dif_pos t.isLt]
  obtain ⟨r, hr⟩ := normed_real (fun k => h (ix3 b t k)) c (g (ix1 c)) (hg _)
  rw [normedRows_apply, hr, EReal.toReal_coe]

theorem result0_apply (h : FVec Ideal S4x4096x4096 .f32) (g : FVec Ideal S4096 .f32) (w : FVec Ideal S2x4x1024x1024 .f32) (s : FVec Ideal S4096 .f32) (hg : ∀ c, ∃ r : ℝ, g c = (r : EReal)) (b : Fin 4) (t : Fin 4096) (c : Fin 1024) :
    result h g w s (ix3 b t ⟨1024 * 0 + c.val, by omega⟩)
      = mixed (h (ix3 b t ⟨1024 * 0 + c.val, by omega⟩)) (fun k => ((trail (reals h g b ⟨1024 * 0 + k.val, by omega⟩) 2 t.val : ℝ) : EReal))
          (fun k => ((reals h g b ⟨1024 * 0 + k.val, by omega⟩ t.val : ℝ) : EReal)) (inWindow 2#32 t.val) (fun k => w (ix4 0 0 k c)) (s (ix1 ⟨1024 * 0 + c.val, by omega⟩)) := by
  have e : joined (product0 (normedRows h g) w) (product1 (normedRows h g) w) (product2 (normedRows h g) w) (product3 (normedRows h g) w) (ix3 b t ⟨1024 * 0 + c.val, by omega⟩)
      = product0 (normedRows h g) w (ix3 b t c) := by
    generalize product0 (normedRows h g) w = p0
    generalize product1 (normedRows h g) w = p1
    generalize product2 (normedRows h g) w = p2
    generalize product3 (normedRows h g) w = p3
    unfold joined
    pointwise
  have r : result h g w s (ix3 b t ⟨1024 * 0 + c.val, by omega⟩) = h (ix3 b t ⟨1024 * 0 + c.val, by omega⟩)
      + joined (product0 (normedRows h g) w) (product1 (normedRows h g) w) (product2 (normedRows h g) w) (product3 (normedRows h g) w) (ix3 b t ⟨1024 * 0 + c.val, by omega⟩)
        * s (ix1 ⟨1024 * 0 + c.val, by omega⟩) := by
    unfold result
    generalize joined _ _ _ _ = y
    pointwise
  rw [r, e, product0_apply _ w b (reals h g b) (fun c t => reals_eq h g hg b c t)]
  rfl

theorem result1_apply (h : FVec Ideal S4x4096x4096 .f32) (g : FVec Ideal S4096 .f32) (w : FVec Ideal S2x4x1024x1024 .f32) (s : FVec Ideal S4096 .f32) (hg : ∀ c, ∃ r : ℝ, g c = (r : EReal)) (b : Fin 4) (t : Fin 4096) (c : Fin 1024) :
    result h g w s (ix3 b t ⟨1024 * 1 + c.val, by omega⟩)
      = mixed (h (ix3 b t ⟨1024 * 1 + c.val, by omega⟩)) (fun k => ((trail (reals h g b ⟨1024 * 1 + k.val, by omega⟩) 4 t.val : ℝ) : EReal))
          (fun k => ((reals h g b ⟨1024 * 1 + k.val, by omega⟩ t.val : ℝ) : EReal)) (inWindow 4#32 t.val) (fun k => w (ix4 0 1 k c)) (s (ix1 ⟨1024 * 1 + c.val, by omega⟩)) := by
  have e : joined (product0 (normedRows h g) w) (product1 (normedRows h g) w) (product2 (normedRows h g) w) (product3 (normedRows h g) w) (ix3 b t ⟨1024 * 1 + c.val, by omega⟩)
      = product1 (normedRows h g) w (ix3 b t c) := by
    generalize product0 (normedRows h g) w = p0
    generalize product1 (normedRows h g) w = p1
    generalize product2 (normedRows h g) w = p2
    generalize product3 (normedRows h g) w = p3
    unfold joined
    pointwise
  have r : result h g w s (ix3 b t ⟨1024 * 1 + c.val, by omega⟩) = h (ix3 b t ⟨1024 * 1 + c.val, by omega⟩)
      + joined (product0 (normedRows h g) w) (product1 (normedRows h g) w) (product2 (normedRows h g) w) (product3 (normedRows h g) w) (ix3 b t ⟨1024 * 1 + c.val, by omega⟩)
        * s (ix1 ⟨1024 * 1 + c.val, by omega⟩) := by
    unfold result
    generalize joined _ _ _ _ = y
    pointwise
  rw [r, e, product1_apply _ w b (reals h g b) (fun c t => reals_eq h g hg b c t)]
  rfl

theorem result2_apply (h : FVec Ideal S4x4096x4096 .f32) (g : FVec Ideal S4096 .f32) (w : FVec Ideal S2x4x1024x1024 .f32) (s : FVec Ideal S4096 .f32) (hg : ∀ c, ∃ r : ℝ, g c = (r : EReal)) (b : Fin 4) (t : Fin 4096) (c : Fin 1024) :
    result h g w s (ix3 b t ⟨1024 * 2 + c.val, by omega⟩)
      = mixed (h (ix3 b t ⟨1024 * 2 + c.val, by omega⟩)) (fun k => ((trail (reals h g b ⟨1024 * 2 + k.val, by omega⟩) 8 t.val : ℝ) : EReal))
          (fun k => ((reals h g b ⟨1024 * 2 + k.val, by omega⟩ t.val : ℝ) : EReal)) (inWindow 8#32 t.val) (fun k => w (ix4 0 2 k c)) (s (ix1 ⟨1024 * 2 + c.val, by omega⟩)) := by
  have e : joined (product0 (normedRows h g) w) (product1 (normedRows h g) w) (product2 (normedRows h g) w) (product3 (normedRows h g) w) (ix3 b t ⟨1024 * 2 + c.val, by omega⟩)
      = product2 (normedRows h g) w (ix3 b t c) := by
    generalize product0 (normedRows h g) w = p0
    generalize product1 (normedRows h g) w = p1
    generalize product2 (normedRows h g) w = p2
    generalize product3 (normedRows h g) w = p3
    unfold joined
    pointwise
    have hc := c.isLt
    rw [dif_neg (by omega), dif_neg (by omega), dif_pos (by omega)]
    exact congrArg (fun q => p2 (ix3 b t q)) (Fin.ext (by dsimp only; omega))
  have r : result h g w s (ix3 b t ⟨1024 * 2 + c.val, by omega⟩) = h (ix3 b t ⟨1024 * 2 + c.val, by omega⟩)
      + joined (product0 (normedRows h g) w) (product1 (normedRows h g) w) (product2 (normedRows h g) w) (product3 (normedRows h g) w) (ix3 b t ⟨1024 * 2 + c.val, by omega⟩)
        * s (ix1 ⟨1024 * 2 + c.val, by omega⟩) := by
    unfold result
    generalize joined _ _ _ _ = y
    pointwise
  rw [r, e, product2_apply _ w b (reals h g b) (fun c t => reals_eq h g hg b c t)]
  rfl

theorem result3_apply (h : FVec Ideal S4x4096x4096 .f32) (g : FVec Ideal S4096 .f32) (w : FVec Ideal S2x4x1024x1024 .f32) (s : FVec Ideal S4096 .f32) (hg : ∀ c, ∃ r : ℝ, g c = (r : EReal)) (b : Fin 4) (t : Fin 4096) (c : Fin 1024) :
    result h g w s (ix3 b t ⟨1024 * 3 + c.val, by omega⟩)
      = mixed (h (ix3 b t ⟨1024 * 3 + c.val, by omega⟩)) (fun k => ((trail (reals h g b ⟨1024 * 3 + k.val, by omega⟩) 16 t.val : ℝ) : EReal))
          (fun k => ((reals h g b ⟨1024 * 3 + k.val, by omega⟩ t.val : ℝ) : EReal)) (inWindow 16#32 t.val) (fun k => w (ix4 0 3 k c)) (s (ix1 ⟨1024 * 3 + c.val, by omega⟩)) := by
  have e : joined (product0 (normedRows h g) w) (product1 (normedRows h g) w) (product2 (normedRows h g) w) (product3 (normedRows h g) w) (ix3 b t ⟨1024 * 3 + c.val, by omega⟩)
      = product3 (normedRows h g) w (ix3 b t c) := by
    generalize product0 (normedRows h g) w = p0
    generalize product1 (normedRows h g) w = p1
    generalize product2 (normedRows h g) w = p2
    generalize product3 (normedRows h g) w = p3
    unfold joined
    pointwise
    have hc := c.isLt
    rw [dif_neg (by omega), dif_neg (by omega), dif_neg (by omega)]
    exact congrArg (fun q => p3 (ix3 b t q)) (Fin.ext (by dsimp only; omega))
  have r : result h g w s (ix3 b t ⟨1024 * 3 + c.val, by omega⟩) = h (ix3 b t ⟨1024 * 3 + c.val, by omega⟩)
      + joined (product0 (normedRows h g) w) (product1 (normedRows h g) w) (product2 (normedRows h g) w) (product3 (normedRows h g) w) (ix3 b t ⟨1024 * 3 + c.val, by omega⟩)
        * s (ix1 ⟨1024 * 3 + c.val, by omega⟩) := by
    unfold result
    generalize joined _ _ _ _ = y
    pointwise
  rw [r, e, product3_apply _ w b (reals h g b) (fun c t => reals_eq h g hg b c t)]
  rfl

theorem gainedRows_apply (o : FVec Ideal S4x4096x4096 .f32) (q : FVec Ideal S4096 .f32) (b : Fin 4) (t c : Fin 4096) :
    gainedRows o q (ix2 ⟨4096 * b.val + t.val, by omega⟩ c) = o (ix3 b t c) * q (ix1 c) := by
  have hb := b.isLt
  have ht := t.isLt
  have hc := c.isLt
  unfold gainedRows
  pointwise

theorem squareSums_apply (o : FVec Ideal S4x4096x4096 .f32) (b : Fin 4) (t : Fin 4096) (l : Fin 128) :
    squareSums o (ix2 ⟨4096 * b.val + t.val, by omega⟩ l) = ∑ c : Fin 4096, o (ix3 b t c) * o (ix3 b t c) := by
  have hb := b.isLt
  have ht := t.isLt
  unfold squareSums
  pointwise

end Cert.PoolRefIdeal.Run

end
-- ==== Proof.PoolPoint.lean ====
/-
  THE POOLING MIXER: what a grid point leaves in its three outputs is its block of the reference's results.
-/
module

public import proofs.«01_k».proof.Proof.PoolBody
public import proofs.«01_k».proof.Proof.PoolRef
public import Idealize.ShloMosaic.Lib.VecWindow

@[expose] public section

set_option maxRecDepth 16384

noncomputable section

namespace Cert.PoolIdeal.Run

open Idealize.ShloMosaic Idealize.ShloMosaic.TcCoe Idealize.SL.Sem
open Cert.PoolIdeal Cert.PoolIdeal.Gen Cert.Rows Cert.Pool

open Cert.PoolRefIdeal.Run (result reals reals_eq normedRows_apply gainedRows squareSums)

/-- The token of a block's row. -/
def tok (i : grid0.Coords) (r : Fin 256) : Fin 4096 := ⟨256 * (i 1).val + r.val, by
  have h : (i 1).val < 16 := (i 1).isLt
  omega⟩

/-- The rows of the block and the sixteen before it, of the batch `b`, and the row of gains. -/
structure Rows (i : grid0.Coords) (b : Fin 4) (h : FVec Ideal S4x4096x4096 .f32) (g : FVec Ideal S4096 .f32)
    (v0 : Vec Ideal S1x4096 .f32) (v2 : Vec Ideal S1x256x4096 .f32) (v9 : Vec Ideal S1x16x4096 .f32) : Prop where
  gain : ∀ k : Fin 4096, v0 (ix2 0 k) = g (ix1 k)
  rows : ∀ (r : Fin 256) (k : Fin 4096), v2 (ix3 0 r k) = h (ix3 b (tok i r) k)
  before : (i 1).val ≠ 0 → ∀ (r : Fin 16) (t k : Fin 4096), t.val = 256 * (i 1).val + r.val - 16 → v9 (ix3 0 r k) = h (ix3 b t k)

section

variable {i : grid0.Coords} {b : Fin 4} {h : FVec Ideal S4x4096x4096 .f32} {g : FVec Ideal S4096 .f32}
variable {v0 : Vec Ideal S1x4096 .f32} {v2 : Vec Ideal S1x256x4096 .f32} {v9 : Vec Ideal S1x16x4096 .f32}

theorem rows_reals (H : Rows i b h g v0 v2 v9) (hg : ∀ c, ∃ r : ℝ, g c = (r : EReal)) (c : Fin 4096) : IsRows (X i v0 v2 v9 c) (i 1).val (reals h g b c) := by
  refine rows_are i v0 v2 v9 (reals h g b) (fun r c => ?_) (fun hi r c => ?_) c
  · rw [H.gain, show (fun k => v2 (ix3 0 r k)) = fun k => h (ix3 b (tok i r) k) from funext fun k => H.rows r k, ← normedRows_apply, reals_eq h g hg]
    rfl
  · have hl : (i 1).val < 16 := (i 1).isLt
    have hr := r.isLt
    rw [H.gain, show (fun k => v9 (ix3 0 r k)) = fun k => h (ix3 b (⟨256 * (i 1).val + r.val - 16, by omega⟩ : Fin 4096) k) from
      funext fun k => H.before hi r _ k rfl, ← normedRows_apply, reals_eq h g hg]

theorem group0_is (H : Rows i b h g v0 v2 v9) (hg : ∀ c, ∃ r : ℝ, g c = (r : EReal)) (arg11 : Memref sig .tc .vmem S280x4096 .f32)
    (wv : Vec Ideal S1x1x1024x1024 .bf16) (sv : Vec Ideal S1x1024 .f32) (w : FVec Ideal S2x4x1024x1024 .f32) (s : FVec Ideal S4096 .f32)
    (hw : ∀ k c : Fin 1024, wv (ix4 0 0 k c) = w (ix4 0 0 k c)) (hs : ∀ c : Fin 1024, sv (ix2 0 c) = s (ix1 ⟨1024 * 0 + c.val, by omega⟩)) (r : Fin 256) (c : Fin 1024) :
    y0 arg11 i v0 v2 v9 wv sv (ix2 r c) = result h g w s (ix3 b (tok i r) ⟨1024 * 0 + c.val, by omega⟩) := by
  refine (y0_apply arg11 i v0 v2 v9 (reals h g b) (rows_reals H hg) wv sv r c).trans ?_
  refine Eq.trans ?_ (Cert.PoolRefIdeal.Run.result0_apply h g w s hg b (tok i r) c).symm
  rw [H.rows, hs]
  simp only [hw]
  rfl

theorem group1_is (H : Rows i b h g v0 v2 v9) (hg : ∀ c, ∃ r : ℝ, g c = (r : EReal)) (arg11 : Memref sig .tc .vmem S280x4096 .f32) (arg12 : Memref sig .tc .vmem S280x1024 .f32)
    (wv : Vec Ideal S1x1x1024x1024 .bf16) (sv : Vec Ideal S1x1024 .f32) (w : FVec Ideal S2x4x1024x1024 .f32) (s : FVec Ideal S4096 .f32)
    (hw : ∀ k c : Fin 1024, wv (ix4 0 0 k c) = w (ix4 0 1 k c)) (hs : ∀ c : Fin 1024, sv (ix2 0 c) = s (ix1 ⟨1024 * 1 + c.val, by omega⟩)) (r : Fin 256) (c : Fin 1024) :
    y1 arg11 arg12 i v0 v2 v9 wv sv (ix2 r c) = result h g w s (ix3 b (tok i r) ⟨1024 * 1 + c.val, by omega⟩) := by
  refine (y1_apply arg11 arg12 i v0 v2 v9 (reals h g b) (rows_reals H hg) wv sv r c).trans ?_
  refine Eq.trans ?_ (Cert.PoolRefIdeal.Run.result1_apply h g w s hg b (tok i r) c).symm
  rw [H.rows, hs]
  simp only [hw]
  rfl

theorem group2_is (H : Rows i b h g v0 v2 v9) (hg : ∀ c, ∃ r : ℝ, g c = (r : EReal)) (arg11 : Memref sig .tc .vmem S280x4096 .f32) (arg12 arg13 : Memref sig .tc .vmem S280x1024 .f32)
    (wv : Vec Ideal S1x1x1024x1024 .bf16) (sv : Vec Ideal S1x1024 .f32) (w : FVec Ideal S2x4x1024x1024 .f32) (s : FVec Ideal S4096 .f32)
    (hw : ∀ k c : Fin 1024, wv (ix4 0 0 k c) = w (ix4 0 2 k c)) (hs : ∀ c : Fin 1024, sv (ix2 0 c) = s (ix1 ⟨1024 * 2 + c.val, by omega⟩)) (r : Fin 256) (c : Fin 1024) :
    y2 arg11 arg12 arg13 i v0 v2 v9 wv sv (ix2 r c) = result h g w s (ix3 b (tok i r) ⟨1024 * 2 + c.val, by omega⟩) := by
  refine (y2_apply arg11 arg12 arg13 i v0 v2 v9 (reals h g b) (rows_reals H hg) wv sv r c).trans ?_
  refine Eq.trans ?_ (Cert.PoolRefIdeal.Run.result2_apply h g w s hg b (tok i r) c).symm
  rw [H.rows, hs]
  simp only [hw]
  rfl

theorem group3_is (H : Rows i b h g v0 v2 v9) (hg : ∀ c, ∃ r : ℝ, g c = (r : EReal)) (arg11 : Memref sig .tc .vmem S280x4096 .f32) (arg12 arg13 : Memref sig .tc .vmem S280x1024 .f32)
    (wv : Vec Ideal S1x1x1024x1024 .bf16) (sv : Vec Ideal S1x1024 .f32) (w : FVec Ideal S2x4x1024x1024 .f32) (s : FVec Ideal S4096 .f32)
    (hw : ∀ k c : Fin 1024, wv (ix4 0 0 k c) = w (ix4 0 3 k c)) (hs : ∀ c : Fin 1024, sv (ix2 0 c) = s (ix1 ⟨1024 * 3 + c.val, by omega⟩)) (r : Fin 256) (c : Fin 1024) :
    y3 arg11 arg12 arg13 i v0 v2 v9 wv sv (ix2 r c) = result h g w s (ix3 b (tok i r) ⟨1024 * 3 + c.val, by omega⟩) := by
  refine (y3_apply arg11 arg12 arg13 i v0 v2 v9 (reals h g b) (rows_reals H hg) wv sv r c).trans ?_
  refine Eq.trans ?_ (Cert.PoolRefIdeal.Run.result3_apply h g w s hg b (tok i r) c).symm
  rw [H.rows, hs]
  simp only [hw]
  rfl

end

/-! ## The blocks' loads -/

theorem load_full {sp : Space} {s : Shape} {e : EltTy} {a : Memref sig .tc sp s e} (h : a.IsWhole) (x : Vec Ideal s e) {off : Fin s.rank → ℕ} (inb : ∀ a, off a + s.size a ≤ s.size a) :
    View.readAt (Elt Ideal) a.view (Rect.unit off s.size inb).toLoadRect (h.unread x) = x := by
  rw [View.readAt_full]
  exact h.read_unread x

theorem load {sp : Space} {s : Shape} {e : EltTy} {a : Memref sig .tc sp s e} (ha : a.IsWhole) (x : Vec Ideal s e) (R : Rect s) (j : R.toLoadRect.shape.Idx) (j' : s.Idx)
    (hj : R.toLoadRect.idx j = j') : a.view.readAt (Elt Ideal) R.toLoadRect (ha.unread x) j = x j' := by
  show a.view.read (Elt Ideal) (ha.unread x) _ = _
  rw [ha.read_unread, hj]

theorem whole6_0 (p0 p1 p2 p3 : S1x256x1024.Idx → Elt Ideal .f32) (r : Fin 256) (c : Fin 1024) :
    View.canon (Val := Elt Ideal) (e := .f32) [⟨Rect.unit (s := S1x256x4096) ![0, 0, 3072] S1x256x1024.size inb_S1x256x4096_S1x256x1024_0_0_3072, p3⟩, ⟨Rect.unit (s := S1x256x4096) ![0, 0, 2048] S1x256x1024.size inb_S1x256x4096_S1x256x1024_0_0_2048, p2⟩, ⟨Rect.unit (s := S1x256x4096) ![0, 0, 1024] S1x256x1024.size inb_S1x256x4096_S1x256x1024_0_0_1024, p1⟩, ⟨Rect.unit (s := S1x256x4096) ![0, 0, 0] S1x256x1024.size inb_S1x256x4096_S1x256x1024_0_0_0, p0⟩] (ix3 0 r (⟨1024 * 0 + c.val, by omega⟩ : Fin 4096) : S1x256x4096.Idx) = p0 (ix3 (0 : Fin 1) r c) := by
  have hc := c.isLt
  refine (View.canon_cons_of_not_mem _ _ ?_).trans ?_
  · show _ ∉ (Rect.unit (s := S1x256x4096) ![0, 0, 3072] S1x256x1024.size inb_S1x256x4096_S1x256x1024_0_0_3072).set
    rw [Rect.mem_set_unit]
    intro q
    have q1 : 3072 ≤ 1024 * 0 + c.val := (q 2).1
    omega
  refine (View.canon_cons_of_not_mem _ _ ?_).trans ?_
  · show _ ∉ (Rect.unit (s := S1x256x4096) ![0, 0, 2048] S1x256x1024.size inb_S1x256x4096_S1x256x1024_0_0_2048).set
    rw [Rect.mem_set_unit]
    intro q
    have q1 : 2048 ≤ 1024 * 0 + c.val := (q 2).1
    omega
  refine (View.canon_cons_of_not_mem _ _ ?_).trans ?_
  · show _ ∉ (Rect.unit (s := S1x256x4096) ![0, 0, 1024] S1x256x1024.size inb_S1x256x4096_S1x256x1024_0_0_1024).set
    rw [Rect.mem_set_unit]
    intro q
    have q1 : 1024 ≤ 1024 * 0 + c.val := (q 2).1
    omega
  have e : (ix3 0 r (⟨1024 * 0 + c.val, by omega⟩ : Fin 4096) : S1x256x4096.Idx) = (Rect.unit (s := S1x256x4096) ![0, 0, 0] S1x256x1024.size inb_S1x256x4096_S1x256x1024_0_0_0).emb (ix3 (0 : Fin 1) r c) := by
    funext a; apply Fin.ext
    match a with
    | ⟨0, _⟩ => rfl
    | ⟨1, _⟩ => show r.val = 0 + 1 * r.val; omega
    | ⟨2, _⟩ => show 1024 * 0 + c.val = 0 + 1 * c.val; omega
  rw [e, View.canon_cons_emb]

theorem whole6_1 (p0 p1 p2 p3 : S1x256x1024.Idx → Elt Ideal .f32) (r : Fin 256) (c : Fin 1024) :
    View.canon (Val := Elt Ideal) (e := .f32) [⟨Rect.unit (s := S1x256x4096) ![0, 0, 3072] S1x256x1024.size inb_S1x256x4096_S1x256x1024_0_0_3072, p3⟩, ⟨Rect.unit (s := S1x256x4096) ![0, 0, 2048] S1x256x1024.size inb_S1x256x4096_S1x256x1024_0_0_2048, p2⟩, ⟨Rect.unit (s := S1x256x4096) ![0, 0, 1024] S1x256x1024.size inb_S1x256x4096_S1x256x1024_0_0_1024, p1⟩, ⟨Rect.unit (s := S1x256x4096) ![0, 0, 0] S1x256x1024.size inb_S1x256x4096_S1x256x1024_0_0_0, p0⟩] (ix3 0 r (⟨1024 * 1 + c.val, by omega⟩ : Fin 4096) : S1x256x4096.Idx) = p1 (ix3 (0 : Fin 1) r c) := by
  have hc := c.isLt
  refine (View.canon_cons_of_not_mem _ _ ?_).trans ?_
  · show _ ∉ (Rect.unit (s := S1x256x4096) ![0, 0, 3072] S1x256x1024.size inb_S1x256x4096_S1x256x1024_0_0_3072).set
    rw [Rect.mem_set_unit]
    intro q
    have q1 : 3072 ≤ 1024 * 1 + c.val := (q 2).1
    omega
  refine (View.canon_cons_of_not_mem _ _ ?_).trans ?_
  · show _ ∉ (Rect.unit (s := S1x256x4096) ![0, 0, 2048] S1x256x1024.size inb_S1x256x4096_S1x256x1024_0_0_2048).set
    rw [Rect.mem_set_unit]
    intro q
    have q1 : 2048 ≤ 1024 * 1 + c.val := (q 2).1
    omega
  have e : (ix3 0 r (⟨1024 * 1 + c.val, by omega⟩ : Fin 4096) : S1x256x4096.Idx) = (Rect.unit (s := S1x256x4096) ![0, 0, 1024] S1x256x1024.size inb_S1x256x4096_S1x256x1024_0_0_1024).emb (ix3 (0 : Fin 1) r c) := by
    funext a; apply Fin.ext
    match a with
    | ⟨0, _⟩ => rfl
    | ⟨1, _⟩ => show r.val = 0 + 1 * r.val; omega
    | ⟨2, _⟩ => show 1024 * 1 + c.val = 1024 + 1 * c.val; omega
  rw [e, View.canon_cons_emb]

theorem whole6_2 (p0 p1 p2 p3 : S1x256x1024.Idx → Elt Ideal .f32) (r : Fin 256) (c : Fin 1024) :
    View.canon (Val := Elt Ideal) (e := .f32) [⟨Rect.unit (s := S1x256x4096) ![0, 0, 3072] S1x256x1024.size inb_S1x256x4096_S1x256x1024_0_0_3072, p3⟩, ⟨Rect.unit (s := S1x256x4096) ![0, 0, 2048] S1x256x1024.size inb_S1x256x4096_S1x256x1024_0_0_2048, p2⟩, ⟨Rect.unit (s := S1x256x4096) ![0, 0, 1024] S1x256x1024.size inb_S1x256x4096_S1x256x1024_0_0_1024, p1⟩, ⟨Rect.unit (s := S1x256x4096) ![0, 0, 0] S1x256x1024.size inb_S1x256x4096_S1x256x1024_0_0_0, p0⟩] (ix3 0 r (⟨1024 * 2 + c.val, by omega⟩ : Fin 4096) : S1x256x4096.Idx) = p2 (ix3 (0 : Fin 1) r c) := by
  have hc := c.isLt
  refine (View.canon_cons_of_not_mem _ _ ?_).trans ?_
  · show _ ∉ (Rect.unit (s := S1x256x4096) ![0, 0, 3072] S1x256x1024.size inb_S1x256x4096_S1x256x1024_0_0_3072).set
    rw [Rect.mem_set_unit]
    intro q
    have q1 : 3072 ≤ 1024 * 2 + c.val := (q 2).1
    omega
  have e : (ix3 0 r (⟨1024 * 2 + c.val, by omega⟩ : Fin 4096) : S1x256x4096.Idx) = (Rect.unit (s := S1x256x4096) ![0, 0, 2048] S1x256x1024.size inb_S1x256x4096_S1x256x1024_0_0_2048).emb (ix3 (0 : Fin 1) r c) := by
    funext a; apply Fin.ext
    match a with
    | ⟨0, _⟩ => rfl
    | ⟨1, _⟩ => show r.val = 0 + 1 * r.val; omega
    | ⟨2, _⟩ => show 1024 * 2 + c.val = 2048 + 1 * c.val; omega
  rw [e, View.canon_cons_emb]

theorem whole6_3 (p0 p1 p2 p3 : S1x256x1024.Idx → Elt Ideal .f32) (r : Fin 256) (c : Fin 1024) :
    View.canon (Val := Elt Ideal) (e := .f32) [⟨Rect.unit (s := S1x256x4096) ![0, 0, 3072] S1x256x1024.size inb_S1x256x4096_S1x256x1024_0_0_3072, p3⟩, ⟨Rect.unit (s := S1x256x4096) ![0, 0, 2048] S1x256x1024.size inb_S1x256x4096_S1x256x1024_0_0_2048, p2⟩, ⟨Rect.unit (s := S1x256x4096) ![0, 0, 1024] S1x256x1024.size inb_S1x256x4096_S1x256x1024_0_0_1024, p1⟩, ⟨Rect.unit (s := S1x256x4096) ![0, 0, 0] S1x256x1024.size inb_S1x256x4096_S1x256x1024_0_0_0, p0⟩] (ix3 0 r (⟨1024 * 3 + c.val, by omega⟩ : Fin 4096) : S1x256x4096.Idx) = p3 (ix3 (0 : Fin 1) r c) := by
  have hc := c.isLt
  have e : (ix3 0 r (⟨1024 * 3 + c.val, by omega⟩ : Fin 4096) : S1x256x4096.Idx) = (Rect.unit (s := S1x256x4096) ![0, 0, 3072] S1x256x1024.size inb_S1x256x4096_S1x256x1024_0_0_3072).emb (ix3 (0 : Fin 1) r c) := by
    funext a; apply Fin.ext
    match a with
    | ⟨0, _⟩ => rfl
    | ⟨1, _⟩ => show r.val = 0 + 1 * r.val; omega
    | ⟨2, _⟩ => show 1024 * 3 + c.val = 3072 + 1 * c.val; omega
  rw [e, View.canon_cons_emb]

theorem whole7_0 (p0 p1 p2 p3 : S256x1024.Idx → Elt Ideal .bf16) (r : Fin 256) (c : Fin 1024) :
    View.canon (Val := Elt Ideal) (e := .bf16) [⟨Rect.unit (s := S256x4096) ![0, 3072] S256x1024.size inb_S256x4096_S256x1024_0_3072, p3⟩, ⟨Rect.unit (s := S256x4096) ![0, 2048] S256x1024.size inb_S256x4096_S256x1024_0_2048, p2⟩, ⟨Rect.unit (s := S256x4096) ![0, 1024] S256x1024.size inb_S256x4096_S256x1024_0_1024, p1⟩, ⟨Rect.unit (s := S256x4096) ![0, 0] S256x1024.size inb_S256x4096_S256x1024_0_0, p0⟩] (ix2 r (⟨1024 * 0 + c.val, by omega⟩ : Fin 4096) : S256x4096.Idx) = p0 (ix2 r c) := by
  have hc := c.isLt
  refine (View.canon_cons_of_not_mem _ _ ?_).trans ?_
  · show _ ∉ (Rect.unit (s := S256x4096) ![0, 3072] S256x1024.size inb_S256x4096_S256x1024_0_3072).set
    rw [Rect.mem_set_unit]
    intro q
    have q1 : 3072 ≤ 1024 * 0 + c.val := (q 1).1
    omega
  refine (View.canon_cons_of_not_mem _ _ ?_).trans ?_
  · show _ ∉ (Rect.unit (s := S256x4096) ![0, 2048] S256x1024.size inb_S256x4096_S256x1024_0_2048).set
    rw [Rect.mem_set_unit]
    intro q
    have q1 : 2048 ≤ 1024 * 0 + c.val := (q 1).1
    omega
  refine (View.canon_cons_of_not_mem _ _ ?_).trans ?_
  · show _ ∉ (Rect.unit (s := S256x4096) ![0, 1024] S256x1024.size inb_S256x4096_S256x1024_0_1024).set
    rw [Rect.mem_set_unit]
    intro q
    have q1 : 1024 ≤ 1024 * 0 + c.val := (q 1).1
    omega
  have e : (ix2 r (⟨1024 * 0 + c.val, by omega⟩ : Fin 4096) : S256x4096.Idx) = (Rect.unit (s := S256x4096) ![0, 0] S256x1024.size inb_S256x4096_S256x1024_0_0).emb (ix2 r c) := by
    funext a; apply Fin.ext
    match a with
    | ⟨0, _⟩ => show r.val = 0 + 1 * r.val; omega
    | ⟨1, _⟩ => show 1024 * 0 + c.val = 0 + 1 * c.val; omega
  rw [e, View.canon_cons_emb]

theorem whole7_1 (p0 p1 p2 p3 : S256x1024.Idx → Elt Ideal .bf16) (r : Fin 256) (c : Fin 1024) :
    View.canon (Val := Elt Ideal) (e := .bf16) [⟨Rect.unit (s := S256x4096) ![0, 3072] S256x1024.size inb_S256x4096_S256x1024_0_3072, p3⟩, ⟨Rect.unit (s := S256x4096) ![0, 2048] S256x1024.size inb_S256x4096_S256x1024_0_2048, p2⟩, ⟨Rect.unit (s := S256x4096) ![0, 1024] S256x1024.size inb_S256x4096_S256x1024_0_1024, p1⟩, ⟨Rect.unit (s := S256x4096) ![0, 0] S256x1024.size inb_S256x4096_S256x1024_0_0, p0⟩] (ix2 r (⟨1024 * 1 + c.val, by omega⟩ : Fin 4096) : S256x4096.Idx) = p1 (ix2 r c) := by
  have hc := c.isLt
  refine (View.canon_cons_of_not_mem _ _ ?_).trans ?_
  · show _ ∉ (Rect.unit (s := S256x4096) ![0, 3072] S256x1024.size inb_S256x4096_S256x1024_0_3072).set
    rw [Rect.mem_set_unit]
    intro q
    have q1 : 3072 ≤ 1024 * 1 + c.val := (q 1).1
    omega
  refine (View.canon_cons_of_not_mem _ _ ?_).trans ?_
  · show _ ∉ (Rect.unit (s := S256x4096) ![0, 2048] S256x1024.size inb_S256x4096_S256x1024_0_2048).set
    rw [Rect.mem_set_unit]
    intro q
    have q1 : 2048 ≤ 1024 * 1 + c.val := (q 1).1
    omega
  have e : (ix2 r (⟨1024 * 1 + c.val, by omega⟩ : Fin 4096) : S256x4096.Idx) = (Rect.unit (s := S256x4096) ![0, 1024] S256x1024.size inb_S256x4096_S256x1024_0_1024).emb (ix2 r c) := by
    funext a; apply Fin.ext
    match a with
    | ⟨0, _⟩ => show r.val = 0 + 1 * r.val; omega
    | ⟨1, _⟩ => show 1024 * 1 + c.val = 1024 + 1 * c.val; omega
  rw [e, View.canon_cons_emb]

theorem whole7_2 (p0 p1 p2 p3 : S256x1024.Idx → Elt Ideal .bf16) (r : Fin 256) (c : Fin 1024) :
    View.canon (Val := Elt Ideal) (e := .bf16) [⟨Rect.unit (s := S256x4096) ![0, 3072] S256x1024.size inb_S256x4096_S256x1024_0_3072, p3⟩, ⟨Rect.unit (s := S256x4096) ![0, 2048] S256x1024.size inb_S256x4096_S256x1024_0_2048, p2⟩, ⟨Rect.unit (s := S256x4096) ![0, 1024] S256x1024.size inb_S256x4096_S256x1024_0_1024, p1⟩, ⟨Rect.unit (s := S256x4096) ![0, 0] S256x1024.size inb_S256x4096_S256x1024_0_0, p0⟩] (ix2 r (⟨1024 * 2 + c.val, by omega⟩ : Fin 4096) : S256x4096.Idx) = p2 (ix2 r c) := by
  have hc := c.isLt
  refine (View.canon_cons_of_not_mem _ _ ?_).trans ?_
  · show _ ∉ (Rect.unit (s := S256x4096) ![0, 3072] S256x1024.size inb_S256x4096_S256x1024_0_3072).set
    rw [Rect.mem_set_unit]
    intro q
    have q1 : 3072 ≤ 1024 * 2 + c.val := (q 1).1
    omega
  have e : (ix2 r (⟨1024 * 2 + c.val, by omega⟩ : Fin 4096) : S256x4096.Idx) = (Rect.unit (s := S256x4096) ![0, 2048] S256x1024.size inb_S256x4096_S256x1024_0_2048).emb (ix2 r c) := by
    funext a; apply Fin.ext
    match a with
    | ⟨0, _⟩ => show r.val = 0 + 1 * r.val; omega
    | ⟨1, _⟩ => show 1024 * 2 + c.val = 2048 + 1 * c.val; omega
  rw [e, View.canon_cons_emb]

theorem whole7_3 (p0 p1 p2 p3 : S256x1024.Idx → Elt Ideal .bf16) (r : Fin 256) (c : Fin 1024) :
    View.canon (Val := Elt Ideal) (e := .bf16) [⟨Rect.unit (s := S256x4096) ![0, 3072] S256x1024.size inb_S256x4096_S256x1024_0_3072, p3⟩, ⟨Rect.unit (s := S256x4096) ![0, 2048] S256x1024.size inb_S256x4096_S256x1024_0_2048, p2⟩, ⟨Rect.unit (s := S256x4096) ![0, 1024] S256x1024.size inb_S256x4096_S256x1024_0_1024, p1⟩, ⟨Rect.unit (s := S256x4096) ![0, 0] S256x1024.size inb_S256x4096_S256x1024_0_0, p0⟩] (ix2 r (⟨1024 * 3 + c.val, by omega⟩ : Fin 4096) : S256x4096.Idx) = p3 (ix2 r c) := by
  have hc := c.isLt
  have e : (ix2 r (⟨1024 * 3 + c.val, by omega⟩ : Fin 4096) : S256x4096.Idx) = (Rect.unit (s := S256x4096) ![0, 3072] S256x1024.size inb_S256x4096_S256x1024_0_3072).emb (ix2 r c) := by
    funext a; apply Fin.ext
    match a with
    | ⟨0, _⟩ => show r.val = 0 + 1 * r.val; omega
    | ⟨1, _⟩ => show 1024 * 3 + c.val = 3072 + 1 * c.val; omega
  rw [e, View.canon_cons_emb]

/-! ## The outputs -/

variable (c : Dev nD) (i : grid0.Coords) (arg2 : Memref sig .tc .vmem S1x256x4096 .f32) (harg2 : arg2.IsWhole) (arg3 : Memref sig .tc .vmem S1x16x4096 .f32) (harg3 : arg3.IsWhole) (arg4 : Memref sig .tc .vmem S1x4096 .f32) (harg4 : arg4.IsWhole) (arg5 : Memref sig .tc .vmem S1x4x1024x1024 .bf16) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x256x4096 .f32) (harg8 : arg8.IsWhole) (arg9 : Memref sig .tc .vmem S256x4096 .bf16) (harg9 : arg9.IsWhole) (arg10 : Memref sig .tc .vmem S256x128 .f32) (harg10 : arg10.IsWhole) (arg11 : Memref sig .tc .vmem S280x4096 .f32) (harg11 : arg11.IsWhole) (arg12 : Memref sig .tc .vmem S280x1024 .f32) (harg12 : arg12.IsWhole) (arg13 : Memref sig .tc .vmem S280x1024 .f32) (harg13 : arg13.IsWhole)
  (x0 : Vec Ideal S1x256x4096 .f32) (x1 : Vec Ideal S1x16x4096 .f32) (x2 : Vec Ideal S1x4096 .f32) (x3 : Vec Ideal S1x4x1024x1024 .bf16) (x4 : Vec Ideal S1x4096 .f32) (x5 : Vec Ideal S1x4096 .f32)
variable (b : Fin 4) (h : FVec Ideal S4x4096x4096 .f32) (g : FVec Ideal S4096 .f32) (w : FVec Ideal S2x4x1024x1024 .f32) (s q : FVec Ideal S4096 .f32)
variable (hg : ∀ c, ∃ r : ℝ, g c = (r : EReal)) (H : Rows i b h g x2 x0 x1) (hw : ∀ (n : Fin 4) (k c : Fin 1024), x3 (ix4 0 n k c) = w (ix4 0 n k c))
  (hs : ∀ k : Fin 4096, x4 (ix2 0 k) = s (ix1 k)) (hq : ∀ k : Fin 4096, x5 (ix2 0 k) = q (ix1 k))

include H in
theorem rows_loaded : Rows i b h g (arg4.view.readAt (Elt Ideal) (Rect.unit (s := S1x4096) ![0, 0] S1x4096.size inb_S1x4096_S1x4096_0_0).toLoadRect (harg4.unread x2))
    (arg2.view.readAt (Elt Ideal) (Rect.unit (s := S1x256x4096) ![0, 0, 0] S1x256x4096.size inb_S1x256x4096_S1x256x4096_0_0_0).toLoadRect (harg2.unread x0))
    (arg3.view.readAt (Elt Ideal) (Rect.unit (s := S1x16x4096) ![0, 0, 0] S1x16x4096.size inb_S1x16x4096_S1x16x4096_0_0_0).toLoadRect (harg3.unread x1)) := by
  rw [load_full harg4, load_full harg2, load_full harg3]
  exact H

include hg H hw hs in
theorem loaded0 (r : Fin 256) (k : Fin 1024) : Y0 i arg2 harg2 arg3 harg3 arg4 harg4 arg5 harg5 arg6 harg6 arg11 x0 x1 x2 x3 x4 (ix2 r k) = result h g w s (ix3 b (tok i r) ⟨1024 * 0 + k.val, by omega⟩) := by
  refine group0_is (rows_loaded i arg2 harg2 arg3 harg3 arg4 harg4 x0 x1 x2 b h g H) hg arg11 _ _ w s (fun k c => ?_) (fun c => ?_) r k
  · refine (load harg5 x3 _ _ (ix4 0 0 k c) ?_).trans (hw 0 k c)
    funext a; apply Fin.ext
    match a with
    | ⟨0, _⟩ => rfl
    | ⟨1, _⟩ => rfl
    | ⟨2, _⟩ => show 0 + 1 * k.val = k.val; omega
    | ⟨3, _⟩ => show 0 + 1 * c.val = c.val; omega
  · refine (load harg6 x4 _ _ (ix2 0 ⟨1024 * 0 + c.val, by omega⟩) ?_).trans (hs _)
    funext a; apply Fin.ext
    match a with
    | ⟨0, _⟩ => rfl
    | ⟨1, _⟩ => show 0 + 1 * c.val = 1024 * 0 + c.val; omega

include hg H hw hs in
theorem loaded1 (r : Fin 256) (k : Fin 1024) : Y1 i arg2 harg2 arg3 harg3 arg4 harg4 arg5 harg5 arg6 harg6 arg11 arg12 x0 x1 x2 x3 x4 (ix2 r k) = result h g w s (ix3 b (tok i r) ⟨1024 * 1 + k.val, by omega⟩) := by
  refine group1_is (rows_loaded i arg2 harg2 arg3 harg3 arg4 harg4 x0 x1 x2 b h g H) hg arg11 arg12 _ _ w s (fun k c => ?_) (fun c => ?_) r k
  · refine (load harg5 x3 _ _ (ix4 0 1 k c) ?_).trans (hw 1 k c)
    funext a; apply Fin.ext
    match a with
    | ⟨0, _⟩ => rfl
    | ⟨1, _⟩ => rfl
    | ⟨2, _⟩ => show 0 + 1 * k.val = k.val; omega
    | ⟨3, _⟩ => show 0 + 1 * c.val = c.val; omega
  · refine (load harg6 x4 _ _ (ix2 0 ⟨1024 * 1 + c.val, by omega⟩) ?_).trans (hs _)
    funext a; apply Fin.ext
    match a with
    | ⟨0, _⟩ => rfl
    | ⟨1, _⟩ => show 1024 + 1 * c.val = 1024 * 1 + c.val; omega

include hg H hw hs in
theorem loaded2 (r : Fin 256) (k : Fin 1024) : Y2 i arg2 harg2 arg3 harg3 arg4 harg4 arg5 harg5 arg6 harg6 arg11 arg12 arg13 x0 x1 x2 x3 x4 (ix2 r k) = result h g w s (ix3 b (tok i r) ⟨1024 * 2 + k.val, by omega⟩) := by
  refine group2_is (rows_loaded i arg2 harg2 arg3 harg3 arg4 harg4 x0 x1 x2 b h g H) hg arg11 arg12 arg13 _ _ w s (fun k c => ?_) (fun c => ?_) r k
  · refine (load harg5 x3 _ _ (ix4 0 2 k c) ?_).trans (hw 2 k c)
    funext a; apply Fin.ext
    match a with
    | ⟨0, _⟩ => rfl
    | ⟨1, _⟩ => rfl
    | ⟨2, _⟩ => show 0 + 1 * k.val = k.val; omega
    | ⟨3, _⟩ => show 0 + 1 * c.val = c.val; omega
  · refine (load harg6 x4 _ _ (ix2 0 ⟨1024 * 2 + c.val, by omega⟩) ?_).trans (hs _)
    funext a; apply Fin.ext
    match a with
    | ⟨0, _⟩ => rfl
    | ⟨1, _⟩ => show 2048 + 1 * c.val = 1024 * 2 + c.val; omega

include hg H hw hs in
theorem loaded3 (r : Fin 256) (k : Fin 1024) : Y3 i arg2 harg2 arg3 harg3 arg4 harg4 arg5 harg5 arg6 harg6 arg11 arg12 arg13 x0 x1 x2 x3 x4 (ix2 r k) = result h g w s (ix3 b (tok i r) ⟨1024 * 3 + k.val, by omega⟩) := by
  refine group3_is (rows_loaded i arg2 harg2 arg3 harg3 arg4 harg4 x0 x1 x2 b h g H) hg arg11 arg12 arg13 _ _ w s (fun k c => ?_) (fun c => ?_) r k
  · refine (load harg5 x3 _ _ (ix4 0 3 k c) ?_).trans (hw 3 k c)
    funext a; apply Fin.ext
    match a with
    | ⟨0, _⟩ => rfl
    | ⟨1, _⟩ => rfl
    | ⟨2, _⟩ => show 0 + 1 * k.val = k.val; omega
    | ⟨3, _⟩ => show 0 + 1 * c.val = c.val; omega
  · refine (load harg6 x4 _ _ (ix2 0 ⟨1024 * 3 + c.val, by omega⟩) ?_).trans (hs _)
    funext a; apply Fin.ext
    match a with
    | ⟨0, _⟩ => rfl
    | ⟨1, _⟩ => show 3072 + 1 * c.val = 1024 * 3 + c.val; omega

theorem cast_row (y : FVec Ideal S256x1024 .f32) (r : Fin 256) (k : Fin 1024) : shapeCast S1x256x1024 y shapeCasts_S256x1024_S1x256x1024 (ix3 0 r k) = y (ix2 r k) := by
  pointwise

/-- The column, as a group and a column of the group. -/
theorem four (k : Fin 4096) : ∃ c : Fin 1024, k = ⟨1024 * 0 + c.val, by omega⟩ ∨ k = ⟨1024 * 1 + c.val, by omega⟩ ∨ k = ⟨1024 * 2 + c.val, by omega⟩ ∨ k = ⟨1024 * 3 + c.val, by omega⟩ := by
  have hk := k.isLt
  refine ⟨⟨k.val % 1024, Nat.mod_lt _ (by omega)⟩, ?_⟩
  simp only [Fin.ext_iff]
  omega

include hg H hw hs in
theorem left6 (r : Fin 256) (k : Fin 4096) : out0_A_6 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 (ix3 0 r k) = result h g w s (ix3 b (tok i r) k) := by
  unfold out0_A_6
  rw [View.read_writes_junk_eq_canon, pieces6]
  obtain ⟨n, rfl | rfl | rfl | rfl⟩ := four k
  · rw [whole6_0, cast_row]; exact loaded0 i arg2 harg2 arg3 harg3 arg4 harg4 arg5 harg5 arg6 harg6 arg11 x0 x1 x2 x3 x4 b h g w s hg H hw hs r n
  · rw [whole6_1, cast_row]; exact loaded1 i arg2 harg2 arg3 harg3 arg4 harg4 arg5 harg5 arg6 harg6 arg11 arg12 x0 x1 x2 x3 x4 b h g w s hg H hw hs r n
  · rw [whole6_2, cast_row]; exact loaded2 i arg2 harg2 arg3 harg3 arg4 harg4 arg5 harg5 arg6 harg6 arg11 arg12 arg13 x0 x1 x2 x3 x4 b h g w s hg H hw hs r n
  · rw [whole6_3, cast_row]; exact loaded3 i arg2 harg2 arg3 harg3 arg4 harg4 arg5 harg5 arg6 harg6 arg11 arg12 arg13 x0 x1 x2 x3 x4 b h g w s hg H hw hs r n

include hg H hw hs hq in
theorem left7 (r : Fin 256) (k : Fin 4096) : out0_A_7 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 (ix2 r k) = result h g w s (ix3 b (tok i r) k) * q (ix1 k) := by
  unfold out0_A_7
  rw [View.read_writes_junk_eq_canon, pieces7]
  obtain ⟨n, rfl | rfl | rfl | rfl⟩ := four k
  · rw [whole7_0, gained_apply, loaded0 i arg2 harg2 arg3 harg3 arg4 harg4 arg5 harg5 arg6 harg6 arg11 x0 x1 x2 x3 x4 b h g w s hg H hw hs r n]
    refine congrArg (_ * ·) ((load harg7 x5 _ _ (ix2 0 ⟨1024 * 0 + n.val, by omega⟩) ?_).trans (hq _))
    funext a; apply Fin.ext
    match a with
    | ⟨0, _⟩ => rfl
    | ⟨1, _⟩ => show 0 + 1 * n.val = 1024 * 0 + n.val; omega
  · rw [whole7_1, gained_apply, loaded1 i arg2 harg2 arg3 harg3 arg4 harg4 arg5 harg5 arg6 harg6 arg11 arg12 x0 x1 x2 x3 x4 b h g w s hg H hw hs r n]
    refine congrArg (_ * ·) ((load harg7 x5 _ _ (ix2 0 ⟨1024 * 1 + n.val, by omega⟩) ?_).trans (hq _))
    funext a; apply Fin.ext
    match a with
    | ⟨0, _⟩ => rfl
    | ⟨1, _⟩ => show 1024 + 1 * n.val = 1024 * 1 + n.val; omega
  · rw [whole7_2, gained_apply, loaded2 i arg2 harg2 arg3 harg3 arg4 harg4 arg5 harg5 arg6 harg6 arg11 arg12 arg13 x0 x1 x2 x3 x4 b h g w s hg H hw hs r n]
    refine congrArg (_ * ·) ((load harg7 x5 _ _ (ix2 0 ⟨1024 * 2 + n.val, by omega⟩) ?_).trans (hq _))
    funext a; apply Fin.ext
    match a with
    | ⟨0, _⟩ => rfl
    | ⟨1, _⟩ => show 2048 + 1 * n.val = 1024 * 2 + n.val; omega
  · rw [whole7_3, gained_apply, loaded3 i arg2 harg2 arg3 harg3 arg4 harg4 arg5 harg5 arg6 harg6 arg11 arg12 arg13 x0 x1 x2 x3 x4 b h g w s hg H hw hs r n]
    refine congrArg (_ * ·) ((load harg7 x5 _ _ (ix2 0 ⟨1024 * 3 + n.val, by omega⟩) ?_).trans (hq _))
    funext a; apply Fin.ext
    match a with
    | ⟨0, _⟩ => rfl
    | ⟨1, _⟩ => show 3072 + 1 * n.val = 1024 * 3 + n.val; omega

include hg H hw hs in
theorem left8 (r : Fin 256) (l : Fin 128) : out0_A_8 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 (ix2 r l) = ∑ k : Fin 4096, result h g w s (ix3 b (tok i r) k) * result h g w s (ix3 b (tok i r) k) := by
  unfold out0_A_8
  rw [View.read_writes_junk_eq_canon, pieces8]
  have e : (ix2 r l : S256x128.Idx) = (Rect.unit (s := S256x128) ![0, 0] S256x128.size inb_S256x128_S256x128_0_0).emb (ix2 r l) := by
    funext a; apply Fin.ext
    match a with
    | ⟨0, _⟩ => show r.val = 0 + 1 * r.val; omega
    | ⟨1, _⟩ => show l.val = 0 + 1 * l.val; omega
  rw [e, View.canon_cons_emb, squares_apply]
  simp only [loaded0 i arg2 harg2 arg3 harg3 arg4 harg4 arg5 harg5 arg6 harg6 arg11 x0 x1 x2 x3 x4 b h g w s hg H hw hs, loaded1 i arg2 harg2 arg3 harg3 arg4 harg4 arg5 harg5 arg6 harg6 arg11 arg12 x0 x1 x2 x3 x4 b h g w s hg H hw hs, loaded2 i arg2 harg2 arg3 harg3 arg4 harg4 arg5 harg5 arg6 harg6 arg11 arg12 arg13 x0 x1 x2 x3 x4 b h g w s hg H hw hs, loaded3 i arg2 harg2 arg3 harg3 arg4 harg4 arg5 harg5 arg6 harg6 arg11 arg12 arg13 x0 x1 x2 x3 x4 b h g w s hg H hw hs]
  rw [sum_blocks 4 1024 4096 rfl (fun k => result h g w s (ix3 b (tok i r) k) * result h g w s (ix3 b (tok i r) k)), Fin.sum_univ_four]
  rfl

end Cert.PoolIdeal.Run

end
-- ==== Proof.PoolRun.lean ====
/-
  THE POOLING MIXER: the run, block by block.
-/
module

public import proofs.«01_k».proof.Proof.PoolPoint
public import proofs.«01_k».proof.Proof.Gen.PoolIdeal.Value
public import Idealize.ShloMosaic.Lib.Claim

@[expose] public section

set_option maxRecDepth 16384

noncomputable section

namespace Cert.PoolIdeal.Run

open Idealize.ShloMosaic Idealize.ShloMosaic.TcCoe Idealize.SL.Sem
open Cert.PoolIdeal Cert.PoolIdeal.Gen Cert.PoolIdeal.Value Cert.Rows Cert.Pool

open Cert.PoolRefIdeal.Run (result gainedRows squareSums gainedRows_apply squareSums_apply)

/-- A rank-2 index is the pair of its coordinates. -/
theorem pair {a b : ℕ} (i : (Shape.mk 2 ![a, b]).Idx) : ∃ (r : Fin a) (c : Fin b), i = ix2 r c := ⟨i 0, i 1, (ix2_eta i).symm⟩
theorem triple {a b c : ℕ} (i : (Shape.mk 3 ![a, b, c]).Idx) : ∃ (r : Fin a) (k : Fin b) (l : Fin c), i = ix3 r k l := ⟨i 0, i 1, i 2, (ix3_eta i).symm⟩

variable (m : (ℓ : Loc nD τ sig) → Buf (Elt Ideal) ℓ)

/-- The weights, cast. -/
def narrow (w : FVec Ideal S2x4x1024x1024 .f32) : FVec Ideal S2x4x1024x1024 .bf16 := truncf .bf16 w bitsLt_bf16_f32
/-- A vector as a row. -/
def row (g : FVec Ideal S4096 .f32) : FVec Ideal S1x4096 .f32 := shapeCast S1x4096 g shapeCasts_S4096_S1x4096

theorem row_apply (g : FVec Ideal S4096 .f32) (k : Fin 4096) : row g (ix2 0 k) = g (ix1 k) := by
  unfold row
  pointwise

theorem V_v0 (c : Dev nD) : V m c main_v0 = narrow (m ((c : Thread nD τ).loc main_arg2)) := by
  unfold_abbrev_sides
  after_results
  rfl
theorem V_v1 (c : Dev nD) : V m c main_v1 = row (m ((c : Thread nD τ).loc main_arg1)) := by
  unfold_abbrev_sides
  after_results
  rfl
theorem V_v2 (c : Dev nD) : V m c main_v2 = row (m ((c : Thread nD τ).loc main_arg3)) := by
  unfold_abbrev_sides
  after_results
  rfl
theorem V_v3 (c : Dev nD) : V m c main_v3 = row (m ((c : Thread nD τ).loc main_arg4)) := by
  unfold_abbrev_sides
  after_results
  rfl
theorem V_arg0 (c : Dev nD) : V m c main_arg0 = m ((c : Thread nD τ).loc main_arg0) := V_main_arg0 m c

/-! ## The windows -/

theorem points (t : Fin cfg0.N) : t.val < 64 := t.isLt.trans_eq N_0

theorem coord (t : Fin cfg0.N) : (grid0.coords t 1).val = t.val % 16 :=
  (by decide +kernel : ∀ t : Fin grid0.N, (grid0.coords t 1).val = t.val % 16) t

theorem index0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)

theorem block0 (c : Dev nD) (t : Fin cfg0.N) (r : Fin 1) (k : Fin 256) (l : Fin 4096) : iblk m c 0 t (ix3 r k l)
    = V m c main_arg0 (ix3 ⟨1 * (t.val / 16) + r.val, by have := points t; omega⟩ ⟨256 * (t.val % 16) + k.val, by have := points t; omega⟩ ⟨l.val, by have := points t; omega⟩) := by
  obtain ⟨e0, e1, e2⟩ := index0 t
  show V m c main_arg0 (((cfg0.win 0).blk t).view.emb (ix3 r k l)) = _
  congr 1
  funext a; apply Fin.ext
  match a with
  | ⟨0, _⟩ => show win0_0.index t (0 : Fin 3) * 1 + 1 * r.val = 1 * (t.val / 16) + r.val; omega
  | ⟨1, _⟩ => show win0_0.index t (1 : Fin 3) * 256 + 1 * k.val = 256 * (t.val % 16) + k.val; omega
  | ⟨2, _⟩ => show win0_0.index t (2 : Fin 3) * 4096 + 1 * l.val = l.val; omega

theorem index1 : ∀ t : Fin cfg0.N, win0_1.index t (0 : Fin 3) = t.val / 16 ∧ win0_1.index t (1 : Fin 3) = t.val % 16 * 16 - 1 ∧ win0_1.index t (2 : Fin 3) = 0 :=
  (by decide +kernel : ∀ t : Fin grid0.N, _)

theorem block1 (c : Dev nD) (t : Fin cfg0.N) (r : Fin 1) (k : Fin 16) (l : Fin 4096) : iblk m c 1 t (ix3 r k l)
    = V m c main_arg0 (ix3 ⟨1 * (t.val / 16) + r.val, by have := points t; omega⟩ ⟨16 * (t.val % 16 * 16 - 1) + k.val, by have := points t; omega⟩ ⟨l.val, by have := points t; omega⟩) := by
  obtain ⟨e0, e1, e2⟩ := index1 t
  show V m c main_arg0 (((cfg0.win 1).blk t).view.emb (ix3 r k l)) = _
  congr 1
  funext a; apply Fin.ext
  match a with
  | ⟨0, _⟩ => show win0_1.index t (0 : Fin 3) * 1 + 1 * r.val = 1 * (t.val / 16) + r.val; omega
  | ⟨1, _⟩ => show win0_1.index t (1 : Fin 3) * 16 + 1 * k.val = 16 * (t.val % 16 * 16 - 1) + k.val; omega
  | ⟨2, _⟩ => show win0_1.index t (2 : Fin 3) * 4096 + 1 * l.val = l.val; omega

theorem index2 : ∀ t : Fin cfg0.N, win0_2.index t (0 : Fin 2) = 0 ∧ win0_2.index t (1 : Fin 2) = 0 :=
  (by decide +kernel : ∀ t : Fin grid0.N, _)

theorem block2 (c : Dev nD) (t : Fin cfg0.N) (r : Fin 1) (k : Fin 4096) : iblk m c 2 t (ix2 r k)
    = V m c main_v1 (ix2 ⟨r.val, by have := points t; omega⟩ ⟨k.val, by have := points t; omega⟩) := by
  obtain ⟨e0, e1⟩ := index2 t
  show V m c main_v1 (((cfg0.win 2).blk t).view.emb (ix2 r k)) = _
  congr 1
  funext a; apply Fin.ext
  match a with
  | ⟨0, _⟩ => show win0_2.index t (0 : Fin 2) * 1 + 1 * r.val = r.val; omega
  | ⟨1, _⟩ => show win0_2.index t (1 : Fin 2) * 4096 + 1 * k.val = k.val; omega

theorem index3 : ∀ t : Fin cfg0.N, win0_3.index t (0 : Fin 4) = 0 ∧ win0_3.index t (1 : Fin 4) = 0 ∧ win0_3.index t (2 : Fin 4) = 0 ∧ win0_3.index t (3 : Fin 4) = 0 :=
  (by decide +kernel : ∀ t : Fin grid0.N, _)

theorem block3 (c : Dev nD) (t : Fin cfg0.N) (r : Fin 1) (k : Fin 4) (l : Fin 1024) (n : Fin 1024) : iblk m c 3 t (ix4 r k l n)
    = V m c main_v0 (ix4 ⟨r.val, by have := points t; omega⟩ ⟨k.val, by have := points t; omega⟩ ⟨l.val, by have := points t; omega⟩ ⟨n.val, by have := points t; omega⟩) := by
  obtain ⟨e0, e1, e2, e3⟩ := index3 t
  show V m c main_v0 (((cfg0.win 3).blk t).view.emb (ix4 r k l n)) = _
  congr 1
  funext a; apply Fin.ext
  match a with
  | ⟨0, _⟩ => show win0_3.index t (0 : Fin 4) * 1 + 1 * r.val = r.val; omega
  | ⟨1, _⟩ => show win0_3.index t (1 : Fin 4) * 4 + 1 * k.val = k.val; omega
  | ⟨2, _⟩ => show win0_3.index t (2 : Fin 4) * 1024 + 1 * l.val = l.val; omega
  | ⟨3, _⟩ => show win0_3.index t (3 : Fin 4) * 1024 + 1 * n.val = n.val; omega

theorem index4 : ∀ t : Fin cfg0.N, win0_4.index t (0 : Fin 2) = 0 ∧ win0_4.index t (1 : Fin 2) = 0 :=
  (by decide +kernel : ∀ t : Fin grid0.N, _)

theorem block4 (c : Dev nD) (t : Fin cfg0.N) (r : Fin 1) (k : Fin 4096) : iblk m c 4 t (ix2 r k)
    = V m c main_v2 (ix2 ⟨r.val, by have := points t; omega⟩ ⟨k.val, by have := points t; omega⟩) := by
  obtain ⟨e0, e1⟩ := index4 t
  show V m c main_v2 (((cfg0.win 4).blk t).view.emb (ix2 r k)) = _
  congr 1
  funext a; apply Fin.ext
  match a with
  | ⟨0, _⟩ => show win0_4.index t (0 : Fin 2) * 1 + 1 * r.val = r.val; omega
  | ⟨1, _⟩ => show win0_4.index t (1 : Fin 2) * 4096 + 1 * k.val = k.val; omega

theorem index5 : ∀ t : Fin cfg0.N, win0_5.index t (0 : Fin 2) = 0 ∧ win0_5.index t (1 : Fin 2) = 0 :=
  (by decide +kernel : ∀ t : Fin grid0.N, _)

theorem block5 (c : Dev nD) (t : Fin cfg0.N) (r : Fin 1) (k : Fin 4096) : iblk m c 5 t (ix2 r k)
    = V m c main_v3 (ix2 ⟨r.val, by have := points t; omega⟩ ⟨k.val, by have := points t; omega⟩) := by
  obtain ⟨e0, e1⟩ := index5 t
  show V m c main_v3 (((cfg0.win 5).blk t).view.emb (ix2 r k)) = _
  congr 1
  funext a; apply Fin.ext
  match a with
  | ⟨0, _⟩ => show win0_5.index t (0 : Fin 2) * 1 + 1 * r.val = r.val; omega
  | ⟨1, _⟩ => show win0_5.index t (1 : Fin 2) * 4096 + 1 * k.val = k.val; omega

theorem index6 : ∀ t : Fin cfg0.N, win0_6.index t (0 : Fin 3) = t.val / 16 ∧ win0_6.index t (1 : Fin 3) = t.val % 16 ∧ win0_6.index t (2 : Fin 3) = 0 :=
  (by decide +kernel : ∀ t : Fin grid0.N, _)

theorem emb6 (t : Fin cfg0.N) (r : Fin 1) (k : Fin 256) (l : Fin 4096) : ((cfg0.win 6).blk t).view.emb (ix3 r k l)
    = ix3 ⟨1 * (t.val / 16) + r.val, by have := points t; omega⟩ ⟨256 * (t.val % 16) + k.val, by have := points t; omega⟩ ⟨l.val, by have := points t; omega⟩ := by
  obtain ⟨e0, e1, e2⟩ := index6 t
  funext a; apply Fin.ext
  match a with
  | ⟨0, _⟩ => show win0_6.index t (0 : Fin 3) * 1 + 1 * r.val = 1 * (t.val / 16) + r.val; omega
  | ⟨1, _⟩ => show win0_6.index t (1 : Fin 3) * 256 + 1 * k.val = 256 * (t.val % 16) + k.val; omega
  | ⟨2, _⟩ => show win0_6.index t (2 : Fin 3) * 4096 + 1 * l.val = l.val; omega

theorem index7 : ∀ t : Fin cfg0.N, win0_7.index t (0 : Fin 2) = t.val ∧ win0_7.index t (1 : Fin 2) = 0 :=
  (by decide +kernel : ∀ t : Fin grid0.N, _)

theorem emb7 (t : Fin cfg0.N) (r : Fin 256) (k : Fin 4096) : ((cfg0.win 7).blk t).view.emb (ix2 r k)
    = ix2 ⟨256 * (t.val) + r.val, by have := points t; omega⟩ ⟨k.val, by have := points t; omega⟩ := by
  obtain ⟨e0, e1⟩ := index7 t
  funext a; apply Fin.ext
  match a with
  | ⟨0, _⟩ => show win0_7.index t (0 : Fin 2) * 256 + 1 * r.val = 256 * (t.val) + r.val; omega
  | ⟨1, _⟩ => show win0_7.index t (1 : Fin 2) * 4096 + 1 * k.val = k.val; omega

theorem index8 : ∀ t : Fin cfg0.N, win0_8.index t (0 : Fin 2) = t.val ∧ win0_8.index t (1 : Fin 2) = 0 :=
  (by decide +kernel : ∀ t : Fin grid0.N, _)

theorem emb8 (t : Fin cfg0.N) (r : Fin 256) (k : Fin 128) : ((cfg0.win 8).blk t).view.emb (ix2 r k)
    = ix2 ⟨256 * (t.val) + r.val, by have := points t; omega⟩ ⟨k.val, by have := points t; omega⟩ := by
  obtain ⟨e0, e1⟩ := index8 t
  funext a; apply Fin.ext
  match a with
  | ⟨0, _⟩ => show win0_8.index t (0 : Fin 2) * 256 + 1 * r.val = 256 * (t.val) + r.val; omega
  | ⟨1, _⟩ => show win0_8.index t (1 : Fin 2) * 128 + 1 * k.val = k.val; omega

variable (c : Dev nD) (t : Fin cfg0.N)

/-- The batch of a point. -/
def batch : Fin 4 := ⟨t.val / 16, by have := points t; omega⟩

theorem batch_eq : (⟨1 * (t.val / 16) + (0 : Fin 1).val, by have := points t; omega⟩ : Fin 4) = batch t := Fin.ext (by simp [batch])

variable (h : FVec Ideal S4x4096x4096 .f32) (g : FVec Ideal S4096 .f32) (w : FVec Ideal S2x4x1024x1024 .f32) (s q : FVec Ideal S4096 .f32)
variable (eh : m ((c : Thread nD τ).loc main_arg0) = h) (eg : m ((c : Thread nD τ).loc main_arg1) = g) (ew : m ((c : Thread nD τ).loc main_arg2) = w)
  (es : m ((c : Thread nD τ).loc main_arg3) = s) (eq : m ((c : Thread nD τ).loc main_arg4) = q)

include eh eg in
theorem rows_at : Rows (grid0.coords t) (batch t) h g (iblk m c 2 t) (iblk m c 0 t) (iblk m c 1 t) := by
  refine ⟨fun k => ?_, fun r k => ?_, fun hi r u k hu => ?_⟩
  · rw [block2, V_v1, eg]
    exact row_apply g k
  · rw [block0, V_arg0, eh]
    exact congrArg₂ (fun a b => h (ix3 a b k)) (batch_eq t) (Fin.ext (by simp only [tok, coord t]))
  · rw [coord t] at hi hu
    rw [block1, V_arg0, eh]
    exact congrArg₂ (fun a b => h (ix3 a b k)) (batch_eq t) (Fin.ext (by dsimp only; omega))

include ew in
theorem weights_at (n : Fin 4) (k e : Fin 1024) : iblk m c 3 t (ix4 0 n k e) = w (ix4 0 n k e) := by
  rw [block3, V_v0, ew]
  rfl

include es in
theorem scale_at (k : Fin 4096) : iblk m c 4 t (ix2 0 k) = s (ix1 k) := by
  rw [block4, V_v2, es]
  exact row_apply s k

include eq in
theorem next_at (k : Fin 4096) : iblk m c 5 t (ix2 0 k) = q (ix1 k) := by
  rw [block5, V_v3, eq]
  exact row_apply q k

variable (hg : ∀ c, ∃ r : ℝ, g c = (r : EReal))

include eh eg ew es hg in
theorem flushed6_eq : (dats m 0 c).flushed 6 t = ((cfg0.win 6).blk t).view.read (Elt Ideal) (result h g w s) := by
  rw [flushed6_A]
  funext j
  obtain ⟨a, r, k, rfl⟩ : ∃ (a : Fin 1) (r : Fin 256) (k : Fin 4096), j = ix3 a r k := triple j
  obtain rfl : a = 0 := Subsingleton.elim _ _
  refine (left6 c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (batch t) h g w s hg
    (rows_at m c t h g eh eg) (weights_at m c t w ew) (scale_at m c t s es) r k).trans ?_
  show _ = result h g w s (((cfg0.win 6).blk t).view.emb (ix3 0 r k))
  rw [emb6]
  exact congrArg₂ (fun a b => result h g w s (ix3 a b k)) (batch_eq t).symm (Fin.ext (by simp only [tok, coord t]))

include eh eg ew es eq hg in
theorem flushed7_eq : (dats m 0 c).flushed 7 t = ((cfg0.win 7).blk t).view.read (Elt Ideal) (gainedRows (result h g w s) q) := by
  have ht := points t
  rw [flushed7_A]
  funext j
  obtain ⟨r, k, rfl⟩ : ∃ (r : Fin 256) (k : Fin 4096), j = ix2 r k := pair j
  refine (left7 c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (batch t) h g w s q hg
    (rows_at m c t h g eh eg) (weights_at m c t w ew) (scale_at m c t s es) (next_at m c t q eq) r k).trans ?_
  show _ = gainedRows (result h g w s) q (((cfg0.win 7).blk t).view.emb (ix2 r k))
  rw [emb7, ← gainedRows_apply (result h g w s) q (batch t) (tok (grid0.coords t) r) k]
  exact congrArg (fun a => gainedRows (result h g w s) q (ix2 a k)) (Fin.ext (by simp only [tok, coord t, batch]; omega))

include eh eg ew es hg in
theorem flushed8_eq : (dats m 0 c).flushed 8 t = ((cfg0.win 8).blk t).view.read (Elt Ideal) (squareSums (result h g w s)) := by
  have ht := points t
  rw [flushed8_A]
  funext j
  obtain ⟨r, k, rfl⟩ : ∃ (r : Fin 256) (k : Fin 128), j = ix2 r k := pair j
  refine (left8 c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (batch t) h g w s hg
    (rows_at m c t h g eh eg) (weights_at m c t w ew) (scale_at m c t s es) r k).trans ?_
  show _ = squareSums (result h g w s) (((cfg0.win 8).blk t).view.emb (ix2 r k))
  rw [emb8, ← squareSums_apply (result h g w s) (batch t) (tok (grid0.coords t) r) k]
  exact congrArg (fun a => squareSums (result h g w s) (ix2 a k)) (Fin.ext (by simp only [tok, coord t, batch]; omega))

/-- Every place of the array is in the block of some point. -/
theorem covered6 (j : S4x4096x4096.Idx) : ∃ t : Fin cfg0.N, (cfg0.win 6).flush t = true ∧ j ∈ ((cfg0.win 6).blk t).view.set := by
  obtain ⟨b, r, e, rfl⟩ : ∃ (b : Fin 4) (r e : Fin 4096), j = ix3 b r e := triple j
  have hb := b.isLt
  have hr := r.isLt
  have he := e.isLt
  have hN : 16 * b.val + r.val / 256 < cfg0.N := by rw [show cfg0.N = _ from N_0]; omega
  have hm := ((cfg0.win 6).blk ⟨_, hN⟩).view.emb_mem_set (ix3 (0 : Fin 1) (⟨r.val % 256, by omega⟩ : Fin 256) e)
  rw [emb6] at hm
  have hi : (ix3 (⟨1 * ((16 * b.val + r.val / 256) / 16) + (0 : Fin 1).val, by simp; omega⟩ : Fin 4) (⟨256 * ((16 * b.val + r.val / 256) % 16) + r.val % 256, by omega⟩ : Fin 4096) (⟨e.val, he⟩ : Fin 4096) : S4x4096x4096.Idx)
      = ix3 b r e := by
    congr 1
    · exact Fin.ext (by simp; omega)
    · exact Fin.ext (by dsimp only; omega)
  exact ⟨⟨_, hN⟩, flush0_6 _, Eq.mp (congrArg (fun i => i ∈ ((cfg0.win 6).blk ⟨_, hN⟩).view.set) hi) hm⟩

/-- Every place of the array is in the block of some point. -/
theorem covered7 (j : S16384x4096.Idx) : ∃ t : Fin cfg0.N, (cfg0.win 7).flush t = true ∧ j ∈ ((cfg0.win 7).blk t).view.set := by
  obtain ⟨r, e, rfl⟩ := pair j
  have hr := r.isLt
  have he := e.isLt
  have hN : r.val / 256 < cfg0.N := by rw [show cfg0.N = _ from N_0]; omega
  have hm := ((cfg0.win 7).blk ⟨_, hN⟩).view.emb_mem_set (ix2 (⟨r.val % 256, by omega⟩ : Fin 256) (⟨e.val % 4096, by omega⟩ : Fin 4096))
  rw [emb7] at hm
  have e0 : (⟨256 * ((r.val / 256)) + r.val % 256, by omega⟩ : Fin 16384) = r := Fin.ext (by dsimp only; omega)
  have e1 : (⟨e.val % 4096, by omega⟩ : Fin 4096) = e := Fin.ext (by dsimp only; omega)
  have hi := congrArg₂ (fun a b => (ix2 a b : S16384x4096.Idx)) e0 e1
  exact ⟨⟨_, hN⟩, flush0_7 _, Eq.mp (congrArg (fun i => i ∈ ((cfg0.win 7).blk ⟨_, hN⟩).view.set) hi) hm⟩

/-- Every place of the array is in the block of some point. -/
theorem covered8 (j : S16384x128.Idx) : ∃ t : Fin cfg0.N, (cfg0.win 8).flush t = true ∧ j ∈ ((cfg0.win 8).blk t).view.set := by
  obtain ⟨r, e, rfl⟩ := pair j
  have hr := r.isLt
  have he := e.isLt
  have hN : r.val / 256 < cfg0.N := by rw [show cfg0.N = _ from N_0]; omega
  have hm := ((cfg0.win 8).blk ⟨_, hN⟩).view.emb_mem_set (ix2 (⟨r.val % 256, by omega⟩ : Fin 256) (⟨e.val % 128, by omega⟩ : Fin 128))
  rw [emb8] at hm
  have e0 : (⟨256 * ((r.val / 256)) + r.val % 256, by omega⟩ : Fin 16384) = r := Fin.ext (by dsimp only; omega)
  have e1 : (⟨e.val % 128, by omega⟩ : Fin 128) = e := Fin.ext (by dsimp only; omega)
  have hi := congrArg₂ (fun a b => (ix2 a b : S16384x128.Idx)) e0 e1
  exact ⟨⟨_, hN⟩, flush0_8 _, Eq.mp (congrArg (fun i => i ∈ ((cfg0.win 8).blk ⟨_, hN⟩).view.set) hi) hm⟩

theorem final6 (c : Dev nD) (g : FVec Ideal S4096 .f32) (eg : m ((c : Thread nD τ).loc main_arg1) = g) (hg : ∀ k, ∃ r : ℝ, g k = (r : EReal)) :
    (dats m 0 c).arrAt 6 cfg0.N = result (m ((c : Thread nD τ).loc main_arg0)) (m ((c : Thread nD τ).loc main_arg1)) (m ((c : Thread nD τ).loc main_arg2)) (m ((c : Thread nD τ).loc main_arg3)) := by
  subst eg
  exact (dats m 0 c).arrAt_eq_of_cover 6 _ (fun t _ => flushed6_eq m c t _ _ _ _ rfl rfl rfl rfl hg) covered6
theorem final7 (c : Dev nD) (g : FVec Ideal S4096 .f32) (eg : m ((c : Thread nD τ).loc main_arg1) = g) (hg : ∀ k, ∃ r : ℝ, g k = (r : EReal)) :
    (dats m 0 c).arrAt 7 cfg0.N = gainedRows (result (m ((c : Thread nD τ).loc main_arg0)) (m ((c : Thread nD τ).loc main_arg1)) (m ((c : Thread nD τ).loc main_arg2)) (m ((c : Thread nD τ).loc main_arg3))) (m ((c : Thread nD τ).loc main_arg4)) := by
  subst eg
  exact (dats m 0 c).arrAt_eq_of_cover 7 _ (fun t _ => flushed7_eq m c t _ _ _ _ _ rfl rfl rfl rfl rfl hg) covered7
theorem final8 (c : Dev nD) (g : FVec Ideal S4096 .f32) (eg : m ((c : Thread nD τ).loc main_arg1) = g) (hg : ∀ k, ∃ r : ℝ, g k = (r : EReal)) :
    (dats m 0 c).arrAt 8 cfg0.N = squareSums (result (m ((c : Thread nD τ).loc main_arg0)) (m ((c : Thread nD τ).loc main_arg1)) (m ((c : Thread nD τ).loc main_arg2)) (m ((c : Thread nD τ).loc main_arg3))) := by
  subst eg
  exact (dats m 0 c).arrAt_eq_of_cover 8 _ (fun t _ => flushed8_eq m c t _ _ _ _ rfl rfl rfl rfl hg) covered8

end Cert.PoolIdeal.Run

end
-- ==== Proof.PoolClaims.lean ====
/-
  The claims about the pooling mixer: the kernel and the reference end with the same results whenever the gain before it is finite.
-/
module

public import proofs.«01_k».proof.Defs
public import proofs.«01_k».proof.Proof.PoolRun
public import proofs.«01_k».proof.Proof.AttnClaims
public import proofs.«01_k».proof.Proof.Gen.Pool.Frame
public import Idealize.ShloMosaic.Lib.Quiescent

@[expose] public section

set_option maxRecDepth 16384

noncomputable section

namespace Cert.Pool.Claims

open Idealize.ShloMosaic Idealize.ShloMosaic.TcCoe Idealize.SL.Sem
open Cert.Rows

theorem facts : Cert.Pre_finite_gain.Facts := ⟨by decide⟩

/-- Where the precondition holds, every gain is a real number. -/
theorem gain_of_pre [Cert.Pre_finite_gain.Facts] {h : FVec Ideal Cert.PoolIdeal.S4x4096x4096 .f32} {g : FVec Ideal Cert.PoolIdeal.S4096 .f32} {w : FVec Ideal Cert.PoolIdeal.S2x4x1024x1024 .f32} {s q : FVec Ideal Cert.PoolIdeal.S4096 .f32}
    (hp : Cert.Pre_finite_gain.fn (F := Ideal) h g w s q = fun _ => 1#1) (k : Cert.PoolIdeal.S4096.Idx) : ∃ r : ℝ, g k = (r : EReal) := by
  have e := Cert.Attn.Claims.finite_of_lt (x := g k) (congrFun hp k)
  exact ⟨(g k).toReal, (EReal.coe_toReal e.1 e.2).symm⟩

theorem frame_kernel : Cert.quiescent_Pool := fun m ρ _ => Cert.Pool.Gen.frame m ρ
theorem frame_ideal : Cert.quiescent_PoolIdeal := fun m ρ _ => Cert.PoolIdeal.Gen.frame m ρ
theorem frame_ideal_gain [Cert.Pre_finite_gain.Facts] : Cert.quiescent_PoolIdeal_pre_finite_gain := fun m ρ _ => Cert.PoolIdeal.Gen.frame m ρ
theorem frame_reference : Cert.quiescent_PoolRefIdeal := fun m ρ _ =>
  (θ_run Cert.PoolRefIdeal.defs _ _).mono (fun r h => ⟨fun c => (h c).2.2.2, Idealize.ShloMosaic.sem_eq_zero_of_no_sems (by decide) r.2⟩)
    (Cert.PoolRefIdeal.Value.run (F := Ideal) m ρ)
theorem frame_reference_gain [Cert.Pre_finite_gain.Facts] : Cert.quiescent_PoolRefIdeal_pre_finite_gain := fun m ρ _ => frame_reference m ρ trivial

theorem preserves : Cert.preserves_Pool_PoolIdeal := trivial

/-- The kernel and the reference end with the same results. -/
theorem algebraic [Cert.Pre_finite_gain.Facts] : Cert.algebraic_PoolIdeal_PoolRefIdeal_pre_finite_gain := by
  intro m ρ m' ρ' hpre hagree
  refine ⟨fun c => Cert.PoolRefIdeal.Run.result (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)), fun c => Cert.PoolRefIdeal.Run.gainedRows (Cert.PoolRefIdeal.Run.result (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))) (m ((c.tc : Thread Cert.PoolIdeal.nD Cert.PoolIdeal.τ).loc Cert.PoolIdeal.main_arg4)), fun c => Cert.PoolRefIdeal.Run.squareSums (Cert.PoolRefIdeal.Run.result (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))),
    (θ_run Cert.PoolIdeal.defs _ _).mono (fun _ h c => ⟨(h c).1.trans (Cert.PoolIdeal.Run.final6 m c _ rfl (gain_of_pre (hpre c))), (h c).2.1.trans (Cert.PoolIdeal.Run.final7 m c _ rfl (gain_of_pre (hpre c))),
        (h c).2.2.1.trans (Cert.PoolIdeal.Run.final8 m c _ rfl (gain_of_pre (hpre c))), (h c).2.2.2⟩)
      (Cert.PoolIdeal.Value.run_blocks (F := Ideal) m ρ), ?_⟩
  refine (θ_run Cert.PoolRefIdeal.defs _ _).mono (fun _ h c => ⟨(h c).1.trans ?_, (h c).2.1.trans ?_, (h c).2.2.1.trans ?_, (h c).2.2.2⟩)
    (Cert.PoolRefIdeal.Value.run (F := Ideal) m' ρ')
  · show Cert.PoolRefIdeal.Run.result (m' ((c.tc : Thread Cert.PoolRefIdeal.nD Cert.PoolRefIdeal.τ).loc Cert.PoolRefIdeal.main_arg0)) (m' ((c.tc : Thread Cert.PoolRefIdeal.nD Cert.PoolRefIdeal.τ).loc Cert.PoolRefIdeal.main_arg1)) (m' ((c.tc : Thread Cert.PoolRefIdeal.nD Cert.PoolRefIdeal.τ).loc Cert.PoolRefIdeal.main_arg2)) (m' ((c.tc : Thread Cert.PoolRefIdeal.nD Cert.PoolRefIdeal.τ).loc Cert.PoolRefIdeal.main_arg3)) = _
    rw [(hagree c).1, (hagree c).2.1, (hagree c).2.2.1, (hagree c).2.2.2.1]
  · show Cert.PoolRefIdeal.Run.gainedRows (Cert.PoolRefIdeal.Run.result (m' ((c.tc : Thread Cert.PoolRefIdeal.nD Cert.PoolRefIdeal.τ).loc Cert.PoolRefIdeal.main_arg0)) (m' ((c.tc : Thread Cert.PoolRefIdeal.nD Cert.PoolRefIdeal.τ).loc Cert.PoolRefIdeal.main_arg1)) (m' ((c.tc : Thread Cert.PoolRefIdeal.nD Cert.PoolRefIdeal.τ).loc Cert.PoolRefIdeal.main_arg2)) (m' ((c.tc : Thread Cert.PoolRefIdeal.nD Cert.PoolRefIdeal.τ).loc Cert.PoolRefIdeal.main_arg3))) (m' ((c.tc : Thread Cert.PoolRefIdeal.nD Cert.PoolRefIdeal.τ).loc Cert.PoolRefIdeal.main_arg4)) = _
    rw [(hagree c).1, (hagree c).2.1, (hagree c).2.2.1, (hagree c).2.2.2.1, (hagree c).2.2.2.2]
  · show Cert.PoolRefIdeal.Run.squareSums (Cert.PoolRefIdeal.Run.result (m' ((c.tc : Thread Cert.PoolRefIdeal.nD Cert.PoolRefIdeal.τ).loc Cert.PoolRefIdeal.main_arg0)) (m' ((c.tc : Thread Cert.PoolRefIdeal.nD Cert.PoolRefIdeal.τ).loc Cert.PoolRefIdeal.main_arg1)) (m' ((c.tc : Thread Cert.PoolRefIdeal.nD Cert.PoolRefIdeal.τ).loc Cert.PoolRefIdeal.main_arg2)) (m' ((c.tc : Thread Cert.PoolRefIdeal.nD Cert.PoolRefIdeal.τ).loc Cert.PoolRefIdeal.main_arg3))) = _
    rw [(hagree c).1, (hagree c).2.1, (hagree c).2.2.1, (hagree c).2.2.2.1]

end Cert.Pool.Claims

end
-- ==== Proof.PlePay.lean ====
/-
  THE SUMS OF SQUARES OF THE EMBEDDING: the value the body stores, entry by entry.
-/
module

public import proofs.«01_k».proof.Proof.Gen.PleIdeal.Skeleton
public import proofs.«01_k».proof.Proof.Rows
public import Idealize.ShloMosaic.Lib.Pointwise

@[expose] public section

set_option maxRecDepth 16384

noncomputable section

namespace Cert.PleIdeal.Run

open Idealize.ShloMosaic Idealize.ShloMosaic.TcCoe Idealize.SL.Sem
open Cert.PleIdeal Cert.PleIdeal.Gen Cert.Rows

theorem sum32 (h : Fin 32 → EReal) : h 0 + h 1 + h 2 + h 3 + h 4 + h 5 + h 6 + h 7 + h 8 + h 9 + h 10 + h 11 + h 12 + h 13 + h 14 + h 15 + h 16 + h 17 + h 18 + h 19 + h 20 + h 21 + h 22 + h 23 + h 24 + h 25 + h 26 + h 27 + h 28 + h 29 + h 30 + h 31 = ∑ g, h g := by
  simp only [Fin.sum_univ_castSucc, Finset.univ_eq_empty, Finset.sum_empty, zero_add]
  rfl

/-- Thirty-two groups of 128 lanes added lane by lane, then along the lanes. -/
theorem lanes32 (f : Fin 4096 → EReal) :
    ∑ x : Fin 128, (f ⟨x.val, by omega⟩ + f ⟨128 + x.val, by omega⟩ + f ⟨256 + x.val, by omega⟩ + f ⟨384 + x.val, by omega⟩
      + f ⟨512 + x.val, by omega⟩ + f ⟨640 + x.val, by omega⟩ + f ⟨768 + x.val, by omega⟩ + f ⟨896 + x.val, by omega⟩
      + f ⟨1024 + x.val, by omega⟩ + f ⟨1152 + x.val, by omega⟩ + f ⟨1280 + x.val, by omega⟩ + f ⟨1408 + x.val, by omega⟩
      + f ⟨1536 + x.val, by omega⟩ + f ⟨1664 + x.val, by omega⟩ + f ⟨1792 + x.val, by omega⟩ + f ⟨1920 + x.val, by omega⟩
      + f ⟨2048 + x.val, by omega⟩ + f ⟨2176 + x.val, by omega⟩ + f ⟨2304 + x.val, by omega⟩ + f ⟨2432 + x.val, by omega⟩
      + f ⟨2560 + x.val, by omega⟩ + f ⟨2688 + x.val, by omega⟩ + f ⟨2816 + x.val, by omega⟩ + f ⟨2944 + x.val, by omega⟩
      + f ⟨3072 + x.val, by omega⟩ + f ⟨3200 + x.val, by omega⟩ + f ⟨3328 + x.val, by omega⟩ + f ⟨3456 + x.val, by omega⟩
      + f ⟨3584 + x.val, by omega⟩ + f ⟨3712 + x.val, by omega⟩ + f ⟨3840 + x.val, by omega⟩ + f ⟨3968 + x.val, by omega⟩) = ∑ k, f k := by
  rw [sum_blocks 32 128 4096 rfl f, Finset.sum_comm]
  refine Finset.sum_congr rfl fun x _ => ?_
  refine Eq.trans ?_ (sum32 _)
  iterate 31 refine congr (congrArg HAdd.hAdd ?_) rfl
  exact congrArg f (Fin.ext (by simp))

theorem pay2_apply (v0 : Vec Ideal S1x512x256 .f32) (v3 : Vec Ideal S1x256x4096 .bf16) (r : Fin 512) (c : Fin 4096) :
    k0_pay2 v0 v3 (ix2 r c) = (∑ k : Fin 256, v0 (ix3 0 r k) * v3 (ix3 0 k c)) * (∑ k : Fin 256, v0 (ix3 0 r k) * v3 (ix3 0 k c)) := by
  unfold k0_pay2
  pointwise

/-- What the body stores: the sum of the squares of the row. -/
theorem pay1_apply (v0 : Vec Ideal S1x512x256 .f32) (v3 : Vec Ideal S1x256x4096 .bf16) (r : Fin 512) (c : Fin 128) :
    k0_pay1 (k0_pay2 v0 v3) (k0_pay3 v0 v3) (ix2 r c) = ∑ c : Fin 4096, k0_pay2 v0 v3 (ix2 r c) := by
  unfold k0_pay1 k0_pay3
  generalize k0_pay2 v0 v3 = y
  pointwise
  exact lanes32 fun k => y (ix2 r k)

end Cert.PleIdeal.Run

end
-- ==== Proof.PleRef.lean ====
/-
  THE SUMS OF SQUARES OF THE EMBEDDING: the reference, entry by entry.
-/
module

public import proofs.«01_k».proof.Proof.Gen.PleRefIdeal.Run
public import proofs.«01_k».proof.Proof.Rows
public import Idealize.ShloMosaic.Lib.Pointwise

@[expose] public section

set_option maxRecDepth 16384

noncomputable section

namespace Cert.PleRefIdeal.Run

open Idealize.ShloMosaic Idealize.ShloMosaic.TcCoe Idealize.SL.Sem
open Cert.PleRefIdeal Cert.PleRefIdeal.Gen Cert.Rows

/-- The embedding's rows times its weights, of one layer. -/
def embedded (p : FVec Ideal S4x16384x256 .f32) (v : FVec Ideal S4x256x4096 .f32) : FVec Ideal S16384x4096 .f32 :=
  Host.dotGeneral (F := Ideal) dot_S16384x256_S256x4096_S16384x4096_1_0_0_1_n_n none
    (shapeCast S16384x256 (extractStridedSlice S1x16384x256 ![3, 0, 0] p slices_S4x16384x256_S1x16384x256_3_0_0) shapeCasts_S1x16384x256_S16384x256)
    (shapeCast S256x4096 (extractStridedSlice S1x256x4096 ![3, 0, 0] v slices_S4x256x4096_S1x256x4096_3_0_0) shapeCasts_S1x256x4096_S256x4096)

/-- The result: each row's sum of squares, on every lane. -/
def result (p : FVec Ideal S4x16384x256 .f32) (v : FVec Ideal S4x256x4096 .f32) : FVec Ideal S16384x128 .f32 :=
  broadcastInDim S16384x128 ![0, 1] bcast_S16384x1_S16384x128_0_1 (broadcastInDim S16384x1 ![0] bcast_S16384_S16384x1_0
    (Host.reduceAdd (mulf (embedded p v) (embedded p v)) (constant S_ .f32 0x00000000#32) reducesTo_S16384x4096_S16384_d1 h_S_))

theorem embedded_apply (p : FVec Ideal S4x16384x256 .f32) (v : FVec Ideal S4x256x4096 .f32) (r : Fin 16384) (c : Fin 4096) :
    embedded p v (ix2 r c) = ∑ k : Fin 256, p (ix3 3 r k) * v (ix3 3 k c) := by
  unfold embedded
  pointwise

theorem result_apply (p : FVec Ideal S4x16384x256 .f32) (v : FVec Ideal S4x256x4096 .f32) (r : Fin 16384) (l : Fin 128) :
    result p v (ix2 r l) = ∑ c : Fin 4096, embedded p v (ix2 r c) * embedded p v (ix2 r c) := by
  unfold result
  generalize embedded p v = y
  pointwise

end Cert.PleRefIdeal.Run

end
-- ==== Proof.PleRun.lean ====
/-
  THE SUMS OF SQUARES OF THE EMBEDDING: the run, block by block.
-/
module

public import proofs.«01_k».proof.Proof.PlePay
public import proofs.«01_k».proof.Proof.PleRef
public import proofs.«01_k».proof.Proof.Gen.PleIdeal.Value
public import Idealize.ShloMosaic.Lib.Claim

@[expose] public section

set_option maxRecDepth 16384

noncomputable section

namespace Cert.PleIdeal.Run

open Idealize.ShloMosaic Idealize.ShloMosaic.TcCoe Idealize.SL.Sem
open Cert.PleIdeal Cert.PleIdeal.Gen Cert.PleIdeal.Value Cert.Rows

/-- A rank-2 index is the pair of its coordinates. -/
theorem pair {a b : ℕ} (i : (Shape.mk 2 ![a, b]).Idx) : ∃ (r : Fin a) (c : Fin b), i = ix2 r c := ⟨i 0, i 1, (ix2_eta i).symm⟩

/-- The corner of a block. -/
theorem corner : (![0, 0] : Fin 2 → ℕ) = fun _ => 0 := by decide
theorem corner3 : (![0, 0, 0] : Fin 3 → ℕ) = fun _ => 0 := by decide

variable (m : (ℓ : Loc nD τ sig) → Buf (Elt Ideal) ℓ)

theorem V_v0 (c : Dev nD) (i : S4x256x4096.Idx) : V m c main_v0 i = m ((c : Thread nD τ).loc main_arg1) i := by
  have e : (V m c main_v0 : S4x256x4096.Idx → Elt Ideal .bf16) = truncf (F := Ideal) (s := S4x256x4096) (φ := .f32) .bf16 (m ((c : Thread nD τ).loc main_arg1)) bitsLt_bf16_f32 := by
    unfold_abbrev_sides
    after_results
  exact congrFun e i
theorem V_arg0 (c : Dev nD) : V m c main_arg0 = m ((c : Thread nD τ).loc main_arg0) := V_main_arg0 m c

/-! ## The windows -/

theorem points (t : Fin cfg0.N) : t.val < 32 := t.isLt.trans_eq N_0

theorem index0 : ∀ t : Fin cfg0.N, win0_0.index t (0 : Fin 3) = 3 ∧ win0_0.index t (1 : Fin 3) = t.val ∧ win0_0.index t (2 : Fin 3) = 0 :=
  (by decide +kernel : ∀ t : Fin grid0.N, _)

theorem block0 (c : Dev nD) (t : Fin cfg0.N) (r : Fin 1) (k : Fin 512) (l : Fin 256) : iblk m c 0 t (ix3 r k l)
    = V m c main_arg0 (ix3 ⟨1 * (3) + r.val, by have := points t; omega⟩ ⟨512 * (t.val) + k.val, by have := points t; omega⟩ ⟨l.val, by have := points t; omega⟩) := by
  obtain ⟨e0, e1, e2⟩ := index0 t
  show V m c main_arg0 (((cfg0.win 0).blk t).view.emb (ix3 r k l)) = _
  congr 1
  funext a; apply Fin.ext
  match a with
  | ⟨0, _⟩ => show win0_0.index t (0 : Fin 3) * 1 + 1 * r.val = 1 * (3) + r.val; omega
  | ⟨1, _⟩ => show win0_0.index t (1 : Fin 3) * 512 + 1 * k.val = 512 * (t.val) + k.val; omega
  | ⟨2, _⟩ => show win0_0.index t (2 : Fin 3) * 256 + 1 * l.val = l.val; omega

theorem index1 : ∀ t : Fin cfg0.N, win0_1.index t (0 : Fin 3) = 3 ∧ win0_1.index t (1 : Fin 3) = 0 ∧ win0_1.index t (2 : Fin 3) = 0 :=
  (by decide +kernel : ∀ t : Fin grid0.N, _)

theorem block1 (c : Dev nD) (t : Fin cfg0.N) (r : Fin 1) (k : Fin 256) (l : Fin 4096) : iblk m c 1 t (ix3 r k l)
    = V m c main_v0 (ix3 ⟨1 * (3) + r.val, by have := points t; omega⟩ ⟨k.val, by have := points t; omega⟩ ⟨l.val, by have := points t; omega⟩) := by
  obtain ⟨e0, e1, e2⟩ := index1 t
  show V m c main_v0 (((cfg0.win 1).blk t).view.emb (ix3 r k l)) = _
  congr 1
  funext a; apply Fin.ext
  match a with
  | ⟨0, _⟩ => show win0_1.index t (0 : Fin 3) * 1 + 1 * r.val = 1 * (3) + r.val; omega
  | ⟨1, _⟩ => show win0_1.index t (1 : Fin 3) * 256 + 1 * k.val = k.val; omega
  | ⟨2, _⟩ => show win0_1.index t (2 : Fin 3) * 4096 + 1 * l.val = l.val; omega

theorem index2 : ∀ t : Fin cfg0.N, win0_2.index t (0 : Fin 2) = t.val ∧ win0_2.index t (1 : Fin 2) = 0 :=
  (by decide +kernel : ∀ t : Fin grid0.N, _)

theorem emb2 (t : Fin cfg0.N) (r : Fin 512) (k : Fin 128) : ((cfg0.win 2).blk t).view.emb (ix2 r k)
    = ix2 ⟨512 * (t.val) + r.val, by have := points t; omega⟩ ⟨k.val, by have := points t; omega⟩ := by
  obtain ⟨e0, e1⟩ := index2 t
  funext a; apply Fin.ext
  match a with
  | ⟨0, _⟩ => show win0_2.index t (0 : Fin 2) * 512 + 1 * r.val = 512 * (t.val) + r.val; omega
  | ⟨1, _⟩ => show win0_2.index t (1 : Fin 2) * 128 + 1 * k.val = k.val; omega

variable (c : Dev nD) (t : Fin cfg0.N)

/-- What a point writes back is its block of the reference's result. -/
theorem flushed2_eq (p : FVec Ideal S4x16384x256 .f32) (v : FVec Ideal S4x256x4096 .f32)
    (ep : m ((c : Thread nD τ).loc main_arg0) = p) (ev : m ((c : Thread nD τ).loc main_arg1) = v) :
    (dats m 0 c).flushed 2 t = ((cfg0.win 2).blk t).view.read (Elt Ideal) (Cert.PleRefIdeal.Run.result p v) := by
  have ht := points t
  rw [flushed2]
  funext j
  obtain ⟨r, l, rfl⟩ : ∃ (r : Fin 512) (l : Fin 128), j = ix2 r l := pair j
  show out0_2 (iblk m c 0 t) (iblk m c 1 t) (ix2 r l)
    = Cert.PleRefIdeal.Run.result p v (((cfg0.win 2).blk t).view.emb (ix2 r l))
  unfold out0_2
  rw [View.canon_unit_zero corner, View.ld_unit_zero corner3, View.ld_unit_zero corner3, pay1_apply, emb2]
  refine Eq.trans ?_ (Cert.PleRefIdeal.Run.result_apply p v ⟨512 * t.val + r.val, by omega⟩ l).symm
  refine Finset.sum_congr rfl fun e _ => ?_
  have e0 : ∀ k : Fin 256, iblk m c 0 t (ix3 0 r k) = p (ix3 3 ⟨512 * t.val + r.val, by omega⟩ k) := fun k => by
    rw [block0, V_arg0, ep]; rfl
  have e1 : ∀ k : Fin 256, iblk m c 1 t (ix3 0 k e) = v (ix3 3 k e) := fun k => by
    rw [block1, V_v0, ev]; rfl
  rw [pay2_apply, Cert.PleRefIdeal.Run.embedded_apply]
  simp only [e0, e1]

/-- Every place of the array is in the block of some point. -/
theorem covered2 (j : S16384x128.Idx) : ∃ t : Fin cfg0.N, (cfg0.win 2).flush t = true ∧ j ∈ ((cfg0.win 2).blk t).view.set := by
  obtain ⟨r, e, rfl⟩ := pair j
  have hr := r.isLt
  have he := e.isLt
  have hN : r.val / 512 < cfg0.N := by rw [show cfg0.N = _ from N_0]; omega
  have hm := ((cfg0.win 2).blk ⟨_, hN⟩).view.emb_mem_set (ix2 (⟨r.val % 512, by omega⟩ : Fin 512) (⟨e.val % 128, by omega⟩ : Fin 128))
  rw [emb2] at hm
  have e0 : (⟨512 * ((r.val / 512)) + r.val % 512, by omega⟩ : Fin 16384) = r := Fin.ext (by dsimp only; omega)
  have e1 : (⟨e.val % 128, by omega⟩ : Fin 128) = e := Fin.ext (by dsimp only; omega)
  have hi := congrArg₂ (fun a b => (ix2 a b : S16384x128.Idx)) e0 e1
  exact ⟨⟨_, hN⟩, flush0_2 _, Eq.mp (congrArg (fun i => i ∈ ((cfg0.win 2).blk ⟨_, hN⟩).view.set) hi) hm⟩

theorem final2 : (dats m 0 c).arrAt 2 cfg0.N = Cert.PleRefIdeal.Run.result (m ((c : Thread nD τ).loc main_arg0)) (m ((c : Thread nD τ).loc main_arg1)) :=
  (dats m 0 c).arrAt_eq_of_cover 2 _ (fun t _ => flushed2_eq m c t _ _ rfl rfl) covered2

end Cert.PleIdeal.Run

end
-- ==== Proof.PleClaims.lean ====
/-
  The claims about the sums of squares of the embedding.
-/
module

public import proofs.«01_k».proof.Defs
public import proofs.«01_k».proof.Proof.PleRun
public import proofs.«01_k».proof.Proof.Gen.Ple.Frame
public import Idealize.ShloMosaic.Lib.Quiescent

@[expose] public section

set_option maxRecDepth 16384

noncomputable section

namespace Cert.Ple.Claims

open Idealize.ShloMosaic Idealize.ShloMosaic.TcCoe Idealize.SL.Sem
open Cert.Rows

theorem frame_kernel : Cert.quiescent_Ple := fun m ρ _ => Cert.Ple.Gen.frame m ρ
theorem frame_ideal : Cert.quiescent_PleIdeal := fun m ρ _ => Cert.PleIdeal.Gen.frame m ρ
theorem frame_reference : Cert.quiescent_PleRefIdeal := fun m ρ _ =>
  (θ_run Cert.PleRefIdeal.defs _ _).mono (fun r h => ⟨fun c => (h c).2, Idealize.ShloMosaic.sem_eq_zero_of_no_sems (by decide) r.2⟩)
    (Cert.PleRefIdeal.Value.run (F := Ideal) m ρ)

theorem preserves : Cert.preserves_Ple_PleIdeal := trivial

/-- The kernel and the reference end with the same results. -/
theorem algebraic : Cert.algebraic_PleIdeal_PleRefIdeal := by
  intro m ρ m' ρ' _ hagree
  refine ⟨fun c => Cert.PleRefIdeal.Run.result (m ((c.tc : Thread Cert.PleIdeal.nD Cert.PleIdeal.τ).loc Cert.PleIdeal.main_arg0)) (m ((c.tc : Thread Cert.PleIdeal.nD Cert.PleIdeal.τ).loc Cert.PleIdeal.main_arg1)),
    (θ_run Cert.PleIdeal.defs _ _).mono (fun _ h c => ⟨(h c).1.trans (Cert.PleIdeal.Run.final2 m c), (h c).2⟩)
      (Cert.PleIdeal.Value.run_blocks (F := Ideal) m ρ), ?_⟩
  refine (θ_run Cert.PleRefIdeal.defs _ _).mono (fun _ h c => ⟨(h c).1.trans ?_, (h c).2⟩)
    (Cert.PleRefIdeal.Value.run (F := Ideal) m' ρ')
  · show Cert.PleRefIdeal.Run.result (m' ((c.tc : Thread Cert.PleRefIdeal.nD Cert.PleRefIdeal.τ).loc Cert.PleRefIdeal.main_arg0)) (m' ((c.tc : Thread Cert.PleRefIdeal.nD Cert.PleRefIdeal.τ).loc Cert.PleRefIdeal.main_arg1)) = _
    rw [(hagree c).1, (hagree c).2]

end Cert.Ple.Claims

end
-- ==== Proof.lean ====
/- The proof of the certificate's claims. The attention: Proof/Stick.lean (the mathematics of stick breaking),
   Proof/RefAttn.lean (what the reference computes), Proof/AttnRun.lean (what the kernel leaves) and
   Proof/AttnClaims.lean (the claims). Each call around it: what the body stores (…Pay, …Body), what the reference
   computes (…Ref), what the run leaves (…Run) and the claims (…Claims); what they share is in Proof/Rows.lean. The
   pooling mixer also: the sums over a window (PoolSum), the scratch's loads (PoolTerms), the level sums (PoolBody), a
   grid point (PoolPoint). -/
module

public import proofs.«01_k».proof.Defs
public import proofs.«01_k».proof.Proof.AttnClaims
public import proofs.«01_k».proof.Proof.UpClaims
public import proofs.«01_k».proof.Proof.DownClaims
public import proofs.«01_k».proof.Proof.QkvClaims
public import proofs.«01_k».proof.Proof.GateClaims
public import proofs.«01_k».proof.Proof.OutClaims
public import proofs.«01_k».proof.Proof.NormClaims
public import proofs.«01_k».proof.Proof.PoolClaims
public import proofs.«01_k».proof.Proof.PleClaims
public import Idealize.ShloMosaic.Adequacy
public import Idealize.ShloMosaic.Init

@[expose] public section

noncomputable section

namespace Cert.Proof

open Idealize.ShloMosaic Idealize.SL.Sem Cert.Attn.Claims

theorem claim : Cert.Claim :=
  ⟨Cert.Kernel.Gen.facts, Cert.KernelIdeal.Gen.facts, Cert.ReferenceIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.Qkv.Gen.facts, Cert.QkvIdeal.Gen.facts, Cert.QkvRefIdeal.Gen.facts,
    Cert.Gate.Gen.facts, Cert.GateIdeal.Gen.facts, Cert.GateRefIdeal.Gen.facts,
    Cert.Out.Gen.facts, Cert.OutIdeal.Gen.facts, Cert.OutRefIdeal.Gen.facts,
    Cert.Norm.Gen.facts, Cert.NormIdeal.Gen.facts, Cert.NormRefIdeal.Gen.facts,
    Cert.Pool.Gen.facts, Cert.PoolIdeal.Gen.facts, Cert.PoolRefIdeal.Gen.facts,
    Cert.Ple.Gen.facts, Cert.PleIdeal.Gen.facts, Cert.PleRefIdeal.Gen.facts, facts, Cert.Pool.Claims.facts,
    frame_kernel, frame_ideal, @frame_ideal_finite facts, frame_reference, @frame_reference_finite facts,
    Cert.Up.Claims.frame_kernel, Cert.Up.Claims.frame_ideal, Cert.Up.Claims.frame_reference,
    Cert.Down.Claims.frame_kernel, Cert.Down.Claims.frame_ideal, Cert.Down.Claims.frame_reference,
    Cert.Qkv.Claims.frame_kernel, Cert.Qkv.Claims.frame_ideal, Cert.Qkv.Claims.frame_reference,
    Cert.Gate.Claims.frame_kernel, Cert.Gate.Claims.frame_ideal, Cert.Gate.Claims.frame_reference,
    Cert.Out.Claims.frame_kernel, Cert.Out.Claims.frame_ideal, Cert.Out.Claims.frame_reference,
    Cert.Norm.Claims.frame_kernel, Cert.Norm.Claims.frame_ideal, Cert.Norm.Claims.frame_reference,
    Cert.Pool.Claims.frame_kernel, Cert.Pool.Claims.frame_ideal, @Cert.Pool.Claims.frame_ideal_gain Cert.Pool.Claims.facts,
    Cert.Pool.Claims.frame_reference, @Cert.Pool.Claims.frame_reference_gain Cert.Pool.Claims.facts,
    Cert.Ple.Claims.frame_kernel, Cert.Ple.Claims.frame_ideal, Cert.Ple.Claims.frame_reference,
    preserves, @algebraic facts,
    Cert.Up.Claims.preserves, Cert.Up.Claims.algebraic,
    Cert.Down.Claims.preserves, Cert.Down.Claims.algebraic,
    Cert.Qkv.Claims.preserves, Cert.Qkv.Claims.algebraic,
    Cert.Gate.Claims.preserves, Cert.Gate.Claims.algebraic,
    Cert.Out.Claims.preserves, Cert.Out.Claims.algebraic,
    Cert.Norm.Claims.preserves, Cert.Norm.Claims.algebraic,
    Cert.Pool.Claims.preserves, @Cert.Pool.Claims.algebraic Cert.Pool.Claims.facts,
    Cert.Ple.Claims.preserves, Cert.Ple.Claims.algebraic⟩

end Cert.Proof

end
